-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelDh2 (m : (ℓ : Loc Cert.KernelDh2.nD Cert.KernelDh2.τ Cert.KernelDh2.sig) → Buf (Elt Bits) ℓ) : Prop :=
  True

def Pre_KernelDh2Ideal (m : (ℓ : Loc Cert.KernelDh2Ideal.nD Cert.KernelDh2Ideal.τ Cert.KernelDh2Ideal.sig) → Buf (Elt Ideal) ℓ) : Prop :=
  True

def Pre_ReferenceDh2Ideal (m : (ℓ : Loc Cert.ReferenceDh2Ideal.nD Cert.ReferenceDh2Ideal.τ Cert.ReferenceDh2Ideal.sig) → Buf (Elt Ideal) ℓ) : Prop :=
  True

def Pre_KernelDwup (m : (ℓ : Loc Cert.KernelDwup.nD Cert.KernelDwup.τ Cert.KernelDwup.sig) → Buf (Elt Bits) ℓ) : Prop :=
  True

def Pre_KernelDwupIdeal (m : (ℓ : Loc Cert.KernelDwupIdeal.nD Cert.KernelDwupIdeal.τ Cert.KernelDwupIdeal.sig) → Buf (Elt Ideal) ℓ) : Prop :=
  True

def Pre_ReferenceDwupIdeal (m : (ℓ : Loc Cert.ReferenceDwupIdeal.nD Cert.ReferenceDwupIdeal.τ Cert.ReferenceDwupIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDact (m : (ℓ : Loc Cert.KernelDact.nD Cert.KernelDact.τ Cert.KernelDact.sig) → Buf (Elt Bits) ℓ) : Prop :=
  True

def Pre_KernelDactIdeal (m : (ℓ : Loc Cert.KernelDactIdeal.nD Cert.KernelDactIdeal.τ Cert.KernelDactIdeal.sig) → Buf (Elt Ideal) ℓ) : Prop :=
  True

def Pre_ReferenceDactIdeal (m : (ℓ : Loc Cert.ReferenceDactIdeal.nD Cert.ReferenceDactIdeal.τ Cert.ReferenceDactIdeal.sig) → Buf (Elt Ideal) ℓ) : Prop :=
  True

def Pre_KernelDwdown (m : (ℓ : Loc Cert.KernelDwdown.nD Cert.KernelDwdown.τ Cert.KernelDwdown.sig) → Buf (Elt Bits) ℓ) : Prop :=
  True

def Pre_KernelDwdownIdeal (m : (ℓ : Loc Cert.KernelDwdownIdeal.nD Cert.KernelDwdownIdeal.τ Cert.KernelDwdownIdeal.sig) → Buf (Elt Ideal) ℓ) : Prop :=
  True

def Pre_ReferenceDwdownIdeal (m : (ℓ : Loc Cert.ReferenceDwdownIdeal.nD Cert.ReferenceDwdownIdeal.τ Cert.ReferenceDwdownIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDwin (m : (ℓ : Loc Cert.KernelDwin.nD Cert.KernelDwin.τ Cert.KernelDwin.sig) → Buf (Elt Bits) ℓ) : Prop :=
  True

def Pre_KernelDwinIdeal (m : (ℓ : Loc Cert.KernelDwinIdeal.nD Cert.KernelDwinIdeal.τ Cert.KernelDwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDy (m : (ℓ : Loc Cert.KernelDy.nD Cert.KernelDy.τ Cert.KernelDy.sig) → Buf (Elt Bits) ℓ) : Prop :=
  True

def Pre_KernelDyIdeal (m : (ℓ : Loc Cert.KernelDyIdeal.nD Cert.KernelDyIdeal.τ Cert.KernelDyIdeal.sig) → Buf (Elt Ideal) ℓ) : Prop :=
  True

def Pre_ReferenceDyIdeal (m : (ℓ : Loc Cert.ReferenceDyIdeal.nD Cert.ReferenceDyIdeal.τ Cert.ReferenceDyIdeal.sig) → Buf (Elt Ideal) ℓ) : Prop :=
  True

def Pre_KernelDwout (m : (ℓ : Loc Cert.KernelDwout.nD Cert.KernelDwout.τ Cert.KernelDwout.sig) → Buf (Elt Bits) ℓ) : Prop :=
  True

def Pre_KernelDwoutIdeal (m : (ℓ : Loc Cert.KernelDwoutIdeal.nD Cert.KernelDwoutIdeal.τ Cert.KernelDwoutIdeal.sig) → Buf (Elt Ideal) ℓ) : Prop :=
  True

def Pre_ReferenceDwoutIdeal (m : (ℓ : Loc Cert.ReferenceDwoutIdeal.nD Cert.ReferenceDwoutIdeal.τ Cert.ReferenceDwoutIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelSum (m : (ℓ : Loc Cert.KernelSum.nD Cert.KernelSum.τ Cert.KernelSum.sig) → Buf (Elt Bits) ℓ) : Prop :=
  True

def Pre_KernelSumIdeal (m : (ℓ : Loc Cert.KernelSumIdeal.nD Cert.KernelSumIdeal.τ Cert.KernelSumIdeal.sig) → Buf (Elt Ideal) ℓ) : Prop :=
  True

def Pre_ReferenceSumIdeal (m : (ℓ : Loc Cert.ReferenceSumIdeal.nD Cert.ReferenceSumIdeal.τ Cert.ReferenceSumIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDh2 [hKernelDh2 : Cert.KernelDh2.Facts] : Prop :=
  ∀ (m : (ℓ : Loc Cert.KernelDh2.nD Cert.KernelDh2.τ Cert.KernelDh2.sig) → Buf (Elt Bits) ℓ) (g : Dev Cert.KernelDh2.nD → PrngReg), Pre_KernelDh2 m →
    θ_run (Cert.KernelDh2.defs (F := Bits)) (onTc (τ := Cert.KernelDh2.τ) (Cert.KernelDh2.main (F := Bits))) ⟨m, fun _ => 0, g⟩ (fun r => (∀ c : Dev Cert.KernelDh2.nD,
      r.2.mem ((c.tc : Thread Cert.KernelDh2.nD Cert.KernelDh2.τ).loc Cert.KernelDh2.main_arg0) = m ((c.tc : Thread Cert.KernelDh2.nD Cert.KernelDh2.τ).loc Cert.KernelDh2.main_arg0)
      ∧ r.2.mem ((c.tc : Thread Cert.KernelDh2.nD Cert.KernelDh2.τ).loc Cert.KernelDh2.main_arg1) = m ((c.tc : Thread Cert.KernelDh2.nD Cert.KernelDh2.τ).loc Cert.KernelDh2.main_arg1)
      ∧ r.2.mem ((c.tc : Thread Cert.KernelDh2.nD Cert.KernelDh2.τ).loc Cert.KernelDh2.main_arg2) = m ((c.tc : Thread Cert.KernelDh2.nD Cert.KernelDh2.τ).loc Cert.KernelDh2.main_arg2)
      ∧ r.2.mem ((c.tc : Thread Cert.KernelDh2.nD Cert.KernelDh2.τ).loc Cert.KernelDh2.main_arg3) = m ((c.tc : Thread Cert.KernelDh2.nD Cert.KernelDh2.τ).loc Cert.KernelDh2.main_arg3)
      ∧ r.2.mem ((c.tc : Thread Cert.KernelDh2.nD Cert.KernelDh2.τ).loc Cert.KernelDh2.main_arg4) = m ((c.tc : Thread Cert.KernelDh2.nD Cert.KernelDh2.τ).loc Cert.KernelDh2.main_arg4)
      ∧ r.2.mem ((c.tc : Thread Cert.KernelDh2.nD Cert.KernelDh2.τ).loc Cert.KernelDh2.main_arg5) = m ((c.tc : Thread Cert.KernelDh2.nD Cert.KernelDh2.τ).loc Cert.KernelDh2.main_arg5)
      ∧ r.2.mem ((c.tc : Thread Cert.KernelDh2.nD Cert.KernelDh2.τ).loc Cert.KernelDh2.main_arg6) = m ((c.tc : Thread Cert.KernelDh2.nD Cert.KernelDh2.τ).loc Cert.KernelDh2.main_arg6))
      ∧ r.2.sem = fun _ => 0)

def quiescent_KernelDh2Ideal [hKernelDh2Ideal : Cert.KernelDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg), Pre_KernelDh2Ideal m →
    θ_run (Cert.KernelDh2Ideal.defs (F := Ideal)) (onTc (τ := Cert.KernelDh2Ideal.τ) (Cert.KernelDh2Ideal.main (F := Ideal))) ⟨m, fun _ => 0, g⟩ (fun r => (∀ c : Dev Cert.KernelDh2Ideal.nD,
      r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
      ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
      ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2)
      ∧ r.2.mem ((c.tc : Thread Cert.KernelDh2Ideal.nD Cert.KernelDh2Ideal.τ).loc Cert.KernelDh2Ideal.main_arg3) = m ((c.tc : Thread Cert.KernelDh2Ideal.nD Cert.KernelDh2Ideal.τ).loc Cert.KernelDh2Ideal.main_arg3)
      ∧ r.2.mem ((c.tc : Thread Cert.KernelDh2Ideal.nD Cert.KernelDh2Ideal.τ).loc Cert.KernelDh2Ideal.main_arg4) = m ((c.tc : Thread Cert.KernelDh2Ideal.nD Cert.KernelDh2Ideal.τ).loc Cert.KernelDh2Ideal.main_arg4)
      ∧ r.2.mem ((c.tc : Thread Cert.KernelDh2Ideal.nD Cert.KernelDh2Ideal.τ).loc Cert.KernelDh2Ideal.main_arg5) = m ((c.tc : Thread Cert.KernelDh2Ideal.nD Cert.KernelDh2Ideal.τ).loc Cert.KernelDh2Ideal.main_arg5)
      ∧ r.2.mem ((c.tc : Thread Cert.KernelDh2Ideal.nD Cert.KernelDh2Ideal.τ).loc Cert.KernelDh2Ideal.main_arg6) = m ((c.tc : Thread Cert.KernelDh2Ideal.nD Cert.KernelDh2Ideal.τ).loc Cert.KernelDh2Ideal.main_arg6))
      ∧ r.2.sem = fun _ => 0)

def quiescent_ReferenceDh2Ideal [hReferenceDh2Ideal : Cert.ReferenceDh2Ideal.Facts] : Prop :=
  ∀ (m : (ℓ : Loc Cert.ReferenceDh2Ideal.nD Cert.ReferenceDh2Ideal.τ Cert.ReferenceDh2Ideal.sig) → Buf (Elt Ideal) ℓ) (g : Dev Cert.ReferenceDh2Ideal.nD → PrngReg), Pre_ReferenceDh2Ideal m →
    θ_run (Cert.ReferenceDh2Ideal.defs (F := Ideal)) (onTc (τ := Cert.ReferenceDh2Ideal.τ) (Cert.ReferenceDh2Ideal.main (F := Ideal))) ⟨m, fun _ => 0, g⟩ (fun r => (∀ c : Dev Cert.ReferenceDh2Ideal.nD,
      r.2.mem ((c.tc : Thread Cert.ReferenceDh2Ideal.nD Cert.ReferenceDh2Ideal.τ).loc Cert.ReferenceDh2Ideal.main_arg0) = m ((c.tc : Thread Cert.ReferenceDh2Ideal.nD Cert.ReferenceDh2Ideal.τ).loc Cert.ReferenceDh2Ideal.main_arg0)
      ∧ r.2.mem ((c.tc : Thread Cert.ReferenceDh2Ideal.nD Cert.ReferenceDh2Ideal.τ).loc Cert.ReferenceDh2Ideal.main_arg1) = m ((c.tc : Thread Cert.ReferenceDh2Ideal.nD Cert.ReferenceDh2Ideal.τ).loc Cert.ReferenceDh2Ideal.main_arg1)
      ∧ r.2.mem ((c.tc : Thread Cert.ReferenceDh2Ideal.nD Cert.ReferenceDh2Ideal.τ).loc Cert.ReferenceDh2Ideal.main_arg2) = m ((c.tc : Thread Cert.ReferenceDh2Ideal.nD Cert.ReferenceDh2Ideal.τ).loc Cert.ReferenceDh2Ideal.main_arg2)
      ∧ r.2.mem ((c.tc : Thread Cert.ReferenceDh2Ideal.nD Cert.ReferenceDh2Ideal.τ).loc Cert.ReferenceDh2Ideal.main_arg3) = m ((c.tc : Thread Cert.ReferenceDh2Ideal.nD Cert.ReferenceDh2Ideal.τ).loc Cert.ReferenceDh2Ideal.main_arg3)
      ∧ r.2.mem ((c.tc : Thread Cert.ReferenceDh2Ideal.nD Cert.ReferenceDh2Ideal.τ).loc Cert.ReferenceDh2Ideal.main_arg4) = m ((c.tc : Thread Cert.ReferenceDh2Ideal.nD Cert.ReferenceDh2Ideal.τ).loc Cert.ReferenceDh2Ideal.main_arg4)
      ∧ r.2.mem ((c.tc : Thread Cert.ReferenceDh2Ideal.nD Cert.ReferenceDh2Ideal.τ).loc Cert.ReferenceDh2Ideal.main_arg5) = m ((c.tc : Thread Cert.ReferenceDh2Ideal.nD Cert.ReferenceDh2Ideal.τ).loc Cert.ReferenceDh2Ideal.main_arg5)
      ∧ r.2.mem ((c.tc : Thread Cert.ReferenceDh2Ideal.nD Cert.ReferenceDh2Ideal.τ).loc Cert.ReferenceDh2Ideal.main_arg6) = m ((c.tc : Thread Cert.ReferenceDh2Ideal.nD Cert.ReferenceDh2Ideal.τ).loc Cert.ReferenceDh2Ideal.main_arg6))
      ∧ r.2.sem = fun _ => 0)

def quiescent_KernelDwup [hKernelDwup : Cert.KernelDwup.Facts] : Prop :=
  ∀ (m : (ℓ : Loc Cert.KernelDwup.nD Cert.KernelDwup.τ Cert.KernelDwup.sig) → Buf (Elt Bits) ℓ) (g : Dev Cert.KernelDwup.nD → PrngReg), Pre_KernelDwup m →
    θ_run (Cert.KernelDwup.defs (F := Bits)) (onTc (τ := Cert.KernelDwup.τ) (Cert.KernelDwup.main (F := Bits))) ⟨m, fun _ => 0, g⟩ (fun r => (∀ c : Dev Cert.KernelDwup.nD,
      r.2.mem ((c.tc : Thread Cert.KernelDwup.nD Cert.KernelDwup.τ).loc Cert.KernelDwup.main_arg0) = m ((c.tc : Thread Cert.KernelDwup.nD Cert.KernelDwup.τ).loc Cert.KernelDwup.main_arg0)
      ∧ r.2.mem ((c.tc : Thread Cert.KernelDwup.nD Cert.KernelDwup.τ).loc Cert.KernelDwup.main_arg1) = m ((c.tc : Thread Cert.KernelDwup.nD Cert.KernelDwup.τ).loc Cert.KernelDwup.main_arg1)
      ∧ r.2.mem ((c.tc : Thread Cert.KernelDwup.nD Cert.KernelDwup.τ).loc Cert.KernelDwup.main_arg2) = m ((c.tc : Thread Cert.KernelDwup.nD Cert.KernelDwup.τ).loc Cert.KernelDwup.main_arg2)
      ∧ r.2.mem ((c.tc : Thread Cert.KernelDwup.nD Cert.KernelDwup.τ).loc Cert.KernelDwup.main_arg3) = m ((c.tc : Thread Cert.KernelDwup.nD Cert.KernelDwup.τ).loc Cert.KernelDwup.main_arg3))
      ∧ r.2.sem = fun _ => 0)

def quiescent_KernelDwupIdeal [hKernelDwupIdeal : Cert.KernelDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg), Pre_KernelDwupIdeal m →
    θ_run (Cert.KernelDwupIdeal.defs (F := Ideal)) (onTc (τ := Cert.KernelDwupIdeal.τ) (Cert.KernelDwupIdeal.main (F := Ideal))) ⟨m, fun _ => 0, g⟩ (fun r => (∀ c : Dev Cert.KernelDwupIdeal.nD,
      r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
      ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1)
      ∧ r.2.mem ((c.tc : Thread Cert.KernelDwupIdeal.nD Cert.KernelDwupIdeal.τ).loc Cert.KernelDwupIdeal.main_arg2) = m ((c.tc : Thread Cert.KernelDwupIdeal.nD Cert.KernelDwupIdeal.τ).loc Cert.KernelDwupIdeal.main_arg2)
      ∧ r.2.mem ((c.tc : Thread Cert.KernelDwupIdeal.nD Cert.KernelDwupIdeal.τ).loc Cert.KernelDwupIdeal.main_arg3) = m ((c.tc : Thread Cert.KernelDwupIdeal.nD Cert.KernelDwupIdeal.τ).loc Cert.KernelDwupIdeal.main_arg3))
      ∧ r.2.sem = fun _ => 0)

def quiescent_ReferenceDwupIdeal [hReferenceDwupIdeal : Cert.ReferenceDwupIdeal.Facts] : Prop :=
  ∀ (m : (ℓ : Loc Cert.ReferenceDwupIdeal.nD Cert.ReferenceDwupIdeal.τ Cert.ReferenceDwupIdeal.sig) → Buf (Elt Ideal) ℓ) (g : Dev Cert.ReferenceDwupIdeal.nD → PrngReg), Pre_ReferenceDwupIdeal m →
    θ_run (Cert.ReferenceDwupIdeal.defs (F := Ideal)) (onTc (τ := Cert.ReferenceDwupIdeal.τ) (Cert.ReferenceDwupIdeal.main (F := Ideal))) ⟨m, fun _ => 0, g⟩ (fun r => (∀ c : Dev Cert.ReferenceDwupIdeal.nD,
      r.2.mem ((c.tc : Thread Cert.ReferenceDwupIdeal.nD Cert.ReferenceDwupIdeal.τ).loc Cert.ReferenceDwupIdeal.main_arg0) = m ((c.tc : Thread Cert.ReferenceDwupIdeal.nD Cert.ReferenceDwupIdeal.τ).loc Cert.ReferenceDwupIdeal.main_arg0)
      ∧ r.2.mem ((c.tc : Thread Cert.ReferenceDwupIdeal.nD Cert.ReferenceDwupIdeal.τ).loc Cert.ReferenceDwupIdeal.main_arg1) = m ((c.tc : Thread Cert.ReferenceDwupIdeal.nD Cert.ReferenceDwupIdeal.τ).loc Cert.ReferenceDwupIdeal.main_arg1)
      ∧ r.2.mem ((c.tc : Thread Cert.ReferenceDwupIdeal.nD Cert.ReferenceDwupIdeal.τ).loc Cert.ReferenceDwupIdeal.main_arg2) = m ((c.tc : Thread Cert.ReferenceDwupIdeal.nD Cert.ReferenceDwupIdeal.τ).loc Cert.ReferenceDwupIdeal.main_arg2)
      ∧ r.2.mem ((c.tc : Thread Cert.ReferenceDwupIdeal.nD Cert.ReferenceDwupIdeal.τ).loc Cert.ReferenceDwupIdeal.main_arg3) = m ((c.tc : Thread Cert.ReferenceDwupIdeal.nD Cert.ReferenceDwupIdeal.τ).loc Cert.ReferenceDwupIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDact [hKernelDact : Cert.KernelDact.Facts] : Prop :=
  ∀ (m : (ℓ : Loc Cert.KernelDact.nD Cert.KernelDact.τ Cert.KernelDact.sig) → Buf (Elt Bits) ℓ) (g : Dev Cert.KernelDact.nD → PrngReg), Pre_KernelDact m →
    θ_run (Cert.KernelDact.defs (F := Bits)) (onTc (τ := Cert.KernelDact.τ) (Cert.KernelDact.main (F := Bits))) ⟨m, fun _ => 0, g⟩ (fun r => (∀ c : Dev Cert.KernelDact.nD,
      r.2.mem ((c.tc : Thread Cert.KernelDact.nD Cert.KernelDact.τ).loc Cert.KernelDact.main_arg0) = m ((c.tc : Thread Cert.KernelDact.nD Cert.KernelDact.τ).loc Cert.KernelDact.main_arg0)
      ∧ r.2.mem ((c.tc : Thread Cert.KernelDact.nD Cert.KernelDact.τ).loc Cert.KernelDact.main_arg1) = m ((c.tc : Thread Cert.KernelDact.nD Cert.KernelDact.τ).loc Cert.KernelDact.main_arg1))
      ∧ r.2.sem = fun _ => 0)

def quiescent_KernelDactIdeal [hKernelDactIdeal : Cert.KernelDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg), Pre_KernelDactIdeal m →
    θ_run (Cert.KernelDactIdeal.defs (F := Ideal)) (onTc (τ := Cert.KernelDactIdeal.τ) (Cert.KernelDactIdeal.main (F := Ideal))) ⟨m, fun _ => 0, g⟩ (fun r => (∀ c : Dev Cert.KernelDactIdeal.nD,
      r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
      ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1))
      ∧ r.2.sem = fun _ => 0)

def quiescent_KernelDwdown [hKernelDwdown : Cert.KernelDwdown.Facts] : Prop :=
  ∀ (m : (ℓ : Loc Cert.KernelDwdown.nD Cert.KernelDwdown.τ Cert.KernelDwdown.sig) → Buf (Elt Bits) ℓ) (g : Dev Cert.KernelDwdown.nD → PrngReg), Pre_KernelDwdown m →
    θ_run (Cert.KernelDwdown.defs (F := Bits)) (onTc (τ := Cert.KernelDwdown.τ) (Cert.KernelDwdown.main (F := Bits))) ⟨m, fun _ => 0, g⟩ (fun r => (∀ c : Dev Cert.KernelDwdown.nD,
      r.2.mem ((c.tc : Thread Cert.KernelDwdown.nD Cert.KernelDwdown.τ).loc Cert.KernelDwdown.main_arg0) = m ((c.tc : Thread Cert.KernelDwdown.nD Cert.KernelDwdown.τ).loc Cert.KernelDwdown.main_arg0)
      ∧ r.2.mem ((c.tc : Thread Cert.KernelDwdown.nD Cert.KernelDwdown.τ).loc Cert.KernelDwdown.main_arg1) = m ((c.tc : Thread Cert.KernelDwdown.nD Cert.KernelDwdown.τ).loc Cert.KernelDwdown.main_arg1))
      ∧ r.2.sem = fun _ => 0)

def quiescent_KernelDwdownIdeal [hKernelDwdownIdeal : Cert.KernelDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg), Pre_KernelDwdownIdeal m →
    θ_run (Cert.KernelDwdownIdeal.defs (F := Ideal)) (onTc (τ := Cert.KernelDwdownIdeal.τ) (Cert.KernelDwdownIdeal.main (F := Ideal))) ⟨m, fun _ => 0, g⟩ (fun r => (∀ c : Dev Cert.KernelDwdownIdeal.nD,
      r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
      ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1))
      ∧ r.2.sem = fun _ => 0)

def quiescent_ReferenceDwdownIdeal [hReferenceDwdownIdeal : Cert.ReferenceDwdownIdeal.Facts] : Prop :=
  ∀ (m : (ℓ : Loc Cert.ReferenceDwdownIdeal.nD Cert.ReferenceDwdownIdeal.τ Cert.ReferenceDwdownIdeal.sig) → Buf (Elt Ideal) ℓ) (g : Dev Cert.ReferenceDwdownIdeal.nD → PrngReg), Pre_ReferenceDwdownIdeal m →
    θ_run (Cert.ReferenceDwdownIdeal.defs (F := Ideal)) (onTc (τ := Cert.ReferenceDwdownIdeal.τ) (Cert.ReferenceDwdownIdeal.main (F := Ideal))) ⟨m, fun _ => 0, g⟩ (fun r => (∀ c : Dev Cert.ReferenceDwdownIdeal.nD,
      r.2.mem ((c.tc : Thread Cert.ReferenceDwdownIdeal.nD Cert.ReferenceDwdownIdeal.τ).loc Cert.ReferenceDwdownIdeal.main_arg0) = m ((c.tc : Thread Cert.ReferenceDwdownIdeal.nD Cert.ReferenceDwdownIdeal.τ).loc Cert.ReferenceDwdownIdeal.main_arg0)
      ∧ r.2.mem ((c.tc : Thread Cert.ReferenceDwdownIdeal.nD Cert.ReferenceDwdownIdeal.τ).loc Cert.ReferenceDwdownIdeal.main_arg1) = m ((c.tc : Thread Cert.ReferenceDwdownIdeal.nD Cert.ReferenceDwdownIdeal.τ).loc Cert.ReferenceDwdownIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4)
      ∧ r.2.mem ((c.tc : Thread Cert.KernelDh.nD Cert.KernelDh.τ).loc Cert.KernelDh.main_arg5) = m ((c.tc : Thread Cert.KernelDh.nD Cert.KernelDh.τ).loc Cert.KernelDh.main_arg5))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
      ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4)
      ∧ r.2.mem ((c.tc : Thread Cert.ReferenceDhIdeal.nD Cert.ReferenceDhIdeal.τ).loc Cert.ReferenceDhIdeal.main_arg5) = m ((c.tc : Thread Cert.ReferenceDhIdeal.nD Cert.ReferenceDhIdeal.τ).loc Cert.ReferenceDhIdeal.main_arg5))
      ∧ r.2.sem = fun _ => 0)

def quiescent_KernelDwin [hKernelDwin : Cert.KernelDwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1)
      ∧ r.2.mem ((c.tc : Thread Cert.KernelDwin.nD Cert.KernelDwin.τ).loc Cert.KernelDwin.main_arg2) = m ((c.tc : Thread Cert.KernelDwin.nD Cert.KernelDwin.τ).loc Cert.KernelDwin.main_arg2))
      ∧ r.2.sem = fun _ => 0)

def quiescent_KernelDwinIdeal [hKernelDwinIdeal : Cert.KernelDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1)
      ∧ r.2.mem ((c.tc : Thread Cert.KernelDwinIdeal.nD Cert.KernelDwinIdeal.τ).loc Cert.KernelDwinIdeal.main_arg2) = m ((c.tc : Thread Cert.KernelDwinIdeal.nD Cert.KernelDwinIdeal.τ).loc Cert.KernelDwinIdeal.main_arg2))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1)
      ∧ r.2.mem ((c.tc : Thread Cert.ReferenceDwinIdeal.nD Cert.ReferenceDwinIdeal.τ).loc Cert.ReferenceDwinIdeal.main_arg2) = m ((c.tc : Thread Cert.ReferenceDwinIdeal.nD Cert.ReferenceDwinIdeal.τ).loc Cert.ReferenceDwinIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelDy [hKernelDy : Cert.KernelDy.Facts] : Prop :=
  ∀ (m : (ℓ : Loc Cert.KernelDy.nD Cert.KernelDy.τ Cert.KernelDy.sig) → Buf (Elt Bits) ℓ) (g : Dev Cert.KernelDy.nD → PrngReg), Pre_KernelDy m →
    θ_run (Cert.KernelDy.defs (F := Bits)) (onTc (τ := Cert.KernelDy.τ) (Cert.KernelDy.main (F := Bits))) ⟨m, fun _ => 0, g⟩ (fun r => (∀ c : Dev Cert.KernelDy.nD,
      r.2.mem ((c.tc : Thread Cert.KernelDy.nD Cert.KernelDy.τ).loc Cert.KernelDy.main_arg0) = m ((c.tc : Thread Cert.KernelDy.nD Cert.KernelDy.τ).loc Cert.KernelDy.main_arg0)
      ∧ r.2.mem ((c.tc : Thread Cert.KernelDy.nD Cert.KernelDy.τ).loc Cert.KernelDy.main_arg1) = m ((c.tc : Thread Cert.KernelDy.nD Cert.KernelDy.τ).loc Cert.KernelDy.main_arg1))
      ∧ r.2.sem = fun _ => 0)

def quiescent_KernelDyIdeal [hKernelDyIdeal : Cert.KernelDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
      ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1))
      ∧ r.2.sem = fun _ => 0)

def quiescent_ReferenceDyIdeal [hReferenceDyIdeal : Cert.ReferenceDyIdeal.Facts] : Prop :=
  ∀ (m : (ℓ : Loc Cert.ReferenceDyIdeal.nD Cert.ReferenceDyIdeal.τ Cert.ReferenceDyIdeal.sig) → Buf (Elt Ideal) ℓ) (g : Dev Cert.ReferenceDyIdeal.nD → PrngReg), Pre_ReferenceDyIdeal m →
    θ_run (Cert.ReferenceDyIdeal.defs (F := Ideal)) (onTc (τ := Cert.ReferenceDyIdeal.τ) (Cert.ReferenceDyIdeal.main (F := Ideal))) ⟨m, fun _ => 0, g⟩ (fun r => (∀ c : Dev Cert.ReferenceDyIdeal.nD,
      r.2.mem ((c.tc : Thread Cert.ReferenceDyIdeal.nD Cert.ReferenceDyIdeal.τ).loc Cert.ReferenceDyIdeal.main_arg0) = m ((c.tc : Thread Cert.ReferenceDyIdeal.nD Cert.ReferenceDyIdeal.τ).loc Cert.ReferenceDyIdeal.main_arg0)
      ∧ r.2.mem ((c.tc : Thread Cert.ReferenceDyIdeal.nD Cert.ReferenceDyIdeal.τ).loc Cert.ReferenceDyIdeal.main_arg1) = m ((c.tc : Thread Cert.ReferenceDyIdeal.nD Cert.ReferenceDyIdeal.τ).loc Cert.ReferenceDyIdeal.main_arg1))
      ∧ r.2.sem = fun _ => 0)

def quiescent_KernelDwout [hKernelDwout : Cert.KernelDwout.Facts] : Prop :=
  ∀ (m : (ℓ : Loc Cert.KernelDwout.nD Cert.KernelDwout.τ Cert.KernelDwout.sig) → Buf (Elt Bits) ℓ) (g : Dev Cert.KernelDwout.nD → PrngReg), Pre_KernelDwout m →
    θ_run (Cert.KernelDwout.defs (F := Bits)) (onTc (τ := Cert.KernelDwout.τ) (Cert.KernelDwout.main (F := Bits))) ⟨m, fun _ => 0, g⟩ (fun r => (∀ c : Dev Cert.KernelDwout.nD,
      r.2.mem ((c.tc : Thread Cert.KernelDwout.nD Cert.KernelDwout.τ).loc Cert.KernelDwout.main_arg0) = m ((c.tc : Thread Cert.KernelDwout.nD Cert.KernelDwout.τ).loc Cert.KernelDwout.main_arg0)
      ∧ r.2.mem ((c.tc : Thread Cert.KernelDwout.nD Cert.KernelDwout.τ).loc Cert.KernelDwout.main_arg1) = m ((c.tc : Thread Cert.KernelDwout.nD Cert.KernelDwout.τ).loc Cert.KernelDwout.main_arg1))
      ∧ r.2.sem = fun _ => 0)

def quiescent_KernelDwoutIdeal [hKernelDwoutIdeal : Cert.KernelDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg), Pre_KernelDwoutIdeal m →
    θ_run (Cert.KernelDwoutIdeal.defs (F := Ideal)) (onTc (τ := Cert.KernelDwoutIdeal.τ) (Cert.KernelDwoutIdeal.main (F := Ideal))) ⟨m, fun _ => 0, g⟩ (fun r => (∀ c : Dev Cert.KernelDwoutIdeal.nD,
      r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
      ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ r.2.sem = fun _ => 0)

def quiescent_ReferenceDwoutIdeal [hReferenceDwoutIdeal : Cert.ReferenceDwoutIdeal.Facts] : Prop :=
  ∀ (m : (ℓ : Loc Cert.ReferenceDwoutIdeal.nD Cert.ReferenceDwoutIdeal.τ Cert.ReferenceDwoutIdeal.sig) → Buf (Elt Ideal) ℓ) (g : Dev Cert.ReferenceDwoutIdeal.nD → PrngReg), Pre_ReferenceDwoutIdeal m →
    θ_run (Cert.ReferenceDwoutIdeal.defs (F := Ideal)) (onTc (τ := Cert.ReferenceDwoutIdeal.τ) (Cert.ReferenceDwoutIdeal.main (F := Ideal))) ⟨m, fun _ => 0, g⟩ (fun r => (∀ c : Dev Cert.ReferenceDwoutIdeal.nD,
      r.2.mem ((c.tc : Thread Cert.ReferenceDwoutIdeal.nD Cert.ReferenceDwoutIdeal.τ).loc Cert.ReferenceDwoutIdeal.main_arg0) = m ((c.tc : Thread Cert.ReferenceDwoutIdeal.nD Cert.ReferenceDwoutIdeal.τ).loc Cert.ReferenceDwoutIdeal.main_arg0)
      ∧ r.2.mem ((c.tc : Thread Cert.ReferenceDwoutIdeal.nD Cert.ReferenceDwoutIdeal.τ).loc Cert.ReferenceDwoutIdeal.main_arg1) = m ((c.tc : Thread Cert.ReferenceDwoutIdeal.nD Cert.ReferenceDwoutIdeal.τ).loc Cert.ReferenceDwoutIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3)
      ∧ r.2.mem ((c.tc : Thread Cert.KernelAdam.nD Cert.KernelAdam.τ).loc Cert.KernelAdam.main_arg4) = m ((c.tc : Thread Cert.KernelAdam.nD Cert.KernelAdam.τ).loc Cert.KernelAdam.main_arg4)
      ∧ r.2.mem ((c.tc : Thread Cert.KernelAdam.nD Cert.KernelAdam.τ).loc Cert.KernelAdam.main_arg5) = m ((c.tc : Thread Cert.KernelAdam.nD Cert.KernelAdam.τ).loc Cert.KernelAdam.main_arg5)
      ∧ r.2.mem ((c.tc : Thread Cert.KernelAdam.nD Cert.KernelAdam.τ).loc Cert.KernelAdam.main_arg6) = m ((c.tc : Thread Cert.KernelAdam.nD Cert.KernelAdam.τ).loc Cert.KernelAdam.main_arg6)
      ∧ r.2.mem ((c.tc : Thread Cert.KernelAdam.nD Cert.KernelAdam.τ).loc Cert.KernelAdam.main_arg7) = m ((c.tc : Thread Cert.KernelAdam.nD Cert.KernelAdam.τ).loc Cert.KernelAdam.main_arg7)
      ∧ r.2.mem ((c.tc : Thread Cert.KernelAdam.nD Cert.KernelAdam.τ).loc Cert.KernelAdam.main_arg8) = m ((c.tc : Thread Cert.KernelAdam.nD Cert.KernelAdam.τ).loc Cert.KernelAdam.main_arg8)
      ∧ r.2.mem ((c.tc : Thread Cert.KernelAdam.nD Cert.KernelAdam.τ).loc Cert.KernelAdam.main_arg9) = m ((c.tc : Thread Cert.KernelAdam.nD Cert.KernelAdam.τ).loc Cert.KernelAdam.main_arg9)
      ∧ r.2.mem ((c.tc : Thread Cert.KernelAdam.nD Cert.KernelAdam.τ).loc Cert.KernelAdam.main_arg10) = m ((c.tc : Thread Cert.KernelAdam.nD Cert.KernelAdam.τ).loc Cert.KernelAdam.main_arg10)
      ∧ r.2.mem ((c.tc : Thread Cert.KernelAdam.nD Cert.KernelAdam.τ).loc Cert.KernelAdam.main_arg11) = m ((c.tc : Thread Cert.KernelAdam.nD Cert.KernelAdam.τ).loc Cert.KernelAdam.main_arg11)
      ∧ r.2.mem ((c.tc : Thread Cert.KernelAdam.nD Cert.KernelAdam.τ).loc Cert.KernelAdam.main_arg12) = m ((c.tc : Thread Cert.KernelAdam.nD Cert.KernelAdam.τ).loc Cert.KernelAdam.main_arg12)
      ∧ r.2.mem ((c.tc : Thread Cert.KernelAdam.nD Cert.KernelAdam.τ).loc Cert.KernelAdam.main_arg13) = m ((c.tc : Thread Cert.KernelAdam.nD Cert.KernelAdam.τ).loc Cert.KernelAdam.main_arg13)
      ∧ r.2.mem ((c.tc : Thread Cert.KernelAdam.nD Cert.KernelAdam.τ).loc Cert.KernelAdam.main_arg14) = m ((c.tc : Thread Cert.KernelAdam.nD Cert.KernelAdam.τ).loc Cert.KernelAdam.main_arg14)
      ∧ r.2.mem ((c.tc : Thread Cert.KernelAdam.nD Cert.KernelAdam.τ).loc Cert.KernelAdam.main_arg15) = m ((c.tc : Thread Cert.KernelAdam.nD Cert.KernelAdam.τ).loc Cert.KernelAdam.main_arg15)
      ∧ r.2.mem ((c.tc : Thread Cert.KernelAdam.nD Cert.KernelAdam.τ).loc Cert.KernelAdam.main_arg16) = m ((c.tc : Thread Cert.KernelAdam.nD Cert.KernelAdam.τ).loc Cert.KernelAdam.main_arg16)
      ∧ r.2.mem ((c.tc : Thread Cert.KernelAdam.nD Cert.KernelAdam.τ).loc Cert.KernelAdam.main_arg17) = m ((c.tc : Thread Cert.KernelAdam.nD Cert.KernelAdam.τ).loc Cert.KernelAdam.main_arg17)
      ∧ r.2.mem ((c.tc : Thread Cert.KernelAdam.nD Cert.KernelAdam.τ).loc Cert.KernelAdam.main_arg18) = m ((c.tc : Thread Cert.KernelAdam.nD Cert.KernelAdam.τ).loc Cert.KernelAdam.main_arg18)
      ∧ r.2.mem ((c.tc : Thread Cert.KernelAdam.nD Cert.KernelAdam.τ).loc Cert.KernelAdam.main_arg19) = m ((c.tc : Thread Cert.KernelAdam.nD Cert.KernelAdam.τ).loc Cert.KernelAdam.main_arg19)
      ∧ r.2.mem ((c.tc : Thread Cert.KernelAdam.nD Cert.KernelAdam.τ).loc Cert.KernelAdam.main_arg20) = m ((c.tc : Thread Cert.KernelAdam.nD Cert.KernelAdam.τ).loc Cert.KernelAdam.main_arg20)
      ∧ r.2.mem ((c.tc : Thread Cert.KernelAdam.nD Cert.KernelAdam.τ).loc Cert.KernelAdam.main_arg21) = m ((c.tc : Thread Cert.KernelAdam.nD Cert.KernelAdam.τ).loc Cert.KernelAdam.main_arg21)
      ∧ r.2.mem ((c.tc : Thread Cert.KernelAdam.nD Cert.KernelAdam.τ).loc Cert.KernelAdam.main_arg22) = m ((c.tc : Thread Cert.KernelAdam.nD Cert.KernelAdam.τ).loc Cert.KernelAdam.main_arg22)
      ∧ r.2.mem ((c.tc : Thread Cert.KernelAdam.nD Cert.KernelAdam.τ).loc Cert.KernelAdam.main_arg23) = m ((c.tc : Thread Cert.KernelAdam.nD Cert.KernelAdam.τ).loc Cert.KernelAdam.main_arg23)
      ∧ r.2.mem ((c.tc : Thread Cert.KernelAdam.nD Cert.KernelAdam.τ).loc Cert.KernelAdam.main_arg24) = m ((c.tc : Thread Cert.KernelAdam.nD Cert.KernelAdam.τ).loc Cert.KernelAdam.main_arg24)
      ∧ r.2.mem ((c.tc : Thread Cert.KernelAdam.nD Cert.KernelAdam.τ).loc Cert.KernelAdam.main_arg25) = m ((c.tc : Thread Cert.KernelAdam.nD Cert.KernelAdam.τ).loc Cert.KernelAdam.main_arg25)
      ∧ r.2.mem ((c.tc : Thread Cert.KernelAdam.nD Cert.KernelAdam.τ).loc Cert.KernelAdam.main_arg26) = m ((c.tc : Thread Cert.KernelAdam.nD Cert.KernelAdam.τ).loc Cert.KernelAdam.main_arg26)
      ∧ r.2.mem ((c.tc : Thread Cert.KernelAdam.nD Cert.KernelAdam.τ).loc Cert.KernelAdam.main_arg27) = m ((c.tc : Thread Cert.KernelAdam.nD Cert.KernelAdam.τ).loc Cert.KernelAdam.main_arg27)
      ∧ r.2.mem ((c.tc : Thread Cert.KernelAdam.nD Cert.KernelAdam.τ).loc Cert.KernelAdam.main_arg28) = m ((c.tc : Thread Cert.KernelAdam.nD Cert.KernelAdam.τ).loc Cert.KernelAdam.main_arg28)
      ∧ r.2.mem ((c.tc : Thread Cert.KernelAdam.nD Cert.KernelAdam.τ).loc Cert.KernelAdam.main_arg29) = m ((c.tc : Thread Cert.KernelAdam.nD Cert.KernelAdam.τ).loc Cert.KernelAdam.main_arg29)
      ∧ r.2.mem ((c.tc : Thread Cert.KernelAdam.nD Cert.KernelAdam.τ).loc Cert.KernelAdam.main_arg30) = m ((c.tc : Thread Cert.KernelAdam.nD Cert.KernelAdam.τ).loc Cert.KernelAdam.main_arg30)
      ∧ r.2.mem ((c.tc : Thread Cert.KernelAdam.nD Cert.KernelAdam.τ).loc Cert.KernelAdam.main_arg31) = m ((c.tc : Thread Cert.KernelAdam.nD Cert.KernelAdam.τ).loc Cert.KernelAdam.main_arg31)
      ∧ r.2.mem ((c.tc : Thread Cert.KernelAdam.nD Cert.KernelAdam.τ).loc Cert.KernelAdam.main_arg32) = m ((c.tc : Thread Cert.KernelAdam.nD Cert.KernelAdam.τ).loc Cert.KernelAdam.main_arg32)
      ∧ r.2.mem ((c.tc : Thread Cert.KernelAdam.nD Cert.KernelAdam.τ).loc Cert.KernelAdam.main_arg33) = m ((c.tc : Thread Cert.KernelAdam.nD Cert.KernelAdam.τ).loc Cert.KernelAdam.main_arg33)
      ∧ r.2.mem ((c.tc : Thread Cert.KernelAdam.nD Cert.KernelAdam.τ).loc Cert.KernelAdam.main_arg34) = m ((c.tc : Thread Cert.KernelAdam.nD Cert.KernelAdam.τ).loc Cert.KernelAdam.main_arg34)
      ∧ r.2.mem ((c.tc : Thread Cert.KernelAdam.nD Cert.KernelAdam.τ).loc Cert.KernelAdam.main_arg35) = m ((c.tc : Thread Cert.KernelAdam.nD Cert.KernelAdam.τ).loc Cert.KernelAdam.main_arg35)
      ∧ r.2.mem ((c.tc : Thread Cert.KernelAdam.nD Cert.KernelAdam.τ).loc Cert.KernelAdam.main_arg36) = m ((c.tc : Thread Cert.KernelAdam.nD Cert.KernelAdam.τ).loc Cert.KernelAdam.main_arg36)
      ∧ r.2.mem ((c.tc : Thread Cert.KernelAdam.nD Cert.KernelAdam.τ).loc Cert.KernelAdam.main_arg37) = m ((c.tc : Thread Cert.KernelAdam.nD Cert.KernelAdam.τ).loc Cert.KernelAdam.main_arg37)
      ∧ r.2.mem ((c.tc : Thread Cert.KernelAdam.nD Cert.KernelAdam.τ).loc Cert.KernelAdam.main_arg38) = m ((c.tc : Thread Cert.KernelAdam.nD Cert.KernelAdam.τ).loc Cert.KernelAdam.main_arg38)
      ∧ r.2.mem ((c.tc : Thread Cert.KernelAdam.nD Cert.KernelAdam.τ).loc Cert.KernelAdam.main_arg39) = m ((c.tc : Thread Cert.KernelAdam.nD Cert.KernelAdam.τ).loc Cert.KernelAdam.main_arg39)
      ∧ r.2.mem ((c.tc : Thread Cert.KernelAdam.nD Cert.KernelAdam.τ).loc Cert.KernelAdam.main_arg40) = m ((c.tc : Thread Cert.KernelAdam.nD Cert.KernelAdam.τ).loc Cert.KernelAdam.main_arg40)
      ∧ r.2.mem ((c.tc : Thread Cert.KernelAdam.nD Cert.KernelAdam.τ).loc Cert.KernelAdam.main_arg41) = m ((c.tc : Thread Cert.KernelAdam.nD Cert.KernelAdam.τ).loc Cert.KernelAdam.main_arg41)
      ∧ r.2.mem ((c.tc : Thread Cert.KernelAdam.nD Cert.KernelAdam.τ).loc Cert.KernelAdam.main_arg42) = m ((c.tc : Thread Cert.KernelAdam.nD Cert.KernelAdam.τ).loc Cert.KernelAdam.main_arg42)
      ∧ r.2.mem ((c.tc : Thread Cert.KernelAdam.nD Cert.KernelAdam.τ).loc Cert.KernelAdam.main_arg43) = m ((c.tc : Thread Cert.KernelAdam.nD Cert.KernelAdam.τ).loc Cert.KernelAdam.main_arg43))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3)
      ∧ r.2.mem ((c.tc : Thread Cert.KernelAdamIdeal.nD Cert.KernelAdamIdeal.τ).loc Cert.KernelAdamIdeal.main_arg4) = m ((c.tc : Thread Cert.KernelAdamIdeal.nD Cert.KernelAdamIdeal.τ).loc Cert.KernelAdamIdeal.main_arg4)
      ∧ r.2.mem ((c.tc : Thread Cert.KernelAdamIdeal.nD Cert.KernelAdamIdeal.τ).loc Cert.KernelAdamIdeal.main_arg5) = m ((c.tc : Thread Cert.KernelAdamIdeal.nD Cert.KernelAdamIdeal.τ).loc Cert.KernelAdamIdeal.main_arg5)
      ∧ r.2.mem ((c.tc : Thread Cert.KernelAdamIdeal.nD Cert.KernelAdamIdeal.τ).loc Cert.KernelAdamIdeal.main_arg6) = m ((c.tc : Thread Cert.KernelAdamIdeal.nD Cert.KernelAdamIdeal.τ).loc Cert.KernelAdamIdeal.main_arg6)
      ∧ r.2.mem ((c.tc : Thread Cert.KernelAdamIdeal.nD Cert.KernelAdamIdeal.τ).loc Cert.KernelAdamIdeal.main_arg7) = m ((c.tc : Thread Cert.KernelAdamIdeal.nD Cert.KernelAdamIdeal.τ).loc Cert.KernelAdamIdeal.main_arg7)
      ∧ r.2.mem ((c.tc : Thread Cert.KernelAdamIdeal.nD Cert.KernelAdamIdeal.τ).loc Cert.KernelAdamIdeal.main_arg8) = m ((c.tc : Thread Cert.KernelAdamIdeal.nD Cert.KernelAdamIdeal.τ).loc Cert.KernelAdamIdeal.main_arg8)
      ∧ r.2.mem ((c.tc : Thread Cert.KernelAdamIdeal.nD Cert.KernelAdamIdeal.τ).loc Cert.KernelAdamIdeal.main_arg9) = m ((c.tc : Thread Cert.KernelAdamIdeal.nD Cert.KernelAdamIdeal.τ).loc Cert.KernelAdamIdeal.main_arg9)
      ∧ r.2.mem ((c.tc : Thread Cert.KernelAdamIdeal.nD Cert.KernelAdamIdeal.τ).loc Cert.KernelAdamIdeal.main_arg10) = m ((c.tc : Thread Cert.KernelAdamIdeal.nD Cert.KernelAdamIdeal.τ).loc Cert.KernelAdamIdeal.main_arg10)
      ∧ r.2.mem ((c.tc : Thread Cert.KernelAdamIdeal.nD Cert.KernelAdamIdeal.τ).loc Cert.KernelAdamIdeal.main_arg11) = m ((c.tc : Thread Cert.KernelAdamIdeal.nD Cert.KernelAdamIdeal.τ).loc Cert.KernelAdamIdeal.main_arg11)
      ∧ r.2.mem ((c.tc : Thread Cert.KernelAdamIdeal.nD Cert.KernelAdamIdeal.τ).loc Cert.KernelAdamIdeal.main_arg12) = m ((c.tc : Thread Cert.KernelAdamIdeal.nD Cert.KernelAdamIdeal.τ).loc Cert.KernelAdamIdeal.main_arg12)
      ∧ r.2.mem ((c.tc : Thread Cert.KernelAdamIdeal.nD Cert.KernelAdamIdeal.τ).loc Cert.KernelAdamIdeal.main_arg13) = m ((c.tc : Thread Cert.KernelAdamIdeal.nD Cert.KernelAdamIdeal.τ).loc Cert.KernelAdamIdeal.main_arg13)
      ∧ r.2.mem ((c.tc : Thread Cert.KernelAdamIdeal.nD Cert.KernelAdamIdeal.τ).loc Cert.KernelAdamIdeal.main_arg14) = m ((c.tc : Thread Cert.KernelAdamIdeal.nD Cert.KernelAdamIdeal.τ).loc Cert.KernelAdamIdeal.main_arg14)
      ∧ r.2.mem ((c.tc : Thread Cert.KernelAdamIdeal.nD Cert.KernelAdamIdeal.τ).loc Cert.KernelAdamIdeal.main_arg15) = m ((c.tc : Thread Cert.KernelAdamIdeal.nD Cert.KernelAdamIdeal.τ).loc Cert.KernelAdamIdeal.main_arg15)
      ∧ r.2.mem ((c.tc : Thread Cert.KernelAdamIdeal.nD Cert.KernelAdamIdeal.τ).loc Cert.KernelAdamIdeal.main_arg16) = m ((c.tc : Thread Cert.KernelAdamIdeal.nD Cert.KernelAdamIdeal.τ).loc Cert.KernelAdamIdeal.main_arg16)
      ∧ r.2.mem ((c.tc : Thread Cert.KernelAdamIdeal.nD Cert.KernelAdamIdeal.τ).loc Cert.KernelAdamIdeal.main_arg17) = m ((c.tc : Thread Cert.KernelAdamIdeal.nD Cert.KernelAdamIdeal.τ).loc Cert.KernelAdamIdeal.main_arg17)
      ∧ r.2.mem ((c.tc : Thread Cert.KernelAdamIdeal.nD Cert.KernelAdamIdeal.τ).loc Cert.KernelAdamIdeal.main_arg18) = m ((c.tc : Thread Cert.KernelAdamIdeal.nD Cert.KernelAdamIdeal.τ).loc Cert.KernelAdamIdeal.main_arg18)
      ∧ r.2.mem ((c.tc : Thread Cert.KernelAdamIdeal.nD Cert.KernelAdamIdeal.τ).loc Cert.KernelAdamIdeal.main_arg19) = m ((c.tc : Thread Cert.KernelAdamIdeal.nD Cert.KernelAdamIdeal.τ).loc Cert.KernelAdamIdeal.main_arg19)
      ∧ r.2.mem ((c.tc : Thread Cert.KernelAdamIdeal.nD Cert.KernelAdamIdeal.τ).loc Cert.KernelAdamIdeal.main_arg20) = m ((c.tc : Thread Cert.KernelAdamIdeal.nD Cert.KernelAdamIdeal.τ).loc Cert.KernelAdamIdeal.main_arg20)
      ∧ r.2.mem ((c.tc : Thread Cert.KernelAdamIdeal.nD Cert.KernelAdamIdeal.τ).loc Cert.KernelAdamIdeal.main_arg21) = m ((c.tc : Thread Cert.KernelAdamIdeal.nD Cert.KernelAdamIdeal.τ).loc Cert.KernelAdamIdeal.main_arg21)
      ∧ r.2.mem ((c.tc : Thread Cert.KernelAdamIdeal.nD Cert.KernelAdamIdeal.τ).loc Cert.KernelAdamIdeal.main_arg22) = m ((c.tc : Thread Cert.KernelAdamIdeal.nD Cert.KernelAdamIdeal.τ).loc Cert.KernelAdamIdeal.main_arg22)
      ∧ r.2.mem ((c.tc : Thread Cert.KernelAdamIdeal.nD Cert.KernelAdamIdeal.τ).loc Cert.KernelAdamIdeal.main_arg23) = m ((c.tc : Thread Cert.KernelAdamIdeal.nD Cert.KernelAdamIdeal.τ).loc Cert.KernelAdamIdeal.main_arg23)
      ∧ r.2.mem ((c.tc : Thread Cert.KernelAdamIdeal.nD Cert.KernelAdamIdeal.τ).loc Cert.KernelAdamIdeal.main_arg24) = m ((c.tc : Thread Cert.KernelAdamIdeal.nD Cert.KernelAdamIdeal.τ).loc Cert.KernelAdamIdeal.main_arg24)
      ∧ r.2.mem ((c.tc : Thread Cert.KernelAdamIdeal.nD Cert.KernelAdamIdeal.τ).loc Cert.KernelAdamIdeal.main_arg25) = m ((c.tc : Thread Cert.KernelAdamIdeal.nD Cert.KernelAdamIdeal.τ).loc Cert.KernelAdamIdeal.main_arg25)
      ∧ r.2.mem ((c.tc : Thread Cert.KernelAdamIdeal.nD Cert.KernelAdamIdeal.τ).loc Cert.KernelAdamIdeal.main_arg26) = m ((c.tc : Thread Cert.KernelAdamIdeal.nD Cert.KernelAdamIdeal.τ).loc Cert.KernelAdamIdeal.main_arg26)
      ∧ r.2.mem ((c.tc : Thread Cert.KernelAdamIdeal.nD Cert.KernelAdamIdeal.τ).loc Cert.KernelAdamIdeal.main_arg27) = m ((c.tc : Thread Cert.KernelAdamIdeal.nD Cert.KernelAdamIdeal.τ).loc Cert.KernelAdamIdeal.main_arg27)
      ∧ r.2.mem ((c.tc : Thread Cert.KernelAdamIdeal.nD Cert.KernelAdamIdeal.τ).loc Cert.KernelAdamIdeal.main_arg28) = m ((c.tc : Thread Cert.KernelAdamIdeal.nD Cert.KernelAdamIdeal.τ).loc Cert.KernelAdamIdeal.main_arg28)
      ∧ r.2.mem ((c.tc : Thread Cert.KernelAdamIdeal.nD Cert.KernelAdamIdeal.τ).loc Cert.KernelAdamIdeal.main_arg29) = m ((c.tc : Thread Cert.KernelAdamIdeal.nD Cert.KernelAdamIdeal.τ).loc Cert.KernelAdamIdeal.main_arg29)
      ∧ r.2.mem ((c.tc : Thread Cert.KernelAdamIdeal.nD Cert.KernelAdamIdeal.τ).loc Cert.KernelAdamIdeal.main_arg30) = m ((c.tc : Thread Cert.KernelAdamIdeal.nD Cert.KernelAdamIdeal.τ).loc Cert.KernelAdamIdeal.main_arg30)
      ∧ r.2.mem ((c.tc : Thread Cert.KernelAdamIdeal.nD Cert.KernelAdamIdeal.τ).loc Cert.KernelAdamIdeal.main_arg31) = m ((c.tc : Thread Cert.KernelAdamIdeal.nD Cert.KernelAdamIdeal.τ).loc Cert.KernelAdamIdeal.main_arg31)
      ∧ r.2.mem ((c.tc : Thread Cert.KernelAdamIdeal.nD Cert.KernelAdamIdeal.τ).loc Cert.KernelAdamIdeal.main_arg32) = m ((c.tc : Thread Cert.KernelAdamIdeal.nD Cert.KernelAdamIdeal.τ).loc Cert.KernelAdamIdeal.main_arg32)
      ∧ r.2.mem ((c.tc : Thread Cert.KernelAdamIdeal.nD Cert.KernelAdamIdeal.τ).loc Cert.KernelAdamIdeal.main_arg33) = m ((c.tc : Thread Cert.KernelAdamIdeal.nD Cert.KernelAdamIdeal.τ).loc Cert.KernelAdamIdeal.main_arg33)
      ∧ r.2.mem ((c.tc : Thread Cert.KernelAdamIdeal.nD Cert.KernelAdamIdeal.τ).loc Cert.KernelAdamIdeal.main_arg34) = m ((c.tc : Thread Cert.KernelAdamIdeal.nD Cert.KernelAdamIdeal.τ).loc Cert.KernelAdamIdeal.main_arg34)
      ∧ r.2.mem ((c.tc : Thread Cert.KernelAdamIdeal.nD Cert.KernelAdamIdeal.τ).loc Cert.KernelAdamIdeal.main_arg35) = m ((c.tc : Thread Cert.KernelAdamIdeal.nD Cert.KernelAdamIdeal.τ).loc Cert.KernelAdamIdeal.main_arg35)
      ∧ r.2.mem ((c.tc : Thread Cert.KernelAdamIdeal.nD Cert.KernelAdamIdeal.τ).loc Cert.KernelAdamIdeal.main_arg36) = m ((c.tc : Thread Cert.KernelAdamIdeal.nD Cert.KernelAdamIdeal.τ).loc Cert.KernelAdamIdeal.main_arg36)
      ∧ r.2.mem ((c.tc : Thread Cert.KernelAdamIdeal.nD Cert.KernelAdamIdeal.τ).loc Cert.KernelAdamIdeal.main_arg37) = m ((c.tc : Thread Cert.KernelAdamIdeal.nD Cert.KernelAdamIdeal.τ).loc Cert.KernelAdamIdeal.main_arg37)
      ∧ r.2.mem ((c.tc : Thread Cert.KernelAdamIdeal.nD Cert.KernelAdamIdeal.τ).loc Cert.KernelAdamIdeal.main_arg38) = m ((c.tc : Thread Cert.KernelAdamIdeal.nD Cert.KernelAdamIdeal.τ).loc Cert.KernelAdamIdeal.main_arg38)
      ∧ r.2.mem ((c.tc : Thread Cert.KernelAdamIdeal.nD Cert.KernelAdamIdeal.τ).loc Cert.KernelAdamIdeal.main_arg39) = m ((c.tc : Thread Cert.KernelAdamIdeal.nD Cert.KernelAdamIdeal.τ).loc Cert.KernelAdamIdeal.main_arg39)
      ∧ r.2.mem ((c.tc : Thread Cert.KernelAdamIdeal.nD Cert.KernelAdamIdeal.τ).loc Cert.KernelAdamIdeal.main_arg40) = m ((c.tc : Thread Cert.KernelAdamIdeal.nD Cert.KernelAdamIdeal.τ).loc Cert.KernelAdamIdeal.main_arg40)
      ∧ r.2.mem ((c.tc : Thread Cert.KernelAdamIdeal.nD Cert.KernelAdamIdeal.τ).loc Cert.KernelAdamIdeal.main_arg41) = m ((c.tc : Thread Cert.KernelAdamIdeal.nD Cert.KernelAdamIdeal.τ).loc Cert.KernelAdamIdeal.main_arg41)
      ∧ r.2.mem ((c.tc : Thread Cert.KernelAdamIdeal.nD Cert.KernelAdamIdeal.τ).loc Cert.KernelAdamIdeal.main_arg42) = m ((c.tc : Thread Cert.KernelAdamIdeal.nD Cert.KernelAdamIdeal.τ).loc Cert.KernelAdamIdeal.main_arg42)
      ∧ r.2.mem ((c.tc : Thread Cert.KernelAdamIdeal.nD Cert.KernelAdamIdeal.τ).loc Cert.KernelAdamIdeal.main_arg43) = m ((c.tc : Thread Cert.KernelAdamIdeal.nD Cert.KernelAdamIdeal.τ).loc Cert.KernelAdamIdeal.main_arg43))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3)
      ∧ r.2.mem ((c.tc : Thread Cert.ReferenceAdamIdeal.nD Cert.ReferenceAdamIdeal.τ).loc Cert.ReferenceAdamIdeal.main_arg4) = m ((c.tc : Thread Cert.ReferenceAdamIdeal.nD Cert.ReferenceAdamIdeal.τ).loc Cert.ReferenceAdamIdeal.main_arg4)
      ∧ r.2.mem ((c.tc : Thread Cert.ReferenceAdamIdeal.nD Cert.ReferenceAdamIdeal.τ).loc Cert.ReferenceAdamIdeal.main_arg5) = m ((c.tc : Thread Cert.ReferenceAdamIdeal.nD Cert.ReferenceAdamIdeal.τ).loc Cert.ReferenceAdamIdeal.main_arg5)
      ∧ r.2.mem ((c.tc : Thread Cert.ReferenceAdamIdeal.nD Cert.ReferenceAdamIdeal.τ).loc Cert.ReferenceAdamIdeal.main_arg6) = m ((c.tc : Thread Cert.ReferenceAdamIdeal.nD Cert.ReferenceAdamIdeal.τ).loc Cert.ReferenceAdamIdeal.main_arg6)
      ∧ r.2.mem ((c.tc : Thread Cert.ReferenceAdamIdeal.nD Cert.ReferenceAdamIdeal.τ).loc Cert.ReferenceAdamIdeal.main_arg7) = m ((c.tc : Thread Cert.ReferenceAdamIdeal.nD Cert.ReferenceAdamIdeal.τ).loc Cert.ReferenceAdamIdeal.main_arg7)
      ∧ r.2.mem ((c.tc : Thread Cert.ReferenceAdamIdeal.nD Cert.ReferenceAdamIdeal.τ).loc Cert.ReferenceAdamIdeal.main_arg8) = m ((c.tc : Thread Cert.ReferenceAdamIdeal.nD Cert.ReferenceAdamIdeal.τ).loc Cert.ReferenceAdamIdeal.main_arg8)
      ∧ r.2.mem ((c.tc : Thread Cert.ReferenceAdamIdeal.nD Cert.ReferenceAdamIdeal.τ).loc Cert.ReferenceAdamIdeal.main_arg9) = m ((c.tc : Thread Cert.ReferenceAdamIdeal.nD Cert.ReferenceAdamIdeal.τ).loc Cert.ReferenceAdamIdeal.main_arg9)
      ∧ r.2.mem ((c.tc : Thread Cert.ReferenceAdamIdeal.nD Cert.ReferenceAdamIdeal.τ).loc Cert.ReferenceAdamIdeal.main_arg10) = m ((c.tc : Thread Cert.ReferenceAdamIdeal.nD Cert.ReferenceAdamIdeal.τ).loc Cert.ReferenceAdamIdeal.main_arg10)
      ∧ r.2.mem ((c.tc : Thread Cert.ReferenceAdamIdeal.nD Cert.ReferenceAdamIdeal.τ).loc Cert.ReferenceAdamIdeal.main_arg11) = m ((c.tc : Thread Cert.ReferenceAdamIdeal.nD Cert.ReferenceAdamIdeal.τ).loc Cert.ReferenceAdamIdeal.main_arg11)
      ∧ r.2.mem ((c.tc : Thread Cert.ReferenceAdamIdeal.nD Cert.ReferenceAdamIdeal.τ).loc Cert.ReferenceAdamIdeal.main_arg12) = m ((c.tc : Thread Cert.ReferenceAdamIdeal.nD Cert.ReferenceAdamIdeal.τ).loc Cert.ReferenceAdamIdeal.main_arg12)
      ∧ r.2.mem ((c.tc : Thread Cert.ReferenceAdamIdeal.nD Cert.ReferenceAdamIdeal.τ).loc Cert.ReferenceAdamIdeal.main_arg13) = m ((c.tc : Thread Cert.ReferenceAdamIdeal.nD Cert.ReferenceAdamIdeal.τ).loc Cert.ReferenceAdamIdeal.main_arg13)
      ∧ r.2.mem ((c.tc : Thread Cert.ReferenceAdamIdeal.nD Cert.ReferenceAdamIdeal.τ).loc Cert.ReferenceAdamIdeal.main_arg14) = m ((c.tc : Thread Cert.ReferenceAdamIdeal.nD Cert.ReferenceAdamIdeal.τ).loc Cert.ReferenceAdamIdeal.main_arg14)
      ∧ r.2.mem ((c.tc : Thread Cert.ReferenceAdamIdeal.nD Cert.ReferenceAdamIdeal.τ).loc Cert.ReferenceAdamIdeal.main_arg15) = m ((c.tc : Thread Cert.ReferenceAdamIdeal.nD Cert.ReferenceAdamIdeal.τ).loc Cert.ReferenceAdamIdeal.main_arg15)
      ∧ r.2.mem ((c.tc : Thread Cert.ReferenceAdamIdeal.nD Cert.ReferenceAdamIdeal.τ).loc Cert.ReferenceAdamIdeal.main_arg16) = m ((c.tc : Thread Cert.ReferenceAdamIdeal.nD Cert.ReferenceAdamIdeal.τ).loc Cert.ReferenceAdamIdeal.main_arg16)
      ∧ r.2.mem ((c.tc : Thread Cert.ReferenceAdamIdeal.nD Cert.ReferenceAdamIdeal.τ).loc Cert.ReferenceAdamIdeal.main_arg17) = m ((c.tc : Thread Cert.ReferenceAdamIdeal.nD Cert.ReferenceAdamIdeal.τ).loc Cert.ReferenceAdamIdeal.main_arg17)
      ∧ r.2.mem ((c.tc : Thread Cert.ReferenceAdamIdeal.nD Cert.ReferenceAdamIdeal.τ).loc Cert.ReferenceAdamIdeal.main_arg18) = m ((c.tc : Thread Cert.ReferenceAdamIdeal.nD Cert.ReferenceAdamIdeal.τ).loc Cert.ReferenceAdamIdeal.main_arg18)
      ∧ r.2.mem ((c.tc : Thread Cert.ReferenceAdamIdeal.nD Cert.ReferenceAdamIdeal.τ).loc Cert.ReferenceAdamIdeal.main_arg19) = m ((c.tc : Thread Cert.ReferenceAdamIdeal.nD Cert.ReferenceAdamIdeal.τ).loc Cert.ReferenceAdamIdeal.main_arg19)
      ∧ r.2.mem ((c.tc : Thread Cert.ReferenceAdamIdeal.nD Cert.ReferenceAdamIdeal.τ).loc Cert.ReferenceAdamIdeal.main_arg20) = m ((c.tc : Thread Cert.ReferenceAdamIdeal.nD Cert.ReferenceAdamIdeal.τ).loc Cert.ReferenceAdamIdeal.main_arg20)
      ∧ r.2.mem ((c.tc : Thread Cert.ReferenceAdamIdeal.nD Cert.ReferenceAdamIdeal.τ).loc Cert.ReferenceAdamIdeal.main_arg21) = m ((c.tc : Thread Cert.ReferenceAdamIdeal.nD Cert.ReferenceAdamIdeal.τ).loc Cert.ReferenceAdamIdeal.main_arg21)
      ∧ r.2.mem ((c.tc : Thread Cert.ReferenceAdamIdeal.nD Cert.ReferenceAdamIdeal.τ).loc Cert.ReferenceAdamIdeal.main_arg22) = m ((c.tc : Thread Cert.ReferenceAdamIdeal.nD Cert.ReferenceAdamIdeal.τ).loc Cert.ReferenceAdamIdeal.main_arg22)
      ∧ r.2.mem ((c.tc : Thread Cert.ReferenceAdamIdeal.nD Cert.ReferenceAdamIdeal.τ).loc Cert.ReferenceAdamIdeal.main_arg23) = m ((c.tc : Thread Cert.ReferenceAdamIdeal.nD Cert.ReferenceAdamIdeal.τ).loc Cert.ReferenceAdamIdeal.main_arg23)
      ∧ r.2.mem ((c.tc : Thread Cert.ReferenceAdamIdeal.nD Cert.ReferenceAdamIdeal.τ).loc Cert.ReferenceAdamIdeal.main_arg24) = m ((c.tc : Thread Cert.ReferenceAdamIdeal.nD Cert.ReferenceAdamIdeal.τ).loc Cert.ReferenceAdamIdeal.main_arg24)
      ∧ r.2.mem ((c.tc : Thread Cert.ReferenceAdamIdeal.nD Cert.ReferenceAdamIdeal.τ).loc Cert.ReferenceAdamIdeal.main_arg25) = m ((c.tc : Thread Cert.ReferenceAdamIdeal.nD Cert.ReferenceAdamIdeal.τ).loc Cert.ReferenceAdamIdeal.main_arg25)
      ∧ r.2.mem ((c.tc : Thread Cert.ReferenceAdamIdeal.nD Cert.ReferenceAdamIdeal.τ).loc Cert.ReferenceAdamIdeal.main_arg26) = m ((c.tc : Thread Cert.ReferenceAdamIdeal.nD Cert.ReferenceAdamIdeal.τ).loc Cert.ReferenceAdamIdeal.main_arg26)
      ∧ r.2.mem ((c.tc : Thread Cert.ReferenceAdamIdeal.nD Cert.ReferenceAdamIdeal.τ).loc Cert.ReferenceAdamIdeal.main_arg27) = m ((c.tc : Thread Cert.ReferenceAdamIdeal.nD Cert.ReferenceAdamIdeal.τ).loc Cert.ReferenceAdamIdeal.main_arg27)
      ∧ r.2.mem ((c.tc : Thread Cert.ReferenceAdamIdeal.nD Cert.ReferenceAdamIdeal.τ).loc Cert.ReferenceAdamIdeal.main_arg28) = m ((c.tc : Thread Cert.ReferenceAdamIdeal.nD Cert.ReferenceAdamIdeal.τ).loc Cert.ReferenceAdamIdeal.main_arg28)
      ∧ r.2.mem ((c.tc : Thread Cert.ReferenceAdamIdeal.nD Cert.ReferenceAdamIdeal.τ).loc Cert.ReferenceAdamIdeal.main_arg29) = m ((c.tc : Thread Cert.ReferenceAdamIdeal.nD Cert.ReferenceAdamIdeal.τ).loc Cert.ReferenceAdamIdeal.main_arg29)
      ∧ r.2.mem ((c.tc : Thread Cert.ReferenceAdamIdeal.nD Cert.ReferenceAdamIdeal.τ).loc Cert.ReferenceAdamIdeal.main_arg30) = m ((c.tc : Thread Cert.ReferenceAdamIdeal.nD Cert.ReferenceAdamIdeal.τ).loc Cert.ReferenceAdamIdeal.main_arg30)
      ∧ r.2.mem ((c.tc : Thread Cert.ReferenceAdamIdeal.nD Cert.ReferenceAdamIdeal.τ).loc Cert.ReferenceAdamIdeal.main_arg31) = m ((c.tc : Thread Cert.ReferenceAdamIdeal.nD Cert.ReferenceAdamIdeal.τ).loc Cert.ReferenceAdamIdeal.main_arg31)
      ∧ r.2.mem ((c.tc : Thread Cert.ReferenceAdamIdeal.nD Cert.ReferenceAdamIdeal.τ).loc Cert.ReferenceAdamIdeal.main_arg32) = m ((c.tc : Thread Cert.ReferenceAdamIdeal.nD Cert.ReferenceAdamIdeal.τ).loc Cert.ReferenceAdamIdeal.main_arg32)
      ∧ r.2.mem ((c.tc : Thread Cert.ReferenceAdamIdeal.nD Cert.ReferenceAdamIdeal.τ).loc Cert.ReferenceAdamIdeal.main_arg33) = m ((c.tc : Thread Cert.ReferenceAdamIdeal.nD Cert.ReferenceAdamIdeal.τ).loc Cert.ReferenceAdamIdeal.main_arg33)
      ∧ r.2.mem ((c.tc : Thread Cert.ReferenceAdamIdeal.nD Cert.ReferenceAdamIdeal.τ).loc Cert.ReferenceAdamIdeal.main_arg34) = m ((c.tc : Thread Cert.ReferenceAdamIdeal.nD Cert.ReferenceAdamIdeal.τ).loc Cert.ReferenceAdamIdeal.main_arg34)
      ∧ r.2.mem ((c.tc : Thread Cert.ReferenceAdamIdeal.nD Cert.ReferenceAdamIdeal.τ).loc Cert.ReferenceAdamIdeal.main_arg35) = m ((c.tc : Thread Cert.ReferenceAdamIdeal.nD Cert.ReferenceAdamIdeal.τ).loc Cert.ReferenceAdamIdeal.main_arg35)
      ∧ r.2.mem ((c.tc : Thread Cert.ReferenceAdamIdeal.nD Cert.ReferenceAdamIdeal.τ).loc Cert.ReferenceAdamIdeal.main_arg36) = m ((c.tc : Thread Cert.ReferenceAdamIdeal.nD Cert.ReferenceAdamIdeal.τ).loc Cert.ReferenceAdamIdeal.main_arg36)
      ∧ r.2.mem ((c.tc : Thread Cert.ReferenceAdamIdeal.nD Cert.ReferenceAdamIdeal.τ).loc Cert.ReferenceAdamIdeal.main_arg37) = m ((c.tc : Thread Cert.ReferenceAdamIdeal.nD Cert.ReferenceAdamIdeal.τ).loc Cert.ReferenceAdamIdeal.main_arg37)
      ∧ r.2.mem ((c.tc : Thread Cert.ReferenceAdamIdeal.nD Cert.ReferenceAdamIdeal.τ).loc Cert.ReferenceAdamIdeal.main_arg38) = m ((c.tc : Thread Cert.ReferenceAdamIdeal.nD Cert.ReferenceAdamIdeal.τ).loc Cert.ReferenceAdamIdeal.main_arg38)
      ∧ r.2.mem ((c.tc : Thread Cert.ReferenceAdamIdeal.nD Cert.ReferenceAdamIdeal.τ).loc Cert.ReferenceAdamIdeal.main_arg39) = m ((c.tc : Thread Cert.ReferenceAdamIdeal.nD Cert.ReferenceAdamIdeal.τ).loc Cert.ReferenceAdamIdeal.main_arg39)
      ∧ r.2.mem ((c.tc : Thread Cert.ReferenceAdamIdeal.nD Cert.ReferenceAdamIdeal.τ).loc Cert.ReferenceAdamIdeal.main_arg40) = m ((c.tc : Thread Cert.ReferenceAdamIdeal.nD Cert.ReferenceAdamIdeal.τ).loc Cert.ReferenceAdamIdeal.main_arg40)
      ∧ r.2.mem ((c.tc : Thread Cert.ReferenceAdamIdeal.nD Cert.ReferenceAdamIdeal.τ).loc Cert.ReferenceAdamIdeal.main_arg41) = m ((c.tc : Thread Cert.ReferenceAdamIdeal.nD Cert.ReferenceAdamIdeal.τ).loc Cert.ReferenceAdamIdeal.main_arg41)
      ∧ r.2.mem ((c.tc : Thread Cert.ReferenceAdamIdeal.nD Cert.ReferenceAdamIdeal.τ).loc Cert.ReferenceAdamIdeal.main_arg42) = m ((c.tc : Thread Cert.ReferenceAdamIdeal.nD Cert.ReferenceAdamIdeal.τ).loc Cert.ReferenceAdamIdeal.main_arg42)
      ∧ r.2.mem ((c.tc : Thread Cert.ReferenceAdamIdeal.nD Cert.ReferenceAdamIdeal.τ).loc Cert.ReferenceAdamIdeal.main_arg43) = m ((c.tc : Thread Cert.ReferenceAdamIdeal.nD Cert.ReferenceAdamIdeal.τ).loc Cert.ReferenceAdamIdeal.main_arg43))
      ∧ r.2.sem = fun _ => 0)

def quiescent_KernelSum [hKernelSum : Cert.KernelSum.Facts] : Prop :=
  ∀ (m : (ℓ : Loc Cert.KernelSum.nD Cert.KernelSum.τ Cert.KernelSum.sig) → Buf (Elt Bits) ℓ) (g : Dev Cert.KernelSum.nD → PrngReg), Pre_KernelSum m →
    θ_run (Cert.KernelSum.defs (F := Bits)) (onTc (τ := Cert.KernelSum.τ) (Cert.KernelSum.main (F := Bits))) ⟨m, fun _ => 0, g⟩ (fun r => (∀ c : Dev Cert.KernelSum.nD,
      r.2.mem ((c.tc : Thread Cert.KernelSum.nD Cert.KernelSum.τ).loc Cert.KernelSum.main_arg0) = m ((c.tc : Thread Cert.KernelSum.nD Cert.KernelSum.τ).loc Cert.KernelSum.main_arg0)
      ∧ r.2.mem ((c.tc : Thread Cert.KernelSum.nD Cert.KernelSum.τ).loc Cert.KernelSum.main_arg1) = m ((c.tc : Thread Cert.KernelSum.nD Cert.KernelSum.τ).loc Cert.KernelSum.main_arg1))
      ∧ r.2.sem = fun _ => 0)

def quiescent_KernelSumIdeal [hKernelSumIdeal : Cert.KernelSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg), Pre_KernelSumIdeal m →
    θ_run (Cert.KernelSumIdeal.defs (F := Ideal)) (onTc (τ := Cert.KernelSumIdeal.τ) (Cert.KernelSumIdeal.main (F := Ideal))) ⟨m, fun _ => 0, g⟩ (fun r => (∀ c : Dev Cert.KernelSumIdeal.nD,
      r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0)
      ∧ r.2.mem ((c.tc : Thread Cert.KernelSumIdeal.nD Cert.KernelSumIdeal.τ).loc Cert.KernelSumIdeal.main_arg1) = m ((c.tc : Thread Cert.KernelSumIdeal.nD Cert.KernelSumIdeal.τ).loc Cert.KernelSumIdeal.main_arg1))
      ∧ r.2.sem = fun _ => 0)

def quiescent_ReferenceSumIdeal [hReferenceSumIdeal : Cert.ReferenceSumIdeal.Facts] : Prop :=
  ∀ (m : (ℓ : Loc Cert.ReferenceSumIdeal.nD Cert.ReferenceSumIdeal.τ Cert.ReferenceSumIdeal.sig) → Buf (Elt Ideal) ℓ) (g : Dev Cert.ReferenceSumIdeal.nD → PrngReg), Pre_ReferenceSumIdeal m →
    θ_run (Cert.ReferenceSumIdeal.defs (F := Ideal)) (onTc (τ := Cert.ReferenceSumIdeal.τ) (Cert.ReferenceSumIdeal.main (F := Ideal))) ⟨m, fun _ => 0, g⟩ (fun r => (∀ c : Dev Cert.ReferenceSumIdeal.nD,
      r.2.mem ((c.tc : Thread Cert.ReferenceSumIdeal.nD Cert.ReferenceSumIdeal.τ).loc Cert.ReferenceSumIdeal.main_arg0) = m ((c.tc : Thread Cert.ReferenceSumIdeal.nD Cert.ReferenceSumIdeal.τ).loc Cert.ReferenceSumIdeal.main_arg0)
      ∧ r.2.mem ((c.tc : Thread Cert.ReferenceSumIdeal.nD Cert.ReferenceSumIdeal.τ).loc Cert.ReferenceSumIdeal.main_arg1) = m ((c.tc : Thread Cert.ReferenceSumIdeal.nD Cert.ReferenceSumIdeal.τ).loc Cert.ReferenceSumIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDh2_KernelDh2Ideal : Prop :=
  True

def algebraic_KernelDh2Ideal_ReferenceDh2Ideal [hKernelDh2Ideal : Cert.KernelDh2Ideal.Facts] [hReferenceDh2Ideal : Cert.ReferenceDh2Ideal.Facts] : Prop :=
  ∀ (m : (ℓ : Loc Cert.KernelDh2Ideal.nD Cert.KernelDh2Ideal.τ Cert.KernelDh2Ideal.sig) → Buf (Elt Ideal) ℓ) (g : Dev Cert.KernelDh2Ideal.nD → PrngReg)
    (m' : (ℓ : Loc Cert.ReferenceDh2Ideal.nD Cert.ReferenceDh2Ideal.τ Cert.ReferenceDh2Ideal.sig) → Buf (Elt Ideal) ℓ) (g' : Dev Cert.ReferenceDh2Ideal.nD → PrngReg), Pre_KernelDh2Ideal m →
    (∀ c : Dev Cert.KernelDh2Ideal.nD,
      m' ((c.tc : Thread Cert.ReferenceDh2Ideal.nD Cert.ReferenceDh2Ideal.τ).loc Cert.ReferenceDh2Ideal.main_arg0) = m ((c.tc : Thread Cert.KernelDh2Ideal.nD Cert.KernelDh2Ideal.τ).loc Cert.KernelDh2Ideal.main_arg0)
      ∧ m' ((c.tc : Thread Cert.ReferenceDh2Ideal.nD Cert.ReferenceDh2Ideal.τ).loc Cert.ReferenceDh2Ideal.main_arg1) = m ((c.tc : Thread Cert.KernelDh2Ideal.nD Cert.KernelDh2Ideal.τ).loc Cert.KernelDh2Ideal.main_arg1)
      ∧ m' ((c.tc : Thread Cert.ReferenceDh2Ideal.nD Cert.ReferenceDh2Ideal.τ).loc Cert.ReferenceDh2Ideal.main_arg2) = m ((c.tc : Thread Cert.KernelDh2Ideal.nD Cert.KernelDh2Ideal.τ).loc Cert.KernelDh2Ideal.main_arg2)
      ∧ m' ((c.tc : Thread Cert.ReferenceDh2Ideal.nD Cert.ReferenceDh2Ideal.τ).loc Cert.ReferenceDh2Ideal.main_arg3) = m ((c.tc : Thread Cert.KernelDh2Ideal.nD Cert.KernelDh2Ideal.τ).loc Cert.KernelDh2Ideal.main_arg3)
      ∧ m' ((c.tc : Thread Cert.ReferenceDh2Ideal.nD Cert.ReferenceDh2Ideal.τ).loc Cert.ReferenceDh2Ideal.main_arg4) = m ((c.tc : Thread Cert.KernelDh2Ideal.nD Cert.KernelDh2Ideal.τ).loc Cert.KernelDh2Ideal.main_arg4)
      ∧ m' ((c.tc : Thread Cert.ReferenceDh2Ideal.nD Cert.ReferenceDh2Ideal.τ).loc Cert.ReferenceDh2Ideal.main_arg5) = m ((c.tc : Thread Cert.KernelDh2Ideal.nD Cert.KernelDh2Ideal.τ).loc Cert.KernelDh2Ideal.main_arg5)
      ∧ m' ((c.tc : Thread Cert.ReferenceDh2Ideal.nD Cert.ReferenceDh2Ideal.τ).loc Cert.ReferenceDh2Ideal.main_arg6) = m ((c.tc : Thread Cert.KernelDh2Ideal.nD Cert.KernelDh2Ideal.τ).loc Cert.KernelDh2Ideal.main_arg6)) →
    ∃ (v0 : (c : Dev Cert.KernelDh2Ideal.nD) → Buf (Elt Ideal) ((c.tc : Thread Cert.KernelDh2Ideal.nD Cert.KernelDh2Ideal.τ).loc Cert.KernelDh2Ideal.main_v0_0)) (v1 : (c : Dev Cert.KernelDh2Ideal.nD) → Buf (Elt Ideal) ((c.tc : Thread Cert.KernelDh2Ideal.nD Cert.KernelDh2Ideal.τ).loc Cert.KernelDh2Ideal.main_v0_1)),
      θ_run (Cert.KernelDh2Ideal.defs (F := Ideal)) (onTc (τ := Cert.KernelDh2Ideal.τ) (Cert.KernelDh2Ideal.main (F := Ideal))) ⟨m, fun _ => 0, g⟩ (fun r => ∀ c : Dev Cert.KernelDh2Ideal.nD,
          r.2.mem ((c.tc : Thread Cert.KernelDh2Ideal.nD Cert.KernelDh2Ideal.τ).loc Cert.KernelDh2Ideal.main_v0_0) = v0 c
          ∧ r.2.mem ((c.tc : Thread Cert.KernelDh2Ideal.nD Cert.KernelDh2Ideal.τ).loc Cert.KernelDh2Ideal.main_v0_1) = v1 c
          ∧ r.2.mem ((c.tc : Thread Cert.KernelDh2Ideal.nD Cert.KernelDh2Ideal.τ).loc Cert.KernelDh2Ideal.main_arg0) = m ((c.tc : Thread Cert.KernelDh2Ideal.nD Cert.KernelDh2Ideal.τ).loc Cert.KernelDh2Ideal.main_arg0)
          ∧ r.2.mem ((c.tc : Thread Cert.KernelDh2Ideal.nD Cert.KernelDh2Ideal.τ).loc Cert.KernelDh2Ideal.main_arg1) = m ((c.tc : Thread Cert.KernelDh2Ideal.nD Cert.KernelDh2Ideal.τ).loc Cert.KernelDh2Ideal.main_arg1)
          ∧ r.2.mem ((c.tc : Thread Cert.KernelDh2Ideal.nD Cert.KernelDh2Ideal.τ).loc Cert.KernelDh2Ideal.main_arg2) = m ((c.tc : Thread Cert.KernelDh2Ideal.nD Cert.KernelDh2Ideal.τ).loc Cert.KernelDh2Ideal.main_arg2)
          ∧ r.2.mem ((c.tc : Thread Cert.KernelDh2Ideal.nD Cert.KernelDh2Ideal.τ).loc Cert.KernelDh2Ideal.main_arg3) = m ((c.tc : Thread Cert.KernelDh2Ideal.nD Cert.KernelDh2Ideal.τ).loc Cert.KernelDh2Ideal.main_arg3)
          ∧ r.2.mem ((c.tc : Thread Cert.KernelDh2Ideal.nD Cert.KernelDh2Ideal.τ).loc Cert.KernelDh2Ideal.main_arg4) = m ((c.tc : Thread Cert.KernelDh2Ideal.nD Cert.KernelDh2Ideal.τ).loc Cert.KernelDh2Ideal.main_arg4)
          ∧ r.2.mem ((c.tc : Thread Cert.KernelDh2Ideal.nD Cert.KernelDh2Ideal.τ).loc Cert.KernelDh2Ideal.main_arg5) = m ((c.tc : Thread Cert.KernelDh2Ideal.nD Cert.KernelDh2Ideal.τ).loc Cert.KernelDh2Ideal.main_arg5)
          ∧ r.2.mem ((c.tc : Thread Cert.KernelDh2Ideal.nD Cert.KernelDh2Ideal.τ).loc Cert.KernelDh2Ideal.main_arg6) = m ((c.tc : Thread Cert.KernelDh2Ideal.nD Cert.KernelDh2Ideal.τ).loc Cert.KernelDh2Ideal.main_arg6))
      ∧ θ_run (Cert.ReferenceDh2Ideal.defs (F := Ideal)) (onTc (τ := Cert.ReferenceDh2Ideal.τ) (Cert.ReferenceDh2Ideal.main (F := Ideal))) ⟨m', fun _ => 0, g'⟩ (fun r => ∀ c : Dev Cert.ReferenceDh2Ideal.nD,
          r.2.mem ((c.tc : Thread Cert.ReferenceDh2Ideal.nD Cert.ReferenceDh2Ideal.τ).loc Cert.ReferenceDh2Ideal.main_v40) = v0 c
          ∧ r.2.mem ((c.tc : Thread Cert.ReferenceDh2Ideal.nD Cert.ReferenceDh2Ideal.τ).loc Cert.ReferenceDh2Ideal.main_v43) = v1 c
          ∧ r.2.mem ((c.tc : Thread Cert.ReferenceDh2Ideal.nD Cert.ReferenceDh2Ideal.τ).loc Cert.ReferenceDh2Ideal.main_arg0) = m' ((c.tc : Thread Cert.ReferenceDh2Ideal.nD Cert.ReferenceDh2Ideal.τ).loc Cert.ReferenceDh2Ideal.main_arg0)
          ∧ r.2.mem ((c.tc : Thread Cert.ReferenceDh2Ideal.nD Cert.ReferenceDh2Ideal.τ).loc Cert.ReferenceDh2Ideal.main_arg1) = m' ((c.tc : Thread Cert.ReferenceDh2Ideal.nD Cert.ReferenceDh2Ideal.τ).loc Cert.ReferenceDh2Ideal.main_arg1)
          ∧ r.2.mem ((c.tc : Thread Cert.ReferenceDh2Ideal.nD Cert.ReferenceDh2Ideal.τ).loc Cert.ReferenceDh2Ideal.main_arg2) = m' ((c.tc : Thread Cert.ReferenceDh2Ideal.nD Cert.ReferenceDh2Ideal.τ).loc Cert.ReferenceDh2Ideal.main_arg2)
          ∧ r.2.mem ((c.tc : Thread Cert.ReferenceDh2Ideal.nD Cert.ReferenceDh2Ideal.τ).loc Cert.ReferenceDh2Ideal.main_arg3) = m' ((c.tc : Thread Cert.ReferenceDh2Ideal.nD Cert.ReferenceDh2Ideal.τ).loc Cert.ReferenceDh2Ideal.main_arg3)
          ∧ r.2.mem ((c.tc : Thread Cert.ReferenceDh2Ideal.nD Cert.ReferenceDh2Ideal.τ).loc Cert.ReferenceDh2Ideal.main_arg4) = m' ((c.tc : Thread Cert.ReferenceDh2Ideal.nD Cert.ReferenceDh2Ideal.τ).loc Cert.ReferenceDh2Ideal.main_arg4)
          ∧ r.2.mem ((c.tc : Thread Cert.ReferenceDh2Ideal.nD Cert.ReferenceDh2Ideal.τ).loc Cert.ReferenceDh2Ideal.main_arg5) = m' ((c.tc : Thread Cert.ReferenceDh2Ideal.nD Cert.ReferenceDh2Ideal.τ).loc Cert.ReferenceDh2Ideal.main_arg5)
          ∧ r.2.mem ((c.tc : Thread Cert.ReferenceDh2Ideal.nD Cert.ReferenceDh2Ideal.τ).loc Cert.ReferenceDh2Ideal.main_arg6) = m' ((c.tc : Thread Cert.ReferenceDh2Ideal.nD Cert.ReferenceDh2Ideal.τ).loc Cert.ReferenceDh2Ideal.main_arg6))

def preserves_KernelDwup_KernelDwupIdeal : Prop :=
  True

def algebraic_KernelDwupIdeal_ReferenceDwupIdeal [hKernelDwupIdeal : Cert.KernelDwupIdeal.Facts] [hReferenceDwupIdeal : Cert.ReferenceDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg)
    (m' : (ℓ : Loc Cert.ReferenceDwupIdeal.nD Cert.ReferenceDwupIdeal.τ Cert.ReferenceDwupIdeal.sig) → Buf (Elt Ideal) ℓ) (g' : Dev Cert.ReferenceDwupIdeal.nD → PrngReg), Pre_KernelDwupIdeal m →
    (∀ c : Dev Cert.KernelDwupIdeal.nD,
      m' ((c.tc : Thread Cert.ReferenceDwupIdeal.nD Cert.ReferenceDwupIdeal.τ).loc Cert.ReferenceDwupIdeal.main_arg0) = m ((c.tc : Thread Cert.KernelDwupIdeal.nD Cert.KernelDwupIdeal.τ).loc Cert.KernelDwupIdeal.main_arg0)
      ∧ m' ((c.tc : Thread Cert.ReferenceDwupIdeal.nD Cert.ReferenceDwupIdeal.τ).loc Cert.ReferenceDwupIdeal.main_arg1) = m ((c.tc : Thread Cert.KernelDwupIdeal.nD Cert.KernelDwupIdeal.τ).loc Cert.KernelDwupIdeal.main_arg1)
      ∧ m' ((c.tc : Thread Cert.ReferenceDwupIdeal.nD Cert.ReferenceDwupIdeal.τ).loc Cert.ReferenceDwupIdeal.main_arg2) = m ((c.tc : Thread Cert.KernelDwupIdeal.nD Cert.KernelDwupIdeal.τ).loc Cert.KernelDwupIdeal.main_arg2)
      ∧ m' ((c.tc : Thread Cert.ReferenceDwupIdeal.nD Cert.ReferenceDwupIdeal.τ).loc Cert.ReferenceDwupIdeal.main_arg3) = m ((c.tc : Thread Cert.KernelDwupIdeal.nD Cert.KernelDwupIdeal.τ).loc Cert.KernelDwupIdeal.main_arg3)) →
    ∃ (v0 : (c : Dev Cert.KernelDwupIdeal.nD) → Buf (Elt Ideal) ((c.tc : Thread Cert.KernelDwupIdeal.nD Cert.KernelDwupIdeal.τ).loc Cert.KernelDwupIdeal.main_v0)),
      θ_run (Cert.KernelDwupIdeal.defs (F := Ideal)) (onTc (τ := Cert.KernelDwupIdeal.τ) (Cert.KernelDwupIdeal.main (F := Ideal))) ⟨m, fun _ => 0, g⟩ (fun r => ∀ c : Dev Cert.KernelDwupIdeal.nD,
          r.2.mem ((c.tc : Thread Cert.KernelDwupIdeal.nD Cert.KernelDwupIdeal.τ).loc Cert.KernelDwupIdeal.main_v0) = v0 c
          ∧ r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
          ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1)
          ∧ r.2.mem ((c.tc : Thread Cert.KernelDwupIdeal.nD Cert.KernelDwupIdeal.τ).loc Cert.KernelDwupIdeal.main_arg2) = m ((c.tc : Thread Cert.KernelDwupIdeal.nD Cert.KernelDwupIdeal.τ).loc Cert.KernelDwupIdeal.main_arg2)
          ∧ r.2.mem ((c.tc : Thread Cert.KernelDwupIdeal.nD Cert.KernelDwupIdeal.τ).loc Cert.KernelDwupIdeal.main_arg3) = m ((c.tc : Thread Cert.KernelDwupIdeal.nD Cert.KernelDwupIdeal.τ).loc Cert.KernelDwupIdeal.main_arg3))
      ∧ θ_run (Cert.ReferenceDwupIdeal.defs (F := Ideal)) (onTc (τ := Cert.ReferenceDwupIdeal.τ) (Cert.ReferenceDwupIdeal.main (F := Ideal))) ⟨m', fun _ => 0, g'⟩ (fun r => ∀ c : Dev Cert.ReferenceDwupIdeal.nD,
          r.2.mem ((c.tc : Thread Cert.ReferenceDwupIdeal.nD Cert.ReferenceDwupIdeal.τ).loc Cert.ReferenceDwupIdeal.main_v20) = v0 c
          ∧ r.2.mem ((c.tc : Thread Cert.ReferenceDwupIdeal.nD Cert.ReferenceDwupIdeal.τ).loc Cert.ReferenceDwupIdeal.main_arg0) = m' ((c.tc : Thread Cert.ReferenceDwupIdeal.nD Cert.ReferenceDwupIdeal.τ).loc Cert.ReferenceDwupIdeal.main_arg0)
          ∧ r.2.mem ((c.tc : Thread Cert.ReferenceDwupIdeal.nD Cert.ReferenceDwupIdeal.τ).loc Cert.ReferenceDwupIdeal.main_arg1) = m' ((c.tc : Thread Cert.ReferenceDwupIdeal.nD Cert.ReferenceDwupIdeal.τ).loc Cert.ReferenceDwupIdeal.main_arg1)
          ∧ r.2.mem ((c.tc : Thread Cert.ReferenceDwupIdeal.nD Cert.ReferenceDwupIdeal.τ).loc Cert.ReferenceDwupIdeal.main_arg2) = m' ((c.tc : Thread Cert.ReferenceDwupIdeal.nD Cert.ReferenceDwupIdeal.τ).loc Cert.ReferenceDwupIdeal.main_arg2)
          ∧ r.2.mem ((c.tc : Thread Cert.ReferenceDwupIdeal.nD Cert.ReferenceDwupIdeal.τ).loc Cert.ReferenceDwupIdeal.main_arg3) = m' ((c.tc : Thread Cert.ReferenceDwupIdeal.nD Cert.ReferenceDwupIdeal.τ).loc Cert.ReferenceDwupIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v14) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDact_KernelDactIdeal : Prop :=
  True

def algebraic_KernelDactIdeal_ReferenceDactIdeal [hKernelDactIdeal : Cert.KernelDactIdeal.Facts] [hReferenceDactIdeal : Cert.ReferenceDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_KernelDactIdeal m →
    (∀ c : Dev Cert.KernelDactIdeal.nD,
      m' ((c.tc : Thread Cert.ReferenceDactIdeal.nD Cert.ReferenceDactIdeal.τ).loc Cert.ReferenceDactIdeal.main_arg0) = m ((c.tc : Thread Cert.KernelDactIdeal.nD Cert.KernelDactIdeal.τ).loc Cert.KernelDactIdeal.main_arg0)
      ∧ m' ((c.tc : Thread Cert.ReferenceDactIdeal.nD Cert.ReferenceDactIdeal.τ).loc Cert.ReferenceDactIdeal.main_arg1) = m ((c.tc : Thread Cert.KernelDactIdeal.nD Cert.KernelDactIdeal.τ).loc Cert.KernelDactIdeal.main_arg1)) →
    ∃ (v0 : (c : Dev Cert.KernelDactIdeal.nD) → Buf (Elt Ideal) ((c.tc : Thread Cert.KernelDactIdeal.nD Cert.KernelDactIdeal.τ).loc Cert.KernelDactIdeal.main_v0)),
      θ_run (Cert.KernelDactIdeal.defs (F := Ideal)) (onTc (τ := Cert.KernelDactIdeal.τ) (Cert.KernelDactIdeal.main (F := Ideal))) ⟨m, fun _ => 0, g⟩ (fun r => ∀ c : Dev Cert.KernelDactIdeal.nD,
          r.2.mem ((c.tc : Thread Cert.KernelDactIdeal.nD Cert.KernelDactIdeal.τ).loc Cert.KernelDactIdeal.main_v0) = v0 c
          ∧ r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
          ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v4) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1))

def preserves_KernelDwdown_KernelDwdownIdeal : Prop :=
  True

def algebraic_KernelDwdownIdeal_ReferenceDwdownIdeal [hKernelDwdownIdeal : Cert.KernelDwdownIdeal.Facts] [hReferenceDwdownIdeal : Cert.ReferenceDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg)
    (m' : (ℓ : Loc Cert.ReferenceDwdownIdeal.nD Cert.ReferenceDwdownIdeal.τ Cert.ReferenceDwdownIdeal.sig) → Buf (Elt Ideal) ℓ) (g' : Dev Cert.ReferenceDwdownIdeal.nD → PrngReg), Pre_KernelDwdownIdeal m →
    (∀ c : Dev Cert.KernelDwdownIdeal.nD,
      m' ((c.tc : Thread Cert.ReferenceDwdownIdeal.nD Cert.ReferenceDwdownIdeal.τ).loc Cert.ReferenceDwdownIdeal.main_arg0) = m ((c.tc : Thread Cert.KernelDwdownIdeal.nD Cert.KernelDwdownIdeal.τ).loc Cert.KernelDwdownIdeal.main_arg0)
      ∧ m' ((c.tc : Thread Cert.ReferenceDwdownIdeal.nD Cert.ReferenceDwdownIdeal.τ).loc Cert.ReferenceDwdownIdeal.main_arg1) = m ((c.tc : Thread Cert.KernelDwdownIdeal.nD Cert.KernelDwdownIdeal.τ).loc Cert.KernelDwdownIdeal.main_arg1)) →
    ∃ (v0 : (c : Dev Cert.KernelDwdownIdeal.nD) → Buf (Elt Ideal) ((c.tc : Thread Cert.KernelDwdownIdeal.nD Cert.KernelDwdownIdeal.τ).loc Cert.KernelDwdownIdeal.main_v0)),
      θ_run (Cert.KernelDwdownIdeal.defs (F := Ideal)) (onTc (τ := Cert.KernelDwdownIdeal.τ) (Cert.KernelDwdownIdeal.main (F := Ideal))) ⟨m, fun _ => 0, g⟩ (fun r => ∀ c : Dev Cert.KernelDwdownIdeal.nD,
          r.2.mem ((c.tc : Thread Cert.KernelDwdownIdeal.nD Cert.KernelDwdownIdeal.τ).loc Cert.KernelDwdownIdeal.main_v0) = v0 c
          ∧ r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
          ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1))
      ∧ θ_run (Cert.ReferenceDwdownIdeal.defs (F := Ideal)) (onTc (τ := Cert.ReferenceDwdownIdeal.τ) (Cert.ReferenceDwdownIdeal.main (F := Ideal))) ⟨m', fun _ => 0, g'⟩ (fun r => ∀ c : Dev Cert.ReferenceDwdownIdeal.nD,
          r.2.mem ((c.tc : Thread Cert.ReferenceDwdownIdeal.nD Cert.ReferenceDwdownIdeal.τ).loc Cert.ReferenceDwdownIdeal.main_v5) = v0 c
          ∧ r.2.mem ((c.tc : Thread Cert.ReferenceDwdownIdeal.nD Cert.ReferenceDwdownIdeal.τ).loc Cert.ReferenceDwdownIdeal.main_arg0) = m' ((c.tc : Thread Cert.ReferenceDwdownIdeal.nD Cert.ReferenceDwdownIdeal.τ).loc Cert.ReferenceDwdownIdeal.main_arg0)
          ∧ r.2.mem ((c.tc : Thread Cert.ReferenceDwdownIdeal.nD Cert.ReferenceDwdownIdeal.τ).loc Cert.ReferenceDwdownIdeal.main_arg1) = m' ((c.tc : Thread Cert.ReferenceDwdownIdeal.nD Cert.ReferenceDwdownIdeal.τ).loc Cert.ReferenceDwdownIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)
      ∧ m' ((c.tc : Thread Cert.ReferenceDhIdeal.nD Cert.ReferenceDhIdeal.τ).loc Cert.ReferenceDhIdeal.main_arg5) = m ((c.tc : Thread Cert.KernelDhIdeal.nD Cert.KernelDhIdeal.τ).loc Cert.KernelDhIdeal.main_arg5)) →
    ∃ (v0 : (c : Dev Cert.KernelDhIdeal.nD) → Buf (Elt Ideal) ((c.tc : Thread Cert.KernelDhIdeal.nD Cert.KernelDhIdeal.τ).loc Cert.KernelDhIdeal.main_v0_0)) (v1 : (c : Dev Cert.KernelDhIdeal.nD) → Buf (Elt Ideal) ((c.tc : Thread Cert.KernelDhIdeal.nD Cert.KernelDhIdeal.τ).loc Cert.KernelDhIdeal.main_v0_1)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0_0) = v0 c
          ∧ r.2.mem ((c.tc : Thread Cert.KernelDhIdeal.nD Cert.KernelDhIdeal.τ).loc Cert.KernelDhIdeal.main_v0_1) = v1 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
          ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v39) = v0 c
          ∧ r.2.mem ((c.tc : Thread Cert.ReferenceDhIdeal.nD Cert.ReferenceDhIdeal.τ).loc Cert.ReferenceDhIdeal.main_v42) = v1 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4)
          ∧ r.2.mem ((c.tc : Thread Cert.ReferenceDhIdeal.nD Cert.ReferenceDhIdeal.τ).loc Cert.ReferenceDhIdeal.main_arg5) = m' ((c.tc : Thread Cert.ReferenceDhIdeal.nD Cert.ReferenceDhIdeal.τ).loc Cert.ReferenceDhIdeal.main_arg5))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)
      ∧ m' ((c.tc : Thread Cert.ReferenceDwinIdeal.nD Cert.ReferenceDwinIdeal.τ).loc Cert.ReferenceDwinIdeal.main_arg2) = m ((c.tc : Thread Cert.KernelDwinIdeal.nD Cert.KernelDwinIdeal.τ).loc Cert.KernelDwinIdeal.main_arg2)) →
    ∃ (v0 : (c : Dev Cert.KernelDwinIdeal.nD) → Buf (Elt Ideal) ((c.tc : Thread Cert.KernelDwinIdeal.nD Cert.KernelDwinIdeal.τ).loc Cert.KernelDwinIdeal.main_v0)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v0) = v0 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1)
          ∧ r.2.mem ((c.tc : Thread Cert.KernelDwinIdeal.nD Cert.KernelDwinIdeal.τ).loc Cert.KernelDwinIdeal.main_arg2) = m ((c.tc : Thread Cert.KernelDwinIdeal.nD Cert.KernelDwinIdeal.τ).loc Cert.KernelDwinIdeal.main_arg2))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v19) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1)
          ∧ r.2.mem ((c.tc : Thread Cert.ReferenceDwinIdeal.nD Cert.ReferenceDwinIdeal.τ).loc Cert.ReferenceDwinIdeal.main_arg2) = m' ((c.tc : Thread Cert.ReferenceDwinIdeal.nD Cert.ReferenceDwinIdeal.τ).loc Cert.ReferenceDwinIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v14) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelDy_KernelDyIdeal : Prop :=
  True

def algebraic_KernelDyIdeal_ReferenceDyIdeal [hKernelDyIdeal : Cert.KernelDyIdeal.Facts] [hReferenceDyIdeal : Cert.ReferenceDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg)
    (m' : (ℓ : Loc Cert.ReferenceDyIdeal.nD Cert.ReferenceDyIdeal.τ Cert.ReferenceDyIdeal.sig) → Buf (Elt Ideal) ℓ) (g' : Dev Cert.ReferenceDyIdeal.nD → PrngReg), Pre_KernelDyIdeal m →
    (∀ c : Dev Cert.KernelDyIdeal.nD,
      m' ((c.tc : Thread Cert.ReferenceDyIdeal.nD Cert.ReferenceDyIdeal.τ).loc Cert.ReferenceDyIdeal.main_arg0) = m ((c.tc : Thread Cert.KernelDyIdeal.nD Cert.KernelDyIdeal.τ).loc Cert.KernelDyIdeal.main_arg0)
      ∧ m' ((c.tc : Thread Cert.ReferenceDyIdeal.nD Cert.ReferenceDyIdeal.τ).loc Cert.ReferenceDyIdeal.main_arg1) = m ((c.tc : Thread Cert.KernelDyIdeal.nD Cert.KernelDyIdeal.τ).loc Cert.KernelDyIdeal.main_arg1)) →
    ∃ (v0 : (c : Dev Cert.KernelDyIdeal.nD) → Buf (Elt Ideal) ((c.tc : Thread Cert.KernelDyIdeal.nD Cert.KernelDyIdeal.τ).loc Cert.KernelDyIdeal.main_v0)),
      θ_run (Cert.KernelDyIdeal.defs (F := Ideal)) (onTc (τ := Cert.KernelDyIdeal.τ) (Cert.KernelDyIdeal.main (F := Ideal))) ⟨m, fun _ => 0, g⟩ (fun r => ∀ c : Dev Cert.KernelDyIdeal.nD,
          r.2.mem ((c.tc : Thread Cert.KernelDyIdeal.nD Cert.KernelDyIdeal.τ).loc Cert.KernelDyIdeal.main_v0) = v0 c
          ∧ r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
          ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1))
      ∧ θ_run (Cert.ReferenceDyIdeal.defs (F := Ideal)) (onTc (τ := Cert.ReferenceDyIdeal.τ) (Cert.ReferenceDyIdeal.main (F := Ideal))) ⟨m', fun _ => 0, g'⟩ (fun r => ∀ c : Dev Cert.ReferenceDyIdeal.nD,
          r.2.mem ((c.tc : Thread Cert.ReferenceDyIdeal.nD Cert.ReferenceDyIdeal.τ).loc Cert.ReferenceDyIdeal.main_v3) = v0 c
          ∧ r.2.mem ((c.tc : Thread Cert.ReferenceDyIdeal.nD Cert.ReferenceDyIdeal.τ).loc Cert.ReferenceDyIdeal.main_arg0) = m' ((c.tc : Thread Cert.ReferenceDyIdeal.nD Cert.ReferenceDyIdeal.τ).loc Cert.ReferenceDyIdeal.main_arg0)
          ∧ r.2.mem ((c.tc : Thread Cert.ReferenceDyIdeal.nD Cert.ReferenceDyIdeal.τ).loc Cert.ReferenceDyIdeal.main_arg1) = m' ((c.tc : Thread Cert.ReferenceDyIdeal.nD Cert.ReferenceDyIdeal.τ).loc Cert.ReferenceDyIdeal.main_arg1))

def preserves_KernelDwout_KernelDwoutIdeal : Prop :=
  True

def algebraic_KernelDwoutIdeal_ReferenceDwoutIdeal [hKernelDwoutIdeal : Cert.KernelDwoutIdeal.Facts] [hReferenceDwoutIdeal : Cert.ReferenceDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg)
    (m' : (ℓ : Loc Cert.ReferenceDwoutIdeal.nD Cert.ReferenceDwoutIdeal.τ Cert.ReferenceDwoutIdeal.sig) → Buf (Elt Ideal) ℓ) (g' : Dev Cert.ReferenceDwoutIdeal.nD → PrngReg), Pre_KernelDwoutIdeal m →
    (∀ c : Dev Cert.KernelDwoutIdeal.nD,
      m' ((c.tc : Thread Cert.ReferenceDwoutIdeal.nD Cert.ReferenceDwoutIdeal.τ).loc Cert.ReferenceDwoutIdeal.main_arg0) = m ((c.tc : Thread Cert.KernelDwoutIdeal.nD Cert.KernelDwoutIdeal.τ).loc Cert.KernelDwoutIdeal.main_arg0)
      ∧ m' ((c.tc : Thread Cert.ReferenceDwoutIdeal.nD Cert.ReferenceDwoutIdeal.τ).loc Cert.ReferenceDwoutIdeal.main_arg1) = m ((c.tc : Thread Cert.KernelDwoutIdeal.nD Cert.KernelDwoutIdeal.τ).loc Cert.KernelDwoutIdeal.main_arg1)) →
    ∃ (v0 : (c : Dev Cert.KernelDwoutIdeal.nD) → Buf (Elt Ideal) ((c.tc : Thread Cert.KernelDwoutIdeal.nD Cert.KernelDwoutIdeal.τ).loc Cert.KernelDwoutIdeal.main_v0)),
      θ_run (Cert.KernelDwoutIdeal.defs (F := Ideal)) (onTc (τ := Cert.KernelDwoutIdeal.τ) (Cert.KernelDwoutIdeal.main (F := Ideal))) ⟨m, fun _ => 0, g⟩ (fun r => ∀ c : Dev Cert.KernelDwoutIdeal.nD,
          r.2.mem ((c.tc : Thread Cert.KernelDwoutIdeal.nD Cert.KernelDwoutIdeal.τ).loc Cert.KernelDwoutIdeal.main_v0) = v0 c
          ∧ r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
          ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ θ_run (Cert.ReferenceDwoutIdeal.defs (F := Ideal)) (onTc (τ := Cert.ReferenceDwoutIdeal.τ) (Cert.ReferenceDwoutIdeal.main (F := Ideal))) ⟨m', fun _ => 0, g'⟩ (fun r => ∀ c : Dev Cert.ReferenceDwoutIdeal.nD,
          r.2.mem ((c.tc : Thread Cert.ReferenceDwoutIdeal.nD Cert.ReferenceDwoutIdeal.τ).loc Cert.ReferenceDwoutIdeal.main_v5) = v0 c
          ∧ r.2.mem ((c.tc : Thread Cert.ReferenceDwoutIdeal.nD Cert.ReferenceDwoutIdeal.τ).loc Cert.ReferenceDwoutIdeal.main_arg0) = m' ((c.tc : Thread Cert.ReferenceDwoutIdeal.nD Cert.ReferenceDwoutIdeal.τ).loc Cert.ReferenceDwoutIdeal.main_arg0)
          ∧ r.2.mem ((c.tc : Thread Cert.ReferenceDwoutIdeal.nD Cert.ReferenceDwoutIdeal.τ).loc Cert.ReferenceDwoutIdeal.main_arg1) = m' ((c.tc : Thread Cert.ReferenceDwoutIdeal.nD Cert.ReferenceDwoutIdeal.τ).loc Cert.ReferenceDwoutIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)) →
    ∃ (v0 : (c : Dev Cert.KernelActIdeal.nD) → Buf (Elt Ideal) ((c.tc : Thread Cert.KernelActIdeal.nD Cert.KernelActIdeal.τ).loc Cert.KernelActIdeal.main_v0)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v20) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v49) = v0 c
          ∧ r.2.mem ((c.tc : Thread Cert.ReferenceLossIdeal.nD Cert.ReferenceLossIdeal.τ).loc Cert.ReferenceLossIdeal.main_v48) = v1 c
          ∧ r.2.mem ((c.tc : Thread Cert.ReferenceLossIdeal.nD Cert.ReferenceLossIdeal.τ).loc Cert.ReferenceLossIdeal.main_v32) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)) →
    ∃ (v0 : (c : Dev Cert.KernelMixIdeal.nD) → Buf (Elt Ideal) ((c.tc : Thread Cert.KernelMixIdeal.nD Cert.KernelMixIdeal.τ).loc Cert.KernelMixIdeal.main_v0_0)) (v1 : (c : Dev Cert.KernelMixIdeal.nD) → Buf (Elt Ideal) ((c.tc : Thread Cert.KernelMixIdeal.nD Cert.KernelMixIdeal.τ).loc Cert.KernelMixIdeal.main_v0_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0_0) = v0 c
          ∧ r.2.mem ((c.tc : Thread Cert.KernelMixIdeal.nD Cert.KernelMixIdeal.τ).loc Cert.KernelMixIdeal.main_v0_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v251) = v0 c
          ∧ r.2.mem ((c.tc : Thread Cert.ReferenceMixIdeal.nD Cert.ReferenceMixIdeal.τ).loc Cert.ReferenceMixIdeal.main_v187) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)
      ∧ m' ((c.tc : Thread Cert.ReferenceAdamIdeal.nD Cert.ReferenceAdamIdeal.τ).loc Cert.ReferenceAdamIdeal.main_arg4) = m ((c.tc : Thread Cert.KernelAdamIdeal.nD Cert.KernelAdamIdeal.τ).loc Cert.KernelAdamIdeal.main_arg4)
      ∧ m' ((c.tc : Thread Cert.ReferenceAdamIdeal.nD Cert.ReferenceAdamIdeal.τ).loc Cert.ReferenceAdamIdeal.main_arg5) = m ((c.tc : Thread Cert.KernelAdamIdeal.nD Cert.KernelAdamIdeal.τ).loc Cert.KernelAdamIdeal.main_arg5)
      ∧ m' ((c.tc : Thread Cert.ReferenceAdamIdeal.nD Cert.ReferenceAdamIdeal.τ).loc Cert.ReferenceAdamIdeal.main_arg6) = m ((c.tc : Thread Cert.KernelAdamIdeal.nD Cert.KernelAdamIdeal.τ).loc Cert.KernelAdamIdeal.main_arg6)
      ∧ m' ((c.tc : Thread Cert.ReferenceAdamIdeal.nD Cert.ReferenceAdamIdeal.τ).loc Cert.ReferenceAdamIdeal.main_arg7) = m ((c.tc : Thread Cert.KernelAdamIdeal.nD Cert.KernelAdamIdeal.τ).loc Cert.KernelAdamIdeal.main_arg7)
      ∧ m' ((c.tc : Thread Cert.ReferenceAdamIdeal.nD Cert.ReferenceAdamIdeal.τ).loc Cert.ReferenceAdamIdeal.main_arg8) = m ((c.tc : Thread Cert.KernelAdamIdeal.nD Cert.KernelAdamIdeal.τ).loc Cert.KernelAdamIdeal.main_arg8)
      ∧ m' ((c.tc : Thread Cert.ReferenceAdamIdeal.nD Cert.ReferenceAdamIdeal.τ).loc Cert.ReferenceAdamIdeal.main_arg9) = m ((c.tc : Thread Cert.KernelAdamIdeal.nD Cert.KernelAdamIdeal.τ).loc Cert.KernelAdamIdeal.main_arg9)
      ∧ m' ((c.tc : Thread Cert.ReferenceAdamIdeal.nD Cert.ReferenceAdamIdeal.τ).loc Cert.ReferenceAdamIdeal.main_arg10) = m ((c.tc : Thread Cert.KernelAdamIdeal.nD Cert.KernelAdamIdeal.τ).loc Cert.KernelAdamIdeal.main_arg10)
      ∧ m' ((c.tc : Thread Cert.ReferenceAdamIdeal.nD Cert.ReferenceAdamIdeal.τ).loc Cert.ReferenceAdamIdeal.main_arg11) = m ((c.tc : Thread Cert.KernelAdamIdeal.nD Cert.KernelAdamIdeal.τ).loc Cert.KernelAdamIdeal.main_arg11)
      ∧ m' ((c.tc : Thread Cert.ReferenceAdamIdeal.nD Cert.ReferenceAdamIdeal.τ).loc Cert.ReferenceAdamIdeal.main_arg12) = m ((c.tc : Thread Cert.KernelAdamIdeal.nD Cert.KernelAdamIdeal.τ).loc Cert.KernelAdamIdeal.main_arg12)
      ∧ m' ((c.tc : Thread Cert.ReferenceAdamIdeal.nD Cert.ReferenceAdamIdeal.τ).loc Cert.ReferenceAdamIdeal.main_arg13) = m ((c.tc : Thread Cert.KernelAdamIdeal.nD Cert.KernelAdamIdeal.τ).loc Cert.KernelAdamIdeal.main_arg13)
      ∧ m' ((c.tc : Thread Cert.ReferenceAdamIdeal.nD Cert.ReferenceAdamIdeal.τ).loc Cert.ReferenceAdamIdeal.main_arg14) = m ((c.tc : Thread Cert.KernelAdamIdeal.nD Cert.KernelAdamIdeal.τ).loc Cert.KernelAdamIdeal.main_arg14)
      ∧ m' ((c.tc : Thread Cert.ReferenceAdamIdeal.nD Cert.ReferenceAdamIdeal.τ).loc Cert.ReferenceAdamIdeal.main_arg15) = m ((c.tc : Thread Cert.KernelAdamIdeal.nD Cert.KernelAdamIdeal.τ).loc Cert.KernelAdamIdeal.main_arg15)
      ∧ m' ((c.tc : Thread Cert.ReferenceAdamIdeal.nD Cert.ReferenceAdamIdeal.τ).loc Cert.ReferenceAdamIdeal.main_arg16) = m ((c.tc : Thread Cert.KernelAdamIdeal.nD Cert.KernelAdamIdeal.τ).loc Cert.KernelAdamIdeal.main_arg16)
      ∧ m' ((c.tc : Thread Cert.ReferenceAdamIdeal.nD Cert.ReferenceAdamIdeal.τ).loc Cert.ReferenceAdamIdeal.main_arg17) = m ((c.tc : Thread Cert.KernelAdamIdeal.nD Cert.KernelAdamIdeal.τ).loc Cert.KernelAdamIdeal.main_arg17)
      ∧ m' ((c.tc : Thread Cert.ReferenceAdamIdeal.nD Cert.ReferenceAdamIdeal.τ).loc Cert.ReferenceAdamIdeal.main_arg18) = m ((c.tc : Thread Cert.KernelAdamIdeal.nD Cert.KernelAdamIdeal.τ).loc Cert.KernelAdamIdeal.main_arg18)
      ∧ m' ((c.tc : Thread Cert.ReferenceAdamIdeal.nD Cert.ReferenceAdamIdeal.τ).loc Cert.ReferenceAdamIdeal.main_arg19) = m ((c.tc : Thread Cert.KernelAdamIdeal.nD Cert.KernelAdamIdeal.τ).loc Cert.KernelAdamIdeal.main_arg19)
      ∧ m' ((c.tc : Thread Cert.ReferenceAdamIdeal.nD Cert.ReferenceAdamIdeal.τ).loc Cert.ReferenceAdamIdeal.main_arg20) = m ((c.tc : Thread Cert.KernelAdamIdeal.nD Cert.KernelAdamIdeal.τ).loc Cert.KernelAdamIdeal.main_arg20)
      ∧ m' ((c.tc : Thread Cert.ReferenceAdamIdeal.nD Cert.ReferenceAdamIdeal.τ).loc Cert.ReferenceAdamIdeal.main_arg21) = m ((c.tc : Thread Cert.KernelAdamIdeal.nD Cert.KernelAdamIdeal.τ).loc Cert.KernelAdamIdeal.main_arg21)
      ∧ m' ((c.tc : Thread Cert.ReferenceAdamIdeal.nD Cert.ReferenceAdamIdeal.τ).loc Cert.ReferenceAdamIdeal.main_arg22) = m ((c.tc : Thread Cert.KernelAdamIdeal.nD Cert.KernelAdamIdeal.τ).loc Cert.KernelAdamIdeal.main_arg22)
      ∧ m' ((c.tc : Thread Cert.ReferenceAdamIdeal.nD Cert.ReferenceAdamIdeal.τ).loc Cert.ReferenceAdamIdeal.main_arg23) = m ((c.tc : Thread Cert.KernelAdamIdeal.nD Cert.KernelAdamIdeal.τ).loc Cert.KernelAdamIdeal.main_arg23)
      ∧ m' ((c.tc : Thread Cert.ReferenceAdamIdeal.nD Cert.ReferenceAdamIdeal.τ).loc Cert.ReferenceAdamIdeal.main_arg24) = m ((c.tc : Thread Cert.KernelAdamIdeal.nD Cert.KernelAdamIdeal.τ).loc Cert.KernelAdamIdeal.main_arg24)
      ∧ m' ((c.tc : Thread Cert.ReferenceAdamIdeal.nD Cert.ReferenceAdamIdeal.τ).loc Cert.ReferenceAdamIdeal.main_arg25) = m ((c.tc : Thread Cert.KernelAdamIdeal.nD Cert.KernelAdamIdeal.τ).loc Cert.KernelAdamIdeal.main_arg25)
      ∧ m' ((c.tc : Thread Cert.ReferenceAdamIdeal.nD Cert.ReferenceAdamIdeal.τ).loc Cert.ReferenceAdamIdeal.main_arg26) = m ((c.tc : Thread Cert.KernelAdamIdeal.nD Cert.KernelAdamIdeal.τ).loc Cert.KernelAdamIdeal.main_arg26)
      ∧ m' ((c.tc : Thread Cert.ReferenceAdamIdeal.nD Cert.ReferenceAdamIdeal.τ).loc Cert.ReferenceAdamIdeal.main_arg27) = m ((c.tc : Thread Cert.KernelAdamIdeal.nD Cert.KernelAdamIdeal.τ).loc Cert.KernelAdamIdeal.main_arg27)
      ∧ m' ((c.tc : Thread Cert.ReferenceAdamIdeal.nD Cert.ReferenceAdamIdeal.τ).loc Cert.ReferenceAdamIdeal.main_arg28) = m ((c.tc : Thread Cert.KernelAdamIdeal.nD Cert.KernelAdamIdeal.τ).loc Cert.KernelAdamIdeal.main_arg28)
      ∧ m' ((c.tc : Thread Cert.ReferenceAdamIdeal.nD Cert.ReferenceAdamIdeal.τ).loc Cert.ReferenceAdamIdeal.main_arg29) = m ((c.tc : Thread Cert.KernelAdamIdeal.nD Cert.KernelAdamIdeal.τ).loc Cert.KernelAdamIdeal.main_arg29)
      ∧ m' ((c.tc : Thread Cert.ReferenceAdamIdeal.nD Cert.ReferenceAdamIdeal.τ).loc Cert.ReferenceAdamIdeal.main_arg30) = m ((c.tc : Thread Cert.KernelAdamIdeal.nD Cert.KernelAdamIdeal.τ).loc Cert.KernelAdamIdeal.main_arg30)
      ∧ m' ((c.tc : Thread Cert.ReferenceAdamIdeal.nD Cert.ReferenceAdamIdeal.τ).loc Cert.ReferenceAdamIdeal.main_arg31) = m ((c.tc : Thread Cert.KernelAdamIdeal.nD Cert.KernelAdamIdeal.τ).loc Cert.KernelAdamIdeal.main_arg31)
      ∧ m' ((c.tc : Thread Cert.ReferenceAdamIdeal.nD Cert.ReferenceAdamIdeal.τ).loc Cert.ReferenceAdamIdeal.main_arg32) = m ((c.tc : Thread Cert.KernelAdamIdeal.nD Cert.KernelAdamIdeal.τ).loc Cert.KernelAdamIdeal.main_arg32)
      ∧ m' ((c.tc : Thread Cert.ReferenceAdamIdeal.nD Cert.ReferenceAdamIdeal.τ).loc Cert.ReferenceAdamIdeal.main_arg33) = m ((c.tc : Thread Cert.KernelAdamIdeal.nD Cert.KernelAdamIdeal.τ).loc Cert.KernelAdamIdeal.main_arg33)
      ∧ m' ((c.tc : Thread Cert.ReferenceAdamIdeal.nD Cert.ReferenceAdamIdeal.τ).loc Cert.ReferenceAdamIdeal.main_arg34) = m ((c.tc : Thread Cert.KernelAdamIdeal.nD Cert.KernelAdamIdeal.τ).loc Cert.KernelAdamIdeal.main_arg34)
      ∧ m' ((c.tc : Thread Cert.ReferenceAdamIdeal.nD Cert.ReferenceAdamIdeal.τ).loc Cert.ReferenceAdamIdeal.main_arg35) = m ((c.tc : Thread Cert.KernelAdamIdeal.nD Cert.KernelAdamIdeal.τ).loc Cert.KernelAdamIdeal.main_arg35)
      ∧ m' ((c.tc : Thread Cert.ReferenceAdamIdeal.nD Cert.ReferenceAdamIdeal.τ).loc Cert.ReferenceAdamIdeal.main_arg36) = m ((c.tc : Thread Cert.KernelAdamIdeal.nD Cert.KernelAdamIdeal.τ).loc Cert.KernelAdamIdeal.main_arg36)
      ∧ m' ((c.tc : Thread Cert.ReferenceAdamIdeal.nD Cert.ReferenceAdamIdeal.τ).loc Cert.ReferenceAdamIdeal.main_arg37) = m ((c.tc : Thread Cert.KernelAdamIdeal.nD Cert.KernelAdamIdeal.τ).loc Cert.KernelAdamIdeal.main_arg37)
      ∧ m' ((c.tc : Thread Cert.ReferenceAdamIdeal.nD Cert.ReferenceAdamIdeal.τ).loc Cert.ReferenceAdamIdeal.main_arg38) = m ((c.tc : Thread Cert.KernelAdamIdeal.nD Cert.KernelAdamIdeal.τ).loc Cert.KernelAdamIdeal.main_arg38)
      ∧ m' ((c.tc : Thread Cert.ReferenceAdamIdeal.nD Cert.ReferenceAdamIdeal.τ).loc Cert.ReferenceAdamIdeal.main_arg39) = m ((c.tc : Thread Cert.KernelAdamIdeal.nD Cert.KernelAdamIdeal.τ).loc Cert.KernelAdamIdeal.main_arg39)
      ∧ m' ((c.tc : Thread Cert.ReferenceAdamIdeal.nD Cert.ReferenceAdamIdeal.τ).loc Cert.ReferenceAdamIdeal.main_arg40) = m ((c.tc : Thread Cert.KernelAdamIdeal.nD Cert.KernelAdamIdeal.τ).loc Cert.KernelAdamIdeal.main_arg40)
      ∧ m' ((c.tc : Thread Cert.ReferenceAdamIdeal.nD Cert.ReferenceAdamIdeal.τ).loc Cert.ReferenceAdamIdeal.main_arg41) = m ((c.tc : Thread Cert.KernelAdamIdeal.nD Cert.KernelAdamIdeal.τ).loc Cert.KernelAdamIdeal.main_arg41)
      ∧ m' ((c.tc : Thread Cert.ReferenceAdamIdeal.nD Cert.ReferenceAdamIdeal.τ).loc Cert.ReferenceAdamIdeal.main_arg42) = m ((c.tc : Thread Cert.KernelAdamIdeal.nD Cert.KernelAdamIdeal.τ).loc Cert.KernelAdamIdeal.main_arg42)
      ∧ m' ((c.tc : Thread Cert.ReferenceAdamIdeal.nD Cert.ReferenceAdamIdeal.τ).loc Cert.ReferenceAdamIdeal.main_arg43) = m ((c.tc : Thread Cert.KernelAdamIdeal.nD Cert.KernelAdamIdeal.τ).loc Cert.KernelAdamIdeal.main_arg43)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)) (v4 : (c : Dev Cert.KernelAdamIdeal.nD) → Buf (Elt Ideal) ((c.tc : Thread Cert.KernelAdamIdeal.nD Cert.KernelAdamIdeal.τ).loc Cert.KernelAdamIdeal.main_v0_4)) (v5 : (c : Dev Cert.KernelAdamIdeal.nD) → Buf (Elt Ideal) ((c.tc : Thread Cert.KernelAdamIdeal.nD Cert.KernelAdamIdeal.τ).loc Cert.KernelAdamIdeal.main_v0_5)) (v6 : (c : Dev Cert.KernelAdamIdeal.nD) → Buf (Elt Ideal) ((c.tc : Thread Cert.KernelAdamIdeal.nD Cert.KernelAdamIdeal.τ).loc Cert.KernelAdamIdeal.main_v0_6)) (v7 : (c : Dev Cert.KernelAdamIdeal.nD) → Buf (Elt Ideal) ((c.tc : Thread Cert.KernelAdamIdeal.nD Cert.KernelAdamIdeal.τ).loc Cert.KernelAdamIdeal.main_v0_7)) (v8 : (c : Dev Cert.KernelAdamIdeal.nD) → Buf (Elt Ideal) ((c.tc : Thread Cert.KernelAdamIdeal.nD Cert.KernelAdamIdeal.τ).loc Cert.KernelAdamIdeal.main_v0_8)) (v9 : (c : Dev Cert.KernelAdamIdeal.nD) → Buf (Elt Ideal) ((c.tc : Thread Cert.KernelAdamIdeal.nD Cert.KernelAdamIdeal.τ).loc Cert.KernelAdamIdeal.main_v0_9)) (v10 : (c : Dev Cert.KernelAdamIdeal.nD) → Buf (Elt Ideal) ((c.tc : Thread Cert.KernelAdamIdeal.nD Cert.KernelAdamIdeal.τ).loc Cert.KernelAdamIdeal.main_v0_10)) (v11 : (c : Dev Cert.KernelAdamIdeal.nD) → Buf (Elt Ideal) ((c.tc : Thread Cert.KernelAdamIdeal.nD Cert.KernelAdamIdeal.τ).loc Cert.KernelAdamIdeal.main_v0_11)) (v12 : (c : Dev Cert.KernelAdamIdeal.nD) → Buf (Elt Ideal) ((c.tc : Thread Cert.KernelAdamIdeal.nD Cert.KernelAdamIdeal.τ).loc Cert.KernelAdamIdeal.main_v0_12)) (v13 : (c : Dev Cert.KernelAdamIdeal.nD) → Buf (Elt Ideal) ((c.tc : Thread Cert.KernelAdamIdeal.nD Cert.KernelAdamIdeal.τ).loc Cert.KernelAdamIdeal.main_v0_13)) (v14 : (c : Dev Cert.KernelAdamIdeal.nD) → Buf (Elt Ideal) ((c.tc : Thread Cert.KernelAdamIdeal.nD Cert.KernelAdamIdeal.τ).loc Cert.KernelAdamIdeal.main_v0_14)) (v15 : (c : Dev Cert.KernelAdamIdeal.nD) → Buf (Elt Ideal) ((c.tc : Thread Cert.KernelAdamIdeal.nD Cert.KernelAdamIdeal.τ).loc Cert.KernelAdamIdeal.main_v0_15)) (v16 : (c : Dev Cert.KernelAdamIdeal.nD) → Buf (Elt Ideal) ((c.tc : Thread Cert.KernelAdamIdeal.nD Cert.KernelAdamIdeal.τ).loc Cert.KernelAdamIdeal.main_v0_16)) (v17 : (c : Dev Cert.KernelAdamIdeal.nD) → Buf (Elt Ideal) ((c.tc : Thread Cert.KernelAdamIdeal.nD Cert.KernelAdamIdeal.τ).loc Cert.KernelAdamIdeal.main_v0_17)) (v18 : (c : Dev Cert.KernelAdamIdeal.nD) → Buf (Elt Ideal) ((c.tc : Thread Cert.KernelAdamIdeal.nD Cert.KernelAdamIdeal.τ).loc Cert.KernelAdamIdeal.main_v0_18)) (v19 : (c : Dev Cert.KernelAdamIdeal.nD) → Buf (Elt Ideal) ((c.tc : Thread Cert.KernelAdamIdeal.nD Cert.KernelAdamIdeal.τ).loc Cert.KernelAdamIdeal.main_v0_19)) (v20 : (c : Dev Cert.KernelAdamIdeal.nD) → Buf (Elt Ideal) ((c.tc : Thread Cert.KernelAdamIdeal.nD Cert.KernelAdamIdeal.τ).loc Cert.KernelAdamIdeal.main_v0_20)) (v21 : (c : Dev Cert.KernelAdamIdeal.nD) → Buf (Elt Ideal) ((c.tc : Thread Cert.KernelAdamIdeal.nD Cert.KernelAdamIdeal.τ).loc Cert.KernelAdamIdeal.main_v0_21)) (v22 : (c : Dev Cert.KernelAdamIdeal.nD) → Buf (Elt Ideal) ((c.tc : Thread Cert.KernelAdamIdeal.nD Cert.KernelAdamIdeal.τ).loc Cert.KernelAdamIdeal.main_v0_22)) (v23 : (c : Dev Cert.KernelAdamIdeal.nD) → Buf (Elt Ideal) ((c.tc : Thread Cert.KernelAdamIdeal.nD Cert.KernelAdamIdeal.τ).loc Cert.KernelAdamIdeal.main_v0_23)) (v24 : (c : Dev Cert.KernelAdamIdeal.nD) → Buf (Elt Ideal) ((c.tc : Thread Cert.KernelAdamIdeal.nD Cert.KernelAdamIdeal.τ).loc Cert.KernelAdamIdeal.main_v0_24)) (v25 : (c : Dev Cert.KernelAdamIdeal.nD) → Buf (Elt Ideal) ((c.tc : Thread Cert.KernelAdamIdeal.nD Cert.KernelAdamIdeal.τ).loc Cert.KernelAdamIdeal.main_v0_25)) (v26 : (c : Dev Cert.KernelAdamIdeal.nD) → Buf (Elt Ideal) ((c.tc : Thread Cert.KernelAdamIdeal.nD Cert.KernelAdamIdeal.τ).loc Cert.KernelAdamIdeal.main_v0_26)) (v27 : (c : Dev Cert.KernelAdamIdeal.nD) → Buf (Elt Ideal) ((c.tc : Thread Cert.KernelAdamIdeal.nD Cert.KernelAdamIdeal.τ).loc Cert.KernelAdamIdeal.main_v0_27)) (v28 : (c : Dev Cert.KernelAdamIdeal.nD) → Buf (Elt Ideal) ((c.tc : Thread Cert.KernelAdamIdeal.nD Cert.KernelAdamIdeal.τ).loc Cert.KernelAdamIdeal.main_v0_28)) (v29 : (c : Dev Cert.KernelAdamIdeal.nD) → Buf (Elt Ideal) ((c.tc : Thread Cert.KernelAdamIdeal.nD Cert.KernelAdamIdeal.τ).loc Cert.KernelAdamIdeal.main_v0_29)) (v30 : (c : Dev Cert.KernelAdamIdeal.nD) → Buf (Elt Ideal) ((c.tc : Thread Cert.KernelAdamIdeal.nD Cert.KernelAdamIdeal.τ).loc Cert.KernelAdamIdeal.main_v0_30)) (v31 : (c : Dev Cert.KernelAdamIdeal.nD) → Buf (Elt Ideal) ((c.tc : Thread Cert.KernelAdamIdeal.nD Cert.KernelAdamIdeal.τ).loc Cert.KernelAdamIdeal.main_v0_31)) (v32 : (c : Dev Cert.KernelAdamIdeal.nD) → Buf (Elt Ideal) ((c.tc : Thread Cert.KernelAdamIdeal.nD Cert.KernelAdamIdeal.τ).loc Cert.KernelAdamIdeal.main_v0_32)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_v0_4) = v4 c
          ∧ r.2.mem ((c.tc : Thread Cert.KernelAdamIdeal.nD Cert.KernelAdamIdeal.τ).loc Cert.KernelAdamIdeal.main_v0_5) = v5 c
          ∧ r.2.mem ((c.tc : Thread Cert.KernelAdamIdeal.nD Cert.KernelAdamIdeal.τ).loc Cert.KernelAdamIdeal.main_v0_6) = v6 c
          ∧ r.2.mem ((c.tc : Thread Cert.KernelAdamIdeal.nD Cert.KernelAdamIdeal.τ).loc Cert.KernelAdamIdeal.main_v0_7) = v7 c
          ∧ r.2.mem ((c.tc : Thread Cert.KernelAdamIdeal.nD Cert.KernelAdamIdeal.τ).loc Cert.KernelAdamIdeal.main_v0_8) = v8 c
          ∧ r.2.mem ((c.tc : Thread Cert.KernelAdamIdeal.nD Cert.KernelAdamIdeal.τ).loc Cert.KernelAdamIdeal.main_v0_9) = v9 c
          ∧ r.2.mem ((c.tc : Thread Cert.KernelAdamIdeal.nD Cert.KernelAdamIdeal.τ).loc Cert.KernelAdamIdeal.main_v0_10) = v10 c
          ∧ r.2.mem ((c.tc : Thread Cert.KernelAdamIdeal.nD Cert.KernelAdamIdeal.τ).loc Cert.KernelAdamIdeal.main_v0_11) = v11 c
          ∧ r.2.mem ((c.tc : Thread Cert.KernelAdamIdeal.nD Cert.KernelAdamIdeal.τ).loc Cert.KernelAdamIdeal.main_v0_12) = v12 c
          ∧ r.2.mem ((c.tc : Thread Cert.KernelAdamIdeal.nD Cert.KernelAdamIdeal.τ).loc Cert.KernelAdamIdeal.main_v0_13) = v13 c
          ∧ r.2.mem ((c.tc : Thread Cert.KernelAdamIdeal.nD Cert.KernelAdamIdeal.τ).loc Cert.KernelAdamIdeal.main_v0_14) = v14 c
          ∧ r.2.mem ((c.tc : Thread Cert.KernelAdamIdeal.nD Cert.KernelAdamIdeal.τ).loc Cert.KernelAdamIdeal.main_v0_15) = v15 c
          ∧ r.2.mem ((c.tc : Thread Cert.KernelAdamIdeal.nD Cert.KernelAdamIdeal.τ).loc Cert.KernelAdamIdeal.main_v0_16) = v16 c
          ∧ r.2.mem ((c.tc : Thread Cert.KernelAdamIdeal.nD Cert.KernelAdamIdeal.τ).loc Cert.KernelAdamIdeal.main_v0_17) = v17 c
          ∧ r.2.mem ((c.tc : Thread Cert.KernelAdamIdeal.nD Cert.KernelAdamIdeal.τ).loc Cert.KernelAdamIdeal.main_v0_18) = v18 c
          ∧ r.2.mem ((c.tc : Thread Cert.KernelAdamIdeal.nD Cert.KernelAdamIdeal.τ).loc Cert.KernelAdamIdeal.main_v0_19) = v19 c
          ∧ r.2.mem ((c.tc : Thread Cert.KernelAdamIdeal.nD Cert.KernelAdamIdeal.τ).loc Cert.KernelAdamIdeal.main_v0_20) = v20 c
          ∧ r.2.mem ((c.tc : Thread Cert.KernelAdamIdeal.nD Cert.KernelAdamIdeal.τ).loc Cert.KernelAdamIdeal.main_v0_21) = v21 c
          ∧ r.2.mem ((c.tc : Thread Cert.KernelAdamIdeal.nD Cert.KernelAdamIdeal.τ).loc Cert.KernelAdamIdeal.main_v0_22) = v22 c
          ∧ r.2.mem ((c.tc : Thread Cert.KernelAdamIdeal.nD Cert.KernelAdamIdeal.τ).loc Cert.KernelAdamIdeal.main_v0_23) = v23 c
          ∧ r.2.mem ((c.tc : Thread Cert.KernelAdamIdeal.nD Cert.KernelAdamIdeal.τ).loc Cert.KernelAdamIdeal.main_v0_24) = v24 c
          ∧ r.2.mem ((c.tc : Thread Cert.KernelAdamIdeal.nD Cert.KernelAdamIdeal.τ).loc Cert.KernelAdamIdeal.main_v0_25) = v25 c
          ∧ r.2.mem ((c.tc : Thread Cert.KernelAdamIdeal.nD Cert.KernelAdamIdeal.τ).loc Cert.KernelAdamIdeal.main_v0_26) = v26 c
          ∧ r.2.mem ((c.tc : Thread Cert.KernelAdamIdeal.nD Cert.KernelAdamIdeal.τ).loc Cert.KernelAdamIdeal.main_v0_27) = v27 c
          ∧ r.2.mem ((c.tc : Thread Cert.KernelAdamIdeal.nD Cert.KernelAdamIdeal.τ).loc Cert.KernelAdamIdeal.main_v0_28) = v28 c
          ∧ r.2.mem ((c.tc : Thread Cert.KernelAdamIdeal.nD Cert.KernelAdamIdeal.τ).loc Cert.KernelAdamIdeal.main_v0_29) = v29 c
          ∧ r.2.mem ((c.tc : Thread Cert.KernelAdamIdeal.nD Cert.KernelAdamIdeal.τ).loc Cert.KernelAdamIdeal.main_v0_30) = v30 c
          ∧ r.2.mem ((c.tc : Thread Cert.KernelAdamIdeal.nD Cert.KernelAdamIdeal.τ).loc Cert.KernelAdamIdeal.main_v0_31) = v31 c
          ∧ r.2.mem ((c.tc : Thread Cert.KernelAdamIdeal.nD Cert.KernelAdamIdeal.τ).loc Cert.KernelAdamIdeal.main_v0_32) = v32 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3)
          ∧ r.2.mem ((c.tc : Thread Cert.KernelAdamIdeal.nD Cert.KernelAdamIdeal.τ).loc Cert.KernelAdamIdeal.main_arg4) = m ((c.tc : Thread Cert.KernelAdamIdeal.nD Cert.KernelAdamIdeal.τ).loc Cert.KernelAdamIdeal.main_arg4)
          ∧ r.2.mem ((c.tc : Thread Cert.KernelAdamIdeal.nD Cert.KernelAdamIdeal.τ).loc Cert.KernelAdamIdeal.main_arg5) = m ((c.tc : Thread Cert.KernelAdamIdeal.nD Cert.KernelAdamIdeal.τ).loc Cert.KernelAdamIdeal.main_arg5)
          ∧ r.2.mem ((c.tc : Thread Cert.KernelAdamIdeal.nD Cert.KernelAdamIdeal.τ).loc Cert.KernelAdamIdeal.main_arg6) = m ((c.tc : Thread Cert.KernelAdamIdeal.nD Cert.KernelAdamIdeal.τ).loc Cert.KernelAdamIdeal.main_arg6)
          ∧ r.2.mem ((c.tc : Thread Cert.KernelAdamIdeal.nD Cert.KernelAdamIdeal.τ).loc Cert.KernelAdamIdeal.main_arg7) = m ((c.tc : Thread Cert.KernelAdamIdeal.nD Cert.KernelAdamIdeal.τ).loc Cert.KernelAdamIdeal.main_arg7)
          ∧ r.2.mem ((c.tc : Thread Cert.KernelAdamIdeal.nD Cert.KernelAdamIdeal.τ).loc Cert.KernelAdamIdeal.main_arg8) = m ((c.tc : Thread Cert.KernelAdamIdeal.nD Cert.KernelAdamIdeal.τ).loc Cert.KernelAdamIdeal.main_arg8)
          ∧ r.2.mem ((c.tc : Thread Cert.KernelAdamIdeal.nD Cert.KernelAdamIdeal.τ).loc Cert.KernelAdamIdeal.main_arg9) = m ((c.tc : Thread Cert.KernelAdamIdeal.nD Cert.KernelAdamIdeal.τ).loc Cert.KernelAdamIdeal.main_arg9)
          ∧ r.2.mem ((c.tc : Thread Cert.KernelAdamIdeal.nD Cert.KernelAdamIdeal.τ).loc Cert.KernelAdamIdeal.main_arg10) = m ((c.tc : Thread Cert.KernelAdamIdeal.nD Cert.KernelAdamIdeal.τ).loc Cert.KernelAdamIdeal.main_arg10)
          ∧ r.2.mem ((c.tc : Thread Cert.KernelAdamIdeal.nD Cert.KernelAdamIdeal.τ).loc Cert.KernelAdamIdeal.main_arg11) = m ((c.tc : Thread Cert.KernelAdamIdeal.nD Cert.KernelAdamIdeal.τ).loc Cert.KernelAdamIdeal.main_arg11)
          ∧ r.2.mem ((c.tc : Thread Cert.KernelAdamIdeal.nD Cert.KernelAdamIdeal.τ).loc Cert.KernelAdamIdeal.main_arg12) = m ((c.tc : Thread Cert.KernelAdamIdeal.nD Cert.KernelAdamIdeal.τ).loc Cert.KernelAdamIdeal.main_arg12)
          ∧ r.2.mem ((c.tc : Thread Cert.KernelAdamIdeal.nD Cert.KernelAdamIdeal.τ).loc Cert.KernelAdamIdeal.main_arg13) = m ((c.tc : Thread Cert.KernelAdamIdeal.nD Cert.KernelAdamIdeal.τ).loc Cert.KernelAdamIdeal.main_arg13)
          ∧ r.2.mem ((c.tc : Thread Cert.KernelAdamIdeal.nD Cert.KernelAdamIdeal.τ).loc Cert.KernelAdamIdeal.main_arg14) = m ((c.tc : Thread Cert.KernelAdamIdeal.nD Cert.KernelAdamIdeal.τ).loc Cert.KernelAdamIdeal.main_arg14)
          ∧ r.2.mem ((c.tc : Thread Cert.KernelAdamIdeal.nD Cert.KernelAdamIdeal.τ).loc Cert.KernelAdamIdeal.main_arg15) = m ((c.tc : Thread Cert.KernelAdamIdeal.nD Cert.KernelAdamIdeal.τ).loc Cert.KernelAdamIdeal.main_arg15)
          ∧ r.2.mem ((c.tc : Thread Cert.KernelAdamIdeal.nD Cert.KernelAdamIdeal.τ).loc Cert.KernelAdamIdeal.main_arg16) = m ((c.tc : Thread Cert.KernelAdamIdeal.nD Cert.KernelAdamIdeal.τ).loc Cert.KernelAdamIdeal.main_arg16)
          ∧ r.2.mem ((c.tc : Thread Cert.KernelAdamIdeal.nD Cert.KernelAdamIdeal.τ).loc Cert.KernelAdamIdeal.main_arg17) = m ((c.tc : Thread Cert.KernelAdamIdeal.nD Cert.KernelAdamIdeal.τ).loc Cert.KernelAdamIdeal.main_arg17)
          ∧ r.2.mem ((c.tc : Thread Cert.KernelAdamIdeal.nD Cert.KernelAdamIdeal.τ).loc Cert.KernelAdamIdeal.main_arg18) = m ((c.tc : Thread Cert.KernelAdamIdeal.nD Cert.KernelAdamIdeal.τ).loc Cert.KernelAdamIdeal.main_arg18)
          ∧ r.2.mem ((c.tc : Thread Cert.KernelAdamIdeal.nD Cert.KernelAdamIdeal.τ).loc Cert.KernelAdamIdeal.main_arg19) = m ((c.tc : Thread Cert.KernelAdamIdeal.nD Cert.KernelAdamIdeal.τ).loc Cert.KernelAdamIdeal.main_arg19)
          ∧ r.2.mem ((c.tc : Thread Cert.KernelAdamIdeal.nD Cert.KernelAdamIdeal.τ).loc Cert.KernelAdamIdeal.main_arg20) = m ((c.tc : Thread Cert.KernelAdamIdeal.nD Cert.KernelAdamIdeal.τ).loc Cert.KernelAdamIdeal.main_arg20)
          ∧ r.2.mem ((c.tc : Thread Cert.KernelAdamIdeal.nD Cert.KernelAdamIdeal.τ).loc Cert.KernelAdamIdeal.main_arg21) = m ((c.tc : Thread Cert.KernelAdamIdeal.nD Cert.KernelAdamIdeal.τ).loc Cert.KernelAdamIdeal.main_arg21)
          ∧ r.2.mem ((c.tc : Thread Cert.KernelAdamIdeal.nD Cert.KernelAdamIdeal.τ).loc Cert.KernelAdamIdeal.main_arg22) = m ((c.tc : Thread Cert.KernelAdamIdeal.nD Cert.KernelAdamIdeal.τ).loc Cert.KernelAdamIdeal.main_arg22)
          ∧ r.2.mem ((c.tc : Thread Cert.KernelAdamIdeal.nD Cert.KernelAdamIdeal.τ).loc Cert.KernelAdamIdeal.main_arg23) = m ((c.tc : Thread Cert.KernelAdamIdeal.nD Cert.KernelAdamIdeal.τ).loc Cert.KernelAdamIdeal.main_arg23)
          ∧ r.2.mem ((c.tc : Thread Cert.KernelAdamIdeal.nD Cert.KernelAdamIdeal.τ).loc Cert.KernelAdamIdeal.main_arg24) = m ((c.tc : Thread Cert.KernelAdamIdeal.nD Cert.KernelAdamIdeal.τ).loc Cert.KernelAdamIdeal.main_arg24)
          ∧ r.2.mem ((c.tc : Thread Cert.KernelAdamIdeal.nD Cert.KernelAdamIdeal.τ).loc Cert.KernelAdamIdeal.main_arg25) = m ((c.tc : Thread Cert.KernelAdamIdeal.nD Cert.KernelAdamIdeal.τ).loc Cert.KernelAdamIdeal.main_arg25)
          ∧ r.2.mem ((c.tc : Thread Cert.KernelAdamIdeal.nD Cert.KernelAdamIdeal.τ).loc Cert.KernelAdamIdeal.main_arg26) = m ((c.tc : Thread Cert.KernelAdamIdeal.nD Cert.KernelAdamIdeal.τ).loc Cert.KernelAdamIdeal.main_arg26)
          ∧ r.2.mem ((c.tc : Thread Cert.KernelAdamIdeal.nD Cert.KernelAdamIdeal.τ).loc Cert.KernelAdamIdeal.main_arg27) = m ((c.tc : Thread Cert.KernelAdamIdeal.nD Cert.KernelAdamIdeal.τ).loc Cert.KernelAdamIdeal.main_arg27)
          ∧ r.2.mem ((c.tc : Thread Cert.KernelAdamIdeal.nD Cert.KernelAdamIdeal.τ).loc Cert.KernelAdamIdeal.main_arg28) = m ((c.tc : Thread Cert.KernelAdamIdeal.nD Cert.KernelAdamIdeal.τ).loc Cert.KernelAdamIdeal.main_arg28)
          ∧ r.2.mem ((c.tc : Thread Cert.KernelAdamIdeal.nD Cert.KernelAdamIdeal.τ).loc Cert.KernelAdamIdeal.main_arg29) = m ((c.tc : Thread Cert.KernelAdamIdeal.nD Cert.KernelAdamIdeal.τ).loc Cert.KernelAdamIdeal.main_arg29)
          ∧ r.2.mem ((c.tc : Thread Cert.KernelAdamIdeal.nD Cert.KernelAdamIdeal.τ).loc Cert.KernelAdamIdeal.main_arg30) = m ((c.tc : Thread Cert.KernelAdamIdeal.nD Cert.KernelAdamIdeal.τ).loc Cert.KernelAdamIdeal.main_arg30)
          ∧ r.2.mem ((c.tc : Thread Cert.KernelAdamIdeal.nD Cert.KernelAdamIdeal.τ).loc Cert.KernelAdamIdeal.main_arg31) = m ((c.tc : Thread Cert.KernelAdamIdeal.nD Cert.KernelAdamIdeal.τ).loc Cert.KernelAdamIdeal.main_arg31)
          ∧ r.2.mem ((c.tc : Thread Cert.KernelAdamIdeal.nD Cert.KernelAdamIdeal.τ).loc Cert.KernelAdamIdeal.main_arg32) = m ((c.tc : Thread Cert.KernelAdamIdeal.nD Cert.KernelAdamIdeal.τ).loc Cert.KernelAdamIdeal.main_arg32)
          ∧ r.2.mem ((c.tc : Thread Cert.KernelAdamIdeal.nD Cert.KernelAdamIdeal.τ).loc Cert.KernelAdamIdeal.main_arg33) = m ((c.tc : Thread Cert.KernelAdamIdeal.nD Cert.KernelAdamIdeal.τ).loc Cert.KernelAdamIdeal.main_arg33)
          ∧ r.2.mem ((c.tc : Thread Cert.KernelAdamIdeal.nD Cert.KernelAdamIdeal.τ).loc Cert.KernelAdamIdeal.main_arg34) = m ((c.tc : Thread Cert.KernelAdamIdeal.nD Cert.KernelAdamIdeal.τ).loc Cert.KernelAdamIdeal.main_arg34)
          ∧ r.2.mem ((c.tc : Thread Cert.KernelAdamIdeal.nD Cert.KernelAdamIdeal.τ).loc Cert.KernelAdamIdeal.main_arg35) = m ((c.tc : Thread Cert.KernelAdamIdeal.nD Cert.KernelAdamIdeal.τ).loc Cert.KernelAdamIdeal.main_arg35)
          ∧ r.2.mem ((c.tc : Thread Cert.KernelAdamIdeal.nD Cert.KernelAdamIdeal.τ).loc Cert.KernelAdamIdeal.main_arg36) = m ((c.tc : Thread Cert.KernelAdamIdeal.nD Cert.KernelAdamIdeal.τ).loc Cert.KernelAdamIdeal.main_arg36)
          ∧ r.2.mem ((c.tc : Thread Cert.KernelAdamIdeal.nD Cert.KernelAdamIdeal.τ).loc Cert.KernelAdamIdeal.main_arg37) = m ((c.tc : Thread Cert.KernelAdamIdeal.nD Cert.KernelAdamIdeal.τ).loc Cert.KernelAdamIdeal.main_arg37)
          ∧ r.2.mem ((c.tc : Thread Cert.KernelAdamIdeal.nD Cert.KernelAdamIdeal.τ).loc Cert.KernelAdamIdeal.main_arg38) = m ((c.tc : Thread Cert.KernelAdamIdeal.nD Cert.KernelAdamIdeal.τ).loc Cert.KernelAdamIdeal.main_arg38)
          ∧ r.2.mem ((c.tc : Thread Cert.KernelAdamIdeal.nD Cert.KernelAdamIdeal.τ).loc Cert.KernelAdamIdeal.main_arg39) = m ((c.tc : Thread Cert.KernelAdamIdeal.nD Cert.KernelAdamIdeal.τ).loc Cert.KernelAdamIdeal.main_arg39)
          ∧ r.2.mem ((c.tc : Thread Cert.KernelAdamIdeal.nD Cert.KernelAdamIdeal.τ).loc Cert.KernelAdamIdeal.main_arg40) = m ((c.tc : Thread Cert.KernelAdamIdeal.nD Cert.KernelAdamIdeal.τ).loc Cert.KernelAdamIdeal.main_arg40)
          ∧ r.2.mem ((c.tc : Thread Cert.KernelAdamIdeal.nD Cert.KernelAdamIdeal.τ).loc Cert.KernelAdamIdeal.main_arg41) = m ((c.tc : Thread Cert.KernelAdamIdeal.nD Cert.KernelAdamIdeal.τ).loc Cert.KernelAdamIdeal.main_arg41)
          ∧ r.2.mem ((c.tc : Thread Cert.KernelAdamIdeal.nD Cert.KernelAdamIdeal.τ).loc Cert.KernelAdamIdeal.main_arg42) = m ((c.tc : Thread Cert.KernelAdamIdeal.nD Cert.KernelAdamIdeal.τ).loc Cert.KernelAdamIdeal.main_arg42)
          ∧ r.2.mem ((c.tc : Thread Cert.KernelAdamIdeal.nD Cert.KernelAdamIdeal.τ).loc Cert.KernelAdamIdeal.main_arg43) = m ((c.tc : Thread Cert.KernelAdamIdeal.nD Cert.KernelAdamIdeal.τ).loc Cert.KernelAdamIdeal.main_arg43))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v23) = v0 c
          ∧ r.2.mem ((c.tc : Thread Cert.ReferenceAdamIdeal.nD Cert.ReferenceAdamIdeal.τ).loc Cert.ReferenceAdamIdeal.main_v47) = v1 c
          ∧ r.2.mem ((c.tc : Thread Cert.ReferenceAdamIdeal.nD Cert.ReferenceAdamIdeal.τ).loc Cert.ReferenceAdamIdeal.main_v71) = v2 c
          ∧ r.2.mem ((c.tc : Thread Cert.ReferenceAdamIdeal.nD Cert.ReferenceAdamIdeal.τ).loc Cert.ReferenceAdamIdeal.main_v95) = v3 c
          ∧ r.2.mem ((c.tc : Thread Cert.ReferenceAdamIdeal.nD Cert.ReferenceAdamIdeal.τ).loc Cert.ReferenceAdamIdeal.main_v119) = v4 c
          ∧ r.2.mem ((c.tc : Thread Cert.ReferenceAdamIdeal.nD Cert.ReferenceAdamIdeal.τ).loc Cert.ReferenceAdamIdeal.main_v143) = v5 c
          ∧ r.2.mem ((c.tc : Thread Cert.ReferenceAdamIdeal.nD Cert.ReferenceAdamIdeal.τ).loc Cert.ReferenceAdamIdeal.main_v167) = v6 c
          ∧ r.2.mem ((c.tc : Thread Cert.ReferenceAdamIdeal.nD Cert.ReferenceAdamIdeal.τ).loc Cert.ReferenceAdamIdeal.main_v191) = v7 c
          ∧ r.2.mem ((c.tc : Thread Cert.ReferenceAdamIdeal.nD Cert.ReferenceAdamIdeal.τ).loc Cert.ReferenceAdamIdeal.main_v215) = v8 c
          ∧ r.2.mem ((c.tc : Thread Cert.ReferenceAdamIdeal.nD Cert.ReferenceAdamIdeal.τ).loc Cert.ReferenceAdamIdeal.main_v239) = v9 c
          ∧ r.2.mem ((c.tc : Thread Cert.ReferenceAdamIdeal.nD Cert.ReferenceAdamIdeal.τ).loc Cert.ReferenceAdamIdeal.main_v263) = v10 c
          ∧ r.2.mem ((c.tc : Thread Cert.ReferenceAdamIdeal.nD Cert.ReferenceAdamIdeal.τ).loc Cert.ReferenceAdamIdeal.main_v4) = v11 c
          ∧ r.2.mem ((c.tc : Thread Cert.ReferenceAdamIdeal.nD Cert.ReferenceAdamIdeal.τ).loc Cert.ReferenceAdamIdeal.main_v28) = v12 c
          ∧ r.2.mem ((c.tc : Thread Cert.ReferenceAdamIdeal.nD Cert.ReferenceAdamIdeal.τ).loc Cert.ReferenceAdamIdeal.main_v52) = v13 c
          ∧ r.2.mem ((c.tc : Thread Cert.ReferenceAdamIdeal.nD Cert.ReferenceAdamIdeal.τ).loc Cert.ReferenceAdamIdeal.main_v76) = v14 c
          ∧ r.2.mem ((c.tc : Thread Cert.ReferenceAdamIdeal.nD Cert.ReferenceAdamIdeal.τ).loc Cert.ReferenceAdamIdeal.main_v100) = v15 c
          ∧ r.2.mem ((c.tc : Thread Cert.ReferenceAdamIdeal.nD Cert.ReferenceAdamIdeal.τ).loc Cert.ReferenceAdamIdeal.main_v124) = v16 c
          ∧ r.2.mem ((c.tc : Thread Cert.ReferenceAdamIdeal.nD Cert.ReferenceAdamIdeal.τ).loc Cert.ReferenceAdamIdeal.main_v148) = v17 c
          ∧ r.2.mem ((c.tc : Thread Cert.ReferenceAdamIdeal.nD Cert.ReferenceAdamIdeal.τ).loc Cert.ReferenceAdamIdeal.main_v172) = v18 c
          ∧ r.2.mem ((c.tc : Thread Cert.ReferenceAdamIdeal.nD Cert.ReferenceAdamIdeal.τ).loc Cert.ReferenceAdamIdeal.main_v196) = v19 c
          ∧ r.2.mem ((c.tc : Thread Cert.ReferenceAdamIdeal.nD Cert.ReferenceAdamIdeal.τ).loc Cert.ReferenceAdamIdeal.main_v220) = v20 c
          ∧ r.2.mem ((c.tc : Thread Cert.ReferenceAdamIdeal.nD Cert.ReferenceAdamIdeal.τ).loc Cert.ReferenceAdamIdeal.main_v244) = v21 c
          ∧ r.2.mem ((c.tc : Thread Cert.ReferenceAdamIdeal.nD Cert.ReferenceAdamIdeal.τ).loc Cert.ReferenceAdamIdeal.main_v10) = v22 c
          ∧ r.2.mem ((c.tc : Thread Cert.ReferenceAdamIdeal.nD Cert.ReferenceAdamIdeal.τ).loc Cert.ReferenceAdamIdeal.main_v34) = v23 c
          ∧ r.2.mem ((c.tc : Thread Cert.ReferenceAdamIdeal.nD Cert.ReferenceAdamIdeal.τ).loc Cert.ReferenceAdamIdeal.main_v58) = v24 c
          ∧ r.2.mem ((c.tc : Thread Cert.ReferenceAdamIdeal.nD Cert.ReferenceAdamIdeal.τ).loc Cert.ReferenceAdamIdeal.main_v82) = v25 c
          ∧ r.2.mem ((c.tc : Thread Cert.ReferenceAdamIdeal.nD Cert.ReferenceAdamIdeal.τ).loc Cert.ReferenceAdamIdeal.main_v106) = v26 c
          ∧ r.2.mem ((c.tc : Thread Cert.ReferenceAdamIdeal.nD Cert.ReferenceAdamIdeal.τ).loc Cert.ReferenceAdamIdeal.main_v130) = v27 c
          ∧ r.2.mem ((c.tc : Thread Cert.ReferenceAdamIdeal.nD Cert.ReferenceAdamIdeal.τ).loc Cert.ReferenceAdamIdeal.main_v154) = v28 c
          ∧ r.2.mem ((c.tc : Thread Cert.ReferenceAdamIdeal.nD Cert.ReferenceAdamIdeal.τ).loc Cert.ReferenceAdamIdeal.main_v178) = v29 c
          ∧ r.2.mem ((c.tc : Thread Cert.ReferenceAdamIdeal.nD Cert.ReferenceAdamIdeal.τ).loc Cert.ReferenceAdamIdeal.main_v202) = v30 c
          ∧ r.2.mem ((c.tc : Thread Cert.ReferenceAdamIdeal.nD Cert.ReferenceAdamIdeal.τ).loc Cert.ReferenceAdamIdeal.main_v226) = v31 c
          ∧ r.2.mem ((c.tc : Thread Cert.ReferenceAdamIdeal.nD Cert.ReferenceAdamIdeal.τ).loc Cert.ReferenceAdamIdeal.main_v250) = v32 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3)
          ∧ r.2.mem ((c.tc : Thread Cert.ReferenceAdamIdeal.nD Cert.ReferenceAdamIdeal.τ).loc Cert.ReferenceAdamIdeal.main_arg4) = m' ((c.tc : Thread Cert.ReferenceAdamIdeal.nD Cert.ReferenceAdamIdeal.τ).loc Cert.ReferenceAdamIdeal.main_arg4)
          ∧ r.2.mem ((c.tc : Thread Cert.ReferenceAdamIdeal.nD Cert.ReferenceAdamIdeal.τ).loc Cert.ReferenceAdamIdeal.main_arg5) = m' ((c.tc : Thread Cert.ReferenceAdamIdeal.nD Cert.ReferenceAdamIdeal.τ).loc Cert.ReferenceAdamIdeal.main_arg5)
          ∧ r.2.mem ((c.tc : Thread Cert.ReferenceAdamIdeal.nD Cert.ReferenceAdamIdeal.τ).loc Cert.ReferenceAdamIdeal.main_arg6) = m' ((c.tc : Thread Cert.ReferenceAdamIdeal.nD Cert.ReferenceAdamIdeal.τ).loc Cert.ReferenceAdamIdeal.main_arg6)
          ∧ r.2.mem ((c.tc : Thread Cert.ReferenceAdamIdeal.nD Cert.ReferenceAdamIdeal.τ).loc Cert.ReferenceAdamIdeal.main_arg7) = m' ((c.tc : Thread Cert.ReferenceAdamIdeal.nD Cert.ReferenceAdamIdeal.τ).loc Cert.ReferenceAdamIdeal.main_arg7)
          ∧ r.2.mem ((c.tc : Thread Cert.ReferenceAdamIdeal.nD Cert.ReferenceAdamIdeal.τ).loc Cert.ReferenceAdamIdeal.main_arg8) = m' ((c.tc : Thread Cert.ReferenceAdamIdeal.nD Cert.ReferenceAdamIdeal.τ).loc Cert.ReferenceAdamIdeal.main_arg8)
          ∧ r.2.mem ((c.tc : Thread Cert.ReferenceAdamIdeal.nD Cert.ReferenceAdamIdeal.τ).loc Cert.ReferenceAdamIdeal.main_arg9) = m' ((c.tc : Thread Cert.ReferenceAdamIdeal.nD Cert.ReferenceAdamIdeal.τ).loc Cert.ReferenceAdamIdeal.main_arg9)
          ∧ r.2.mem ((c.tc : Thread Cert.ReferenceAdamIdeal.nD Cert.ReferenceAdamIdeal.τ).loc Cert.ReferenceAdamIdeal.main_arg10) = m' ((c.tc : Thread Cert.ReferenceAdamIdeal.nD Cert.ReferenceAdamIdeal.τ).loc Cert.ReferenceAdamIdeal.main_arg10)
          ∧ r.2.mem ((c.tc : Thread Cert.ReferenceAdamIdeal.nD Cert.ReferenceAdamIdeal.τ).loc Cert.ReferenceAdamIdeal.main_arg11) = m' ((c.tc : Thread Cert.ReferenceAdamIdeal.nD Cert.ReferenceAdamIdeal.τ).loc Cert.ReferenceAdamIdeal.main_arg11)
          ∧ r.2.mem ((c.tc : Thread Cert.ReferenceAdamIdeal.nD Cert.ReferenceAdamIdeal.τ).loc Cert.ReferenceAdamIdeal.main_arg12) = m' ((c.tc : Thread Cert.ReferenceAdamIdeal.nD Cert.ReferenceAdamIdeal.τ).loc Cert.ReferenceAdamIdeal.main_arg12)
          ∧ r.2.mem ((c.tc : Thread Cert.ReferenceAdamIdeal.nD Cert.ReferenceAdamIdeal.τ).loc Cert.ReferenceAdamIdeal.main_arg13) = m' ((c.tc : Thread Cert.ReferenceAdamIdeal.nD Cert.ReferenceAdamIdeal.τ).loc Cert.ReferenceAdamIdeal.main_arg13)
          ∧ r.2.mem ((c.tc : Thread Cert.ReferenceAdamIdeal.nD Cert.ReferenceAdamIdeal.τ).loc Cert.ReferenceAdamIdeal.main_arg14) = m' ((c.tc : Thread Cert.ReferenceAdamIdeal.nD Cert.ReferenceAdamIdeal.τ).loc Cert.ReferenceAdamIdeal.main_arg14)
          ∧ r.2.mem ((c.tc : Thread Cert.ReferenceAdamIdeal.nD Cert.ReferenceAdamIdeal.τ).loc Cert.ReferenceAdamIdeal.main_arg15) = m' ((c.tc : Thread Cert.ReferenceAdamIdeal.nD Cert.ReferenceAdamIdeal.τ).loc Cert.ReferenceAdamIdeal.main_arg15)
          ∧ r.2.mem ((c.tc : Thread Cert.ReferenceAdamIdeal.nD Cert.ReferenceAdamIdeal.τ).loc Cert.ReferenceAdamIdeal.main_arg16) = m' ((c.tc : Thread Cert.ReferenceAdamIdeal.nD Cert.ReferenceAdamIdeal.τ).loc Cert.ReferenceAdamIdeal.main_arg16)
          ∧ r.2.mem ((c.tc : Thread Cert.ReferenceAdamIdeal.nD Cert.ReferenceAdamIdeal.τ).loc Cert.ReferenceAdamIdeal.main_arg17) = m' ((c.tc : Thread Cert.ReferenceAdamIdeal.nD Cert.ReferenceAdamIdeal.τ).loc Cert.ReferenceAdamIdeal.main_arg17)
          ∧ r.2.mem ((c.tc : Thread Cert.ReferenceAdamIdeal.nD Cert.ReferenceAdamIdeal.τ).loc Cert.ReferenceAdamIdeal.main_arg18) = m' ((c.tc : Thread Cert.ReferenceAdamIdeal.nD Cert.ReferenceAdamIdeal.τ).loc Cert.ReferenceAdamIdeal.main_arg18)
          ∧ r.2.mem ((c.tc : Thread Cert.ReferenceAdamIdeal.nD Cert.ReferenceAdamIdeal.τ).loc Cert.ReferenceAdamIdeal.main_arg19) = m' ((c.tc : Thread Cert.ReferenceAdamIdeal.nD Cert.ReferenceAdamIdeal.τ).loc Cert.ReferenceAdamIdeal.main_arg19)
          ∧ r.2.mem ((c.tc : Thread Cert.ReferenceAdamIdeal.nD Cert.ReferenceAdamIdeal.τ).loc Cert.ReferenceAdamIdeal.main_arg20) = m' ((c.tc : Thread Cert.ReferenceAdamIdeal.nD Cert.ReferenceAdamIdeal.τ).loc Cert.ReferenceAdamIdeal.main_arg20)
          ∧ r.2.mem ((c.tc : Thread Cert.ReferenceAdamIdeal.nD Cert.ReferenceAdamIdeal.τ).loc Cert.ReferenceAdamIdeal.main_arg21) = m' ((c.tc : Thread Cert.ReferenceAdamIdeal.nD Cert.ReferenceAdamIdeal.τ).loc Cert.ReferenceAdamIdeal.main_arg21)
          ∧ r.2.mem ((c.tc : Thread Cert.ReferenceAdamIdeal.nD Cert.ReferenceAdamIdeal.τ).loc Cert.ReferenceAdamIdeal.main_arg22) = m' ((c.tc : Thread Cert.ReferenceAdamIdeal.nD Cert.ReferenceAdamIdeal.τ).loc Cert.ReferenceAdamIdeal.main_arg22)
          ∧ r.2.mem ((c.tc : Thread Cert.ReferenceAdamIdeal.nD Cert.ReferenceAdamIdeal.τ).loc Cert.ReferenceAdamIdeal.main_arg23) = m' ((c.tc : Thread Cert.ReferenceAdamIdeal.nD Cert.ReferenceAdamIdeal.τ).loc Cert.ReferenceAdamIdeal.main_arg23)
          ∧ r.2.mem ((c.tc : Thread Cert.ReferenceAdamIdeal.nD Cert.ReferenceAdamIdeal.τ).loc Cert.ReferenceAdamIdeal.main_arg24) = m' ((c.tc : Thread Cert.ReferenceAdamIdeal.nD Cert.ReferenceAdamIdeal.τ).loc Cert.ReferenceAdamIdeal.main_arg24)
          ∧ r.2.mem ((c.tc : Thread Cert.ReferenceAdamIdeal.nD Cert.ReferenceAdamIdeal.τ).loc Cert.ReferenceAdamIdeal.main_arg25) = m' ((c.tc : Thread Cert.ReferenceAdamIdeal.nD Cert.ReferenceAdamIdeal.τ).loc Cert.ReferenceAdamIdeal.main_arg25)
          ∧ r.2.mem ((c.tc : Thread Cert.ReferenceAdamIdeal.nD Cert.ReferenceAdamIdeal.τ).loc Cert.ReferenceAdamIdeal.main_arg26) = m' ((c.tc : Thread Cert.ReferenceAdamIdeal.nD Cert.ReferenceAdamIdeal.τ).loc Cert.ReferenceAdamIdeal.main_arg26)
          ∧ r.2.mem ((c.tc : Thread Cert.ReferenceAdamIdeal.nD Cert.ReferenceAdamIdeal.τ).loc Cert.ReferenceAdamIdeal.main_arg27) = m' ((c.tc : Thread Cert.ReferenceAdamIdeal.nD Cert.ReferenceAdamIdeal.τ).loc Cert.ReferenceAdamIdeal.main_arg27)
          ∧ r.2.mem ((c.tc : Thread Cert.ReferenceAdamIdeal.nD Cert.ReferenceAdamIdeal.τ).loc Cert.ReferenceAdamIdeal.main_arg28) = m' ((c.tc : Thread Cert.ReferenceAdamIdeal.nD Cert.ReferenceAdamIdeal.τ).loc Cert.ReferenceAdamIdeal.main_arg28)
          ∧ r.2.mem ((c.tc : Thread Cert.ReferenceAdamIdeal.nD Cert.ReferenceAdamIdeal.τ).loc Cert.ReferenceAdamIdeal.main_arg29) = m' ((c.tc : Thread Cert.ReferenceAdamIdeal.nD Cert.ReferenceAdamIdeal.τ).loc Cert.ReferenceAdamIdeal.main_arg29)
          ∧ r.2.mem ((c.tc : Thread Cert.ReferenceAdamIdeal.nD Cert.ReferenceAdamIdeal.τ).loc Cert.ReferenceAdamIdeal.main_arg30) = m' ((c.tc : Thread Cert.ReferenceAdamIdeal.nD Cert.ReferenceAdamIdeal.τ).loc Cert.ReferenceAdamIdeal.main_arg30)
          ∧ r.2.mem ((c.tc : Thread Cert.ReferenceAdamIdeal.nD Cert.ReferenceAdamIdeal.τ).loc Cert.ReferenceAdamIdeal.main_arg31) = m' ((c.tc : Thread Cert.ReferenceAdamIdeal.nD Cert.ReferenceAdamIdeal.τ).loc Cert.ReferenceAdamIdeal.main_arg31)
          ∧ r.2.mem ((c.tc : Thread Cert.ReferenceAdamIdeal.nD Cert.ReferenceAdamIdeal.τ).loc Cert.ReferenceAdamIdeal.main_arg32) = m' ((c.tc : Thread Cert.ReferenceAdamIdeal.nD Cert.ReferenceAdamIdeal.τ).loc Cert.ReferenceAdamIdeal.main_arg32)
          ∧ r.2.mem ((c.tc : Thread Cert.ReferenceAdamIdeal.nD Cert.ReferenceAdamIdeal.τ).loc Cert.ReferenceAdamIdeal.main_arg33) = m' ((c.tc : Thread Cert.ReferenceAdamIdeal.nD Cert.ReferenceAdamIdeal.τ).loc Cert.ReferenceAdamIdeal.main_arg33)
          ∧ r.2.mem ((c.tc : Thread Cert.ReferenceAdamIdeal.nD Cert.ReferenceAdamIdeal.τ).loc Cert.ReferenceAdamIdeal.main_arg34) = m' ((c.tc : Thread Cert.ReferenceAdamIdeal.nD Cert.ReferenceAdamIdeal.τ).loc Cert.ReferenceAdamIdeal.main_arg34)
          ∧ r.2.mem ((c.tc : Thread Cert.ReferenceAdamIdeal.nD Cert.ReferenceAdamIdeal.τ).loc Cert.ReferenceAdamIdeal.main_arg35) = m' ((c.tc : Thread Cert.ReferenceAdamIdeal.nD Cert.ReferenceAdamIdeal.τ).loc Cert.ReferenceAdamIdeal.main_arg35)
          ∧ r.2.mem ((c.tc : Thread Cert.ReferenceAdamIdeal.nD Cert.ReferenceAdamIdeal.τ).loc Cert.ReferenceAdamIdeal.main_arg36) = m' ((c.tc : Thread Cert.ReferenceAdamIdeal.nD Cert.ReferenceAdamIdeal.τ).loc Cert.ReferenceAdamIdeal.main_arg36)
          ∧ r.2.mem ((c.tc : Thread Cert.ReferenceAdamIdeal.nD Cert.ReferenceAdamIdeal.τ).loc Cert.ReferenceAdamIdeal.main_arg37) = m' ((c.tc : Thread Cert.ReferenceAdamIdeal.nD Cert.ReferenceAdamIdeal.τ).loc Cert.ReferenceAdamIdeal.main_arg37)
          ∧ r.2.mem ((c.tc : Thread Cert.ReferenceAdamIdeal.nD Cert.ReferenceAdamIdeal.τ).loc Cert.ReferenceAdamIdeal.main_arg38) = m' ((c.tc : Thread Cert.ReferenceAdamIdeal.nD Cert.ReferenceAdamIdeal.τ).loc Cert.ReferenceAdamIdeal.main_arg38)
          ∧ r.2.mem ((c.tc : Thread Cert.ReferenceAdamIdeal.nD Cert.ReferenceAdamIdeal.τ).loc Cert.ReferenceAdamIdeal.main_arg39) = m' ((c.tc : Thread Cert.ReferenceAdamIdeal.nD Cert.ReferenceAdamIdeal.τ).loc Cert.ReferenceAdamIdeal.main_arg39)
          ∧ r.2.mem ((c.tc : Thread Cert.ReferenceAdamIdeal.nD Cert.ReferenceAdamIdeal.τ).loc Cert.ReferenceAdamIdeal.main_arg40) = m' ((c.tc : Thread Cert.ReferenceAdamIdeal.nD Cert.ReferenceAdamIdeal.τ).loc Cert.ReferenceAdamIdeal.main_arg40)
          ∧ r.2.mem ((c.tc : Thread Cert.ReferenceAdamIdeal.nD Cert.ReferenceAdamIdeal.τ).loc Cert.ReferenceAdamIdeal.main_arg41) = m' ((c.tc : Thread Cert.ReferenceAdamIdeal.nD Cert.ReferenceAdamIdeal.τ).loc Cert.ReferenceAdamIdeal.main_arg41)
          ∧ r.2.mem ((c.tc : Thread Cert.ReferenceAdamIdeal.nD Cert.ReferenceAdamIdeal.τ).loc Cert.ReferenceAdamIdeal.main_arg42) = m' ((c.tc : Thread Cert.ReferenceAdamIdeal.nD Cert.ReferenceAdamIdeal.τ).loc Cert.ReferenceAdamIdeal.main_arg42)
          ∧ r.2.mem ((c.tc : Thread Cert.ReferenceAdamIdeal.nD Cert.ReferenceAdamIdeal.τ).loc Cert.ReferenceAdamIdeal.main_arg43) = m' ((c.tc : Thread Cert.ReferenceAdamIdeal.nD Cert.ReferenceAdamIdeal.τ).loc Cert.ReferenceAdamIdeal.main_arg43))

def preserves_KernelSum_KernelSumIdeal : Prop :=
  True

def algebraic_KernelSumIdeal_ReferenceSumIdeal [hKernelSumIdeal : Cert.KernelSumIdeal.Facts] [hReferenceSumIdeal : Cert.ReferenceSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg)
    (m' : (ℓ : Loc Cert.ReferenceSumIdeal.nD Cert.ReferenceSumIdeal.τ Cert.ReferenceSumIdeal.sig) → Buf (Elt Ideal) ℓ) (g' : Dev Cert.ReferenceSumIdeal.nD → PrngReg), Pre_KernelSumIdeal m →
    (∀ c : Dev Cert.KernelSumIdeal.nD,
      m' ((c.tc : Thread Cert.ReferenceSumIdeal.nD Cert.ReferenceSumIdeal.τ).loc Cert.ReferenceSumIdeal.main_arg0) = m ((c.tc : Thread Cert.KernelSumIdeal.nD Cert.KernelSumIdeal.τ).loc Cert.KernelSumIdeal.main_arg0)
      ∧ m' ((c.tc : Thread Cert.ReferenceSumIdeal.nD Cert.ReferenceSumIdeal.τ).loc Cert.ReferenceSumIdeal.main_arg1) = m ((c.tc : Thread Cert.KernelSumIdeal.nD Cert.KernelSumIdeal.τ).loc Cert.KernelSumIdeal.main_arg1)) →
    ∃ (v0 : (c : Dev Cert.KernelSumIdeal.nD) → Buf (Elt Ideal) ((c.tc : Thread Cert.KernelSumIdeal.nD Cert.KernelSumIdeal.τ).loc Cert.KernelSumIdeal.main_v3)) (v1 : (c : Dev Cert.KernelSumIdeal.nD) → Buf (Elt Ideal) ((c.tc : Thread Cert.KernelSumIdeal.nD Cert.KernelSumIdeal.τ).loc Cert.KernelSumIdeal.main_v5)) (v2 : (c : Dev Cert.KernelSumIdeal.nD) → Buf (Elt Ideal) ((c.tc : Thread Cert.KernelSumIdeal.nD Cert.KernelSumIdeal.τ).loc Cert.KernelSumIdeal.main_v7)) (v3 : (c : Dev Cert.KernelSumIdeal.nD) → Buf (Elt Ideal) ((c.tc : Thread Cert.KernelSumIdeal.nD Cert.KernelSumIdeal.τ).loc Cert.KernelSumIdeal.main_v9)) (v4 : (c : Dev Cert.KernelSumIdeal.nD) → Buf (Elt Ideal) ((c.tc : Thread Cert.KernelSumIdeal.nD Cert.KernelSumIdeal.τ).loc Cert.KernelSumIdeal.main_v11)) (v5 : (c : Dev Cert.KernelSumIdeal.nD) → Buf (Elt Ideal) ((c.tc : Thread Cert.KernelSumIdeal.nD Cert.KernelSumIdeal.τ).loc Cert.KernelSumIdeal.main_v13)) (v6 : (c : Dev Cert.KernelSumIdeal.nD) → Buf (Elt Ideal) ((c.tc : Thread Cert.KernelSumIdeal.nD Cert.KernelSumIdeal.τ).loc Cert.KernelSumIdeal.main_v15)) (v7 : (c : Dev Cert.KernelSumIdeal.nD) → Buf (Elt Ideal) ((c.tc : Thread Cert.KernelSumIdeal.nD Cert.KernelSumIdeal.τ).loc Cert.KernelSumIdeal.main_v17)) (v8 : (c : Dev Cert.KernelSumIdeal.nD) → Buf (Elt Ideal) ((c.tc : Thread Cert.KernelSumIdeal.nD Cert.KernelSumIdeal.τ).loc Cert.KernelSumIdeal.main_v19)) (v9 : (c : Dev Cert.KernelSumIdeal.nD) → Buf (Elt Ideal) ((c.tc : Thread Cert.KernelSumIdeal.nD Cert.KernelSumIdeal.τ).loc Cert.KernelSumIdeal.main_v21)) (v10 : (c : Dev Cert.KernelSumIdeal.nD) → Buf (Elt Ideal) ((c.tc : Thread Cert.KernelSumIdeal.nD Cert.KernelSumIdeal.τ).loc Cert.KernelSumIdeal.main_v22)) (v11 : (c : Dev Cert.KernelSumIdeal.nD) → Buf (Elt Ideal) ((c.tc : Thread Cert.KernelSumIdeal.nD Cert.KernelSumIdeal.τ).loc Cert.KernelSumIdeal.main_v23)),
      θ_run (Cert.KernelSumIdeal.defs (F := Ideal)) (onTc (τ := Cert.KernelSumIdeal.τ) (Cert.KernelSumIdeal.main (F := Ideal))) ⟨m, fun _ => 0, g⟩ (fun r => ∀ c : Dev Cert.KernelSumIdeal.nD,
          r.2.mem ((c.tc : Thread Cert.KernelSumIdeal.nD Cert.KernelSumIdeal.τ).loc Cert.KernelSumIdeal.main_v3) = v0 c
          ∧ r.2.mem ((c.tc : Thread Cert.KernelSumIdeal.nD Cert.KernelSumIdeal.τ).loc Cert.KernelSumIdeal.main_v5) = v1 c
          ∧ r.2.mem ((c.tc : Thread Cert.KernelSumIdeal.nD Cert.KernelSumIdeal.τ).loc Cert.KernelSumIdeal.main_v7) = v2 c
          ∧ r.2.mem ((c.tc : Thread Cert.KernelSumIdeal.nD Cert.KernelSumIdeal.τ).loc Cert.KernelSumIdeal.main_v9) = v3 c
          ∧ r.2.mem ((c.tc : Thread Cert.KernelSumIdeal.nD Cert.KernelSumIdeal.τ).loc Cert.KernelSumIdeal.main_v11) = v4 c
          ∧ r.2.mem ((c.tc : Thread Cert.KernelSumIdeal.nD Cert.KernelSumIdeal.τ).loc Cert.KernelSumIdeal.main_v13) = v5 c
          ∧ r.2.mem ((c.tc : Thread Cert.KernelSumIdeal.nD Cert.KernelSumIdeal.τ).loc Cert.KernelSumIdeal.main_v15) = v6 c
          ∧ r.2.mem ((c.tc : Thread Cert.KernelSumIdeal.nD Cert.KernelSumIdeal.τ).loc Cert.KernelSumIdeal.main_v17) = v7 c
          ∧ r.2.mem ((c.tc : Thread Cert.KernelSumIdeal.nD Cert.KernelSumIdeal.τ).loc Cert.KernelSumIdeal.main_v19) = v8 c
          ∧ r.2.mem ((c.tc : Thread Cert.KernelSumIdeal.nD Cert.KernelSumIdeal.τ).loc Cert.KernelSumIdeal.main_v21) = v9 c
          ∧ r.2.mem ((c.tc : Thread Cert.KernelSumIdeal.nD Cert.KernelSumIdeal.τ).loc Cert.KernelSumIdeal.main_v22) = v10 c
          ∧ r.2.mem ((c.tc : Thread Cert.KernelSumIdeal.nD Cert.KernelSumIdeal.τ).loc Cert.KernelSumIdeal.main_v23) = v11 c
          ∧ r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0)
          ∧ r.2.mem ((c.tc : Thread Cert.KernelSumIdeal.nD Cert.KernelSumIdeal.τ).loc Cert.KernelSumIdeal.main_arg1) = m ((c.tc : Thread Cert.KernelSumIdeal.nD Cert.KernelSumIdeal.τ).loc Cert.KernelSumIdeal.main_arg1))
      ∧ θ_run (Cert.ReferenceSumIdeal.defs (F := Ideal)) (onTc (τ := Cert.ReferenceSumIdeal.τ) (Cert.ReferenceSumIdeal.main (F := Ideal))) ⟨m', fun _ => 0, g'⟩ (fun r => ∀ c : Dev Cert.ReferenceSumIdeal.nD,
          r.2.mem ((c.tc : Thread Cert.ReferenceSumIdeal.nD Cert.ReferenceSumIdeal.τ).loc Cert.ReferenceSumIdeal.main_v3) = v0 c
          ∧ r.2.mem ((c.tc : Thread Cert.ReferenceSumIdeal.nD Cert.ReferenceSumIdeal.τ).loc Cert.ReferenceSumIdeal.main_v5) = v1 c
          ∧ r.2.mem ((c.tc : Thread Cert.ReferenceSumIdeal.nD Cert.ReferenceSumIdeal.τ).loc Cert.ReferenceSumIdeal.main_v7) = v2 c
          ∧ r.2.mem ((c.tc : Thread Cert.ReferenceSumIdeal.nD Cert.ReferenceSumIdeal.τ).loc Cert.ReferenceSumIdeal.main_v9) = v3 c
          ∧ r.2.mem ((c.tc : Thread Cert.ReferenceSumIdeal.nD Cert.ReferenceSumIdeal.τ).loc Cert.ReferenceSumIdeal.main_v11) = v4 c
          ∧ r.2.mem ((c.tc : Thread Cert.ReferenceSumIdeal.nD Cert.ReferenceSumIdeal.τ).loc Cert.ReferenceSumIdeal.main_v13) = v5 c
          ∧ r.2.mem ((c.tc : Thread Cert.ReferenceSumIdeal.nD Cert.ReferenceSumIdeal.τ).loc Cert.ReferenceSumIdeal.main_v15) = v6 c
          ∧ r.2.mem ((c.tc : Thread Cert.ReferenceSumIdeal.nD Cert.ReferenceSumIdeal.τ).loc Cert.ReferenceSumIdeal.main_v17) = v7 c
          ∧ r.2.mem ((c.tc : Thread Cert.ReferenceSumIdeal.nD Cert.ReferenceSumIdeal.τ).loc Cert.ReferenceSumIdeal.main_v19) = v8 c
          ∧ r.2.mem ((c.tc : Thread Cert.ReferenceSumIdeal.nD Cert.ReferenceSumIdeal.τ).loc Cert.ReferenceSumIdeal.main_v21) = v9 c
          ∧ r.2.mem ((c.tc : Thread Cert.ReferenceSumIdeal.nD Cert.ReferenceSumIdeal.τ).loc Cert.ReferenceSumIdeal.main_v22) = v10 c
          ∧ r.2.mem ((c.tc : Thread Cert.ReferenceSumIdeal.nD Cert.ReferenceSumIdeal.τ).loc Cert.ReferenceSumIdeal.main_v23) = v11 c
          ∧ r.2.mem ((c.tc : Thread Cert.ReferenceSumIdeal.nD Cert.ReferenceSumIdeal.τ).loc Cert.ReferenceSumIdeal.main_arg0) = m' ((c.tc : Thread Cert.ReferenceSumIdeal.nD Cert.ReferenceSumIdeal.τ).loc Cert.ReferenceSumIdeal.main_arg0)
          ∧ r.2.mem ((c.tc : Thread Cert.ReferenceSumIdeal.nD Cert.ReferenceSumIdeal.τ).loc Cert.ReferenceSumIdeal.main_arg1) = m' ((c.tc : Thread Cert.ReferenceSumIdeal.nD Cert.ReferenceSumIdeal.τ).loc Cert.ReferenceSumIdeal.main_arg1))

def Claim : Prop :=
  ∃ (hKernel : Cert.Kernel.Facts) (hKernelIdeal : Cert.KernelIdeal.Facts) (hReferenceIdeal : Cert.ReferenceIdeal.Facts) (hKernelDh2 : Cert.KernelDh2.Facts) (hKernelDh2Ideal : Cert.KernelDh2Ideal.Facts) (hReferenceDh2Ideal : Cert.ReferenceDh2Ideal.Facts) (hKernelDwup : Cert.KernelDwup.Facts) (hKernelDwupIdeal : Cert.KernelDwupIdeal.Facts) (hReferenceDwupIdeal : Cert.ReferenceDwupIdeal.Facts) (hKernelUp : Cert.KernelUp.Facts) (hKernelUpIdeal : Cert.KernelUpIdeal.Facts) (hReferenceUpIdeal : Cert.ReferenceUpIdeal.Facts) (hKernelDact : Cert.KernelDact.Facts) (hKernelDactIdeal : Cert.KernelDactIdeal.Facts) (hReferenceDactIdeal : Cert.ReferenceDactIdeal.Facts) (hKernelDwdown : Cert.KernelDwdown.Facts) (hKernelDwdownIdeal : Cert.KernelDwdownIdeal.Facts) (hReferenceDwdownIdeal : Cert.ReferenceDwdownIdeal.Facts) (hKernelDown : Cert.KernelDown.Facts) (hKernelDownIdeal : Cert.KernelDownIdeal.Facts) (hReferenceDownIdeal : Cert.ReferenceDownIdeal.Facts) (hKernelDh : Cert.KernelDh.Facts) (hKernelDhIdeal : Cert.KernelDhIdeal.Facts) (hReferenceDhIdeal : Cert.ReferenceDhIdeal.Facts) (hKernelDwin : Cert.KernelDwin.Facts) (hKernelDwinIdeal : Cert.KernelDwinIdeal.Facts) (hReferenceDwinIdeal : Cert.ReferenceDwinIdeal.Facts) (hKernelIn : Cert.KernelIn.Facts) (hKernelInIdeal : Cert.KernelInIdeal.Facts) (hReferenceInIdeal : Cert.ReferenceInIdeal.Facts) (hKernelDy : Cert.KernelDy.Facts) (hKernelDyIdeal : Cert.KernelDyIdeal.Facts) (hReferenceDyIdeal : Cert.ReferenceDyIdeal.Facts) (hKernelDwout : Cert.KernelDwout.Facts) (hKernelDwoutIdeal : Cert.KernelDwoutIdeal.Facts) (hReferenceDwoutIdeal : Cert.ReferenceDwoutIdeal.Facts) (hKernelOut : Cert.KernelOut.Facts) (hKernelOutIdeal : Cert.KernelOutIdeal.Facts) (hReferenceOutIdeal : Cert.ReferenceOutIdeal.Facts) (hKernelAct : Cert.KernelAct.Facts) (hKernelActIdeal : Cert.KernelActIdeal.Facts) (hReferenceActIdeal : Cert.ReferenceActIdeal.Facts) (hKernelLoss : Cert.KernelLoss.Facts) (hKernelLossIdeal : Cert.KernelLossIdeal.Facts) (hReferenceLossIdeal : Cert.ReferenceLossIdeal.Facts) (hKernelMix : Cert.KernelMix.Facts) (hKernelMixIdeal : Cert.KernelMixIdeal.Facts) (hReferenceMixIdeal : Cert.ReferenceMixIdeal.Facts) (hKernelAdam : Cert.KernelAdam.Facts) (hKernelAdamIdeal : Cert.KernelAdamIdeal.Facts) (hReferenceAdamIdeal : Cert.ReferenceAdamIdeal.Facts) (hKernelSum : Cert.KernelSum.Facts) (hKernelSumIdeal : Cert.KernelSumIdeal.Facts) (hReferenceSumIdeal : Cert.ReferenceSumIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDh2 (hKernelDh2 := hKernelDh2)
    ∧ quiescent_KernelDh2Ideal (hKernelDh2Ideal := hKernelDh2Ideal)
    ∧ quiescent_ReferenceDh2Ideal (hReferenceDh2Ideal := hReferenceDh2Ideal)
    ∧ quiescent_KernelDwup (hKernelDwup := hKernelDwup)
    ∧ quiescent_KernelDwupIdeal (hKernelDwupIdeal := hKernelDwupIdeal)
    ∧ quiescent_ReferenceDwupIdeal (hReferenceDwupIdeal := hReferenceDwupIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDact (hKernelDact := hKernelDact)
    ∧ quiescent_KernelDactIdeal (hKernelDactIdeal := hKernelDactIdeal)
    ∧ quiescent_ReferenceDactIdeal (hReferenceDactIdeal := hReferenceDactIdeal)
    ∧ quiescent_KernelDwdown (hKernelDwdown := hKernelDwdown)
    ∧ quiescent_KernelDwdownIdeal (hKernelDwdownIdeal := hKernelDwdownIdeal)
    ∧ quiescent_ReferenceDwdownIdeal (hReferenceDwdownIdeal := hReferenceDwdownIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDwin (hKernelDwin := hKernelDwin)
    ∧ quiescent_KernelDwinIdeal (hKernelDwinIdeal := hKernelDwinIdeal)
    ∧ quiescent_ReferenceDwinIdeal (hReferenceDwinIdeal := hReferenceDwinIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDy (hKernelDy := hKernelDy)
    ∧ quiescent_KernelDyIdeal (hKernelDyIdeal := hKernelDyIdeal)
    ∧ quiescent_ReferenceDyIdeal (hReferenceDyIdeal := hReferenceDyIdeal)
    ∧ quiescent_KernelDwout (hKernelDwout := hKernelDwout)
    ∧ quiescent_KernelDwoutIdeal (hKernelDwoutIdeal := hKernelDwoutIdeal)
    ∧ quiescent_ReferenceDwoutIdeal (hReferenceDwoutIdeal := hReferenceDwoutIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelSum (hKernelSum := hKernelSum)
    ∧ quiescent_KernelSumIdeal (hKernelSumIdeal := hKernelSumIdeal)
    ∧ quiescent_ReferenceSumIdeal (hReferenceSumIdeal := hReferenceSumIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDh2_KernelDh2Ideal
    ∧ algebraic_KernelDh2Ideal_ReferenceDh2Ideal (hKernelDh2Ideal := hKernelDh2Ideal) (hReferenceDh2Ideal := hReferenceDh2Ideal)
    ∧ preserves_KernelDwup_KernelDwupIdeal
    ∧ algebraic_KernelDwupIdeal_ReferenceDwupIdeal (hKernelDwupIdeal := hKernelDwupIdeal) (hReferenceDwupIdeal := hReferenceDwupIdeal)
    ∧ preserves_KernelUp_KernelUpIdeal
    ∧ algebraic_KernelUpIdeal_ReferenceUpIdeal (hKernelUpIdeal := hKernelUpIdeal) (hReferenceUpIdeal := hReferenceUpIdeal)
    ∧ preserves_KernelDact_KernelDactIdeal
    ∧ algebraic_KernelDactIdeal_ReferenceDactIdeal (hKernelDactIdeal := hKernelDactIdeal) (hReferenceDactIdeal := hReferenceDactIdeal)
    ∧ preserves_KernelDwdown_KernelDwdownIdeal
    ∧ algebraic_KernelDwdownIdeal_ReferenceDwdownIdeal (hKernelDwdownIdeal := hKernelDwdownIdeal) (hReferenceDwdownIdeal := hReferenceDwdownIdeal)
    ∧ preserves_KernelDown_KernelDownIdeal
    ∧ algebraic_KernelDownIdeal_ReferenceDownIdeal (hKernelDownIdeal := hKernelDownIdeal) (hReferenceDownIdeal := hReferenceDownIdeal)
    ∧ preserves_KernelDh_KernelDhIdeal
    ∧ algebraic_KernelDhIdeal_ReferenceDhIdeal (hKernelDhIdeal := hKernelDhIdeal) (hReferenceDhIdeal := hReferenceDhIdeal)
    ∧ preserves_KernelDwin_KernelDwinIdeal
    ∧ algebraic_KernelDwinIdeal_ReferenceDwinIdeal (hKernelDwinIdeal := hKernelDwinIdeal) (hReferenceDwinIdeal := hReferenceDwinIdeal)
    ∧ preserves_KernelIn_KernelInIdeal
    ∧ algebraic_KernelInIdeal_ReferenceInIdeal (hKernelInIdeal := hKernelInIdeal) (hReferenceInIdeal := hReferenceInIdeal)
    ∧ preserves_KernelDy_KernelDyIdeal
    ∧ algebraic_KernelDyIdeal_ReferenceDyIdeal (hKernelDyIdeal := hKernelDyIdeal) (hReferenceDyIdeal := hReferenceDyIdeal)
    ∧ preserves_KernelDwout_KernelDwoutIdeal
    ∧ algebraic_KernelDwoutIdeal_ReferenceDwoutIdeal (hKernelDwoutIdeal := hKernelDwoutIdeal) (hReferenceDwoutIdeal := hReferenceDwoutIdeal)
    ∧ preserves_KernelOut_KernelOutIdeal
    ∧ algebraic_KernelOutIdeal_ReferenceOutIdeal (hKernelOutIdeal := hKernelOutIdeal) (hReferenceOutIdeal := hReferenceOutIdeal)
    ∧ preserves_KernelAct_KernelActIdeal
    ∧ algebraic_KernelActIdeal_ReferenceActIdeal (hKernelActIdeal := hKernelActIdeal) (hReferenceActIdeal := hReferenceActIdeal)
    ∧ preserves_KernelLoss_KernelLossIdeal
    ∧ algebraic_KernelLossIdeal_ReferenceLossIdeal (hKernelLossIdeal := hKernelLossIdeal) (hReferenceLossIdeal := hReferenceLossIdeal)
    ∧ preserves_KernelMix_KernelMixIdeal
    ∧ algebraic_KernelMixIdeal_ReferenceMixIdeal (hKernelMixIdeal := hKernelMixIdeal) (hReferenceMixIdeal := hReferenceMixIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelSum_KernelSumIdeal
    ∧ algebraic_KernelSumIdeal_ReferenceSumIdeal (hKernelSumIdeal := hKernelSumIdeal) (hReferenceSumIdeal := hReferenceSumIdeal)
-- ==== Pre_finite.lean ====
abbrev S2048x5632 : Shape := ⟨2, ![2048, 5632]⟩
abbrev S2048x2816 : Shape := ⟨2, ![2048, 2816]⟩
abbrev S3x5632 : Shape := ⟨2, ![3, 5632]⟩
abbrev S4x8x2816 : Shape := ⟨3, ![4, 8, 2816]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bitsLt_bf16_f32 : FTy.bits .bf16 < FTy.bits .f32
  bcast_S_S2048x2816 : S_.BroadcastsInDim S2048x2816 (![] : Fin 0 → Fin S2048x2816.rank)
  reducesTo_S2048x2816_S_d0_1 : S2048x2816.ReducesTo [0, 1] S_
  bcast_S_S3x5632 : S_.BroadcastsInDim S3x5632 (![] : Fin 0 → Fin S3x5632.rank)
  reducesTo_S3x5632_S_d0_1 : S3x5632.ReducesTo [0, 1] S_

variable [Facts]

def fn {F : FTy → Type} [FloatOps F] (main_arg0 : FVec F S2048x5632 .f32) (main_arg1 : FVec F S2048x2816 .bf16) (main_arg2 : FVec F S3x5632 .f32) (main_arg3 : FVec F S4x8x2816 .f32) (main_arg4 : FVec F S4x8x2816 .f32) : IVec S_ 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_v4 : FVec F S2048x2816 .f32 := (extf .f32 · bitsLt_bf16_f32) main_arg1
  let main_v5 : FVec F S2048x2816 .f32 := Host.absf main_v4
  let main_cst_0 : FVec F S_ .f32 := constant S_ .f32 0x7F800000#32
  let main_v6 : FVec F S2048x2816 .f32 := broadcastInDim S2048x2816 ![] bcast_S_S2048x2816 main_cst_0
  let main_v7 : IVec S2048x2816 1 := cmpf .olt main_v5 main_v6
  let main_c_1 : IVec S_ 1 := constantI S_ 1 1#1
  let main_v8 : IVec S_ 1 := (fun x v => Host.reduce IntOp.andi x v reducesTo_S2048x2816_S_d0_1 h_S_) main_v7 main_c_1
  let main_v9 : IVec S_ 1 := andi main_v3 main_v8
  let main_v10 : FVec F S3x5632 .f32 := Host.absf main_arg2
  let main_cst_2 : FVec F S_ .f32 := constant S_ .f32 0x7F800000#32
  let main_v11 : FVec F S3x5632 .f32 := broadcastInDim S3x5632 ![] bcast_S_S3x5632 main_cst_2
  let main_v12 : IVec S3x5632 1 := cmpf .olt main_v10 main_v11
  let main_c_3 : IVec S_ 1 := constantI S_ 1 1#1
  let main_v13 : IVec S_ 1 := (fun x v => Host.reduce IntOp.andi x v reducesTo_S3x5632_S_d0_1 h_S_) main_v12 main_c_3
  let main_v14 : IVec S_ 1 := andi main_v9 main_v13
  main_v14
-- ==== Kernel.lean ====
abbrev S2048x5632 : Shape := ⟨2, ![2048, 5632]⟩
abbrev S2048x2816 : Shape := ⟨2, ![2048, 2816]⟩
abbrev S3x5632 : Shape := ⟨2, ![3, 5632]⟩
abbrev S4x8x2816 : Shape := ⟨3, ![4, 8, 2816]⟩
abbrev S2048x256 : Shape := ⟨2, ![2048, 256]⟩
abbrev S8x256 : Shape := ⟨2, ![8, 256]⟩
abbrev S16x256 : Shape := ⟨2, ![16, 256]⟩
abbrev S3x256 : Shape := ⟨2, ![3, 256]⟩
abbrev S1x8x256 : Shape := ⟨3, ![1, 8, 256]⟩
abbrev S1x256 : Shape := ⟨2, ![1, 256]⟩
abbrev S136x256 : Shape := ⟨2, ![136, 256]⟩
abbrev S144x256 : Shape := ⟨2, ![144, 256]⟩
abbrev S128x256 : Shape := ⟨2, ![128, 256]⟩
abbrev S1x1x256 : Shape := ⟨3, ![1, 1, 256]⟩
abbrev S256 : Shape := ⟨1, ![256]⟩

abbrev nBuf : Space → Nat
  | .hbm => 9
  | .vmem => 28
  | .smem => 0
  | _ => 0

abbrev bufTy : (tb : Table) → Fin (tcTables nBuf tb) → BufTy
  | .hbm, ⟨0, _⟩ => ⟨S2048x5632, .f32⟩
  | .hbm, ⟨1, _⟩ => ⟨S2048x2816, .bf16⟩
  | .hbm, ⟨2, _⟩ => ⟨S3x5632, .f32⟩
  | .hbm, ⟨3, _⟩ => ⟨S4x8x2816, .f32⟩
  | .hbm, ⟨4, _⟩ => ⟨S4x8x2816, .f32⟩
  | .hbm, ⟨5, _⟩ => ⟨S2048x2816, .bf16⟩
  | .hbm, ⟨6, _⟩ => ⟨S2048x2816, .bf16⟩
  | .hbm, ⟨7, _⟩ => ⟨S4x8x2816, .f32⟩
  | .hbm, ⟨8, _⟩ => ⟨S4x8x2816, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S2048x256, .bf16⟩
  | .local _ .vmem, ⟨13, _⟩ => ⟨S2048x256, .bf16⟩
  | .local _ .vmem, ⟨14, _⟩ => ⟨S16x256, .bf16⟩
  | .local _ .vmem, ⟨15, _⟩ => ⟨S16x256, .bf16⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S3x256, .f32⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S1x8x256, .f32⟩
  | .local _ .vmem, ⟨25, _⟩ => ⟨S1x8x256, .f32⟩
  | .local _ .vmem, ⟨26, _⟩ => ⟨S1x8x256, .f32⟩
  | .local _ .vmem, ⟨27, _⟩ => ⟨S1x8x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![11, 1], ![false, false]⟩

def k0_mult1 : BitVec 32 :=
  let c1_i32 : BitVec 32 := 1#32
  let c128_i32 : BitVec 32 := 128#32
  let v319 : BitVec 32 := Scalar.muli c1_i32 c128_i32
  v319
def k0_mult2 : BitVec 32 :=
  let c1_i32 : BitVec 32 := 1#32
  let c128_i32 : BitVec 32 := 128#32
  let v319 : BitVec 32 := Scalar.muli c1_i32 c128_i32
  let v320 : BitVec 32 := v319
  let c8_i32 : BitVec 32 := 8#32
  let v321 : BitVec 32 := Scalar.subi v320 c8_i32
  v321
def k0_off1 (c1_i32 : BitVec 32) : Fin 2 → Nat :=
  let c128_i32 : BitVec 32 := 128#32
  let v319 : BitVec 32 := Scalar.muli c1_i32 c128_i32
  let v320 : BitVec 32 := v319
  let c8_i32 : BitVec 32 := 8#32
  let v321 : BitVec 32 := Scalar.subi v320 c8_i32
  let v322 : BitVec 32 := v321
  let v323 : Index := Scalar.indexCast v322
  let c0_42 : Index := 0#32
  ![v323.toNat, 0]
def k0_off2 (c1_i32 : BitVec 32) : Fin 2 → Nat :=
  let c128_i32 : BitVec 32 := 128#32
  let v319 : BitVec 32 := Scalar.muli c1_i32 c128_i32
  let v320 : BitVec 32 := v319
  let v327 : Index := Scalar.indexCast v320
  let c0_44 : Index := 0#32
  ![v327.toNat, 0]
def k0_off3 (c1_i32 : BitVec 32) : Fin 2 → Nat :=
  let c128_i32 : BitVec 32 := 128#32
  let v319 : BitVec 32 := Scalar.muli c1_i32 c128_i32
  let v320 : BitVec 32 := v319
  let v388 : Index := Scalar.indexCast v320
  let c0_53 : Index := 0#32
  ![v388.toNat, 0]
def k0_mult3 : BitVec 32 :=
  let c2_i32 : BitVec 32 := 2#32
  let c128_i32_62 : BitVec 32 := 128#32
  let v628 : BitVec 32 := Scalar.muli c2_i32 c128_i32_62
  v628
def k0_mult4 : BitVec 32 :=
  let c2_i32 : BitVec 32 := 2#32
  let c128_i32_62 : BitVec 32 := 128#32
  let v628 : BitVec 32 := Scalar.muli c2_i32 c128_i32_62
  let v629 : BitVec 32 := v628
  let c8_i32_63 : BitVec 32 := 8#32
  let v630 : BitVec 32 := Scalar.subi v629 c8_i32_63
  v630
def k0_mult5 : BitVec 32 :=
  let c3_i32 : BitVec 32 := 3#32
  let c128_i32_84 : BitVec 32 := 128#32
  let v937 : BitVec 32 := Scalar.muli c3_i32 c128_i32_84
  v937
def k0_mult6 : BitVec 32 :=
  let c3_i32 : BitVec 32 := 3#32
  let c128_i32_84 : BitVec 32 := 128#32
  let v937 : BitVec 32 := Scalar.muli c3_i32 c128_i32_84
  let v938 : BitVec 32 := v937
  let c8_i32_85 : BitVec 32 := 8#32
  let v939 : BitVec 32 := Scalar.subi v938 c8_i32_85
  v939
def k0_mult7 : BitVec 32 :=
  let c4_i32 : BitVec 32 := 4#32
  let c128_i32_106 : BitVec 32 := 128#32
  let v1246 : BitVec 32 := Scalar.muli c4_i32 c128_i32_106
  v1246
def k0_mult8 : BitVec 32 :=
  let c4_i32 : BitVec 32 := 4#32
  let c128_i32_106 : BitVec 32 := 128#32
  let v1246 : BitVec 32 := Scalar.muli c4_i32 c128_i32_106
  let v1247 : BitVec 32 := v1246
  let c8_i32_107 : BitVec 32 := 8#32
  let v1248 : BitVec 32 := Scalar.subi v1247 c8_i32_107
  v1248
def k0_mult9 : BitVec 32 :=
  let c5_i32 : BitVec 32 := 5#32
  let c128_i32_128 : BitVec 32 := 128#32
  let v1555 : BitVec 32 := Scalar.muli c5_i32 c128_i32_128
  v1555
def k0_mult10 : BitVec 32 :=
  let c5_i32 : BitVec 32 := 5#32
  let c128_i32_128 : BitVec 32 := 128#32
  let v1555 : BitVec 32 := Scalar.muli c5_i32 c128_i32_128
  let v1556 : BitVec 32 := v1555
  let c8_i32_129 : BitVec 32 := 8#32
  let v1557 : BitVec 32 := Scalar.subi v1556 c8_i32_129
  v1557
def k0_mult11 : BitVec 32 :=
  let c6_i32 : BitVec 32 := 6#32
  let c128_i32_150 : BitVec 32 := 128#32
  let v1864 : BitVec 32 := Scalar.muli c6_i32 c128_i32_150
  v1864
def k0_mult12 : BitVec 32 :=
  let c6_i32 : BitVec 32 := 6#32
  let c128_i32_150 : BitVec 32 := 128#32
  let v1864 : BitVec 32 := Scalar.muli c6_i32 c128_i32_150
  let v1865 : BitVec 32 := v1864
  let c8_i32_151 : BitVec 32 := 8#32
  let v1866 : BitVec 32 := Scalar.subi v1865 c8_i32_151
  v1866
def k0_mult13 : BitVec 32 :=
  let c7_i32 : BitVec 32 := 7#32
  let c128_i32_172 : BitVec 32 := 128#32
  let v2173 : BitVec 32 := Scalar.muli c7_i32 c128_i32_172
  v2173
def k0_mult14 : BitVec 32 :=
  let c7_i32 : BitVec 32 := 7#32
  let c128_i32_172 : BitVec 32 := 128#32
  let v2173 : BitVec 32 := Scalar.muli c7_i32 c128_i32_172
  let v2174 : BitVec 32 := v2173
  let c8_i32_173 : BitVec 32 := 8#32
  let v2175 : BitVec 32 := Scalar.subi v2174 c8_i32_173
  v2175
def k0_mult15 : BitVec 32 :=
  let c8_i32_194 : BitVec 32 := 8#32
  let c128_i32_195 : BitVec 32 := 128#32
  let v2482 : BitVec 32 := Scalar.muli c8_i32_194 c128_i32_195
  v2482
def k0_mult16 : BitVec 32 :=
  let c8_i32_194 : BitVec 32 := 8#32
  let c128_i32_195 : BitVec 32 := 128#32
  let v2482 : BitVec 32 := Scalar.muli c8_i32_194 c128_i32_195
  let v2483 : BitVec 32 := v2482
  let c8_i32_196 : BitVec 32 := 8#32
  let v2484 : BitVec 32 := Scalar.subi v2483 c8_i32_196
  v2484
def k0_mult17 : BitVec 32 :=
  let c9_i32 : BitVec 32 := 9#32
  let c128_i32_217 : BitVec 32 := 128#32
  let v2791 : BitVec 32 := Scalar.muli c9_i32 c128_i32_217
  v2791
def k0_mult18 : BitVec 32 :=
  let c9_i32 : BitVec 32 := 9#32
  let c128_i32_217 : BitVec 32 := 128#32
  let v2791 : BitVec 32 := Scalar.muli c9_i32 c128_i32_217
  let v2792 : BitVec 32 := v2791
  let c8_i32_218 : BitVec 32 := 8#32
  let v2793 : BitVec 32 := Scalar.subi v2792 c8_i32_218
  v2793
def k0_mult19 : BitVec 32 :=
  let c10_i32 : BitVec 32 := 10#32
  let c128_i32_239 : BitVec 32 := 128#32
  let v3100 : BitVec 32 := Scalar.muli c10_i32 c128_i32_239
  v3100
def k0_mult20 : BitVec 32 :=
  let c10_i32 : BitVec 32 := 10#32
  let c128_i32_239 : BitVec 32 := 128#32
  let v3100 : BitVec 32 := Scalar.muli c10_i32 c128_i32_239
  let v3101 : BitVec 32 := v3100
  let c8_i32_240 : BitVec 32 := 8#32
  let v3102 : BitVec 32 := Scalar.subi v3101 c8_i32_240
  v3102
def k0_mult21 : BitVec 32 :=
  let c11_i32 : BitVec 32 := 11#32
  let c128_i32_261 : BitVec 32 := 128#32
  let v3409 : BitVec 32 := Scalar.muli c11_i32 c128_i32_261
  v3409
def k0_mult22 : BitVec 32 :=
  let c11_i32 : BitVec 32 := 11#32
  let c128_i32_261 : BitVec 32 := 128#32
  let v3409 : BitVec 32 := Scalar.muli c11_i32 c128_i32_261
  let v3410 : BitVec 32 := v3409
  let c8_i32_262 : BitVec 32 := 8#32
  let v3411 : BitVec 32 := Scalar.subi v3410 c8_i32_262
  v3411
def k0_mult23 : BitVec 32 :=
  let c12_i32 : BitVec 32 := 12#32
  let c128_i32_283 : BitVec 32 := 128#32
  let v3718 : BitVec 32 := Scalar.muli c12_i32 c128_i32_283
  v3718
def k0_mult24 : BitVec 32 :=
  let c12_i32 : BitVec 32 := 12#32
  let c128_i32_283 : BitVec 32 := 128#32
  let v3718 : BitVec 32 := Scalar.muli c12_i32 c128_i32_283
  let v3719 : BitVec 32 := v3718
  let c8_i32_284 : BitVec 32 := 8#32
  let v3720 : BitVec 32 := Scalar.subi v3719 c8_i32_284
  v3720
def k0_mult25 : BitVec 32 :=
  let c13_i32 : BitVec 32 := 13#32
  let c128_i32_305 : BitVec 32 := 128#32
  let v4027 : BitVec 32 := Scalar.muli c13_i32 c128_i32_305
  v4027
def k0_mult26 : BitVec 32 :=
  let c13_i32 : BitVec 32 := 13#32
  let c128_i32_305 : BitVec 32 := 128#32
  let v4027 : BitVec 32 := Scalar.muli c13_i32 c128_i32_305
  let v4028 : BitVec 32 := v4027
  let c8_i32_306 : BitVec 32 := 8#32
  let v4029 : BitVec 32 := Scalar.subi v4028 c8_i32_306
  v4029
def k0_mult27 : BitVec 32 :=
  let c14_i32 : BitVec 32 := 14#32
  let c128_i32_327 : BitVec 32 := 128#32
  let v4336 : BitVec 32 := Scalar.muli c14_i32 c128_i32_327
  v4336
def k0_mult28 : BitVec 32 :=
  let c14_i32 : BitVec 32 := 14#32
  let c128_i32_327 : BitVec 32 := 128#32
  let v4336 : BitVec 32 := Scalar.muli c14_i32 c128_i32_327
  let v4337 : BitVec 32 := v4336
  let c8_i32_328 : BitVec 32 := 8#32
  let v4338 : BitVec 32 := Scalar.subi v4337 c8_i32_328
  v4338
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c255_i32 : BitVec 32 := 255#32
  let v2 : BitVec 32 := Scalar.minsi v1 c255_i32
  let c11_i32 : BitVec 32 := 11#32
  let v3 : BitVec 32 := Scalar.addi c11_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c127_i32 : BitVec 32 := 127#32
  let v2 : BitVec 32 := Scalar.minsi v1 c127_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S2048x5632 : Shape := ⟨2, ![2048, 5632]⟩
abbrev S2048x2816 : Shape := ⟨2, ![2048, 2816]⟩
abbrev S3x5632 : Shape := ⟨2, ![3, 5632]⟩
abbrev S4x8x2816 : Shape := ⟨3, ![4, 8, 2816]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S5632 : Shape := ⟨1, ![5632]⟩
abbrev S3x2816 : Shape := ⟨2, ![3, 2816]⟩
abbrev S5x2816 : Shape := ⟨2, ![5, 2816]⟩
abbrev S8x2816 : Shape := ⟨2, ![8, 2816]⟩
abbrev S1x8x2816 : Shape := ⟨3, ![1, 8, 2816]⟩
abbrev S3x8x2816 : Shape := ⟨3, ![3, 8, 2816]⟩

abbrev nBuf : Space → Nat
  | .hbm => 106
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2816, .bf16⟩
  | .hbm, ⟨2, _⟩ => ⟨S3x5632, .f32⟩
  | .hbm, ⟨3, _⟩ => ⟨S4x8x2816, .f32⟩
  | .hbm, ⟨4, _⟩ => ⟨S4x8x2816, .f32⟩
  | .hbm, ⟨5, _⟩ => ⟨S_, .f32⟩
  | .hbm, ⟨6, _⟩ => ⟨S2x5632, .f32⟩
  | .hbm, ⟨7, _⟩ => ⟨S2050x5632, .f32⟩
  | .hbm, ⟨8, _⟩ => ⟨S_, .f32⟩
  | .hbm, ⟨9, _⟩ => ⟨S2x5632, .f32⟩
  | .hbm, ⟨10, _⟩ => ⟨S1x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S1x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S1x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S_, .f32⟩
  | .hbm, ⟨48, _⟩ => ⟨S2048x5632, .f32⟩
  | .hbm, ⟨49, _⟩ => ⟨S_, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S_, .f32⟩
  | .hbm, ⟨56, _⟩ => ⟨S5632, .f32⟩
  | .hbm, ⟨57, _⟩ => ⟨S1x5632, .f32⟩
  | .hbm, ⟨58, _⟩ => ⟨S_, .f32⟩
  | .hbm, ⟨59, _⟩ => ⟨S2050x5632, .f32⟩
  | .hbm, ⟨60, _⟩ => ⟨S_, .f32⟩
  | .hbm, ⟨61, _⟩ => ⟨S3x5632, .f32⟩
  | .hbm, ⟨62, _⟩ => ⟨S2048x5632, .f32⟩
  | .hbm, ⟨63, _⟩ => ⟨S2048x5632, .f32⟩
  | .hbm, ⟨64, _⟩ => ⟨S2048x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S2050x5632, .f32⟩
  | .hbm, ⟨70, _⟩ => ⟨S2050x5632, .f32⟩
  | .hbm, ⟨71, _⟩ => ⟨S_, .f32⟩
  | .hbm, ⟨72, _⟩ => ⟨S3x5632, .f32⟩
  | .hbm, ⟨73, _⟩ => ⟨S3x5632, .f32⟩
  | .hbm, ⟨74, _⟩ => ⟨S2048x5632, .f32⟩
  | .hbm, ⟨75, _⟩ => ⟨S2048x5632, .f32⟩
  | .hbm, ⟨76, _⟩ => ⟨S2048x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S_, .f32⟩
  | .hbm, ⟨81, _⟩ => ⟨S2050x5632, .f32⟩
  | .hbm, ⟨82, _⟩ => ⟨S2050x5632, .f32⟩
  | .hbm, ⟨83, _⟩ => ⟨S_, .f32⟩
  | .hbm, ⟨84, _⟩ => ⟨S3x5632, .f32⟩
  | .hbm, ⟨85, _⟩ => ⟨S3x5632, .f32⟩
  | .hbm, ⟨86, _⟩ => ⟨S2x5632, .f32⟩
  | .hbm, ⟨87, _⟩ => ⟨S2048x5632, .f32⟩
  | .hbm, ⟨88, _⟩ => ⟨S2048x2816, .f32⟩
  | .hbm, ⟨89, _⟩ => ⟨S2048x2816, .bf16⟩
  | .hbm, ⟨90, _⟩ => ⟨S2048x2816, .f32⟩
  | .hbm, ⟨91, _⟩ => ⟨S2048x2816, .bf16⟩
  | .hbm, ⟨92, _⟩ => ⟨S3x2816, .f32⟩
  | .hbm, ⟨93, _⟩ => ⟨S_, .f32⟩
  | .hbm, ⟨94, _⟩ => ⟨S5x2816, .f32⟩
  | .hbm, ⟨95, _⟩ => ⟨S8x2816, .f32⟩
  | .hbm, ⟨96, _⟩ => ⟨S1x8x2816, .f32⟩
  | .hbm, ⟨97, _⟩ => ⟨S3x8x2816, .f32⟩
  | .hbm, ⟨98, _⟩ => ⟨S4x8x2816, .f32⟩
  | .hbm, ⟨99, _⟩ => ⟨S3x2816, .f32⟩
  | .hbm, ⟨100, _⟩ => ⟨S_, .f32⟩
  | .hbm, ⟨101, _⟩ => ⟨S5x2816, .f32⟩
  | .hbm, ⟨102, _⟩ => ⟨S8x2816, .f32⟩
  | .hbm, ⟨103, _⟩ => ⟨S1x8x2816, .f32⟩
  | .hbm, ⟨104, _⟩ => ⟨S3x8x2816, .f32⟩
  | .hbm, ⟨105, _⟩ => ⟨S4x8x2816, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v19_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v19_1 : Ref sig .tc := ⟨.hbm, 37, rfl⟩
abbrev main_v19_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]
-- ==== KernelDh2.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S4x1x1024 : Shape := ⟨3, ![4, 1, 1024]⟩
abbrev S512x2816 : Shape := ⟨2, ![512, 2816]⟩
abbrev S512x1024 : Shape := ⟨2, ![512, 1024]⟩
abbrev S1x1x1024 : Shape := ⟨3, ![1, 1, 1024]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S4x1x1024, .f32⟩
  | .hbm, ⟨7, _⟩ => ⟨S2048x1024, .f32⟩
  | .hbm, ⟨8, _⟩ => ⟨S4x1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceDh2Ideal.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S4x1x1024 : Shape := ⟨3, ![4, 1, 1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩
abbrev S1024 : Shape := ⟨1, ![1024]⟩
abbrev S1x1x1024 : Shape := ⟨3, ![1, 1, 1024]⟩
abbrev S3x1x1024 : Shape := ⟨3, ![3, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S4x1x1024, .f32⟩
  | .hbm, ⟨7, _⟩ => ⟨S2048x5632, .bf16⟩
  | .hbm, ⟨8, _⟩ => ⟨S2048x5632, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S5632x1024, .f32⟩
  | .hbm, ⟨29, _⟩ => ⟨S1024x5632, .f32⟩
  | .hbm, ⟨30, _⟩ => ⟨S2048x5632, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1x1x1024, .f32⟩
  | .hbm, ⟨57, _⟩ => ⟨S3x1x1024, .f32⟩
  | .hbm, ⟨58, _⟩ => ⟨S4x1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KernelDwup.lean ====
abbrev S2048x2816 : Shape := ⟨2, ![2048, 2816]⟩
abbrev S2048x1024 : Shape := ⟨2, ![2048, 1024]⟩
abbrev S1x1024 : Shape := ⟨2, ![1, 1024]⟩
abbrev S5632x1024 : Shape := ⟨2, ![5632, 1024]⟩
abbrev S2048x1408 : Shape := ⟨2, ![2048, 1408]⟩
abbrev S1408x1024 : Shape := ⟨2, ![1408, 1024]⟩
abbrev S2048 : Shape := ⟨1, ![2048]⟩
abbrev S2048x1 : Shape := ⟨2, ![2048, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .f32⟩
  | .hbm, ⟨3, _⟩ => ⟨S1x1024, .f32⟩
  | .hbm, ⟨4, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .f32⟩
  | .local _ .vmem, ⟨5, _⟩ => ⟨S1x1024, .f32⟩
  | .local _ .vmem, ⟨6, _⟩ => ⟨S1408x1024, .bf16⟩
  | .local _ .vmem, ⟨7, _⟩ => ⟨S1408x1024, .bf16⟩
  | .local _ .vmem, ⟨8, _⟩ => ⟨S2048x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c2_i32 : BitVec 32 := 2#32
  let v4 : BitVec 1 := Scalar.cmpi .slt arg0 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c2_i32_3 : BitVec 32 := 2#32
  let v8 : BitVec 1 := Scalar.cmpi .sge arg0 c2_i32_3
  let c4_i32 : BitVec 32 := 4#32
  let v9 : BitVec 1 := Scalar.cmpi .slt arg0 c4_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDwupIdeal.lean ====
abbrev S2048x2816 : Shape := ⟨2, ![2048, 2816]⟩
abbrev S2048x1024 : Shape := ⟨2, ![2048, 1024]⟩
abbrev S1x1024 : Shape := ⟨2, ![1, 1024]⟩
abbrev S2048x5632 : Shape := ⟨2, ![2048, 5632]⟩
abbrev S_ : Shape := ⟨0, ![]⟩
abbrev S5632x1024 : Shape := ⟨2, ![5632, 1024]⟩
abbrev S2048 : Shape := ⟨1, ![2048]⟩
abbrev S2048x1 : Shape := ⟨2, ![2048, 1]⟩
abbrev S1024x5632 : Shape := ⟨2, ![1024, 5632]⟩

abbrev nBuf : Space → Nat
  | .hbm => 29
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .f32⟩
  | .hbm, ⟨3, _⟩ => ⟨S1x1024, .f32⟩
  | .hbm, ⟨4, _⟩ => ⟨S2048x5632, .bf16⟩
  | .hbm, ⟨5, _⟩ => ⟨S2048x5632, .f32⟩
  | .hbm, ⟨6, _⟩ => ⟨S_, .f32⟩
  | .hbm, ⟨7, _⟩ => ⟨S5632x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1024x5632, .f32⟩
  | .hbm, ⟨24, _⟩ => ⟨S2048x5632, .f32⟩
  | .hbm, ⟨25, _⟩ => ⟨S5632x1024, .f32⟩
  | .hbm, ⟨26, _⟩ => ⟨S1024x5632, .f32⟩
  | .hbm, ⟨27, _⟩ => ⟨S5632x1024, .f32⟩
  | .hbm, ⟨28, _⟩ => ⟨S5632x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelUp.lean ====
abbrev S2048x1024 : Shape := ⟨2, ![2048, 1024]⟩
abbrev S5632x1024 : Shape := ⟨2, ![5632, 1024]⟩
abbrev S1x1024 : Shape := ⟨2, ![1, 1024]⟩
abbrev S2048x5632 : Shape := ⟨2, ![2048, 5632]⟩
abbrev S1024x1024 : Shape := ⟨2, ![1024, 1024]⟩
abbrev S1408x1024 : Shape := ⟨2, ![1408, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S5632x1024, .bf16⟩
  | .hbm, ⟨2, _⟩ => ⟨S1x1024, .f32⟩
  | .hbm, ⟨3, _⟩ => ⟨S2048x5632, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1x1024, .f32⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S2048x1024 : Shape := ⟨2, ![2048, 1024]⟩
abbrev S5632x1024 : Shape := ⟨2, ![5632, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩
abbrev S2048x5632 : Shape := ⟨2, ![2048, 5632]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S5632x1024, .bf16⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S5632x1024, .f32⟩
  | .hbm, ⟨19, _⟩ => ⟨S1024x5632, .f32⟩
  | .hbm, ⟨20, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelDact.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDactIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x2816, .f32⟩
  | .hbm, ⟨7, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwdown.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwdownIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDown.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDh.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S4x1x1024 : Shape := ⟨3, ![4, 1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S4x1x1024, .f32⟩
  | .hbm, ⟨6, _⟩ => ⟨S2048x1024, .f32⟩
  | .hbm, ⟨7, _⟩ => ⟨S4x1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDhIdeal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S4x1x1024 : Shape := ⟨3, ![4, 1, 1024]⟩
abbrev S_ : Shape := ⟨0, ![]⟩
abbrev S2048 : Shape := ⟨1, ![2048]⟩
abbrev S2048x1 : Shape := ⟨2, ![2048, 1]⟩
abbrev S1024x2816 : Shape := ⟨2, ![1024, 2816]⟩
abbrev S1024 : Shape := ⟨1, ![1024]⟩
abbrev S1x1x1024 : Shape := ⟨3, ![1, 1, 1024]⟩
abbrev S3x1x1024 : Shape := ⟨3, ![3, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S4x1x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2816x1024, .f32⟩
  | .hbm, ⟨26, _⟩ => ⟨S1024x2816, .f32⟩
  | .hbm, ⟨27, _⟩ => ⟨S2048x2816, .f32⟩
  | .hbm, ⟨28, _⟩ => ⟨S2048x2816, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1x1024, .f32⟩
  | .hbm, ⟨55, _⟩ => ⟨S3x1x1024, .f32⟩
  | .hbm, ⟨56, _⟩ => ⟨S4x1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KernelDwin.lean ====
abbrev S2048x2816 : Shape := ⟨2, ![2048, 2816]⟩
abbrev S2048x1024 : Shape := ⟨2, ![2048, 1024]⟩
abbrev S1x1024 : Shape := ⟨2, ![1, 1024]⟩
abbrev S2816x1024 : Shape := ⟨2, ![2816, 1024]⟩
abbrev S2048x1408 : Shape := ⟨2, ![2048, 1408]⟩
abbrev S1408x1024 : Shape := ⟨2, ![1408, 1024]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S1x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S1x1024, .f32⟩
  | .local _ .vmem, ⟨4, _⟩ => ⟨S1408x1024, .bf16⟩
  | .local _ .vmem, ⟨5, _⟩ => ⟨S1408x1024, .bf16⟩
  | .local _ .vmem, ⟨6, _⟩ => ⟨S2048x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDwinIdeal.lean ====
abbrev S2048x2816 : Shape := ⟨2, ![2048, 2816]⟩
abbrev S2048x1024 : Shape := ⟨2, ![2048, 1024]⟩
abbrev S1x1024 : Shape := ⟨2, ![1, 1024]⟩
abbrev S_ : Shape := ⟨0, ![]⟩
abbrev S2816x1024 : Shape := ⟨2, ![2816, 1024]⟩
abbrev S2048 : Shape := ⟨1, ![2048]⟩
abbrev S2048x1 : Shape := ⟨2, ![2048, 1]⟩
abbrev S1024x2816 : Shape := ⟨2, ![1024, 2816]⟩

abbrev nBuf : Space → Nat
  | .hbm => 27
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S1x1024, .f32⟩
  | .hbm, ⟨3, _⟩ => ⟨S_, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S1024x2816, .f32⟩
  | .hbm, ⟨21, _⟩ => ⟨S2048x2816, .f32⟩
  | .hbm, ⟨22, _⟩ => ⟨S2048x2816, .f32⟩
  | .hbm, ⟨23, _⟩ => ⟨S2816x1024, .f32⟩
  | .hbm, ⟨24, _⟩ => ⟨S1024x2816, .f32⟩
  | .hbm, ⟨25, _⟩ => ⟨S2816x1024, .f32⟩
  | .hbm, ⟨26, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelIn.lean ====
abbrev S2048x1024 : Shape := ⟨2, ![2048, 1024]⟩
abbrev S2816x1024 : Shape := ⟨2, ![2816, 1024]⟩
abbrev S1x1024 : Shape := ⟨2, ![1, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S1x1024, .f32⟩
  | .hbm, ⟨3, _⟩ => ⟨S2048x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1x1024, .f32⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S2048x1024 : Shape := ⟨2, ![2048, 1024]⟩
abbrev S2816x1024 : Shape := ⟨2, ![2816, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x2816 : Shape := ⟨2, ![1024, 2816]⟩
abbrev S2048x2816 : Shape := ⟨2, ![2048, 2816]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2816x1024, .f32⟩
  | .hbm, ⟨19, _⟩ => ⟨S1024x2816, .f32⟩
  | .hbm, ⟨20, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelDy.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDyIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwout.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwoutIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOut.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAct.lean ====
abbrev S2048x5632 : Shape := ⟨2, ![2048, 5632]⟩
abbrev S3x5632 : Shape := ⟨2, ![3, 5632]⟩
abbrev S2048x2816 : Shape := ⟨2, ![2048, 2816]⟩
abbrev S2048x256 : Shape := ⟨2, ![2048, 256]⟩
abbrev S8x256 : Shape := ⟨2, ![8, 256]⟩
abbrev S3x256 : Shape := ⟨2, ![3, 256]⟩
abbrev S1x256 : Shape := ⟨2, ![1, 256]⟩
abbrev S128x256 : Shape := ⟨2, ![128, 256]⟩
abbrev S136x256 : Shape := ⟨2, ![136, 256]⟩

abbrev nBuf : Space → Nat
  | .hbm => 3
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2048x2816, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S2048x256, .bf16⟩
  | .local _ .vmem, ⟨13, _⟩ => ⟨S2048x256, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 1], ![false, false]⟩

def k0_mult1 : BitVec 32 :=
  let c1_i32 : BitVec 32 := 1#32
  let c128_i32 : BitVec 32 := 128#32
  let v54 : BitVec 32 := Scalar.muli c1_i32 c128_i32
  v54
def k0_mult2 : BitVec 32 :=
  let c1_i32 : BitVec 32 := 1#32
  let c128_i32 : BitVec 32 := 128#32
  let v54 : BitVec 32 := Scalar.muli c1_i32 c128_i32
  let v55 : BitVec 32 := v54
  let c8_i32 : BitVec 32 := 8#32
  let v56 : BitVec 32 := Scalar.subi v55 c8_i32
  v56
def k0_off1 (c1_i32 : BitVec 32) : Fin 2 → Nat :=
  let c128_i32 : BitVec 32 := 128#32
  let v54 : BitVec 32 := Scalar.muli c1_i32 c128_i32
  let v55 : BitVec 32 := v54
  let c8_i32 : BitVec 32 := 8#32
  let v56 : BitVec 32 := Scalar.subi v55 c8_i32
  let v57 : BitVec 32 := v56
  let v58 : Index := Scalar.indexCast v57
  let c0_25 : Index := 0#32
  ![v58.toNat, 0]
def k0_off2 (c1_i32 : BitVec 32) : Fin 2 → Nat :=
  let c128_i32 : BitVec 32 := 128#32
  let v54 : BitVec 32 := Scalar.muli c1_i32 c128_i32
  let v55 : BitVec 32 := v54
  let v98 : Index := Scalar.indexCast v55
  let c0_32 : Index := 0#32
  ![v98.toNat, 0]
def k0_mult3 : BitVec 32 :=
  let c2_i32 : BitVec 32 := 2#32
  let c128_i32_33 : BitVec 32 := 128#32
  let v100 : BitVec 32 := Scalar.muli c2_i32 c128_i32_33
  v100
def k0_mult4 : BitVec 32 :=
  let c2_i32 : BitVec 32 := 2#32
  let c128_i32_33 : BitVec 32 := 128#32
  let v100 : BitVec 32 := Scalar.muli c2_i32 c128_i32_33
  let v101 : BitVec 32 := v100
  let c8_i32_34 : BitVec 32 := 8#32
  let v102 : BitVec 32 := Scalar.subi v101 c8_i32_34
  v102
def k0_mult5 : BitVec 32 :=
  let c3_i32 : BitVec 32 := 3#32
  let c128_i32_43 : BitVec 32 := 128#32
  let v146 : BitVec 32 := Scalar.muli c3_i32 c128_i32_43
  v146
def k0_mult6 : BitVec 32 :=
  let c3_i32 : BitVec 32 := 3#32
  let c128_i32_43 : BitVec 32 := 128#32
  let v146 : BitVec 32 := Scalar.muli c3_i32 c128_i32_43
  let v147 : BitVec 32 := v146
  let c8_i32_44 : BitVec 32 := 8#32
  let v148 : BitVec 32 := Scalar.subi v147 c8_i32_44
  v148
def k0_mult7 : BitVec 32 :=
  let c4_i32 : BitVec 32 := 4#32
  let c128_i32_53 : BitVec 32 := 128#32
  let v192 : BitVec 32 := Scalar.muli c4_i32 c128_i32_53
  v192
def k0_mult8 : BitVec 32 :=
  let c4_i32 : BitVec 32 := 4#32
  let c128_i32_53 : BitVec 32 := 128#32
  let v192 : BitVec 32 := Scalar.muli c4_i32 c128_i32_53
  let v193 : BitVec 32 := v192
  let c8_i32_54 : BitVec 32 := 8#32
  let v194 : BitVec 32 := Scalar.subi v193 c8_i32_54
  v194
def k0_mult9 : BitVec 32 :=
  let c5_i32 : BitVec 32 := 5#32
  let c128_i32_63 : BitVec 32 := 128#32
  let v238 : BitVec 32 := Scalar.muli c5_i32 c128_i32_63
  v238
def k0_mult10 : BitVec 32 :=
  let c5_i32 : BitVec 32 := 5#32
  let c128_i32_63 : BitVec 32 := 128#32
  let v238 : BitVec 32 := Scalar.muli c5_i32 c128_i32_63
  let v239 : BitVec 32 := v238
  let c8_i32_64 : BitVec 32 := 8#32
  let v240 : BitVec 32 := Scalar.subi v239 c8_i32_64
  v240
def k0_mult11 : BitVec 32 :=
  let c6_i32 : BitVec 32 := 6#32
  let c128_i32_73 : BitVec 32 := 128#32
  let v284 : BitVec 32 := Scalar.muli c6_i32 c128_i32_73
  v284
def k0_mult12 : BitVec 32 :=
  let c6_i32 : BitVec 32 := 6#32
  let c128_i32_73 : BitVec 32 := 128#32
  let v284 : BitVec 32 := Scalar.muli c6_i32 c128_i32_73
  let v285 : BitVec 32 := v284
  let c8_i32_74 : BitVec 32 := 8#32
  let v286 : BitVec 32 := Scalar.subi v285 c8_i32_74
  v286
def k0_mult13 : BitVec 32 :=
  let c7_i32 : BitVec 32 := 7#32
  let c128_i32_83 : BitVec 32 := 128#32
  let v330 : BitVec 32 := Scalar.muli c7_i32 c128_i32_83
  v330
def k0_mult14 : BitVec 32 :=
  let c7_i32 : BitVec 32 := 7#32
  let c128_i32_83 : BitVec 32 := 128#32
  let v330 : BitVec 32 := Scalar.muli c7_i32 c128_i32_83
  let v331 : BitVec 32 := v330
  let c8_i32_84 : BitVec 32 := 8#32
  let v332 : BitVec 32 := Scalar.subi v331 c8_i32_84
  v332
def k0_mult15 : BitVec 32 :=
  let c8_i32_93 : BitVec 32 := 8#32
  let c128_i32_94 : BitVec 32 := 128#32
  let v376 : BitVec 32 := Scalar.muli c8_i32_93 c128_i32_94
  v376
def k0_mult16 : BitVec 32 :=
  let c8_i32_93 : BitVec 32 := 8#32
  let c128_i32_94 : BitVec 32 := 128#32
  let v376 : BitVec 32 := Scalar.muli c8_i32_93 c128_i32_94
  let v377 : BitVec 32 := v376
  let c8_i32_95 : BitVec 32 := 8#32
  let v378 : BitVec 32 := Scalar.subi v377 c8_i32_95
  v378
def k0_mult17 : BitVec 32 :=
  let c9_i32 : BitVec 32 := 9#32
  let c128_i32_104 : BitVec 32 := 128#32
  let v422 : BitVec 32 := Scalar.muli c9_i32 c128_i32_104
  v422
def k0_mult18 : BitVec 32 :=
  let c9_i32 : BitVec 32 := 9#32
  let c128_i32_104 : BitVec 32 := 128#32
  let v422 : BitVec 32 := Scalar.muli c9_i32 c128_i32_104
  let v423 : BitVec 32 := v422
  let c8_i32_105 : BitVec 32 := 8#32
  let v424 : BitVec 32 := Scalar.subi v423 c8_i32_105
  v424
def k0_mult19 : BitVec 32 :=
  let c10_i32 : BitVec 32 := 10#32
  let c128_i32_114 : BitVec 32 := 128#32
  let v468 : BitVec 32 := Scalar.muli c10_i32 c128_i32_114
  v468
def k0_mult20 : BitVec 32 :=
  let c10_i32 : BitVec 32 := 10#32
  let c128_i32_114 : BitVec 32 := 128#32
  let v468 : BitVec 32 := Scalar.muli c10_i32 c128_i32_114
  let v469 : BitVec 32 := v468
  let c8_i32_115 : BitVec 32 := 8#32
  let v470 : BitVec 32 := Scalar.subi v469 c8_i32_115
  v470
def k0_mult21 : BitVec 32 :=
  let c11_i32 : BitVec 32 := 11#32
  let c128_i32_124 : BitVec 32 := 128#32
  let v514 : BitVec 32 := Scalar.muli c11_i32 c128_i32_124
  v514
def k0_mult22 : BitVec 32 :=
  let c11_i32 : BitVec 32 := 11#32
  let c128_i32_124 : BitVec 32 := 128#32
  let v514 : BitVec 32 := Scalar.muli c11_i32 c128_i32_124
  let v515 : BitVec 32 := v514
  let c8_i32_125 : BitVec 32 := 8#32
  let v516 : BitVec 32 := Scalar.subi v515 c8_i32_125
  v516
def k0_mult23 : BitVec 32 :=
  let c12_i32 : BitVec 32 := 12#32
  let c128_i32_134 : BitVec 32 := 128#32
  let v560 : BitVec 32 := Scalar.muli c12_i32 c128_i32_134
  v560
def k0_mult24 : BitVec 32 :=
  let c12_i32 : BitVec 32 := 12#32
  let c128_i32_134 : BitVec 32 := 128#32
  let v560 : BitVec 32 := Scalar.muli c12_i32 c128_i32_134
  let v561 : BitVec 32 := v560
  let c8_i32_135 : BitVec 32 := 8#32
  let v562 : BitVec 32 := Scalar.subi v561 c8_i32_135
  v562
def k0_mult25 : BitVec 32 :=
  let c13_i32 : BitVec 32 := 13#32
  let c128_i32_144 : BitVec 32 := 128#32
  let v606 : BitVec 32 := Scalar.muli c13_i32 c128_i32_144
  v606
def k0_mult26 : BitVec 32 :=
  let c13_i32 : BitVec 32 := 13#32
  let c128_i32_144 : BitVec 32 := 128#32
  let v606 : BitVec 32 := Scalar.muli c13_i32 c128_i32_144
  let v607 : BitVec 32 := v606
  let c8_i32_145 : BitVec 32 := 8#32
  let v608 : BitVec 32 := Scalar.subi v607 c8_i32_145
  v608
def k0_mult27 : BitVec 32 :=
  let c14_i32 : BitVec 32 := 14#32
  let c128_i32_154 : BitVec 32 := 128#32
  let v652 : BitVec 32 := Scalar.muli c14_i32 c128_i32_154
  v652
def k0_mult28 : BitVec 32 :=
  let c14_i32 : BitVec 32 := 14#32
  let c128_i32_154 : BitVec 32 := 128#32
  let v652 : BitVec 32 := Scalar.muli c14_i32 c128_i32_154
  let v653 : BitVec 32 := v652
  let c8_i32_155 : BitVec 32 := 8#32
  let v654 : BitVec 32 := Scalar.subi v653 c8_i32_155
  v654
def k0_mult29 : BitVec 32 :=
  let c15_i32 : BitVec 32 := 15#32
  let c128_i32_164 : BitVec 32 := 128#32
  let v698 : BitVec 32 := Scalar.muli c15_i32 c128_i32_164
  v698
def k0_mult30 : BitVec 32 :=
  let c15_i32 : BitVec 32 := 15#32
  let c128_i32_164 : BitVec 32 := 128#32
  let v698 : BitVec 32 := Scalar.muli c15_i32 c128_i32_164
  let v699 : BitVec 32 := v698
  let c8_i32_165 : BitVec 32 := 8#32
  let v700 : BitVec 32 := Scalar.subi v699 c8_i32_165
  v700
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceActIdeal.lean ====
abbrev S2048x5632 : Shape := ⟨2, ![2048, 5632]⟩
abbrev S3x5632 : Shape := ⟨2, ![3, 5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S2048x2816 : Shape := ⟨2, ![2048, 2816]⟩

abbrev nBuf : Space → Nat
  | .hbm => 32
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S_, .f32⟩
  | .hbm, ⟨3, _⟩ => ⟨S2x5632, .f32⟩
  | .hbm, ⟨4, _⟩ => ⟨S2050x5632, .f32⟩
  | .hbm, ⟨5, _⟩ => ⟨S1x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S1x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S1x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S_, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== KernelLoss.lean ====
abbrev S2048x1024 : Shape := ⟨2, ![2048, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S8x128, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== KernelMix.lean ====
abbrev S2048x2816 : Shape := ⟨2, ![2048, 2816]⟩
abbrev S2048x512 : Shape := ⟨2, ![2048, 512]⟩
abbrev S3x256 : Shape := ⟨2, ![3, 256]⟩
abbrev S31x256 : Shape := ⟨2, ![31, 256]⟩
abbrev S1x256 : Shape := ⟨2, ![1, 256]⟩
abbrev S1x1024 : Shape := ⟨2, ![1, 1024]⟩
abbrev S2048x1024 : Shape := ⟨2, ![2048, 1024]⟩
abbrev S2048x256 : Shape := ⟨2, ![2048, 256]⟩
abbrev S512x256 : Shape := ⟨2, ![512, 256]⟩
abbrev S32x256 : Shape := ⟨2, ![32, 256]⟩
abbrev S512x512 : Shape := ⟨2, ![512, 512]⟩
abbrev S512x1024 : Shape := ⟨2, ![512, 1024]⟩
abbrev S544x256 : Shape := ⟨2, ![544, 256]⟩
abbrev S8x544x256 : Shape := ⟨3, ![8, 544, 256]⟩
abbrev S1x32x256 : Shape := ⟨3, ![1, 32, 256]⟩
abbrev S1x512x256 : Shape := ⟨3, ![1, 512, 256]⟩
abbrev S1x536x256 : Shape := ⟨3, ![1, 536, 256]⟩
abbrev S536x256 : Shape := ⟨2, ![536, 256]⟩
abbrev S512 : Shape := ⟨1, ![512]⟩
abbrev S512x1 : Shape := ⟨2, ![512, 1]⟩
abbrev S1x512 : Shape := ⟨2, ![1, 512]⟩

abbrev nBuf : Space → Nat
  | .hbm => 10
  | .vmem => 32
  | .smem => 0
  | _ => 0

abbrev bufTy : (tb : Table) → Fin (tcTables nBuf tb) → BufTy
  | .hbm, ⟨0, _⟩ => ⟨S2048x2816, .f32⟩
  | .hbm, ⟨1, _⟩ => ⟨S2048x512, .f32⟩
  | .hbm, ⟨2, _⟩ => ⟨S3x256, .f32⟩
  | .hbm, ⟨3, _⟩ => ⟨S31x256, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S1x1024, .f32⟩
  | .hbm, ⟨8, _⟩ => ⟨S2048x1024, .bf16⟩
  | .hbm, ⟨9, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S32x256, .f32⟩
  | .local _ .vmem, ⟨18, _⟩ => ⟨S512x512, .f32⟩
  | .local _ .vmem, ⟨19, _⟩ => ⟨S512x512, .f32⟩
  | .local _ .vmem, ⟨20, _⟩ => ⟨S3x256, .f32⟩
  | .local _ .vmem, ⟨21, _⟩ => ⟨S31x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x1024, .f32⟩
  | .local _ .vmem, ⟨26, _⟩ => ⟨S512x1024, .bf16⟩
  | .local _ .vmem, ⟨27, _⟩ => ⟨S512x1024, .bf16⟩
  | .local _ .vmem, ⟨28, _⟩ => ⟨S512x256, .f32⟩
  | .local _ .vmem, ⟨29, _⟩ => ⟨S512x256, .f32⟩
  | .local _ .vmem, ⟨30, _⟩ => ⟨S544x256, .f32⟩
  | .local _ .vmem, ⟨31, _⟩ => ⟨S8x544x256, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S31x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceMixIdeal.lean ====
abbrev S2048x2816 : Shape := ⟨2, ![2048, 2816]⟩
abbrev S2048x512 : Shape := ⟨2, ![2048, 512]⟩
abbrev S3x256 : Shape := ⟨2, ![3, 256]⟩
abbrev S31x256 : Shape := ⟨2, ![31, 256]⟩
abbrev S1x256 : Shape := ⟨2, ![1, 256]⟩
abbrev S1x1024 : Shape := ⟨2, ![1, 1024]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S30x256 : Shape := ⟨2, ![30, 256]⟩
abbrev S2078x256 : Shape := ⟨2, ![2078, 256]⟩
abbrev S2048 : Shape := ⟨1, ![2048]⟩
abbrev S2048x1 : Shape := ⟨2, ![2048, 1]⟩
abbrev S1x512 : Shape := ⟨2, ![1, 512]⟩
abbrev S2048x1024 : Shape := ⟨2, ![2048, 1024]⟩

abbrev nBuf : Space → Nat
  | .hbm => 286
  | .vmem => 0
  | .smem => 0
  | _ => 0

abbrev hbmTy0_0 (i : Nat) : BufTy := match i % 128 with
  | 0 => ⟨S2048x2816, .f32⟩
  | 1 => ⟨S2048x512, .f32⟩
  | 2 => ⟨S3x256, .f32⟩
  | 3 => ⟨S31x256, .f32⟩
  | 4 => ⟨S1x256, .f32⟩
  | 5 => ⟨S1x256, .f32⟩
  | 6 => ⟨S1x256, .f32⟩
  | 7 => ⟨S1x1024, .f32⟩
  | 8 => ⟨S2048x256, .f32⟩
  | 9 => ⟨S2048x256, .f32⟩
  | 10 => ⟨S2048x256, .f32⟩
  | 11 => ⟨S2048x256, .f32⟩
  | 12 => ⟨S2048x256, .f32⟩
  | 13 => ⟨S2048x256, .f32⟩
  | 14 => ⟨S_, .f32⟩
  | 15 => ⟨S2x256, .f32⟩
  | 16 => ⟨S2050x256, .f32⟩
  | 17 => ⟨S1x256, .f32⟩
  | 18 => ⟨S2048x256, .f32⟩
  | 19 => ⟨S2048x256, .f32⟩
  | 20 => ⟨S2048x256, .f32⟩
  | 21 => ⟨S1x256, .f32⟩
  | 22 => ⟨S2048x256, .f32⟩
  | 23 => ⟨S2048x256, .f32⟩
  | 24 => ⟨S2048x256, .f32⟩
  | 25 => ⟨S2048x256, .f32⟩
  | 26 => ⟨S1x256, .f32⟩
  | 27 => ⟨S2048x256, .f32⟩
  | 28 => ⟨S2048x256, .f32⟩
  | 29 => ⟨S2048x256, .f32⟩
  | 30 => ⟨S2048x256, .f32⟩
  | 31 => ⟨S2048x256, .f32⟩
  | 32 => ⟨S2048x256, .f32⟩
  | 33 => ⟨S2048x256, .f32⟩
  | 34 => ⟨S_, .f32⟩
  | 35 => ⟨S2048x256, .f32⟩
  | 36 => ⟨S2048x256, .f32⟩
  | 37 => ⟨S_, .f32⟩
  | 38 => ⟨S2048x256, .f32⟩
  | 39 => ⟨S2048x256, .f32⟩
  | 40 => ⟨S2048x256, .f32⟩
  | 41 => ⟨S_, .f32⟩
  | 42 => ⟨S30x256, .f32⟩
  | 43 => ⟨S2078x256, .f32⟩
  | 44 => ⟨S1x256, .f32⟩
  | 45 => ⟨S2048x256, .f32⟩
  | 46 => ⟨S2048x256, .f32⟩
  | 47 => ⟨S2048x256, .f32⟩
  | 48 => ⟨S1x256, .f32⟩
  | 49 => ⟨S2048x256, .f32⟩
  | 50 => ⟨S2048x256, .f32⟩
  | 51 => ⟨S2048x256, .f32⟩
  | 52 => ⟨S2048x256, .f32⟩
  | 53 => ⟨S1x256, .f32⟩
  | 54 => ⟨S2048x256, .f32⟩
  | 55 => ⟨S2048x256, .f32⟩
  | 56 => ⟨S2048x256, .f32⟩
  | 57 => ⟨S2048x256, .f32⟩
  | 58 => ⟨S1x256, .f32⟩
  | 59 => ⟨S2048x256, .f32⟩
  | 60 => ⟨S2048x256, .f32⟩
  | 61 => ⟨S2048x256, .f32⟩
  | 62 => ⟨S2048x256, .f32⟩
  | 63 => ⟨S1x256, .f32⟩
  | 64 => ⟨S2048x256, .f32⟩
  | 65 => ⟨S2048x256, .f32⟩
  | 66 => ⟨S2048x256, .f32⟩
  | 67 => ⟨S2048x256, .f32⟩
  | 68 => ⟨S1x256, .f32⟩
  | 69 => ⟨S2048x256, .f32⟩
  | 70 => ⟨S2048x256, .f32⟩
  | 71 => ⟨S2048x256, .f32⟩
  | 72 => ⟨S2048x256, .f32⟩
  | 73 => ⟨S1x256, .f32⟩
  | 74 => ⟨S2048x256, .f32⟩
  | 75 => ⟨S2048x256, .f32⟩
  | 76 => ⟨S2048x256, .f32⟩
  | 77 => ⟨S2048x256, .f32⟩
  | 78 => ⟨S1x256, .f32⟩
  | 79 => ⟨S2048x256, .f32⟩
  | 80 => ⟨S2048x256, .f32⟩
  | 81 => ⟨S2048x256, .f32⟩
  | 82 => ⟨S2048x256, .f32⟩
  | 83 => ⟨S1x256, .f32⟩
  | 84 => ⟨S2048x256, .f32⟩
  | 85 => ⟨S2048x256, .f32⟩
  | 86 => ⟨S2048x256, .f32⟩
  | 87 => ⟨S2048x256, .f32⟩
  | 88 => ⟨S1x256, .f32⟩
  | 89 => ⟨S2048x256, .f32⟩
  | 90 => ⟨S2048x256, .f32⟩
  | 91 => ⟨S2048x256, .f32⟩
  | 92 => ⟨S2048x256, .f32⟩
  | 93 => ⟨S1x256, .f32⟩
  | 94 => ⟨S2048x256, .f32⟩
  | 95 => ⟨S2048x256, .f32⟩
  | 96 => ⟨S2048x256, .f32⟩
  | 97 => ⟨S2048x256, .f32⟩
  | 98 => ⟨S1x256, .f32⟩
  | 99 => ⟨S2048x256, .f32⟩
  | 100 => ⟨S2048x256, .f32⟩
  | 101 => ⟨S2048x256, .f32⟩
  | 102 => ⟨S2048x256, .f32⟩
  | 103 => ⟨S1x256, .f32⟩
  | 104 => ⟨S2048x256, .f32⟩
  | 105 => ⟨S2048x256, .f32⟩
  | 106 => ⟨S2048x256, .f32⟩
  | 107 => ⟨S2048x256, .f32⟩
  | 108 => ⟨S1x256, .f32⟩
  | 109 => ⟨S2048x256, .f32⟩
  | 110 => ⟨S2048x256, .f32⟩
  | 111 => ⟨S2048x256, .f32⟩
  | 112 => ⟨S2048x256, .f32⟩
  | 113 => ⟨S1x256, .f32⟩
  | 114 => ⟨S2048x256, .f32⟩
  | 115 => ⟨S2048x256, .f32⟩
  | 116 => ⟨S2048x256, .f32⟩
  | 117 => ⟨S2048x256, .f32⟩
  | 118 => ⟨S1x256, .f32⟩
  | 119 => ⟨S2048x256, .f32⟩
  | 120 => ⟨S2048x256, .f32⟩
  | 121 => ⟨S2048x256, .f32⟩
  | 122 => ⟨S2048x256, .f32⟩
  | 123 => ⟨S1x256, .f32⟩
  | 124 => ⟨S2048x256, .f32⟩
  | 125 => ⟨S2048x256, .f32⟩
  | 126 => ⟨S2048x256, .f32⟩
  | 127 => ⟨S2048x256, .f32⟩
  | _ => ⟨S2048x2816, .f32⟩

abbrev hbmTy0_1 (i : Nat) : BufTy := match i % 128 with
  | 0 => ⟨S1x256, .f32⟩
  | 1 => ⟨S2048x256, .f32⟩
  | 2 => ⟨S2048x256, .f32⟩
  | 3 => ⟨S2048x256, .f32⟩
  | 4 => ⟨S2048x256, .f32⟩
  | 5 => ⟨S1x256, .f32⟩
  | 6 => ⟨S2048x256, .f32⟩
  | 7 => ⟨S2048x256, .f32⟩
  | 8 => ⟨S2048x256, .f32⟩
  | 9 => ⟨S2048x256, .f32⟩
  | 10 => ⟨S1x256, .f32⟩
  | 11 => ⟨S2048x256, .f32⟩
  | 12 => ⟨S2048x256, .f32⟩
  | 13 => ⟨S2048x256, .f32⟩
  | 14 => ⟨S2048x256, .f32⟩
  | 15 => ⟨S1x256, .f32⟩
  | 16 => ⟨S2048x256, .f32⟩
  | 17 => ⟨S2048x256, .f32⟩
  | 18 => ⟨S2048x256, .f32⟩
  | 19 => ⟨S2048x256, .f32⟩
  | 20 => ⟨S1x256, .f32⟩
  | 21 => ⟨S2048x256, .f32⟩
  | 22 => ⟨S2048x256, .f32⟩
  | 23 => ⟨S2048x256, .f32⟩
  | 24 => ⟨S2048x256, .f32⟩
  | 25 => ⟨S1x256, .f32⟩
  | 26 => ⟨S2048x256, .f32⟩
  | 27 => ⟨S2048x256, .f32⟩
  | 28 => ⟨S2048x256, .f32⟩
  | 29 => ⟨S2048x256, .f32⟩
  | 30 => ⟨S1x256, .f32⟩
  | 31 => ⟨S2048x256, .f32⟩
  | 32 => ⟨S2048x256, .f32⟩
  | 33 => ⟨S2048x256, .f32⟩
  | 34 => ⟨S2048x256, .f32⟩
  | 35 => ⟨S1x256, .f32⟩
  | 36 => ⟨S2048x256, .f32⟩
  | 37 => ⟨S2048x256, .f32⟩
  | 38 => ⟨S2048x256, .f32⟩
  | 39 => ⟨S2048x256, .f32⟩
  | 40 => ⟨S1x256, .f32⟩
  | 41 => ⟨S2048x256, .f32⟩
  | 42 => ⟨S2048x256, .f32⟩
  | 43 => ⟨S2048x256, .f32⟩
  | 44 => ⟨S2048x256, .f32⟩
  | 45 => ⟨S1x256, .f32⟩
  | 46 => ⟨S2048x256, .f32⟩
  | 47 => ⟨S2048x256, .f32⟩
  | 48 => ⟨S2048x256, .f32⟩
  | 49 => ⟨S2048x256, .f32⟩
  | 50 => ⟨S1x256, .f32⟩
  | 51 => ⟨S2048x256, .f32⟩
  | 52 => ⟨S2048x256, .f32⟩
  | 53 => ⟨S2048x256, .f32⟩
  | 54 => ⟨S2048x256, .f32⟩
  | 55 => ⟨S1x256, .f32⟩
  | 56 => ⟨S2048x256, .f32⟩
  | 57 => ⟨S2048x256, .f32⟩
  | 58 => ⟨S2048x256, .f32⟩
  | 59 => ⟨S2048x256, .f32⟩
  | 60 => ⟨S1x256, .f32⟩
  | 61 => ⟨S2048x256, .f32⟩
  | 62 => ⟨S2048x256, .f32⟩
  | 63 => ⟨S2048x256, .f32⟩
  | 64 => ⟨S2048x256, .f32⟩
  | 65 => ⟨S1x256, .f32⟩
  | 66 => ⟨S2048x256, .f32⟩
  | 67 => ⟨S2048x256, .f32⟩
  | 68 => ⟨S2048x256, .f32⟩
  | 69 => ⟨S2048x256, .f32⟩
  | 70 => ⟨S2048x256, .f32⟩
  | 71 => ⟨S2048x256, .f32⟩
  | 72 => ⟨S_, .f32⟩
  | 73 => ⟨S2048, .f32⟩
  | 74 => ⟨S2048x1, .f32⟩
  | 75 => ⟨S_, .f32⟩
  | 76 => ⟨S2048x1, .f32⟩
  | 77 => ⟨S2048x1, .f32⟩
  | 78 => ⟨S2048x256, .f32⟩
  | 79 => ⟨S2048x256, .f32⟩
  | 80 => ⟨S2048x256, .f32⟩
  | 81 => ⟨S_, .f32⟩
  | 82 => ⟨S2048, .f32⟩
  | 83 => ⟨S2048x1, .f32⟩
  | 84 => ⟨S_, .f32⟩
  | 85 => ⟨S2048x1, .f32⟩
  | 86 => ⟨S2048x1, .f32⟩
  | 87 => ⟨S2048x256, .f32⟩
  | 88 => ⟨S2048x256, .f32⟩
  | 89 => ⟨S_, .f32⟩
  | 90 => ⟨S2048x1, .f32⟩
  | 91 => ⟨S2048x1, .f32⟩
  | 92 => ⟨S2048x1, .f32⟩
  | 93 => ⟨S2048x256, .f32⟩
  | 94 => ⟨S2048x256, .f32⟩
  | 95 => ⟨S2048x256, .f32⟩
  | 96 => ⟨S2048x256, .f32⟩
  | 97 => ⟨S2048x256, .f32⟩
  | 98 => ⟨S2048x256, .f32⟩
  | 99 => ⟨S2048x256, .f32⟩
  | 100 => ⟨S2048x256, .f32⟩
  | 101 => ⟨S_, .f32⟩
  | 102 => ⟨S2048x256, .f32⟩
  | 103 => ⟨S2048x256, .f32⟩
  | 104 => ⟨S_, .f32⟩
  | 105 => ⟨S2048x256, .f32⟩
  | 106 => ⟨S2048x256, .f32⟩
  | 107 => ⟨S2048x256, .f32⟩
  | 108 => ⟨S1x256, .f32⟩
  | 109 => ⟨S2048x256, .f32⟩
  | 110 => ⟨S_, .f32⟩
  | 111 => ⟨S2048, .f32⟩
  | 112 => ⟨S2048x1, .f32⟩
  | 113 => ⟨S_, .f32⟩
  | 114 => ⟨S2048x1, .f32⟩
  | 115 => ⟨S2048x1, .f32⟩
  | 116 => ⟨S_, .f32⟩
  | 117 => ⟨S2048x1, .f32⟩
  | 118 => ⟨S2048x1, .f32⟩
  | 119 => ⟨S2048x1, .f32⟩
  | 120 => ⟨S2048x256, .f32⟩
  | 121 => ⟨S2048x256, .f32⟩
  | 122 => ⟨S2048x256, .f32⟩
  | 123 => ⟨S2048x256, .f32⟩
  | 124 => ⟨S1x512, .f32⟩
  | 125 => ⟨S2048x512, .f32⟩
  | 126 => ⟨S_, .f32⟩
  | 127 => ⟨S2048, .f32⟩
  | _ => ⟨S2048x2816, .f32⟩

abbrev hbmTy0_2 (i : Nat) : BufTy := match i % 128 with
  | 0 => ⟨S2048x1, .f32⟩
  | 1 => ⟨S_, .f32⟩
  | 2 => ⟨S2048x1, .f32⟩
  | 3 => ⟨S2048x1, .f32⟩
  | 4 => ⟨S_, .f32⟩
  | 5 => ⟨S2048x1, .f32⟩
  | 6 => ⟨S2048x1, .f32⟩
  | 7 => ⟨S2048x1, .f32⟩
  | 8 => ⟨S2048x512, .f32⟩
  | 9 => ⟨S2048x512, .f32⟩
  | 10 => ⟨S2048x512, .f32⟩
  | 11 => ⟨S2048x512, .f32⟩
  | 12 => ⟨S1x256, .f32⟩
  | 13 => ⟨S2048x256, .f32⟩
  | 14 => ⟨S_, .f32⟩
  | 15 => ⟨S2048, .f32⟩
  | 16 => ⟨S2048x1, .f32⟩
  | 17 => ⟨S_, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S2048x1, .f32⟩
  | 24 => ⟨S2048x256, .f32⟩
  | 25 => ⟨S2048x256, .f32⟩
  | 26 => ⟨S2048x256, .f32⟩
  | 27 => ⟨S2048x256, .f32⟩
  | 28 => ⟨S2048x1024, .f32⟩
  | 29 => ⟨S2048x1024, .bf16⟩
  | _ => ⟨S2048x2816, .f32⟩

abbrev hbmTy (i : Nat) : BufTy := match i / 128 with
  | 0 => hbmTy0_0 i
  | 1 => hbmTy0_1 i
  | 2 => hbmTy0_2 i
  | _ => ⟨S2048x2816, .f32⟩

abbrev bufTy : (tb : Table) → Fin (tcTables nBuf tb) → BufTy
  | .hbm, ⟨i, _⟩ => hbmTy i
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_cst_3 : Ref sig .tc := ⟨.hbm, 200, rfl⟩
abbrev main_v188 : Ref sig .tc := ⟨.hbm, 201, rfl⟩
abbrev main_v189 : Ref sig .tc := ⟨.hbm, 202, rfl⟩
abbrev main_cst_4 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_cst_5 : Ref sig .tc := ⟨.hbm, 209, rfl⟩
abbrev main_v195 : Ref sig .tc := ⟨.hbm, 210, rfl⟩
abbrev main_v196 : Ref sig .tc := ⟨.hbm, 211, rfl⟩
abbrev main_cst_6 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_cst_7 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_call0_v0 : Ref sig .tc := ⟨.hbm, 227, rfl⟩
abbrev main_call0_v1 : Ref sig .tc := ⟨.hbm, 228, rfl⟩
abbrev main_call0_cst : Ref sig .tc := ⟨.hbm, 229, rfl⟩
abbrev main_call0_v2 : Ref sig .tc := ⟨.hbm, 230, rfl⟩
abbrev main_call0_v3 : Ref sig .tc := ⟨.hbm, 231, rfl⟩
abbrev main_call0_cst_0 : Ref sig .tc := ⟨.hbm, 232, rfl⟩
abbrev main_call0_v4 : Ref sig .tc := ⟨.hbm, 233, rfl⟩
abbrev main_call0_v5 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_cst_8 : Ref sig .tc := ⟨.hbm, 238, rfl⟩
abbrev main_v213 : Ref sig .tc := ⟨.hbm, 239, rfl⟩
abbrev main_v214 : Ref sig .tc := ⟨.hbm, 240, rfl⟩
abbrev main_cst_9 : Ref sig .tc := ⟨.hbm, 241, rfl⟩
abbrev main_v215 : Ref sig .tc := ⟨.hbm, 242, rfl⟩
abbrev main_v216 : Ref sig .tc := ⟨.hbm, 243, rfl⟩
abbrev main_cst_10 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_cst_11 : Ref sig .tc := ⟨.hbm, 254, rfl⟩
abbrev main_v226 : Ref sig .tc := ⟨.hbm, 255, rfl⟩
abbrev main_v227 : Ref sig .tc := ⟨.hbm, 256, rfl⟩
abbrev main_cst_12 : Ref sig .tc := ⟨.hbm, 257, rfl⟩
abbrev main_v228 : Ref sig .tc := ⟨.hbm, 258, rfl⟩
abbrev main_v229 : Ref sig .tc := ⟨.hbm, 259, rfl⟩
abbrev main_cst_13 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_cst_14 : Ref sig .tc := ⟨.hbm, 270, rfl⟩
abbrev main_v239 : Ref sig .tc := ⟨.hbm, 271, rfl⟩
abbrev main_v240 : Ref sig .tc := ⟨.hbm, 272, rfl⟩
abbrev main_cst_15 : Ref sig .tc := ⟨.hbm, 273, rfl⟩
abbrev main_v241 : Ref sig .tc := ⟨.hbm, 274, rfl⟩
abbrev main_v242 : Ref sig .tc := ⟨.hbm, 275, rfl⟩
abbrev main_cst_16 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩

abbrev nD : Nat := 1
abbrev τ : Topo := Topo.v7x

variable {F : FTy → Type} [FloatOps F]
-- ==== KernelAdam.lean ====
abbrev S4x3x32 : Shape := ⟨3, ![4, 3, 32]⟩
abbrev S4x31x32 : Shape := ⟨3, ![4, 31, 32]⟩
abbrev S4x3x704 : Shape := ⟨3, ![4, 3, 704]⟩
abbrev S4x1024 : Shape := ⟨2, ![4, 1024]⟩
abbrev S4x256 : Shape := ⟨2, ![4, 256]⟩
abbrev S32x8 : Shape := ⟨2, ![32, 8]⟩
abbrev S1x1024 : Shape := ⟨2, ![1, 1024]⟩

abbrev nBuf : Space → Nat
  | .hbm => 77
  | .vmem => 77
  | .smem => 0
  | _ => 0

abbrev bufTy : (tb : Table) → Fin (tcTables nBuf tb) → BufTy
  | .hbm, ⟨0, _⟩ => ⟨S4x3x32, .f32⟩
  | .hbm, ⟨1, _⟩ => ⟨S4x31x32, .f32⟩
  | .hbm, ⟨2, _⟩ => ⟨S4x3x704, .f32⟩
  | .hbm, ⟨3, _⟩ => ⟨S4x1024, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x1024, .f32⟩
  | .hbm, ⟨8, _⟩ => ⟨S4x1024, .f32⟩
  | .hbm, ⟨9, _⟩ => ⟨S32x8, .f32⟩
  | .hbm, ⟨10, _⟩ => ⟨S1x1024, .f32⟩
  | .hbm, ⟨11, _⟩ => ⟨S4x3x32, .f32⟩
  | .hbm, ⟨12, _⟩ => ⟨S4x31x32, .f32⟩
  | .hbm, ⟨13, _⟩ => ⟨S4x3x704, .f32⟩
  | .hbm, ⟨14, _⟩ => ⟨S4x1024, .f32⟩
  | .hbm, ⟨15, _⟩ => ⟨S4x256, .f32⟩
  | .hbm, ⟨16, _⟩ => ⟨S4x256, .f32⟩
  | .hbm, ⟨17, _⟩ => ⟨S4x256, .f32⟩
  | .hbm, ⟨18, _⟩ => ⟨S4x1024, .f32⟩
  | .hbm, ⟨19, _⟩ => ⟨S4x1024, .f32⟩
  | .hbm, ⟨20, _⟩ => ⟨S32x8, .f32⟩
  | .hbm, ⟨21, _⟩ => ⟨S1x1024, .f32⟩
  | .hbm, ⟨22, _⟩ => ⟨S4x3x32, .f32⟩
  | .hbm, ⟨23, _⟩ => ⟨S4x31x32, .f32⟩
  | .hbm, ⟨24, _⟩ => ⟨S4x3x704, .f32⟩
  | .hbm, ⟨25, _⟩ => ⟨S4x1024, .f32⟩
  | .hbm, ⟨26, _⟩ => ⟨S4x256, .f32⟩
  | .hbm, ⟨27, _⟩ => ⟨S4x256, .f32⟩
  | .hbm, ⟨28, _⟩ => ⟨S4x256, .f32⟩
  | .hbm, ⟨29, _⟩ => ⟨S4x1024, .f32⟩
  | .hbm, ⟨30, _⟩ => ⟨S4x1024, .f32⟩
  | .hbm, ⟨31, _⟩ => ⟨S32x8, .f32⟩
  | .hbm, ⟨32, _⟩ => ⟨S1x1024, .f32⟩
  | .hbm, ⟨33, _⟩ => ⟨S4x3x32, .f32⟩
  | .hbm, ⟨34, _⟩ => ⟨S4x31x32, .f32⟩
  | .hbm, ⟨35, _⟩ => ⟨S4x3x704, .f32⟩
  | .hbm, ⟨36, _⟩ => ⟨S4x1024, .f32⟩
  | .hbm, ⟨37, _⟩ => ⟨S4x256, .f32⟩
  | .hbm, ⟨38, _⟩ => ⟨S4x256, .f32⟩
  | .hbm, ⟨39, _⟩ => ⟨S4x256, .f32⟩
  | .hbm, ⟨40, _⟩ => ⟨S4x1024, .f32⟩
  | .hbm, ⟨41, _⟩ => ⟨S4x1024, .f32⟩
  | .hbm, ⟨42, _⟩ => ⟨S32x8, .f32⟩
  | .hbm, ⟨43, _⟩ => ⟨S1x1024, .f32⟩
  | .hbm, ⟨44, _⟩ => ⟨S4x3x32, .f32⟩
  | .hbm, ⟨45, _⟩ => ⟨S4x31x32, .f32⟩
  | .hbm, ⟨46, _⟩ => ⟨S4x3x704, .f32⟩
  | .hbm, ⟨47, _⟩ => ⟨S4x1024, .f32⟩
  | .hbm, ⟨48, _⟩ => ⟨S4x256, .f32⟩
  | .hbm, ⟨49, _⟩ => ⟨S4x256, .f32⟩
  | .hbm, ⟨50, _⟩ => ⟨S4x256, .f32⟩
  | .hbm, ⟨51, _⟩ => ⟨S4x1024, .f32⟩
  | .hbm, ⟨52, _⟩ => ⟨S4x1024, .f32⟩
  | .hbm, ⟨53, _⟩ => ⟨S32x8, .f32⟩
  | .hbm, ⟨54, _⟩ => ⟨S1x1024, .f32⟩
  | .hbm, ⟨55, _⟩ => ⟨S4x3x32, .f32⟩
  | .hbm, ⟨56, _⟩ => ⟨S4x31x32, .f32⟩
  | .hbm, ⟨57, _⟩ => ⟨S4x3x704, .f32⟩
  | .hbm, ⟨58, _⟩ => ⟨S4x1024, .f32⟩
  | .hbm, ⟨59, _⟩ => ⟨S4x256, .f32⟩
  | .hbm, ⟨60, _⟩ => ⟨S4x256, .f32⟩
  | .hbm, ⟨61, _⟩ => ⟨S4x256, .f32⟩
  | .hbm, ⟨62, _⟩ => ⟨S4x1024, .f32⟩
  | .hbm, ⟨63, _⟩ => ⟨S4x1024, .f32⟩
  | .hbm, ⟨64, _⟩ => ⟨S32x8, .f32⟩
  | .hbm, ⟨65, _⟩ => ⟨S1x1024, .f32⟩
  | .hbm, ⟨66, _⟩ => ⟨S4x3x32, .f32⟩
  | .hbm, ⟨67, _⟩ => ⟨S4x31x32, .f32⟩
  | .hbm, ⟨68, _⟩ => ⟨S4x3x704, .f32⟩
  | .hbm, ⟨69, _⟩ => ⟨S4x1024, .f32⟩
  | .hbm, ⟨70, _⟩ => ⟨S4x256, .f32⟩
  | .hbm, ⟨71, _⟩ => ⟨S4x256, .f32⟩
  | .hbm, ⟨72, _⟩ => ⟨S4x256, .f32⟩
  | .hbm, ⟨73, _⟩ => ⟨S4x1024, .f32⟩
  | .hbm, ⟨74, _⟩ => ⟨S4x1024, .f32⟩
  | .hbm, ⟨75, _⟩ => ⟨S32x8, .f32⟩
  | .hbm, ⟨76, _⟩ => ⟨S1x1024, .f32⟩
  | .local _ .vmem, ⟨0, _⟩ => ⟨S4x3x32, .f32⟩
  | .local _ .vmem, ⟨1, _⟩ => ⟨S4x31x32, .f32⟩
  | .local _ .vmem, ⟨2, _⟩ => ⟨S4x3x704, .f32⟩
  | .local _ .vmem, ⟨3, _⟩ => ⟨S4x1024, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x1024, .f32⟩
  | .local _ .vmem, ⟨8, _⟩ => ⟨S4x1024, .f32⟩
  | .local _ .vmem, ⟨9, _⟩ => ⟨S32x8, .f32⟩
  | .local _ .vmem, ⟨10, _⟩ => ⟨S1x1024, .f32⟩
  | .local _ .vmem, ⟨11, _⟩ => ⟨S4x3x32, .f32⟩
  | .local _ .vmem, ⟨12, _⟩ => ⟨S4x31x32, .f32⟩
  | .local _ .vmem, ⟨13, _⟩ => ⟨S4x3x704, .f32⟩
  | .local _ .vmem, ⟨14, _⟩ => ⟨S4x1024, .f32⟩
  | .local _ .vmem, ⟨15, _⟩ => ⟨S4x256, .f32⟩
  | .local _ .vmem, ⟨16, _⟩ => ⟨S4x256, .f32⟩
  | .local _ .vmem, ⟨17, _⟩ => ⟨S4x256, .f32⟩
  | .local _ .vmem, ⟨18, _⟩ => ⟨S4x1024, .f32⟩
  | .local _ .vmem, ⟨19, _⟩ => ⟨S4x1024, .f32⟩
  | .local _ .vmem, ⟨20, _⟩ => ⟨S32x8, .f32⟩
  | .local _ .vmem, ⟨21, _⟩ => ⟨S1x1024, .f32⟩
  | .local _ .vmem, ⟨22, _⟩ => ⟨S4x3x32, .f32⟩
  | .local _ .vmem, ⟨23, _⟩ => ⟨S4x31x32, .f32⟩
  | .local _ .vmem, ⟨24, _⟩ => ⟨S4x3x704, .f32⟩
  | .local _ .vmem, ⟨25, _⟩ => ⟨S4x1024, .f32⟩
  | .local _ .vmem, ⟨26, _⟩ => ⟨S4x256, .f32⟩
  | .local _ .vmem, ⟨27, _⟩ => ⟨S4x256, .f32⟩
  | .local _ .vmem, ⟨28, _⟩ => ⟨S4x256, .f32⟩
  | .local _ .vmem, ⟨29, _⟩ => ⟨S4x1024, .f32⟩
  | .local _ .vmem, ⟨30, _⟩ => ⟨S4x1024, .f32⟩
  | .local _ .vmem, ⟨31, _⟩ => ⟨S32x8, .f32⟩
  | .local _ .vmem, ⟨32, _⟩ => ⟨S1x1024, .f32⟩
  | .local _ .vmem, ⟨33, _⟩ => ⟨S4x3x32, .f32⟩
  | .local _ .vmem, ⟨34, _⟩ => ⟨S4x31x32, .f32⟩
  | .local _ .vmem, ⟨35, _⟩ => ⟨S4x3x704, .f32⟩
  | .local _ .vmem, ⟨36, _⟩ => ⟨S4x1024, .f32⟩
  | .local _ .vmem, ⟨37, _⟩ => ⟨S4x256, .f32⟩
  | .local _ .vmem, ⟨38, _⟩ => ⟨S4x256, .f32⟩
  | .local _ .vmem, ⟨39, _⟩ => ⟨S4x256, .f32⟩
  | .local _ .vmem, ⟨40, _⟩ => ⟨S4x1024, .f32⟩
  | .local _ .vmem, ⟨41, _⟩ => ⟨S4x1024, .f32⟩
  | .local _ .vmem, ⟨42, _⟩ => ⟨S32x8, .f32⟩
  | .local _ .vmem, ⟨43, _⟩ => ⟨S1x1024, .f32⟩
  | .local _ .vmem, ⟨44, _⟩ => ⟨S4x3x32, .f32⟩
  | .local _ .vmem, ⟨45, _⟩ => ⟨S4x31x32, .f32⟩
  | .local _ .vmem, ⟨46, _⟩ => ⟨S4x3x704, .f32⟩
  | .local _ .vmem, ⟨47, _⟩ => ⟨S4x1024, .f32⟩
  | .local _ .vmem, ⟨48, _⟩ => ⟨S4x256, .f32⟩
  | .local _ .vmem, ⟨49, _⟩ => ⟨S4x256, .f32⟩
  | .local _ .vmem, ⟨50, _⟩ => ⟨S4x256, .f32⟩
  | .local _ .vmem, ⟨51, _⟩ => ⟨S4x1024, .f32⟩
  | .local _ .vmem, ⟨52, _⟩ => ⟨S4x1024, .f32⟩
  | .local _ .vmem, ⟨53, _⟩ => ⟨S32x8, .f32⟩
  | .local _ .vmem, ⟨54, _⟩ => ⟨S1x1024, .f32⟩
  | .local _ .vmem, ⟨55, _⟩ => ⟨S4x3x32, .f32⟩
  | .local _ .vmem, ⟨56, _⟩ => ⟨S4x31x32, .f32⟩
  | .local _ .vmem, ⟨57, _⟩ => ⟨S4x3x704, .f32⟩
  | .local _ .vmem, ⟨58, _⟩ => ⟨S4x1024, .f32⟩
  | .local _ .vmem, ⟨59, _⟩ => ⟨S4x256, .f32⟩
  | .local _ .vmem, ⟨60, _⟩ => ⟨S4x256, .f32⟩
  | .local _ .vmem, ⟨61, _⟩ => ⟨S4x256, .f32⟩
  | .local _ .vmem, ⟨62, _⟩ => ⟨S4x1024, .f32⟩
  | .local _ .vmem, ⟨63, _⟩ => ⟨S4x1024, .f32⟩
  | .local _ .vmem, ⟨64, _⟩ => ⟨S32x8, .f32⟩
  | .local _ .vmem, ⟨65, _⟩ => ⟨S1x1024, .f32⟩
  | .local _ .vmem, ⟨66, _⟩ => ⟨S4x3x32, .f32⟩
  | .local _ .vmem, ⟨67, _⟩ => ⟨S4x31x32, .f32⟩
  | .local _ .vmem, ⟨68, _⟩ => ⟨S4x3x704, .f32⟩
  | .local _ .vmem, ⟨69, _⟩ => ⟨S4x1024, .f32⟩
  | .local _ .vmem, ⟨70, _⟩ => ⟨S4x256, .f32⟩
  | .local _ .vmem, ⟨71, _⟩ => ⟨S4x256, .f32⟩
  | .local _ .vmem, ⟨72, _⟩ => ⟨S4x256, .f32⟩
  | .local _ .vmem, ⟨73, _⟩ => ⟨S4x1024, .f32⟩
  | .local _ .vmem, ⟨74, _⟩ => ⟨S4x1024, .f32⟩
  | .local _ .vmem, ⟨75, _⟩ => ⟨S32x8, .f32⟩
  | .local _ .vmem, ⟨76, _⟩ => ⟨S1x1024, .f32⟩
  | _, _ => ⟨S4x3x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0_0 : Ref sig .tc := ⟨.hbm, 44, rfl⟩
abbrev main_v0_1 : Ref sig .tc := ⟨.hbm, 45, rfl⟩
abbrev main_v0_2 : Ref sig .tc := ⟨.hbm, 46, rfl⟩
abbrev main_v0_3 : Ref sig .tc := ⟨.hbm, 47, rfl⟩
abbrev main_v0_4 : Ref sig .tc := ⟨.hbm, 48, rfl⟩
abbrev main_v0_5 : Ref sig .tc := ⟨.hbm, 49, rfl⟩
abbrev main_v0_6 : Ref sig .tc := ⟨.hbm, 50, rfl⟩
abbrev main_v0_7 : Ref sig .tc := ⟨.hbm, 51, rfl⟩
abbrev main_v0_8 : Ref sig .tc := ⟨.hbm, 52, rfl⟩
abbrev main_v0_9 : Ref sig .tc := ⟨.hbm, 53, rfl⟩
abbrev main_v0_10 : Ref sig .tc := ⟨.hbm, 54, rfl⟩
abbrev main_v0_11 : Ref sig .tc := ⟨.hbm, 55, rfl⟩
abbrev main_v0_12 : Ref sig .tc := ⟨.hbm, 56, rfl⟩
abbrev main_v0_13 : Ref sig .tc := ⟨.hbm, 57, rfl⟩
abbrev main_v0_14 : Ref sig .tc := ⟨.hbm, 58, rfl⟩
abbrev main_v0_15 : Ref sig .tc := ⟨.hbm, 59, rfl⟩
abbrev main_v0_16 : Ref sig .tc := ⟨.hbm, 60, rfl⟩
abbrev main_v0_17 : Ref sig .tc := ⟨.hbm, 61, rfl⟩
abbrev main_v0_18 : Ref sig .tc := ⟨.hbm, 62, rfl⟩
abbrev main_v0_19 : Ref sig .tc := ⟨.hbm, 63, rfl⟩
abbrev main_v0_20 : Ref sig .tc := ⟨.hbm, 64, rfl⟩
abbrev main_v0_21 : Ref sig .tc := ⟨.hbm, 65, rfl⟩
abbrev main_v0_22 : Ref sig .tc := ⟨.hbm, 66, rfl⟩
abbrev main_v0_23 : Ref sig .tc := ⟨.hbm, 67, rfl⟩
abbrev main_v0_24 : Ref sig .tc := ⟨.hbm, 68, rfl⟩
abbrev main_v0_25 : Ref sig .tc := ⟨.hbm, 69, rfl⟩
abbrev main_v0_26 : Ref sig .tc := ⟨.hbm, 70, rfl⟩
abbrev main_v0_27 : Ref sig .tc := ⟨.hbm, 71, rfl⟩
abbrev main_v0_28 : Ref sig .tc := ⟨.hbm, 72, rfl⟩
abbrev main_v0_29 : Ref sig .tc := ⟨.hbm, 73, rfl⟩
abbrev main_v0_30 : Ref sig .tc := ⟨.hbm, 74, rfl⟩
abbrev main_v0_31 : Ref sig .tc := ⟨.hbm, 75, rfl⟩
abbrev main_v0_32 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76

abbrev nD : Nat := 1
abbrev τ : Topo := Topo.v7x

variable {F : FTy → Type} [FloatOps F]

abbrev grid0 : Pipeline.Grid := .none

abbrev stage0_0 : Fin 1 → Memref sig .tc .vmem S4x3x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x31x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x3x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x31x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x3x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x3x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x31x32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x3x704 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S4x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S4x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S4x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S32x8 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S4x3x32 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S4x31x32 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S4x3x704 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S4x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S4x256 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S4x256 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S4x256 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S4x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S4x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S32x8 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S4x3x32 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S4x31x32 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S4x3x704 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S4x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S4x256 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S4x256 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S4x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S4x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S4x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S32x8 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S4x3x32 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S4x31x32 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S4x3x704 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S4x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S4x256 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S4x256 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S4x256 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S4x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S4x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S32x8 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S4x3x32 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S4x31x32 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S4x3x704 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S4x1024 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S4x256 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S4x256 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S4x256 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S4x1024 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S4x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S32x8 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))
-- ==== ReferenceAdamIdeal.lean ====
abbrev S4x3x32 : Shape := ⟨3, ![4, 3, 32]⟩
abbrev S4x31x32 : Shape := ⟨3, ![4, 31, 32]⟩
abbrev S4x3x704 : Shape := ⟨3, ![4, 3, 704]⟩
abbrev S4x1024 : Shape := ⟨2, ![4, 1024]⟩
abbrev S4x256 : Shape := ⟨2, ![4, 256]⟩
abbrev S32x8 : Shape := ⟨2, ![32, 8]⟩
abbrev S1x1024 : Shape := ⟨2, ![1, 1024]⟩
abbrev S_ : Shape := ⟨0, ![]⟩

abbrev nBuf : Space → Nat
  | .hbm => 407
  | .vmem => 0
  | .smem => 0
  | _ => 0

abbrev hbmTy0_0 (i : Nat) : BufTy := match i % 128 with
  | 0 => ⟨S4x3x32, .f32⟩
  | 1 => ⟨S4x31x32, .f32⟩
  | 2 => ⟨S4x3x704, .f32⟩
  | 3 => ⟨S4x1024, .f32⟩
  | 4 => ⟨S4x256, .f32⟩
  | 5 => ⟨S4x256, .f32⟩
  | 6 => ⟨S4x256, .f32⟩
  | 7 => ⟨S4x1024, .f32⟩
  | 8 => ⟨S4x1024, .f32⟩
  | 9 => ⟨S32x8, .f32⟩
  | 10 => ⟨S1x1024, .f32⟩
  | 11 => ⟨S4x3x32, .f32⟩
  | 12 => ⟨S4x31x32, .f32⟩
  | 13 => ⟨S4x3x704, .f32⟩
  | 14 => ⟨S4x1024, .f32⟩
  | 15 => ⟨S4x256, .f32⟩
  | 16 => ⟨S4x256, .f32⟩
  | 17 => ⟨S4x256, .f32⟩
  | 18 => ⟨S4x1024, .f32⟩
  | 19 => ⟨S4x1024, .f32⟩
  | 20 => ⟨S32x8, .f32⟩
  | 21 => ⟨S1x1024, .f32⟩
  | 22 => ⟨S4x3x32, .f32⟩
  | 23 => ⟨S4x31x32, .f32⟩
  | 24 => ⟨S4x3x704, .f32⟩
  | 25 => ⟨S4x1024, .f32⟩
  | 26 => ⟨S4x256, .f32⟩
  | 27 => ⟨S4x256, .f32⟩
  | 28 => ⟨S4x256, .f32⟩
  | 29 => ⟨S4x1024, .f32⟩
  | 30 => ⟨S4x1024, .f32⟩
  | 31 => ⟨S32x8, .f32⟩
  | 32 => ⟨S1x1024, .f32⟩
  | 33 => ⟨S4x3x32, .f32⟩
  | 34 => ⟨S4x31x32, .f32⟩
  | 35 => ⟨S4x3x704, .f32⟩
  | 36 => ⟨S4x1024, .f32⟩
  | 37 => ⟨S4x256, .f32⟩
  | 38 => ⟨S4x256, .f32⟩
  | 39 => ⟨S4x256, .f32⟩
  | 40 => ⟨S4x1024, .f32⟩
  | 41 => ⟨S4x1024, .f32⟩
  | 42 => ⟨S32x8, .f32⟩
  | 43 => ⟨S1x1024, .f32⟩
  | 44 => ⟨S_, .f32⟩
  | 45 => ⟨S4x3x32, .f32⟩
  | 46 => ⟨S4x3x32, .f32⟩
  | 47 => ⟨S_, .f32⟩
  | 48 => ⟨S4x3x32, .f32⟩
  | 49 => ⟨S4x3x32, .f32⟩
  | 50 => ⟨S4x3x32, .f32⟩
  | 51 => ⟨S_, .f32⟩
  | 52 => ⟨S4x3x32, .f32⟩
  | 53 => ⟨S4x3x32, .f32⟩
  | 54 => ⟨S4x3x32, .f32⟩
  | 55 => ⟨S_, .f32⟩
  | 56 => ⟨S4x3x32, .f32⟩
  | 57 => ⟨S4x3x32, .f32⟩
  | 58 => ⟨S4x3x32, .f32⟩
  | 59 => ⟨S_, .f32⟩
  | 60 => ⟨S4x3x32, .f32⟩
  | 61 => ⟨S4x3x32, .f32⟩
  | 62 => ⟨S_, .f32⟩
  | 63 => ⟨S4x3x32, .f32⟩
  | 64 => ⟨S4x3x32, .f32⟩
  | 65 => ⟨S4x3x32, .f32⟩
  | 66 => ⟨S_, .f32⟩
  | 67 => ⟨S4x3x32, .f32⟩
  | 68 => ⟨S4x3x32, .f32⟩
  | 69 => ⟨S4x3x32, .f32⟩
  | 70 => ⟨S_, .f32⟩
  | 71 => ⟨S4x3x32, .f32⟩
  | 72 => ⟨S4x3x32, .f32⟩
  | 73 => ⟨S4x3x32, .f32⟩
  | 74 => ⟨S_, .f32⟩
  | 75 => ⟨S4x3x32, .f32⟩
  | 76 => ⟨S4x3x32, .f32⟩
  | 77 => ⟨S_, .f32⟩
  | 78 => ⟨S4x31x32, .f32⟩
  | 79 => ⟨S4x31x32, .f32⟩
  | 80 => ⟨S_, .f32⟩
  | 81 => ⟨S4x31x32, .f32⟩
  | 82 => ⟨S4x31x32, .f32⟩
  | 83 => ⟨S4x31x32, .f32⟩
  | 84 => ⟨S_, .f32⟩
  | 85 => ⟨S4x31x32, .f32⟩
  | 86 => ⟨S4x31x32, .f32⟩
  | 87 => ⟨S4x31x32, .f32⟩
  | 88 => ⟨S_, .f32⟩
  | 89 => ⟨S4x31x32, .f32⟩
  | 90 => ⟨S4x31x32, .f32⟩
  | 91 => ⟨S4x31x32, .f32⟩
  | 92 => ⟨S_, .f32⟩
  | 93 => ⟨S4x31x32, .f32⟩
  | 94 => ⟨S4x31x32, .f32⟩
  | 95 => ⟨S_, .f32⟩
  | 96 => ⟨S4x31x32, .f32⟩
  | 97 => ⟨S4x31x32, .f32⟩
  | 98 => ⟨S4x31x32, .f32⟩
  | 99 => ⟨S_, .f32⟩
  | 100 => ⟨S4x31x32, .f32⟩
  | 101 => ⟨S4x31x32, .f32⟩
  | 102 => ⟨S4x31x32, .f32⟩
  | 103 => ⟨S_, .f32⟩
  | 104 => ⟨S4x31x32, .f32⟩
  | 105 => ⟨S4x31x32, .f32⟩
  | 106 => ⟨S4x31x32, .f32⟩
  | 107 => ⟨S_, .f32⟩
  | 108 => ⟨S4x31x32, .f32⟩
  | 109 => ⟨S4x31x32, .f32⟩
  | 110 => ⟨S_, .f32⟩
  | 111 => ⟨S4x3x704, .f32⟩
  | 112 => ⟨S4x3x704, .f32⟩
  | 113 => ⟨S_, .f32⟩
  | 114 => ⟨S4x3x704, .f32⟩
  | 115 => ⟨S4x3x704, .f32⟩
  | 116 => ⟨S4x3x704, .f32⟩
  | 117 => ⟨S_, .f32⟩
  | 118 => ⟨S4x3x704, .f32⟩
  | 119 => ⟨S4x3x704, .f32⟩
  | 120 => ⟨S4x3x704, .f32⟩
  | 121 => ⟨S_, .f32⟩
  | 122 => ⟨S4x3x704, .f32⟩
  | 123 => ⟨S4x3x704, .f32⟩
  | 124 => ⟨S4x3x704, .f32⟩
  | 125 => ⟨S_, .f32⟩
  | 126 => ⟨S4x3x704, .f32⟩
  | 127 => ⟨S4x3x704, .f32⟩
  | _ => ⟨S4x3x32, .f32⟩

abbrev hbmTy0_1 (i : Nat) : BufTy := match i % 128 with
  | 0 => ⟨S_, .f32⟩
  | 1 => ⟨S4x3x704, .f32⟩
  | 2 => ⟨S4x3x704, .f32⟩
  | 3 => ⟨S4x3x704, .f32⟩
  | 4 => ⟨S_, .f32⟩
  | 5 => ⟨S4x3x704, .f32⟩
  | 6 => ⟨S4x3x704, .f32⟩
  | 7 => ⟨S4x3x704, .f32⟩
  | 8 => ⟨S_, .f32⟩
  | 9 => ⟨S4x3x704, .f32⟩
  | 10 => ⟨S4x3x704, .f32⟩
  | 11 => ⟨S4x3x704, .f32⟩
  | 12 => ⟨S_, .f32⟩
  | 13 => ⟨S4x3x704, .f32⟩
  | 14 => ⟨S4x3x704, .f32⟩
  | 15 => ⟨S_, .f32⟩
  | 16 => ⟨S4x1024, .f32⟩
  | 17 => ⟨S4x1024, .f32⟩
  | 18 => ⟨S_, .f32⟩
  | 19 => ⟨S4x1024, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S4x1024, .f32⟩
  | 26 => ⟨S_, .f32⟩
  | 27 => ⟨S4x1024, .f32⟩
  | 28 => ⟨S4x1024, .f32⟩
  | 29 => ⟨S4x1024, .f32⟩
  | 30 => ⟨S_, .f32⟩
  | 31 => ⟨S4x1024, .f32⟩
  | 32 => ⟨S4x1024, .f32⟩
  | 33 => ⟨S_, .f32⟩
  | 34 => ⟨S4x1024, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S4x1024, .f32⟩
  | 41 => ⟨S_, .f32⟩
  | 42 => ⟨S4x1024, .f32⟩
  | 43 => ⟨S4x1024, .f32⟩
  | 44 => ⟨S4x1024, .f32⟩
  | 45 => ⟨S_, .f32⟩
  | 46 => ⟨S4x1024, .f32⟩
  | 47 => ⟨S4x1024, .f32⟩
  | 48 => ⟨S_, .f32⟩
  | 49 => ⟨S4x256, .f32⟩
  | 50 => ⟨S4x256, .f32⟩
  | 51 => ⟨S_, .f32⟩
  | 52 => ⟨S4x256, .f32⟩
  | 53 => ⟨S4x256, .f32⟩
  | 54 => ⟨S4x256, .f32⟩
  | 55 => ⟨S_, .f32⟩
  | 56 => ⟨S4x256, .f32⟩
  | 57 => ⟨S4x256, .f32⟩
  | 58 => ⟨S4x256, .f32⟩
  | 59 => ⟨S_, .f32⟩
  | 60 => ⟨S4x256, .f32⟩
  | 61 => ⟨S4x256, .f32⟩
  | 62 => ⟨S4x256, .f32⟩
  | 63 => ⟨S_, .f32⟩
  | 64 => ⟨S4x256, .f32⟩
  | 65 => ⟨S4x256, .f32⟩
  | 66 => ⟨S_, .f32⟩
  | 67 => ⟨S4x256, .f32⟩
  | 68 => ⟨S4x256, .f32⟩
  | 69 => ⟨S4x256, .f32⟩
  | 70 => ⟨S_, .f32⟩
  | 71 => ⟨S4x256, .f32⟩
  | 72 => ⟨S4x256, .f32⟩
  | 73 => ⟨S4x256, .f32⟩
  | 74 => ⟨S_, .f32⟩
  | 75 => ⟨S4x256, .f32⟩
  | 76 => ⟨S4x256, .f32⟩
  | 77 => ⟨S4x256, .f32⟩
  | 78 => ⟨S_, .f32⟩
  | 79 => ⟨S4x256, .f32⟩
  | 80 => ⟨S4x256, .f32⟩
  | 81 => ⟨S_, .f32⟩
  | 82 => ⟨S4x256, .f32⟩
  | 83 => ⟨S4x256, .f32⟩
  | 84 => ⟨S_, .f32⟩
  | 85 => ⟨S4x256, .f32⟩
  | 86 => ⟨S4x256, .f32⟩
  | 87 => ⟨S4x256, .f32⟩
  | 88 => ⟨S_, .f32⟩
  | 89 => ⟨S4x256, .f32⟩
  | 90 => ⟨S4x256, .f32⟩
  | 91 => ⟨S4x256, .f32⟩
  | 92 => ⟨S_, .f32⟩
  | 93 => ⟨S4x256, .f32⟩
  | 94 => ⟨S4x256, .f32⟩
  | 95 => ⟨S4x256, .f32⟩
  | 96 => ⟨S_, .f32⟩
  | 97 => ⟨S4x256, .f32⟩
  | 98 => ⟨S4x256, .f32⟩
  | 99 => ⟨S_, .f32⟩
  | 100 => ⟨S4x256, .f32⟩
  | 101 => ⟨S4x256, .f32⟩
  | 102 => ⟨S4x256, .f32⟩
  | 103 => ⟨S_, .f32⟩
  | 104 => ⟨S4x256, .f32⟩
  | 105 => ⟨S4x256, .f32⟩
  | 106 => ⟨S4x256, .f32⟩
  | 107 => ⟨S_, .f32⟩
  | 108 => ⟨S4x256, .f32⟩
  | 109 => ⟨S4x256, .f32⟩
  | 110 => ⟨S4x256, .f32⟩
  | 111 => ⟨S_, .f32⟩
  | 112 => ⟨S4x256, .f32⟩
  | 113 => ⟨S4x256, .f32⟩
  | 114 => ⟨S_, .f32⟩
  | 115 => ⟨S4x256, .f32⟩
  | 116 => ⟨S4x256, .f32⟩
  | 117 => ⟨S_, .f32⟩
  | 118 => ⟨S4x256, .f32⟩
  | 119 => ⟨S4x256, .f32⟩
  | 120 => ⟨S4x256, .f32⟩
  | 121 => ⟨S_, .f32⟩
  | 122 => ⟨S4x256, .f32⟩
  | 123 => ⟨S4x256, .f32⟩
  | 124 => ⟨S4x256, .f32⟩
  | 125 => ⟨S_, .f32⟩
  | 126 => ⟨S4x256, .f32⟩
  | 127 => ⟨S4x256, .f32⟩
  | _ => ⟨S4x3x32, .f32⟩

abbrev hbmTy0_2 (i : Nat) : BufTy := match i % 128 with
  | 0 => ⟨S4x256, .f32⟩
  | 1 => ⟨S_, .f32⟩
  | 2 => ⟨S4x256, .f32⟩
  | 3 => ⟨S4x256, .f32⟩
  | 4 => ⟨S_, .f32⟩
  | 5 => ⟨S4x256, .f32⟩
  | 6 => ⟨S4x256, .f32⟩
  | 7 => ⟨S4x256, .f32⟩
  | 8 => ⟨S_, .f32⟩
  | 9 => ⟨S4x256, .f32⟩
  | 10 => ⟨S4x256, .f32⟩
  | 11 => ⟨S4x256, .f32⟩
  | 12 => ⟨S_, .f32⟩
  | 13 => ⟨S4x256, .f32⟩
  | 14 => ⟨S4x256, .f32⟩
  | 15 => ⟨S4x256, .f32⟩
  | 16 => ⟨S_, .f32⟩
  | 17 => ⟨S4x256, .f32⟩
  | 18 => ⟨S4x256, .f32⟩
  | 19 => ⟨S_, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S4x1024, .f32⟩
  | 26 => ⟨S_, .f32⟩
  | 27 => ⟨S4x1024, .f32⟩
  | 28 => ⟨S4x1024, .f32⟩
  | 29 => ⟨S4x1024, .f32⟩
  | 30 => ⟨S_, .f32⟩
  | 31 => ⟨S4x1024, .f32⟩
  | 32 => ⟨S4x1024, .f32⟩
  | 33 => ⟨S4x1024, .f32⟩
  | 34 => ⟨S_, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S4x1024, .f32⟩
  | 41 => ⟨S_, .f32⟩
  | 42 => ⟨S4x1024, .f32⟩
  | 43 => ⟨S4x1024, .f32⟩
  | 44 => ⟨S4x1024, .f32⟩
  | 45 => ⟨S_, .f32⟩
  | 46 => ⟨S4x1024, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S_, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S4x1024, .f32⟩
  | 63 => ⟨S_, .f32⟩
  | 64 => ⟨S4x1024, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S_, .f32⟩
  | 86 => ⟨S32x8, .f32⟩
  | 87 => ⟨S32x8, .f32⟩
  | 88 => ⟨S_, .f32⟩
  | 89 => ⟨S32x8, .f32⟩
  | 90 => ⟨S32x8, .f32⟩
  | 91 => ⟨S32x8, .f32⟩
  | 92 => ⟨S_, .f32⟩
  | 93 => ⟨S32x8, .f32⟩
  | 94 => ⟨S32x8, .f32⟩
  | 95 => ⟨S32x8, .f32⟩
  | 96 => ⟨S_, .f32⟩
  | 97 => ⟨S32x8, .f32⟩
  | 98 => ⟨S32x8, .f32⟩
  | 99 => ⟨S32x8, .f32⟩
  | 100 => ⟨S_, .f32⟩
  | 101 => ⟨S32x8, .f32⟩
  | 102 => ⟨S32x8, .f32⟩
  | 103 => ⟨S_, .f32⟩
  | 104 => ⟨S32x8, .f32⟩
  | 105 => ⟨S32x8, .f32⟩
  | 106 => ⟨S32x8, .f32⟩
  | 107 => ⟨S_, .f32⟩
  | 108 => ⟨S32x8, .f32⟩
  | 109 => ⟨S32x8, .f32⟩
  | 110 => ⟨S32x8, .f32⟩
  | 111 => ⟨S_, .f32⟩
  | 112 => ⟨S32x8, .f32⟩
  | 113 => ⟨S32x8, .f32⟩
  | 114 => ⟨S32x8, .f32⟩
  | 115 => ⟨S_, .f32⟩
  | 116 => ⟨S32x8, .f32⟩
  | 117 => ⟨S32x8, .f32⟩
  | 118 => ⟨S_, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S4x3x32, .f32⟩

abbrev hbmTy0_3 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | _ => ⟨S4x3x32, .f32⟩

abbrev hbmTy (i : Nat) : BufTy := match i / 128 with
  | 0 => hbmTy0_0 i
  | 1 => hbmTy0_1 i
  | 2 => hbmTy0_2 i
  | 3 => hbmTy0_3 i
  | _ => ⟨S4x3x32, .f32⟩

abbrev bufTy : (tb : Table) → Fin (tcTables nBuf tb) → BufTy
  | .hbm, ⟨i, _⟩ => hbmTy i
  | _, _ => ⟨S4x3x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩

abbrev nD : Nat := 1
abbrev τ : Topo := Topo.v7x

variable {F : FTy → Type} [FloatOps F]
-- ==== KernelSum.lean ====
abbrev S8x936x128 : Shape := ⟨3, ![8, 936, 128]⟩
abbrev S8x128 : Shape := ⟨2, ![8, 128]⟩
abbrev S936x128 : Shape := ⟨2, ![936, 128]⟩
abbrev S1x936x128 : Shape := ⟨3, ![1, 936, 128]⟩
abbrev S119808 : Shape := ⟨1, ![119808]⟩
abbrev S3072 : Shape := ⟨1, ![3072]⟩
abbrev S4x3x256 : Shape := ⟨3, ![4, 3, 256]⟩
abbrev S31744 : Shape := ⟨1, ![31744]⟩
abbrev S4x31x256 : Shape := ⟨3, ![4, 31, 256]⟩
abbrev S67584 : Shape := ⟨1, ![67584]⟩
abbrev S4x3x5632 : Shape := ⟨3, ![4, 3, 5632]⟩
abbrev S4096 : Shape := ⟨1, ![4096]⟩
abbrev S4x1024 : Shape := ⟨2, ![4, 1024]⟩
abbrev S1024 : Shape := ⟨1, ![1024]⟩
abbrev S4x256 : Shape := ⟨2, ![4, 256]⟩
abbrev S256 : Shape := ⟨1, ![256]⟩
abbrev S32x8 : Shape := ⟨2, ![32, 8]⟩
abbrev S1 : Shape := ⟨1, ![1]⟩

abbrev nBuf : Space → Nat
  | .hbm => 26
  | .vmem => 2
  | .smem => 0
  | _ => 0

abbrev bufTy : (tb : Table) → Fin (tcTables nBuf tb) → BufTy
  | .hbm, ⟨0, _⟩ => ⟨S8x936x128, .f32⟩
  | .hbm, ⟨1, _⟩ => ⟨S8x128, .f32⟩
  | .hbm, ⟨2, _⟩ => ⟨S936x128, .f32⟩
  | .hbm, ⟨3, _⟩ => ⟨S119808, .f32⟩
  | .hbm, ⟨4, _⟩ => ⟨S3072, .f32⟩
  | .hbm, ⟨5, _⟩ => ⟨S4x3x256, .f32⟩
  | .hbm, ⟨6, _⟩ => ⟨S31744, .f32⟩
  | .hbm, ⟨7, _⟩ => ⟨S4x31x256, .f32⟩
  | .hbm, ⟨8, _⟩ => ⟨S67584, .f32⟩
  | .hbm, ⟨9, _⟩ => ⟨S4x3x5632, .f32⟩
  | .hbm, ⟨10, _⟩ => ⟨S4096, .f32⟩
  | .hbm, ⟨11, _⟩ => ⟨S4x1024, .f32⟩
  | .hbm, ⟨12, _⟩ => ⟨S1024, .f32⟩
  | .hbm, ⟨13, _⟩ => ⟨S4x256, .f32⟩
  | .hbm, ⟨14, _⟩ => ⟨S1024, .f32⟩
  | .hbm, ⟨15, _⟩ => ⟨S4x256, .f32⟩
  | .hbm, ⟨16, _⟩ => ⟨S1024, .f32⟩
  | .hbm, ⟨17, _⟩ => ⟨S4x256, .f32⟩
  | .hbm, ⟨18, _⟩ => ⟨S4096, .f32⟩
  | .hbm, ⟨19, _⟩ => ⟨S4x1024, .f32⟩
  | .hbm, ⟨20, _⟩ => ⟨S4096, .f32⟩
  | .hbm, ⟨21, _⟩ => ⟨S4x1024, .f32⟩
  | .hbm, ⟨22, _⟩ => ⟨S256, .f32⟩
  | .hbm, ⟨23, _⟩ => ⟨S32x8, .f32⟩
  | .hbm, ⟨24, _⟩ => ⟨S1024, .f32⟩
  | .hbm, ⟨25, _⟩ => ⟨S1, .f32⟩
  | .local _ .vmem, ⟨0, _⟩ => ⟨S8x936x128, .f32⟩
  | .local _ .vmem, ⟨1, _⟩ => ⟨S936x128, .f32⟩
  | _, _ => ⟨S8x936x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x936x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S936x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceSumIdeal.lean ====
abbrev S8x936x128 : Shape := ⟨3, ![8, 936, 128]⟩
abbrev S8x128 : Shape := ⟨2, ![8, 128]⟩
abbrev S_ : Shape := ⟨0, ![]⟩
abbrev S936x128 : Shape := ⟨2, ![936, 128]⟩
abbrev S119808 : Shape := ⟨1, ![119808]⟩
abbrev S3072 : Shape := ⟨1, ![3072]⟩
abbrev S4x3x256 : Shape := ⟨3, ![4, 3, 256]⟩
abbrev S31744 : Shape := ⟨1, ![31744]⟩
abbrev S4x31x256 : Shape := ⟨3, ![4, 31, 256]⟩
abbrev S67584 : Shape := ⟨1, ![67584]⟩
abbrev S4x3x5632 : Shape := ⟨3, ![4, 3, 5632]⟩
abbrev S4096 : Shape := ⟨1, ![4096]⟩
abbrev S4x1024 : Shape := ⟨2, ![4, 1024]⟩
abbrev S1024 : Shape := ⟨1, ![1024]⟩
abbrev S4x256 : Shape := ⟨2, ![4, 256]⟩
abbrev S256 : Shape := ⟨1, ![256]⟩
abbrev S32x8 : Shape := ⟨2, ![32, 8]⟩
abbrev S1 : Shape := ⟨1, ![1]⟩

abbrev nBuf : Space → Nat
  | .hbm => 27
  | .vmem => 0
  | .smem => 0
  | _ => 0

abbrev bufTy : (tb : Table) → Fin (tcTables nBuf tb) → BufTy
  | .hbm, ⟨0, _⟩ => ⟨S8x936x128, .f32⟩
  | .hbm, ⟨1, _⟩ => ⟨S8x128, .f32⟩
  | .hbm, ⟨2, _⟩ => ⟨S_, .f32⟩
  | .hbm, ⟨3, _⟩ => ⟨S936x128, .f32⟩
  | .hbm, ⟨4, _⟩ => ⟨S119808, .f32⟩
  | .hbm, ⟨5, _⟩ => ⟨S3072, .f32⟩
  | .hbm, ⟨6, _⟩ => ⟨S4x3x256, .f32⟩
  | .hbm, ⟨7, _⟩ => ⟨S31744, .f32⟩
  | .hbm, ⟨8, _⟩ => ⟨S4x31x256, .f32⟩
  | .hbm, ⟨9, _⟩ => ⟨S67584, .f32⟩
  | .hbm, ⟨10, _⟩ => ⟨S4x3x5632, .f32⟩
  | .hbm, ⟨11, _⟩ => ⟨S4096, .f32⟩
  | .hbm, ⟨12, _⟩ => ⟨S4x1024, .f32⟩
  | .hbm, ⟨13, _⟩ => ⟨S1024, .f32⟩
  | .hbm, ⟨14, _⟩ => ⟨S4x256, .f32⟩
  | .hbm, ⟨15, _⟩ => ⟨S1024, .f32⟩
  | .hbm, ⟨16, _⟩ => ⟨S4x256, .f32⟩
  | .hbm, ⟨17, _⟩ => ⟨S1024, .f32⟩
  | .hbm, ⟨18, _⟩ => ⟨S4x256, .f32⟩
  | .hbm, ⟨19, _⟩ => ⟨S4096, .f32⟩
  | .hbm, ⟨20, _⟩ => ⟨S4x1024, .f32⟩
  | .hbm, ⟨21, _⟩ => ⟨S4096, .f32⟩
  | .hbm, ⟨22, _⟩ => ⟨S4x1024, .f32⟩
  | .hbm, ⟨23, _⟩ => ⟨S256, .f32⟩
  | .hbm, ⟨24, _⟩ => ⟨S32x8, .f32⟩
  | .hbm, ⟨25, _⟩ => ⟨S1024, .f32⟩
  | .hbm, ⟨26, _⟩ => ⟨S1, .f32⟩
  | _, _ => ⟨S8x936x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Proof.RefTerms.lean ====
module

public import proofs.«01_k».proof.Proof.Gen.ReferenceIdeal.Run
public import Idealize.ShloMosaic.Lib.Pointwise

@[expose] public section

set_option maxRecDepth 16384
set_option synthInstance.maxSize 4096

noncomputable section

/-! # The reference's results, as terms of its arguments, cut into the steps of its mathematics -/

namespace Cert.Proof.Plain

open Idealize.ShloMosaic Idealize.SL.Sem Cert.ReferenceIdeal Cert.ReferenceIdeal.Gen

section Vectors

variable {F : FTy → Type} [FloatOps F]

def zero : FVec F S_ .f32 := constant S_ .f32 0x00000000#32

/-- The weights of one tap. -/
def row0 (w : FVec F S3x5632 .f32) : FVec F S2048x5632 .f32 := broadcastInDim S2048x5632 ![0, 1]
  bcast_S1x5632_S2048x5632_0_1 (extractStridedSlice S1x5632 ![0, 0] w slices_S3x5632_S1x5632_0_0)
def row1 (w : FVec F S3x5632 .f32) : FVec F S2048x5632 .f32 := broadcastInDim S2048x5632 ![0, 1]
  bcast_S1x5632_S2048x5632_0_1 (extractStridedSlice S1x5632 ![1, 0] w slices_S3x5632_S1x5632_1_0)
def row2 (w : FVec F S3x5632 .f32) : FVec F S2048x5632 .f32 := broadcastInDim S2048x5632 ![0, 1]
  bcast_S1x5632_S2048x5632_0_1 (extractStridedSlice S1x5632 ![2, 0] w slices_S3x5632_S1x5632_2_0)

/-- The activation below two rows of zeros, and its three shifts. -/
def padded (x : FVec F S2048x5632 .f32) : FVec F S2050x5632 .f32 :=
  concatenate S2050x5632 0 [⟨S2x5632, (broadcastInDim S2x5632 ![] bcast_S_S2x5632 (constant S_ .f32 0x00000000#32))⟩,
    ⟨S2048x5632, x⟩] concatenates_S2x5632_S2048x5632_S2050x5632_d0
def shift0 (x : FVec F S2048x5632 .f32) : FVec F S2048x5632 .f32 :=
  extractStridedSlice S2048x5632 ![0, 0] (padded x) slices_S2050x5632_S2048x5632_0_0
def shift1 (x : FVec F S2048x5632 .f32) : FVec F S2048x5632 .f32 :=
  extractStridedSlice S2048x5632 ![1, 0] (padded x) slices_S2050x5632_S2048x5632_1_0
def shift2 (x : FVec F S2048x5632 .f32) : FVec F S2048x5632 .f32 :=
  extractStridedSlice S2048x5632 ![2, 0] (padded x) slices_S2050x5632_S2048x5632_2_0

/-- The convolved activation. -/
def up (x : FVec F S2048x5632 .f32) (w : FVec F S3x5632 .f32) : FVec F S2048x5632 .f32 :=
  addf (addf (mulf (row0 w) (shift0 x)) (mulf (row1 w) (shift1 x))) (mulf (row2 w) (shift2 x))
def gate (u : FVec F S2048x5632 .f32) : FVec F S2048x2816 .f32 :=
  extractStridedSlice S2048x2816 ![0, 0] u slices_S2048x5632_S2048x2816_0_0
def val (u : FVec F S2048x5632 .f32) : FVec F S2048x2816 .f32 :=
  extractStridedSlice S2048x2816 ![0, 2816] u slices_S2048x5632_S2048x2816_0_2816

def ones : FVec F S2048x2816 .f32 := broadcastInDim S2048x2816 ![] bcast_S_S2048x2816 (constant S_ .f32 0x3F800000#32)
def logi (u : FVec F S2048x2816 .f32) : FVec F S2048x2816 .f32 := Host.divf ones (addf ones (Host.exp (Host.negf u)))

/-- The gradients of the gate half and of the value half. -/
def dGate (d : FVec F S2048x2816 .f32) (u v : FVec F S2048x2816 .f32) : FVec F S2048x2816 .f32 :=
  addf (mulf (mulf d v) (logi u)) (mulf (mulf u (mulf d v)) (mulf (logi u) (subf ones (logi u))))
def dVal (d : FVec F S2048x2816 .f32) (u : FVec F S2048x2816 .f32) : FVec F S2048x2816 .f32 := mulf (mulf u (logi u)) d

/-- The two gradients beside one another. -/
def both (dv dg : FVec F S2048x2816 .f32) : FVec F S2048x5632 .f32 :=
  addf (pad S2048x5632 ![0, 2816] ![0, 0] ![0, 0] dv zero pads_S2048x2816_S2048x5632_000_281600 h_S_)
    (pad S2048x5632 ![0, 0] ![0, 2816] ![0, 0] dg zero pads_S2048x2816_S2048x5632_000_028160 h_S_)
def grad (x : FVec F S2048x5632 .f32) (d : FVec F S2048x2816 .bf16) (w : FVec F S3x5632 .f32) : FVec F S2048x5632 .f32 :=
  both (dVal (extf .f32 d bitsLt_bf16_f32) (gate (up x w)))
    (dGate (extf .f32 d bitsLt_bf16_f32) (gate (up x w)) (val (up x w)))

/-- The gradient before the convolution: the transposed convolution of `g`. -/
def dx (g : FVec F S2048x5632 .f32) (w : FVec F S3x5632 .f32) : FVec F S2048x5632 .f32 :=
  extractStridedSlice S2048x5632 ![2, 0] (addf (addf
    (pad S2050x5632 ![2, 0] ![0, 0] ![0, 0] (mulf (row2 w) g) zero pads_S2048x5632_S2050x5632_200_000 h_S_)
    (pad S2050x5632 ![1, 0] ![1, 0] ![0, 0] (mulf (row1 w) g) zero pads_S2048x5632_S2050x5632_110_000 h_S_))
    (pad S2050x5632 ![0, 0] ![2, 0] ![0, 0] (mulf (row0 w) g) zero pads_S2048x5632_S2050x5632_020_000 h_S_))
    slices_S2050x5632_S2048x5632_2_0

/-- The sum over the tokens of a product. -/
def colsum (a b : FVec F S2048x5632 .f32) : FVec F S1x5632 .f32 :=
  shapeCast _ (Host.reduceAdd (mulf a b) zero reducesTo_S2048x5632_S5632_d0 h_S_) shapeCasts_S5632_S1x5632

/-- The gradient of the weights from the three sums. -/
def dw (s0 s1 s2 : FVec F S1x5632 .f32) : FVec F S3x5632 .f32 :=
  addf (addf (pad S3x5632 ![2, 0] ![0, 0] ![0, 0] s2 zero pads_S1x5632_S3x5632_200_000 h_S_)
    (pad S3x5632 ![1, 0] ![1, 0] ![0, 0] s1 zero pads_S1x5632_S3x5632_110_000 h_S_))
    (pad S3x5632 ![0, 0] ![2, 0] ![0, 0] s0 zero pads_S1x5632_S3x5632_020_000 h_S_)

/-- Layer 0 of a stack replaced by three rows and five of zeros. -/
def put (r : FVec F S3x2816 .f32) (st : FVec F S4x8x2816 .f32) : FVec F S4x8x2816 .f32 :=
  concatenate S4x8x2816 0 [⟨S1x8x2816, (broadcastInDim S1x8x2816 ![1, 2] bcast_S8x2816_S1x8x2816_1_2
    (concatenate S8x2816 0 [⟨S3x2816, r⟩,
      ⟨S5x2816, (broadcastInDim S5x2816 ![] bcast_S_S5x2816 (constant S_ .f32 0x00000000#32))⟩]
      concatenates_S3x2816_S5x2816_S8x2816_d0))⟩,
    ⟨S3x8x2816, (extractStridedSlice S3x8x2816 ![1, 0, 0] st slices_S4x8x2816_S3x8x2816_1_0_0)⟩]
    concatenates_S1x8x2816_S3x8x2816_S4x8x2816_d0
def gateRows (a : FVec F S3x5632 .f32) : FVec F S3x2816 .f32 :=
  extractStridedSlice S3x2816 ![0, 0] a slices_S3x5632_S3x2816_0_0
def valRows (a : FVec F S3x5632 .f32) : FVec F S3x2816 .f32 :=
  extractStridedSlice S3x2816 ![0, 2816] a slices_S3x5632_S3x2816_0_2816
def gradW (x g : FVec F S2048x5632 .f32) : FVec F S3x5632 .f32 :=
  dw (colsum g (shift0 x)) (colsum g (shift1 x)) (colsum g (shift2 x))

variable (m : (ℓ : Loc nD τ sig) → Buf (Elt F) ℓ) (c : Dev nD)

def aX : FVec F S2048x5632 .f32 := m ((c.tc : Thread nD τ).loc main_arg0)
def aD : FVec F S2048x2816 .bf16 := m ((c.tc : Thread nD τ).loc main_arg1)
def aW : FVec F S3x5632 .f32 := m ((c.tc : Thread nD τ).loc main_arg2)
def aG : FVec F S4x8x2816 .f32 := m ((c.tc : Thread nD τ).loc main_arg3)
def aV : FVec F S4x8x2816 .f32 := m ((c.tc : Thread nD τ).loc main_arg4)

theorem out0_eq : Value.res_out0 m c
    = truncf .bf16 (gate (dx (grad (aX m c) (aD m c) (aW m c)) (aW m c))) bitsLt_bf16_f32 := rfl
theorem out1_eq : Value.res_out1 m c
    = truncf .bf16 (val (dx (grad (aX m c) (aD m c) (aW m c)) (aW m c))) bitsLt_bf16_f32 := rfl
theorem out2_eq : Value.res_out2 m c
    = put (gateRows (gradW (aX m c) (grad (aX m c) (aD m c) (aW m c)))) (aG m c) := rfl
theorem out3_eq : Value.res_out3 m c
    = put (valRows (gradW (aX m c) (grad (aX m c) (aD m c) (aW m c)))) (aV m c) := rfl

end Vectors

end Cert.Proof.Plain
-- ==== Proof.Chunk.lean ====
module

public import proofs.«01_k».proof.Proof.Gen.KernelIdeal.Skeleton
public import Idealize.ShloMosaic.Lib.Pointwise

@[expose] public section

set_option maxRecDepth 16384
set_option synthInstance.maxSize 4096

noncomputable section

namespace Cert.Proof.Chunk

open Idealize.ShloMosaic Idealize.SL.Sem Cert.KernelIdeal Cert.KernelIdeal.Gen

section Vectors

variable {F : FTy → Type} [FloatOps F]

/-- The rows of a chunk that the first, second and third weight of the convolution meet. -/
def tap0 (x : FVec F S144x256 .f32) : FVec F S136x256 .f32 :=
  extractStridedSlice S136x256 ![6, 0] x slices_S144x256_o6_0_S136x256
def tap1 (x : FVec F S144x256 .f32) : FVec F S136x256 .f32 :=
  extractStridedSlice S136x256 ![7, 0] x slices_S144x256_o7_0_S136x256
def tap2 (x : FVec F S144x256 .f32) : FVec F S136x256 .f32 :=
  extractStridedSlice S136x256 ![8, 0] x slices_S144x256_o8_0_S136x256

/-- One weight row times the rows of a chunk. -/
def scaled (w : FVec F S1x256 .f32) (x : FVec F S136x256 .f32) : FVec F S136x256 .f32 :=
  mulf (broadcastTo S136x256 w broadcasts_S1x256_S136x256) x

/-- One word on every element of a chunk. -/
def splat (b : BitVec 32) : FVec F S136x256 .f32 := broadcast S136x256 (Scalar.ofBits .f32 b : F .f32)

/-- The causal convolution of a chunk. -/
def conv (w0 w1 w2 : FVec F S1x256 .f32) (x : FVec F S144x256 .f32) : FVec F S136x256 .f32 :=
  addf (addf (addf (splat 0x00000000#32) (scaled w0 (tap0 x))) (scaled w1 (tap1 x))) (scaled w2 (tap2 x))

/-- The logistic function as the kernel computes it. -/
def gateOf (u : FVec F S136x256 .f32) : FVec F S136x256 .f32 :=
  addf (mulf (splat 0x3F000000#32) (tanh (mulf (splat 0x3F000000#32) u))) (splat 0x3F000000#32)

/-- The gradient of the value half of a chunk. -/
def dVal (d u : FVec F S136x256 .f32) : FVec F S136x256 .f32 := mulf d (mulf u (gateOf u))

/-- The gradient of the gate half of a chunk. -/
def dGate (d u v : FVec F S136x256 .f32) : FVec F S136x256 .f32 :=
  mulf (mulf d v) (mulf (gateOf u)
    (addf (splat 0x3F800000#32) (mulf u (subf (splat 0x3F800000#32) (gateOf u)))))

/-- One weight row times the rows of a tile. -/
def scaledTile (w : FVec F S1x256 .f32) (x : FVec F S128x256 .f32) : FVec F S128x256 .f32 :=
  mulf (broadcastTo S128x256 w broadcasts_S1x256_S128x256) x

/-- The transposed convolution: the tile of a gradient that is written back. -/
def back (w0 w1 w2 : FVec F S1x256 .f32) (d : FVec F S136x256 .f32) : FVec F S128x256 .bf16 :=
  truncf .bf16 (addf (addf (addf (broadcast S128x256 (Scalar.ofBits .f32 0x00000000#32 : F .f32))
    (scaledTile w0 (extractStridedSlice S128x256 ![2, 0] d slices_S136x256_o2_0_S128x256)))
    (scaledTile w1 (extractStridedSlice S128x256 ![1, 0] d slices_S136x256_o1_0_S128x256)))
    (scaledTile w2 (extractStridedSlice S128x256 ![0, 0] d slices_S136x256_o0_0_S128x256)))

/-- The rows of a gradient times the rows one weight met. -/
def prod (d x : FVec F S136x256 .f32) : FVec F S128x256 .f32 :=
  mulf (extractStridedSlice S128x256 ![0, 0] d slices_S136x256_o0_0_S128x256)
    (extractStridedSlice S128x256 ![0, 0] x slices_S136x256_o0_0_S128x256)

/-- A tile added up in groups of eight rows. -/
def groups (p : FVec F S128x256 .f32) : FVec F S8x256 .f32 :=
  addf (addf (addf (addf (addf (addf (addf (addf (addf (addf (addf (addf (addf (addf (addf (addf
    (broadcast S8x256 (Scalar.ofBits .f32 0x00000000#32 : F .f32))
    (extractStridedSlice S8x256 ![0, 0] p slices_S128x256_o0_0_S8x256))
    (extractStridedSlice S8x256 ![8, 0] p slices_S128x256_o8_0_S8x256))
    (extractStridedSlice S8x256 ![16, 0] p slices_S128x256_o16_0_S8x256))
    (extractStridedSlice S8x256 ![24, 0] p slices_S128x256_o24_0_S8x256))
    (extractStridedSlice S8x256 ![32, 0] p slices_S128x256_o32_0_S8x256))
    (extractStridedSlice S8x256 ![40, 0] p slices_S128x256_o40_0_S8x256))
    (extractStridedSlice S8x256 ![48, 0] p slices_S128x256_o48_0_S8x256))
    (extractStridedSlice S8x256 ![56, 0] p slices_S128x256_o56_0_S8x256))
    (extractStridedSlice S8x256 ![64, 0] p slices_S128x256_o64_0_S8x256))
    (extractStridedSlice S8x256 ![72, 0] p slices_S128x256_o72_0_S8x256))
    (extractStridedSlice S8x256 ![80, 0] p slices_S128x256_o80_0_S8x256))
    (extractStridedSlice S8x256 ![88, 0] p slices_S128x256_o88_0_S8x256))
    (extractStridedSlice S8x256 ![96, 0] p slices_S128x256_o96_0_S8x256))
    (extractStridedSlice S8x256 ![104, 0] p slices_S128x256_o104_0_S8x256))
    (extractStridedSlice S8x256 ![112, 0] p slices_S128x256_o112_0_S8x256))
    (extractStridedSlice S8x256 ![120, 0] p slices_S128x256_o120_0_S8x256)

/-- The sums of all chunks, one after the other. -/
def total (L : List (FVec F S8x256 .f32)) : FVec F S8x256 .f32 :=
  L.foldl addf (broadcast S8x256 (Scalar.ofBits .f32 0x00000000#32 : F .f32))

/-- The eight rows added up and put on top of what the output row held. -/
def addRow (s : FVec F S8x256 .f32) (old : FVec F S1x1x256 .f32) : FVec F S1x1x256 .f32 :=
  shapeCast S1x1x256 (addf (shapeCast S1x256 old shapeCasts_S1x1x256_S1x256)
    (shapeCast S1x256 (multiReduction .add [0] S256 s 0x00000000#32 reduces_S8x256_S256 (.inl rfl) rfl)
      shapeCasts_S256_S1x256)) shapeCasts_S1x256_S1x1x256

end Vectors

/-! ## The same functions at an index, over the extended reals -/

/-- The convolution at one row, of the column `g`. -/
def cv (w0 w1 w2 : EReal) (g : ℕ → EReal) (i : ℕ) : EReal := w0 * g (i + 6) + w1 * g (i + 7) + w2 * g (i + 8)

/-- The logistic function at one value, with the word of one half. -/
def sg (u : EReal) : EReal :=
  Ideal.ofBits .f32 0x3F000000#32 * Ideal.tanh (Ideal.ofBits .f32 0x3F000000#32 * u) + Ideal.ofBits .f32 0x3F000000#32

def dv (d u : EReal) : EReal := d * (u * sg u)

def dg (d u v : EReal) : EReal := d * v * (sg u * (1 + u * (1 - sg u)))

/-- The transposed convolution at one row. -/
def bk (w0 w1 w2 : EReal) (d : ℕ → EReal) (i : ℕ) : EReal := w0 * d (i + 2) + w1 * d (i + 1) + w2 * d i

section At

variable (w0 w1 w2 : FVec Ideal S1x256 .f32) (l : Fin 256) (r0 : ℕ)

theorem conv_at {g : FVec Ideal S144x256 .f32} {G : ℕ → EReal} (h : ∀ q : Fin 144, g (ix2 q l) = G (r0 + q))
    (a : Fin 136) :
    conv w0 w1 w2 g (ix2 a l) = cv (w0 (ix2 0 l)) (w1 (ix2 0 l)) (w2 (ix2 0 l)) G (r0 + a) := by
  pointwise [conv, scaled, splat, tap0, tap1, tap2]
  simp only [h, cv, Nat.add_comm, Nat.add_left_comm]
  rfl

theorem dVal_at (d u : FVec Ideal S136x256 .f32) (a : Fin 136) :
    dVal d u (ix2 a l) = dv (d (ix2 a l)) (u (ix2 a l)) := by
  pointwise [dVal, gateOf, splat]
  rfl

theorem dGate_at (d u v : FVec Ideal S136x256 .f32) (a : Fin 136) :
    dGate d u v (ix2 a l) = dg (d (ix2 a l)) (u (ix2 a l)) (v (ix2 a l)) := by
  pointwise [dGate, gateOf, splat]
  rfl

theorem back_at {d : FVec Ideal S136x256 .f32} {D : ℕ → EReal} (h : ∀ q : Fin 136, d (ix2 q l) = D (r0 + q))
    (a : Fin 128) :
    back w0 w1 w2 d (ix2 a l) = bk (w0 (ix2 0 l)) (w1 (ix2 0 l)) (w2 (ix2 0 l)) D (r0 + a) := by
  pointwise [back, scaledTile]
  simp only [h, bk, Nat.add_comm, Nat.add_left_comm]
  rfl

theorem prod_at (d x : FVec Ideal S136x256 .f32) (a : Fin 128) :
    prod d x (ix2 a l) = d (ix2 ⟨a, by omega⟩ l) * x (ix2 ⟨a, by omega⟩ l) := by
  pointwise [prod]

theorem groups_at {p : FVec Ideal S128x256 .f32} {f : ℕ → EReal} (h : ∀ q : Fin 128, p (ix2 q l) = f q) (r : Fin 8) :
    groups p (ix2 r l) = ∑ q ∈ Finset.range 16, f (8 * q + r) := by
  pointwise [groups]
  simp only [h, Finset.sum_range_succ, Finset.sum_range_zero, zero_add, Nat.mul_zero, Nat.reduceMul]

theorem total_at (L : List (FVec Ideal S8x256 .f32)) (r : Fin 8) :
    total L (ix2 r l) = (L.map fun v => v (ix2 r l)).sum := by
  have key : ∀ (L : List (FVec Ideal S8x256 .f32)) (z : FVec Ideal S8x256 .f32),
      (L.foldl addf z) (ix2 r l) = z (ix2 r l) + (L.map fun v => v (ix2 r l)).sum := by
    intro L
    induction L with
    | nil => intro z; simp
    | cons v L ih => intro z; rw [List.foldl_cons, ih, List.map_cons, List.sum_cons, ← add_assoc]; rfl
  rw [total, key]
  pointwise

theorem addRow_at (s : FVec Ideal S8x256 .f32) (old : FVec Ideal S1x1x256 .f32) :
    addRow s old (ix3 0 0 l) = old (ix3 0 0 l) + ∑ r : Fin 8, s (ix2 r l) := by
  pointwise [addRow]

end At

end Cert.Proof.Chunk
-- ==== Proof.Blocks.lean ====
module

public import proofs.«01_k».proof.Proof.Chunk
public import Idealize.ShloMosaic.Lib.Pipeline.ReadBack

@[expose] public section

set_option maxRecDepth 16384
set_option synthInstance.maxSize 4096

noncomputable section

namespace Cert.Proof.Chunk

open Idealize.ShloMosaic Idealize.SL.Sem Cert.KernelIdeal Cert.KernelIdeal.Gen

/-- What one grid point reads: the two halves of the activation with the rows before and after them, the incoming
    gradient with the rows after it, and the two halves of the convolution's weights. -/
structure Blocks (F : FTy → Type) where
  g : Vec F S2048x256 .f32
  v : Vec F S2048x256 .f32
  gPrev : Vec F S8x256 .f32
  vPrev : Vec F S8x256 .f32
  gNext : Vec F S8x256 .f32
  vNext : Vec F S8x256 .f32
  d : Vec F S2048x256 .bf16
  dNext : Vec F S16x256 .bf16
  wg : Vec F S3x256 .f32
  wv : Vec F S3x256 .f32

/-- One chunk of rows: the activation with a halo of eight rows before and after, and the gradient. -/
structure Rows (F : FTy → Type) where
  g : FVec F S144x256 .f32
  v : FVec F S144x256 .f32
  d : FVec F S136x256 .f32

section Vectors

variable {F : FTy → Type} [FloatOps F]

theorem inb144 (o : ℕ) (h : o + 144 ≤ 2048) : ∀ a : Fin 2, (![o, 0] : Fin 2 → ℕ) a + (![144, 256] : Fin 2 → ℕ) a ≤ S2048x256.size a := by
  intro a; fin_cases a
  · exact h
  · show 0 + 256 ≤ 256; omega

/-- `144` rows of a block from row `o` on. -/
def from144 (b : Vec F S2048x256 .f32) (o : ℕ) (h : o + 144 ≤ 2048) : FVec F S144x256 .f32 :=
  View.ld b (Rect.unit ![o, 0] ![144, 256] (inb144 o h))

/-- The weights of one tap. -/
def tapW0 (w : Vec F S3x256 .f32) : FVec F S1x256 .f32 := View.ld w (Rect.unit ![0, 0] ![1, 256] inb_S3x256_S1x256_0_0)
def tapW1 (w : Vec F S3x256 .f32) : FVec F S1x256 .f32 := View.ld w (Rect.unit ![1, 0] ![1, 256] inb_S3x256_S1x256_1_0)
def tapW2 (w : Vec F S3x256 .f32) : FVec F S1x256 .f32 := View.ld w (Rect.unit ![2, 0] ![1, 256] inb_S3x256_S1x256_2_0)

/-- Whether a grid point is the first one along the rows. -/
def isFirst (i : grid0.Coords) : BitVec 1 := Scalar.cmpi .eq (BitVec.ofNat 32 (i 1).val) 0#32

def zero8 : FVec F S8x256 .f32 := broadcast S8x256 (Scalar.ofBits .f32 0x00000000#32 : F .f32)

def edgeRows (i : grid0.Coords) (p : Vec F S8x256 .f32) (b : Vec F S2048x256 .f32) : FVec F S144x256 .f32 :=
  concatenate S144x256 0 [⟨S8x256, Scalar.select (isFirst i) zero8 p⟩,
    ⟨S136x256, View.ld b (Rect.unit ![0, 0] ![136, 256] inb_S2048x256_S136x256_0_0)⟩]
    concatenates_S8x256_S136x256_S144x256_d0

def tailRows (i : grid0.Coords) (b : Vec F S2048x256 .f32) (n : Vec F S8x256 .f32) : FVec F S144x256 .f32 :=
  concatenate S144x256 0 [⟨S136x256, View.ld b (Rect.unit ![1912, 0] ![136, 256] inb_S2048x256_S136x256_1912_0)⟩,
    ⟨S8x256, Scalar.select (isFirst i) zero8 n⟩] concatenates_S136x256_S8x256_S144x256_d0

def gradRows (b : Vec F S2048x256 .bf16) (o : ℕ) (h : o + 144 ≤ 2048) : FVec F S136x256 .f32 :=
  extractStridedSlice S136x256 ![0, 0] (extf (s := S144x256) .f32 (View.ld b (Rect.unit ![o, 0] ![144, 256] (inb144 o h))) bitsLt_bf16_f32) slices_S144x256_o0_0_S136x256

def gradTail (i : grid0.Coords) (b : Vec F S2048x256 .bf16) (n : Vec F S16x256 .bf16) : FVec F S136x256 .f32 :=
  concatenate S136x256 0 [⟨S128x256, extf (s := S128x256) .f32 (View.ld b (Rect.unit ![1920, 0] ![128, 256] inb_S2048x256_S128x256_1920_0)) bitsLt_bf16_f32⟩,
    ⟨S8x256, Scalar.select (isFirst i) zero8 (extractStridedSlice S8x256 ![0, 0] (extf .f32 n bitsLt_bf16_f32) slices_S16x256_o0_0_S8x256)⟩]
    concatenates_S128x256_S8x256_S136x256_d0

variable (B : Blocks F) (i : grid0.Coords)

/-- The first chunk, a middle one whose rows begin at `o`, and the last one. -/
def edge : Rows F := ⟨edgeRows i B.gPrev B.g, edgeRows i B.vPrev B.v, gradRows B.d 0 (by decide)⟩
def mid (o : ℕ) (h : o + 152 ≤ 2048) : Rows F :=
  ⟨from144 B.g o (by omega), from144 B.v o (by omega), gradRows B.d (o + 8) (by omega)⟩
def tail : Rows F := ⟨tailRows i B.g B.gNext, tailRows i B.v B.vNext, gradTail i B.d B.dNext⟩

/-- All chunks in their order. -/
def chunks : List (Rows F) :=
  [edge B i, mid B 120 (by decide), mid B 248 (by decide), mid B 376 (by decide), mid B 504 (by decide),
    mid B 632 (by decide), mid B 760 (by decide), mid B 888 (by decide), mid B 1016 (by decide),
    mid B 1144 (by decide), mid B 1272 (by decide), mid B 1400 (by decide), mid B 1528 (by decide),
    mid B 1656 (by decide), mid B 1784 (by decide), tail B i]

def convG (k : Rows F) : FVec F S136x256 .f32 := conv (tapW0 B.wg) (tapW1 B.wg) (tapW2 B.wg) k.g
def convV (k : Rows F) : FVec F S136x256 .f32 := conv (tapW0 B.wv) (tapW1 B.wv) (tapW2 B.wv) k.v

/-- The gradients of the two halves on a chunk. -/
def gradG (k : Rows F) : FVec F S136x256 .f32 := dGate k.d (convG B k) (convV B k)
def gradV (k : Rows F) : FVec F S136x256 .f32 := dVal k.d (convG B k)

/-- The tiles written for a chunk. -/
def tileG (k : Rows F) : FVec F S128x256 .bf16 := back (tapW0 B.wg) (tapW1 B.wg) (tapW2 B.wg) (gradG B k)
def tileV (k : Rows F) : FVec F S128x256 .bf16 := back (tapW0 B.wv) (tapW1 B.wv) (tapW2 B.wv) (gradV B k)

/-- The sums for one weight, over all chunks. -/
def sumG (tap : FVec F S144x256 .f32 → FVec F S136x256 .f32) : FVec F S8x256 .f32 :=
  total ((chunks B i).map fun k => groups (prod (gradG B k) (tap k.g)))
def sumV (tap : FVec F S144x256 .f32 → FVec F S136x256 .f32) : FVec F S8x256 .f32 :=
  total ((chunks B i).map fun k => groups (prod (gradV B k) (tap k.v)))

end Vectors

end Cert.Proof.Chunk
-- ==== Proof.Columns.lean ====
module

public import proofs.«01_k».proof.Proof.Blocks
public import Idealize.ShloMosaic.Lib.Pipeline.ValueKit

@[expose] public section

set_option maxRecDepth 16384
set_option synthInstance.maxSize 4096

noncomputable section

namespace Cert.Proof.Chunk

open Idealize.ShloMosaic Idealize.SL.Sem Cert.KernelIdeal Cert.KernelIdeal.Gen

/-- One column of the activation, with eight rows of zeros before it and zeros after it. -/
def colX (b : Vec Ideal S2048x256 .f32) (l : Fin 256) (p : ℕ) : EReal :=
  if h : 8 ≤ p ∧ p < 2056 then b (ix2 ⟨p - 8, by omega⟩ l) else 0

/-- One column of the incoming gradient, with zeros after it. -/
def colD (b : Vec Ideal S2048x256 .bf16) (l : Fin 256) (p : ℕ) : EReal :=
  if h : p < 2048 then b (ix2 ⟨p, h⟩ l) else 0

theorem first_eq (i : grid0.Coords) : isFirst i = 1#1 := by
  have h : (i 1).val < 1 := (i 1).isLt
  have e : (i 1).val = 0 := by omega
  rw [isFirst, e]; rfl

theorem from144_at (b : Vec Ideal S2048x256 .f32) (o : ℕ) (h : o + 144 ≤ 2048) (q : Fin 144) (l : Fin 256) :
    from144 b o h (ix2 q l) = colX b l (o + 8 + q) := by
  pointwise [from144]
  rw [colX, dif_pos ⟨by omega, by omega⟩]
  congr 2; ext; show o + (q : ℕ) = o + 8 + q - 8; omega

theorem edgeRows_at (i : grid0.Coords) (p : Vec Ideal S8x256 .f32) (b : Vec Ideal S2048x256 .f32) (q : Fin 144) (l : Fin 256) :
    edgeRows i p b (ix2 q l) = colX b l (0 + q) := by
  pointwise [edgeRows, first_eq, zero8]
  by_cases h : (q : ℕ) < 8
  · rw [dif_pos h, colX, dif_neg (by omega)]
  · rw [dif_neg h, colX, dif_pos ⟨by omega, by omega⟩]

theorem tailRows_at (i : grid0.Coords) (n : Vec Ideal S8x256 .f32) (b : Vec Ideal S2048x256 .f32) (q : Fin 144) (l : Fin 256) :
    tailRows i b n (ix2 q l) = colX b l (1920 + q) := by
  pointwise [tailRows, first_eq, zero8]
  by_cases h : (q : ℕ) < 136
  · rw [dif_pos h, colX, dif_pos ⟨by omega, by omega⟩]
    congr 2; ext; show 1912 + (q : ℕ) = 1920 + q - 8; omega
  · rw [dif_neg h, colX, dif_neg (by omega)]

theorem gradRows_at (o : ℕ) (h : o + 144 ≤ 2048) (b : Vec Ideal S2048x256 .bf16) (q : Fin 136) (l : Fin 256) :
    gradRows b o h (ix2 q l) = colD b l (o + q) := by
  pointwise [gradRows]
  rw [colD, dif_pos (by omega)]

theorem gradTail_at (i : grid0.Coords) (b : Vec Ideal S2048x256 .bf16) (n : Vec Ideal S16x256 .bf16) (q : Fin 136) (l : Fin 256) :
    gradTail i b n (ix2 q l) = colD b l (1920 + q) := by
  pointwise [gradTail, first_eq, zero8]
  by_cases h : (q : ℕ) < 128
  · rw [dif_pos h, colD, dif_pos (by omega)]
  · rw [dif_neg h, colD, dif_neg (by omega)]

/-! ## The gradients of one column -/

section Specs

variable (B : Blocks Ideal) (l : Fin 256)

/-- The convolved halves of the activation, one column. -/
def colUG : ℕ → EReal := cv (B.wg (ix2 0 l)) (B.wg (ix2 1 l)) (B.wg (ix2 2 l)) (colX B.g l)
def colUV : ℕ → EReal := cv (B.wv (ix2 0 l)) (B.wv (ix2 1 l)) (B.wv (ix2 2 l)) (colX B.v l)

/-- Their gradients. -/
def colDG (p : ℕ) : EReal := dg (colD B.d l p) (colUG B l p) (colUV B l p)
def colDV (p : ℕ) : EReal := dv (colD B.d l p) (colUG B l p)

/-- The gradients of the activation's halves. -/
def outG : ℕ → EReal := bk (B.wg (ix2 0 l)) (B.wg (ix2 1 l)) (B.wg (ix2 2 l)) (colDG B l)
def outV : ℕ → EReal := bk (B.wv (ix2 0 l)) (B.wv (ix2 1 l)) (B.wv (ix2 2 l)) (colDV B l)

/-- A chunk holds the rows of the columns from `r0` on. -/
structure Holds (k : Rows Ideal) (r0 : ℕ) : Prop where
  g : ∀ q : Fin 144, k.g (ix2 q l) = colX B.g l (r0 + q)
  v : ∀ q : Fin 144, k.v (ix2 q l) = colX B.v l (r0 + q)
  d : ∀ q : Fin 136, k.d (ix2 q l) = colD B.d l (r0 + q)

theorem holds_edge (i : grid0.Coords) : Holds B l (edge B i) 0 :=
  ⟨fun q => edgeRows_at i _ _ q l, fun q => edgeRows_at i _ _ q l, fun q => gradRows_at 0 (by decide) _ q l⟩

theorem holds_mid (o : ℕ) (h : o + 152 ≤ 2048) : Holds B l (mid B o h) (o + 8) :=
  ⟨fun q => from144_at _ o (by omega) q l, fun q => from144_at _ o (by omega) q l, fun q => gradRows_at (o + 8) (by omega) _ q l⟩

theorem holds_tail (i : grid0.Coords) : Holds B l (tail B i) 1920 :=
  ⟨fun q => tailRows_at i _ _ q l, fun q => tailRows_at i _ _ q l, fun q => gradTail_at i _ _ q l⟩

theorem tapW_at (w : Vec Ideal S3x256 .f32) :
    tapW0 w (ix2 0 l) = w (ix2 0 l) ∧ tapW1 w (ix2 0 l) = w (ix2 1 l) ∧ tapW2 w (ix2 0 l) = w (ix2 2 l) := by
  refine ⟨?_, ?_, ?_⟩
  · pointwise [tapW0]
  · pointwise [tapW1]
  · pointwise [tapW2]

variable {B l} {k : Rows Ideal} {r0 : ℕ} (H : Holds B l k r0)
include H

theorem convG_at (a : Fin 136) : convG B k (ix2 a l) = colUG B l (r0 + a) := by
  rw [convG, conv_at _ _ _ l r0 H.g, (tapW_at l B.wg).1, (tapW_at l B.wg).2.1, (tapW_at l B.wg).2.2, colUG]

theorem convV_at (a : Fin 136) : convV B k (ix2 a l) = colUV B l (r0 + a) := by
  rw [convV, conv_at _ _ _ l r0 H.v, (tapW_at l B.wv).1, (tapW_at l B.wv).2.1, (tapW_at l B.wv).2.2, colUV]

theorem gradG_at (a : Fin 136) : gradG B k (ix2 a l) = colDG B l (r0 + a) := by
  rw [gradG, dGate_at, H.d, convG_at H, convV_at H, colDG]

theorem gradV_at (a : Fin 136) : gradV B k (ix2 a l) = colDV B l (r0 + a) := by
  rw [gradV, dVal_at, H.d, convG_at H, colDV]

theorem tileG_at (a : Fin 128) : tileG B k (ix2 a l) = outG B l (r0 + a) := by
  rw [tileG, back_at _ _ _ l r0 (gradG_at H), (tapW_at l B.wg).1, (tapW_at l B.wg).2.1, (tapW_at l B.wg).2.2, outG]

theorem tileV_at (a : Fin 128) : tileV B k (ix2 a l) = outV B l (r0 + a) := by
  rw [tileV, back_at _ _ _ l r0 (gradV_at H), (tapW_at l B.wv).1, (tapW_at l B.wv).2.1, (tapW_at l B.wv).2.2, outV]

omit H in
/-- The rows a weight meets: `tap` takes the rows of a chunk from the sixth, seventh or eighth on. -/
def TapAt (tap : FVec Ideal S144x256 .f32 → FVec Ideal S136x256 .f32) (s : ℕ) : Prop :=
  ∀ (x : FVec Ideal S144x256 .f32) (l : Fin 256) (a : Fin 136) (G : ℕ → EReal) (r0 : ℕ),
    (∀ q : Fin 144, x (ix2 q l) = G (r0 + q)) → tap x (ix2 a l) = G (r0 + a + s)

omit H in
theorem tap0_at : TapAt tap0 6 := fun x l a G r0 h => by
  pointwise [tap0]
  rw [h]; congr 1; show r0 + (6 + (a : ℕ)) = _; omega

omit H in
theorem tap1_at : TapAt tap1 7 := fun x l a G r0 h => by
  pointwise [tap1]
  rw [h]; congr 1; show r0 + (7 + (a : ℕ)) = _; omega

omit H in
theorem tap2_at : TapAt tap2 8 := fun x l a G r0 h => by
  pointwise [tap2]
  rw [h]; congr 1; show r0 + (8 + (a : ℕ)) = _; omega

theorem groupsG_at {tap} {s : ℕ} (ht : TapAt tap s) (r : Fin 8) :
    groups (prod (gradG B k) (tap k.g)) (ix2 r l)
      = ∑ q ∈ Finset.range 16, colDG B l (r0 + (8 * q + r)) * colX B.g l (r0 + (8 * q + r) + s) :=
  groups_at l (f := fun a => colDG B l (r0 + a) * colX B.g l (r0 + a + s))
    (fun q => by rw [prod_at, gradG_at H, ht _ l _ _ r0 H.g]) r

theorem groupsV_at {tap} {s : ℕ} (ht : TapAt tap s) (r : Fin 8) :
    groups (prod (gradV B k) (tap k.v)) (ix2 r l)
      = ∑ q ∈ Finset.range 16, colDV B l (r0 + (8 * q + r)) * colX B.v l (r0 + (8 * q + r) + s) :=
  groups_at l (f := fun a => colDV B l (r0 + a) * colX B.v l (r0 + a + s))
    (fun q => by rw [prod_at, gradV_at H, ht _ l _ _ r0 H.v]) r

end Specs

/-- Rows counted in chunks of 128, groups of eight and rows of a group are the 2048 rows. -/
theorem sum_rows {M : Type*} [AddCommMonoid M] (f : ℕ → M) :
    ∑ r : Fin 8, ∑ c ∈ Finset.range 16, ∑ q ∈ Finset.range 16, f (128 * c + (8 * q + r))
      = ∑ p ∈ Finset.range 2048, f p := by
  have split : ∀ (a b : ℕ) (g : ℕ → M),
      ∑ x ∈ Finset.range (a * b), g x = ∑ x ∈ Finset.range a, ∑ y ∈ Finset.range b, g (b * x + y) := by
    intro a b g
    induction a with
    | zero => simp
    | succ a ih => rw [Nat.succ_mul, Finset.sum_range_add, ih, Finset.sum_range_succ, Nat.mul_comm a b]
  rw [show (2048 : ℕ) = 16 * 128 from rfl, split 16 128 f, Finset.sum_comm]
  refine Finset.sum_congr rfl fun c _ => ?_
  rw [show (128 : ℕ) = 16 * 8 from rfl, split 16 8 (fun y => f (16 * 8 * c + y)), Finset.sum_comm]
  refine Finset.sum_congr rfl fun q _ => ?_
  rw [Finset.sum_range]

theorem sum_chunks (B : Blocks Ideal) (i : grid0.Coords) (l : Fin 256) (w : Rows Ideal → FVec Ideal S8x256 .f32)
    (r : Fin 8) (f : ℕ → EReal)
    (h : ∀ k r0, Holds B l k r0 → w k (ix2 r l) = ∑ q ∈ Finset.range 16, f (r0 + (8 * q + r))) :
    total ((chunks B i).map w) (ix2 r l) = ∑ c ∈ Finset.range 16, ∑ q ∈ Finset.range 16, f (128 * c + (8 * q + r)) := by
  rw [total_at]
  have key : ∀ g : ℕ → EReal, (∀ k r0, Holds B l k r0 → w k (ix2 r l) = g r0) →
      (((chunks B i).map w).map fun v => v (ix2 r l)).sum = ∑ c ∈ Finset.range 16, g (128 * c) := by
    intro g hg
    simp only [chunks, List.map_cons, List.map_nil, List.sum_cons, List.sum_nil, hg _ _ (holds_edge B l i),
      hg _ _ (holds_mid B l _ _), hg _ _ (holds_tail B l i), Finset.sum_range_succ, Finset.sum_range_zero, zero_add,
      add_zero, Nat.reduceMul, Nat.reduceAdd, add_assoc]
  exact key _ h

theorem sumG_at (B : Blocks Ideal) (i : grid0.Coords) (l : Fin 256) {tap} {s : ℕ} (ht : TapAt tap s) :
    ∑ r : Fin 8, sumG B i tap (ix2 r l) = ∑ p ∈ Finset.range 2048, colDG B l p * colX B.g l (p + s) := by
  rw [← sum_rows]
  exact Finset.sum_congr rfl fun r _ => sum_chunks B i l _ r (fun p => colDG B l p * colX B.g l (p + s))
    fun k r0 H => groupsG_at H ht r

theorem sumV_at (B : Blocks Ideal) (i : grid0.Coords) (l : Fin 256) {tap} {s : ℕ} (ht : TapAt tap s) :
    ∑ r : Fin 8, sumV B i tap (ix2 r l) = ∑ p ∈ Finset.range 2048, colDV B l p * colX B.v l (p + s) := by
  rw [← sum_rows]
  exact Finset.sum_congr rfl fun r _ => sum_chunks B i l _ r (fun p => colDV B l p * colX B.v l (p + s))
    fun k r0 H => groupsV_at H ht r

end Cert.Proof.Chunk
-- ==== Proof.Tiles.lean ====
module

public import proofs.«01_k».proof.Proof.Blocks
public import proofs.«01_k».proof.Proof.Gen.KernelIdeal.Value
public import Idealize.ShloMosaic.Lib.Pipeline.ValueKit

@[expose] public section

set_option maxRecDepth 16384
set_option synthInstance.maxSize 4096

noncomputable section

namespace Cert.Proof.Chunk

open Idealize.ShloMosaic Idealize.SL.Sem Cert.KernelIdeal Cert.KernelIdeal.Gen
variable {F : FTy → Type} [FloatOps F] (m : (ℓ : Loc nD τ sig) → Buf (Elt F) ℓ) (c : Dev nD) (t : Fin cfg0.N)
/-- What grid point `t` of device `c` reads. -/
def point : Blocks F :=
  ⟨iblk m c 0 t, iblk m c 1 t, iblk m c 2 t, iblk m c 3 t, iblk m c 4 t, iblk m c 5 t, iblk m c 6 t, iblk m c 7 t,
    iblk m c 8 t, iblk m c 9 t⟩

/-- The zeros an output block is filled with before the sums are added. -/
def zeros : Vec F S1x8x256 .f32 := k0_pay2

/-- What the first three output rows held when their sums were added. -/
def oldRow0 : FVec F S1x1x256 .f32 := View.ld (zeros (F := F)) (Rect.unit ![0, 0, 0] ![1, 1, 256] inb_S1x8x256_S1x1x256_0_0_0)
def oldRow1 : FVec F S1x1x256 .f32 := View.ld (zeros (F := F)) (Rect.unit ![0, 1, 0] ![1, 1, 256] inb_S1x8x256_S1x1x256_0_1_0)
def oldRow2 : FVec F S1x1x256 .f32 := View.ld (zeros (F := F)) (Rect.unit ![0, 2, 0] ![1, 1, 256] inb_S1x8x256_S1x1x256_0_2_0)

set_option maxHeartbeats 4000000 in
/-- A block of eight rows that was filled, and then given its first three rows one by one. -/
theorem canon_rows (P0 P1 P2 : FVec F S1x1x256 .f32) (Z : FVec F S1x8x256 .f32) (y : S1x8x256.Idx) (v : F .f32)
    (inb : ∀ a, (![0, 0, 0] : Fin 3 → ℕ) a + (![1, 8, 256] : Fin 3 → ℕ) a ≤ S1x8x256.size a)
    (Q0 Q1 Q2 : FVec F S1x1x256 .f32) (e0 : P0 = Q0) (e1 : P1 = Q1) (e2 : P2 = Q2)
    (h0 : ∀ x : S1x1x256.Idx, (y 1 : ℕ) = 0 → (y 2 : ℕ) = x 2 → Q0 x = v)
    (h1 : ∀ x : S1x1x256.Idx, (y 1 : ℕ) = 1 → (y 2 : ℕ) = x 2 → Q1 x = v)
    (h2 : ∀ x : S1x1x256.Idx, (y 1 : ℕ) = 2 → (y 2 : ℕ) = x 2 → Q2 x = v)
    (hz : 3 ≤ (y 1 : ℕ) → Z y = v) :
    View.canon (Val := Elt F) (e := .f32) [⟨Rect.unit ![0, 2, 0] ![1, 1, 256] inb_S1x8x256_S1x1x256_0_2_0, P2⟩,
      ⟨Rect.unit ![0, 1, 0] ![1, 1, 256] inb_S1x8x256_S1x1x256_0_1_0, P1⟩,
      ⟨Rect.unit ![0, 0, 0] ![1, 1, 256] inb_S1x8x256_S1x1x256_0_0_0, P0⟩,
      ⟨Rect.unit ![0, 0, 0] ![1, 8, 256] inb, Z⟩] y = v := by
  subst e0 e1 e2
  have at_row : ∀ (P : FVec F S1x1x256 .f32) (k : ℕ) (ik : ∀ a, (![0, k, 0] : Fin 3 → ℕ) a + (![1, 1, 256] : Fin 3 → ℕ) a ≤ S1x8x256.size a)
      (L : List (View.Piece (Elt F) S1x8x256 .f32)),
      ((y 1 : ℕ) = k → ∀ x : S1x1x256.Idx, (y 2 : ℕ) = x 2 → P x = v) →
      ((y 1 : ℕ) ≠ k → View.canon L y = v) →
      View.canon (⟨Rect.unit ![0, k, 0] ![1, 1, 256] ik, P⟩ :: L) y = v := by
    intro P k ik L hP hL
    by_cases hm : y ∈ (Rect.unit ![0, k, 0] ![1, 1, 256] ik : Rect S1x8x256).set
    · obtain ⟨x, hx⟩ := (Rect.unit ![0, k, 0] ![1, 1, 256] ik : Rect S1x8x256).exists_idx_of_mem hm
      have hx' : (Rect.unit ![0, k, 0] ![1, 1, 256] ik : Rect S1x8x256).emb x = y := hx
      have x1 : (x 1 : ℕ) < 1 := (x 1).isLt
      have e1 : (y 1 : ℕ) = k + 1 * (x 1 : ℕ) := by rw [← hx]; rfl
      have e2 : (y 2 : ℕ) = 0 + 1 * (x 2 : ℕ) := by rw [← hx]; rfl
      have := hP (by omega) x (by omega)
      rw [← this]
      conv_lhs => rw [← hx']
      exact View.canon_cons_emb _ P L x
    · refine (View.canon_cons_of_not_mem (⟨_, P⟩ : View.Piece (Elt F) S1x8x256 .f32) L hm).trans (hL fun hk => hm ?_)
      have y0 : (y 0 : ℕ) < 1 := (y 0).isLt
      have y2 : (y 2 : ℕ) < 256 := (y 2).isLt
      refine (LoadRect.mem_set _).mpr fun a => ?_
      fin_cases a
      · exact ⟨0, Nat.zero_lt_one, by show (y 0 : ℕ) = 0 + 1 * 0; omega⟩
      · exact ⟨0, Nat.zero_lt_one, by show (y 1 : ℕ) = k + 1 * 0; omega⟩
      · exact ⟨(y 2 : ℕ), y2, by show (y 2 : ℕ) = 0 + 1 * (y 2 : ℕ); omega⟩
  refine at_row P2 2 _ _ (fun e x => h2 x e) fun n2 => at_row P1 1 _ _ (fun e x => h1 x e) fun n1 =>
    at_row P0 0 _ _ (fun e x => h0 x e) fun n0 => ?_
  rw [← hz (by omega)]
  exact congrFun (View.canon_cons_unit_lit (Val := Elt F) (e := .f32) (S := S1x8x256) inb Z [] (by decide)) y

set_option maxHeartbeats 4000000 in
/-- The block of window 10 at a point: every chunk's tile where it lies. -/
theorem tiles10 (y : (cfg0.win 10).block.Idx) (G : Blocks F → grid0.Coords → F .bf16)
    (he : ∀ B i x, (y 0 : ℕ) = x 0 → (y 1 : ℕ) = x 1 → tileG B (edge B i) x = G B i)
    (hm : ∀ B i o h x, (y 0 : ℕ) = o + 8 + x 0 → (y 1 : ℕ) = x 1 → tileG B (mid B o h) x = G B i)
    (ht : ∀ B i x, (y 0 : ℕ) = 1920 + x 0 → (y 1 : ℕ) = x 1 → tileG B (tail B i) x = G B i) :
    (Gen.dats m 0 c).after 10 t y = G (point m c t) (grid0.coords t) := by
  rw [after0_10]; unfold outsAt0; dsimp only; frame_out
  unfold point
  generalize iblk m c 0 t = b0, iblk m c 1 t = b1, iblk m c 2 t = b2, iblk m c 3 t = b3, iblk m c 4 t = b4,
    iblk m c 5 t = b5, iblk m c 6 t = b6, iblk m c 7 t = b7, iblk m c 8 t = b8, iblk m c 9 t = b9, grid0.coords t = i
  canon_tiles x h
  case piece0 => exact ht ⟨b0, b1, b2, b3, b4, b5, b6, b7, b8, b9⟩ i x h0 h1
  case piece1 => exact hm ⟨b0, b1, b2, b3, b4, b5, b6, b7, b8, b9⟩ i 1784 (by decide) x h0 h1
  case piece2 => exact hm ⟨b0, b1, b2, b3, b4, b5, b6, b7, b8, b9⟩ i 1656 (by decide) x h0 h1
  case piece3 => exact hm ⟨b0, b1, b2, b3, b4, b5, b6, b7, b8, b9⟩ i 1528 (by decide) x h0 h1
  case piece4 => exact hm ⟨b0, b1, b2, b3, b4, b5, b6, b7, b8, b9⟩ i 1400 (by decide) x h0 h1
  case piece5 => exact hm ⟨b0, b1, b2, b3, b4, b5, b6, b7, b8, b9⟩ i 1272 (by decide) x h0 h1
  case piece6 => exact hm ⟨b0, b1, b2, b3, b4, b5, b6, b7, b8, b9⟩ i 1144 (by decide) x h0 h1
  case piece7 => exact hm ⟨b0, b1, b2, b3, b4, b5, b6, b7, b8, b9⟩ i 1016 (by decide) x h0 h1
  case piece8 => exact hm ⟨b0, b1, b2, b3, b4, b5, b6, b7, b8, b9⟩ i 888 (by decide) x h0 h1
  case piece9 => exact hm ⟨b0, b1, b2, b3, b4, b5, b6, b7, b8, b9⟩ i 760 (by decide) x h0 h1
  case piece10 => exact hm ⟨b0, b1, b2, b3, b4, b5, b6, b7, b8, b9⟩ i 632 (by decide) x h0 h1
  case piece11 => exact hm ⟨b0, b1, b2, b3, b4, b5, b6, b7, b8, b9⟩ i 504 (by decide) x h0 h1
  case piece12 => exact hm ⟨b0, b1, b2, b3, b4, b5, b6, b7, b8, b9⟩ i 376 (by decide) x h0 h1
  case piece13 => exact hm ⟨b0, b1, b2, b3, b4, b5, b6, b7, b8, b9⟩ i 248 (by decide) x h0 h1
  case piece14 => exact hm ⟨b0, b1, b2, b3, b4, b5, b6, b7, b8, b9⟩ i 120 (by decide) x h0 h1
  case piece15 => exact he ⟨b0, b1, b2, b3, b4, b5, b6, b7, b8, b9⟩ i x h0 h1

set_option maxHeartbeats 4000000 in
/-- The block of window 11 at a point: every chunk's tile where it lies. -/
theorem tiles11 (y : (cfg0.win 11).block.Idx) (G : Blocks F → grid0.Coords → F .bf16)
    (he : ∀ B i x, (y 0 : ℕ) = x 0 → (y 1 : ℕ) = x 1 → tileV B (edge B i) x = G B i)
    (hm : ∀ B i o h x, (y 0 : ℕ) = o + 8 + x 0 → (y 1 : ℕ) = x 1 → tileV B (mid B o h) x = G B i)
    (ht : ∀ B i x, (y 0 : ℕ) = 1920 + x 0 → (y 1 : ℕ) = x 1 → tileV B (tail B i) x = G B i) :
    (Gen.dats m 0 c).after 11 t y = G (point m c t) (grid0.coords t) := by
  rw [after0_11]; unfold outsAt0; dsimp only; frame_out
  unfold point
  generalize iblk m c 0 t = b0, iblk m c 1 t = b1, iblk m c 2 t = b2, iblk m c 3 t = b3, iblk m c 4 t = b4,
    iblk m c 5 t = b5, iblk m c 6 t = b6, iblk m c 7 t = b7, iblk m c 8 t = b8, iblk m c 9 t = b9, grid0.coords t = i
  canon_tiles x h
  case piece0 => exact ht ⟨b0, b1, b2, b3, b4, b5, b6, b7, b8, b9⟩ i x h0 h1
  case piece1 => exact hm ⟨b0, b1, b2, b3, b4, b5, b6, b7, b8, b9⟩ i 1784 (by decide) x h0 h1
  case piece2 => exact hm ⟨b0, b1, b2, b3, b4, b5, b6, b7, b8, b9⟩ i 1656 (by decide) x h0 h1
  case piece3 => exact hm ⟨b0, b1, b2, b3, b4, b5, b6, b7, b8, b9⟩ i 1528 (by decide) x h0 h1
  case piece4 => exact hm ⟨b0, b1, b2, b3, b4, b5, b6, b7, b8, b9⟩ i 1400 (by decide) x h0 h1
  case piece5 => exact hm ⟨b0, b1, b2, b3, b4, b5, b6, b7, b8, b9⟩ i 1272 (by decide) x h0 h1
  case piece6 => exact hm ⟨b0, b1, b2, b3, b4, b5, b6, b7, b8, b9⟩ i 1144 (by decide) x h0 h1
  case piece7 => exact hm ⟨b0, b1, b2, b3, b4, b5, b6, b7, b8, b9⟩ i 1016 (by decide) x h0 h1
  case piece8 => exact hm ⟨b0, b1, b2, b3, b4, b5, b6, b7, b8, b9⟩ i 888 (by decide) x h0 h1
  case piece9 => exact hm ⟨b0, b1, b2, b3, b4, b5, b6, b7, b8, b9⟩ i 760 (by decide) x h0 h1
  case piece10 => exact hm ⟨b0, b1, b2, b3, b4, b5, b6, b7, b8, b9⟩ i 632 (by decide) x h0 h1
  case piece11 => exact hm ⟨b0, b1, b2, b3, b4, b5, b6, b7, b8, b9⟩ i 504 (by decide) x h0 h1
  case piece12 => exact hm ⟨b0, b1, b2, b3, b4, b5, b6, b7, b8, b9⟩ i 376 (by decide) x h0 h1
  case piece13 => exact hm ⟨b0, b1, b2, b3, b4, b5, b6, b7, b8, b9⟩ i 248 (by decide) x h0 h1
  case piece14 => exact hm ⟨b0, b1, b2, b3, b4, b5, b6, b7, b8, b9⟩ i 120 (by decide) x h0 h1
  case piece15 => exact he ⟨b0, b1, b2, b3, b4, b5, b6, b7, b8, b9⟩ i x h0 h1

set_option maxHeartbeats 4000000 in
/-- The block of window 12 at a point: three rows of sums, and zeros. -/
theorem rows12 (y : (cfg0.win 12).block.Idx) (G : Blocks F → grid0.Coords → F .f32)
    (h0 : ∀ B i x, (y 1 : ℕ) = 0 → (y 2 : ℕ) = x 2 → addRow (sumG B i tap0) oldRow0 x = G B i)
    (h1 : ∀ B i x, (y 1 : ℕ) = 1 → (y 2 : ℕ) = x 2 → addRow (sumG B i tap1) oldRow1 x = G B i)
    (h2 : ∀ B i x, (y 1 : ℕ) = 2 → (y 2 : ℕ) = x 2 → addRow (sumG B i tap2) oldRow2 x = G B i)
    (hz : ∀ B i, 3 ≤ (y 1 : ℕ) → zeros (F := F) y = G B i) :
    (Gen.dats m 0 c).after 12 t y = G (point m c t) (grid0.coords t) := by
  rw [after0_12]; unfold outsAt0; dsimp only; frame_out
  simp (disch := decide) only [↓ View.readCov_skip, ↓ View.readCov_cons_toLoadRect, ↓ View.readCov_fill]
  unfold point
  generalize iblk m c 0 t = b0, iblk m c 1 t = b1, iblk m c 2 t = b2, iblk m c 3 t = b3, iblk m c 4 t = b4,
    iblk m c 5 t = b5, iblk m c 6 t = b6, iblk m c 7 t = b7, iblk m c 8 t = b8, iblk m c 9 t = b9, grid0.coords t = i
  refine canon_rows _ _ _ _ y _ _ (addRow (sumG ⟨b0, b1, b2, b3, b4, b5, b6, b7, b8, b9⟩ i tap0) oldRow0) (addRow (sumG ⟨b0, b1, b2, b3, b4, b5, b6, b7, b8, b9⟩ i tap1) oldRow1)
    (addRow (sumG ⟨b0, b1, b2, b3, b4, b5, b6, b7, b8, b9⟩ i tap2) oldRow2) ?_ ?_ ?_ (h0 ⟨b0, b1, b2, b3, b4, b5, b6, b7, b8, b9⟩ i) (h1 ⟨b0, b1, b2, b3, b4, b5, b6, b7, b8, b9⟩ i) (h2 ⟨b0, b1, b2, b3, b4, b5, b6, b7, b8, b9⟩ i) (hz ⟨b0, b1, b2, b3, b4, b5, b6, b7, b8, b9⟩ i)
  · rfl
  · rfl
  · rfl

set_option maxHeartbeats 4000000 in
/-- The block of window 13 at a point: three rows of sums, and zeros. -/
theorem rows13 (y : (cfg0.win 13).block.Idx) (G : Blocks F → grid0.Coords → F .f32)
    (h0 : ∀ B i x, (y 1 : ℕ) = 0 → (y 2 : ℕ) = x 2 → addRow (sumV B i tap0) oldRow0 x = G B i)
    (h1 : ∀ B i x, (y 1 : ℕ) = 1 → (y 2 : ℕ) = x 2 → addRow (sumV B i tap1) oldRow1 x = G B i)
    (h2 : ∀ B i x, (y 1 : ℕ) = 2 → (y 2 : ℕ) = x 2 → addRow (sumV B i tap2) oldRow2 x = G B i)
    (hz : ∀ B i, 3 ≤ (y 1 : ℕ) → zeros (F := F) y = G B i) :
    (Gen.dats m 0 c).after 13 t y = G (point m c t) (grid0.coords t) := by
  rw [after0_13]; unfold outsAt0; dsimp only; frame_out
  simp (disch := decide) only [↓ View.readCov_skip, ↓ View.readCov_cons_toLoadRect, ↓ View.readCov_fill]
  unfold point
  generalize iblk m c 0 t = b0, iblk m c 1 t = b1, iblk m c 2 t = b2, iblk m c 3 t = b3, iblk m c 4 t = b4,
    iblk m c 5 t = b5, iblk m c 6 t = b6, iblk m c 7 t = b7, iblk m c 8 t = b8, iblk m c 9 t = b9, grid0.coords t = i
  refine canon_rows _ _ _ _ y _ _ (addRow (sumV ⟨b0, b1, b2, b3, b4, b5, b6, b7, b8, b9⟩ i tap0) oldRow0) (addRow (sumV ⟨b0, b1, b2, b3, b4, b5, b6, b7, b8, b9⟩ i tap1) oldRow1)
    (addRow (sumV ⟨b0, b1, b2, b3, b4, b5, b6, b7, b8, b9⟩ i tap2) oldRow2) ?_ ?_ ?_ (h0 ⟨b0, b1, b2, b3, b4, b5, b6, b7, b8, b9⟩ i) (h1 ⟨b0, b1, b2, b3, b4, b5, b6, b7, b8, b9⟩ i) (h2 ⟨b0, b1, b2, b3, b4, b5, b6, b7, b8, b9⟩ i) (hz ⟨b0, b1, b2, b3, b4, b5, b6, b7, b8, b9⟩ i)
  · rfl
  · rfl
  · rfl

end Cert.Proof.Chunk
-- ==== Proof.Arrays.lean ====
module

public import proofs.«01_k».proof.Proof.Columns
public import proofs.«01_k».proof.Proof.Tiles

@[expose] public section

set_option maxRecDepth 16384
set_option synthInstance.maxSize 4096

noncomputable section

namespace Cert.Proof.Chunk

open Idealize.ShloMosaic Idealize.SL.Sem Cert.KernelIdeal Cert.KernelIdeal.Gen

/-! ## The gradients over whole arrays: `x` the activation before its convolution, `d` the incoming gradient, `w` the weights -/

section Whole

variable (x : S2048x5632.Idx → EReal) (d : S2048x2816.Idx → EReal) (w : S3x5632.Idx → EReal)

/-- Column `n` of the gate half, and of the value half. -/
def gateCol (n : Fin 2816) : Fin 5632 := ⟨n, by omega⟩
def valCol (n : Fin 2816) : Fin 5632 := ⟨n + 2816, by omega⟩

def arrX (n : Fin 5632) (p : ℕ) : EReal := if h : 8 ≤ p ∧ p < 2056 then x (ix2 ⟨p - 8, by omega⟩ n) else 0
def arrD (n : Fin 2816) (p : ℕ) : EReal := if h : p < 2048 then d (ix2 ⟨p, h⟩ n) else 0

/-- A column of the convolved activation. -/
def arrU (n : Fin 5632) : ℕ → EReal := cv (w (ix2 0 n)) (w (ix2 1 n)) (w (ix2 2 n)) (arrX x n)

def arrDG (n : Fin 2816) (p : ℕ) : EReal := dg (arrD d n p) (arrU x w (gateCol n) p) (arrU x w (valCol n) p)
def arrDV (n : Fin 2816) (p : ℕ) : EReal := dv (arrD d n p) (arrU x w (gateCol n) p)

/-- The four results, at one element. -/
def resG (n : Fin 2816) : ℕ → EReal :=
  bk (w (ix2 0 (gateCol n))) (w (ix2 1 (gateCol n))) (w (ix2 2 (gateCol n))) (arrDG x d w n)
def resV (n : Fin 2816) : ℕ → EReal :=
  bk (w (ix2 0 (valCol n))) (w (ix2 1 (valCol n))) (w (ix2 2 (valCol n))) (arrDV x d w n)
def resWG (n : Fin 2816) (k : ℕ) : EReal :=
  if k < 3 then ∑ p ∈ Finset.range 2048, arrDG x d w n p * arrX x (gateCol n) (p + (6 + k)) else 0
def resWV (n : Fin 2816) (k : ℕ) : EReal :=
  if k < 3 then ∑ p ∈ Finset.range 2048, arrDV x d w n p * arrX x (valCol n) (p + (6 + k)) else 0

end Whole

variable (m : (ℓ : Loc nD τ sig) → Buf (Elt Ideal) ℓ) (c : Dev nD)

/-- The arguments on one device. -/
def argX : S2048x5632.Idx → EReal := m ((c.tc : Thread nD τ).loc main_arg0)
def argD : S2048x2816.Idx → EReal := m ((c.tc : Thread nD τ).loc main_arg1)
def argW : S3x5632.Idx → EReal := m ((c.tc : Thread nD τ).loc main_arg2)

theorem idx : ∀ t : Fin cfg0.N, win0_0.index t = ![0, t.val] ∧ win0_1.index t = ![0, 11 + t.val]
    ∧ win0_6.index t = ![0, t.val] ∧ win0_8.index t = ![0, t.val] ∧ win0_9.index t = ![0, 11 + t.val]
    ∧ win0_10.index t = ![0, t.val] ∧ win0_11.index t = ![0, t.val] ∧ win0_12.index t = ![0, 0, t.val]
    ∧ win0_13.index t = ![0, 0, t.val] ∧ t.val < 11 :=
  (by decide +kernel : ∀ t : Fin grid0.N, _)

variable (t : Fin cfg0.N)

theorem lt11 : t.val < 11 := (idx t).2.2.2.2.2.2.2.2.2

/-- The array's column under lane `l` of point `t`. -/
def lane (l : Fin 256) : Fin 2816 := ⟨256 * t.val + l, by have := lt11 t; omega⟩

theorem read_g (p : Fin 2048) (l : Fin 256) : (point m c t).g (ix2 p l) = argX m c (ix2 p (gateCol (lane t l))) := by
  have := lt11 t
  show iblk m c 0 t (ix2 p l) = m ((c.tc : Thread nD τ).loc main_arg0) (ix2 p ⟨256 * t.val + l, by omega⟩)
  blk_ext [iblk, V, idx t]

theorem read_v (p : Fin 2048) (l : Fin 256) : (point m c t).v (ix2 p l) = argX m c (ix2 p (valCol (lane t l))) := by
  have := lt11 t
  show iblk m c 1 t (ix2 p l) = m ((c.tc : Thread nD τ).loc main_arg0) (ix2 p ⟨256 * t.val + l + 2816, by omega⟩)
  blk_ext [iblk, V, idx t]

theorem read_d (p : Fin 2048) (l : Fin 256) : (point m c t).d (ix2 p l) = argD m c (ix2 p (lane t l)) := by
  have := lt11 t
  show iblk m c 6 t (ix2 p l) = m ((c.tc : Thread nD τ).loc main_arg1) (ix2 p ⟨256 * t.val + l, by omega⟩)
  blk_ext [iblk, V, idx t]

theorem read_wg (k : Fin 3) (l : Fin 256) : (point m c t).wg (ix2 k l) = argW m c (ix2 k (gateCol (lane t l))) := by
  have := lt11 t
  show iblk m c 8 t (ix2 k l) = m ((c.tc : Thread nD τ).loc main_arg2) (ix2 k ⟨256 * t.val + l, by omega⟩)
  blk_ext [iblk, V, idx t]

theorem read_wv (k : Fin 3) (l : Fin 256) : (point m c t).wv (ix2 k l) = argW m c (ix2 k (valCol (lane t l))) := by
  have := lt11 t
  show iblk m c 9 t (ix2 k l) = m ((c.tc : Thread nD τ).loc main_arg2) (ix2 k ⟨256 * t.val + l + 2816, by omega⟩)
  blk_ext [iblk, V, idx t]

theorem colX_g (l : Fin 256) : colX (point m c t).g l = arrX (argX m c) (gateCol (lane t l)) :=
  funext fun p => by simp only [colX, arrX, read_g]

theorem colX_v (l : Fin 256) : colX (point m c t).v l = arrX (argX m c) (valCol (lane t l)) :=
  funext fun p => by simp only [colX, arrX, read_v]

theorem colD_d (l : Fin 256) : colD (point m c t).d l = arrD (argD m c) (lane t l) :=
  funext fun p => by simp only [colD, arrD, read_d]

theorem colDG_eq (l : Fin 256) : colDG (point m c t) l = arrDG (argX m c) (argD m c) (argW m c) (lane t l) :=
  funext fun p => by simp only [colDG, arrDG, colUG, colUV, arrU, colX_g, colX_v, colD_d, read_wg, read_wv]

theorem colDV_eq (l : Fin 256) : colDV (point m c t) l = arrDV (argX m c) (argD m c) (argW m c) (lane t l) :=
  funext fun p => by simp only [colDV, arrDV, colUG, arrU, colX_g, colD_d, read_wg]

theorem outG_eq (l : Fin 256) : outG (point m c t) l = resG (argX m c) (argD m c) (argW m c) (lane t l) := by
  simp only [outG, resG, colDG_eq, read_wg]

theorem outV_eq (l : Fin 256) : outV (point m c t) l = resV (argX m c) (argD m c) (argW m c) (lane t l) := by
  simp only [outV, resV, colDV_eq, read_wv]

section Local

variable {B : Blocks Ideal} {k : Rows Ideal} {r0 n : ℕ} {l : Fin 256}

theorem tileG_of (H : Holds B l k r0) (x : S128x256.Idx) (h0 : n = r0 + (x 0 : ℕ)) (h1 : (l : ℕ) = x 1) :
    tileG B k x = outG B l n := by
  have e : x = ix2 (x 0) l := by rw [show l = x 1 from Fin.ext h1]; exact (ix2_eta x).symm
  rw [e, h0]; exact tileG_at H (x 0)

theorem tileV_of (H : Holds B l k r0) (x : S128x256.Idx) (h0 : n = r0 + (x 0 : ℕ)) (h1 : (l : ℕ) = x 1) :
    tileV B k x = outV B l n := by
  have e : x = ix2 (x 0) l := by rw [show l = x 1 from Fin.ext h1]; exact (ix2_eta x).symm
  rw [e, h0]; exact tileV_at H (x 0)

theorem row_of (s : FVec Ideal S8x256 .f32) (old : FVec Ideal S1x1x256 .f32) (hold : ∀ x, old x = 0)
    (x : S1x1x256.Idx) (l : Fin 256) (h : (l : ℕ) = x 2) : addRow s old x = ∑ r : Fin 8, s (ix2 r l) := by
  have e : x = ix3 0 0 l := by
    funext a
    fin_cases a
    · exact Subsingleton.elim (α := Fin 1) _ _
    · exact Subsingleton.elim (α := Fin 1) _ _
    · exact Fin.ext h.symm
  rw [e, addRow_at, hold, zero_add]

theorem zeros_at (x : S1x8x256.Idx) : zeros (F := Ideal) x = 0 := by pointwise [zeros, k0_pay2]
theorem oldRow0_at (x : S1x1x256.Idx) : oldRow0 (F := Ideal) x = 0 := zeros_at _
theorem oldRow1_at (x : S1x1x256.Idx) : oldRow1 (F := Ideal) x = 0 := zeros_at _
theorem oldRow2_at (x : S1x1x256.Idx) : oldRow2 (F := Ideal) x = 0 := zeros_at _

/-- The sums of one point for the weights of tap `k`, and zeros below the taps. -/
def rowG (B : Blocks Ideal) (l : Fin 256) (k : ℕ) : EReal :=
  if k < 3 then ∑ p ∈ Finset.range 2048, colDG B l p * colX B.g l (p + (6 + k)) else 0
def rowV (B : Blocks Ideal) (l : Fin 256) (k : ℕ) : EReal :=
  if k < 3 then ∑ p ∈ Finset.range 2048, colDV B l p * colX B.v l (p + (6 + k)) else 0

theorem rowG_of (B : Blocks Ideal) (i : grid0.Coords) (k : ℕ) (hk : k < 3) {tap : _} (ht : TapAt tap (6 + k))
    {old : FVec Ideal S1x1x256 .f32} (hold : ∀ x, old x = 0) (x : S1x1x256.Idx) (l : Fin 256) (h : (l : ℕ) = x 2)
    {n : ℕ} (hn : n = k) : addRow (sumG B i tap) old x = rowG B l n := by
  rw [row_of _ _ hold x l h, rowG, hn, if_pos hk, sumG_at B i _ ht]

theorem rowV_of (B : Blocks Ideal) (i : grid0.Coords) (k : ℕ) (hk : k < 3) {tap : _} (ht : TapAt tap (6 + k))
    {old : FVec Ideal S1x1x256 .f32} (hold : ∀ x, old x = 0) (x : S1x1x256.Idx) (l : Fin 256) (h : (l : ℕ) = x 2)
    {n : ℕ} (hn : n = k) : addRow (sumV B i tap) old x = rowV B l n := by
  rw [row_of _ _ hold x l h, rowV, hn, if_pos hk, sumV_at B i _ ht]

end Local

theorem rowG_eq (l : Fin 256) : rowG (point m c t) l = resWG (argX m c) (argD m c) (argW m c) (lane t l) :=
  funext fun k => by simp only [rowG, resWG, colDG_eq, colX_g]

theorem rowV_eq (l : Fin 256) : rowV (point m c t) l = resWV (argX m c) (argD m c) (argW m c) (lane t l) :=
  funext fun k => by simp only [rowV, resWV, colDV_eq, colX_v]

theorem block10 (y : S2048x256.Idx) : (dats m 0 c).after 10 t y
    = resG (argX m c) (argD m c) (argW m c) (lane t (y 1)) (y 0) := by
  refine (tiles10 m c t y (fun B i => outG B (y 1) (y 0)) (fun B i x h0 h1 => ?_) (fun B i o h x h0 h1 => ?_)
    (fun B i x h0 h1 => ?_)).trans ?_
  · exact tileG_of (holds_edge B _ i) x (by omega) h1
  · exact tileG_of (holds_mid B _ o h) x h0 h1
  · exact tileG_of (holds_tail B _ i) x h0 h1
  · exact congrFun (outG_eq m c t (y 1)) _

theorem final10 : (dats m 0 c).arrAt 10 (cfgs 0).N
    = fun i : S2048x2816.Idx => resG (argX m c) (argD m c) (argW m c) (i 1) (i 0) := by
  refine (dats m 0 c).arrAt_eq_of_covers 10 _ (by decide +kernel) fun t hf y => ?_
  have e1 : (win0_10.blk t).view.emb y 1 = lane t (y 1) := Fin.ext (by
    blk_simp [idx t]; show t.val * 256 + (y 1 : ℕ) = 256 * t.val + (y 1 : ℕ); omega)
  have e0 : ((win0_10.blk t).view.emb y 0 : ℕ) = (y 0 : ℕ) := by
    blk_simp [idx t]
  exact (block10 m c t y).trans (congr (congrArg _ e1.symm) e0.symm)

theorem block11 (y : S2048x256.Idx) : (dats m 0 c).after 11 t y
    = resV (argX m c) (argD m c) (argW m c) (lane t (y 1)) (y 0) := by
  refine (tiles11 m c t y (fun B i => outV B (y 1) (y 0)) (fun B i x h0 h1 => ?_) (fun B i o h x h0 h1 => ?_)
    (fun B i x h0 h1 => ?_)).trans ?_
  · exact tileV_of (holds_edge B _ i) x (by omega) h1
  · exact tileV_of (holds_mid B _ o h) x h0 h1
  · exact tileV_of (holds_tail B _ i) x h0 h1
  · exact congrFun (outV_eq m c t (y 1)) _

theorem final11 : (dats m 0 c).arrAt 11 (cfgs 0).N
    = fun i : S2048x2816.Idx => resV (argX m c) (argD m c) (argW m c) (i 1) (i 0) := by
  refine (dats m 0 c).arrAt_eq_of_covers 11 _ (by decide +kernel) fun t hf y => ?_
  have e1 : (win0_11.blk t).view.emb y 1 = lane t (y 1) := Fin.ext (by
    blk_simp [idx t]; show t.val * 256 + (y 1 : ℕ) = 256 * t.val + (y 1 : ℕ); omega)
  have e0 : ((win0_11.blk t).view.emb y 0 : ℕ) = (y 0 : ℕ) := by
    blk_simp [idx t]
  exact (block11 m c t y).trans (congr (congrArg _ e1.symm) e0.symm)

theorem block12 (y : S1x8x256.Idx) : (dats m 0 c).after 12 t y
    = resWG (argX m c) (argD m c) (argW m c) (lane t (y 2)) (y 1) := by
  refine (rows12 m c t y (fun B i => rowG B (y 2) (y 1)) (fun B i x h0 h1 => ?_) (fun B i x h0 h1 => ?_)
    (fun B i x h0 h1 => ?_) (fun B i h => ?_)).trans ?_
  · exact rowG_of B i 0 (by decide) tap0_at oldRow0_at x (y 2) h1 h0
  · exact rowG_of B i 1 (by decide) tap1_at oldRow1_at x (y 2) h1 h0
  · exact rowG_of B i 2 (by decide) tap2_at oldRow2_at x (y 2) h1 h0
  · exact (zeros_at y).trans (if_neg (by omega)).symm
  · exact congrFun (rowG_eq m c t (y 2)) _

theorem final12 : (dats m 0 c).arrAt 12 (cfgs 0).N
    = fun i : S4x8x2816.Idx => if (i 0 : ℕ) = 0 then resWG (argX m c) (argD m c) (argW m c) (i 2) (i 1)
      else m ((c.tc : Thread nD τ).loc main_arg3) i := by
  refine ((dats m 0 c).arrAt_eq_of_coversWhere 12 (P := fun i : S4x8x2816.Idx => (i 0 : ℕ) = 0)
    (fun i : S4x8x2816.Idx => resWG (argX m c) (argD m c) (argW m c) (i 2) (i 1)) (fun β => β (0 : Fin 3) = 0)
    (by decide +kernel) (fun t hf y => ?_) (fun j => by blk_simp [Pipeline.Window.cell_apply]; omega)).trans ?_
  · have e2 : (win0_12.blk t).view.emb y 2 = lane t (y 2) := Fin.ext (by
      blk_simp [idx t]; show t.val * 256 + (y 2 : ℕ) = 256 * t.val + (y 2 : ℕ); omega)
    have e1 : ((win0_12.blk t).view.emb y 1 : ℕ) = (y 1 : ℕ) := by
      blk_simp [idx t]
    exact (block12 m c t y).trans (congr (congrArg _ e2.symm) e1.symm)
  · rw [A_eq]
    rfl

theorem block13 (y : S1x8x256.Idx) : (dats m 0 c).after 13 t y
    = resWV (argX m c) (argD m c) (argW m c) (lane t (y 2)) (y 1) := by
  refine (rows13 m c t y (fun B i => rowV B (y 2) (y 1)) (fun B i x h0 h1 => ?_) (fun B i x h0 h1 => ?_)
    (fun B i x h0 h1 => ?_) (fun B i h => ?_)).trans ?_
  · exact rowV_of B i 0 (by decide) tap0_at oldRow0_at x (y 2) h1 h0
  · exact rowV_of B i 1 (by decide) tap1_at oldRow1_at x (y 2) h1 h0
  · exact rowV_of B i 2 (by decide) tap2_at oldRow2_at x (y 2) h1 h0
  · exact (zeros_at y).trans (if_neg (by omega)).symm
  · exact congrFun (rowV_eq m c t (y 2)) _

theorem final13 : (dats m 0 c).arrAt 13 (cfgs 0).N
    = fun i : S4x8x2816.Idx => if (i 0 : ℕ) = 0 then resWV (argX m c) (argD m c) (argW m c) (i 2) (i 1)
      else m ((c.tc : Thread nD τ).loc main_arg4) i := by
  refine ((dats m 0 c).arrAt_eq_of_coversWhere 13 (P := fun i : S4x8x2816.Idx => (i 0 : ℕ) = 0)
    (fun i : S4x8x2816.Idx => resWV (argX m c) (argD m c) (argW m c) (i 2) (i 1)) (fun β => β (0 : Fin 3) = 0)
    (by decide +kernel) (fun t hf y => ?_) (fun j => by blk_simp [Pipeline.Window.cell_apply]; omega)).trans ?_
  · have e2 : (win0_13.blk t).view.emb y 2 = lane t (y 2) := Fin.ext (by
      blk_simp [idx t]; show t.val * 256 + (y 2 : ℕ) = 256 * t.val + (y 2 : ℕ); omega)
    have e1 : ((win0_13.blk t).view.emb y 1 : ℕ) = (y 1 : ℕ) := by
      blk_simp [idx t]
    exact (block13 m c t y).trans (congr (congrArg _ e2.symm) e1.symm)
  · rw [A_eq]
    rfl

end Cert.Proof.Chunk
-- ==== Proof.RefAt.lean ====
module

public import proofs.«01_k».proof.Proof.RefTerms
public import proofs.«01_k».proof.Proof.Arrays

@[expose] public section

set_option maxRecDepth 16384
set_option synthInstance.maxSize 4096

noncomputable section

/-! # The reference's results at an element -/

namespace Cert.Proof.Plain

open Idealize.ShloMosaic Idealize.SL.Sem Cert.ReferenceIdeal Cert.ReferenceIdeal.Gen
open Cert.Proof.Chunk (arrX arrD arrU arrDG arrDV cv bk gateCol valCol)

variable (x : FVec Ideal S2048x5632 .f32) (d : FVec Ideal S2048x2816 .bf16) (w : FVec Ideal S3x5632 .f32)

theorem padded_at (q : Fin 2050) (n : Fin 5632) : padded x (ix2 q n) = arrX x n (q + 6) := by
  pointwise [padded]
  unfold arrX
  by_cases h : (q : ℕ) < 2
  · rw [dif_pos h, dif_neg (by omega)]
  · rw [dif_neg h, dif_pos (by omega)]; congr 1

theorem shift0_at (p : Fin 2048) (n : Fin 5632) : shift0 x (ix2 p n) = arrX x n (p + 6) := by
  pointwise [shift0]; rw [padded_at]
theorem shift1_at (p : Fin 2048) (n : Fin 5632) : shift1 x (ix2 p n) = arrX x n (p + 7) := by
  pointwise [shift1]; rw [padded_at]; congr 1; show 1 + (p : ℕ) + 6 = _; omega
theorem shift2_at (p : Fin 2048) (n : Fin 5632) : shift2 x (ix2 p n) = arrX x n (p + 8) := by
  pointwise [shift2]; rw [padded_at]; congr 1; show 2 + (p : ℕ) + 6 = _; omega

theorem up_at (p : Fin 2048) (n : Fin 5632) : up x w (ix2 p n) = arrU x w n p := by
  pointwise [up, row0, row1, row2]
  rw [shift0_at, shift1_at, shift2_at]
  rfl

theorem gate_at (u : FVec Ideal S2048x5632 .f32) (p : Fin 2048) (n : Fin 2816) : gate u (ix2 p n) = u (ix2 p (gateCol n)) := by
  pointwise [gate]
  rfl
theorem val_at (u : FVec Ideal S2048x5632 .f32) (p : Fin 2048) (n : Fin 2816) : val u (ix2 p n) = u (ix2 p (valCol n)) := by
  pointwise [val]
  rw [show (⟨2816 + (n : ℕ), by omega⟩ : Fin 5632) = valCol n from Fin.ext (Nat.add_comm _ _)]

/-- The logistic function. -/
def lg (u : EReal) : EReal := Ideal.div 1 (1 + Ideal.exp (-u))

theorem dVal_at (d u : FVec Ideal S2048x2816 .f32) (i : S2048x2816.Idx) : dVal d u i = u i * lg (u i) * d i := by
  pointwise [dVal, logi, ones]
  rfl

theorem dGate_at (d u v : FVec Ideal S2048x2816 .f32) (i : S2048x2816.Idx) :
    dGate d u v i = d i * v i * lg (u i) + u i * (d i * v i) * (lg (u i) * (1 - lg (u i))) := by
  pointwise [dGate, logi, ones]
  rfl

theorem both_gate (a b : FVec Ideal S2048x2816 .f32) (p : Fin 2048) (n : Fin 2816) : both a b (ix2 p (gateCol n)) = b (ix2 p n) := by
  pointwise [both, zero]
  have h : ((gateCol n : Fin 5632) : ℕ) = n := rfl
  rw [dif_neg (by omega), dif_pos (by omega), zero_add]
  rfl
theorem both_val (a b : FVec Ideal S2048x2816 .f32) (p : Fin 2048) (n : Fin 2816) : both a b (ix2 p (valCol n)) = a (ix2 p n) := by
  pointwise [both, zero]
  have h : ((valCol n : Fin 5632) : ℕ) = n + 2816 := rfl
  rw [dif_pos (by omega), dif_neg (by omega), add_zero]
  congr 2

theorem dx_at (g : FVec Ideal S2048x5632 .f32) (p : Fin 2048) (n : Fin 5632) : dx g w (ix2 p n)
    = bk (w (ix2 0 n)) (w (ix2 1 n)) (w (ix2 2 n)) (fun i => if h : i < 2048 then g (ix2 ⟨i, h⟩ n) else 0) p := by
  pointwise [dx, zero, row0, row1, row2]
  have e0 : (if h : 2 + (p : ℕ) < 2048 then w (ix2 0 n) * g (ix2 ⟨2 + (p : ℕ), h⟩ n) else 0)
      = w (ix2 0 n) * (if h : (p : ℕ) + 2 < 2048 then g (ix2 ⟨(p : ℕ) + 2, h⟩ n) else 0) := by
    by_cases h : (p : ℕ) + 2 < 2048
    · rw [dif_pos (by omega), dif_pos h]; congr 3; exact Fin.ext (Nat.add_comm _ _)
    · rw [dif_neg (by omega), dif_neg h, mul_zero]
  have e1 : (if h : 1 ≤ 2 + (p : ℕ) ∧ 2 + (p : ℕ) - 1 < 2048 then w (ix2 1 n) * g (ix2 ⟨2 + (p : ℕ) - 1, h.2⟩ n) else 0)
      = w (ix2 1 n) * (if h : (p : ℕ) + 1 < 2048 then g (ix2 ⟨(p : ℕ) + 1, h⟩ n) else 0) := by
    by_cases h : (p : ℕ) + 1 < 2048
    · rw [dif_pos (by omega), dif_pos h]; congr 3; exact Fin.ext (by show 2 + (p : ℕ) - 1 = p + 1; omega)
    · rw [dif_neg (by omega), dif_neg h, mul_zero]
  rw [e0, e1]
  show _ = w (ix2 0 n) * _ + w (ix2 1 n) * _ + w (ix2 2 n) * (if h : (p : ℕ) < 2048 then g (ix2 ⟨p, h⟩ n) else 0)
  rw [dif_pos p.isLt, add_comm, add_comm (w (ix2 2 n) * _), ← add_assoc]

theorem colsum_at (a b : FVec Ideal S2048x5632 .f32) (n : Fin 5632) :
    colsum a b (ix2 0 n) = ∑ p : Fin 2048, a (ix2 p n) * b (ix2 p n) := by
  pointwise [colsum, zero]

theorem dw_at (s0 s1 s2 : FVec Ideal S1x5632 .f32) (k : Fin 3) (n : Fin 5632) :
    dw s0 s1 s2 (ix2 k n) = if (k : ℕ) = 0 then s0 (ix2 0 n) else if (k : ℕ) = 1 then s1 (ix2 0 n) else s2 (ix2 0 n) := by
  pointwise [dw, zero]
  fin_cases k <;> simp

theorem put_at (r : FVec Ideal S3x2816 .f32) (st : FVec Ideal S4x8x2816 .f32) (a : Fin 4) (k : Fin 8) (n : Fin 2816) :
    put r st (ix3 a k n) = if (a : ℕ) = 0 then (if h : (k : ℕ) < 3 then r (ix2 ⟨k, h⟩ n) else 0) else st (ix3 a k n) := by
  pointwise [put]
  by_cases h : (a : ℕ) = 0
  · rw [dif_pos (by omega), if_pos h]
  · rw [dif_neg (by omega), if_neg h]; congr 2; exact Fin.ext (by show 1 + ((a : ℕ) - 1) = a; omega)

end Cert.Proof.Plain
-- ==== Proof.Same.lean ====
module

public import proofs.«01_k».proof.Proof.RefAt

@[expose] public section

set_option maxRecDepth 16384
set_option synthInstance.maxSize 4096

noncomputable section

/-! # On finite arguments the reference's results are the kernel's -/

namespace Cert.Proof.Plain

open Idealize.ShloMosaic Idealize.SL.Sem Cert.ReferenceIdeal Cert.ReferenceIdeal.Gen
open Cert.Proof.Chunk (arrX arrD arrU arrDG arrDV cv bk sg dv dg gateCol valCol resG resV resWG resWV)

theorem half_eq : Ideal.ofBits .f32 0x3F000000#32 = ((1 / 2 : ℝ) : EReal) := by
  simp [Ideal.ofBits, Ideal.ieee]
  rw [← EReal.coe_mul]
  norm_num

/-- The logistic function from the hyperbolic tangent of the half. -/
theorem tanh_half (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; congr 1; ring
  have h2 : Real.exp (-(1 / 2 * r)) = (Real.exp (1 / 2 * r))⁻¹ := Real.exp_neg _
  have hp := Real.exp_pos (1 / 2 * r)
  rw [Real.tanh_eq_sinh_div_cosh, Real.sinh_eq, Real.cosh_eq, h1, h2]
  generalize Real.exp (1 / 2 * r) = y at hp
  field_simp
  ring

theorem sg_coe (r : ℝ) : sg (r : EReal) = (((1 + Real.exp (-r))⁻¹ : ℝ) : EReal) := by
  rw [sg, half_eq, ← tanh_half r, ← EReal.coe_mul, Ideal.tanh_coe, ← EReal.coe_mul, ← EReal.coe_add]

theorem lg_coe (r : ℝ) : lg (r : EReal) = (((1 + Real.exp (-r))⁻¹ : ℝ) : EReal) := by
  have h : (1 + Real.exp (-r)) ≠ 0 := (add_pos one_pos (Real.exp_pos _)).ne'
  rw [lg, ← EReal.coe_neg, Ideal.exp_coe, ← EReal.coe_one, ← EReal.coe_add, Ideal.div_coe h, ← EReal.coe_mul, one_mul,
    one_div]

/-- Every element is a real. -/
def Finite {ι : Type} (x : ι → EReal) : Prop := ∀ i, ∃ r : ℝ, x i = (r : EReal)

variable {x : FVec Ideal S2048x5632 .f32} {d : FVec Ideal S2048x2816 .bf16} {w : FVec Ideal S3x5632 .f32}

theorem arrX_fin (hx : Finite x) (n : Fin 5632) (p : ℕ) : ∃ r : ℝ, arrX x n p = (r : EReal) := by
  unfold arrX
  split
  · exact hx _
  · exact ⟨0, rfl⟩

theorem arrU_fin (hx : Finite x) (hw : Finite w) (n : Fin 5632) (p : ℕ) : ∃ r : ℝ, arrU x w n p = (r : EReal) := by
  obtain ⟨w0, h0⟩ := hw (ix2 0 n)
  obtain ⟨w1, h1⟩ := hw (ix2 1 n)
  obtain ⟨w2, h2⟩ := hw (ix2 2 n)
  obtain ⟨x0, e0⟩ := arrX_fin hx n (p + 6)
  obtain ⟨x1, e1⟩ := arrX_fin hx n (p + 7)
  obtain ⟨x2, e2⟩ := arrX_fin hx n (p + 8)
  refine ⟨w0 * x0 + w1 * x1 + w2 * x2, ?_⟩
  rw [arrU, cv, h0, h1, h2, e0, e1, e2]
  push_cast
  rfl

/-- The two ways of writing the gradient of the gate half. -/
theorem dg_coe (d u v : ℝ) : (d : EReal) * v * lg u + u * (d * v) * (lg u * (1 - lg u)) = dg d u v := by
  rw [dg, lg_coe, sg_coe]
  generalize (1 + Real.exp (-u))⁻¹ = s
  norm_cast
  ring_nf

theorem arrD_at (p : Fin 2048) (n : Fin 2816) : arrD d n p = d (ix2 p n) := dif_pos p.isLt

theorem gradGate_at (hx : Finite x) (hd : Finite d) (hw : Finite w) (p : Fin 2048) (n : Fin 2816) :
    grad x d w (ix2 p (gateCol n)) = arrDG x d w n p := by
  obtain ⟨u, hu⟩ := arrU_fin hx hw (gateCol n) p
  obtain ⟨v, hv⟩ := arrU_fin hx hw (valCol n) p
  obtain ⟨e, he⟩ := hd (ix2 p n)
  rw [grad, both_gate, dGate_at, gate_at, val_at, up_at, up_at, arrDG, hu, hv, arrD_at, he, ← dg_coe]
  show d (ix2 p n) * _ * _ + _ * (d (ix2 p n) * _) * _ = _
  rw [he]

theorem gradVal_at (hx : Finite x) (hw : Finite w) (p : Fin 2048) (n : Fin 2816) :
    grad x d w (ix2 p (valCol n)) = arrDV x d w n p := by
  obtain ⟨u, hu⟩ := arrU_fin hx hw (gateCol n) p
  rw [grad, both_val, dVal_at, gate_at, up_at, arrDV, hu, arrD_at, dv, lg_coe, sg_coe, mul_comm]
  rfl

theorem arrDG_ge (n : Fin 2816) (p : ℕ) (h : ¬ p < 2048) : arrDG x d w n p = 0 := by
  rw [arrDG, arrD, dif_neg h, dg, zero_mul, zero_mul]
theorem arrDV_ge (n : Fin 2816) (p : ℕ) (h : ¬ p < 2048) : arrDV x d w n p = 0 := by
  rw [arrDV, arrD, dif_neg h, dv, zero_mul]

/-- The gradients of the two halves before the convolution. -/
theorem out0_at (hx : Finite x) (hd : Finite d) (hw : Finite w) :
    (truncf .bf16 (gate (dx (grad x d w) w)) bitsLt_bf16_f32 : FVec Ideal S2048x2816 .bf16)
    = fun i => resG x d w (i 1) (i 0) := by
  funext i
  obtain ⟨p, n, rfl⟩ : ∃ (p : Fin 2048) (n : Fin 2816), i = ix2 p n := ⟨i 0, i 1, (ix2_eta i).symm⟩
  show gate (dx (grad x d w) w) (ix2 p n) = resG x d w n p
  rw [gate_at, dx_at, resG]
  congr 1
  funext q
  by_cases h : q < 2048
  · rw [dif_pos h]; exact gradGate_at hx hd hw ⟨q, h⟩ n
  · rw [dif_neg h, arrDG_ge n q h]

theorem out1_at (hx : Finite x) (hw : Finite w) :
    (truncf .bf16 (val (dx (grad x d w) w)) bitsLt_bf16_f32 : FVec Ideal S2048x2816 .bf16)
    = fun i => resV x d w (i 1) (i 0) := by
  funext i
  obtain ⟨p, n, rfl⟩ : ∃ (p : Fin 2048) (n : Fin 2816), i = ix2 p n := ⟨i 0, i 1, (ix2_eta i).symm⟩
  show val (dx (grad x d w) w) (ix2 p n) = resV x d w n p
  rw [val_at, dx_at, resV]
  congr 1
  funext q
  by_cases h : q < 2048
  · rw [dif_pos h]; exact gradVal_at hx hw ⟨q, h⟩ n
  · rw [dif_neg h, arrDV_ge n q h]

/-- The gradients of the weights. -/
theorem gradW_at (g : FVec Ideal S2048x5632 .f32) (D : ℕ → EReal) (n : Fin 5632)
    (hg : ∀ p : Fin 2048, g (ix2 p n) = D p) (k : Fin 3) :
    gradW x g (ix2 k n) = ∑ p ∈ Finset.range 2048, D p * arrX x n (p + (6 + k)) := by
  rw [gradW, dw_at, colsum_at, colsum_at, colsum_at, Finset.sum_range]
  simp only [hg, shift0_at, shift1_at, shift2_at]
  fin_cases k <;> rfl

theorem gateRows_at (a : FVec Ideal S3x5632 .f32) (k : Fin 3) (n : Fin 2816) : gateRows a (ix2 k n) = a (ix2 k (gateCol n)) := by
  pointwise [gateRows]
  rfl
theorem valRows_at (a : FVec Ideal S3x5632 .f32) (k : Fin 3) (n : Fin 2816) : valRows a (ix2 k n) = a (ix2 k (valCol n)) := by
  pointwise [valRows]
  rw [show (⟨2816 + (n : ℕ), by omega⟩ : Fin 5632) = valCol n from Fin.ext (Nat.add_comm _ _)]

theorem out2_at (hx : Finite x) (hd : Finite d) (hw : Finite w) (st : FVec Ideal S4x8x2816 .f32) :
    put (gateRows (gradW x (grad x d w))) st
    = fun i => if (i 0 : ℕ) = 0 then resWG x d w (i 2) (i 1) else st i := by
  funext i
  obtain ⟨a, k, n, rfl⟩ : ∃ (a : Fin 4) (k : Fin 8) (n : Fin 2816), i = ix3 a k n := ⟨i 0, i 1, i 2, (ix3_eta i).symm⟩
  rw [put_at]
  show _ = if (a : ℕ) = 0 then resWG x d w n k else st (ix3 a k n)
  rw [resWG]
  by_cases h : (k : ℕ) < 3
  · rw [dif_pos h, if_pos h, gateRows_at, gradW_at _ _ _ (fun p => gradGate_at hx hd hw p n)]
  · rw [dif_neg h, if_neg h]

theorem out3_at (hx : Finite x) (hw : Finite w) (st : FVec Ideal S4x8x2816 .f32) :
    put (valRows (gradW x (grad x d w))) st
    = fun i => if (i 0 : ℕ) = 0 then resWV x d w (i 2) (i 1) else st i := by
  funext i
  obtain ⟨a, k, n, rfl⟩ : ∃ (a : Fin 4) (k : Fin 8) (n : Fin 2816), i = ix3 a k n := ⟨i 0, i 1, i 2, (ix3_eta i).symm⟩
  rw [put_at]
  show _ = if (a : ℕ) = 0 then resWV x d w n k else st (ix3 a k n)
  rw [resWV]
  by_cases h : (k : ℕ) < 3
  · rw [dif_pos h, if_pos h, valRows_at, gradW_at _ _ _ (fun p => gradVal_at hx hw p n)]
  · rw [dif_neg h, if_neg h]

end Cert.Proof.Plain
-- ==== Proof.Pre.lean ====
module

public import proofs.«01_k».proof.Proof.Gen.Pre_finite
public import proofs.«01_k».proof.Proof.Same
public import Idealize.ShloMosaic.Lib.ReduceAll

@[expose] public section

set_option maxRecDepth 16384

noncomputable section

/-! # What the precondition says: the activation, the incoming gradient and the weights are finite -/

namespace Cert.Proof.Plain

open Idealize.ShloMosaic Idealize.SL.Sem

theorem inf_eq : Ideal.ofBits .f32 0x7F800000#32 = ⊤ := by simp [Ideal.ofBits, Ideal.ieee]

/-- A value of which the absolute value lies below infinity is a real. -/
theorem real_of_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

open Cert.Pre_finite Cert.Pre_finite.Gen in
theorem finite_of_pre (x : FVec Ideal S2048x5632 .f32) (d : FVec Ideal S2048x2816 .bf16) (w : FVec Ideal S3x5632 .f32)
    (s t : FVec Ideal S4x8x2816 .f32) (h : Cert.Pre_finite.fn (F := Ideal) x d w s t = fun _ => 1#1) :
    Finite x ∧ Finite d ∧ Finite w := by
  have h0 := congrFun h (fun a => a.elim0)
  unfold Cert.Pre_finite.fn at h0
  obtain ⟨h1, h2⟩ := IntOp.andi_eq_one.1 h0
  obtain ⟨h3, h4⟩ := IntOp.andi_eq_one.1 h1
  haveI : Subsingleton S_.Idx := ⟨fun a b => funext fun i => i.elim0⟩
  refine ⟨fun i => real_of_lt _ ?_, fun i => real_of_lt _ ?_, fun i => real_of_lt _ ?_⟩
  · rw [← inf_eq]; exact Host.reduce_andi_all _ _ _ _ _ h3 i
  · rw [← inf_eq]; exact Host.reduce_andi_all _ _ _ _ _ h4 i
  · rw [← inf_eq]; exact Host.reduce_andi_all _ _ _ _ _ h2 i

end Cert.Proof.Plain
-- ==== Proof.Norm.lean ====
module

public import Idealize.ShloMosaic.Lib.Pointwise

@[expose] public section

noncomputable section

/-! # The reciprocal root mean square of a row of 1024 values -/

namespace Cert.Proof

open Idealize.ShloMosaic

/-- The row's reciprocal root mean square, with the small constant added under the root. -/
def rowScale (x : Fin 1024 → EReal) : EReal :=
  Ideal.rsqrt (Ideal.div (∑ k, x k * x k) (Ideal.ofBits .f32 0x44800000#32) + Ideal.ofBits .f32 0x358637BD#32)

/-- An entry of the normalised row. -/
def rowNorm (x g : Fin 1024 → EReal) (k : Fin 1024) : EReal := x k * rowScale x * g k

end Cert.Proof
-- ==== Proof.Back.lean ====
module

public import proofs.«01_k».proof.Proof.Norm

@[expose] public section

noncomputable section

/-! # The gradient of the root mean square norm of a row, in the two forms the programs compute -/

namespace Cert.Proof

open Idealize.ShloMosaic Idealize.SL.Sem

theorem width_eq : Ideal.ofBits .f32 0x44800000#32 = ((1024 : ℝ) : EReal) := by
  simp [Ideal.ofBits, Ideal.ieee]
  rw [← EReal.coe_mul]
  norm_num

theorem minus_half_eq : Ideal.ofBits .f32 0xBF000000#32 = ((-(1 / 2) : ℝ) : EReal) := by
  simp [Ideal.ofBits, Ideal.ieee]
  rw [← EReal.coe_mul]
  norm_num

theorem small_eq : ∃ e : ℝ, 0 < e ∧ Ideal.ofBits .f32 0x358637BD#32 = (e : EReal) := by
  refine ⟨_, ?_, by simp [Ideal.ofBits, Ideal.ieee]; rw [← EReal.coe_mul]⟩
  norm_num

theorem sum_real {n : ℕ} (f : Fin n → ℝ) : ∑ k, (f k : EReal) = ((∑ k, f k : ℝ) : EReal) := by
  induction n with
  | zero => simp
  | succ n ih => rw [Fin.sum_univ_castSucc, Fin.sum_univ_castSucc, ih, EReal.coe_add]

/-- The row's mean square with the small constant added. -/
def meanSq (x : Fin 1024 → EReal) : EReal :=
  Ideal.div (∑ k, x k * x k) (Ideal.ofBits .f32 0x44800000#32) + Ideal.ofBits .f32 0x358637BD#32

/-- The gradient of the norm at an entry: the scale times the scaled cotangent less its part along the row. -/
def backOne (h g x : Fin 1024 → EReal) (k : Fin 1024) : EReal :=
  rowScale x * (h k * g k - x k * (rowScale x * rowScale x)
    * Ideal.div (∑ l, h l * g l * x l) (Ideal.ofBits .f32 0x44800000#32))

theorem backOne_congr {h h' g g' x x' : Fin 1024 → EReal} {k k' : Fin 1024} (hh : h = h') (hg : g = g') (hx : x = x')
    (hk : k = k') : backOne h g x k = backOne h' g' x' k' := by
  subst hh hg hx hk
  rfl

/-- What flows back through the mean square, per entry of the row. -/
def backMean (h g x : Fin 1024 → EReal) : EReal :=
  Ideal.div ((∑ l, x l * (h l * g l)) * (Ideal.ofBits .f32 0xBF000000#32 * Ideal.div (rowScale x) (meanSq x)))
    (Ideal.ofBits .f32 0x44800000#32)

/-- The gradient of the norm at an entry, by the chain rule through the scale and the mean square. -/
def backTwo (h g x : Fin 1024 → EReal) (k : Fin 1024) : EReal :=
  h k * g k * rowScale x + x k * backMean h g x + backMean h g x * x k

theorem self_nonneg (v : EReal) : 0 ≤ v * v := by
  induction v using EReal.rec with
  | bot => exact le_of_lt EReal.zero_lt_top
  | coe r => rw [← EReal.coe_mul]; exact EReal.coe_nonneg.2 (mul_self_nonneg r)
  | top => exact le_of_lt EReal.zero_lt_top

theorem meanSq_top (x : Fin 1024 → EReal) (k : Fin 1024) (hk : x k * x k = ⊤) : meanSq x = ⊤ := by
  have hs : ∑ k, x k * x k = ⊤ := top_le_iff.1 (hk ▸ Finset.single_le_sum (f := fun k => x k * x k)
    (fun l _ => self_nonneg (x l)) (Finset.mem_univ k))
  obtain ⟨e, he, hE⟩ := small_eq
  have hN : (1024 : ℝ) ≠ 0 := by norm_num
  rw [meanSq, hs, width_eq, hE, Ideal.div_coe hN, EReal.top_mul_coe_of_pos (by norm_num), EReal.top_add_coe]

/-- Twice a product with a real. -/
theorem mul_add_mul (D : EReal) (w : ℝ) : D * (w : EReal) + D * (w : EReal) = D * ((2 * w : ℝ) : EReal) := by
  rw [← two_nsmul, EReal.nsmul_eq_mul, EReal.coe_mul, mul_left_comm]
  rfl

/-- The two forms agree for all values: in a row with an infinite entry the scale is zero, else the scale is a positive real. -/
theorem back_eq (h g x : Fin 1024 → EReal) (k : Fin 1024) : backOne h g x k = backTwo h g x k := by
  have hN : (1024 : ℝ) ≠ 0 := by norm_num
  have h3 : ∑ l, x l * (h l * g l) = ∑ l, h l * g l * x l := Finset.sum_congr rfl fun k _ => mul_comm _ _
  by_cases hx : ∀ k, ∃ r : ℝ, x k = (r : EReal)
  · choose y hy using hx
    obtain ⟨e, he, hE⟩ := small_eq
    have h1 : ∑ k, x k * x k = ((∑ k, y k * y k : ℝ) : EReal) := by
      rw [← sum_real]; exact Finset.sum_congr rfl fun k _ => by rw [hy, EReal.coe_mul]
    have hs : (0 : ℝ) ≤ ∑ k, y k * y k := Finset.sum_nonneg fun k _ => mul_self_nonneg _
    generalize (∑ k, y k * y k : ℝ) = s at h1 hs
    have hm : meanSq x = ((s * (1 / 1024) + e : ℝ) : EReal) := by
      rw [meanSq, h1, width_eq, hE, Ideal.div_coe hN, EReal.coe_add, EReal.coe_mul]
    have hp : 0 < s * (1 / 1024) + e := by positivity
    generalize s * (1 / 1024) + e = q at hm hp
    have hr : rowScale x = (((√q)⁻¹ : ℝ) : EReal) := by
      show Ideal.rsqrt (meanSq x) = _
      rw [hm, Ideal.rsqrt_coe, if_neg (not_lt.2 hp.le), if_neg hp.ne']
    have hrr : (√q)⁻¹ * (√q)⁻¹ = 1 / q := by rw [← mul_inv, Real.mul_self_sqrt hp.le, one_div]
    have hr0 : (0 : ℝ) ≤ (√q)⁻¹ := inv_nonneg.2 (Real.sqrt_nonneg q)
    have hq : Ideal.div (rowScale x) (meanSq x) = (((√q)⁻¹ * (1 / q) : ℝ) : EReal) := by
      rw [hr, hm, Ideal.div_coe hp.ne', EReal.coe_mul]
    rw [backOne, backTwo, backMean, hq, h3, hr, minus_half_eq, width_eq, Ideal.div_coe hN, Ideal.div_coe hN, hy]
    generalize ∑ l, h l * g l * x l = D
    generalize h k * g k = a
    generalize y k = y
    generalize (√q)⁻¹ = r at hrr hr0
    have e1 : (y : EReal) * ((r : EReal) * (r : EReal)) * (D * ((1 / 1024 : ℝ) : EReal)) = D * ((y * (r * r) * (1 / 1024) : ℝ) : EReal) := by
      rw [mul_left_comm]
      simp only [EReal.coe_mul]
    have e2 : D * (((-(1 / 2) : ℝ) : EReal) * ((r * (1 / q) : ℝ) : EReal)) * ((1 / 1024 : ℝ) : EReal) * (y : EReal)
        = D * ((-(1 / 2) * (r * (1 / q)) * (1 / 1024) * y : ℝ) : EReal) := by
      simp only [EReal.coe_mul, mul_assoc]
    rw [e1, mul_comm (y : EReal), e2, add_assoc, mul_add_mul, sub_eq_add_neg,
      EReal.left_distrib_of_nonneg_of_ne_top (EReal.coe_nonneg.2 hr0) (EReal.coe_ne_top r), mul_comm a]
    congr 1
    rw [← mul_neg, ← EReal.coe_neg, mul_left_comm, ← EReal.coe_mul, ← hrr]
    congr 2
    ring
  · obtain ⟨l, hl⟩ := not_forall.1 hx
    have hk : x l * x l = ⊤ := by
      generalize x l = v at hl
      induction v using EReal.rec with
      | bot => rfl
      | coe r => exact absurd ⟨r, rfl⟩ hl
      | top => rfl
    have hr : rowScale x = 0 := by
      show Ideal.rsqrt (meanSq x) = 0
      rw [meanSq_top x l hk]
      rfl
    have hd : Ideal.div (0 : EReal) ⊤ = 0 := by simp [Ideal.div]
    rw [backOne, backTwo, backMean, hr, meanSq_top x l hk, hd, width_eq, mul_zero, mul_zero]
    simp only [Ideal.div_coe hN, zero_mul, mul_zero, add_zero]

end Cert.Proof
-- ==== Proof.Dh2.lean ====
module

public import proofs.«01_k».proof.Proof.Gen.KernelDh2Ideal.Value
public import proofs.«01_k».proof.Proof.Gen.ReferenceDh2Ideal.Run
public import proofs.«01_k».proof.Proof.Back
public import Idealize.ShloMosaic.Lib.Pipeline.ReadBack
public import Idealize.ShloMosaic.Lib.Pointwise
public import Idealize.ShloMosaic.Lib.Pipeline.ValueKit

@[expose] public section

set_option maxRecDepth 16384
set_option synthInstance.maxSize 4096

noncomputable section

/-! # The gradient of the channel mixer's input: the product of two pieces with `w_up` and the way back through the norm -/

namespace Cert.Proof.Dh2

open Idealize.ShloMosaic Idealize.SL.Sem

section Kernel

open Cert.KernelDh2Ideal Cert.KernelDh2Ideal.Gen

/-- The two pieces of the cotangent side by side. -/
def pieces (a b : FVec Ideal S2048x2816 .bf16) (p : Fin 2048) (j : Fin 5632) : EReal :=
  if h : j.val < 2816 then a (ix2 p ⟨j.val, h⟩) else b (ix2 p ⟨j.val - 2816, by omega⟩)

/-- The cotangent of the normalised rows: the cotangent of the projection times the weights. -/
def cot (a b : FVec Ideal S2048x2816 .bf16) (w : FVec Ideal S5632x1024 .bf16) (p : Fin 2048) (k : Fin 1024) : EReal :=
  ∑ j : Fin 5632, pieces a b p j * w (ix2 j k)

/-- The first result: what comes in plus the gradient of the norm. -/
def dx (a b : FVec Ideal S2048x2816 .bf16) (w : FVec Ideal S5632x1024 .bf16) (x : FVec Ideal S2048x1024 .f32)
    (g : FVec Ideal S1x1024 .f32) (r : FVec Ideal S2048x1024 .f32) : FVec Ideal S2048x1024 .f32 :=
  fun i => r i + backOne (cot a b w (i 0)) (fun l => g (ix2 0 l)) (fun l => x (ix2 (i 0) l)) (i 1)

/-- A row's term of the gradient of the norm's weights. -/
def term (a b : FVec Ideal S2048x2816 .bf16) (w : FVec Ideal S5632x1024 .bf16) (x : FVec Ideal S2048x1024 .f32)
    (k : Fin 1024) (p : Fin 2048) : EReal :=
  cot a b w p k * x (ix2 p k) * rowScale (fun l => x (ix2 p l))

/-- The gradient of the norm's weights. -/
def dgRow (a b : FVec Ideal S2048x2816 .bf16) (w : FVec Ideal S5632x1024 .bf16) (x : FVec Ideal S2048x1024 .f32)
    (k : Fin 1024) : EReal :=
  ∑ p : Fin 2048, term a b w x k p

/-- The second result: the first layer of the stack is the gradient of the norm's weights, the others stay. -/
def dgs (a b : FVec Ideal S2048x2816 .bf16) (w : FVec Ideal S5632x1024 .bf16) (x : FVec Ideal S2048x1024 .f32)
    (s : FVec Ideal S4x1x1024 .f32) : FVec Ideal S4x1x1024 .f32 :=
  fun i => if (i 0 : ℕ) = 0 then dgRow a b w x (i 2) else s i

theorem zero_at (i : S1x1x1024.Idx) : k0_pay1 (F := Ideal) i = 0 := by
  pointwise [k0_pay1]

theorem pay_cot (d e : FVec Ideal S512x2816 .bf16) (w v : FVec Ideal S2816x1024 .bf16) (i : S512x1024.Idx) :
    k0_pay3 (F := Ideal) d w e v i
      = ∑ j : Fin 2816, d (ix2 (i 0) j) * w (ix2 j (i 1)) + ∑ j : Fin 2816, e (ix2 (i 0) j) * v (ix2 j (i 1)) := by
  pointwise [k0_pay3]

theorem pay_scale (x : FVec Ideal S512x1024 .f32) (i : S512x1.Idx) :
    k0_pay4 (F := Ideal) x i = rowScale (fun l => x (ix2 (i 0) l)) := by
  pointwise [k0_pay4]
  rfl

theorem pay_dx (d : FVec Ideal S512x2816 .bf16) (w : FVec Ideal S2816x1024 .bf16) (e : FVec Ideal S512x2816 .bf16) (v : FVec Ideal S2816x1024 .bf16) (x r : FVec Ideal S512x1024 .f32)
    (g : FVec Ideal S1x1024 .f32) (i : S512x1024.Idx) :
    k0_pay5 (F := Ideal) d w e v x r g i = r i + backOne (fun k => k0_pay3 (F := Ideal) d w e v (ix2 (i 0) k)) (fun l => g (ix2 0 l))
      (fun l => x (ix2 (i 0) l)) (i 1) := by
  pointwise [k0_pay5]
  simp only [backOne, pay_scale, ix2_eta]
  rfl

theorem pay_acc (h x : FVec Ideal S512x1024 .f32) (s : FVec Ideal S512x1 .f32) (a : FVec Ideal S1x1x1024 .f32) (i : S1x1x1024.Idx) :
    k0_pay2 (F := Ideal) h x s a i = a i + ∑ p : Fin 512, h (ix2 p (i 2)) * x (ix2 p (i 2)) * s (ix2 p 0) := by
  pointwise [k0_pay2]

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![0, 0, 0] ∧ t.val < 4 :=
  (by decide +kernel : ∀ t : Fin grid0.N, _)

variable (m : (ℓ : Loc nD τ sig) → Buf (Elt Ideal) ℓ) (c : Dev nD)

def argA : FVec Ideal S2048x2816 .bf16 := m ((c.tc : Thread nD τ).loc main_arg0)
def argB : FVec Ideal S2048x2816 .bf16 := m ((c.tc : Thread nD τ).loc main_arg1)
def argW : FVec Ideal S5632x1024 .bf16 := m ((c.tc : Thread nD τ).loc main_arg2)
def argX : FVec Ideal S2048x1024 .f32 := m ((c.tc : Thread nD τ).loc main_arg3)
def argG : FVec Ideal S1x1024 .f32 := m ((c.tc : Thread nD τ).loc main_arg4)
def argR : FVec Ideal S2048x1024 .f32 := m ((c.tc : Thread nD τ).loc main_arg5)

theorem cot_split (a b : FVec Ideal S2048x2816 .bf16) (w : FVec Ideal S5632x1024 .bf16) (p : Fin 2048) (k : Fin 1024) :
    cot a b w p k = ∑ j : Fin 2816, a (ix2 p j) * w (ix2 ⟨j.val, by omega⟩ k)
      + ∑ j : Fin 2816, b (ix2 p j) * w (ix2 ⟨2816 + j.val, by omega⟩ k) := by
  refine (Fin.sum_univ_add (a := 2816) (b := 2816) (fun j : Fin 5632 => pieces a b p j * w (ix2 j k))).trans ?_
  refine congr (congrArg _ (Finset.sum_congr rfl fun j _ => congrArg (· * _) ?_)) (Finset.sum_congr rfl fun j _ => congrArg (· * _) ?_)
  · exact dif_pos j.isLt
  · refine (dif_neg (Nat.not_lt.2 (Nat.le_add_right 2816 j.val))).trans (congrArg b ?_)
    exact congrArg (ix2 p) (Fin.ext (Nat.add_sub_cancel_left 2816 j.val))

theorem cot_at (t : Fin cfg0.N) (j : S512x1024.Idx) (p : Fin 2048) (hp : (p : ℕ) = t.val * 512 + (j 0 : ℕ)) :
    k0_pay3 (F := Ideal) (iblk m c 0 t) (View.ld (iblk m c 2 t) (Rect.unit ![0, 0] ![2816, 1024] inb_S5632x1024_S2816x1024_0_0)) (iblk m c 1 t)
      (View.ld (iblk m c 2 t) (Rect.unit ![2816, 0] ![2816, 1024] inb_S5632x1024_S2816x1024_2816_0)) j = cot (argA m c) (argB m c) (argW m c) p (j 1) := by
  refine (pay_cot _ _ _ _ j).trans (Eq.trans ?_ (cot_split _ _ _ p (j 1)).symm)
  unfold argA argB argW
  refine congr (congrArg _ (Finset.sum_congr rfl fun k _ => ?_)) (Finset.sum_congr rfl fun k _ => ?_)
  · blk_point [iblk, V, idx t]
  · blk_point [iblk, V, idx t]

theorem rowX (t : Fin cfg0.N) (q : Fin 512) (p : Fin 2048) (hp : (p : ℕ) = t.val * 512 + (q : ℕ)) (l : Fin 1024) :
    (show FVec Ideal S512x1024 .f32 from iblk m c 3 t) (ix2 q l) = argX m c (ix2 p l) := by
  unfold argX
  blk_ext [iblk, V, idx t]

theorem rowG (t : Fin cfg0.N) (l : Fin 1024) :
    (show FVec Ideal S1x1024 .f32 from iblk m c 4 t) (ix2 0 l) = argG m c (ix2 0 l) := by
  unfold argG
  blk_ext [iblk, V, idx t]

/-- A tile's rows of the first result. -/
theorem point (t : Fin cfg0.N) (y : S512x1024.Idx) (i : S2048x1024.Idx) (h0 : (i 0 : ℕ) = t.val * 512 + (y 0 : ℕ))
    (h1 : (i 1 : ℕ) = (y 1 : ℕ)) :
    k0_pay5 (F := Ideal) (iblk m c 0 t) (View.ld (iblk m c 2 t) (Rect.unit ![0, 0] ![2816, 1024] inb_S5632x1024_S2816x1024_0_0)) (iblk m c 1 t) (View.ld (iblk m c 2 t) (Rect.unit ![2816, 0] ![2816, 1024] inb_S5632x1024_S2816x1024_2816_0)) (iblk m c 3 t) (iblk m c 5 t) (iblk m c 4 t) y
      = dx (argA m c) (argB m c) (argW m c) (argX m c) (argG m c) (argR m c) i := by
  have hr : (show FVec Ideal S512x1024 .f32 from iblk m c 5 t) y = argR m c i := by
    unfold argR
    blk_ext [iblk, V, idx t]
  have hx : (fun l : Fin 1024 => (show FVec Ideal S512x1024 .f32 from iblk m c 3 t) (ix2 (y 0) l)) = fun l => argX m c (ix2 (i 0) l) :=
    funext (rowX m c t (y 0) (i 0) h0)
  have hg : (fun l : Fin 1024 => (show FVec Ideal S1x1024 .f32 from iblk m c 4 t) (ix2 0 l)) = fun l => argG m c (ix2 0 l) :=
    funext (rowG m c t)
  have hc : (fun k : Fin 1024 => k0_pay3 (F := Ideal) (iblk m c 0 t) (View.ld (iblk m c 2 t) (Rect.unit ![0, 0] ![2816, 1024] inb_S5632x1024_S2816x1024_0_0)) (iblk m c 1 t) (View.ld (iblk m c 2 t) (Rect.unit ![2816, 0] ![2816, 1024] inb_S5632x1024_S2816x1024_2816_0)) (ix2 (y 0) k)) = cot (argA m c) (argB m c) (argW m c) (i 0) :=
    funext fun k => cot_at m c t (ix2 (y 0) k) (i 0) h0
  have hy : y 1 = i 1 := Fin.ext h1.symm
  refine (pay_dx _ _ _ _ _ _ _ y).trans ?_
  exact congr (congrArg _ hr) (backOne_congr hc hg hx hy)

theorem final_dx : (dats m 0 c).arrAt 6 cfg0.N = dx (argA m c) (argB m c) (argW m c) (argX m c) (argG m c) (argR m c) := by
  refine (dats m 0 c).arrAt_eq_of_covers 6 _ (by decide +kernel) fun t hf y => ?_
  have e0 : ((win0_6.blk t).view.emb y 0 : ℕ) = t.val * 512 + (y 0 : ℕ) := by blk_simp [idx t]
  have e1 : ((win0_6.blk t).view.emb y 1 : ℕ) = (y 1 : ℕ) := by blk_simp [idx t]
  blk_simp
  rw [after0_6]
  by_cases h0 : t.val % 4 = 0
  · rw [outsAt0_A m c t h0]
    frame_out
    exact point m c t y _ e0 e1
  · rw [outsAt0_B m c t h0]
    frame_out
    exact point m c t y _ e0 e1

/-- A tile's term of the second result. -/
def part (t : Fin cfg0.N) (i : S1x1x1024.Idx) : EReal :=
  ∑ q : Fin 512, term (argA m c) (argB m c) (argW m c) (argX m c) (i 2) ⟨t.val * 512 + q.val, by have := (idx t).2.2.2.2.2.2.2.2; omega⟩

theorem step_acc (t : Fin cfg0.N) (a : FVec Ideal S1x1x1024 .f32) (i : S1x1x1024.Idx) :
    k0_pay2 (F := Ideal) (k0_pay3 (iblk m c 0 t) (View.ld (iblk m c 2 t) (Rect.unit ![0, 0] ![2816, 1024] inb_S5632x1024_S2816x1024_0_0)) (iblk m c 1 t) (View.ld (iblk m c 2 t) (Rect.unit ![2816, 0] ![2816, 1024] inb_S5632x1024_S2816x1024_2816_0))) (iblk m c 3 t) (k0_pay4 (iblk m c 3 t)) a i = a i + part m c t i := by
  refine (pay_acc _ _ _ _ i).trans (congrArg (a i + ·) (Finset.sum_congr rfl fun q _ => ?_))
  have hb : t.val * 512 + q.val < 2048 := by have := (idx t).2.2.2.2.2.2.2.2; omega
  have hx := rowX m c t q ⟨t.val * 512 + q.val, hb⟩ rfl
  have hs : k0_pay4 (F := Ideal) (iblk m c 3 t) (ix2 q 0) = rowScale (fun l => argX m c (ix2 ⟨t.val * 512 + q.val, hb⟩ l)) :=
    (pay_scale _ _).trans (congrArg rowScale (funext hx))
  exact congr (congrArg _ (congr (congrArg _ (cot_at m c t (ix2 q (i 2)) ⟨t.val * 512 + q.val, hb⟩ rfl)) (hx (i 2)))) hs

theorem acc_last (t : Fin cfg0.N) (ht : t.val + 1 = cfg0.N) (i : S1x1x1024.Idx) :
    (outsAt0 m c t.val t.isLt).2 i = dgRow (argA m c) (argB m c) (argW m c) (argX m c) (i 2) := by
  refine (Pipeline.eq_sum_fin_of_reset_step_apply_last (fun n h => (outsAt0 m c n h).2) 4 (fun _ => 0) (part m c)
    (fun t h i => ?_) (fun t h i => ?_) (le_of_eq N_0) t ht i).trans ?_
  · rw [outsAt0_A m c t h]
    frame_out
    exact (step_acc m c t _ i).trans (congrArg (· + part m c t i) (zero_at i))
  · rw [outsAt0_B m c t h]
    frame_out
    exact step_acc m c t _ i
  · rw [zero_add]
    exact Fin.sum_mul_add_congr fun s k hl => rfl

theorem final_dg : (dats m 0 c).arrAt 7 cfg0.N = dgs (argA m c) (argB m c) (argW m c) (argX m c) (m ((c.tc : Thread nD τ).loc main_arg6)) := by
  refine ((dats m 0 c).arrAt_eq_of_coversWhere 7 (P := fun i : S4x1x1024.Idx => (i 0 : ℕ) = 0)
    (fun i : S4x1x1024.Idx => dgRow (argA m c) (argB m c) (argW m c) (argX m c) (i 2)) (fun β => β (0 : Fin 3) = 0)
    (by decide +kernel) (fun t hf y => ?_) (fun j => by blk_simp [Pipeline.Window.cell_apply]; omega)).trans ?_
  · have e2 : (win0_7.blk t).view.emb y 2 = y 2 := Fin.ext (by blk_simp [idx t])
    have ht : t.val + 1 = cfg0.N := by
      have h1 := (flush0_7 t).mp hf
      have h2 : cfg0.N = 4 := N_0
      have h3 := t.isLt
      omega
    blk_simp
    rw [after0_7, acc_last m c t ht]
    exact congrArg _ e2.symm
  · rw [A_eq]
    rfl

end Kernel

section Reference

open Cert.ReferenceDh2Ideal Cert.ReferenceDh2Ideal.Gen Cert.ReferenceDh2Ideal.Value

/-- The cotangent of the normalised rows. -/
def rCot (a b : FVec Ideal S2048x2816 .bf16) (w : FVec Ideal S5632x1024 .bf16) : FVec Ideal S2048x1024 .f32 :=
  Host.dotGeneral dot_S2048x5632_S1024x5632_S2048x1024_1_1_0_0_n_n none (extf .f32 (concatenate S2048x5632 1 [⟨S2048x2816, a⟩, ⟨S2048x2816, b⟩] concatenates_S2048x2816_S2048x2816_S2048x5632_d1) bitsLt_bf16_f32) (transpose S1024x5632 [1, 0] (extf .f32 w bitsLt_bf16_f32) transposes_S5632x1024_S1024x5632_1_0)

theorem rCot_at (a b : FVec Ideal S2048x2816 .bf16) (w : FVec Ideal S5632x1024 .bf16) (i : S2048x1024.Idx) :
    rCot a b w i = cot a b w (i 0) (i 1) := by
  pointwise [rCot]
  exact (cot_split a b w (i 0) (i 1)).symm

/-- The mean squares of the rows with the small constant added. -/
def rMs (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

theorem rMs_at (x : FVec Ideal S2048x1024 .f32) (i : S2048x1.Idx) : rMs x i = meanSq (fun l => x (ix2 (i 0) l)) := by
  pointwise [rMs]
  rfl

/-- What flows back through the mean squares. -/
def rMean (h : FVec Ideal S2048x1024 .f32) (x : FVec Ideal S2048x1024 .f32) (g : FVec Ideal S1x1024 .f32) : FVec Ideal S2048x1024 .f32 :=
  broadcastInDim S2048x1024 ![0] bcast_S2048_S2048x1024_0 (Host.reduceAdd (Host.divf (mulf (shapeCast S2048x1 (Host.reduceAdd (mulf x (mulf h (broadcastInDim S2048x1024 ![0, 1] bcast_S1x1024_S2048x1024_0_1 g))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (rMs x)) (rMs x)))) (broadcastInDim S2048x1 ![] bcast_S_S2048x1 (constant S_ .f32 0x44800000#32))) (constant S_ .f32 0x00000000#32) reducesTo_S2048x1_S2048_d1 h_S_)

theorem rMean_at (h x : FVec Ideal S2048x1024 .f32) (g : FVec Ideal S1x1024 .f32) (i : S2048x1024.Idx) :
    rMean h x g i = backMean (fun l => h (ix2 (i 0) l)) (fun l => g (ix2 0 l)) (fun l => x (ix2 (i 0) l)) := by
  pointwise [rMean]
  simp only [rMs_at, backMean]
  exact (Fin.sum_univ_one _).trans rfl

/-- The reference's first result. -/
def rDx (h x : FVec Ideal S2048x1024 .f32) (g : FVec Ideal S1x1024 .f32) (r : FVec Ideal S2048x1024 .f32) : FVec Ideal S2048x1024 .f32 :=
  addf r (addf (addf (mulf (mulf h (broadcastInDim S2048x1024 ![0, 1] bcast_S1x1024_S2048x1024_0_1 g)) (broadcastInDim S2048x1024 ![0, 1] bcast_S2048x1_S2048x1024_0_1 (Host.rsqrt (rMs x)))) (mulf x (rMean h x g))) (mulf (rMean h x g) x))

theorem rDx_at (h x r : FVec Ideal S2048x1024 .f32) (g : FVec Ideal S1x1024 .f32) (i : S2048x1024.Idx) :
    rDx h x g r i = r i + backTwo (fun l => h (ix2 (i 0) l)) (fun l => g (ix2 0 l)) (fun l => x (ix2 (i 0) l)) (i 1) := by
  pointwise [rDx]
  simp only [rMs_at, rMean_at, backTwo, ix2_eta]
  rfl

/-- The reference's second result. -/
def rDg (h x : FVec Ideal S2048x1024 .f32) (s : FVec Ideal S4x1x1024 .f32) : FVec Ideal S4x1x1024 .f32 :=
  concatenate S4x1x1024 0 [⟨S1x1x1024, (broadcastInDim S1x1x1024 ![1, 2] bcast_S1x1024_S1x1x1024_1_2 (shapeCast S1x1024 (Host.reduceAdd (mulf (mulf x (broadcastInDim S2048x1024 ![0, 1] bcast_S2048x1_S2048x1024_0_1 (Host.rsqrt (rMs x)))) h) (constant S_ .f32 0x00000000#32) reducesTo_S2048x1024_S1024_d0 h_S_) shapeCasts_S1024_S1x1024))⟩, ⟨S3x1x1024, (extractStridedSlice S3x1x1024 ![1, 0, 0] s slices_S4x1x1024_S3x1x1024_1_0_0)⟩] concatenates_S1x1x1024_S3x1x1024_S4x1x1024_d0

theorem ref_dg (a b : FVec Ideal S2048x2816 .bf16) (w : FVec Ideal S5632x1024 .bf16) (x : FVec Ideal S2048x1024 .f32)
    (s : FVec Ideal S4x1x1024 .f32) : rDg (rCot a b w) x s = dgs a b w x s := by
  funext i
  pointwise [rDg]
  simp only [rMs_at, rCot_at, dgs, dgRow, term]
  by_cases h : (i 0 : ℕ) = 0
  · rw [dif_pos (by omega), if_pos h]
    refine Finset.sum_congr rfl fun p _ => ?_
    exact (mul_comm _ _).trans (mul_assoc _ _ _).symm
  · rw [dif_neg (by omega), if_neg h]
    blk_ext

theorem ref_dx (a b : FVec Ideal S2048x2816 .bf16) (w : FVec Ideal S5632x1024 .bf16) (x : FVec Ideal S2048x1024 .f32)
    (g : FVec Ideal S1x1024 .f32) (r : FVec Ideal S2048x1024 .f32) :
    rDx (rCot a b w) x g r = dx a b w x g r := by
  funext i
  rw [rDx_at]
  refine congrArg (r i + ·) ?_
  refine Eq.trans ?_ (back_eq _ _ _ (i 1)).symm
  simp only [rCot_at]
  rfl

/-- The two results of the reference as its run states them. -/
theorem res_dx (m : (ℓ : Loc nD τ sig) → Buf (Elt Ideal) ℓ) (c : Dev nD) : res_out0 m c
    = rDx (rCot (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) := by
  rfl

end Reference

end Cert.Proof.Dh2
-- ==== Proof.Dwup.lean ====
module

public import proofs.«01_k».proof.Proof.Gen.KernelDwupIdeal.Frame
public import proofs.«01_k».proof.Proof.Gen.ReferenceDwupIdeal.Run
public import proofs.«01_k».proof.Proof.Norm
public import Idealize.ShloMosaic.Lib.Pipeline.ReadBack
public import Idealize.ShloMosaic.Lib.Pointwise
public import Idealize.ShloMosaic.Lib.Pipeline.ValueKit

@[expose] public section

set_option maxRecDepth 16384
set_option synthInstance.maxSize 4096

noncomputable section

/-! # The gradient of `w_up`: the transpose of the two pieces of the cotangent times the normalised rows -/

namespace Cert.Proof.Dwup

open Idealize.ShloMosaic Idealize.SL.Sem

section Kernel

open Cert.KernelDwupIdeal Cert.KernelDwupIdeal.Gen

theorem fill (x : FVec Ideal S2048x1024 .f32) (g : FVec Ideal S1x1024 .f32) (i : S2048x1024.Idx) :
    k0_pay1 (F := Ideal) x g i = rowNorm (fun l => x (ix2 (i 0) l)) (fun l => g (ix2 0 l)) (i 1) := by
  pointwise [k0_pay1]
  simp only [rowNorm, rowScale, ix2_eta]

theorem pay (a : FVec Ideal S2048x1408 .bf16) (h : FVec Ideal S2048x1024 .bf16) (i : S1408x1024.Idx) :
    k0_pay2 (F := Ideal) a h i = ∑ k : Fin 2048, a (ix2 k (i 0)) * h (ix2 k (i 1)) := by
  pointwise [k0_pay2]

theorem pay' (a : FVec Ideal S2048x1408 .bf16) (h : FVec Ideal S2048x1024 .bf16) (i : S1408x1024.Idx) :
    k0_pay3 (F := Ideal) a h i = ∑ k : Fin 2048, a (ix2 k (i 0)) * h (ix2 k (i 1)) := by
  pointwise [k0_pay3]

/-- The two pieces of the cotangent side by side. -/
def pieces (a b : FVec Ideal S2048x2816 .bf16) (k : Fin 2048) (p : Fin 5632) : EReal :=
  if h : p.val < 2816 then a (ix2 k ⟨p.val, h⟩) else b (ix2 k ⟨p.val - 2816, by omega⟩)

/-- What both programs compute: the transpose of the cotangent times the normalised rows. -/
def prod (a b : FVec Ideal S2048x2816 .bf16) (x : FVec Ideal S2048x1024 .f32) (g : FVec Ideal S1x1024 .f32) :
    FVec Ideal S5632x1024 .bf16 :=
  fun i => ∑ k : Fin 2048, pieces a b k (i 0) * rowNorm (fun l => x (ix2 k l)) (fun l => g (ix2 0 l)) (i 1)

theorem idx : ∀ t : Fin cfg0.N, win0_0.index t = ![0, min t.val 1] ∧ win0_1.index t = ![0, t.val - 2] ∧ win0_2.index t = ![0, 0]
    ∧ win0_3.index t = ![0, 0] ∧ win0_4.index t = ![t.val, 0] ∧ t.val < 4 :=
  (by decide +kernel : ∀ t : Fin grid0.N, _)

variable (m : (ℓ : Loc nD τ sig) → Buf (Elt Ideal) ℓ) (c : Dev nD)

def argX : FVec Ideal S2048x1024 .f32 := m ((c.tc : Thread nD τ).loc main_arg2)
def argG : FVec Ideal S1x1024 .f32 := m ((c.tc : Thread nD τ).loc main_arg3)

theorem filled (t : Fin cfg0.N) (j : S2048x1024.Idx) :
    k0_pay1 (F := Ideal) (iblk m c 2 t) (iblk m c 3 t) j
      = rowNorm (fun l => argX m c (ix2 (j 0) l)) (fun l => argG m c (ix2 0 l)) (j 1) := by
  have e0 : ∀ l : Fin 1024, (show FVec Ideal S2048x1024 .f32 from iblk m c 2 t) (ix2 (j 0) l) = argX m c (ix2 (j 0) l) := fun l => by
    unfold argX
    blk_ext [iblk, V, idx t]
  have e1 : ∀ l : Fin 1024, (show FVec Ideal S1x1024 .f32 from iblk m c 3 t) (ix2 0 l) = argG m c (ix2 0 l) := fun l => by
    unfold argG
    blk_ext [iblk, V, idx t]
  refine (fill _ _ j).trans ?_
  rw [show (fun l : Fin 1024 => (show FVec Ideal S2048x1024 .f32 from iblk m c 2 t) (ix2 (j 0) l)) = _ from funext e0,
    show (fun l : Fin 1024 => (show FVec Ideal S1x1024 .f32 from iblk m c 3 t) (ix2 0 l)) = _ from funext e1]

/-- What the scratch buffer holds from the first point on: the normalised rows. -/
theorem scratch_at : ∀ (n : ℕ) (h : n < cfg0.N) (j : S2048x1024.Idx),
    (outsAt0 m c n h).2 j = rowNorm (fun l => argX m c (ix2 (j 0) l)) (fun l => argG m c (ix2 0 l)) (j 1) := by
  intro n
  induction n with
  | zero =>
    intro h j
    rw [outsAt0_A m c ⟨0, h⟩ rfl (by dsimp only; omega) (by dsimp only; omega)]
    frame_out
    exact filled m c ⟨0, h⟩ j
  | succ n ih =>
    intro h j
    have hlt : n + 1 < 4 := (idx ⟨n + 1, h⟩).2.2.2.2.2
    have same : ∀ (q : ℕ) (hq : q < cfg0.N), q = n →
        (outsAt0 m c q hq).2 j = rowNorm (fun l => argX m c (ix2 (j 0) l)) (fun l => argG m c (ix2 0 l)) (j 1) := by
      rintro q hq rfl
      exact ih hq j
    by_cases h1 : n + 1 < 2
    · rw [outsAt0_B m c ⟨n + 1, h⟩ (by dsimp only; omega) h1 (by dsimp only; omega)]
      frame_out
      exact same _ _ (Nat.add_sub_cancel n 1)
    · rw [outsAt0_C m c ⟨n + 1, h⟩ (by dsimp only; omega) h1 (by dsimp only; omega)]
      frame_out
      exact same _ _ (Nat.add_sub_cancel n 1)

theorem point (t : Fin cfg0.N) (h1 : t.val < 2) (h : FVec Ideal S2048x1024 .bf16)
    (hh : ∀ j : S2048x1024.Idx, h j = rowNorm (fun l => argX m c (ix2 (j 0) l)) (fun l => argG m c (ix2 0 l)) (j 1))
    (y : S1408x1024.Idx) (i : S5632x1024.Idx) (e0 : (i 0 : ℕ) = t.val * 1408 + (y 0 : ℕ)) (e1 : (i 1 : ℕ) = (y 1 : ℕ)) :
    k0_pay2 (F := Ideal) (iblk m c 0 t) h y
      = prod (m ((c.tc : Thread nD τ).loc main_arg0)) (m ((c.tc : Thread nD τ).loc main_arg1)) (argX m c) (argG m c) i := by
  rw [pay]
  unfold prod
  have hy : (y 0 : ℕ) < 1408 := (y 0).isLt
  have hi : (i 0 : ℕ) < 2816 := by omega
  have e2 : y 1 = i 1 := Fin.ext e1.symm
  have hm : min t.val 1 = t.val := by omega
  refine Finset.sum_congr rfl fun k _ => congr (congrArg _ ?_) ((hh (ix2 k (y 1))).trans ?_)
  · refine Eq.trans ?_ (dif_pos hi).symm
    blk_ext [iblk, V, idx t, hm]
  · exact congrArg (rowNorm (fun l => argX m c (ix2 k l)) (fun l => argG m c (ix2 0 l))) e2

theorem point' (t : Fin cfg0.N) (h1 : 2 ≤ t.val) (h : FVec Ideal S2048x1024 .bf16)
    (hh : ∀ j : S2048x1024.Idx, h j = rowNorm (fun l => argX m c (ix2 (j 0) l)) (fun l => argG m c (ix2 0 l)) (j 1))
    (y : S1408x1024.Idx) (i : S5632x1024.Idx) (e0 : (i 0 : ℕ) = t.val * 1408 + (y 0 : ℕ)) (e1 : (i 1 : ℕ) = (y 1 : ℕ)) :
    k0_pay3 (F := Ideal) (iblk m c 1 t) h y
      = prod (m ((c.tc : Thread nD τ).loc main_arg0)) (m ((c.tc : Thread nD τ).loc main_arg1)) (argX m c) (argG m c) i := by
  rw [pay']
  unfold prod
  have hi : ¬(i 0 : ℕ) < 2816 := by omega
  have e2 : y 1 = i 1 := Fin.ext e1.symm
  refine Finset.sum_congr rfl fun k _ => congr (congrArg _ ?_) ((hh (ix2 k (y 1))).trans ?_)
  · refine Eq.trans ?_ (dif_neg hi).symm
    blk_ext [iblk, V, idx t]
  · exact congrArg (rowNorm (fun l => argX m c (ix2 k l)) (fun l => argG m c (ix2 0 l))) e2

theorem final : (dats m 0 c).arrAt 4 cfg0.N
    = prod (m ((c.tc : Thread nD τ).loc main_arg0)) (m ((c.tc : Thread nD τ).loc main_arg1)) (argX m c) (argG m c) := by
  refine (dats m 0 c).arrAt_eq_of_covers 4 _ (by decide +kernel) fun t hf y => ?_
  have e0 : ((win0_4.blk t).view.emb y 0 : ℕ) = t.val * 1408 + (y 0 : ℕ) := by blk_simp [idx t]
  have e1 : ((win0_4.blk t).view.emb y 1 : ℕ) = (y 1 : ℕ) := by blk_simp [idx t]
  have hlt : t.val < 4 := (idx t).2.2.2.2.2
  blk_simp
  rw [after0_4]
  by_cases h1 : t.val < 2
  · by_cases h0 : t.val % 4 = 0
    · rw [outsAt0_A m c t h0 h1 (by omega)]
      frame_out
      exact point m c t h1 _ (filled m c t) y _ e0 e1
    · rw [outsAt0_B m c t h0 h1 (by omega)]
      frame_out
      rw [read_unread_whole]
      exact point m c t h1 _ (fun j => scratch_at m c (t.val - 1) _ j) y _ e0 e1
  · rw [outsAt0_C m c t (by omega) h1 (by omega)]
    frame_out
    rw [read_unread_whole]
    exact point' m c t (by omega) _ (fun j => scratch_at m c (t.val - 1) _ j) y _ e0 e1

/-- The run of the kernel with its result named. -/
theorem run (ρ : Dev nD → PrngReg) : θ_run defs (onTc (τ := τ) (main (F := Ideal))) ⟨m, fun _ => 0, ρ⟩ fun r => ∀ c : Dev nD,
    r.2.mem ((c.tc : Thread nD τ).loc main_v0) = (dats m 0 c).arrAt 4 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨(h c).1 4, ?_, ?_, ?_, ?_⟩) (run_main m ρ)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))
  · exact ((h c).1 3).trans (((dats m 0 c).arrAt_in 3 rfl _).trans ((A_eq m c 3).trans (V_main_arg3 m c)))

end Kernel

section Reference

open Cert.ReferenceDwupIdeal Cert.ReferenceDwupIdeal.Gen

theorem ref (a b : FVec Ideal S2048x2816 .bf16) (x : FVec Ideal S2048x1024 .f32) (g : FVec Ideal S1x1024 .f32) :
    truncf .bf16 (transpose S5632x1024 [1, 0] (transpose S1024x5632 [1, 0] (Host.dotGeneral dot_S2048x5632_S2048x1024_S5632x1024_0_0_1_1_n_n none (extf .f32 (concatenate S2048x5632 1 [⟨S2048x2816, a⟩, ⟨S2048x2816, b⟩] concatenates_S2048x2816_S2048x2816_S2048x5632_d1) bitsLt_bf16_f32) (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 g))) transposes_S5632x1024_S1024x5632_1_0) transposes_S1024x5632_S5632x1024_1_0) bitsLt_bf16_f32
      = prod a b x g := by
  funext i
  pointwise []
  simp only [prod, rowNorm, rowScale, ix2_eta, pieces]

end Reference

end Cert.Proof.Dwup
-- ==== Proof.Up.lean ====
module

public import proofs.«01_k».proof.Proof.Gen.KernelUpIdeal.Value
public import proofs.«01_k».proof.Proof.Gen.ReferenceUpIdeal.Run
public import proofs.«01_k».proof.Proof.Norm
public import Idealize.ShloMosaic.Lib.Pipeline.ReadBack
public import Idealize.ShloMosaic.Lib.Pointwise
public import Idealize.ShloMosaic.Lib.Pipeline.ValueKit

@[expose] public section

set_option maxRecDepth 16384
set_option synthInstance.maxSize 4096

noncomputable section

/-! # The up-projection of the channel mixer: the root mean square norm and the product with `w_up` -/

namespace Cert.Proof.Up

open Idealize.ShloMosaic Idealize.SL.Sem

section Kernel

open Cert.KernelUpIdeal Cert.KernelUpIdeal.Gen

/-- What both programs compute: the normalised rows times the transpose of the weights. -/
def prod (x : FVec Ideal S2048x1024 .f32) (w : FVec Ideal S5632x1024 .bf16) (g : FVec Ideal S1x1024 .f32) :
    FVec Ideal S2048x5632 .f32 :=
  fun i => ∑ k : Fin 1024, rowNorm (fun l => x (ix2 (i 0) l)) (fun l => g (ix2 0 l)) k * w (ix2 (i 1) k)

theorem fill (x : FVec Ideal S1024x1024 .f32) (g : FVec Ideal S1x1024 .f32) (i : S1024x1024.Idx) :
    k0_pay1 (F := Ideal) x g i = rowNorm (fun l => x (ix2 (i 0) l)) (fun l => g (ix2 0 l)) (i 1) := by
  pointwise [k0_pay1]
  simp only [rowNorm, rowScale, ix2_eta]

theorem pay (h : FVec Ideal S1024x1024 .bf16) (w : FVec Ideal S1408x1024 .bf16) (i : S1024x1408.Idx) :
    k0_pay2 (F := Ideal) h w i = ∑ k : Fin 1024, h (ix2 (i 0) k) * w (ix2 (i 1) k) := by
  pointwise [k0_pay2]

theorem idx : ∀ t : Fin cfg0.N, win0_0.index t = ![t.val / 4, 0] ∧ win0_1.index t = ![t.val % 4, 0]
    ∧ win0_2.index t = ![0, 0] ∧ win0_3.index t = ![t.val / 4, t.val % 4] ∧ t.val / 4 < 2 :=
  (by decide +kernel : ∀ t : Fin grid0.N, _)

variable (m : (ℓ : Loc nD τ sig) → Buf (Elt Ideal) ℓ) (c : Dev nD)

def argX : FVec Ideal S2048x1024 .f32 := m ((c.tc : Thread nD τ).loc main_arg0)
def argG : FVec Ideal S1x1024 .f32 := m ((c.tc : Thread nD τ).loc main_arg2)

theorem filled (t : Fin cfg0.N) (j : S1024x1024.Idx) (p : Fin 2048) (hp : (p : ℕ) = t.val / 4 * 1024 + (j 0 : ℕ)) :
    k0_pay1 (F := Ideal) (iblk m c 0 t) (iblk m c 2 t) j
      = rowNorm (fun l => argX m c (ix2 p l)) (fun l => argG m c (ix2 0 l)) (j 1) := by
  have e0 : ∀ l : Fin 1024, (show FVec Ideal S1024x1024 .f32 from iblk m c 0 t) (ix2 (j 0) l) = argX m c (ix2 p l) := fun l => by
    unfold argX
    blk_ext [iblk, V, idx t]
  have e1 : ∀ l : Fin 1024, (show FVec Ideal S1x1024 .f32 from iblk m c 2 t) (ix2 0 l) = argG m c (ix2 0 l) := fun l => by
    unfold argG
    blk_ext [iblk, V, idx t]
  refine (fill _ _ j).trans ?_
  rw [show (fun l : Fin 1024 => (show FVec Ideal S1024x1024 .f32 from iblk m c 0 t) (ix2 (j 0) l)) = _ from funext e0,
    show (fun l : Fin 1024 => (show FVec Ideal S1x1024 .f32 from iblk m c 2 t) (ix2 0 l)) = _ from funext e1]

/-- What the scratch buffer holds from the first point of a row of blocks on: the normalised rows. -/
theorem scratch_at : ∀ (n : ℕ) (h : n < cfg0.N) (j : S1024x1024.Idx) (p : Fin 2048), (p : ℕ) = n / 4 * 1024 + (j 0 : ℕ) →
    (outsAt0 m c n h).2 j = rowNorm (fun l => argX m c (ix2 p l)) (fun l => argG m c (ix2 0 l)) (j 1) := by
  intro n
  induction n with
  | zero =>
    intro h j p hp
    rw [outsAt0_A m c ⟨0, h⟩ rfl]
    frame_out
    exact filled m c ⟨0, h⟩ j p hp
  | succ n ih =>
    intro h j p hp
    by_cases h0 : (n + 1) % 4 = 0
    · rw [outsAt0_A m c ⟨n + 1, h⟩ h0]
      frame_out
      exact filled m c ⟨n + 1, h⟩ j p hp
    · rw [outsAt0_B m c ⟨n + 1, h⟩ h0]
      have same : ∀ (q : ℕ) (hq : q < cfg0.N), q = n →
          (outsAt0 m c q hq).2 j = rowNorm (fun l => argX m c (ix2 p l)) (fun l => argG m c (ix2 0 l)) (j 1) := by
        rintro q hq rfl
        exact ih hq j p (by omega)
      frame_out
      exact same _ _ (Nat.add_sub_cancel n 1)

theorem point (t : Fin cfg0.N) (h : FVec Ideal S1024x1024 .bf16)
    (hh : ∀ (j : S1024x1024.Idx) (p : Fin 2048), (p : ℕ) = t.val / 4 * 1024 + (j 0 : ℕ) →
      h j = rowNorm (fun l => argX m c (ix2 p l)) (fun l => argG m c (ix2 0 l)) (j 1))
    (y : S1024x1408.Idx) (i : S2048x5632.Idx) (h0 : (i 0 : ℕ) = t.val / 4 * 1024 + (y 0 : ℕ))
    (h1 : (i 1 : ℕ) = t.val % 4 * 1408 + (y 1 : ℕ)) :
    k0_pay2 (F := Ideal) h (iblk m c 1 t) y = prod (argX m c) (m ((c.tc : Thread nD τ).loc main_arg1)) (argG m c) i := by
  rw [pay]
  unfold prod
  refine Finset.sum_congr rfl fun k _ => congr (congrArg _ (hh (ix2 (y 0) k) (i 0) h0)) ?_
  blk_ext [iblk, V, idx t]

theorem final : (dats m 0 c).arrAt 3 cfg0.N
    = prod (argX m c) (m ((c.tc : Thread nD τ).loc main_arg1)) (argG m c) := by
  refine (dats m 0 c).arrAt_eq_of_covers 3 _ (by decide +kernel) fun t hf y => ?_
  have e0 : ((win0_3.blk t).view.emb y 0 : ℕ) = t.val / 4 * 1024 + (y 0 : ℕ) := by blk_simp [idx t]
  have e1 : ((win0_3.blk t).view.emb y 1 : ℕ) = t.val % 4 * 1408 + (y 1 : ℕ) := by blk_simp [idx t]
  blk_simp
  rw [after0_3]
  by_cases h0 : t.val % 4 = 0
  · rw [outsAt0_A m c t h0]
    frame_out
    exact point m c t _ (filled m c t) y _ e0 e1
  · rw [outsAt0_B m c t h0]
    frame_out
    rw [read_unread_whole]
    exact point m c t _ (fun j p hp => scratch_at m c (t.val - 1) _ j p (by omega)) y _ e0 e1

end Kernel

section Reference

open Cert.ReferenceUpIdeal Cert.ReferenceUpIdeal.Gen

theorem ref (x : FVec Ideal S2048x1024 .f32) (w : FVec Ideal S5632x1024 .bf16) (g : FVec Ideal S1x1024 .f32) :
    Host.dotGeneral dot_S2048x1024_S1024x5632_S2048x5632_1_0_0_1_n_n none (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 g)) (transpose S1024x5632 [1, 0] (extf .f32 w bitsLt_bf16_f32) transposes_S5632x1024_S1024x5632_1_0)
      = prod x w g := by
  funext i
  pointwise []
  simp only [prod, rowNorm, rowScale, ix2_eta]

end Reference

end Cert.Proof.Up
-- ==== Proof.Dact.lean ====
module

public import proofs.«01_k».proof.Proof.Gen.KernelDactIdeal.Value
public import proofs.«01_k».proof.Proof.Gen.ReferenceDactIdeal.Run
public import Idealize.ShloMosaic.Lib.Pointwise
public import Idealize.ShloMosaic.Lib.Pipeline.ValueKit

@[expose] public section

set_option maxRecDepth 16384
set_option synthInstance.maxSize 4096

noncomputable section

/-! # The gradient of the activation: the incoming gradient times the transpose of `w_down` -/

namespace Cert.Proof.Dact

open Idealize.ShloMosaic Idealize.SL.Sem

section Kernel

open Cert.KernelDactIdeal Cert.KernelDactIdeal.Gen

/-- What both programs compute. -/
def prod (d : FVec Ideal S2048x1024 .f32) (w : FVec Ideal S2816x1024 .bf16) : FVec Ideal S2048x2816 .bf16 :=
  fun i => ∑ k : Fin 1024, d (ix2 (i 0) k) * w (ix2 (i 1) k)

theorem pay (d : FVec Ideal S512x1024 .f32) (w : FVec Ideal S1408x1024 .bf16) (i : S512x1408.Idx) :
    k0_pay1 (F := Ideal) d w i = ∑ k : Fin 1024, d (ix2 (i 0) k) * w (ix2 (i 1) k) := by
  pointwise [k0_pay1]

theorem idx : ∀ t : Fin cfg0.N, win0_0.index t = ![t.val % 4, 0] ∧ win0_1.index t = ![t.val / 4, 0]
    ∧ win0_2.index t = ![t.val % 4, t.val / 4] := (by decide +kernel : ∀ t : Fin grid0.N, _)

variable (m : (ℓ : Loc nD τ sig) → Buf (Elt Ideal) ℓ) (c : Dev nD)

theorem final : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay]
  unfold prod
  refine Fin.sum_fin_congr fun k => ?_
  blk_point [iblk, V, idx t]

end Kernel

section Reference

open Cert.ReferenceDactIdeal Cert.ReferenceDactIdeal.Gen

theorem ref (d : FVec Ideal S2048x1024 .f32) (w : FVec Ideal S2816x1024 .bf16) :
    truncf .bf16 (Host.dotGeneral dot_S2048x1024_S2816x1024_S2048x2816_1_1_0_0_n_n none d (extf .f32 w bitsLt_bf16_f32)) bitsLt_bf16_f32
      = prod d w := by
  funext i
  pointwise []
  rfl

end Reference

end Cert.Proof.Dact
-- ==== Proof.Dwdown.lean ====
module

public import proofs.«01_k».proof.Proof.Gen.KernelDwdownIdeal.Value
public import proofs.«01_k».proof.Proof.Gen.ReferenceDwdownIdeal.Run
public import Idealize.ShloMosaic.Lib.Pointwise
public import Idealize.ShloMosaic.Lib.Pipeline.ValueKit

@[expose] public section

set_option maxRecDepth 16384
set_option synthInstance.maxSize 4096

noncomputable section

/-! # The gradient of `w_down`: the transpose of the activation times the incoming gradient -/

namespace Cert.Proof.Dwdown

open Idealize.ShloMosaic Idealize.SL.Sem

section Kernel

open Cert.KernelDwdownIdeal Cert.KernelDwdownIdeal.Gen

/-- What both programs compute. -/
def prod (a : FVec Ideal S2048x2816 .bf16) (d : FVec Ideal S2048x1024 .f32) : FVec Ideal S2816x1024 .bf16 :=
  fun i => ∑ k : Fin 2048, a (ix2 k (i 0)) * d (ix2 k (i 1))

theorem pay (a : FVec Ideal S2048x1408 .bf16) (d : FVec Ideal S2048x1024 .f32) (i : S1408x1024.Idx) :
    k0_pay1 (F := Ideal) a d i = ∑ k : Fin 2048, a (ix2 k (i 0)) * d (ix2 k (i 1)) := by
  pointwise [k0_pay1]

theorem idx : ∀ t : Fin cfg0.N, win0_0.index t = ![0, t.val] ∧ win0_1.index t = ![0, 0]
    ∧ win0_2.index t = ![t.val, 0] := (by decide +kernel : ∀ t : Fin grid0.N, _)

variable (m : (ℓ : Loc nD τ sig) → Buf (Elt Ideal) ℓ) (c : Dev nD)

theorem final : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay]
  unfold prod
  refine Fin.sum_fin_congr fun k => ?_
  blk_point [iblk, V, idx t]

end Kernel

section Reference

open Cert.ReferenceDwdownIdeal Cert.ReferenceDwdownIdeal.Gen

theorem ref (a : FVec Ideal S2048x2816 .bf16) (d : FVec Ideal S2048x1024 .f32) :
    truncf .bf16 (transpose S2816x1024 [1, 0] (Host.dotGeneral dot_S2048x1024_S2048x2816_S1024x2816_0_0_1_1_n_n none d (extf .f32 a bitsLt_bf16_f32)) transposes_S1024x2816_S2816x1024_1_0) bitsLt_bf16_f32
      = prod a d := by
  funext i
  pointwise []
  exact Finset.sum_congr rfl fun k _ => mul_comm _ _

end Reference

end Cert.Proof.Dwdown
-- ==== Proof.Down.lean ====
module

public import proofs.«01_k».proof.Proof.Gen.KernelDownIdeal.Value
public import proofs.«01_k».proof.Proof.Gen.ReferenceDownIdeal.Run
public import Idealize.ShloMosaic.Lib.Pointwise
public import Idealize.ShloMosaic.Lib.Pipeline.ValueKit

@[expose] public section

set_option maxRecDepth 16384
set_option synthInstance.maxSize 4096

noncomputable section

/-! # The output projection of the channel mixer: the residual plus the activation times `w_down` -/

namespace Cert.Proof.Down

open Idealize.ShloMosaic Idealize.SL.Sem

section Kernel

open Cert.KernelDownIdeal Cert.KernelDownIdeal.Gen

/-- What both programs compute. -/
def prod (a : FVec Ideal S2048x2816 .bf16) (w : FVec Ideal S2816x1024 .bf16) (x : FVec Ideal S2048x1024 .f32) :
    FVec Ideal S2048x1024 .f32 :=
  fun i => x i + ∑ k : Fin 2816, a (ix2 (i 0) k) * w (ix2 k (i 1))

theorem pay (a : FVec Ideal S512x2816 .bf16) (w : FVec Ideal S2816x1024 .bf16) (x : FVec Ideal S512x1024 .f32)
    (i : S512x1024.Idx) :
    k0_pay1 (F := Ideal) a w x i = x i + ∑ k : Fin 2816, a (ix2 (i 0) k) * w (ix2 k (i 1)) := by
  pointwise [k0_pay1]
  exact add_comm _ _

theorem idx : ∀ t : Fin cfg0.N, win0_0.index t = ![t.val, 0] ∧ win0_1.index t = ![0, 0]
    ∧ win0_2.index t = ![t.val, 0] ∧ win0_3.index t = ![t.val, 0] := (by decide +kernel : ∀ t : Fin grid0.N, _)

variable (m : (ℓ : Loc nD τ sig) → Buf (Elt Ideal) ℓ) (c : Dev nD)

theorem final : (dats m 0 c).arrAt 3 cfg0.N
    = prod (m ((c.tc : Thread nD τ).loc main_arg0)) (m ((c.tc : Thread nD τ).loc main_arg1))
      (m ((c.tc : Thread nD τ).loc main_arg2)) := by
  refine (dats m 0 c).arrAt_eq_of_covers 3 _ (by decide +kernel) fun t hf y => ?_
  blk_simp
  rw [after0_3]
  frame_out
  rw [pay]
  unfold prod
  refine congr (congrArg _ ?_) (Fin.sum_fin_congr fun k => ?_)
  · blk_ext [iblk, V, idx t]
  · blk_point [iblk, V, idx t]

end Kernel

section Reference

open Cert.ReferenceDownIdeal Cert.ReferenceDownIdeal.Gen

theorem ref (a : FVec Ideal S2048x2816 .bf16) (w : FVec Ideal S2816x1024 .bf16) (x : FVec Ideal S2048x1024 .f32) :
    addf x (Host.dotGeneral dot_S2048x2816_S2816x1024_S2048x1024_1_0_0_1_n_n none (extf .f32 a bitsLt_bf16_f32) (extf .f32 w bitsLt_bf16_f32))
      = prod a w x := by
  funext i
  pointwise []
  rfl

end Reference

end Cert.Proof.Down
-- ==== Proof.Dh.lean ====
module

public import proofs.«01_k».proof.Proof.Gen.KernelDhIdeal.Value
public import proofs.«01_k».proof.Proof.Gen.ReferenceDhIdeal.Run
public import proofs.«01_k».proof.Proof.Back
public import Idealize.ShloMosaic.Lib.Pipeline.ReadBack
public import Idealize.ShloMosaic.Lib.Pointwise
public import Idealize.ShloMosaic.Lib.Pipeline.ValueKit

@[expose] public section

set_option maxRecDepth 16384
set_option synthInstance.maxSize 4096

noncomputable section

/-! # The gradient of the sequence mixer's input: the product with `w_in` and the way back through the norm -/

namespace Cert.Proof.Dh

open Idealize.ShloMosaic Idealize.SL.Sem

section Kernel

open Cert.KernelDhIdeal Cert.KernelDhIdeal.Gen

/-- The cotangent of the normalised rows: the cotangent of the projection times the weights. -/
def cot (d : FVec Ideal S2048x2816 .bf16) (w : FVec Ideal S2816x1024 .bf16) (p : Fin 2048) (k : Fin 1024) : EReal :=
  ∑ j : Fin 2816, d (ix2 p j) * w (ix2 j k)

/-- The first result: what comes in plus the gradient of the norm. -/
def dx (d : FVec Ideal S2048x2816 .bf16) (w : FVec Ideal S2816x1024 .bf16) (x : FVec Ideal S2048x1024 .f32)
    (g : FVec Ideal S1x1024 .f32) (r : FVec Ideal S2048x1024 .f32) : FVec Ideal S2048x1024 .f32 :=
  fun i => r i + backOne (cot d w (i 0)) (fun l => g (ix2 0 l)) (fun l => x (ix2 (i 0) l)) (i 1)

/-- A row's term of the gradient of the norm's weights. -/
def term (d : FVec Ideal S2048x2816 .bf16) (w : FVec Ideal S2816x1024 .bf16) (x : FVec Ideal S2048x1024 .f32)
    (k : Fin 1024) (p : Fin 2048) : EReal :=
  cot d w p k * x (ix2 p k) * rowScale (fun l => x (ix2 p l))

/-- The gradient of the norm's weights. -/
def dgRow (d : FVec Ideal S2048x2816 .bf16) (w : FVec Ideal S2816x1024 .bf16) (x : FVec Ideal S2048x1024 .f32)
    (k : Fin 1024) : EReal :=
  ∑ p : Fin 2048, term d w x k p

/-- The second result: the first layer of the stack is the gradient of the norm's weights, the others stay. -/
def dgs (d : FVec Ideal S2048x2816 .bf16) (w : FVec Ideal S2816x1024 .bf16) (x : FVec Ideal S2048x1024 .f32)
    (s : FVec Ideal S4x1x1024 .f32) : FVec Ideal S4x1x1024 .f32 :=
  fun i => if (i 0 : ℕ) = 0 then dgRow d w x (i 2) else s i

theorem zero_at (i : S1x1x1024.Idx) : k0_pay5 (F := Ideal) i = 0 := by
  pointwise [k0_pay5]

theorem pay_cot (d : FVec Ideal S512x2816 .bf16) (w : FVec Ideal S2816x1024 .bf16) (i : S512x1024.Idx) :
    k0_pay2 (F := Ideal) d w i = ∑ j : Fin 2816, d (ix2 (i 0) j) * w (ix2 j (i 1)) := by
  pointwise [k0_pay2]

theorem pay_scale (x : FVec Ideal S512x1024 .f32) (i : S512x1.Idx) :
    k0_pay3 (F := Ideal) x i = rowScale (fun l => x (ix2 (i 0) l)) := by
  pointwise [k0_pay3]
  rfl

theorem pay_dx (d : FVec Ideal S512x2816 .bf16) (w : FVec Ideal S2816x1024 .bf16) (x r : FVec Ideal S512x1024 .f32)
    (g : FVec Ideal S1x1024 .f32) (i : S512x1024.Idx) :
    k0_pay4 (F := Ideal) d w x r g i = r i + backOne (fun k => k0_pay2 (F := Ideal) d w (ix2 (i 0) k)) (fun l => g (ix2 0 l))
      (fun l => x (ix2 (i 0) l)) (i 1) := by
  pointwise [k0_pay4]
  simp only [backOne, pay_scale, ix2_eta]
  rfl

theorem pay_acc (h x : FVec Ideal S512x1024 .f32) (s : FVec Ideal S512x1 .f32) (a : FVec Ideal S1x1x1024 .f32) (i : S1x1x1024.Idx) :
    k0_pay1 (F := Ideal) h x s a i = a i + ∑ p : Fin 512, h (ix2 p (i 2)) * x (ix2 p (i 2)) * s (ix2 p 0) := by
  pointwise [k0_pay1]

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0, 0] ∧ t.val < 4 :=
  (by decide +kernel : ∀ t : Fin grid0.N, _)

variable (m : (ℓ : Loc nD τ sig) → Buf (Elt Ideal) ℓ) (c : Dev nD)

def argD : FVec Ideal S2048x2816 .bf16 := m ((c.tc : Thread nD τ).loc main_arg0)
def argW : FVec Ideal S2816x1024 .bf16 := m ((c.tc : Thread nD τ).loc main_arg1)
def argX : FVec Ideal S2048x1024 .f32 := m ((c.tc : Thread nD τ).loc main_arg2)
def argG : FVec Ideal S1x1024 .f32 := m ((c.tc : Thread nD τ).loc main_arg3)
def argR : FVec Ideal S2048x1024 .f32 := m ((c.tc : Thread nD τ).loc main_arg4)

theorem cot_at (t : Fin cfg0.N) (j : S512x1024.Idx) (p : Fin 2048) (hp : (p : ℕ) = t.val * 512 + (j 0 : ℕ)) :
    k0_pay2 (F := Ideal) (iblk m c 0 t) (iblk m c 1 t) j = cot (argD m c) (argW m c) p (j 1) := by
  rw [pay_cot]
  unfold cot argD argW
  refine Finset.sum_congr rfl fun k _ => ?_
  blk_point [iblk, V, idx t]

theorem rowX (t : Fin cfg0.N) (q : Fin 512) (p : Fin 2048) (hp : (p : ℕ) = t.val * 512 + (q : ℕ)) (l : Fin 1024) :
    (show FVec Ideal S512x1024 .f32 from iblk m c 2 t) (ix2 q l) = argX m c (ix2 p l) := by
  unfold argX
  blk_ext [iblk, V, idx t]

theorem rowG (t : Fin cfg0.N) (l : Fin 1024) :
    (show FVec Ideal S1x1024 .f32 from iblk m c 3 t) (ix2 0 l) = argG m c (ix2 0 l) := by
  unfold argG
  blk_ext [iblk, V, idx t]

/-- A tile's rows of the first result. -/
theorem point (t : Fin cfg0.N) (y : S512x1024.Idx) (i : S2048x1024.Idx) (h0 : (i 0 : ℕ) = t.val * 512 + (y 0 : ℕ))
    (h1 : (i 1 : ℕ) = (y 1 : ℕ)) :
    k0_pay4 (F := Ideal) (iblk m c 0 t) (iblk m c 1 t) (iblk m c 2 t) (iblk m c 4 t) (iblk m c 3 t) y
      = dx (argD m c) (argW m c) (argX m c) (argG m c) (argR m c) i := by
  have hr : (show FVec Ideal S512x1024 .f32 from iblk m c 4 t) y = argR m c i := by
    unfold argR
    blk_ext [iblk, V, idx t]
  have hx : (fun l : Fin 1024 => (show FVec Ideal S512x1024 .f32 from iblk m c 2 t) (ix2 (y 0) l)) = fun l => argX m c (ix2 (i 0) l) :=
    funext (rowX m c t (y 0) (i 0) h0)
  have hg : (fun l : Fin 1024 => (show FVec Ideal S1x1024 .f32 from iblk m c 3 t) (ix2 0 l)) = fun l => argG m c (ix2 0 l) :=
    funext (rowG m c t)
  have hc : (fun k : Fin 1024 => k0_pay2 (F := Ideal) (iblk m c 0 t) (iblk m c 1 t) (ix2 (y 0) k)) = cot (argD m c) (argW m c) (i 0) :=
    funext fun k => cot_at m c t (ix2 (y 0) k) (i 0) h0
  have hy : y 1 = i 1 := Fin.ext h1.symm
  refine (pay_dx _ _ _ _ _ y).trans ?_
  exact congr (congrArg _ hr) (backOne_congr hc hg hx hy)

theorem final_dx : (dats m 0 c).arrAt 5 cfg0.N = dx (argD m c) (argW m c) (argX m c) (argG m c) (argR m c) := by
  refine (dats m 0 c).arrAt_eq_of_covers 5 _ (by decide +kernel) fun t hf y => ?_
  have e0 : ((win0_5.blk t).view.emb y 0 : ℕ) = t.val * 512 + (y 0 : ℕ) := by blk_simp [idx t]
  have e1 : ((win0_5.blk t).view.emb y 1 : ℕ) = (y 1 : ℕ) := by blk_simp [idx t]
  blk_simp
  rw [after0_5]
  by_cases h0 : t.val % 4 = 0
  · rw [outsAt0_A m c t h0]
    frame_out
    exact point m c t y _ e0 e1
  · rw [outsAt0_B m c t h0]
    frame_out
    exact point m c t y _ e0 e1

/-- A tile's term of the second result. -/
def part (t : Fin cfg0.N) (i : S1x1x1024.Idx) : EReal :=
  ∑ q : Fin 512, term (argD m c) (argW m c) (argX m c) (i 2) ⟨t.val * 512 + q.val, by have := (idx t).2.2.2.2.2.2.2; omega⟩

theorem step_acc (t : Fin cfg0.N) (a : FVec Ideal S1x1x1024 .f32) (i : S1x1x1024.Idx) :
    k0_pay1 (F := Ideal) (k0_pay2 (iblk m c 0 t) (iblk m c 1 t)) (iblk m c 2 t) (k0_pay3 (iblk m c 2 t)) a i = a i + part m c t i := by
  refine (pay_acc _ _ _ _ i).trans (congrArg (a i + ·) (Finset.sum_congr rfl fun q _ => ?_))
  have hb : t.val * 512 + q.val < 2048 := by have := (idx t).2.2.2.2.2.2.2; omega
  have hx := rowX m c t q ⟨t.val * 512 + q.val, hb⟩ rfl
  have hs : k0_pay3 (F := Ideal) (iblk m c 2 t) (ix2 q 0) = rowScale (fun l => argX m c (ix2 ⟨t.val * 512 + q.val, hb⟩ l)) :=
    (pay_scale _ _).trans (congrArg rowScale (funext hx))
  exact congr (congrArg _ (congr (congrArg _ (cot_at m c t (ix2 q (i 2)) ⟨t.val * 512 + q.val, hb⟩ rfl)) (hx (i 2)))) hs

theorem acc_last (t : Fin cfg0.N) (ht : t.val + 1 = cfg0.N) (i : S1x1x1024.Idx) :
    (outsAt0 m c t.val t.isLt).2 i = dgRow (argD m c) (argW m c) (argX m c) (i 2) := by
  refine (Pipeline.eq_sum_fin_of_reset_step_apply_last (fun n h => (outsAt0 m c n h).2) 4 (fun _ => 0) (part m c)
    (fun t h i => ?_) (fun t h i => ?_) (le_of_eq N_0) t ht i).trans ?_
  · rw [outsAt0_A m c t h]
    frame_out
    exact (step_acc m c t _ i).trans (congrArg (· + part m c t i) (zero_at i))
  · rw [outsAt0_B m c t h]
    frame_out
    exact step_acc m c t _ i
  · rw [zero_add]
    exact Fin.sum_mul_add_congr fun s k hl => rfl

theorem final_dg : (dats m 0 c).arrAt 6 cfg0.N = dgs (argD m c) (argW m c) (argX m c) (m ((c.tc : Thread nD τ).loc main_arg5)) := by
  refine ((dats m 0 c).arrAt_eq_of_coversWhere 6 (P := fun i : S4x1x1024.Idx => (i 0 : ℕ) = 0)
    (fun i : S4x1x1024.Idx => dgRow (argD m c) (argW m c) (argX m c) (i 2)) (fun β => β (0 : Fin 3) = 0)
    (by decide +kernel) (fun t hf y => ?_) (fun j => by blk_simp [Pipeline.Window.cell_apply]; omega)).trans ?_
  · have e2 : (win0_6.blk t).view.emb y 2 = y 2 := Fin.ext (by blk_simp [idx t])
    have ht : t.val + 1 = cfg0.N := by
      have h1 := (flush0_6 t).mp hf
      have h2 : cfg0.N = 4 := N_0
      have h3 := t.isLt
      omega
    blk_simp
    rw [after0_6, acc_last m c t ht]
    exact congrArg _ e2.symm
  · rw [A_eq]
    rfl

end Kernel

section Reference

open Cert.ReferenceDhIdeal Cert.ReferenceDhIdeal.Gen Cert.ReferenceDhIdeal.Value

/-- The cotangent of the normalised rows. -/
def rCot (d : FVec Ideal S2048x2816 .bf16) (w : FVec Ideal S2816x1024 .bf16) : FVec Ideal S2048x1024 .f32 :=
  Host.dotGeneral dot_S2048x2816_S1024x2816_S2048x1024_1_1_0_0_n_n none (extf .f32 d bitsLt_bf16_f32) (transpose S1024x2816 [1, 0] (extf .f32 w bitsLt_bf16_f32) transposes_S2816x1024_S1024x2816_1_0)

theorem rCot_at (d : FVec Ideal S2048x2816 .bf16) (w : FVec Ideal S2816x1024 .bf16) (i : S2048x1024.Idx) :
    rCot d w i = cot d w (i 0) (i 1) := by
  pointwise [rCot]
  rfl

/-- The mean squares of the rows with the small constant added. -/
def rMs (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

theorem rMs_at (x : FVec Ideal S2048x1024 .f32) (i : S2048x1.Idx) : rMs x i = meanSq (fun l => x (ix2 (i 0) l)) := by
  pointwise [rMs]
  rfl

/-- What flows back through the mean squares. -/
def rMean (h : FVec Ideal S2048x1024 .f32) (x : FVec Ideal S2048x1024 .f32) (g : FVec Ideal S1x1024 .f32) : FVec Ideal S2048x1024 .f32 :=
  broadcastInDim S2048x1024 ![0] bcast_S2048_S2048x1024_0 (Host.reduceAdd (Host.divf (mulf (shapeCast S2048x1 (Host.reduceAdd (mulf x (mulf h (broadcastInDim S2048x1024 ![0, 1] bcast_S1x1024_S2048x1024_0_1 g))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (rMs x)) (rMs x)))) (broadcastInDim S2048x1 ![] bcast_S_S2048x1 (constant S_ .f32 0x44800000#32))) (constant S_ .f32 0x00000000#32) reducesTo_S2048x1_S2048_d1 h_S_)

theorem rMean_at (h x : FVec Ideal S2048x1024 .f32) (g : FVec Ideal S1x1024 .f32) (i : S2048x1024.Idx) :
    rMean h x g i = backMean (fun l => h (ix2 (i 0) l)) (fun l => g (ix2 0 l)) (fun l => x (ix2 (i 0) l)) := by
  pointwise [rMean]
  simp only [rMs_at, backMean]
  exact (Fin.sum_univ_one _).trans rfl

/-- The reference's first result. -/
def rDx (h x : FVec Ideal S2048x1024 .f32) (g : FVec Ideal S1x1024 .f32) (r : FVec Ideal S2048x1024 .f32) : FVec Ideal S2048x1024 .f32 :=
  addf r (addf (addf (mulf (mulf h (broadcastInDim S2048x1024 ![0, 1] bcast_S1x1024_S2048x1024_0_1 g)) (broadcastInDim S2048x1024 ![0, 1] bcast_S2048x1_S2048x1024_0_1 (Host.rsqrt (rMs x)))) (mulf x (rMean h x g))) (mulf (rMean h x g) x))

theorem rDx_at (h x r : FVec Ideal S2048x1024 .f32) (g : FVec Ideal S1x1024 .f32) (i : S2048x1024.Idx) :
    rDx h x g r i = r i + backTwo (fun l => h (ix2 (i 0) l)) (fun l => g (ix2 0 l)) (fun l => x (ix2 (i 0) l)) (i 1) := by
  pointwise [rDx]
  simp only [rMs_at, rMean_at, backTwo, ix2_eta]
  rfl

/-- The reference's second result. -/
def rDg (h x : FVec Ideal S2048x1024 .f32) (s : FVec Ideal S4x1x1024 .f32) : FVec Ideal S4x1x1024 .f32 :=
  concatenate S4x1x1024 0 [⟨S1x1x1024, (broadcastInDim S1x1x1024 ![1, 2] bcast_S1x1024_S1x1x1024_1_2 (shapeCast S1x1024 (Host.reduceAdd (mulf (mulf x (broadcastInDim S2048x1024 ![0, 1] bcast_S2048x1_S2048x1024_0_1 (Host.rsqrt (rMs x)))) h) (constant S_ .f32 0x00000000#32) reducesTo_S2048x1024_S1024_d0 h_S_) shapeCasts_S1024_S1x1024))⟩, ⟨S3x1x1024, (extractStridedSlice S3x1x1024 ![1, 0, 0] s slices_S4x1x1024_S3x1x1024_1_0_0)⟩] concatenates_S1x1x1024_S3x1x1024_S4x1x1024_d0

theorem ref_dg (d : FVec Ideal S2048x2816 .bf16) (w : FVec Ideal S2816x1024 .bf16) (x : FVec Ideal S2048x1024 .f32)
    (s : FVec Ideal S4x1x1024 .f32) : rDg (rCot d w) x s = dgs d w x s := by
  funext i
  pointwise [rDg]
  simp only [rMs_at, rCot_at, dgs, dgRow, term]
  by_cases h : (i 0 : ℕ) = 0
  · rw [dif_pos (by omega), if_pos h]
    refine Finset.sum_congr rfl fun p _ => ?_
    exact (mul_comm _ _).trans (mul_assoc _ _ _).symm
  · rw [dif_neg (by omega), if_neg h]
    blk_ext

theorem ref_dx (d : FVec Ideal S2048x2816 .bf16) (w : FVec Ideal S2816x1024 .bf16) (x : FVec Ideal S2048x1024 .f32)
    (g : FVec Ideal S1x1024 .f32) (r : FVec Ideal S2048x1024 .f32) :
    rDx (rCot d w) x g r = dx d w x g r := by
  funext i
  rw [rDx_at]
  refine congrArg (r i + ·) ?_
  refine Eq.trans ?_ (back_eq _ _ _ (i 1)).symm
  simp only [rCot_at]
  rfl

/-- The two results of the reference as its run states them. -/
theorem res_dx (m : (ℓ : Loc nD τ sig) → Buf (Elt Ideal) ℓ) (c : Dev nD) : res_out0 m c
    = rDx (rCot (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) := by
  rfl

end Reference

end Cert.Proof.Dh
-- ==== Proof.Dwin.lean ====
module

public import proofs.«01_k».proof.Proof.Gen.KernelDwinIdeal.Value
public import proofs.«01_k».proof.Proof.Gen.ReferenceDwinIdeal.Run
public import proofs.«01_k».proof.Proof.Norm
public import Idealize.ShloMosaic.Lib.Pipeline.ReadBack
public import Idealize.ShloMosaic.Lib.Pointwise
public import Idealize.ShloMosaic.Lib.Pipeline.ValueKit

@[expose] public section

set_option maxRecDepth 16384
set_option synthInstance.maxSize 4096

noncomputable section

/-! # The gradient of `w_in`: the transpose of the cotangent times the normalised rows -/

namespace Cert.Proof.Dwin

open Idealize.ShloMosaic Idealize.SL.Sem

section Kernel

open Cert.KernelDwinIdeal Cert.KernelDwinIdeal.Gen

theorem fill (x : FVec Ideal S2048x1024 .f32) (g : FVec Ideal S1x1024 .f32) (i : S2048x1024.Idx) :
    k0_pay1 (F := Ideal) x g i = rowNorm (fun l => x (ix2 (i 0) l)) (fun l => g (ix2 0 l)) (i 1) := by
  pointwise [k0_pay1]
  simp only [rowNorm, rowScale, ix2_eta]

theorem pay (a : FVec Ideal S2048x1408 .bf16) (h : FVec Ideal S2048x1024 .bf16) (i : S1408x1024.Idx) :
    k0_pay2 (F := Ideal) a h i = ∑ k : Fin 2048, a (ix2 k (i 0)) * h (ix2 k (i 1)) := by
  pointwise [k0_pay2]

/-- What both programs compute: the transpose of the cotangent times the normalised rows. -/
def prod (dz : FVec Ideal S2048x2816 .bf16) (x : FVec Ideal S2048x1024 .f32) (g : FVec Ideal S1x1024 .f32) :
    FVec Ideal S2816x1024 .bf16 :=
  fun i => ∑ k : Fin 2048, dz (ix2 k (i 0)) * rowNorm (fun l => x (ix2 k l)) (fun l => g (ix2 0 l)) (i 1)

theorem idx : ∀ t : Fin cfg0.N, win0_0.index t = ![0, t.val] ∧ win0_1.index t = ![0, 0]
    ∧ win0_2.index t = ![0, 0] ∧ win0_3.index t = ![t.val, 0] ∧ t.val < 2 :=
  (by decide +kernel : ∀ t : Fin grid0.N, _)

variable (m : (ℓ : Loc nD τ sig) → Buf (Elt Ideal) ℓ) (c : Dev nD)

def argX : FVec Ideal S2048x1024 .f32 := m ((c.tc : Thread nD τ).loc main_arg1)
def argG : FVec Ideal S1x1024 .f32 := m ((c.tc : Thread nD τ).loc main_arg2)

theorem filled (t : Fin cfg0.N) (j : S2048x1024.Idx) :
    k0_pay1 (F := Ideal) (iblk m c 1 t) (iblk m c 2 t) j
      = rowNorm (fun l => argX m c (ix2 (j 0) l)) (fun l => argG m c (ix2 0 l)) (j 1) := by
  have e0 : ∀ l : Fin 1024, (show FVec Ideal S2048x1024 .f32 from iblk m c 1 t) (ix2 (j 0) l) = argX m c (ix2 (j 0) l) := fun l => by
    unfold argX
    blk_ext [iblk, V, idx t]
  have e1 : ∀ l : Fin 1024, (show FVec Ideal S1x1024 .f32 from iblk m c 2 t) (ix2 0 l) = argG m c (ix2 0 l) := fun l => by
    unfold argG
    blk_ext [iblk, V, idx t]
  refine (fill _ _ j).trans ?_
  rw [show (fun l : Fin 1024 => (show FVec Ideal S2048x1024 .f32 from iblk m c 1 t) (ix2 (j 0) l)) = _ from funext e0,
    show (fun l : Fin 1024 => (show FVec Ideal S1x1024 .f32 from iblk m c 2 t) (ix2 0 l)) = _ from funext e1]

theorem scratch_zero (h : 0 < cfg0.N) (j : S2048x1024.Idx) :
    (outsAt0 m c 0 h).2 j = rowNorm (fun l => argX m c (ix2 (j 0) l)) (fun l => argG m c (ix2 0 l)) (j 1) := by
  rw [outsAt0_A m c ⟨0, h⟩ rfl]
  frame_out
  exact filled m c ⟨0, h⟩ j

theorem point (t : Fin cfg0.N) (h : FVec Ideal S2048x1024 .bf16)
    (hh : ∀ j : S2048x1024.Idx, h j = rowNorm (fun l => argX m c (ix2 (j 0) l)) (fun l => argG m c (ix2 0 l)) (j 1))
    (y : S1408x1024.Idx) (i : S2816x1024.Idx) (h0 : (i 0 : ℕ) = t.val * 1408 + (y 0 : ℕ)) (h1 : (i 1 : ℕ) = (y 1 : ℕ)) :
    k0_pay2 (F := Ideal) (iblk m c 0 t) h y = prod (m ((c.tc : Thread nD τ).loc main_arg0)) (argX m c) (argG m c) i := by
  rw [pay]
  unfold prod
  have e1 : y 1 = i 1 := Fin.ext h1.symm
  refine Finset.sum_congr rfl fun k _ => congr (congrArg _ ?_) ((hh (ix2 k (y 1))).trans ?_)
  · blk_ext [iblk, V, idx t]
  · exact congrArg (rowNorm (fun l => argX m c (ix2 k l)) (fun l => argG m c (ix2 0 l))) e1

theorem final : (dats m 0 c).arrAt 3 cfg0.N
    = prod (m ((c.tc : Thread nD τ).loc main_arg0)) (argX m c) (argG m c) := by
  refine (dats m 0 c).arrAt_eq_of_covers 3 _ (by decide +kernel) fun t hf y => ?_
  have e0 : ((win0_3.blk t).view.emb y 0 : ℕ) = t.val * 1408 + (y 0 : ℕ) := by blk_simp [idx t]
  have e1 : ((win0_3.blk t).view.emb y 1 : ℕ) = (y 1 : ℕ) := by blk_simp [idx t]
  blk_simp
  rw [after0_3]
  by_cases h0 : t.val % 2 = 0
  · rw [outsAt0_A m c t h0]
    frame_out
    exact point m c t _ (filled m c t) y _ e0 e1
  · rw [outsAt0_B m c t h0]
    frame_out
    rw [read_unread_whole]
    have same : ∀ (q : ℕ) (hq : q < cfg0.N), q = 0 → ∀ j,
        (outsAt0 m c q hq).2 j = rowNorm (fun l => argX m c (ix2 (j 0) l)) (fun l => argG m c (ix2 0 l)) (j 1) := by
      rintro q hq rfl
      exact scratch_zero m c hq
    have hlt := idx t
    exact point m c t _ (same _ _ (by omega)) y _ e0 e1

end Kernel

section Reference

open Cert.ReferenceDwinIdeal Cert.ReferenceDwinIdeal.Gen

theorem ref (dz : FVec Ideal S2048x2816 .bf16) (x : FVec Ideal S2048x1024 .f32) (g : FVec Ideal S1x1024 .f32) :
    truncf .bf16 (transpose S2816x1024 [1, 0] (transpose S1024x2816 [1, 0] (Host.dotGeneral dot_S2048x2816_S2048x1024_S2816x1024_0_0_1_1_n_n none (extf .f32 dz bitsLt_bf16_f32) (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 g))) transposes_S2816x1024_S1024x2816_1_0) transposes_S1024x2816_S2816x1024_1_0) bitsLt_bf16_f32
      = prod dz x g := by
  funext i
  pointwise []
  simp only [prod, rowNorm, rowScale, ix2_eta]

end Reference

end Cert.Proof.Dwin
-- ==== Proof.In.lean ====
module

public import proofs.«01_k».proof.Proof.Gen.KernelInIdeal.Value
public import proofs.«01_k».proof.Proof.Gen.ReferenceInIdeal.Run
public import proofs.«01_k».proof.Proof.Norm
public import Idealize.ShloMosaic.Lib.Pipeline.ReadBack
public import Idealize.ShloMosaic.Lib.Pointwise
public import Idealize.ShloMosaic.Lib.Pipeline.ValueKit

@[expose] public section

set_option maxRecDepth 16384
set_option synthInstance.maxSize 4096

noncomputable section

/-! # The input projection of the sequence mixer: the root mean square norm and the product with `w_in` -/

namespace Cert.Proof.In

open Idealize.ShloMosaic Idealize.SL.Sem

section Kernel

open Cert.KernelInIdeal Cert.KernelInIdeal.Gen

/-- What both programs compute: the normalised rows times the transpose of the weights. -/
def prod (x : FVec Ideal S2048x1024 .f32) (w : FVec Ideal S2816x1024 .bf16) (g : FVec Ideal S1x1024 .f32) :
    FVec Ideal S2048x2816 .f32 :=
  fun i => ∑ k : Fin 1024, rowNorm (fun l => x (ix2 (i 0) l)) (fun l => g (ix2 0 l)) k * w (ix2 (i 1) k)

theorem fill (x : FVec Ideal S1024x1024 .f32) (g : FVec Ideal S1x1024 .f32) (i : S1024x1024.Idx) :
    k0_pay1 (F := Ideal) x g i = rowNorm (fun l => x (ix2 (i 0) l)) (fun l => g (ix2 0 l)) (i 1) := by
  pointwise [k0_pay1]
  simp only [rowNorm, rowScale, ix2_eta]

theorem pay (h : FVec Ideal S1024x1024 .bf16) (w : FVec Ideal S1408x1024 .bf16) (i : S1024x1408.Idx) :
    k0_pay2 (F := Ideal) h w i = ∑ k : Fin 1024, h (ix2 (i 0) k) * w (ix2 (i 1) k) := by
  pointwise [k0_pay2]

theorem idx : ∀ t : Fin cfg0.N, win0_0.index t = ![t.val / 2, 0] ∧ win0_1.index t = ![t.val % 2, 0]
    ∧ win0_2.index t = ![0, 0] ∧ win0_3.index t = ![t.val / 2, t.val % 2] ∧ t.val / 2 < 2 :=
  (by decide +kernel : ∀ t : Fin grid0.N, _)

variable (m : (ℓ : Loc nD τ sig) → Buf (Elt Ideal) ℓ) (c : Dev nD)

def argX : FVec Ideal S2048x1024 .f32 := m ((c.tc : Thread nD τ).loc main_arg0)
def argG : FVec Ideal S1x1024 .f32 := m ((c.tc : Thread nD τ).loc main_arg2)

theorem filled (t : Fin cfg0.N) (j : S1024x1024.Idx) (p : Fin 2048) (hp : (p : ℕ) = t.val / 2 * 1024 + (j 0 : ℕ)) :
    k0_pay1 (F := Ideal) (iblk m c 0 t) (iblk m c 2 t) j
      = rowNorm (fun l => argX m c (ix2 p l)) (fun l => argG m c (ix2 0 l)) (j 1) := by
  have e0 : ∀ l : Fin 1024, (show FVec Ideal S1024x1024 .f32 from iblk m c 0 t) (ix2 (j 0) l) = argX m c (ix2 p l) := fun l => by
    unfold argX
    blk_ext [iblk, V, idx t]
  have e1 : ∀ l : Fin 1024, (show FVec Ideal S1x1024 .f32 from iblk m c 2 t) (ix2 0 l) = argG m c (ix2 0 l) := fun l => by
    unfold argG
    blk_ext [iblk, V, idx t]
  refine (fill _ _ j).trans ?_
  rw [show (fun l : Fin 1024 => (show FVec Ideal S1024x1024 .f32 from iblk m c 0 t) (ix2 (j 0) l)) = _ from funext e0,
    show (fun l : Fin 1024 => (show FVec Ideal S1x1024 .f32 from iblk m c 2 t) (ix2 0 l)) = _ from funext e1]

/-- What the scratch buffer holds from the first point of a row of blocks on: the normalised rows. -/
theorem scratch_at : ∀ (n : ℕ) (h : n < cfg0.N) (j : S1024x1024.Idx) (p : Fin 2048), (p : ℕ) = n / 2 * 1024 + (j 0 : ℕ) →
    (outsAt0 m c n h).2 j = rowNorm (fun l => argX m c (ix2 p l)) (fun l => argG m c (ix2 0 l)) (j 1) := by
  intro n
  induction n with
  | zero =>
    intro h j p hp
    rw [outsAt0_A m c ⟨0, h⟩ rfl]
    frame_out
    exact filled m c ⟨0, h⟩ j p hp
  | succ n ih =>
    intro h j p hp
    by_cases h0 : (n + 1) % 2 = 0
    · rw [outsAt0_A m c ⟨n + 1, h⟩ h0]
      frame_out
      exact filled m c ⟨n + 1, h⟩ j p hp
    · rw [outsAt0_B m c ⟨n + 1, h⟩ h0]
      have same : ∀ (q : ℕ) (hq : q < cfg0.N), q = n →
          (outsAt0 m c q hq).2 j = rowNorm (fun l => argX m c (ix2 p l)) (fun l => argG m c (ix2 0 l)) (j 1) := by
        rintro q hq rfl
        exact ih hq j p (by omega)
      frame_out
      exact same _ _ (Nat.add_sub_cancel n 1)

theorem point (t : Fin cfg0.N) (h : FVec Ideal S1024x1024 .bf16)
    (hh : ∀ (j : S1024x1024.Idx) (p : Fin 2048), (p : ℕ) = t.val / 2 * 1024 + (j 0 : ℕ) →
      h j = rowNorm (fun l => argX m c (ix2 p l)) (fun l => argG m c (ix2 0 l)) (j 1))
    (y : S1024x1408.Idx) (i : S2048x2816.Idx) (h0 : (i 0 : ℕ) = t.val / 2 * 1024 + (y 0 : ℕ))
    (h1 : (i 1 : ℕ) = t.val % 2 * 1408 + (y 1 : ℕ)) :
    k0_pay2 (F := Ideal) h (iblk m c 1 t) y = prod (argX m c) (m ((c.tc : Thread nD τ).loc main_arg1)) (argG m c) i := by
  rw [pay]
  unfold prod
  refine Finset.sum_congr rfl fun k _ => congr (congrArg _ (hh (ix2 (y 0) k) (i 0) h0)) ?_
  blk_ext [iblk, V, idx t]

theorem final : (dats m 0 c).arrAt 3 cfg0.N
    = prod (argX m c) (m ((c.tc : Thread nD τ).loc main_arg1)) (argG m c) := by
  refine (dats m 0 c).arrAt_eq_of_covers 3 _ (by decide +kernel) fun t hf y => ?_
  have e0 : ((win0_3.blk t).view.emb y 0 : ℕ) = t.val / 2 * 1024 + (y 0 : ℕ) := by blk_simp [idx t]
  have e1 : ((win0_3.blk t).view.emb y 1 : ℕ) = t.val % 2 * 1408 + (y 1 : ℕ) := by blk_simp [idx t]
  blk_simp
  rw [after0_3]
  by_cases h0 : t.val % 2 = 0
  · rw [outsAt0_A m c t h0]
    frame_out
    exact point m c t _ (filled m c t) y _ e0 e1
  · rw [outsAt0_B m c t h0]
    frame_out
    rw [read_unread_whole]
    exact point m c t _ (fun j p hp => scratch_at m c (t.val - 1) _ j p (by omega)) y _ e0 e1

end Kernel

section Reference

open Cert.ReferenceInIdeal Cert.ReferenceInIdeal.Gen

theorem ref (x : FVec Ideal S2048x1024 .f32) (w : FVec Ideal S2816x1024 .bf16) (g : FVec Ideal S1x1024 .f32) :
    Host.dotGeneral dot_S2048x1024_S1024x2816_S2048x2816_1_0_0_1_n_n none (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 g)) (transpose S1024x2816 [1, 0] (extf .f32 w bitsLt_bf16_f32) transposes_S2816x1024_S1024x2816_1_0)
      = prod x w g := by
  funext i
  pointwise []
  simp only [prod, rowNorm, rowScale, ix2_eta]

end Reference

end Cert.Proof.In
-- ==== Proof.Dy.lean ====
module

public import proofs.«01_k».proof.Proof.Gen.KernelDyIdeal.Value
public import proofs.«01_k».proof.Proof.Gen.ReferenceDyIdeal.Run
public import Idealize.ShloMosaic.Lib.Pointwise
public import Idealize.ShloMosaic.Lib.Pipeline.ValueKit

@[expose] public section

set_option maxRecDepth 16384
set_option synthInstance.maxSize 4096

noncomputable section

/-! # The cotangent back through `w_out`: the incoming gradient times the transpose of the weights -/

namespace Cert.Proof.Dy

open Idealize.ShloMosaic Idealize.SL.Sem

section Kernel

open Cert.KernelDyIdeal Cert.KernelDyIdeal.Gen

/-- What both programs compute. -/
def prod (d : FVec Ideal S2048x1024 .f32) (w : FVec Ideal S1024x1024 .bf16) : FVec Ideal S2048x1024 .f32 :=
  fun i => ∑ k : Fin 1024, d (ix2 (i 0) k) * w (ix2 (i 1) k)

theorem pay (d : FVec Ideal S512x1024 .f32) (w : FVec Ideal S1024x1024 .bf16) (i : S512x1024.Idx) :
    k0_pay1 (F := Ideal) d w i = ∑ k : Fin 1024, d (ix2 (i 0) k) * w (ix2 (i 1) k) := by
  pointwise [k0_pay1]

theorem idx : ∀ t : Fin cfg0.N, win0_0.index t = ![t.val, 0] ∧ win0_1.index t = ![0, 0]
    ∧ win0_2.index t = ![t.val, 0] := (by decide +kernel : ∀ t : Fin grid0.N, _)

variable (m : (ℓ : Loc nD τ sig) → Buf (Elt Ideal) ℓ) (c : Dev nD)

theorem final : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay]
  unfold prod
  refine Fin.sum_fin_congr fun k => ?_
  blk_point [iblk, V, idx t]

end Kernel

section Reference

open Cert.ReferenceDyIdeal Cert.ReferenceDyIdeal.Gen

theorem ref (d : FVec Ideal S2048x1024 .f32) (w : FVec Ideal S1024x1024 .bf16) :
    (Host.dotGeneral dot_S2048x1024_S1024x1024_S2048x1024_1_1_0_0_n_n none d (extf .f32 w bitsLt_bf16_f32))
      = prod d w := by
  funext i
  pointwise []
  rfl

end Reference

end Cert.Proof.Dy
-- ==== Proof.Dwout.lean ====
module

public import proofs.«01_k».proof.Proof.Gen.KernelDwoutIdeal.Value
public import proofs.«01_k».proof.Proof.Gen.ReferenceDwoutIdeal.Run
public import Idealize.ShloMosaic.Lib.Pointwise
public import Idealize.ShloMosaic.Lib.Pipeline.ValueKit

@[expose] public section

set_option maxRecDepth 16384
set_option synthInstance.maxSize 4096

noncomputable section

/-! # The gradient of `w_out`: the transpose of the mixers' output times the incoming gradient -/

namespace Cert.Proof.Dwout

open Idealize.ShloMosaic Idealize.SL.Sem

section Kernel

open Cert.KernelDwoutIdeal Cert.KernelDwoutIdeal.Gen

/-- What both programs compute. -/
def prod (a : FVec Ideal S2048x1024 .bf16) (d : FVec Ideal S2048x1024 .f32) : FVec Ideal S1024x1024 .bf16 :=
  fun i => ∑ k : Fin 2048, a (ix2 k (i 0)) * d (ix2 k (i 1))

theorem pay (a : FVec Ideal S2048x512 .bf16) (d : FVec Ideal S2048x1024 .f32) (i : S512x1024.Idx) :
    k0_pay1 (F := Ideal) a d i = ∑ k : Fin 2048, a (ix2 k (i 0)) * d (ix2 k (i 1)) := by
  pointwise [k0_pay1]

theorem idx : ∀ t : Fin cfg0.N, win0_0.index t = ![0, t.val] ∧ win0_1.index t = ![0, 0]
    ∧ win0_2.index t = ![t.val, 0] := (by decide +kernel : ∀ t : Fin grid0.N, _)

variable (m : (ℓ : Loc nD τ sig) → Buf (Elt Ideal) ℓ) (c : Dev nD)

theorem final : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay]
  unfold prod
  refine Fin.sum_fin_congr fun k => ?_
  blk_point [iblk, V, idx t]

end Kernel

section Reference

open Cert.ReferenceDwoutIdeal Cert.ReferenceDwoutIdeal.Gen

theorem ref (a : FVec Ideal S2048x1024 .bf16) (d : FVec Ideal S2048x1024 .f32) :
    truncf .bf16 (transpose S1024x1024 [1, 0] (Host.dotGeneral dot_S2048x1024_S2048x1024_S1024x1024_0_0_1_1_n_n none d (extf .f32 a bitsLt_bf16_f32)) transposes_S1024x1024_S1024x1024_1_0) bitsLt_bf16_f32
      = prod a d := by
  funext i
  pointwise []
  exact Finset.sum_congr rfl fun k _ => mul_comm _ _

end Reference

end Cert.Proof.Dwout
-- ==== Proof.Out.lean ====
module

public import proofs.«01_k».proof.Proof.Gen.KernelOutIdeal.Value
public import proofs.«01_k».proof.Proof.Gen.ReferenceOutIdeal.Run
public import Idealize.ShloMosaic.Lib.Pointwise
public import Idealize.ShloMosaic.Lib.Pipeline.ValueKit

@[expose] public section

set_option maxRecDepth 16384
set_option synthInstance.maxSize 4096

noncomputable section

/-! # The output projection of the sequence mixers: the residual plus the mixers' output times `w_out` -/

namespace Cert.Proof.Out

open Idealize.ShloMosaic Idealize.SL.Sem

section Kernel

open Cert.KernelOutIdeal Cert.KernelOutIdeal.Gen

/-- What both programs compute. -/
def prod (a : FVec Ideal S2048x1024 .bf16) (w : FVec Ideal S1024x1024 .bf16) (x : FVec Ideal S2048x1024 .f32) :
    FVec Ideal S2048x1024 .f32 :=
  fun i => x i + ∑ k : Fin 1024, a (ix2 (i 0) k) * w (ix2 k (i 1))

theorem pay (a : FVec Ideal S512x1024 .bf16) (w : FVec Ideal S1024x1024 .bf16) (x : FVec Ideal S512x1024 .f32)
    (i : S512x1024.Idx) :
    k0_pay1 (F := Ideal) a w x i = x i + ∑ k : Fin 1024, a (ix2 (i 0) k) * w (ix2 k (i 1)) := by
  pointwise [k0_pay1]
  exact add_comm _ _

theorem idx : ∀ t : Fin cfg0.N, win0_0.index t = ![t.val, 0] ∧ win0_1.index t = ![0, 0]
    ∧ win0_2.index t = ![t.val, 0] ∧ win0_3.index t = ![t.val, 0] := (by decide +kernel : ∀ t : Fin grid0.N, _)

variable (m : (ℓ : Loc nD τ sig) → Buf (Elt Ideal) ℓ) (c : Dev nD)

theorem final : (dats m 0 c).arrAt 3 cfg0.N
    = prod (m ((c.tc : Thread nD τ).loc main_arg0)) (m ((c.tc : Thread nD τ).loc main_arg1))
      (m ((c.tc : Thread nD τ).loc main_arg2)) := by
  refine (dats m 0 c).arrAt_eq_of_covers 3 _ (by decide +kernel) fun t hf y => ?_
  blk_simp
  rw [after0_3]
  frame_out
  rw [pay]
  unfold prod
  refine congr (congrArg _ ?_) (Fin.sum_fin_congr fun k => ?_)
  · blk_ext [iblk, V, idx t]
  · blk_point [iblk, V, idx t]

end Kernel

section Reference

open Cert.ReferenceOutIdeal Cert.ReferenceOutIdeal.Gen

theorem ref (a : FVec Ideal S2048x1024 .bf16) (w : FVec Ideal S1024x1024 .bf16) (x : FVec Ideal S2048x1024 .f32) :
    addf x (Host.dotGeneral dot_S2048x1024_S1024x1024_S2048x1024_1_0_0_1_n_n none (extf .f32 a bitsLt_bf16_f32) (extf .f32 w bitsLt_bf16_f32))
      = prod a w x := by
  funext i
  pointwise []
  rfl

end Reference

end Cert.Proof.Out
-- ==== Proof.Act.lean ====
module

public import proofs.«01_k».proof.Proof.Gen.KernelActIdeal.Value
public import proofs.«01_k».proof.Proof.Gen.ReferenceActIdeal.Run
public import proofs.«01_k».proof.Proof.Same
public import Idealize.ShloMosaic.Lib.Pipeline.ReadBack
public import Idealize.ShloMosaic.Lib.Pointwise
public import Idealize.ShloMosaic.Lib.Pipeline.ValueKit

@[expose] public section

set_option maxRecDepth 16384
set_option synthInstance.maxSize 4096

noncomputable section

/-! # The gated causal convolution of the channel mixer -/

namespace Cert.Proof.Act

open Idealize.ShloMosaic Idealize.SL.Sem
open Cert.Proof.Chunk (cv sg)
open Cert.Proof.Plain (lg half_eq sg_coe lg_coe)

/-- The two forms of the logistic function agree for all values. -/
theorem sg_eq_lg (u : EReal) : sg u = lg u := by
  induction u using EReal.rec with
  | coe r => rw [sg_coe, lg_coe]
  | top =>
    have h1 : Ideal.tanh (⊤ : EReal) = ((1 : ℝ) : EReal) := rfl
    have h2 : Ideal.exp (⊥ : EReal) = 0 := rfl
    rw [sg, lg, half_eq, EReal.coe_mul_top_of_pos (by norm_num), h1, EReal.neg_top, h2, add_zero, ← EReal.coe_mul, ← EReal.coe_add,
      ← EReal.coe_one, Ideal.div_coe one_ne_zero, ← EReal.coe_mul]
    norm_num
  | bot =>
    have h1 : Ideal.tanh (⊥ : EReal) = ((-1 : ℝ) : EReal) := rfl
    have h2 : Ideal.exp (⊤ : EReal) = ⊤ := rfl
    have h3 : (1 : EReal) + ⊤ = ⊤ := rfl
    rw [sg, lg, half_eq, EReal.coe_mul_bot_of_pos (by norm_num), h1, EReal.neg_bot, h2, h3, ← EReal.coe_mul, ← EReal.coe_add]
    simp [Ideal.div]

/-- An entry of the result from the two convolved halves. -/
def gated (u v : EReal) : EReal := u * sg u * v

/-- A column of an array from row `p - 8` on: zeros before the first row. -/
def col {n : ℕ} (x : Fin 2048 → Fin n → EReal) (k : Fin n) (p : ℕ) : EReal :=
  if h : 8 ≤ p ∧ p < 2056 then x ⟨p - 8, by omega⟩ k else 0

section Kernel

open Cert.KernelActIdeal Cert.KernelActIdeal.Gen

section Vectors

variable {F : FTy → Type} [FloatOps F]

def splat (b : BitVec 32) : FVec F S128x256 .f32 := broadcast S128x256 (Scalar.ofBits .f32 b : F .f32)

/-- One weight row times the rows of a chunk. -/
def scaled (w : FVec F S1x256 .f32) (x : FVec F S128x256 .f32) : FVec F S128x256 .f32 :=
  mulf (broadcastTo S128x256 w broadcasts_S1x256_S128x256) x

/-- The causal convolution of a chunk. -/
def conv (w0 w1 w2 : FVec F S1x256 .f32) (x : FVec F S136x256 .f32) : FVec F S128x256 .f32 :=
  addf (addf (addf (splat 0x00000000#32) (scaled w0 (extractStridedSlice S128x256 ![6, 0] x slices_S136x256_o6_0_S128x256)))
    (scaled w1 (extractStridedSlice S128x256 ![7, 0] x slices_S136x256_o7_0_S128x256)))
    (scaled w2 (extractStridedSlice S128x256 ![8, 0] x slices_S136x256_o8_0_S128x256))

/-- The gated product of a chunk. -/
def tile (u v : FVec F S128x256 .f32) : FVec F S128x256 .bf16 :=
  truncf .bf16 (mulf (mulf u (addf (mulf (splat 0x3F000000#32) (tanh (mulf (splat 0x3F000000#32) u))) (splat 0x3F000000#32))) v)
    bitsLt_bf16_f32

def tapW0 (w : Vec F S3x256 .f32) : FVec F S1x256 .f32 := View.ld w (Rect.unit ![0, 0] ![1, 256] inb_S3x256_S1x256_0_0)
def tapW1 (w : Vec F S3x256 .f32) : FVec F S1x256 .f32 := View.ld w (Rect.unit ![1, 0] ![1, 256] inb_S3x256_S1x256_1_0)
def tapW2 (w : Vec F S3x256 .f32) : FVec F S1x256 .f32 := View.ld w (Rect.unit ![2, 0] ![1, 256] inb_S3x256_S1x256_2_0)

theorem inb136 (o : ℕ) (h : o + 136 ≤ 2048) : ∀ a : Fin 2, (![o, 0] : Fin 2 → ℕ) a + (![136, 256] : Fin 2 → ℕ) a ≤ S2048x256.size a := by
  intro a; fin_cases a
  · exact h
  · show 0 + 256 ≤ 256; omega

/-- The rows of a chunk, with the eight rows before it. -/
def rows (b : Vec F S2048x256 .f32) (o : ℕ) (h : o + 136 ≤ 2048) : FVec F S136x256 .f32 :=
  View.ld b (Rect.unit ![o, 0] ![136, 256] (inb136 o h))

def isFirst (i : grid0.Coords) : BitVec 1 := Scalar.cmpi .eq (BitVec.ofNat 32 (i 1).val) 0#32

/-- The rows of the first chunk, with zeros before it. -/
def edge (i : grid0.Coords) (p : Vec F S8x256 .f32) (b : Vec F S2048x256 .f32) : FVec F S136x256 .f32 :=
  concatenate S136x256 0 [⟨S8x256, Scalar.select (isFirst i) (broadcast S8x256 (Scalar.ofBits .f32 0x00000000#32 : F .f32)) p⟩,
    ⟨S128x256, View.ld b (Rect.unit ![0, 0] ![128, 256] inb_S2048x256_S128x256_0_0)⟩]
    concatenates_S8x256_S128x256_S136x256_d0

/-- What a chunk with gate rows `g` and value rows `v` stores. -/
def emit (wg wv : Vec F S3x256 .f32) (g v : FVec F S136x256 .f32) : FVec F S128x256 .bf16 :=
  tile (conv (tapW0 wg) (tapW1 wg) (tapW2 wg) g) (conv (tapW0 wv) (tapW1 wv) (tapW2 wv) v)

variable (m : (ℓ : Loc nD τ sig) → Buf (Elt F) ℓ) (c : Dev nD) (t : Fin cfg0.N)

set_option maxHeartbeats 4000000 in
/-- The block written at a point: every chunk's tile where it lies. -/
theorem tiles (y : (cfg0.win 6).block.Idx) (G : F .bf16)
    (he : ∀ x : S128x256.Idx, (y 0 : ℕ) = x 0 → (y 1 : ℕ) = x 1 →
      emit (iblk m c 4 t) (iblk m c 5 t) (edge (grid0.coords t) (iblk m c 2 t) (iblk m c 0 t))
        (edge (grid0.coords t) (iblk m c 3 t) (iblk m c 1 t)) x = G)
    (hm : ∀ (o : ℕ) (h : o + 136 ≤ 2048) (x : S128x256.Idx), (y 0 : ℕ) = o + 8 + x 0 → (y 1 : ℕ) = x 1 →
      emit (iblk m c 4 t) (iblk m c 5 t) (rows (iblk m c 0 t) o h) (rows (iblk m c 1 t) o h) x = G) :
    (Gen.dats m 0 c).after 6 t y = G := by
  rw [after0_6]; unfold outsAt0; dsimp only; frame_out
  revert he hm
  generalize iblk m c 0 t = b0, iblk m c 1 t = b1, iblk m c 2 t = b2, iblk m c 3 t = b3, iblk m c 4 t = b4,
    iblk m c 5 t = b5, grid0.coords t = i
  intro he hm
  canon_tiles x h
  case piece0 => exact hm 1912 (by decide) x h0 h1
  case piece1 => exact hm 1784 (by decide) x h0 h1
  case piece2 => exact hm 1656 (by decide) x h0 h1
  case piece3 => exact hm 1528 (by decide) x h0 h1
  case piece4 => exact hm 1400 (by decide) x h0 h1
  case piece5 => exact hm 1272 (by decide) x h0 h1
  case piece6 => exact hm 1144 (by decide) x h0 h1
  case piece7 => exact hm 1016 (by decide) x h0 h1
  case piece8 => exact hm 888 (by decide) x h0 h1
  case piece9 => exact hm 760 (by decide) x h0 h1
  case piece10 => exact hm 632 (by decide) x h0 h1
  case piece11 => exact hm 504 (by decide) x h0 h1
  case piece12 => exact hm 376 (by decide) x h0 h1
  case piece13 => exact hm 248 (by decide) x h0 h1
  case piece14 => exact hm 120 (by decide) x h0 h1
  case piece15 => exact he x h0 h1

end Vectors

theorem tapW_at (w : Vec Ideal S3x256 .f32) (l : Fin 256) :
    tapW0 w (ix2 0 l) = w (ix2 0 l) ∧ tapW1 w (ix2 0 l) = w (ix2 1 l) ∧ tapW2 w (ix2 0 l) = w (ix2 2 l) := by
  refine ⟨?_, ?_, ?_⟩
  · pointwise [tapW0]
  · pointwise [tapW1]
  · pointwise [tapW2]

theorem conv_at (w : Vec Ideal S3x256 .f32) (l : Fin 256) (r0 : ℕ) {g : FVec Ideal S136x256 .f32} {G : ℕ → EReal}
    (h : ∀ q : Fin 136, g (ix2 q l) = G (r0 + q)) (a : Fin 128) :
    conv (tapW0 w) (tapW1 w) (tapW2 w) g (ix2 a l) = cv (w (ix2 0 l)) (w (ix2 1 l)) (w (ix2 2 l)) G (r0 + a) := by
  pointwise [conv, scaled, splat]
  rw [(tapW_at w l).1, (tapW_at w l).2.1, (tapW_at w l).2.2]
  simp only [h, cv, Nat.add_comm, Nat.add_left_comm]
  rfl

theorem tile_at (u v : FVec Ideal S128x256 .f32) (i : S128x256.Idx) : tile u v i = gated (u i) (v i) := by
  pointwise [tile, splat]
  rfl

theorem emit_at (wg wv : Vec Ideal S3x256 .f32) (l : Fin 256) (r0 : ℕ) {g v : FVec Ideal S136x256 .f32} {G V : ℕ → EReal}
    (hg : ∀ q : Fin 136, g (ix2 q l) = G (r0 + q)) (hv : ∀ q : Fin 136, v (ix2 q l) = V (r0 + q)) (x : S128x256.Idx)
    {n : ℕ} (h0 : n = r0 + (x 0 : ℕ)) (h1 : (l : ℕ) = x 1) :
    emit wg wv g v x = gated (cv (wg (ix2 0 l)) (wg (ix2 1 l)) (wg (ix2 2 l)) G n)
      (cv (wv (ix2 0 l)) (wv (ix2 1 l)) (wv (ix2 2 l)) V n) := by
  have e : x = ix2 (x 0) l := by rw [show l = x 1 from Fin.ext h1]; exact (ix2_eta x).symm
  rw [e, h0]
  refine (tile_at _ _ _).trans ?_
  exact congr (congrArg gated (conv_at wg l r0 hg (x 0))) (conv_at wv l r0 hv (x 0))

theorem rows_at (b : Vec Ideal S2048x256 .f32) (o : ℕ) (h : o + 136 ≤ 2048) (q : Fin 136) (l : Fin 256) :
    rows b o h (ix2 q l) = col (fun p l => b (ix2 p l)) l (o + 8 + q) := by
  pointwise [rows]
  rw [col, dif_pos ⟨by omega, by omega⟩]
  congr 2; ext; show o + (q : ℕ) = o + 8 + q - 8; omega

theorem first_eq (i : grid0.Coords) : isFirst i = 1#1 := by
  have h : (i 1).val < 1 := (i 1).isLt
  have e : (i 1).val = 0 := by omega
  rw [isFirst, e]; rfl

theorem edge_at (i : grid0.Coords) (p : Vec Ideal S8x256 .f32) (b : Vec Ideal S2048x256 .f32) (q : Fin 136) (l : Fin 256) :
    edge i p b (ix2 q l) = col (fun p l => b (ix2 p l)) l (0 + q) := by
  pointwise [edge, first_eq]
  by_cases h : (q : ℕ) < 8
  · rw [dif_pos h, col, dif_neg (by omega)]
  · rw [dif_neg h, col, dif_pos ⟨by omega, by omega⟩]

/-- The convolved activation at an entry. -/
def up (x : FVec Ideal S2048x5632 .f32) (w : FVec Ideal S3x5632 .f32) (p : ℕ) (n : Fin 5632) : EReal :=
  cv (w (ix2 0 n)) (w (ix2 1 n)) (w (ix2 2 n)) (col (fun p n => x (ix2 p n)) n) p

def gateCol (n : Fin 2816) : Fin 5632 := ⟨n, by omega⟩
def valCol (n : Fin 2816) : Fin 5632 := ⟨n + 2816, by omega⟩

/-- The result: the gate half with its logistic function times the value half. -/
def act (x : FVec Ideal S2048x5632 .f32) (w : FVec Ideal S3x5632 .f32) : FVec Ideal S2048x2816 .bf16 :=
  fun i => gated (up x w (i 0 : ℕ) (gateCol (i 1))) (up x w (i 0 : ℕ) (valCol (i 1)))

theorem idx : ∀ t : Fin cfg0.N, win0_0.index t = ![0, t.val] ∧ win0_1.index t = ![0, 11 + t.val]
    ∧ win0_4.index t = ![0, t.val] ∧ win0_5.index t = ![0, 11 + t.val] ∧ win0_6.index t = ![0, t.val] ∧ t.val < 11 :=
  (by decide +kernel : ∀ t : Fin grid0.N, _)

variable (m : (ℓ : Loc nD τ sig) → Buf (Elt Ideal) ℓ) (c : Dev nD) (t : Fin cfg0.N)

def argX : FVec Ideal S2048x5632 .f32 := m ((c.tc : Thread nD τ).loc main_arg0)
def argW : FVec Ideal S3x5632 .f32 := m ((c.tc : Thread nD τ).loc main_arg1)

theorem lt11 : t.val < 11 := (idx t).2.2.2.2.2

/-- The array's column under lane `l` of point `t`. -/
def lane (l : Fin 256) : Fin 2816 := ⟨256 * t.val + l, by have := lt11 t; omega⟩

theorem read_g (p : Fin 2048) (l : Fin 256) :
    (show FVec Ideal S2048x256 .f32 from iblk m c 0 t) (ix2 p l) = argX m c (ix2 p (gateCol (lane t l))) := by
  have := lt11 t
  show iblk m c 0 t (ix2 p l) = m ((c.tc : Thread nD τ).loc main_arg0) (ix2 p ⟨256 * t.val + l, by omega⟩)
  blk_ext [iblk, V, idx t]

theorem read_v (p : Fin 2048) (l : Fin 256) :
    (show FVec Ideal S2048x256 .f32 from iblk m c 1 t) (ix2 p l) = argX m c (ix2 p (valCol (lane t l))) := by
  have := lt11 t
  show iblk m c 1 t (ix2 p l) = m ((c.tc : Thread nD τ).loc main_arg0) (ix2 p ⟨256 * t.val + l + 2816, by omega⟩)
  blk_ext [iblk, V, idx t]

theorem read_wg (k : Fin 3) (l : Fin 256) :
    (show FVec Ideal S3x256 .f32 from iblk m c 4 t) (ix2 k l) = argW m c (ix2 k (gateCol (lane t l))) := by
  have := lt11 t
  show iblk m c 4 t (ix2 k l) = m ((c.tc : Thread nD τ).loc main_arg1) (ix2 k ⟨256 * t.val + l, by omega⟩)
  blk_ext [iblk, V, idx t]

theorem read_wv (k : Fin 3) (l : Fin 256) :
    (show FVec Ideal S3x256 .f32 from iblk m c 5 t) (ix2 k l) = argW m c (ix2 k (valCol (lane t l))) := by
  have := lt11 t
  show iblk m c 5 t (ix2 k l) = m ((c.tc : Thread nD τ).loc main_arg1) (ix2 k ⟨256 * t.val + l + 2816, by omega⟩)
  blk_ext [iblk, V, idx t]

theorem cv_congr {a a' b b' d d' : EReal} {g g' : ℕ → EReal} {n : ℕ} (h0 : a = a') (h1 : b = b') (h2 : d = d') (hg : g = g') :
    cv a b d g n = cv a' b' d' g' n := by
  subst h0 h1 h2 hg
  rfl

theorem block (y : S2048x256.Idx) : (dats m 0 c).after 6 t y
    = gated (up (argX m c) (argW m c) (y 0 : ℕ) (gateCol (lane t (y 1)))) (up (argX m c) (argW m c) (y 0 : ℕ) (valCol (lane t (y 1)))) := by
  have hg : col (fun p l => (show FVec Ideal S2048x256 .f32 from iblk m c 0 t) (ix2 p l)) (y 1)
      = col (fun p n => argX m c (ix2 p n)) (gateCol (lane t (y 1))) := funext fun p => by
    unfold col
    exact dite_congr rfl (fun h => read_g m c t _ _) (fun _ => rfl)
  have hv : col (fun p l => (show FVec Ideal S2048x256 .f32 from iblk m c 1 t) (ix2 p l)) (y 1)
      = col (fun p n => argX m c (ix2 p n)) (valCol (lane t (y 1))) := funext fun p => by
    unfold col
    exact dite_congr rfl (fun h => read_v m c t _ _) (fun _ => rfl)
  have fin := congr (congrArg gated (cv_congr (n := (y 0 : ℕ)) (read_wg m c t 0 (y 1)) (read_wg m c t 1 (y 1)) (read_wg m c t 2 (y 1)) hg))
    (cv_congr (n := (y 0 : ℕ)) (read_wv m c t 0 (y 1)) (read_wv m c t 1 (y 1)) (read_wv m c t 2 (y 1)) hv)
  refine tiles m c t y _ (fun x h0 h1 => ?_) (fun o h x h0 h1 => ?_)
  · exact (emit_at (iblk m c 4 t) (iblk m c 5 t) (y 1) 0 (fun q => edge_at _ _ _ q (y 1)) (fun q => edge_at _ _ _ q (y 1)) x (by omega) h1).trans fin
  · exact (emit_at (iblk m c 4 t) (iblk m c 5 t) (y 1) (o + 8) (fun q => rows_at _ o h q (y 1)) (fun q => rows_at _ o h q (y 1)) x h0 h1).trans fin

theorem final : (dats m 0 c).arrAt 6 cfg0.N = act (argX m c) (argW m c) := by
  refine (dats m 0 c).arrAt_eq_of_covers 6 _ (by decide +kernel) fun t hf y => ?_
  have e1 : (win0_6.blk t).view.emb y 1 = lane t (y 1) := Fin.ext (by
    blk_simp [idx t]; show t.val * 256 + (y 1 : ℕ) = 256 * t.val + (y 1 : ℕ); omega)
  have e0 : ((win0_6.blk t).view.emb y 0 : ℕ) = (y 0 : ℕ) := by
    blk_simp [idx t]
  refine (block m c t y).trans ?_
  show _ = gated (up _ _ ((win0_6.blk t).view.emb y 0 : ℕ) (gateCol ((win0_6.blk t).view.emb y 1)))
    (up _ _ ((win0_6.blk t).view.emb y 0 : ℕ) (valCol ((win0_6.blk t).view.emb y 1)))
  exact congr (congrArg gated (congr (congrArg _ e0.symm) (congrArg gateCol e1.symm)))
    (congr (congrArg _ e0.symm) (congrArg valCol e1.symm))

end Kernel

section Reference

open Cert.ReferenceActIdeal Cert.ReferenceActIdeal.Gen Cert.ReferenceActIdeal.Value

/-- The activation below two rows of zeros. -/
def padded (x : FVec Ideal S2048x5632 .f32) : FVec Ideal S2050x5632 .f32 :=
  concatenate S2050x5632 0 [⟨S2x5632, (broadcastInDim S2x5632 ![] bcast_S_S2x5632 (constant S_ .f32 0x00000000#32))⟩, ⟨S2048x5632, x⟩] concatenates_S2x5632_S2048x5632_S2050x5632_d0

/-- The convolved activation. -/
def rUp (x : FVec Ideal S2048x5632 .f32) (w : FVec Ideal S3x5632 .f32) : FVec Ideal S2048x5632 .f32 :=
  addf (addf (mulf (broadcastInDim S2048x5632 ![0, 1] bcast_S1x5632_S2048x5632_0_1 (extractStridedSlice S1x5632 ![0, 0] w slices_S3x5632_S1x5632_0_0)) (extractStridedSlice S2048x5632 ![0, 0] (padded x) slices_S2050x5632_S2048x5632_0_0)) (mulf (broadcastInDim S2048x5632 ![0, 1] bcast_S1x5632_S2048x5632_0_1 (extractStridedSlice S1x5632 ![1, 0] w slices_S3x5632_S1x5632_1_0)) (extractStridedSlice S2048x5632 ![1, 0] (padded x) slices_S2050x5632_S2048x5632_1_0))) (mulf (broadcastInDim S2048x5632 ![0, 1] bcast_S1x5632_S2048x5632_0_1 (extractStridedSlice S1x5632 ![2, 0] w slices_S3x5632_S1x5632_2_0)) (extractStridedSlice S2048x5632 ![2, 0] (padded x) slices_S2050x5632_S2048x5632_2_0))

def rGate (u : FVec Ideal S2048x5632 .f32) : FVec Ideal S2048x2816 .f32 := extractStridedSlice S2048x2816 ![0, 0] u slices_S2048x5632_S2048x2816_0_0
def rVal (u : FVec Ideal S2048x5632 .f32) : FVec Ideal S2048x2816 .f32 := extractStridedSlice S2048x2816 ![0, 2816] u slices_S2048x5632_S2048x2816_0_2816
def rOnes : FVec Ideal S2048x2816 .f32 := broadcastInDim S2048x2816 ![] bcast_S_S2048x2816 (constant S_ .f32 0x3F800000#32)

/-- The reference's result. -/
def rAct (x : FVec Ideal S2048x5632 .f32) (w : FVec Ideal S3x5632 .f32) : FVec Ideal S2048x2816 .bf16 :=
  truncf .bf16 (mulf (mulf (rGate (rUp x w)) (Host.divf rOnes (addf rOnes (Host.exp (Host.negf (rGate (rUp x w))))))) (rVal (rUp x w))) bitsLt_bf16_f32

theorem padded_at (x : FVec Ideal S2048x5632 .f32) (q : Fin 2050) (n : Fin 5632) :
    padded x (ix2 q n) = col (fun p n => x (ix2 p n)) n (q + 6) := by
  pointwise [padded]
  unfold col
  by_cases h : (q : ℕ) < 2
  · rw [dif_pos h, dif_neg (by omega)]
  · rw [dif_neg h, dif_pos (by omega)]; congr 1

theorem rUp_at (x : FVec Ideal S2048x5632 .f32) (w : FVec Ideal S3x5632 .f32) (p : Fin 2048) (n : Fin 5632) :
    rUp x w (ix2 p n) = up x w p n := by
  pointwise [rUp]
  rw [padded_at, padded_at, padded_at]
  unfold up cv
  congr 3
  · show col _ _ (1 + (p : ℕ) + 6) = _
    congr 1; omega
  · show 2 + (p : ℕ) + 6 = _
    omega

theorem ref (x : FVec Ideal S2048x5632 .f32) (w : FVec Ideal S3x5632 .f32) : rAct x w = act x w := by
  funext i
  have hg : rGate (rUp x w) i = up x w (i 0 : ℕ) (gateCol (i 1)) := by
    pointwise [rGate]
    exact rUp_at x w (i 0) (gateCol (i 1))
  have hv : rVal (rUp x w) i = up x w (i 0 : ℕ) (valCol (i 1)) := by
    pointwise [rVal]
    have e : (⟨2816 + (i 1 : ℕ), by have h : (i 1 : ℕ) < 2816 := (i 1).isLt; omega⟩ : Fin 5632) = valCol (i 1) := Fin.ext (Nat.add_comm _ _)
    exact (congrArg (fun n => rUp x w (ix2 (i 0) n)) e).trans (rUp_at x w (i 0) (valCol (i 1)))
  pointwise [rAct, rOnes]
  rw [hg, hv]
  show _ * lg _ * _ = _ * sg _ * _
  rw [sg_eq_lg]

/-- The result of the reference as its run states it. -/
theorem res (m : (ℓ : Loc nD τ sig) → Buf (Elt Ideal) ℓ) (c : Dev nD) : res_out0 m c
    = rAct (m ((c.tc : Thread nD τ).loc main_arg0)) (m ((c.tc : Thread nD τ).loc main_arg1)) := by
  rfl

end Reference

end Cert.Proof.Act
-- ==== Proof.Loss.lean ====
module

public import proofs.«01_k».proof.Proof.Gen.KernelLossIdeal.Value
public import proofs.«01_k».proof.Proof.Gen.ReferenceLossIdeal.Run
public import proofs.«01_k».proof.Proof.Back
public import Idealize.ShloMosaic.Lib.Pipeline.ReadBack
public import Idealize.ShloMosaic.Lib.Pointwise
public import Idealize.ShloMosaic.Lib.Pipeline.ValueKit

@[expose] public section

set_option maxRecDepth 16384
set_option synthInstance.maxSize 4096

noncomputable section

/-! # The loss, its gradient at the last activation, and the gradient of the last norm's weights -/

namespace Cert.Proof.Loss

open Idealize.ShloMosaic Idealize.SL.Sem

theorem two_eq : Ideal.ofBits .f32 0x40000000#32 = ((2 : ℝ) : EReal) := by
  simp [Ideal.ofBits, Ideal.ieee]
  rw [← EReal.coe_mul]
  norm_num

theorem half_eq : Ideal.ofBits .f32 0x3F000000#32 = ((1 / 2 : ℝ) : EReal) := by
  simp [Ideal.ofBits, Ideal.ieee]
  rw [← EReal.coe_mul]
  norm_num

theorem mean_eq : Ideal.ofBits .f32 0x3A800000#32 = ((1 / 1024 : ℝ) : EReal) := by
  simp [Ideal.ofBits, Ideal.ieee]
  rw [← EReal.coe_mul]
  norm_num

theorem halfMean_eq : Ideal.ofBits .f32 0x3A000000#32 = ((1 / 2048 : ℝ) : EReal) := by
  simp [Ideal.ofBits, Ideal.ieee]
  rw [← EReal.coe_mul]
  norm_num

/-- A factor over a sum of terms that are not negative. -/
theorem sum_mul {n : ℕ} (f : Fin n → EReal) (h : ∀ k, 0 ≤ f k) (a : EReal) : (∑ k, f k) * a = ∑ k, f k * a := by
  induction n with
  | zero => simp
  | succ n ih =>
    rw [Fin.sum_univ_castSucc, Fin.sum_univ_castSucc,
      EReal.right_distrib_of_nonneg (Finset.sum_nonneg fun k _ => h _) (h _), ih _ fun k => h _]

/-- The reference's factor of the difference is the kernel's. -/
theorem factor_eq (d : EReal) : Ideal.div (Ideal.ofBits .f32 0x3F000000#32) (Ideal.ofBits .f32 0x44800000#32)
    * (Ideal.ofBits .f32 0x40000000#32 * d) = d * Ideal.ofBits .f32 0x3A800000#32 := by
  rw [half_eq, two_eq, width_eq, mean_eq, Ideal.div_coe (by norm_num), ← mul_assoc, ← EReal.coe_mul, ← EReal.coe_mul, mul_comm]
  norm_num

/-- The difference of an entry of the normalised row from its target. -/
def diff (x g y : Fin 1024 → EReal) (k : Fin 1024) : EReal := rowNorm x g k - y k

/-- The loss's gradient at the normalised entry. -/
def cot (x g y : Fin 1024 → EReal) (k : Fin 1024) : EReal := diff x g y k * Ideal.ofBits .f32 0x3A800000#32

/-- A row's sum of squared differences. -/
def sq (x g y : Fin 1024 → EReal) : EReal := ∑ k, diff x g y k * diff x g y k

theorem sq_nonneg (x g y : Fin 1024 → EReal) : 0 ≤ sq x g y := Finset.sum_nonneg fun _ _ => self_nonneg _

section Kernel

open Cert.KernelLossIdeal Cert.KernelLossIdeal.Gen

/-- A row's part of the loss. -/
def lossTerm (x : FVec Ideal S2048x1024 .f32) (g : FVec Ideal S1x1024 .f32) (y : FVec Ideal S2048x1024 .f32) (p : Fin 2048) : EReal :=
  sq (fun l => x (ix2 p l)) (fun l => g (ix2 0 l)) (fun l => y (ix2 p l)) * Ideal.ofBits .f32 0x3A000000#32

def lossSum (x : FVec Ideal S2048x1024 .f32) (g : FVec Ideal S1x1024 .f32) (y : FVec Ideal S2048x1024 .f32) : EReal :=
  ∑ p : Fin 2048, lossTerm x g y p

/-- The first result: the loss in every entry. -/
def loss (x : FVec Ideal S2048x1024 .f32) (g : FVec Ideal S1x1024 .f32) (y : FVec Ideal S2048x1024 .f32) : FVec Ideal S8x128 .f32 :=
  fun _ => lossSum x g y

/-- The second result: the gradient of the activation. -/
def dx (x : FVec Ideal S2048x1024 .f32) (g : FVec Ideal S1x1024 .f32) (y : FVec Ideal S2048x1024 .f32) : FVec Ideal S2048x1024 .f32 :=
  fun i => backOne (cot (fun l => x (ix2 (i 0) l)) (fun l => g (ix2 0 l)) (fun l => y (ix2 (i 0) l)))
    (fun l => g (ix2 0 l)) (fun l => x (ix2 (i 0) l)) (i 1)

/-- A row's term of the gradient of the norm's weights. -/
def term (x : FVec Ideal S2048x1024 .f32) (g : FVec Ideal S1x1024 .f32) (y : FVec Ideal S2048x1024 .f32) (k : Fin 1024)
    (p : Fin 2048) : EReal :=
  cot (fun l => x (ix2 p l)) (fun l => g (ix2 0 l)) (fun l => y (ix2 p l)) k * x (ix2 p k) * rowScale (fun l => x (ix2 p l))

def dgRow (x : FVec Ideal S2048x1024 .f32) (g : FVec Ideal S1x1024 .f32) (y : FVec Ideal S2048x1024 .f32) (k : Fin 1024) : EReal :=
  ∑ p : Fin 2048, term x g y k p

/-- The third result: the gradient of the norm's weights. -/
def dg (x : FVec Ideal S2048x1024 .f32) (g : FVec Ideal S1x1024 .f32) (y : FVec Ideal S2048x1024 .f32) : FVec Ideal S1x1024 .f32 :=
  fun i => dgRow x g y (i 1)

theorem zero_row (i : S1x1024.Idx) : k0_pay6 (F := Ideal) i = 0 := by
  pointwise [k0_pay6]

theorem zero_tile (i : S8x128.Idx) : k0_pay7 (F := Ideal) i = 0 := by
  pointwise [k0_pay7]

theorem pay_scale (x : FVec Ideal S512x1024 .f32) (i : S512x1.Idx) :
    k0_pay3 (F := Ideal) x i = rowScale (fun l => x (ix2 (i 0) l)) := by
  pointwise [k0_pay3]
  rfl

theorem pay_diff (x : FVec Ideal S512x1024 .f32) (g : FVec Ideal S1x1024 .f32) (y : FVec Ideal S512x1024 .f32) (i : S512x1024.Idx) :
    k0_pay4 (F := Ideal) x g y i = diff (fun l => x (ix2 (i 0) l)) (fun l => g (ix2 0 l)) (fun l => y (ix2 (i 0) l)) (i 1) := by
  pointwise [k0_pay4]
  simp only [pay_scale, diff, rowNorm, ix2_eta]
  rfl

theorem pay_cot (x : FVec Ideal S512x1024 .f32) (g : FVec Ideal S1x1024 .f32) (y : FVec Ideal S512x1024 .f32) (i : S512x1024.Idx) :
    k0_pay5 (F := Ideal) x g y i = cot (fun l => x (ix2 (i 0) l)) (fun l => g (ix2 0 l)) (fun l => y (ix2 (i 0) l)) (i 1) := by
  pointwise [k0_pay5]
  rw [pay_diff]
  rfl

theorem pay_dx (x : FVec Ideal S512x1024 .f32) (g : FVec Ideal S1x1024 .f32) (y : FVec Ideal S512x1024 .f32) (i : S512x1024.Idx) :
    k0_pay1 (F := Ideal) x (k0_pay3 x) (k0_pay9 x g y) (k0_pay10 x) i
      = backOne (cot (fun l => x (ix2 (i 0) l)) (fun l => g (ix2 0 l)) (fun l => y (ix2 (i 0) l))) (fun l => g (ix2 0 l))
        (fun l => x (ix2 (i 0) l)) (i 1) := by
  pointwise [k0_pay1, k0_pay9, k0_pay10]
  simp only [backOne, pay_scale, pay_cot, ix2_eta]
  rfl

theorem pay_dg (x : FVec Ideal S512x1024 .f32) (s : FVec Ideal S512x1 .f32) (h : FVec Ideal S512x1024 .f32) (a : FVec Ideal S1x1024 .f32)
    (i : S1x1024.Idx) :
    k0_pay2 (F := Ideal) x s h a i = a i + ∑ p : Fin 512, h (ix2 p (i 1)) * x (ix2 p (i 1)) * s (ix2 p 0) := by
  pointwise [k0_pay2]

theorem pay_loss (x : FVec Ideal S512x1024 .f32) (g : FVec Ideal S1x1024 .f32) (y : FVec Ideal S512x1024 .f32) (a : FVec Ideal S8x128 .f32)
    (i : S8x128.Idx) :
    k0_pay8 (F := Ideal) x g y a i = a i + ∑ p : Fin 512, sq (fun l => x (ix2 p l)) (fun l => g (ix2 0 l)) (fun l => y (ix2 p l))
      * Ideal.ofBits .f32 0x3A000000#32 := by
  rw [← sum_mul _ fun p => sq_nonneg _ _ _]
  pointwise [k0_pay8]
  simp only [pay_diff, sq]
  rfl

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ t.val < 4 :=
  (by decide +kernel : ∀ t : Fin grid0.N, _)

variable (m : (ℓ : Loc nD τ sig) → Buf (Elt Ideal) ℓ) (c : Dev nD)

def argX : FVec Ideal S2048x1024 .f32 := m ((c.tc : Thread nD τ).loc main_arg0)
def argG : FVec Ideal S1x1024 .f32 := m ((c.tc : Thread nD τ).loc main_arg1)
def argY : FVec Ideal S2048x1024 .f32 := m ((c.tc : Thread nD τ).loc main_arg2)

theorem rowX (t : Fin cfg0.N) (q : Fin 512) (p : Fin 2048) (hp : (p : ℕ) = t.val * 512 + (q : ℕ)) (l : Fin 1024) :
    (show FVec Ideal S512x1024 .f32 from iblk m c 0 t) (ix2 q l) = argX m c (ix2 p l) := by
  unfold argX
  blk_ext [iblk, V, idx t]

theorem rowG (t : Fin cfg0.N) (l : Fin 1024) :
    (show FVec Ideal S1x1024 .f32 from iblk m c 1 t) (ix2 0 l) = argG m c (ix2 0 l) := by
  unfold argG
  blk_ext [iblk, V, idx t]

theorem rowY (t : Fin cfg0.N) (q : Fin 512) (p : Fin 2048) (hp : (p : ℕ) = t.val * 512 + (q : ℕ)) (l : Fin 1024) :
    (show FVec Ideal S512x1024 .f32 from iblk m c 2 t) (ix2 q l) = argY m c (ix2 p l) := by
  unfold argY
  blk_ext [iblk, V, idx t]

theorem cot_congr {x x' g g' y y' : Fin 1024 → EReal} (hx : x = x') (hg : g = g') (hy : y = y') : cot x g y = cot x' g' y' := by
  subst hx hg hy
  rfl

theorem sq_congr {x x' g g' y y' : Fin 1024 → EReal} (hx : x = x') (hg : g = g') (hy : y = y') : sq x g y = sq x' g' y' := by
  subst hx hg hy
  rfl

theorem row_lt (t : Fin cfg0.N) (q : Fin 512) : t.val * 512 + q.val < 2048 := by
  have := (idx t).2.2.2.2.2.2
  omega

/-- A tile's rows of the second result. -/
theorem point (t : Fin cfg0.N) (y : S512x1024.Idx) (i : S2048x1024.Idx) (h0 : (i 0 : ℕ) = t.val * 512 + (y 0 : ℕ))
    (h1 : (i 1 : ℕ) = (y 1 : ℕ)) :
    k0_pay1 (F := Ideal) (iblk m c 0 t) (k0_pay3 (iblk m c 0 t)) (k0_pay9 (iblk m c 0 t) (iblk m c 1 t) (iblk m c 2 t))
      (k0_pay10 (iblk m c 0 t)) y = dx (argX m c) (argG m c) (argY m c) i := by
  have hx := funext (rowX m c t (y 0) (i 0) h0)
  have hg := funext (rowG m c t)
  have hy := funext (rowY m c t (y 0) (i 0) h0)
  refine (pay_dx _ _ _ y).trans ?_
  exact backOne_congr (cot_congr hx hg hy) hg hx (Fin.ext h1.symm)

theorem final_dx : (dats m 0 c).arrAt 4 cfg0.N = dx (argX m c) (argG m c) (argY m c) := by
  refine (dats m 0 c).arrAt_eq_of_covers 4 _ (by decide +kernel) fun t hf y => ?_
  have e0 : ((win0_4.blk t).view.emb y 0 : ℕ) = t.val * 512 + (y 0 : ℕ) := by blk_simp [idx t]
  have e1 : ((win0_4.blk t).view.emb y 1 : ℕ) = (y 1 : ℕ) := by blk_simp [idx t]
  blk_simp
  rw [after0_4]
  by_cases h0 : t.val % 4 = 0
  · rw [outsAt0_A m c t h0]
    frame_out
    exact point m c t y _ e0 e1
  · rw [outsAt0_B m c t h0]
    frame_out
    exact point m c t y _ e0 e1

/-- A tile's term of the third result. -/
def part (t : Fin cfg0.N) (i : S1x1024.Idx) : EReal :=
  ∑ q : Fin 512, term (argX m c) (argG m c) (argY m c) (i 1) ⟨t.val * 512 + q.val, row_lt t q⟩

theorem step_acc (t : Fin cfg0.N) (a : FVec Ideal S1x1024 .f32) (i : S1x1024.Idx) :
    k0_pay2 (F := Ideal) (iblk m c 0 t) (k0_pay3 (iblk m c 0 t)) (k0_pay5 (iblk m c 0 t) (iblk m c 1 t) (iblk m c 2 t)) a i
      = a i + part m c t i := by
  refine (pay_dg _ _ _ _ i).trans (congrArg (a i + ·) (Finset.sum_congr rfl fun q _ => ?_))
  have hx := rowX m c t q ⟨t.val * 512 + q.val, row_lt t q⟩ rfl
  have hy := rowY m c t q ⟨t.val * 512 + q.val, row_lt t q⟩ rfl
  have hs := (pay_scale (iblk m c 0 t) (ix2 q 0)).trans (congrArg rowScale (funext hx))
  have hc := (pay_cot (iblk m c 0 t) (iblk m c 1 t) (iblk m c 2 t) (ix2 q (i 1))).trans
    (congrFun (cot_congr (funext hx) (funext (rowG m c t)) (funext hy)) (i 1))
  exact congr (congrArg _ (congr (congrArg _ hc) (hx (i 1)))) hs

theorem acc_last (t : Fin cfg0.N) (ht : t.val + 1 = cfg0.N) (i : S1x1024.Idx) :
    (outsAt0 m c t.val t.isLt).2.2 i = dg (argX m c) (argG m c) (argY m c) i := by
  refine (Pipeline.eq_sum_fin_of_reset_step_apply_last (fun n h => (outsAt0 m c n h).2.2) 4 (fun _ => 0) (part m c)
    (fun t h i => ?_) (fun t h i => ?_) (le_of_eq N_0) t ht i).trans ?_
  · rw [outsAt0_A m c t h]
    frame_out
    exact (step_acc m c t _ i).trans (congrArg (· + part m c t i) (zero_row i))
  · rw [outsAt0_B m c t h]
    frame_out
    exact step_acc m c t _ i
  · rw [zero_add]
    exact Fin.sum_mul_add_congr fun s k hl => rfl

theorem final_dg : (dats m 0 c).arrAt 5 cfg0.N = dg (argX m c) (argG m c) (argY m c) := by
  refine (dats m 0 c).arrAt_eq_of_covers 5 _ (by decide +kernel) fun t hf y => ?_
  have e1 : (win0_5.blk t).view.emb y 1 = y 1 := Fin.ext (by blk_simp [idx t])
  have ht : t.val + 1 = cfg0.N := by
    have h1 := (flush0_5 t).mp hf
    have h2 : cfg0.N = 4 := N_0
    have h3 := t.isLt
    omega
  blk_simp
  rw [after0_5, acc_last m c t ht]
  exact congrArg (dgRow _ _ _) e1.symm

/-- A tile's part of the loss. -/
def lossPart (t : Fin cfg0.N) (_i : S8x128.Idx) : EReal :=
  ∑ q : Fin 512, lossTerm (argX m c) (argG m c) (argY m c) ⟨t.val * 512 + q.val, row_lt t q⟩

theorem step_loss (t : Fin cfg0.N) (a : FVec Ideal S8x128 .f32) (i : S8x128.Idx) :
    k0_pay8 (F := Ideal) (iblk m c 0 t) (iblk m c 1 t) (iblk m c 2 t) a i = a i + lossPart m c t i := by
  refine (pay_loss _ _ _ _ i).trans (congrArg (a i + ·) (Finset.sum_congr rfl fun q _ => ?_))
  have hx := rowX m c t q ⟨t.val * 512 + q.val, row_lt t q⟩ rfl
  have hy := rowY m c t q ⟨t.val * 512 + q.val, row_lt t q⟩ rfl
  exact congrArg (· * Ideal.ofBits .f32 0x3A000000#32) (sq_congr (funext hx) (funext (rowG m c t)) (funext hy))

theorem loss_last (t : Fin cfg0.N) (ht : t.val + 1 = cfg0.N) (i : S8x128.Idx) :
    (outsAt0 m c t.val t.isLt).1 i = lossSum (argX m c) (argG m c) (argY m c) := by
  refine (Pipeline.eq_sum_fin_of_reset_step_apply_last (fun n h => (outsAt0 m c n h).1) 4 (fun _ => 0) (lossPart m c)
    (fun t h i => ?_) (fun t h i => ?_) (le_of_eq N_0) t ht i).trans ?_
  · rw [outsAt0_A m c t h]
    frame_out
    exact (step_loss m c t _ i).trans (congrArg (· + lossPart m c t i) (zero_tile i))
  · rw [outsAt0_B m c t h]
    frame_out
    exact step_loss m c t _ i
  · rw [zero_add]
    exact Fin.sum_mul_add_congr fun s k hl => rfl

theorem final_loss : (dats m 0 c).arrAt 3 cfg0.N = loss (argX m c) (argG m c) (argY m c) := by
  refine (dats m 0 c).arrAt_eq_of_covers 3 _ (by decide +kernel) fun t hf y => ?_
  have ht : t.val + 1 = cfg0.N := by
    have h1 := (flush0_3 t).mp hf
    have h2 : cfg0.N = 4 := N_0
    have h3 := t.isLt
    omega
  blk_simp
  rw [after0_3, loss_last m c t ht]
  rfl

end Kernel

section Reference

open Cert.ReferenceLossIdeal Cert.ReferenceLossIdeal.Gen Cert.ReferenceLossIdeal.Value

/-- The mean squares of the rows with the small constant added. -/
def rMs (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

theorem rMs_at (x : FVec Ideal S2048x1024 .f32) (i : S2048x1.Idx) : rMs x i = meanSq (fun l => x (ix2 (i 0) l)) := by
  pointwise [rMs]
  rfl

/-- The difference of the normalised rows from the target. -/
def rDiff (x : FVec Ideal S2048x1024 .f32) (g : FVec Ideal S1x1024 .f32) (y : FVec Ideal S2048x1024 .f32) : FVec Ideal S2048x1024 .f32 :=
  subf (mulf (mulf x (broadcastInDim S2048x1024 ![0, 1] bcast_S2048x1_S2048x1024_0_1 (Host.rsqrt (rMs x)))) (broadcastInDim S2048x1024 ![0, 1] bcast_S1x1024_S2048x1024_0_1 g)) y

theorem rDiff_at (x y : FVec Ideal S2048x1024 .f32) (g : FVec Ideal S1x1024 .f32) (i : S2048x1024.Idx) :
    rDiff x g y i = diff (fun l => x (ix2 (i 0) l)) (fun l => g (ix2 0 l)) (fun l => y (ix2 (i 0) l)) (i 1) := by
  pointwise [rDiff]
  simp only [rMs_at, diff, rowNorm, ix2_eta]
  rfl

/-- The loss's gradient at the normalised rows. -/
def rCot (x : FVec Ideal S2048x1024 .f32) (g : FVec Ideal S1x1024 .f32) (y : FVec Ideal S2048x1024 .f32) : FVec Ideal S2048x1024 .f32 :=
  mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (rDiff x g y))

theorem rCot_at (x y : FVec Ideal S2048x1024 .f32) (g : FVec Ideal S1x1024 .f32) (i : S2048x1024.Idx) :
    rCot x g y i = cot (fun l => x (ix2 (i 0) l)) (fun l => g (ix2 0 l)) (fun l => y (ix2 (i 0) l)) (i 1) := by
  pointwise [rCot]
  rw [rDiff_at]
  exact factor_eq _

/-- What flows back through the mean squares. -/
def rMean (h : FVec Ideal S2048x1024 .f32) (x : FVec Ideal S2048x1024 .f32) (g : FVec Ideal S1x1024 .f32) : FVec Ideal S2048x1024 .f32 :=
  broadcastInDim S2048x1024 ![0] bcast_S2048_S2048x1024_0 (Host.reduceAdd (Host.divf (mulf (shapeCast S2048x1 (Host.reduceAdd (mulf x (mulf h (broadcastInDim S2048x1024 ![0, 1] bcast_S1x1024_S2048x1024_0_1 g))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (rMs x)) (rMs x)))) (broadcastInDim S2048x1 ![] bcast_S_S2048x1 (constant S_ .f32 0x44800000#32))) (constant S_ .f32 0x00000000#32) reducesTo_S2048x1_S2048_d1 h_S_)

theorem rMean_at (h x : FVec Ideal S2048x1024 .f32) (g : FVec Ideal S1x1024 .f32) (i : S2048x1024.Idx) :
    rMean h x g i = backMean (fun l => h (ix2 (i 0) l)) (fun l => g (ix2 0 l)) (fun l => x (ix2 (i 0) l)) := by
  pointwise [rMean]
  simp only [rMs_at, backMean]
  exact (Fin.sum_univ_one _).trans rfl

/-- The reference's second result, of the gradient at the normalised rows. -/
def rDx (h x : FVec Ideal S2048x1024 .f32) (g : FVec Ideal S1x1024 .f32) : FVec Ideal S2048x1024 .f32 :=
  addf (addf (mulf (mulf h (broadcastInDim S2048x1024 ![0, 1] bcast_S1x1024_S2048x1024_0_1 g)) (broadcastInDim S2048x1024 ![0, 1] bcast_S2048x1_S2048x1024_0_1 (Host.rsqrt (rMs x)))) (mulf x (rMean h x g))) (mulf (rMean h x g) x)

theorem rDx_at (h x : FVec Ideal S2048x1024 .f32) (g : FVec Ideal S1x1024 .f32) (i : S2048x1024.Idx) :
    rDx h x g i = backTwo (fun l => h (ix2 (i 0) l)) (fun l => g (ix2 0 l)) (fun l => x (ix2 (i 0) l)) (i 1) := by
  pointwise [rDx]
  simp only [rMs_at, rMean_at, backTwo, ix2_eta]
  rfl

theorem ref_dx (x : FVec Ideal S2048x1024 .f32) (g : FVec Ideal S1x1024 .f32) (y : FVec Ideal S2048x1024 .f32) :
    rDx (rCot x g y) x g = dx x g y := by
  funext i
  rw [rDx_at]
  refine Eq.trans ?_ (back_eq _ _ _ (i 1)).symm
  simp only [rCot_at]
  rfl

/-- The reference's third result. -/
def rDg (h x : FVec Ideal S2048x1024 .f32) : FVec Ideal S1x1024 .f32 :=
  shapeCast S1x1024 (Host.reduceAdd (mulf (mulf x (broadcastInDim S2048x1024 ![0, 1] bcast_S2048x1_S2048x1024_0_1 (Host.rsqrt (rMs x)))) h) (constant S_ .f32 0x00000000#32) reducesTo_S2048x1024_S1024_d0 h_S_) shapeCasts_S1024_S1x1024

theorem ref_dg (x : FVec Ideal S2048x1024 .f32) (g : FVec Ideal S1x1024 .f32) (y : FVec Ideal S2048x1024 .f32) :
    rDg (rCot x g y) x = dg x g y := by
  funext i
  pointwise [rDg]
  simp only [rMs_at, rCot_at, dg, dgRow, term]
  refine Finset.sum_congr rfl fun p _ => ?_
  exact (mul_comm _ _).trans (mul_assoc _ _ _).symm

/-- The reference's first result. -/
def rLoss (d : FVec Ideal S2048x1024 .f32) : FVec Ideal S8x128 .f32 :=
  broadcastInDim S8x128 ![] bcast_S_S8x128 (mulf (constant S_ .f32 0x3F000000#32) (Host.reduceAdd (Host.divf (Host.reduceAdd (mulf d d) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_))

theorem half_mean (s : Fin 2048 → EReal) (h : ∀ p, 0 ≤ s p) :
    Ideal.ofBits .f32 0x3F000000#32 * ∑ p, Ideal.div (s p) (Ideal.ofBits .f32 0x44800000#32)
      = ∑ p, s p * Ideal.ofBits .f32 0x3A000000#32 := by
  rw [half_eq, width_eq, halfMean_eq]
  simp only [Ideal.div_coe (show (1024 : ℝ) ≠ 0 by norm_num)]
  rw [← sum_mul s h, ← sum_mul s h, mul_comm, mul_assoc, ← EReal.coe_mul]
  norm_num

theorem ref_loss (x : FVec Ideal S2048x1024 .f32) (g : FVec Ideal S1x1024 .f32) (y : FVec Ideal S2048x1024 .f32) :
    rLoss (rDiff x g y) = loss x g y := by
  funext i
  refine Eq.trans ?_ (half_mean (fun p => sq (fun l => x (ix2 p l)) (fun l => g (ix2 0 l)) (fun l => y (ix2 p l))) fun p => sq_nonneg _ _ _)
  pointwise [rLoss]
  simp only [rDiff_at, sq]
  rfl

/-- The second result of the reference as its run states it. -/
theorem res_dx (m : (ℓ : Loc nD τ sig) → Buf (Elt Ideal) ℓ) (c : Dev nD) : res_out1 m c
    = rDx (rCot (m ((c.tc : Thread nD τ).loc main_arg0)) (m ((c.tc : Thread nD τ).loc main_arg1)) (m ((c.tc : Thread nD τ).loc main_arg2))) (m ((c.tc : Thread nD τ).loc main_arg0)) (m ((c.tc : Thread nD τ).loc main_arg1)) := by
  rfl

end Reference

end Cert.Proof.Loss
-- ==== Proof.Mix.lean ====
module

public import proofs.«01_k».proof.Proof.Gen.KernelMixIdeal.Value
public import proofs.«01_k».proof.Proof.Act
public import Idealize.ShloMosaic.Lib.Pipeline.ReadBack
public import Idealize.ShloMosaic.Lib.Pointwise
public import Idealize.ShloMosaic.Lib.Pipeline.ValueKit

@[expose] public section

set_option maxRecDepth 16384
set_option synthInstance.maxSize 4096

noncomputable section

/-! # The token mixer's convolutions: what the body leaves at a point -/

namespace Cert.Proof.Mix

open Idealize.ShloMosaic Idealize.SL.Sem
open Cert.Proof.Chunk (cv sg)

section Rects

variable {s : Shape} {e : EltTy}

/-- Under the last store, the contents are its payload. -/
theorem canon_in (r : Rect s) (w : r.shape.Idx → Elt Ideal e) (L : List (View.Piece (Elt Ideal) s e)) (x : r.shape.Idx) {y : s.Idx}
    (h : r.emb x = y) : View.canon (⟨r, w⟩ :: L) y = w x := by
  rw [← h]; exact View.canon_cons_emb r w L x

/-- Off the last store, the contents are those before it. -/
theorem canon_out {off size : Fin s.rank → ℕ} (inb : ∀ a, off a + size a ≤ s.size a)
    (w : (Rect.unit off size inb).shape.Idx → Elt Ideal e) (L : List (View.Piece (Elt Ideal) s e)) {y : s.Idx} (a : Fin s.rank)
    (h : (y a : ℕ) < off a ∨ off a + size a ≤ (y a : ℕ)) :
    View.canon (⟨Rect.unit off size inb, w⟩ :: L) y = View.canon L y := by
  refine View.canon_cons_of_not_mem _ _ fun hm => ?_
  have h1 : off a ≤ (y a : ℕ) ∧ (y a : ℕ) < off a + size a := (Rect.mem_set_unit (inb := inb)).mp hm a
  omega

theorem emb_unit {off size : Fin s.rank → ℕ} (inb : ∀ a, off a + size a ≤ s.size a) (x : (Rect.unit off size inb).shape.Idx) (y : s.Idx)
    (h : ∀ a, (y a : ℕ) = off a + (x a : ℕ)) : (Rect.unit off size inb).emb x = y := by
  funext a
  refine Fin.ext ((Rect.idx_unit_val off size inb x a).trans (h a).symm)

end Rects

open Cert.KernelMixIdeal Cert.KernelMixIdeal.Gen

/-- Rows of the gated values: thirty-two before the block, then the block. -/
def row (b : BitVec 1) (x3 x4 : Vec Ideal S512x256 .f32) (x7 x8 : Vec Ideal S32x256 .f32) (l : Fin 256) (p : ℕ) : EReal :=
  if h : p < 32 then k0_pay6 b x7 x8 (ix3 0 ⟨p, h⟩ l)
  else if h' : p < 544 then k0_pay8 (k0_pay7 x3 x4) (ix3 0 ⟨p - 32, by omega⟩ l) else 0

/-- The scratch's planes up to `k` hold the rows, plane `r` from row `r` on. -/
def Good (G : Fin 256 → ℕ → EReal) (k : ℕ) (L : List (View.Piece (Elt Ideal) S8x544x256 .f32)) : Prop :=
  ∀ (r : Fin 8) (p : Fin 544) (l : Fin 256), (r : ℕ) ≤ k → ((r : ℕ) = 0 ∨ (p : ℕ) < 536) → View.canon L (ix3 r p l) = G l (r + p)

variable (c : Dev nD) (i : grid0.Coords)
  (arg1 : Memref sig .tc .vmem S512x256 .f32) (harg1 : arg1.IsWhole) (arg2 : Memref sig .tc .vmem S512x256 .f32) (harg2 : arg2.IsWhole)
  (arg3 : Memref sig .tc .vmem S512x256 .f32) (harg3 : arg3.IsWhole) (arg4 : Memref sig .tc .vmem S512x256 .f32) (harg4 : arg4.IsWhole)
  (arg5 : Memref sig .tc .vmem S512x256 .f32) (harg5 : arg5.IsWhole) (arg6 : Memref sig .tc .vmem S32x256 .f32) (harg6 : arg6.IsWhole)
  (arg7 : Memref sig .tc .vmem S32x256 .f32) (harg7 : arg7.IsWhole) (arg8 : Memref sig .tc .vmem S32x256 .f32) (harg8 : arg8.IsWhole)
  (arg9 : Memref sig .tc .vmem S32x256 .f32) (harg9 : arg9.IsWhole) (arg11 : Memref sig .tc .vmem S3x256 .f32) (harg11 : arg11.IsWhole)
  (arg12 : Memref sig .tc .vmem S31x256 .f32) (harg12 : arg12.IsWhole) (arg13 : Memref sig .tc .vmem S1x256 .f32) (harg13 : arg13.IsWhole)
  (arg19 : Memref sig .tc .vmem S544x256 .f32) (arg20 : Memref sig .tc .vmem S8x544x256 .f32)
  (x0 x1 x2 x3 x4 : Vec Ideal S512x256 .f32) (x5 x6 x7 x8 : Vec Ideal S32x256 .f32) (x10 : Vec Ideal S3x256 .f32)
  (x11 : Vec Ideal S31x256 .f32) (x12 : Vec Ideal S1x256 .f32)

theorem good0 : Good (row (kernelRun0_A.sl.v0 i) x3 x4 x7 x8) 0
    (kernelRun0_A.sl.HS1_2 c i arg4 harg4 arg5 harg5 arg8 harg8 arg9 harg9 x3 x4 x7 x8) := by
  intro r p l hr _
  unfold kernelRun0_A.sl.HS1_2 kernelRun0_A.sl.r_3
  rw [View.readAt_eq_ld, View.readAt_eq_ld, View.readAt_eq_ld, View.readAt_eq_ld, harg4.read_unread, harg5.read_unread, harg8.read_unread,
    harg9.read_unread]
  simp (disch := decide) only [View.ld_unit_lit']
  have e : (r : ℕ) = 0 := by omega
  by_cases h : (p : ℕ) < 32
  · refine (canon_out _ _ _ (1 : Fin 3) (Or.inl h)).trans ?_
    refine (canon_in _ _ _ (ix3 0 ⟨p, h⟩ l) (emb_unit _ _ _ fun a => ?_)).trans ?_
    · fin_cases a
      · exact e
      · exact (Nat.zero_add _).symm
      · exact (Nat.zero_add _).symm
    · unfold row
      rw [e, dif_pos (by omega)]
      congr 2; simp
  · refine (canon_in _ _ _ (ix3 0 ⟨p - 32, by omega⟩ l) (emb_unit _ _ _ fun a => ?_)).trans ?_
    · fin_cases a
      · exact e
      · show (p : ℕ) = 32 + (p - 32); omega
      · exact (Nat.zero_add _).symm
    · unfold row
      rw [e, dif_neg (by omega), dif_pos (by omega)]
      congr 2; simp

/-- One more plane filled from plane zero. -/
theorem step {G : Fin 256 → ℕ → EReal} {k : ℕ} {L : List (View.Piece (Elt Ideal) S8x544x256 .f32)} (h : Good G k L) (hk : k + 1 ≤ 7)
    (v : View sig .tc .vmem S8x544x256 .f32) (i0 i1) (f : Vec Ideal S1x536x256 .f32 → Vec Ideal S1x536x256 .f32) (hf : ∀ w y, f w y = w y) :
    Good G (k + 1) (⟨Rect.unit ![k + 1, 0, 0] S1x536x256.size i1,
      f (v.readCov L (Rect.unit (s := S8x544x256) ![0, k + 1, 0] S1x536x256.size i0).toLoadRect)⟩ :: L) := by
  intro r p l hr hp
  by_cases e : (r : ℕ) = k + 1
  · refine (canon_in _ _ _ (ix3 0 ⟨p, by omega⟩ l) (emb_unit _ _ _ fun a => ?_)).trans ?_
    · fin_cases a
      · exact e
      · exact (Nat.zero_add _).symm
      · exact (Nat.zero_add _).symm
    · rw [hf, View.readCov_eq_canon']
      refine Eq.trans (congrArg (View.canon L) (?_ : _ = ix3 0 ⟨k + 1 + p, by omega⟩ l)) ((h 0 ⟨k + 1 + p, by omega⟩ l (Nat.zero_le _) (Or.inl rfl)).trans ?_)
      · refine funext fun a => Fin.ext ((Rect.idx_unit_val _ _ _ _ a).trans ?_)
        fin_cases a
        · rfl
        · rfl
        · exact Nat.zero_add _
      · show G l (0 + (k + 1 + p)) = G l (r + p)
        rw [e, Nat.zero_add]
  · refine (canon_out _ _ _ (0 : Fin 3) ?_).trans (h r p l (by omega) hp)
    left
    show (r : ℕ) < k + 1
    omega

theorem good7 : Good (row (kernelRun0_A.sl.v0 i) x3 x4 x7 x8) 7
    (kernelRun0_A.sl.HS1_9 c i arg4 harg4 arg5 harg5 arg8 harg8 arg9 harg9 arg20 x3 x4 x7 x8) := by
  have h0 := good0 c i arg4 harg4 arg5 harg5 arg8 harg8 arg9 harg9 x3 x4 x7 x8
  have h1 := step h0 (by decide) arg20.view inb_S8x544x256_S1x536x256_0_1_0 inb_S8x544x256_S1x536x256_1_0_0 k0_pay9 fun w y => by
    pointwise [k0_pay9]
  have h2 := step h1 (by decide) arg20.view inb_S8x544x256_S1x536x256_0_2_0 inb_S8x544x256_S1x536x256_2_0_0 k0_pay10 fun w y => by
    pointwise [k0_pay10]
  have h3 := step h2 (by decide) arg20.view inb_S8x544x256_S1x536x256_0_3_0 inb_S8x544x256_S1x536x256_3_0_0 k0_pay11 fun w y => by
    pointwise [k0_pay11]
  have h4 := step h3 (by decide) arg20.view inb_S8x544x256_S1x536x256_0_4_0 inb_S8x544x256_S1x536x256_4_0_0 k0_pay12 fun w y => by
    pointwise [k0_pay12]
  have h5 := step h4 (by decide) arg20.view inb_S8x544x256_S1x536x256_0_5_0 inb_S8x544x256_S1x536x256_5_0_0 (fun w => k0_pay14 (k0_pay13 w)) fun w y => by
    pointwise [k0_pay13, k0_pay14]
  have h6 := step h5 (by decide) arg20.view inb_S8x544x256_S1x536x256_0_6_0 inb_S8x544x256_S1x536x256_6_0_0 k0_pay15 fun w y => by
    pointwise [k0_pay15]
  have h7 := step h6 (by decide) arg20.view inb_S8x544x256_S1x536x256_0_7_0 inb_S8x544x256_S1x536x256_7_0_0 k0_pay16 fun w y => by
    pointwise [k0_pay16]
  exact h7

/-- A load of a window of the rows. -/
theorem window {L : List (View.Piece (Elt Ideal) S8x544x256 .f32)} {G : Fin 256 → ℕ → EReal} (h : Good G 7 L)
    (v : View sig .tc .vmem S8x544x256 .f32) (r o : ℕ) (i0) (hr : r < 8) (ho : o + 512 ≤ 544) (hro : r = 0 ∨ o + 512 ≤ 536) (q : Fin 512) (l : Fin 256) :
    (show Vec Ideal S1x512x256 .f32 from v.readCov L (Rect.unit (s := S8x544x256) ![r, o, 0] S1x512x256.size i0).toLoadRect) (ix3 0 q l) = G l (r + o + q) := by
  rw [View.readCov_eq_canon']
  refine Eq.trans (congrArg (View.canon L) (?_ : _ = ix3 ⟨r, hr⟩ ⟨o + q, by omega⟩ l))
    ((h ⟨r, hr⟩ ⟨o + q, by omega⟩ l (Nat.le_of_lt_succ hr) ?_).trans (congrArg (G l) (Nat.add_assoc _ _ _).symm))
  · refine funext fun a => Fin.ext ((Rect.idx_unit_val _ _ _ _ a).trans ?_)
    fin_cases a
    · rfl
    · rfl
    · exact Nat.zero_add _
  · show r = 0 ∨ o + (q : ℕ) < 536
    omega

/-- A row of the long weights. -/
theorem tap (harg : arg12.IsWhole) (k : Fin 31) (i0) (l : Fin 256) :
    (show Vec Ideal S1x256 .f32 from View.readAt (Elt Ideal) arg12.view (Rect.unit (s := S31x256) ![(k : ℕ), 0] S1x256.size i0).toLoadRect (harg.unread x11)) (ix2 0 l)
      = x11 (ix2 k l) := by
  rw [View.readAt_eq_ld, harg.read_unread]
  refine View.ld_unit_apply_of _ _ _ _ _ _ fun a => ?_
  fin_cases a
  · rfl
  · exact (Nat.zero_add _).symm

section Payloads

variable {q : Fin 512} {l : Fin 256}

theorem pay17_at {b : Vec Ideal S1x256 .f32} {B : EReal} {w0 w1 : Vec Ideal S1x256 .f32} {x0 x1 : Vec Ideal S1x512x256 .f32} {W0 X0 W1 X1 : EReal}
    (hb : b (ix2 0 l) = B) (hw0 : w0 (ix2 0 l) = W0) (hx0 : x0 (ix3 0 q l) = X0) (hw1 : w1 (ix2 0 l) = W1) (hx1 : x1 (ix3 0 q l) = X1) :
    k0_pay17 b w0 x0 w1 x1 (ix2 q l) = 0 + B + W0 * X0 + W1 * X1 := by
  pointwise [k0_pay17]
  rw [hb, hw0, hx0, hw1, hx1]

theorem pay18_at {a : FVec Ideal S512x256 .f32} {A : EReal} {w0 w1 w2 w3 w4 : Vec Ideal S1x256 .f32} {x0 x1 x2 x3 x4 : Vec Ideal S1x512x256 .f32} {W0 X0 W1 X1 W2 X2 W3 X3 W4 X4 : EReal}
    (ha : a (ix2 q l) = A) (hw0 : w0 (ix2 0 l) = W0) (hx0 : x0 (ix3 0 q l) = X0) (hw1 : w1 (ix2 0 l) = W1) (hx1 : x1 (ix3 0 q l) = X1) (hw2 : w2 (ix2 0 l) = W2) (hx2 : x2 (ix3 0 q l) = X2) (hw3 : w3 (ix2 0 l) = W3) (hx3 : x3 (ix3 0 q l) = X3) (hw4 : w4 (ix2 0 l) = W4) (hx4 : x4 (ix3 0 q l) = X4) :
    k0_pay18 a w0 x0 w1 x1 w2 x2 w3 x3 w4 x4 (ix2 q l) = A + W0 * X0 + W1 * X1 + W2 * X2 + W3 * X3 + W4 * X4 := by
  pointwise [k0_pay18]
  rw [ha, hw0, hx0, hw1, hx1, hw2, hx2, hw3, hx3, hw4, hx4]

theorem pay21_at {a : FVec Ideal S512x256 .f32} {A : EReal} {w0 w1 w2 w3 w4 : Vec Ideal S1x256 .f32} {x0 x1 x2 x3 x4 : Vec Ideal S1x512x256 .f32} {W0 X0 W1 X1 W2 X2 W3 X3 W4 X4 : EReal}
    (ha : a (ix2 q l) = A) (hw0 : w0 (ix2 0 l) = W0) (hx0 : x0 (ix3 0 q l) = X0) (hw1 : w1 (ix2 0 l) = W1) (hx1 : x1 (ix3 0 q l) = X1) (hw2 : w2 (ix2 0 l) = W2) (hx2 : x2 (ix3 0 q l) = X2) (hw3 : w3 (ix2 0 l) = W3) (hx3 : x3 (ix3 0 q l) = X3) (hw4 : w4 (ix2 0 l) = W4) (hx4 : x4 (ix3 0 q l) = X4) :
    k0_pay21 a w0 x0 w1 x1 w2 x2 w3 x3 w4 x4 (ix2 q l) = A + W0 * X0 + W1 * X1 + W2 * X2 + W3 * X3 + W4 * X4 := by
  pointwise [k0_pay21]
  rw [ha, hw0, hx0, hw1, hx1, hw2, hx2, hw3, hx3, hw4, hx4]

theorem pay25_at {a : FVec Ideal S512x256 .f32} {A : EReal} {w0 w1 w2 w3 w4 : Vec Ideal S1x256 .f32} {x0 x1 x2 x3 x4 : Vec Ideal S1x512x256 .f32} {W0 X0 W1 X1 W2 X2 W3 X3 W4 X4 : EReal}
    (ha : a (ix2 q l) = A) (hw0 : w0 (ix2 0 l) = W0) (hx0 : x0 (ix3 0 q l) = X0) (hw1 : w1 (ix2 0 l) = W1) (hx1 : x1 (ix3 0 q l) = X1) (hw2 : w2 (ix2 0 l) = W2) (hx2 : x2 (ix3 0 q l) = X2) (hw3 : w3 (ix2 0 l) = W3) (hx3 : x3 (ix3 0 q l) = X3) (hw4 : w4 (ix2 0 l) = W4) (hx4 : x4 (ix3 0 q l) = X4) :
    k0_pay25 a w0 x0 w1 x1 w2 x2 w3 x3 w4 x4 (ix2 q l) = A + W0 * X0 + W1 * X1 + W2 * X2 + W3 * X3 + W4 * X4 := by
  pointwise [k0_pay25]
  rw [ha, hw0, hx0, hw1, hx1, hw2, hx2, hw3, hx3, hw4, hx4]

theorem pay20_at {a p : FVec Ideal S512x256 .f32} {A P : EReal} {w0 w1 w2 w3 w4 : Vec Ideal S1x256 .f32} {x0 x1 x2 x3 x4 : Vec Ideal S1x512x256 .f32} {W0 X0 W1 X1 W2 X2 W3 X3 W4 X4 : EReal}
    (ha : a (ix2 q l) = A) (hp : p (ix2 q l) = P) (hw0 : w0 (ix2 0 l) = W0) (hx0 : x0 (ix3 0 q l) = X0) (hw1 : w1 (ix2 0 l) = W1) (hx1 : x1 (ix3 0 q l) = X1) (hw2 : w2 (ix2 0 l) = W2) (hx2 : x2 (ix3 0 q l) = X2) (hw3 : w3 (ix2 0 l) = W3) (hx3 : x3 (ix3 0 q l) = X3) (hw4 : w4 (ix2 0 l) = W4) (hx4 : x4 (ix3 0 q l) = X4) :
    k0_pay20 a p w0 x0 w1 x1 w2 x2 w3 x3 w4 x4 (ix2 q l) = A + P + W0 * X0 + W1 * X1 + W2 * X2 + W3 * X3 + W4 * X4 := by
  pointwise [k0_pay20]
  rw [ha, hp, hw0, hx0, hw1, hx1, hw2, hx2, hw3, hx3, hw4, hx4]

theorem pay24_at {a x w : FVec Ideal S512x256 .f32} {A X W : EReal} {w0 w1 w2 w3 w4 : Vec Ideal S1x256 .f32} {x0 x1 x2 x3 x4 : Vec Ideal S1x512x256 .f32} {W0 X0 W1 X1 W2 X2 W3 X3 W4 X4 : EReal}
    (ha : a (ix2 q l) = A) (hx : x (ix2 q l) = X) (hw : w (ix2 q l) = W) (hw0 : w0 (ix2 0 l) = W0) (hx0 : x0 (ix3 0 q l) = X0) (hw1 : w1 (ix2 0 l) = W1) (hx1 : x1 (ix3 0 q l) = X1) (hw2 : w2 (ix2 0 l) = W2) (hx2 : x2 (ix3 0 q l) = X2) (hw3 : w3 (ix2 0 l) = W3) (hx3 : x3 (ix3 0 q l) = X3) (hw4 : w4 (ix2 0 l) = W4) (hx4 : x4 (ix3 0 q l) = X4) :
    k0_pay24 a x w w0 x0 w1 x1 w2 x2 w3 x3 w4 x4 (ix2 q l) = A + W * X + W0 * X0 + W1 * X1 + W2 * X2 + W3 * X3 + W4 * X4 := by
  pointwise [k0_pay24]
  rw [ha, hx, hw, hw0, hx0, hw1, hx1, hw2, hx2, hw3, hx3, hw4, hx4]

theorem pay19_at {w0 : Vec Ideal S1x256 .f32} {x0 : Vec Ideal S1x512x256 .f32} {W0 X0 : EReal}
    (hw0 : w0 (ix2 0 l) = W0) (hx0 : x0 (ix3 0 q l) = X0) :
    k0_pay19 w0 x0 (ix2 q l) = W0 * X0 := by
  pointwise [k0_pay19]
  rw [hw0, hx0]

theorem pay27_at {a x : FVec Ideal S512x256 .f32} {w : Vec Ideal S1x256 .f32} {A X W : EReal} {w0 : Vec Ideal S1x256 .f32} {x0 : Vec Ideal S1x512x256 .f32} {W0 X0 : EReal}
    (ha : a (ix2 q l) = A) (hw : w (ix2 0 l) = W) (hx : x (ix2 q l) = X) (hw0 : w0 (ix2 0 l) = W0) (hx0 : x0 (ix3 0 q l) = X0) :
    k0_pay27 a w x w0 x0 (ix2 q l) = A + W * X + W0 * X0 := by
  pointwise [k0_pay27]
  rw [ha, hw, hx, hw0, hx0]

theorem pay22_at {x : Vec Ideal S1x512x256 .f32} {X : EReal}
    (hx : x (ix3 0 q l) = X) :
    k0_pay22 x (ix2 q l) = X := by
  pointwise [k0_pay22]
  rw [hx]

theorem pay23_at {w : Vec Ideal S1x256 .f32} {W : EReal}
    (hw : w (ix2 0 l) = W) :
    k0_pay23 w (ix2 q l) = W := by
  pointwise [k0_pay23]
  rw [hw]

theorem pay26_at {x : Vec Ideal S1x512x256 .f32} {X : EReal}
    (hx : x (ix3 0 q l) = X) :
    k0_pay26 x (ix2 q l) = X := by
  pointwise [k0_pay26]
  rw [hx]

end Payloads

/-- A sum started from `b`, with the thirty-one terms added in order. -/
def sums (b : EReal) (f : ℕ → EReal) : EReal := b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30

/-- The long convolution's term of tap `k` at row `q` of the block. -/
def term (x11 : Vec Ideal S31x256 .f32) (G : Fin 256 → ℕ → EReal) (q : Fin 512) (l : Fin 256) (k : ℕ) : EReal :=
  (if h : k < 31 then x11 (ix2 ⟨k, h⟩ l) else 0) * G l (k + 2 + q)

/-- A short vector read whole. -/
theorem vec {x12 : Vec Ideal S1x256 .f32} (harg : arg13.IsWhole) (i0) (l : Fin 256) :
    (show Vec Ideal S1x256 .f32 from View.readAt (Elt Ideal) arg13.view (Rect.unit (s := S1x256) ![0, 0] S1x256.size i0).toLoadRect (harg.unread x12)) (ix2 0 l)
      = x12 (ix2 0 l) := by
  rw [View.readAt_eq_ld, harg.read_unread]
  refine View.ld_unit_apply_of _ _ _ _ _ _ fun a => ?_
  fin_cases a
  · rfl
  · exact (Nat.zero_add _).symm

set_option maxHeartbeats 4000000 in
/-- The long convolution at a row of the block. -/
theorem conv_long (q : Fin 512) (l : Fin 256) :
    k0_pay27 (kernelRun0_A.sl.r_16 c i arg4 harg4 arg5 harg5 arg8 harg8 arg9 harg9 arg12 harg12 arg13 harg13 arg20 x3 x4 x7 x8 x11 x12)
      (kernelRun0_A.sl.r_17 c arg12 harg12 x11)
      (kernelRun0_A.sl.r_18 c i arg4 harg4 arg5 harg5 arg8 harg8 arg9 harg9 arg20 x3 x4 x7 x8)
      (View.readAt (Elt Ideal) arg12.view (Rect.unit (s := S31x256) ![30, 0] S1x256.size inb_S31x256_S1x256_30_0).toLoadRect (harg12.unread x11))
      (kernelRun0_A.sl.v285 c i arg4 harg4 arg5 harg5 arg8 harg8 arg9 harg9 arg20 x3 x4 x7 x8) (ix2 q l)
      = sums (0 + x12 (ix2 0 l)) (term x11 (row (kernelRun0_A.sl.v0 i) x3 x4 x7 x8) q l) := by
  have good := good7 c i arg4 harg4 arg5 harg5 arg8 harg8 arg9 harg9 arg20 x3 x4 x7 x8
  have X0 := window good arg20.view 2 0 inb_S8x544x256_S1x512x256_2_0_0 (by decide) (by decide) (by decide) q l
  have W0 := tap arg12 x11 harg12 0 inb_S31x256_S1x256_0_0 l
  have X1 := window good arg20.view 3 0 inb_S8x544x256_S1x512x256_3_0_0 (by decide) (by decide) (by decide) q l
  have W1 := tap arg12 x11 harg12 1 inb_S31x256_S1x256_1_0 l
  have X2 := window good arg20.view 4 0 inb_S8x544x256_S1x512x256_4_0_0 (by decide) (by decide) (by decide) q l
  have W2 := tap arg12 x11 harg12 2 inb_S31x256_S1x256_2_0 l
  have X3 := window good arg20.view 5 0 inb_S8x544x256_S1x512x256_5_0_0 (by decide) (by decide) (by decide) q l
  have W3 := tap arg12 x11 harg12 3 inb_S31x256_S1x256_3_0 l
  have X4 := window good arg20.view 6 0 inb_S8x544x256_S1x512x256_6_0_0 (by decide) (by decide) (by decide) q l
  have W4 := tap arg12 x11 harg12 4 inb_S31x256_S1x256_4_0 l
  have X5 := window good arg20.view 7 0 inb_S8x544x256_S1x512x256_7_0_0 (by decide) (by decide) (by decide) q l
  have W5 := tap arg12 x11 harg12 5 inb_S31x256_S1x256_5_0 l
  have X6 := window good arg20.view 0 8 inb_S8x544x256_S1x512x256_0_8_0 (by decide) (by decide) (by decide) q l
  have W6 := tap arg12 x11 harg12 6 inb_S31x256_S1x256_6_0 l
  have X7 := window good arg20.view 1 8 inb_S8x544x256_S1x512x256_1_8_0 (by decide) (by decide) (by decide) q l
  have W7 := tap arg12 x11 harg12 7 inb_S31x256_S1x256_7_0 l
  have X8 := window good arg20.view 2 8 inb_S8x544x256_S1x512x256_2_8_0 (by decide) (by decide) (by decide) q l
  have W8 := tap arg12 x11 harg12 8 inb_S31x256_S1x256_8_0 l
  have X9 := window good arg20.view 3 8 inb_S8x544x256_S1x512x256_3_8_0 (by decide) (by decide) (by decide) q l
  have W9 := tap arg12 x11 harg12 9 inb_S31x256_S1x256_9_0 l
  have X10 := window good arg20.view 4 8 inb_S8x544x256_S1x512x256_4_8_0 (by decide) (by decide) (by decide) q l
  have W10 := tap arg12 x11 harg12 10 inb_S31x256_S1x256_10_0 l
  have X11 := window good arg20.view 5 8 inb_S8x544x256_S1x512x256_5_8_0 (by decide) (by decide) (by decide) q l
  have W11 := tap arg12 x11 harg12 11 inb_S31x256_S1x256_11_0 l
  have X12 := window good arg20.view 6 8 inb_S8x544x256_S1x512x256_6_8_0 (by decide) (by decide) (by decide) q l
  have W12 := tap arg12 x11 harg12 12 inb_S31x256_S1x256_12_0 l
  have X13 := window good arg20.view 7 8 inb_S8x544x256_S1x512x256_7_8_0 (by decide) (by decide) (by decide) q l
  have W13 := tap arg12 x11 harg12 13 inb_S31x256_S1x256_13_0 l
  have X14 := window good arg20.view 0 16 inb_S8x544x256_S1x512x256_0_16_0 (by decide) (by decide) (by decide) q l
  have W14 := tap arg12 x11 harg12 14 inb_S31x256_S1x256_14_0 l
  have X15 := window good arg20.view 1 16 inb_S8x544x256_S1x512x256_1_16_0 (by decide) (by decide) (by decide) q l
  have W15 := tap arg12 x11 harg12 15 inb_S31x256_S1x256_15_0 l
  have X16 := window good arg20.view 2 16 inb_S8x544x256_S1x512x256_2_16_0 (by decide) (by decide) (by decide) q l
  have W16 := tap arg12 x11 harg12 16 inb_S31x256_S1x256_16_0 l
  have X17 := window good arg20.view 3 16 inb_S8x544x256_S1x512x256_3_16_0 (by decide) (by decide) (by decide) q l
  have W17 := tap arg12 x11 harg12 17 inb_S31x256_S1x256_17_0 l
  have X18 := window good arg20.view 4 16 inb_S8x544x256_S1x512x256_4_16_0 (by decide) (by decide) (by decide) q l
  have W18 := tap arg12 x11 harg12 18 inb_S31x256_S1x256_18_0 l
  have X19 := window good arg20.view 5 16 inb_S8x544x256_S1x512x256_5_16_0 (by decide) (by decide) (by decide) q l
  have W19 := tap arg12 x11 harg12 19 inb_S31x256_S1x256_19_0 l
  have X20 := window good arg20.view 6 16 inb_S8x544x256_S1x512x256_6_16_0 (by decide) (by decide) (by decide) q l
  have W20 := tap arg12 x11 harg12 20 inb_S31x256_S1x256_20_0 l
  have X21 := window good arg20.view 7 16 inb_S8x544x256_S1x512x256_7_16_0 (by decide) (by decide) (by decide) q l
  have W21 := tap arg12 x11 harg12 21 inb_S31x256_S1x256_21_0 l
  have X22 := window good arg20.view 0 24 inb_S8x544x256_S1x512x256_0_24_0 (by decide) (by decide) (by decide) q l
  have W22 := tap arg12 x11 harg12 22 inb_S31x256_S1x256_22_0 l
  have X23 := window good arg20.view 1 24 inb_S8x544x256_S1x512x256_1_24_0 (by decide) (by decide) (by decide) q l
  have W23 := tap arg12 x11 harg12 23 inb_S31x256_S1x256_23_0 l
  have X24 := window good arg20.view 2 24 inb_S8x544x256_S1x512x256_2_24_0 (by decide) (by decide) (by decide) q l
  have W24 := tap arg12 x11 harg12 24 inb_S31x256_S1x256_24_0 l
  have X25 := window good arg20.view 3 24 inb_S8x544x256_S1x512x256_3_24_0 (by decide) (by decide) (by decide) q l
  have W25 := tap arg12 x11 harg12 25 inb_S31x256_S1x256_25_0 l
  have X26 := window good arg20.view 4 24 inb_S8x544x256_S1x512x256_4_24_0 (by decide) (by decide) (by decide) q l
  have W26 := tap arg12 x11 harg12 26 inb_S31x256_S1x256_26_0 l
  have X27 := window good arg20.view 5 24 inb_S8x544x256_S1x512x256_5_24_0 (by decide) (by decide) (by decide) q l
  have W27 := tap arg12 x11 harg12 27 inb_S31x256_S1x256_27_0 l
  have X28 := window good arg20.view 6 24 inb_S8x544x256_S1x512x256_6_24_0 (by decide) (by decide) (by decide) q l
  have W28 := tap arg12 x11 harg12 28 inb_S31x256_S1x256_28_0 l
  have X29 := window good arg20.view 7 24 inb_S8x544x256_S1x512x256_7_24_0 (by decide) (by decide) (by decide) q l
  have W29 := tap arg12 x11 harg12 29 inb_S31x256_S1x256_29_0 l
  have X30 := window good arg20.view 0 32 inb_S8x544x256_S1x512x256_0_32_0 (by decide) (by decide) (by decide) q l
  have W30 := tap arg12 x11 harg12 30 inb_S31x256_S1x256_30_0 l
  have B := vec arg13 (x12 := x12) harg13 inb_S1x256_S1x256_0_0 l
  have a5 := pay17_at (q := q) B W0 X0 W1 X1
  have a7 := pay18_at a5 W2 X2 W3 X3 W4 X4 W5 X5 W6 X6
  have a8 := pay19_at (q := q) W7 X7
  have a9 := pay20_at a7 a8 W8 X8 W9 X9 W10 X10 W11 X11 W12 X12
  have a11 := pay21_at a9 W13 X13 W14 X14 W15 X15 W16 X16 W17 X17
  have a14 := pay24_at a11 (pay22_at X18) (pay23_at (q := q) W18) W19 X19 W20 X20 W21 X21 W22 X22 W23 X23
  have a16 := pay25_at a14 W24 X24 W25 X25 W26 X26 W27 X27 W28 X28
  exact pay27_at a16 W29 (pay26_at X29) W30 X30

end Cert.Proof.Mix
-- ==== Proof.MixRows.lean ====
module

public import proofs.«01_k».proof.Proof.Mix

@[expose] public section

set_option maxRecDepth 16384
set_option synthInstance.maxSize 4096

noncomputable section

/-! # The token mixer's three normalised parts at a point -/

namespace Cert.Proof.Mix

open Idealize.ShloMosaic Idealize.SL.Sem
open Cert.Proof.Chunk (cv sg)

/-- The reciprocal root mean square of a row, its mean taken by the number `d`. -/
def scale {n : ℕ} (d : EReal) (v : Fin n → EReal) : EReal :=
  Ideal.rsqrt (Ideal.div (∑ k : Fin n, v k * v k) d + Ideal.ofBits .f32 0x358637BD#32)

/-- An entry of a row scaled to unit root mean square, times a weight. -/
def unit {n : ℕ} (d : EReal) (v : Fin n → EReal) (g : EReal) (k : Fin n) : EReal := v k * scale d v * g

def w256 : EReal := Ideal.ofBits .f32 0x43800000#32
def w512 : EReal := Ideal.ofBits .f32 0x44000000#32

def mean (v : Fin 256 → EReal) : EReal := Ideal.div (∑ k : Fin 256, v k) w256

/-- An entry of a row normalised by mean and variance, with gain and shift. -/
def layer (v : Fin 256 → EReal) (g b : EReal) (k : Fin 256) : EReal := unit w256 (fun j => v j - mean v) g k + b

def silu (x : EReal) : EReal := x * sg x

open Cert.KernelMixIdeal Cert.KernelMixIdeal.Gen

section Payloads

variable {q : Fin 512} {l : Fin 256}

theorem pay4_at {w0 w1 : Vec Ideal S1x256 .f32} {x0 x1 : Vec Ideal S512x256 .f32} {W0 X0 W1 X1 : EReal}
    (hw0 : w0 (ix2 0 l) = W0) (hx0 : x0 (ix2 q l) = X0) (hw1 : w1 (ix2 0 l) = W1) (hx1 : x1 (ix2 q l) = X1) :
    k0_pay4 w0 x0 w1 x1 (ix2 q l) = 0 + W0 * X0 + W1 * X1 := by
  pointwise [k0_pay4]
  rw [hw0, hx0, hw1, hx1]

theorem pay5_at {a : FVec Ideal S512x256 .f32} {w : Vec Ideal S1x256 .f32} {x b : Vec Ideal S512x256 .f32} {A W X B : EReal}
    (ha : a (ix2 q l) = A) (hw : w (ix2 0 l) = W) (hx : x (ix2 q l) = X) (hb : b (ix2 q l) = B) :
    k0_pay5 a w x b (ix2 q l) = B * (A + W * X) := by
  pointwise [k0_pay5]
  rw [ha, hw, hx, hb]

theorem pay32_at {v : FVec Ideal S512x256 .f32} {w : Vec Ideal S1x256 .f32} {V : Fin 256 → EReal} {W : EReal}
    (hv : ∀ l, v (ix2 q l) = V l) (hw : w (ix2 0 l) = W) : k0_pay32 v w (ix2 q l) = unit w256 V W l := by
  pointwise [k0_pay32]
  rw [hw, hv]
  simp only [hv]
  rfl

theorem pay33_at {v : Vec Ideal S512x512 .f32} {w : Vec Ideal S1x512 .f32} {V : Fin 512 → EReal} {W : EReal} {l : Fin 512}
    (hv : ∀ l, v (ix2 q l) = V l) (hw : w (ix2 0 l) = W) : k0_pay33 v w (ix2 q l) = unit w512 V W l := by
  pointwise [k0_pay33]
  rw [hw, hv]
  simp only [hv]
  rfl

theorem pay28_at {a x : FVec Ideal S512x256 .f32} {w w' g b : Vec Ideal S1x256 .f32} {x' : Vec Ideal S1x512x256 .f32} {U : Fin 256 → EReal} {G B : EReal}
    (hu : ∀ l, k0_pay27 a w x w' x' (ix2 q l) = U l) (hg : g (ix2 0 l) = G) (hb : b (ix2 0 l) = B) :
    k0_pay28 a w x w' x' g b (ix2 q l) = layer U G B l := by
  unfold k0_pay28
  revert hu
  generalize k0_pay27 a w x w' x' = u
  intro hu
  pointwise []
  rw [hg, hb, hu]
  simp only [hu]
  rfl

theorem pay31_at {a x : FVec Ideal S512x256 .f32} {w w' g b : Vec Ideal S1x256 .f32} {x' : Vec Ideal S1x512x256 .f32} {U : EReal}
    (hu : k0_pay28 a w x w' x' g b (ix2 q l) = U) :
    k0_pay31 (k0_pay28 a w x w' x' g b) (k0_pay29 a w x w' x' g b) (k0_pay30 (F := Ideal)) (ix2 q l) = silu U := by
  unfold k0_pay31 k0_pay29 k0_pay30
  revert hu
  generalize k0_pay28 a w x w' x' g b = u
  intro hu
  pointwise []
  rw [hu]
  rfl

theorem pay1_at {a b d : FVec Ideal S512x256 .f32} {w : Vec Ideal S1x256 .f32} {V : Fin 256 → EReal} {W : EReal}
    (hv : ∀ l, k0_pay31 a b d (ix2 q l) = V l) (hw : w (ix2 0 l) = W) :
    k0_pay1 (k0_pay31 a b d) (k0_pay34 a b d) (k0_pay35 (F := Ideal)) w (ix2 q l) = unit w256 V W l := by
  unfold k0_pay1 k0_pay34 k0_pay35
  revert hv
  generalize k0_pay31 a b d = v
  intro hv
  pointwise []
  rw [hw, hv]
  simp only [hv]
  rfl

end Payloads

/-- Rows of the short convolution's products: thirty-two before the block, then the block. -/
def short (i : grid0.Coords) (x0 x2 : Vec Ideal S512x256 .f32) (x5 x6 : Vec Ideal S32x256 .f32) (l : Fin 256) (p : ℕ) : EReal :=
  if h : p < 32 then k0_pay2 i x5 x6 (ix2 ⟨p, h⟩ l)
  else if h' : p < 544 then k0_pay3 x0 x2 (ix2 ⟨p - 32, by omega⟩ l) else 0

variable (c : Dev nD) (i : grid0.Coords)
  (arg1 : Memref sig .tc .vmem S512x256 .f32) (harg1 : arg1.IsWhole) (arg2 : Memref sig .tc .vmem S512x256 .f32) (harg2 : arg2.IsWhole)
  (arg3 : Memref sig .tc .vmem S512x256 .f32) (harg3 : arg3.IsWhole)
  (arg6 : Memref sig .tc .vmem S32x256 .f32) (harg6 : arg6.IsWhole)
  (arg7 : Memref sig .tc .vmem S32x256 .f32) (harg7 : arg7.IsWhole)
  (arg11 : Memref sig .tc .vmem S3x256 .f32) (harg11 : arg11.IsWhole) (arg16 : Memref sig .tc .vmem S1x1024 .f32)
  (arg19 : Memref sig .tc .vmem S544x256 .f32)
  (x0 x1 x2 : Vec Ideal S512x256 .f32) (x5 x6 : Vec Ideal S32x256 .f32) (x10 : Vec Ideal S3x256 .f32) (x15 : Vec Ideal S1x1024 .f32)

theorem short_canon (p : Fin 544) (l : Fin 256) :
    View.canon (kernelRun0_A.sl.HS0_2 c i arg1 harg1 arg3 harg3 arg6 harg6 arg7 harg7 x0 x2 x5 x6) (ix2 p l) = short i x0 x2 x5 x6 l p := by
  unfold kernelRun0_A.sl.HS0_2
  rw [View.readAt_eq_ld, View.readAt_eq_ld, View.readAt_eq_ld, View.readAt_eq_ld, harg1.read_unread, harg3.read_unread, harg6.read_unread,
    harg7.read_unread]
  simp (disch := decide) only [View.ld_unit_lit']
  by_cases h : (p : ℕ) < 32
  · refine (canon_out _ _ _ (0 : Fin 2) (Or.inl h)).trans ?_
    refine (canon_in _ _ _ (ix2 ⟨p, h⟩ l) (emb_unit _ _ _ fun a => ?_)).trans ?_
    · fin_cases a
      · exact (Nat.zero_add _).symm
      · exact (Nat.zero_add _).symm
    · unfold short
      rw [dif_pos h]
  · refine (canon_in _ _ _ (ix2 ⟨p - 32, by omega⟩ l) (emb_unit _ _ _ fun a => ?_)).trans ?_
    · fin_cases a
      · show (p : ℕ) = 32 + (p - 32); omega
      · exact (Nat.zero_add _).symm
    · unfold short
      rw [dif_neg h, dif_pos p.isLt]

theorem short_window (o : ℕ) (i0) (ho : o + 512 ≤ 544) (q : Fin 512) (l : Fin 256) :
    (show Vec Ideal S512x256 .f32 from arg19.view.readCov (kernelRun0_A.sl.HS0_2 c i arg1 harg1 arg3 harg3 arg6 harg6 arg7 harg7 x0 x2 x5 x6)
      (Rect.unit (s := S544x256) ![o, 0] S512x256.size i0).toLoadRect) (ix2 q l) = short i x0 x2 x5 x6 l (o + q) := by
  rw [View.readCov_eq_canon']
  refine Eq.trans (congrArg (View.canon _) (?_ : _ = ix2 ⟨o + q, by omega⟩ l)) (short_canon _ _ _ _ _ _ _ _ _ _ _ _ _ _ ⟨o + q, by omega⟩ l)
  refine funext fun a => Fin.ext ((Rect.idx_unit_val _ _ _ _ a).trans ?_)
  fin_cases a
  · rfl
  · exact Nat.zero_add _

/-- A row of the short weights. -/
theorem short_tap (harg : arg11.IsWhole) (k : Fin 3) (i0) (l : Fin 256) :
    (show Vec Ideal S1x256 .f32 from View.readAt (Elt Ideal) arg11.view (Rect.unit (s := S3x256) ![(k : ℕ), 0] S1x256.size i0).toLoadRect (harg.unread x10)) (ix2 0 l)
      = x10 (ix2 k l) := by
  rw [View.readAt_eq_ld, harg.read_unread]
  refine View.ld_unit_apply_of _ _ _ _ _ _ fun a => ?_
  fin_cases a
  · rfl
  · exact (Nat.zero_add _).symm

theorem whole {x : Vec Ideal S512x256 .f32} (harg : arg1.IsWhole) (i0) (q : Fin 512) (l : Fin 256) :
    (show Vec Ideal S512x256 .f32 from View.readAt (Elt Ideal) arg1.view (Rect.unit (s := S512x256) ![0, 0] S512x256.size i0).toLoadRect (harg.unread x)) (ix2 q l)
      = x (ix2 q l) := by
  rw [View.readAt_eq_ld, harg.read_unread]
  refine View.ld_unit_apply_of _ _ _ _ _ _ fun a => ?_
  fin_cases a
  · exact (Nat.zero_add _).symm
  · exact (Nat.zero_add _).symm

/-- The short convolution at a row of the block, gated. -/
theorem conv_short (q : Fin 512) (l : Fin 256) :
    kernelRun0_A.sl.r_2 c i arg1 harg1 arg2 harg2 arg3 harg3 arg6 harg6 arg7 harg7 arg11 harg11 arg19 x0 x1 x2 x5 x6 x10 (ix2 q l)
      = x1 (ix2 q l) * (0 + x10 (ix2 0 l) * short i x0 x2 x5 x6 l (30 + q) + x10 (ix2 1 l) * short i x0 x2 x5 x6 l (31 + q)
        + x10 (ix2 2 l) * short i x0 x2 x5 x6 l (32 + q)) := by
  have X0 := short_window c i arg1 harg1 arg3 harg3 arg6 harg6 arg7 harg7 arg19 x0 x2 x5 x6 30 inb_S544x256_S512x256_30_0 (by decide) q l
  have X1 := short_window c i arg1 harg1 arg3 harg3 arg6 harg6 arg7 harg7 arg19 x0 x2 x5 x6 31 inb_S544x256_S512x256_31_0 (by decide) q l
  have X2 := short_window c i arg1 harg1 arg3 harg3 arg6 harg6 arg7 harg7 arg19 x0 x2 x5 x6 32 inb_S544x256_S512x256_32_0 (by decide) q l
  have W0 := short_tap arg11 x10 harg11 0 inb_S3x256_S1x256_0_0 l
  have W1 := short_tap arg11 x10 harg11 1 inb_S3x256_S1x256_1_0 l
  have W2 := short_tap arg11 x10 harg11 2 inb_S3x256_S1x256_2_0 l
  have B := whole arg2 (x := x1) harg2 inb_S512x256_S512x256_0_0 q l
  exact pay5_at (pay4_at W0 X0 W1 X1) W2 X2 B

end Cert.Proof.Mix
-- ==== Proof.MixOut.lean ====
module

public import proofs.«01_k».proof.Proof.MixRows

@[expose] public section

set_option maxRecDepth 16384
set_option synthInstance.maxSize 4096

noncomputable section

/-! # What the token mixer's kernel leaves in its two results -/

namespace Cert.Proof.Mix

open Idealize.ShloMosaic Idealize.SL.Sem
open Cert.Proof.Chunk (cv sg)

/-- A column of an array from row `n - 32` on: zeros outside. -/
def below (f : Fin 2048 → EReal) (n : ℕ) : EReal := if h : 32 ≤ n ∧ n < 2080 then f ⟨n - 32, by omega⟩ else 0

open Cert.KernelMixIdeal Cert.KernelMixIdeal.Gen

/-- The value column times its gate's logistic function, at row `n - 32`. -/
def gz (z : FVec Ideal S2048x2816 .f32) (l : Fin 256) : ℕ → EReal :=
  below fun p => z (ix2 p ⟨2304 + l, by omega⟩) * sg (z (ix2 p ⟨2560 + l, by omega⟩))

/-- The product under the short convolution, at row `n - 32`. -/
def sz (z : FVec Ideal S2048x2816 .f32) (l : Fin 256) : ℕ → EReal :=
  below fun p => z (ix2 p ⟨l, by omega⟩) * z (ix2 p ⟨512 + l, by omega⟩)

/-- The long convolution's term of tap `k` at row `p`. -/
def tz (z : FVec Ideal S2048x2816 .f32) (w : FVec Ideal S31x256 .f32) (p : ℕ) (l : Fin 256) (k : ℕ) : EReal :=
  (if h : k < 31 then w (ix2 ⟨k, h⟩ l) else 0) * gz z l (k + 2 + p)

/-- The long convolution with its shift. -/
def long (z : FVec Ideal S2048x2816 .f32) (w : FVec Ideal S31x256 .f32) (cb : FVec Ideal S1x256 .f32) (p : ℕ) (l : Fin 256) : EReal :=
  sums (0 + cb (ix2 0 l)) (tz z w p l)

/-- The short convolution, gated. -/
def ya (z : FVec Ideal S2048x2816 .f32) (a : FVec Ideal S3x256 .f32) (p : Fin 2048) (l : Fin 256) : EReal :=
  z (ix2 p ⟨256 + l, by omega⟩) * (0 + a (ix2 0 l) * sz z l (30 + p) + a (ix2 1 l) * sz z l (31 + p) + a (ix2 2 l) * sz z l (32 + p))

/-- The long convolution, normalised and passed through its own gate. -/
def yc (z : FVec Ideal S2048x2816 .f32) (w : FVec Ideal S31x256 .f32) (cb lg lb : FVec Ideal S1x256 .f32) (p : ℕ) (l : Fin 256) : EReal :=
  silu (layer (long z w cb p) (lg (ix2 0 l)) (lb (ix2 0 l)) l)

/-- The long convolution as an array. -/
def longs (z : FVec Ideal S2048x2816 .f32) (w : FVec Ideal S31x256 .f32) (cb : FVec Ideal S1x256 .f32) : FVec Ideal S2048x256 .f32 :=
  fun i => long z w cb (i 0 : ℕ) (i 1)

/-- An entry of the first result: three normalised parts side by side. -/
def part (z : FVec Ideal S2048x2816 .f32) (yb : FVec Ideal S2048x512 .f32) (a : FVec Ideal S3x256 .f32) (w : FVec Ideal S31x256 .f32)
    (cb lg lb : FVec Ideal S1x256 .f32) (og : FVec Ideal S1x1024 .f32) (p : Fin 2048) (n : Fin 1024) : EReal :=
  if h : (n : ℕ) < 256 then unit w256 (ya z a p) (og (ix2 0 n)) ⟨n, h⟩
  else if h' : (n : ℕ) < 768 then unit w512 (fun k => yb (ix2 p k)) (og (ix2 0 n)) ⟨n - 256, by omega⟩
  else unit w256 (yc z w cb lg lb p) (og (ix2 0 n)) ⟨n - 768, by omega⟩

def parts (z : FVec Ideal S2048x2816 .f32) (yb : FVec Ideal S2048x512 .f32) (a : FVec Ideal S3x256 .f32) (w : FVec Ideal S31x256 .f32)
    (cb lg lb : FVec Ideal S1x256 .f32) (og : FVec Ideal S1x1024 .f32) : FVec Ideal S2048x1024 .bf16 :=
  fun i => part z yb a w cb lg lb og (i 0) (i 1)

theorem idx : ∀ t : Fin cfg0.N, win0_0.index t = ![t.val, 0] ∧ win0_1.index t = ![t.val, 1] ∧ win0_2.index t = ![t.val, 2]
    ∧ win0_3.index t = ![t.val, 9] ∧ win0_4.index t = ![t.val, 10] ∧ win0_5.index t = ![16 * t.val - 1, 0] ∧ win0_6.index t = ![16 * t.val - 1, 2]
    ∧ win0_7.index t = ![16 * t.val - 1, 9] ∧ win0_8.index t = ![16 * t.val - 1, 10] ∧ win0_9.index t = ![t.val, 0] ∧ win0_10.index t = ![0, 0]
    ∧ win0_11.index t = ![0, 0] ∧ win0_12.index t = ![0, 0] ∧ win0_13.index t = ![0, 0] ∧ win0_14.index t = ![0, 0] ∧ win0_15.index t = ![0, 0]
    ∧ win0_16.index t = ![t.val, 0] ∧ win0_17.index t = ![t.val, 0] :=
  (by decide +kernel : ∀ t : Fin grid0.N, _)

theorem pt : ∀ t : Fin cfg0.N, (grid0.coords t 0).val = t.val ∧ t.val < 4 := (by decide +kernel : ∀ t : Fin grid0.N, _)

variable (m : (ℓ : Loc nD τ sig) → Buf (Elt Ideal) ℓ) (c : Dev nD) (t : Fin cfg0.N)

def argZ : FVec Ideal S2048x2816 .f32 := m ((c.tc : Thread nD τ).loc main_arg0)
def argB : FVec Ideal S2048x512 .f32 := m ((c.tc : Thread nD τ).loc main_arg1)
def argA : FVec Ideal S3x256 .f32 := m ((c.tc : Thread nD τ).loc main_arg2)
def argC : FVec Ideal S31x256 .f32 := m ((c.tc : Thread nD τ).loc main_arg3)
def argCb : FVec Ideal S1x256 .f32 := m ((c.tc : Thread nD τ).loc main_arg4)
def argLg : FVec Ideal S1x256 .f32 := m ((c.tc : Thread nD τ).loc main_arg5)
def argLb : FVec Ideal S1x256 .f32 := m ((c.tc : Thread nD τ).loc main_arg6)
def argOg : FVec Ideal S1x1024 .f32 := m ((c.tc : Thread nD τ).loc main_arg7)

theorem lt4 : t.val < 4 := (pt t).2

/-- The array's row under row `q` of point `t`. -/
def line (q : Fin 512) : Fin 2048 := ⟨512 * t.val + q, by have := lt4 t; omega⟩

theorem read0 (q : Fin 512) (l : Fin 256) :
    (show FVec Ideal S512x256 .f32 from iblk m c 0 t) (ix2 q l) = argZ m c (ix2 (line t q) ⟨l, by omega⟩) := by
  have := lt4 t
  show iblk m c 0 t (ix2 q l) = m ((c.tc : Thread nD τ).loc main_arg0) (ix2 ⟨512 * t.val + q, by omega⟩ ⟨l, by omega⟩)
  blk_ext [iblk, V, idx t]

theorem read1 (q : Fin 512) (l : Fin 256) :
    (show FVec Ideal S512x256 .f32 from iblk m c 1 t) (ix2 q l) = argZ m c (ix2 (line t q) ⟨256 + l, by omega⟩) := by
  have := lt4 t
  show iblk m c 1 t (ix2 q l) = m ((c.tc : Thread nD τ).loc main_arg0) (ix2 ⟨512 * t.val + q, by omega⟩ ⟨256 + l, by omega⟩)
  blk_ext [iblk, V, idx t]

theorem read2 (q : Fin 512) (l : Fin 256) :
    (show FVec Ideal S512x256 .f32 from iblk m c 2 t) (ix2 q l) = argZ m c (ix2 (line t q) ⟨512 + l, by omega⟩) := by
  have := lt4 t
  show iblk m c 2 t (ix2 q l) = m ((c.tc : Thread nD τ).loc main_arg0) (ix2 ⟨512 * t.val + q, by omega⟩ ⟨512 + l, by omega⟩)
  blk_ext [iblk, V, idx t]

theorem read3 (q : Fin 512) (l : Fin 256) :
    (show FVec Ideal S512x256 .f32 from iblk m c 3 t) (ix2 q l) = argZ m c (ix2 (line t q) ⟨2304 + l, by omega⟩) := by
  have := lt4 t
  show iblk m c 3 t (ix2 q l) = m ((c.tc : Thread nD τ).loc main_arg0) (ix2 ⟨512 * t.val + q, by omega⟩ ⟨2304 + l, by omega⟩)
  blk_ext [iblk, V, idx t]

theorem read4 (q : Fin 512) (l : Fin 256) :
    (show FVec Ideal S512x256 .f32 from iblk m c 4 t) (ix2 q l) = argZ m c (ix2 (line t q) ⟨2560 + l, by omega⟩) := by
  have := lt4 t
  show iblk m c 4 t (ix2 q l) = m ((c.tc : Thread nD τ).loc main_arg0) (ix2 ⟨512 * t.val + q, by omega⟩ ⟨2560 + l, by omega⟩)
  blk_ext [iblk, V, idx t]

theorem read5 (p : Fin 32) (l : Fin 256) (h : 0 < t.val) :
    (show FVec Ideal S32x256 .f32 from iblk m c 5 t) (ix2 p l) = argZ m c (ix2 ⟨512 * t.val + p - 32, by have := lt4 t; omega⟩ ⟨l, by omega⟩) := by
  have := lt4 t
  show iblk m c 5 t (ix2 p l) = m ((c.tc : Thread nD τ).loc main_arg0) (ix2 ⟨512 * t.val + p - 32, by omega⟩ ⟨l, by omega⟩)
  blk_ext [iblk, V, idx t]

theorem read6 (p : Fin 32) (l : Fin 256) (h : 0 < t.val) :
    (show FVec Ideal S32x256 .f32 from iblk m c 6 t) (ix2 p l) = argZ m c (ix2 ⟨512 * t.val + p - 32, by have := lt4 t; omega⟩ ⟨512 + l, by omega⟩) := by
  have := lt4 t
  show iblk m c 6 t (ix2 p l) = m ((c.tc : Thread nD τ).loc main_arg0) (ix2 ⟨512 * t.val + p - 32, by omega⟩ ⟨512 + l, by omega⟩)
  blk_ext [iblk, V, idx t]

theorem read7 (p : Fin 32) (l : Fin 256) (h : 0 < t.val) :
    (show FVec Ideal S32x256 .f32 from iblk m c 7 t) (ix2 p l) = argZ m c (ix2 ⟨512 * t.val + p - 32, by have := lt4 t; omega⟩ ⟨2304 + l, by omega⟩) := by
  have := lt4 t
  show iblk m c 7 t (ix2 p l) = m ((c.tc : Thread nD τ).loc main_arg0) (ix2 ⟨512 * t.val + p - 32, by omega⟩ ⟨2304 + l, by omega⟩)
  blk_ext [iblk, V, idx t]

theorem read8 (p : Fin 32) (l : Fin 256) (h : 0 < t.val) :
    (show FVec Ideal S32x256 .f32 from iblk m c 8 t) (ix2 p l) = argZ m c (ix2 ⟨512 * t.val + p - 32, by have := lt4 t; omega⟩ ⟨2560 + l, by omega⟩) := by
  have := lt4 t
  show iblk m c 8 t (ix2 p l) = m ((c.tc : Thread nD τ).loc main_arg0) (ix2 ⟨512 * t.val + p - 32, by omega⟩ ⟨2560 + l, by omega⟩)
  blk_ext [iblk, V, idx t]

theorem read9 (q : Fin 512) (l : Fin 512) :
    (show FVec Ideal S512x512 .f32 from iblk m c 9 t) (ix2 q l) = argB m c (ix2 (line t q) l) := by
  have := lt4 t
  show iblk m c 9 t (ix2 q l) = m ((c.tc : Thread nD τ).loc main_arg1) (ix2 ⟨512 * t.val + q, by omega⟩ l)
  blk_ext [iblk, V, idx t]

theorem read10 (k : Fin 3) (l : Fin 256) : (show FVec Ideal S3x256 .f32 from iblk m c 10 t) (ix2 k l) = argA m c (ix2 k l) := by
  show iblk m c 10 t (ix2 k l) = m ((c.tc : Thread nD τ).loc main_arg2) (ix2 k l)
  blk_ext [iblk, V, idx t]

theorem read11 (k : Fin 31) (l : Fin 256) : (show FVec Ideal S31x256 .f32 from iblk m c 11 t) (ix2 k l) = argC m c (ix2 k l) := by
  show iblk m c 11 t (ix2 k l) = m ((c.tc : Thread nD τ).loc main_arg3) (ix2 k l)
  blk_ext [iblk, V, idx t]

theorem read12 (k : Fin 1) (l : Fin 256) : (show FVec Ideal S1x256 .f32 from iblk m c 12 t) (ix2 k l) = argCb m c (ix2 k l) := by
  show iblk m c 12 t (ix2 k l) = m ((c.tc : Thread nD τ).loc main_arg4) (ix2 k l)
  blk_ext [iblk, V, idx t]

theorem read13 (k : Fin 1) (l : Fin 256) : (show FVec Ideal S1x256 .f32 from iblk m c 13 t) (ix2 k l) = argLg m c (ix2 k l) := by
  show iblk m c 13 t (ix2 k l) = m ((c.tc : Thread nD τ).loc main_arg5) (ix2 k l)
  blk_ext [iblk, V, idx t]

theorem read14 (k : Fin 1) (l : Fin 256) : (show FVec Ideal S1x256 .f32 from iblk m c 14 t) (ix2 k l) = argLb m c (ix2 k l) := by
  show iblk m c 14 t (ix2 k l) = m ((c.tc : Thread nD τ).loc main_arg6) (ix2 k l)
  blk_ext [iblk, V, idx t]

theorem read15 (k : Fin 1) (l : Fin 1024) : (show FVec Ideal S1x1024 .f32 from iblk m c 15 t) (ix2 k l) = argOg m c (ix2 k l) := by
  show iblk m c 15 t (ix2 k l) = m ((c.tc : Thread nD τ).loc main_arg7) (ix2 k l)
  blk_ext [iblk, V, idx t]

/-- The flag of the first point. -/
theorem flag : kernelRun0_A.sl.v0 (grid0.coords t) = if t.val = 0 then 1#1 else 0#1 := by
  unfold kernelRun0_A.sl.v0
  rw [(pt t).1]
  exact (by decide +kernel : ∀ t : Fin grid0.N, Scalar.cmpi CmpIPredicate.eq (BitVec.ofNat 32 t.val) 0#32 = if t.val = 0 then 1#1 else 0#1) t

theorem pay8_at (x y : Vec Ideal S512x256 .f32) (q : Fin 512) (l : Fin 256) :
    k0_pay8 (k0_pay7 x y) (ix3 0 q l) = x (ix2 q l) * sg (y (ix2 q l)) := by
  pointwise [k0_pay8, k0_pay7]
  rfl

theorem pay6_at (x y : Vec Ideal S32x256 .f32) (q : Fin 32) (l : Fin 256) :
    k0_pay6 0#1 x y (ix3 0 q l) = x (ix2 q l) * sg (y (ix2 q l)) := by
  pointwise [k0_pay6]
  rfl

theorem pay6_first (x y : Vec Ideal S32x256 .f32) (q : Fin 32) (l : Fin 256) : k0_pay6 1#1 x y (ix3 0 q l) = 0 := by
  pointwise [k0_pay6]
  try rw [zero_mul]

theorem below_at (f : Fin 2048 → EReal) {n : ℕ} (p : Fin 2048) (h : n = p + 32) : below f n = f p := by
  subst h
  unfold below
  rw [dif_pos ⟨by omega, by omega⟩]
  congr 1

theorem below_zero (f : Fin 2048 → EReal) {n : ℕ} (h : n < 32) : below f n = 0 := dif_neg (by omega)

theorem row_at (l : Fin 256) (p : ℕ) (hp : p < 544) :
    row (kernelRun0_A.sl.v0 (grid0.coords t)) (iblk m c 3 t) (iblk m c 4 t) (iblk m c 7 t) (iblk m c 8 t) l p = gz (argZ m c) l (512 * t.val + p) := by
  have ht := lt4 t
  unfold row
  by_cases h : p < 32
  · rw [dif_pos h, flag t]
    by_cases h0 : t.val = 0
    · rw [if_pos h0]
      exact (pay6_first _ _ _ _).trans (below_zero _ (by omega)).symm
    · rw [if_neg h0]
      refine (pay6_at _ _ _ _).trans (Eq.trans ?_ (below_at _ ⟨512 * t.val + p - 32, by omega⟩ (by show _ = 512 * t.val + p - 32 + 32; omega)).symm)
      exact congr (congrArg _ (read7 m c t ⟨p, h⟩ l (by omega))) (congrArg sg (read8 m c t ⟨p, h⟩ l (by omega)))
  · rw [dif_neg h, dif_pos hp]
    refine (pay8_at _ _ _ _).trans (Eq.trans ?_ (below_at _ (line t ⟨p - 32, by omega⟩) (by show _ = 512 * t.val + (p - 32) + 32; omega)).symm)
    exact congr (congrArg _ (read3 m c t _ l)) (congrArg sg (read4 m c t _ l))

theorem pay3_at (x y : Vec Ideal S512x256 .f32) (q : Fin 512) (l : Fin 256) : k0_pay3 x y (ix2 q l) = x (ix2 q l) * y (ix2 q l) := by
  pointwise [k0_pay3]

theorem pay2_at (h : ¬ t.val = 0) (x y : Vec Ideal S32x256 .f32) (q : Fin 32) (l : Fin 256) :
    k0_pay2 (grid0.coords t) x y (ix2 q l) = x (ix2 q l) * y (ix2 q l) := by
  have e : Scalar.cmpi CmpIPredicate.eq (BitVec.ofNat 32 (grid0.coords t 0).val) 0#32 = 0#1 := (flag t).trans (if_neg h)
  pointwise [k0_pay2, e]

theorem pay2_first (h : t.val = 0) (x y : Vec Ideal S32x256 .f32) (q : Fin 32) (l : Fin 256) : k0_pay2 (grid0.coords t) x y (ix2 q l) = 0 := by
  have e : Scalar.cmpi CmpIPredicate.eq (BitVec.ofNat 32 (grid0.coords t 0).val) 0#32 = 1#1 := (flag t).trans (if_pos h)
  pointwise [k0_pay2, e]
  try rw [zero_mul]

theorem short_at (l : Fin 256) (p : ℕ) (hp : p < 544) :
    short (grid0.coords t) (iblk m c 0 t) (iblk m c 2 t) (iblk m c 5 t) (iblk m c 6 t) l p = sz (argZ m c) l (512 * t.val + p) := by
  have ht := lt4 t
  unfold short
  by_cases h : p < 32
  · rw [dif_pos h]
    by_cases h0 : t.val = 0
    · exact (pay2_first t h0 _ _ _ _).trans (below_zero _ (by omega)).symm
    · refine (pay2_at t h0 _ _ _ _).trans (Eq.trans ?_ (below_at _ ⟨512 * t.val + p - 32, by omega⟩ (by show _ = 512 * t.val + p - 32 + 32; omega)).symm)
      exact congr (congrArg _ (read5 m c t ⟨p, h⟩ l (by omega))) (read6 m c t ⟨p, h⟩ l (by omega))
  · rw [dif_neg h, dif_pos hp]
    refine (pay3_at _ _ _ _).trans (Eq.trans ?_ (below_at _ (line t ⟨p - 32, by omega⟩) (by show _ = 512 * t.val + (p - 32) + 32; omega)).symm)
    exact congr (congrArg _ (read0 m c t _ l)) (read2 m c t _ l)

theorem sums_congr {b b' : EReal} {f f' : ℕ → EReal} (hb : b = b') (hf : f = f') : sums b f = sums b' f' := by
  subst hb hf; rfl

theorem long_at (q : Fin 512) (l : Fin 256) :
    sums (0 + (show FVec Ideal S1x256 .f32 from iblk m c 12 t) (ix2 0 l)) (term (iblk m c 11 t)
      (row (kernelRun0_A.sl.v0 (grid0.coords t)) (iblk m c 3 t) (iblk m c 4 t) (iblk m c 7 t) (iblk m c 8 t)) q l)
      = long (argZ m c) (argC m c) (argCb m c) (line t q) l := by
  refine sums_congr (congrArg _ (read12 m c t 0 l)) (funext fun k => ?_)
  unfold term tz
  by_cases h : k < 31
  · rw [dif_pos h, dif_pos h, row_at m c t l _ (by omega)]
    refine congr (congrArg _ (read11 m c t ⟨k, h⟩ l)) (congrArg _ ?_)
    show 512 * t.val + (k + 2 + q) = k + 2 + (512 * t.val + q)
    omega
  · rw [dif_neg h, dif_neg h, zero_mul, zero_mul]

theorem ya_at (q : Fin 512) (l : Fin 256) (a : FVec Ideal S3x256 .f32) (ha : ∀ k l, a (ix2 k l) = argA m c (ix2 k l)) :
    (show FVec Ideal S512x256 .f32 from iblk m c 1 t) (ix2 q l)
      * (0 + a (ix2 0 l) * short (grid0.coords t) (iblk m c 0 t) (iblk m c 2 t) (iblk m c 5 t) (iblk m c 6 t) l (30 + q)
        + a (ix2 1 l) * short (grid0.coords t) (iblk m c 0 t) (iblk m c 2 t) (iblk m c 5 t) (iblk m c 6 t) l (31 + q)
        + a (ix2 2 l) * short (grid0.coords t) (iblk m c 0 t) (iblk m c 2 t) (iblk m c 5 t) (iblk m c 6 t) l (32 + q))
      = ya (argZ m c) (argA m c) (line t q) l := by
  have e : ∀ k : ℕ, 512 * t.val + (k + q) = k + (line t q : ℕ) := fun k => by show _ = k + (512 * t.val + q); omega
  rw [short_at m c t l _ (by omega), short_at m c t l _ (by omega), short_at m c t l _ (by omega), e, e, e, ha, ha, ha]
  exact congr (congrArg _ (read1 m c t q l)) rfl

set_option maxHeartbeats 4000000 in
/-- The second result's block at a point. -/
theorem block17 (q : Fin 512) (l : Fin 256) : (show FVec Ideal S512x256 .f32 from (dats m 0 c).after 17 t) (ix2 q l)
    = long (argZ m c) (argC m c) (argCb m c) (line t q) l := by
  rw [after0_17]; unfold outsAt0; dsimp only; unfold out0_A_17; unfold kernelRun0_A; dsimp only
  rw [View.read_writes_junk_eq_canon]
  refine (canon_in _ _ _ (ix2 q l) (emb_unit _ _ _ fun a => ?_)).trans ?_
  · fin_cases a
    · exact (Nat.zero_add _).symm
    · exact (Nat.zero_add _).symm
  · exact (conv_long c (grid0.coords t) (ms0_3 t) (hs0_3 t) (ms0_4 t) (hs0_4 t) (ms0_7 t) (hs0_7 t) (ms0_8 t) (hs0_8 t) (ms0_11 t) (hs0_11 t)
      (ms0_12 t) (hs0_12 t) scM0_1 (iblk m c 3 t) (iblk m c 4 t) (iblk m c 7 t) (iblk m c 8 t) (iblk m c 11 t) (iblk m c 12 t) q l).trans (long_at m c t q l)

theorem at17 (y : S512x256.Idx) : (dats m 0 c).after 17 t y = long (argZ m c) (argC m c) (argCb m c) (line t (y 0)) (y 1) := by
  rw [show y = ix2 (y 0) (y 1) from (ix2_eta y).symm]
  exact block17 m c t (y 0) (y 1)

theorem final17 : (dats m 0 c).arrAt 17 cfg0.N = longs (argZ m c) (argC m c) (argCb m c) := by
  refine (dats m 0 c).arrAt_eq_of_covers 17 _ (by decide +kernel) fun t hf y => ?_
  have e1 : (win0_17.blk t).view.emb y 1 = y 1 := Fin.ext (by blk_simp [idx t])
  have e0 : ((win0_17.blk t).view.emb y 0 : ℕ) = (line t (y 0) : ℕ) := by
    blk_simp [idx t]; show t.val * 512 + (y 0 : ℕ) = 512 * t.val + (y 0 : ℕ); omega
  refine (at17 m c t y).trans ?_
  show _ = long _ _ _ ((win0_17.blk t).view.emb y 0 : ℕ) ((win0_17.blk t).view.emb y 1)
  exact congr (congrArg _ e0.symm) e1.symm

/-- A part of the output weights' row. -/
theorem gains (arg16 : Memref sig .tc .vmem S1x1024 .f32) (harg : arg16.IsWhole) (x15 : Vec Ideal S1x1024 .f32) (o : ℕ) (i0) (ho : o + 256 ≤ 1024) (l : Fin 256) :
    (show Vec Ideal S1x256 .f32 from View.readAt (Elt Ideal) arg16.view (Rect.unit (s := S1x1024) ![0, o] S1x256.size i0).toLoadRect (harg.unread x15)) (ix2 0 l)
      = x15 (ix2 0 ⟨o + l, by omega⟩) := by
  rw [View.readAt_eq_ld, harg.read_unread]
  refine View.ld_unit_apply_of _ _ _ _ _ _ fun a => ?_
  fin_cases a
  · rfl
  · rfl

theorem gains_wide (arg16 : Memref sig .tc .vmem S1x1024 .f32) (harg : arg16.IsWhole) (x15 : Vec Ideal S1x1024 .f32) (o : ℕ) (i0) (ho : o + 512 ≤ 1024) (l : Fin 512) :
    (show Vec Ideal S1x512 .f32 from View.readAt (Elt Ideal) arg16.view (Rect.unit (s := S1x1024) ![0, o] S1x512.size i0).toLoadRect (harg.unread x15)) (ix2 0 l)
      = x15 (ix2 0 ⟨o + l, by omega⟩) := by
  rw [View.readAt_eq_ld, harg.read_unread]
  refine View.ld_unit_apply_of _ _ _ _ _ _ fun a => ?_
  fin_cases a
  · rfl
  · rfl

theorem wide (arg10 : Memref sig .tc .vmem S512x512 .f32) {x : Vec Ideal S512x512 .f32} (harg : arg10.IsWhole) (i0) (q : Fin 512) (l : Fin 512) :
    (show Vec Ideal S512x512 .f32 from View.readAt (Elt Ideal) arg10.view (Rect.unit (s := S512x512) ![0, 0] S512x512.size i0).toLoadRect (harg.unread x)) (ix2 q l)
      = x (ix2 q l) := by
  rw [View.readAt_eq_ld, harg.read_unread]
  refine View.ld_unit_apply_of _ _ _ _ _ _ fun a => ?_
  fin_cases a
  · exact (Nat.zero_add _).symm
  · exact (Nat.zero_add _).symm

set_option maxHeartbeats 4000000 in
/-- The first result's block at a point. -/
theorem block16 (q : Fin 512) (n : Fin 1024) : (show FVec Ideal S512x1024 .bf16 from (dats m 0 c).after 16 t) (ix2 q n)
    = part (argZ m c) (argB m c) (argA m c) (argC m c) (argCb m c) (argLg m c) (argLb m c) (argOg m c) (line t q) n := by
  rw [after0_16]; unfold outsAt0; dsimp only; unfold out0_A_16; unfold kernelRun0_A; dsimp only
  rw [View.read_writes_junk_eq_canon]
  unfold part
  by_cases h : (n : ℕ) < 256
  · rw [dif_pos h]
    refine (canon_out _ _ _ (1 : Fin 2) (Or.inl (by show (n : ℕ) < 768; omega))).trans ?_
    refine (canon_out _ _ _ (1 : Fin 2) (Or.inl h)).trans ?_
    refine (canon_in _ _ _ (ix2 q ⟨n, h⟩) (emb_unit _ _ _ fun a => ?_)).trans ?_
    · fin_cases a
      · exact (Nat.zero_add _).symm
      · exact (Nat.zero_add _).symm
    · refine pay32_at (fun l => (conv_short c (grid0.coords t) (ms0_0 t) (hs0_0 t) (ms0_1 t) (hs0_1 t) (ms0_2 t) (hs0_2 t) (ms0_5 t) (hs0_5 t)
        (ms0_6 t) (hs0_6 t) (ms0_10 t) (hs0_10 t) scM0_0 (iblk m c 0 t) (iblk m c 1 t) (iblk m c 2 t) (iblk m c 5 t) (iblk m c 6 t) (iblk m c 10 t) q l).trans
        (ya_at m c t q l _ (read10 m c t))) ((gains (ms0_15 t) (hs0_15 t) (iblk m c 15 t) 0 _ (by decide) ⟨n, h⟩).trans ((read15 m c t 0 _).trans ?_))
      congr 2; exact Fin.ext (Nat.zero_add _)
  · rw [dif_neg h]
    by_cases h' : (n : ℕ) < 768
    · rw [dif_pos h']
      refine (canon_out _ _ _ (1 : Fin 2) (Or.inl h')).trans ?_
      refine (canon_in _ _ _ (ix2 q ⟨n - 256, by omega⟩) (emb_unit _ _ _ fun a => ?_)).trans ?_
      · fin_cases a
        · exact (Nat.zero_add _).symm
        · show (n : ℕ) = 256 + (n - 256); omega
      · refine pay33_at (fun l => (wide (ms0_9 t) (hs0_9 t) _ q l).trans (read9 m c t q l))
          ((gains_wide (ms0_15 t) (hs0_15 t) (iblk m c 15 t) 256 _ (by decide) ⟨n - 256, by omega⟩).trans ((read15 m c t 0 _).trans ?_))
        congr 2; exact Fin.ext (by show 256 + ((n : ℕ) - 256) = n; omega)
    · rw [dif_neg h']
      refine (canon_in _ _ _ (ix2 q ⟨n - 768, by omega⟩) (emb_unit _ _ _ fun a => ?_)).trans ?_
      · fin_cases a
        · exact (Nat.zero_add _).symm
        · show (n : ℕ) = 768 + (n - 768); omega
      · have U := fun l => (conv_long c (grid0.coords t) (ms0_3 t) (hs0_3 t) (ms0_4 t) (hs0_4 t) (ms0_7 t) (hs0_7 t) (ms0_8 t) (hs0_8 t) (ms0_11 t) (hs0_11 t)
          (ms0_12 t) (hs0_12 t) scM0_1 (iblk m c 3 t) (iblk m c 4 t) (iblk m c 7 t) (iblk m c 8 t) (iblk m c 11 t) (iblk m c 12 t) q l).trans (long_at m c t q l)
        have Y := fun l => pay31_at (pay28_at (l := l) U ((vec (ms0_13 t) (x12 := iblk m c 13 t) (hs0_13 t) inb_S1x256_S1x256_0_0 l).trans (read13 m c t 0 l))
          ((vec (ms0_14 t) (x12 := iblk m c 14 t) (hs0_14 t) inb_S1x256_S1x256_0_0 l).trans (read14 m c t 0 l)))
        refine pay1_at Y ((gains (ms0_15 t) (hs0_15 t) (iblk m c 15 t) 768 _ (by decide) ⟨n - 768, by omega⟩).trans ((read15 m c t 0 _).trans ?_))
        congr 2; exact Fin.ext (by show 768 + ((n : ℕ) - 768) = n; omega)

theorem at16 (y : S512x1024.Idx) : (dats m 0 c).after 16 t y
    = part (argZ m c) (argB m c) (argA m c) (argC m c) (argCb m c) (argLg m c) (argLb m c) (argOg m c) (line t (y 0)) (y 1) := by
  rw [show y = ix2 (y 0) (y 1) from (ix2_eta y).symm]
  exact block16 m c t (y 0) (y 1)

theorem final16 : (dats m 0 c).arrAt 16 cfg0.N
    = parts (argZ m c) (argB m c) (argA m c) (argC m c) (argCb m c) (argLg m c) (argLb m c) (argOg m c) := by
  refine (dats m 0 c).arrAt_eq_of_covers 16 _ (by decide +kernel) fun t hf y => ?_
  have e1 : (win0_16.blk t).view.emb y 1 = y 1 := Fin.ext (by blk_simp [idx t])
  have e0 : (win0_16.blk t).view.emb y 0 = line t (y 0) := Fin.ext (by
    blk_simp [idx t]; show t.val * 512 + (y 0 : ℕ) = 512 * t.val + (y 0 : ℕ); omega)
  refine (at16 m c t y).trans ?_
  show _ = part _ _ _ _ _ _ _ _ ((win0_16.blk t).view.emb y 0) ((win0_16.blk t).view.emb y 1)
  exact congr (congrArg _ e0.symm) e1.symm

end Cert.Proof.Mix
-- ==== Proof.MixRef.lean ====
module

public import proofs.«01_k».proof.Proof.MixOut
public import proofs.«01_k».proof.Proof.Act
public import proofs.«01_k».proof.Proof.Gen.ReferenceMixIdeal.Run

@[expose] public section

set_option maxRecDepth 16384
set_option synthInstance.maxSize 4096

noncomputable section

/-! # The token mixer's reference -/

namespace Cert.Proof.Mix

open Idealize.ShloMosaic Idealize.SL.Sem
open Cert.Proof.Chunk (sg)
open Cert.Proof.Plain (lg)
open Cert.Proof.Act (sg_eq_lg)
open Cert.ReferenceMixIdeal Cert.ReferenceMixIdeal.Gen

def rOne : FVec Ideal S2048x256 .f32 := broadcastInDim S2048x256 ![] bcast_S_S2048x256 (constant S_ .f32 0x3F800000#32)

def rLogi (u : FVec Ideal S2048x256 .f32) : FVec Ideal S2048x256 .f32 := Host.divf rOne (addf rOne (Host.exp (Host.negf u)))

theorem rLogi_at (u : FVec Ideal S2048x256 .f32) (i : S2048x256.Idx) : rLogi u i = sg (u i) := by
  rw [sg_eq_lg]
  pointwise [rLogi, rOne]
  rfl

/-- The product under the short convolution, below two rows of zeros. -/
def rPad (z : FVec Ideal S2048x2816 .f32) : FVec Ideal S2050x256 .f32 :=
  concatenate S2050x256 0 [⟨S2x256, (broadcastInDim S2x256 ![] bcast_S_S2x256 (constant S_ .f32 0x00000000#32))⟩, ⟨S2048x256, (mulf (extractStridedSlice S2048x256 ![0, 512] z slices_S2048x2816_S2048x256_0_512) (extractStridedSlice S2048x256 ![0, 0] z slices_S2048x2816_S2048x256_0_0))⟩] concatenates_S2x256_S2048x256_S2050x256_d0

theorem rPad_at (z : FVec Ideal S2048x2816 .f32) (q : Fin 2050) (l : Fin 256) : rPad z (ix2 q l) = sz z l (q + 30) := by
  pointwise [rPad]
  unfold sz below
  by_cases h : (q : ℕ) < 2
  · rw [dif_pos h, dif_neg (by omega)]
  · rw [dif_neg h, dif_pos (by omega), mul_comm]
    have e : (⟨(q : ℕ) - 2, by omega⟩ : Fin 2048) = ⟨(q : ℕ) + 30 - 32, by omega⟩ := Fin.ext (by show (q : ℕ) - 2 = (q : ℕ) + 30 - 32; omega)
    exact congrArg (fun p : Fin 2048 => z (ix2 p ⟨l, by omega⟩) * z (ix2 p ⟨512 + l, by omega⟩)) e

/-- The short convolution, gated. -/
def rShort (z : FVec Ideal S2048x2816 .f32) (a : FVec Ideal S3x256 .f32) : FVec Ideal S2048x256 .f32 :=
  mulf (extractStridedSlice S2048x256 ![0, 256] z slices_S2048x2816_S2048x256_0_256) (addf (addf (mulf (broadcastInDim S2048x256 ![0, 1] bcast_S1x256_S2048x256_0_1 (extractStridedSlice S1x256 ![0, 0] a slices_S3x256_S1x256_0_0)) (extractStridedSlice S2048x256 ![0, 0] (rPad z) slices_S2050x256_S2048x256_0_0)) (mulf (broadcastInDim S2048x256 ![0, 1] bcast_S1x256_S2048x256_0_1 (extractStridedSlice S1x256 ![1, 0] a slices_S3x256_S1x256_1_0)) (extractStridedSlice S2048x256 ![1, 0] (rPad z) slices_S2050x256_S2048x256_1_0))) (mulf (broadcastInDim S2048x256 ![0, 1] bcast_S1x256_S2048x256_0_1 (extractStridedSlice S1x256 ![2, 0] a slices_S3x256_S1x256_2_0)) (extractStridedSlice S2048x256 ![2, 0] (rPad z) slices_S2050x256_S2048x256_2_0)))

theorem rShort_at (z : FVec Ideal S2048x2816 .f32) (a : FVec Ideal S3x256 .f32) (p : Fin 2048) (l : Fin 256) :
    rShort z a (ix2 p l) = ya z a p l := by
  pointwise [rShort]
  rw [rPad_at, rPad_at, rPad_at]
  unfold ya
  rw [zero_add]
  have e0 : (p : ℕ) + 30 = 30 + p := by omega
  have e1 : 1 + (p : ℕ) + 30 = 31 + p := by omega
  have e2 : 2 + (p : ℕ) + 30 = 32 + p := by omega
  show z _ * (_ * sz z l ((p : ℕ) + 30) + _ * sz z l (1 + (p : ℕ) + 30) + _ * sz z l (2 + (p : ℕ) + 30)) = _
  rw [e0, e1, e2]

/-- The gated value under the long convolution, below thirty rows of zeros. -/
def rDeep (z : FVec Ideal S2048x2816 .f32) : FVec Ideal S2078x256 .f32 :=
  concatenate S2078x256 0 [⟨S30x256, (broadcastInDim S30x256 ![] bcast_S_S30x256 (constant S_ .f32 0x00000000#32))⟩, ⟨S2048x256, (mulf (extractStridedSlice S2048x256 ![0, 2304] z slices_S2048x2816_S2048x256_0_2304) (rLogi (extractStridedSlice S2048x256 ![0, 2560] z slices_S2048x2816_S2048x256_0_2560)))⟩] concatenates_S30x256_S2048x256_S2078x256_d0

theorem rDeep_at (z : FVec Ideal S2048x2816 .f32) (q : Fin 2078) (l : Fin 256) : rDeep z (ix2 q l) = gz z l (q + 2) := by
  pointwise [rDeep]
  unfold gz below
  by_cases h : (q : ℕ) < 30
  · rw [dif_pos h, dif_neg (by omega)]
  · rw [dif_neg h, dif_pos (by omega), rLogi_at]
    have e : (⟨(q : ℕ) - 30, by omega⟩ : Fin 2048) = ⟨(q : ℕ) + 2 - 32, by omega⟩ := Fin.ext (by show (q : ℕ) - 30 = (q : ℕ) + 2 - 32; omega)
    refine Eq.trans ?_ (congrArg (fun p : Fin 2048 => z (ix2 p ⟨2304 + l, by omega⟩) * sg (z (ix2 p ⟨2560 + l, by omega⟩))) e)
    pointwise []

/-- A tap of the long convolution. -/
def tapOf (k : ℕ) (x : FVec Ideal S2078x256 .f32) (w : FVec Ideal S31x256 .f32) (hw : S31x256.Slices ![k, 0] S1x256) (hx : S2078x256.Slices ![k, 0] S2048x256) : FVec Ideal S2048x256 .f32 :=
  mulf (broadcastInDim S2048x256 ![0, 1] bcast_S1x256_S2048x256_0_1 (extractStridedSlice S1x256 ![k, 0] w hw)) (extractStridedSlice S2048x256 ![k, 0] x hx)

theorem tapOf_at (k : ℕ) (z : FVec Ideal S2048x2816 .f32) (w : FVec Ideal S31x256 .f32) (hw) (hx) (h : k < 31) (p : Fin 2048) (l : Fin 256) :
    tapOf k (rDeep z) w hw hx (ix2 p l) = tz z w p l k := by
  pointwise [tapOf]
  rw [rDeep_at]
  unfold tz
  rw [dif_pos h]
  have e : k + (p : ℕ) + 2 = k + 2 + p := by omega
  show _ * gz z l (k + (p : ℕ) + 2) = _
  rw [e]

theorem add_at {a b : FVec Ideal S2048x256 .f32} {i : S2048x256.Idx} {A B : EReal} (ha : a i = A) (hb : b i = B) : addf a b i = A + B := by
  subst ha hb; rfl

/-- The long convolution with its shift. -/
def rTaps (x : FVec Ideal S2078x256 .f32) (w : FVec Ideal S31x256 .f32) (cb : FVec Ideal S1x256 .f32) : FVec Ideal S2048x256 .f32 :=
  addf (addf (addf (addf (addf (addf (addf (addf (addf (addf (addf (addf (addf (addf (addf (addf (addf (addf (addf (addf (addf (addf (addf (addf (addf (addf (addf (addf (addf (addf (addf (tapOf 0 x w slices_S31x256_S1x256_0_0 slices_S2078x256_S2048x256_0_0) (tapOf 1 x w slices_S31x256_S1x256_1_0 slices_S2078x256_S2048x256_1_0)) (tapOf 2 x w slices_S31x256_S1x256_2_0 slices_S2078x256_S2048x256_2_0)) (tapOf 3 x w slices_S31x256_S1x256_3_0 slices_S2078x256_S2048x256_3_0)) (tapOf 4 x w slices_S31x256_S1x256_4_0 slices_S2078x256_S2048x256_4_0)) (tapOf 5 x w slices_S31x256_S1x256_5_0 slices_S2078x256_S2048x256_5_0)) (tapOf 6 x w slices_S31x256_S1x256_6_0 slices_S2078x256_S2048x256_6_0)) (tapOf 7 x w slices_S31x256_S1x256_7_0 slices_S2078x256_S2048x256_7_0)) (tapOf 8 x w slices_S31x256_S1x256_8_0 slices_S2078x256_S2048x256_8_0)) (tapOf 9 x w slices_S31x256_S1x256_9_0 slices_S2078x256_S2048x256_9_0)) (tapOf 10 x w slices_S31x256_S1x256_10_0 slices_S2078x256_S2048x256_10_0)) (tapOf 11 x w slices_S31x256_S1x256_11_0 slices_S2078x256_S2048x256_11_0)) (tapOf 12 x w slices_S31x256_S1x256_12_0 slices_S2078x256_S2048x256_12_0)) (tapOf 13 x w slices_S31x256_S1x256_13_0 slices_S2078x256_S2048x256_13_0)) (tapOf 14 x w slices_S31x256_S1x256_14_0 slices_S2078x256_S2048x256_14_0)) (tapOf 15 x w slices_S31x256_S1x256_15_0 slices_S2078x256_S2048x256_15_0)) (tapOf 16 x w slices_S31x256_S1x256_16_0 slices_S2078x256_S2048x256_16_0)) (tapOf 17 x w slices_S31x256_S1x256_17_0 slices_S2078x256_S2048x256_17_0)) (tapOf 18 x w slices_S31x256_S1x256_18_0 slices_S2078x256_S2048x256_18_0)) (tapOf 19 x w slices_S31x256_S1x256_19_0 slices_S2078x256_S2048x256_19_0)) (tapOf 20 x w slices_S31x256_S1x256_20_0 slices_S2078x256_S2048x256_20_0)) (tapOf 21 x w slices_S31x256_S1x256_21_0 slices_S2078x256_S2048x256_21_0)) (tapOf 22 x w slices_S31x256_S1x256_22_0 slices_S2078x256_S2048x256_22_0)) (tapOf 23 x w slices_S31x256_S1x256_23_0 slices_S2078x256_S2048x256_23_0)) (tapOf 24 x w slices_S31x256_S1x256_24_0 slices_S2078x256_S2048x256_24_0)) (tapOf 25 x w slices_S31x256_S1x256_25_0 slices_S2078x256_S2048x256_25_0)) (tapOf 26 x w slices_S31x256_S1x256_26_0 slices_S2078x256_S2048x256_26_0)) (tapOf 27 x w slices_S31x256_S1x256_27_0 slices_S2078x256_S2048x256_27_0)) (tapOf 28 x w slices_S31x256_S1x256_28_0 slices_S2078x256_S2048x256_28_0)) (tapOf 29 x w slices_S31x256_S1x256_29_0 slices_S2078x256_S2048x256_29_0)) (tapOf 30 x w slices_S31x256_S1x256_30_0 slices_S2078x256_S2048x256_30_0)) (broadcastInDim S2048x256 ![0, 1] bcast_S1x256_S2048x256_0_1 cb)

theorem sums_last (b : EReal) (f : ℕ → EReal) : sums (0 + b) f = (f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30) + b := by
  unfold sums
  rw [zero_add]
  ac_rfl

theorem rTaps_at (z : FVec Ideal S2048x2816 .f32) (w : FVec Ideal S31x256 .f32) (cb : FVec Ideal S1x256 .f32) (p : Fin 2048) (l : Fin 256) :
    rTaps (rDeep z) w cb (ix2 p l) = long z w cb p l := by
  unfold long
  rw [sums_last]
  unfold rTaps
  refine add_at ?_ ?_
  · exact add_at (add_at (add_at (add_at (add_at (add_at (add_at (add_at (add_at (add_at (add_at (add_at (add_at (add_at (add_at (add_at (add_at (add_at (add_at (add_at (add_at (add_at (add_at (add_at (add_at (add_at (add_at (add_at (add_at (add_at (tapOf_at 0 z w _ _ (by decide) p l) (tapOf_at 1 z w _ _ (by decide) p l)) (tapOf_at 2 z w _ _ (by decide) p l)) (tapOf_at 3 z w _ _ (by decide) p l)) (tapOf_at 4 z w _ _ (by decide) p l)) (tapOf_at 5 z w _ _ (by decide) p l)) (tapOf_at 6 z w _ _ (by decide) p l)) (tapOf_at 7 z w _ _ (by decide) p l)) (tapOf_at 8 z w _ _ (by decide) p l)) (tapOf_at 9 z w _ _ (by decide) p l)) (tapOf_at 10 z w _ _ (by decide) p l)) (tapOf_at 11 z w _ _ (by decide) p l)) (tapOf_at 12 z w _ _ (by decide) p l)) (tapOf_at 13 z w _ _ (by decide) p l)) (tapOf_at 14 z w _ _ (by decide) p l)) (tapOf_at 15 z w _ _ (by decide) p l)) (tapOf_at 16 z w _ _ (by decide) p l)) (tapOf_at 17 z w _ _ (by decide) p l)) (tapOf_at 18 z w _ _ (by decide) p l)) (tapOf_at 19 z w _ _ (by decide) p l)) (tapOf_at 20 z w _ _ (by decide) p l)) (tapOf_at 21 z w _ _ (by decide) p l)) (tapOf_at 22 z w _ _ (by decide) p l)) (tapOf_at 23 z w _ _ (by decide) p l)) (tapOf_at 24 z w _ _ (by decide) p l)) (tapOf_at 25 z w _ _ (by decide) p l)) (tapOf_at 26 z w _ _ (by decide) p l)) (tapOf_at 27 z w _ _ (by decide) p l)) (tapOf_at 28 z w _ _ (by decide) p l)) (tapOf_at 29 z w _ _ (by decide) p l)) (tapOf_at 30 z w _ _ (by decide) p l)
  · pointwise []

/-- The rows' mean. -/
def rMean (u : FVec Ideal S2048x256 .f32) : FVec Ideal S2048x1 .f32 :=
  Host.divf (broadcastInDim S2048x1 ![0] bcast_S2048_S2048x1_0 (Host.reduceAdd u (constant S_ .f32 0x00000000#32) reducesTo_S2048x256_S2048_d1 h_S_)) (broadcastInDim S2048x1 ![] bcast_S_S2048x1 (constant S_ .f32 0x43800000#32))

theorem rMean_at (u : FVec Ideal S2048x256 .f32) (i : S2048x1.Idx) : rMean u i = mean (fun l => u (ix2 (i 0) l)) := by
  pointwise [rMean]
  rfl

/-- The rows' deviations from their mean. -/
def rDev (u : FVec Ideal S2048x256 .f32) : FVec Ideal S2048x256 .f32 :=
  subf u (broadcastInDim S2048x256 ![0, 1] bcast_S2048x1_S2048x256_0_1 (rMean u))

theorem rDev_at (u : FVec Ideal S2048x256 .f32) (i : S2048x256.Idx) : rDev u i = u i - mean (fun l => u (ix2 (i 0) l)) := by
  pointwise [rDev]
  rw [rMean_at]
  rfl

/-- Rows scaled to unit root mean square. -/
def rUnit (v : FVec Ideal S2048x256 .f32) : FVec Ideal S2048x256 .f32 :=
  mulf v (broadcastInDim S2048x256 ![0, 1] bcast_S2048x1_S2048x256_0_1 (Host.rsqrt (addf (rMean (mulf v v)) (broadcastInDim S2048x1 ![] bcast_S_S2048x1 (constant S_ .f32 0x358637BD#32)))))

theorem rUnit_at (v : FVec Ideal S2048x256 .f32) (i : S2048x256.Idx) : rUnit v i = v i * scale w256 (fun l => v (ix2 (i 0) l)) := by
  pointwise [rUnit]
  rw [rMean_at]
  rfl

def rUnitB (v : FVec Ideal S2048x512 .f32) : FVec Ideal S2048x512 .f32 :=
  mulf v (broadcastInDim S2048x512 ![0, 1] bcast_S2048x1_S2048x512_0_1 (Host.rsqrt (addf (Host.divf (broadcastInDim S2048x1 ![0] bcast_S2048_S2048x1_0 (Host.reduceAdd (mulf v v) (constant S_ .f32 0x00000000#32) reducesTo_S2048x512_S2048_d1 h_S_)) (broadcastInDim S2048x1 ![] bcast_S_S2048x1 (constant S_ .f32 0x44000000#32))) (broadcastInDim S2048x1 ![] bcast_S_S2048x1 (constant S_ .f32 0x358637BD#32)))))

theorem rUnitB_at (v : FVec Ideal S2048x512 .f32) (i : S2048x512.Idx) : rUnitB v i = v i * scale w512 (fun l => v (ix2 (i 0) l)) := by
  pointwise [rUnitB]
  rfl

/-- Rows normalised by mean and variance, with gain and shift. -/
def rLayer (u : FVec Ideal S2048x256 .f32) (g b : FVec Ideal S1x256 .f32) : FVec Ideal S2048x256 .f32 :=
  addf (mulf (rUnit (rDev u)) (broadcastInDim S2048x256 ![0, 1] bcast_S1x256_S2048x256_0_1 g)) (broadcastInDim S2048x256 ![0, 1] bcast_S1x256_S2048x256_0_1 b)

theorem rLayer_at (u : FVec Ideal S2048x256 .f32) (g b : FVec Ideal S1x256 .f32) (i : S2048x256.Idx) :
    rLayer u g b i = layer (fun l => u (ix2 (i 0) l)) (g (ix2 0 (i 1))) (b (ix2 0 (i 1))) (i 1) := by
  pointwise [rLayer]
  rw [rUnit_at]
  simp only [rDev_at]
  rw [show u i = u (ix2 (i 0) (i 1)) from congrArg u (ix2_eta i).symm]
  rfl

def rSilu (u : FVec Ideal S2048x256 .f32) : FVec Ideal S2048x256 .f32 := mulf u (rLogi u)

theorem rSilu_at (u : FVec Ideal S2048x256 .f32) (i : S2048x256.Idx) : rSilu u i = silu (u i) := by
  pointwise [rSilu]
  rw [rLogi_at]
  rfl

/-- Three normalised parts side by side, weighted. -/
def rParts (a : FVec Ideal S2048x256 .f32) (b : FVec Ideal S2048x512 .f32) (c : FVec Ideal S2048x256 .f32) (og : FVec Ideal S1x1024 .f32) : FVec Ideal S2048x1024 .bf16 :=
  truncf .bf16 (concatenate S2048x1024 1 [⟨S2048x256, mulf (rUnit a) (broadcastInDim S2048x256 ![0, 1] bcast_S1x256_S2048x256_0_1 (extractStridedSlice S1x256 ![0, 0] og slices_S1x1024_S1x256_0_0))⟩, ⟨S2048x512, mulf (rUnitB b) (broadcastInDim S2048x512 ![0, 1] bcast_S1x512_S2048x512_0_1 (extractStridedSlice S1x512 ![0, 256] og slices_S1x1024_S1x512_0_256))⟩, ⟨S2048x256, mulf (rUnit c) (broadcastInDim S2048x256 ![0, 1] bcast_S1x256_S2048x256_0_1 (extractStridedSlice S1x256 ![0, 768] og slices_S1x1024_S1x256_0_768))⟩] concatenates_S2048x256_S2048x512_S2048x256_S2048x1024_d1 : FVec Ideal S2048x1024 .f32) bitsLt_bf16_f32

theorem rParts_at (a : FVec Ideal S2048x256 .f32) (b : FVec Ideal S2048x512 .f32) (c : FVec Ideal S2048x256 .f32) (og : FVec Ideal S1x1024 .f32) (p : Fin 2048) (n : Fin 1024) :
    rParts a b c og (ix2 p n) = if h : (n : ℕ) < 256 then unit w256 (fun l => a (ix2 p l)) (og (ix2 0 n)) ⟨n, h⟩
      else if h' : (n : ℕ) < 768 then unit w512 (fun l => b (ix2 p l)) (og (ix2 0 n)) ⟨n - 256, by omega⟩
      else unit w256 (fun l => c (ix2 p l)) (og (ix2 0 n)) ⟨n - 768, by omega⟩ := by
  pointwise [rParts]
  simp only [rUnit_at, rUnitB_at]
  by_cases h : (n : ℕ) < 256
  · rw [dif_pos h, dif_pos h]; rfl
  · rw [dif_neg h, dif_neg h]
    by_cases h' : (n : ℕ) < 768
    · rw [dif_pos (by omega), dif_pos h']
      have e : (⟨256 + ((n : ℕ) - 256), by omega⟩ : Fin 1024) = n := Fin.ext (by show 256 + ((n : ℕ) - 256) = n; omega)
      exact congrArg (fun k : Fin 1024 => unit w512 (fun l => b (ix2 p l)) (og (ix2 0 k)) ⟨n - 256, by omega⟩) e
    · rw [dif_neg (by omega), dif_neg h']
      have e : (⟨768 + ((n : ℕ) - 256 - 512), by omega⟩ : Fin 1024) = n := Fin.ext (by show 768 + ((n : ℕ) - 256 - 512) = n; omega)
      have e' : (⟨(n : ℕ) - 256 - 512, by omega⟩ : Fin 256) = ⟨n - 768, by omega⟩ := Fin.ext (by show (n : ℕ) - 256 - 512 = n - 768; omega)
      show unit w256 (fun l => c (ix2 p l)) (og (ix2 0 ⟨768 + ((n : ℕ) - 256 - 512), by omega⟩)) ⟨(n : ℕ) - 256 - 512, by omega⟩ = _
      rw [e, e']

/-- The reference's first result. -/
theorem ref_parts (z : FVec Ideal S2048x2816 .f32) (yb : FVec Ideal S2048x512 .f32) (a : FVec Ideal S3x256 .f32) (w : FVec Ideal S31x256 .f32)
    (cb lg lb : FVec Ideal S1x256 .f32) (og : FVec Ideal S1x1024 .f32) :
    rParts (rShort z a) yb (rSilu (rLayer (rTaps (rDeep z) w cb) lg lb)) og = parts z yb a w cb lg lb og := by
  funext i
  obtain ⟨p, n, rfl⟩ : ∃ (p : Fin 2048) (n : Fin 1024), i = ix2 p n := ⟨i 0, i 1, (ix2_eta i).symm⟩
  have ha : (fun l => rShort z a (ix2 p l)) = ya z a p := funext fun l => rShort_at z a p l
  have hu : (fun l => rTaps (rDeep z) w cb (ix2 p l)) = long z w cb p := funext fun l => rTaps_at z w cb p l
  have hc : (fun l => rSilu (rLayer (rTaps (rDeep z) w cb) lg lb) (ix2 p l)) = yc z w cb lg lb p := funext fun l =>
    (rSilu_at _ _).trans (congrArg silu ((rLayer_at _ _ _ _).trans (congrArg (fun v => layer v (lg (ix2 0 l)) (lb (ix2 0 l)) l) hu)))
  rw [rParts_at, ha, hc]
  rfl

/-- The reference's second result. -/
theorem ref_longs (z : FVec Ideal S2048x2816 .f32) (w : FVec Ideal S31x256 .f32) (cb : FVec Ideal S1x256 .f32) :
    rTaps (rDeep z) w cb = longs z w cb := by
  funext i
  obtain ⟨p, n, rfl⟩ : ∃ (p : Fin 2048) (n : Fin 256), i = ix2 p n := ⟨i 0, i 1, (ix2_eta i).symm⟩
  exact rTaps_at z w cb p n

section Run

open Cert.ReferenceMixIdeal.Value StableHlo

variable (m : (ℓ : Loc nD τ sig) → Buf (Elt Ideal) ℓ) (c : Dev nD)

def refZ : FVec Ideal S2048x2816 .f32 := m ((c.tc : Thread nD τ).loc main_arg0)
def refB : FVec Ideal S2048x512 .f32 := m ((c.tc : Thread nD τ).loc main_arg1)
def refA : FVec Ideal S3x256 .f32 := m ((c.tc : Thread nD τ).loc main_arg2)
def refC : FVec Ideal S31x256 .f32 := m ((c.tc : Thread nD τ).loc main_arg3)
def refCb : FVec Ideal S1x256 .f32 := m ((c.tc : Thread nD τ).loc main_arg4)
def refLg : FVec Ideal S1x256 .f32 := m ((c.tc : Thread nD τ).loc main_arg5)
def refLb : FVec Ideal S1x256 .f32 := m ((c.tc : Thread nD τ).loc main_arg6)
def refOg : FVec Ideal S1x1024 .f32 := m ((c.tc : Thread nD τ).loc main_arg7)

theorem res_short : res_main_v22 (launchContents m c) = rShort (refZ m c) (refA m c) := rfl
theorem res_deep : res_main_v31 (launchContents m c) = rDeep (refZ m c) := rfl
theorem res_taps : res_main_v187 (launchContents m c) = rTaps (rDeep (refZ m c)) (refC m c) (refCb m c) := rfl
theorem res_gated : res_main_v210 (launchContents m c) = rSilu (rLayer (rTaps (rDeep (refZ m c)) (refC m c) (refCb m c)) (refLg m c) (refLb m c)) := rfl

end Run

end Cert.Proof.Mix
-- ==== Proof.AdamBody.lean ====
module

public import proofs.«01_k».proof.Proof.Gen.KernelAdamIdeal.Launch
public import proofs.«01_k».proof.Proof.Gen.KernelAdamIdeal.Skeleton
public import proofs.«01_k».proof.Proof.Gen.KernelAdamIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

/-! # The optimiser's body on the small weights: what it leaves in each result's buffer -/

namespace Cert.Proof.Adam

open Cert.KernelAdamIdeal Cert.KernelAdamIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's accesses -/

abbrev r0_0 : Rect S4x3x32 := Rect.unit (s := S4x3x32) ![0, 0, 0] S4x3x32.size inb_S4x3x32_S4x3x32_0_0_0
abbrev r0_1 : Rect S4x31x32 := Rect.unit (s := S4x31x32) ![0, 0, 0] S4x31x32.size inb_S4x31x32_S4x31x32_0_0_0
abbrev r0_2 : Rect S4x3x704 := Rect.unit (s := S4x3x704) ![0, 0, 0] S4x3x704.size inb_S4x3x704_S4x3x704_0_0_0
abbrev r0_3 : Rect S4x1024 := Rect.unit (s := S4x1024) ![0, 0] S4x1024.size inb_S4x1024_S4x1024_0_0
abbrev r0_4 : Rect S4x256 := Rect.unit (s := S4x256) ![0, 0] S4x256.size inb_S4x256_S4x256_0_0
abbrev r0_5 : Rect S32x8 := Rect.unit (s := S32x8) ![0, 0] S32x8.size inb_S32x8_S32x8_0_0
abbrev r0_6 : Rect S1x1024 := Rect.unit (s := S1x1024) ![0, 0] S1x1024.size inb_S1x1024_S1x1024_0_0

/-! ## What the body leaves in each output window's buffer -/

def out0_44 (x0 : Vec F S4x3x32 .f32) (x11 : Vec F S4x3x32 .f32) (x22 : Vec F S4x3x32 .f32) (x33 : Vec F S4x3x32 .f32) : Vec F S4x3x32 .f32 :=
  View.canon [⟨r0_0, k0_pay6 (View.ld x11 r0_0) (View.ld x0 r0_0) (View.ld x22 r0_0) (View.ld x33 r0_0)⟩]

theorem cover0_44 (p0 : Vec F S4x3x32 .f32) (y : S4x3x32.Idx) :
    ∃ pc ∈ ([⟨r0_0, p0⟩] : List (View.Piece (Elt F) S4x3x32 .f32)), y ∈ pc.1.set :=
  View.cover_of_tiled [⟨r0_0, p0⟩] S4x3x32.size (by rfl) y

def out0_45 (x1 : Vec F S4x31x32 .f32) (x12 : Vec F S4x31x32 .f32) (x23 : Vec F S4x31x32 .f32) (x34 : Vec F S4x31x32 .f32) : Vec F S4x31x32 .f32 :=
  View.canon [⟨r0_1, k0_pay9 (View.ld x12 r0_1) (View.ld x1 r0_1) (View.ld x23 r0_1) (View.ld x34 r0_1)⟩]

theorem cover0_45 (p0 : Vec F S4x31x32 .f32) (y : S4x31x32.Idx) :
    ∃ pc ∈ ([⟨r0_1, p0⟩] : List (View.Piece (Elt F) S4x31x32 .f32)), y ∈ pc.1.set :=
  View.cover_of_tiled [⟨r0_1, p0⟩] S4x31x32.size (by rfl) y

def out0_46 (x2 : Vec F S4x3x704 .f32) (x13 : Vec F S4x3x704 .f32) (x24 : Vec F S4x3x704 .f32) (x35 : Vec F S4x3x704 .f32) : Vec F S4x3x704 .f32 :=
  View.canon [⟨r0_2, k0_pay12 (View.ld x13 r0_2) (View.ld x2 r0_2) (View.ld x24 r0_2) (View.ld x35 r0_2)⟩]

theorem cover0_46 (p0 : Vec F S4x3x704 .f32) (y : S4x3x704.Idx) :
    ∃ pc ∈ ([⟨r0_2, p0⟩] : List (View.Piece (Elt F) S4x3x704 .f32)), y ∈ pc.1.set :=
  View.cover_of_tiled [⟨r0_2, p0⟩] S4x3x704.size (by rfl) y

def out0_47 (x3 : Vec F S4x1024 .f32) (x14 : Vec F S4x1024 .f32) (x25 : Vec F S4x1024 .f32) (x36 : Vec F S4x1024 .f32) : Vec F S4x1024 .f32 :=
  View.canon [⟨r0_3, k0_pay15 (View.ld x14 r0_3) (View.ld x3 r0_3) (View.ld x25 r0_3) (View.ld x36 r0_3)⟩]

theorem cover0_47 (p0 : Vec F S4x1024 .f32) (y : S4x1024.Idx) :
    ∃ pc ∈ ([⟨r0_3, p0⟩] : List (View.Piece (Elt F) S4x1024 .f32)), y ∈ pc.1.set :=
  View.cover_of_tiled [⟨r0_3, p0⟩] S4x1024.size (by rfl) y

def out0_48 (x4 : Vec F S4x256 .f32) (x15 : Vec F S4x256 .f32) (x26 : Vec F S4x256 .f32) (x37 : Vec F S4x256 .f32) : Vec F S4x256 .f32 :=
  View.canon [⟨r0_4, k0_pay18 (View.ld x15 r0_4) (View.ld x4 r0_4) (View.ld x26 r0_4) (View.ld x37 r0_4)⟩]

theorem cover0_48 (p0 : Vec F S4x256 .f32) (y : S4x256.Idx) :
    ∃ pc ∈ ([⟨r0_4, p0⟩] : List (View.Piece (Elt F) S4x256 .f32)), y ∈ pc.1.set :=
  View.cover_of_tiled [⟨r0_4, p0⟩] S4x256.size (by rfl) y

def out0_49 (x5 : Vec F S4x256 .f32) (x16 : Vec F S4x256 .f32) (x27 : Vec F S4x256 .f32) (x38 : Vec F S4x256 .f32) : Vec F S4x256 .f32 :=
  View.canon [⟨r0_4, k0_pay21 (View.ld x16 r0_4) (View.ld x5 r0_4) (View.ld x27 r0_4) (View.ld x38 r0_4)⟩]

theorem cover0_49 (p0 : Vec F S4x256 .f32) (y : S4x256.Idx) :
    ∃ pc ∈ ([⟨r0_4, p0⟩] : List (View.Piece (Elt F) S4x256 .f32)), y ∈ pc.1.set :=
  View.cover_of_tiled [⟨r0_4, p0⟩] S4x256.size (by rfl) y

def out0_50 (x6 : Vec F S4x256 .f32) (x17 : Vec F S4x256 .f32) (x28 : Vec F S4x256 .f32) (x39 : Vec F S4x256 .f32) : Vec F S4x256 .f32 :=
  View.canon [⟨r0_4, k0_pay24 (View.ld x17 r0_4) (View.ld x6 r0_4) (View.ld x28 r0_4) (View.ld x39 r0_4)⟩]

theorem cover0_50 (p0 : Vec F S4x256 .f32) (y : S4x256.Idx) :
    ∃ pc ∈ ([⟨r0_4, p0⟩] : List (View.Piece (Elt F) S4x256 .f32)), y ∈ pc.1.set :=
  View.cover_of_tiled [⟨r0_4, p0⟩] S4x256.size (by rfl) y

def out0_51 (x7 : Vec F S4x1024 .f32) (x18 : Vec F S4x1024 .f32) (x29 : Vec F S4x1024 .f32) (x40 : Vec F S4x1024 .f32) : Vec F S4x1024 .f32 :=
  View.canon [⟨r0_3, k0_pay27 (View.ld x18 r0_3) (View.ld x7 r0_3) (View.ld x29 r0_3) (View.ld x40 r0_3)⟩]

theorem cover0_51 (p0 : Vec F S4x1024 .f32) (y : S4x1024.Idx) :
    ∃ pc ∈ ([⟨r0_3, p0⟩] : List (View.Piece (Elt F) S4x1024 .f32)), y ∈ pc.1.set :=
  View.cover_of_tiled [⟨r0_3, p0⟩] S4x1024.size (by rfl) y

def out0_52 (x8 : Vec F S4x1024 .f32) (x19 : Vec F S4x1024 .f32) (x30 : Vec F S4x1024 .f32) (x41 : Vec F S4x1024 .f32) : Vec F S4x1024 .f32 :=
  View.canon [⟨r0_3, k0_pay30 (View.ld x19 r0_3) (View.ld x8 r0_3) (View.ld x30 r0_3) (View.ld x41 r0_3)⟩]

theorem cover0_52 (p0 : Vec F S4x1024 .f32) (y : S4x1024.Idx) :
    ∃ pc ∈ ([⟨r0_3, p0⟩] : List (View.Piece (Elt F) S4x1024 .f32)), y ∈ pc.1.set :=
  View.cover_of_tiled [⟨r0_3, p0⟩] S4x1024.size (by rfl) y

def out0_53 (x9 : Vec F S32x8 .f32) (x20 : Vec F S32x8 .f32) (x31 : Vec F S32x8 .f32) (x42 : Vec F S32x8 .f32) : Vec F S32x8 .f32 :=
  View.canon [⟨r0_5, k0_pay33 (View.ld x20 r0_5) (View.ld x9 r0_5) (View.ld x31 r0_5) (View.ld x42 r0_5)⟩]

theorem cover0_53 (p0 : Vec F S32x8 .f32) (y : S32x8.Idx) :
    ∃ pc ∈ ([⟨r0_5, p0⟩] : List (View.Piece (Elt F) S32x8 .f32)), y ∈ pc.1.set :=
  View.cover_of_tiled [⟨r0_5, p0⟩] S32x8.size (by rfl) y

def out0_54 (x10 : Vec F S1x1024 .f32) (x21 : Vec F S1x1024 .f32) (x32 : Vec F S1x1024 .f32) (x43 : Vec F S1x1024 .f32) : Vec F S1x1024 .f32 :=
  View.canon [⟨r0_6, k0_pay3 (View.ld x21 r0_6) (View.ld x10 r0_6) (View.ld x32 r0_6) (View.ld x43 r0_6)⟩]

theorem cover0_54 (p0 : Vec F S1x1024 .f32) (y : S1x1024.Idx) :
    ∃ pc ∈ ([⟨r0_6, p0⟩] : List (View.Piece (Elt F) S1x1024 .f32)), y ∈ pc.1.set :=
  View.cover_of_tiled [⟨r0_6, p0⟩] S1x1024.size (by rfl) y

def out0_55 (x0 : Vec F S4x3x32 .f32) (x22 : Vec F S4x3x32 .f32) : Vec F S4x3x32 .f32 :=
  View.canon [⟨r0_0, k0_pay4 (View.ld x0 r0_0) (View.ld x22 r0_0)⟩]

theorem cover0_55 (p0 : Vec F S4x3x32 .f32) (y : S4x3x32.Idx) :
    ∃ pc ∈ ([⟨r0_0, p0⟩] : List (View.Piece (Elt F) S4x3x32 .f32)), y ∈ pc.1.set :=
  View.cover_of_tiled [⟨r0_0, p0⟩] S4x3x32.size (by rfl) y

def out0_56 (x1 : Vec F S4x31x32 .f32) (x23 : Vec F S4x31x32 .f32) : Vec F S4x31x32 .f32 :=
  View.canon [⟨r0_1, k0_pay7 (View.ld x1 r0_1) (View.ld x23 r0_1)⟩]

theorem cover0_56 (p0 : Vec F S4x31x32 .f32) (y : S4x31x32.Idx) :
    ∃ pc ∈ ([⟨r0_1, p0⟩] : List (View.Piece (Elt F) S4x31x32 .f32)), y ∈ pc.1.set :=
  View.cover_of_tiled [⟨r0_1, p0⟩] S4x31x32.size (by rfl) y

def out0_57 (x2 : Vec F S4x3x704 .f32) (x24 : Vec F S4x3x704 .f32) : Vec F S4x3x704 .f32 :=
  View.canon [⟨r0_2, k0_pay10 (View.ld x2 r0_2) (View.ld x24 r0_2)⟩]

theorem cover0_57 (p0 : Vec F S4x3x704 .f32) (y : S4x3x704.Idx) :
    ∃ pc ∈ ([⟨r0_2, p0⟩] : List (View.Piece (Elt F) S4x3x704 .f32)), y ∈ pc.1.set :=
  View.cover_of_tiled [⟨r0_2, p0⟩] S4x3x704.size (by rfl) y

def out0_58 (x3 : Vec F S4x1024 .f32) (x25 : Vec F S4x1024 .f32) : Vec F S4x1024 .f32 :=
  View.canon [⟨r0_3, k0_pay13 (View.ld x3 r0_3) (View.ld x25 r0_3)⟩]

theorem cover0_58 (p0 : Vec F S4x1024 .f32) (y : S4x1024.Idx) :
    ∃ pc ∈ ([⟨r0_3, p0⟩] : List (View.Piece (Elt F) S4x1024 .f32)), y ∈ pc.1.set :=
  View.cover_of_tiled [⟨r0_3, p0⟩] S4x1024.size (by rfl) y

def out0_59 (x4 : Vec F S4x256 .f32) (x26 : Vec F S4x256 .f32) : Vec F S4x256 .f32 :=
  View.canon [⟨r0_4, k0_pay16 (View.ld x4 r0_4) (View.ld x26 r0_4)⟩]

theorem cover0_59 (p0 : Vec F S4x256 .f32) (y : S4x256.Idx) :
    ∃ pc ∈ ([⟨r0_4, p0⟩] : List (View.Piece (Elt F) S4x256 .f32)), y ∈ pc.1.set :=
  View.cover_of_tiled [⟨r0_4, p0⟩] S4x256.size (by rfl) y

def out0_60 (x5 : Vec F S4x256 .f32) (x27 : Vec F S4x256 .f32) : Vec F S4x256 .f32 :=
  View.canon [⟨r0_4, k0_pay19 (View.ld x5 r0_4) (View.ld x27 r0_4)⟩]

theorem cover0_60 (p0 : Vec F S4x256 .f32) (y : S4x256.Idx) :
    ∃ pc ∈ ([⟨r0_4, p0⟩] : List (View.Piece (Elt F) S4x256 .f32)), y ∈ pc.1.set :=
  View.cover_of_tiled [⟨r0_4, p0⟩] S4x256.size (by rfl) y

def out0_61 (x6 : Vec F S4x256 .f32) (x28 : Vec F S4x256 .f32) : Vec F S4x256 .f32 :=
  View.canon [⟨r0_4, k0_pay22 (View.ld x6 r0_4) (View.ld x28 r0_4)⟩]

theorem cover0_61 (p0 : Vec F S4x256 .f32) (y : S4x256.Idx) :
    ∃ pc ∈ ([⟨r0_4, p0⟩] : List (View.Piece (Elt F) S4x256 .f32)), y ∈ pc.1.set :=
  View.cover_of_tiled [⟨r0_4, p0⟩] S4x256.size (by rfl) y

def out0_62 (x7 : Vec F S4x1024 .f32) (x29 : Vec F S4x1024 .f32) : Vec F S4x1024 .f32 :=
  View.canon [⟨r0_3, k0_pay25 (View.ld x7 r0_3) (View.ld x29 r0_3)⟩]

theorem cover0_62 (p0 : Vec F S4x1024 .f32) (y : S4x1024.Idx) :
    ∃ pc ∈ ([⟨r0_3, p0⟩] : List (View.Piece (Elt F) S4x1024 .f32)), y ∈ pc.1.set :=
  View.cover_of_tiled [⟨r0_3, p0⟩] S4x1024.size (by rfl) y

def out0_63 (x8 : Vec F S4x1024 .f32) (x30 : Vec F S4x1024 .f32) : Vec F S4x1024 .f32 :=
  View.canon [⟨r0_3, k0_pay28 (View.ld x8 r0_3) (View.ld x30 r0_3)⟩]

theorem cover0_63 (p0 : Vec F S4x1024 .f32) (y : S4x1024.Idx) :
    ∃ pc ∈ ([⟨r0_3, p0⟩] : List (View.Piece (Elt F) S4x1024 .f32)), y ∈ pc.1.set :=
  View.cover_of_tiled [⟨r0_3, p0⟩] S4x1024.size (by rfl) y

def out0_64 (x9 : Vec F S32x8 .f32) (x31 : Vec F S32x8 .f32) : Vec F S32x8 .f32 :=
  View.canon [⟨r0_5, k0_pay31 (View.ld x9 r0_5) (View.ld x31 r0_5)⟩]

theorem cover0_64 (p0 : Vec F S32x8 .f32) (y : S32x8.Idx) :
    ∃ pc ∈ ([⟨r0_5, p0⟩] : List (View.Piece (Elt F) S32x8 .f32)), y ∈ pc.1.set :=
  View.cover_of_tiled [⟨r0_5, p0⟩] S32x8.size (by rfl) y

def out0_65 (x10 : Vec F S1x1024 .f32) (x32 : Vec F S1x1024 .f32) : Vec F S1x1024 .f32 :=
  View.canon [⟨r0_6, k0_pay1 (View.ld x10 r0_6) (View.ld x32 r0_6)⟩]

theorem cover0_65 (p0 : Vec F S1x1024 .f32) (y : S1x1024.Idx) :
    ∃ pc ∈ ([⟨r0_6, p0⟩] : List (View.Piece (Elt F) S1x1024 .f32)), y ∈ pc.1.set :=
  View.cover_of_tiled [⟨r0_6, p0⟩] S1x1024.size (by rfl) y

def out0_66 (x0 : Vec F S4x3x32 .f32) (x33 : Vec F S4x3x32 .f32) : Vec F S4x3x32 .f32 :=
  View.canon [⟨r0_0, k0_pay5 (View.ld x0 r0_0) (View.ld x33 r0_0)⟩]

theorem cover0_66 (p0 : Vec F S4x3x32 .f32) (y : S4x3x32.Idx) :
    ∃ pc ∈ ([⟨r0_0, p0⟩] : List (View.Piece (Elt F) S4x3x32 .f32)), y ∈ pc.1.set :=
  View.cover_of_tiled [⟨r0_0, p0⟩] S4x3x32.size (by rfl) y

def out0_67 (x1 : Vec F S4x31x32 .f32) (x34 : Vec F S4x31x32 .f32) : Vec F S4x31x32 .f32 :=
  View.canon [⟨r0_1, k0_pay8 (View.ld x1 r0_1) (View.ld x34 r0_1)⟩]

theorem cover0_67 (p0 : Vec F S4x31x32 .f32) (y : S4x31x32.Idx) :
    ∃ pc ∈ ([⟨r0_1, p0⟩] : List (View.Piece (Elt F) S4x31x32 .f32)), y ∈ pc.1.set :=
  View.cover_of_tiled [⟨r0_1, p0⟩] S4x31x32.size (by rfl) y

def out0_68 (x2 : Vec F S4x3x704 .f32) (x35 : Vec F S4x3x704 .f32) : Vec F S4x3x704 .f32 :=
  View.canon [⟨r0_2, k0_pay11 (View.ld x2 r0_2) (View.ld x35 r0_2)⟩]

theorem cover0_68 (p0 : Vec F S4x3x704 .f32) (y : S4x3x704.Idx) :
    ∃ pc ∈ ([⟨r0_2, p0⟩] : List (View.Piece (Elt F) S4x3x704 .f32)), y ∈ pc.1.set :=
  View.cover_of_tiled [⟨r0_2, p0⟩] S4x3x704.size (by rfl) y

def out0_69 (x3 : Vec F S4x1024 .f32) (x36 : Vec F S4x1024 .f32) : Vec F S4x1024 .f32 :=
  View.canon [⟨r0_3, k0_pay14 (View.ld x3 r0_3) (View.ld x36 r0_3)⟩]

theorem cover0_69 (p0 : Vec F S4x1024 .f32) (y : S4x1024.Idx) :
    ∃ pc ∈ ([⟨r0_3, p0⟩] : List (View.Piece (Elt F) S4x1024 .f32)), y ∈ pc.1.set :=
  View.cover_of_tiled [⟨r0_3, p0⟩] S4x1024.size (by rfl) y

def out0_70 (x4 : Vec F S4x256 .f32) (x37 : Vec F S4x256 .f32) : Vec F S4x256 .f32 :=
  View.canon [⟨r0_4, k0_pay17 (View.ld x4 r0_4) (View.ld x37 r0_4)⟩]

theorem cover0_70 (p0 : Vec F S4x256 .f32) (y : S4x256.Idx) :
    ∃ pc ∈ ([⟨r0_4, p0⟩] : List (View.Piece (Elt F) S4x256 .f32)), y ∈ pc.1.set :=
  View.cover_of_tiled [⟨r0_4, p0⟩] S4x256.size (by rfl) y

def out0_71 (x5 : Vec F S4x256 .f32) (x38 : Vec F S4x256 .f32) : Vec F S4x256 .f32 :=
  View.canon [⟨r0_4, k0_pay20 (View.ld x5 r0_4) (View.ld x38 r0_4)⟩]

theorem cover0_71 (p0 : Vec F S4x256 .f32) (y : S4x256.Idx) :
    ∃ pc ∈ ([⟨r0_4, p0⟩] : List (View.Piece (Elt F) S4x256 .f32)), y ∈ pc.1.set :=
  View.cover_of_tiled [⟨r0_4, p0⟩] S4x256.size (by rfl) y

def out0_72 (x6 : Vec F S4x256 .f32) (x39 : Vec F S4x256 .f32) : Vec F S4x256 .f32 :=
  View.canon [⟨r0_4, k0_pay23 (View.ld x6 r0_4) (View.ld x39 r0_4)⟩]

theorem cover0_72 (p0 : Vec F S4x256 .f32) (y : S4x256.Idx) :
    ∃ pc ∈ ([⟨r0_4, p0⟩] : List (View.Piece (Elt F) S4x256 .f32)), y ∈ pc.1.set :=
  View.cover_of_tiled [⟨r0_4, p0⟩] S4x256.size (by rfl) y

def out0_73 (x7 : Vec F S4x1024 .f32) (x40 : Vec F S4x1024 .f32) : Vec F S4x1024 .f32 :=
  View.canon [⟨r0_3, k0_pay26 (View.ld x7 r0_3) (View.ld x40 r0_3)⟩]

theorem cover0_73 (p0 : Vec F S4x1024 .f32) (y : S4x1024.Idx) :
    ∃ pc ∈ ([⟨r0_3, p0⟩] : List (View.Piece (Elt F) S4x1024 .f32)), y ∈ pc.1.set :=
  View.cover_of_tiled [⟨r0_3, p0⟩] S4x1024.size (by rfl) y

def out0_74 (x8 : Vec F S4x1024 .f32) (x41 : Vec F S4x1024 .f32) : Vec F S4x1024 .f32 :=
  View.canon [⟨r0_3, k0_pay29 (View.ld x8 r0_3) (View.ld x41 r0_3)⟩]

theorem cover0_74 (p0 : Vec F S4x1024 .f32) (y : S4x1024.Idx) :
    ∃ pc ∈ ([⟨r0_3, p0⟩] : List (View.Piece (Elt F) S4x1024 .f32)), y ∈ pc.1.set :=
  View.cover_of_tiled [⟨r0_3, p0⟩] S4x1024.size (by rfl) y

def out0_75 (x9 : Vec F S32x8 .f32) (x42 : Vec F S32x8 .f32) : Vec F S32x8 .f32 :=
  View.canon [⟨r0_5, k0_pay32 (View.ld x9 r0_5) (View.ld x42 r0_5)⟩]

theorem cover0_75 (p0 : Vec F S32x8 .f32) (y : S32x8.Idx) :
    ∃ pc ∈ ([⟨r0_5, p0⟩] : List (View.Piece (Elt F) S32x8 .f32)), y ∈ pc.1.set :=
  View.cover_of_tiled [⟨r0_5, p0⟩] S32x8.size (by rfl) y

def out0_76 (x10 : Vec F S1x1024 .f32) (x43 : Vec F S1x1024 .f32) : Vec F S1x1024 .f32 :=
  View.canon [⟨r0_6, k0_pay2 (View.ld x10 r0_6) (View.ld x43 r0_6)⟩]

theorem cover0_76 (p0 : Vec F S1x1024 .f32) (y : S1x1024.Idx) :
    ∃ pc ∈ ([⟨r0_6, p0⟩] : List (View.Piece (Elt F) S1x1024 .f32)), y ∈ pc.1.set :=
  View.cover_of_tiled [⟨r0_6, p0⟩] S1x1024.size (by rfl) y

/-! ## The body's triple -/

set_option maxHeartbeats 4000000 in
/-- The body, from its arguments' buffers, ends with those as they were and each result's buffer at its one stored value. -/
theorem sound_kernel (c : Dev nD) (E : Set ℕ) (arg0 : Memref sig .tc .vmem S4x3x32 .f32) (harg0 : arg0.IsWhole) (arg1 : Memref sig .tc .vmem S4x31x32 .f32) (harg1 : arg1.IsWhole) (arg2 : Memref sig .tc .vmem S4x3x704 .f32) (harg2 : arg2.IsWhole) (arg3 : Memref sig .tc .vmem S4x1024 .f32) (harg3 : arg3.IsWhole) (arg4 : Memref sig .tc .vmem S4x256 .f32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S32x8 .f32) (harg9 : arg9.IsWhole) (arg10 : Memref sig .tc .vmem S1x1024 .f32) (harg10 : arg10.IsWhole) (arg11 : Memref sig .tc .vmem S4x3x32 .f32) (harg11 : arg11.IsWhole) (arg12 : Memref sig .tc .vmem S4x31x32 .f32) (harg12 : arg12.IsWhole) (arg13 : Memref sig .tc .vmem S4x3x704 .f32) (harg13 : arg13.IsWhole) (arg14 : Memref sig .tc .vmem S4x1024 .f32) (harg14 : arg14.IsWhole) (arg15 : Memref sig .tc .vmem S4x256 .f32) (harg15 : arg15.IsWhole) (arg16 : Memref sig .tc .vmem S4x256 .f32) (harg16 : arg16.IsWhole) (arg17 : Memref sig .tc .vmem S4x256 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S32x8 .f32) (harg20 : arg20.IsWhole) (arg21 : Memref sig .tc .vmem S1x1024 .f32) (harg21 : arg21.IsWhole) (arg22 : Memref sig .tc .vmem S4x3x32 .f32) (harg22 : arg22.IsWhole) (arg23 : Memref sig .tc .vmem S4x31x32 .f32) (harg23 : arg23.IsWhole) (arg24 : Memref sig .tc .vmem S4x3x704 .f32) (harg24 : arg24.IsWhole) (arg25 : Memref sig .tc .vmem S4x1024 .f32) (harg25 : arg25.IsWhole) (arg26 : Memref sig .tc .vmem S4x256 .f32) (harg26 : arg26.IsWhole) (arg27 : Memref sig .tc .vmem S4x256 .f32) (harg27 : arg27.IsWhole) (arg28 : Memref sig .tc .vmem S4x256 .f32) (harg28 : arg28.IsWhole) (arg29 : Memref sig .tc .vmem S4x1024 .f32) (harg29 : arg29.IsWhole) (arg30 : Memref sig .tc .vmem S4x1024 .f32) (harg30 : arg30.IsWhole) (arg31 : Memref sig .tc .vmem S32x8 .f32) (harg31 : arg31.IsWhole) (arg32 : Memref sig .tc .vmem S1x1024 .f32) (harg32 : arg32.IsWhole) (arg33 : Memref sig .tc .vmem S4x3x32 .f32) (harg33 : arg33.IsWhole) (arg34 : Memref sig .tc .vmem S4x31x32 .f32) (harg34 : arg34.IsWhole) (arg35 : Memref sig .tc .vmem S4x3x704 .f32) (harg35 : arg35.IsWhole) (arg36 : Memref sig .tc .vmem S4x1024 .f32) (harg36 : arg36.IsWhole) (arg37 : Memref sig .tc .vmem S4x256 .f32) (harg37 : arg37.IsWhole) (arg38 : Memref sig .tc .vmem S4x256 .f32) (harg38 : arg38.IsWhole) (arg39 : Memref sig .tc .vmem S4x256 .f32) (harg39 : arg39.IsWhole) (arg40 : Memref sig .tc .vmem S4x1024 .f32) (harg40 : arg40.IsWhole) (arg41 : Memref sig .tc .vmem S4x1024 .f32) (harg41 : arg41.IsWhole) (arg42 : Memref sig .tc .vmem S32x8 .f32) (harg42 : arg42.IsWhole) (arg43 : Memref sig .tc .vmem S1x1024 .f32) (harg43 : arg43.IsWhole) (arg44 : Memref sig .tc .vmem S4x3x32 .f32) (harg44 : arg44.IsWhole) (arg45 : Memref sig .tc .vmem S4x31x32 .f32) (harg45 : arg45.IsWhole) (arg46 : Memref sig .tc .vmem S4x3x704 .f32) (harg46 : arg46.IsWhole) (arg47 : Memref sig .tc .vmem S4x1024 .f32) (harg47 : arg47.IsWhole) (arg48 : Memref sig .tc .vmem S4x256 .f32) (harg48 : arg48.IsWhole) (arg49 : Memref sig .tc .vmem S4x256 .f32) (harg49 : arg49.IsWhole) (arg50 : Memref sig .tc .vmem S4x256 .f32) (harg50 : arg50.IsWhole) (arg51 : Memref sig .tc .vmem S4x1024 .f32) (harg51 : arg51.IsWhole) (arg52 : Memref sig .tc .vmem S4x1024 .f32) (harg52 : arg52.IsWhole) (arg53 : Memref sig .tc .vmem S32x8 .f32) (harg53 : arg53.IsWhole) (arg54 : Memref sig .tc .vmem S1x1024 .f32) (harg54 : arg54.IsWhole) (arg55 : Memref sig .tc .vmem S4x3x32 .f32) (harg55 : arg55.IsWhole) (arg56 : Memref sig .tc .vmem S4x31x32 .f32) (harg56 : arg56.IsWhole) (arg57 : Memref sig .tc .vmem S4x3x704 .f32) (harg57 : arg57.IsWhole) (arg58 : Memref sig .tc .vmem S4x1024 .f32) (harg58 : arg58.IsWhole) (arg59 : Memref sig .tc .vmem S4x256 .f32) (harg59 : arg59.IsWhole) (arg60 : Memref sig .tc .vmem S4x256 .f32) (harg60 : arg60.IsWhole) (arg61 : Memref sig .tc .vmem S4x256 .f32) (harg61 : arg61.IsWhole) (arg62 : Memref sig .tc .vmem S4x1024 .f32) (harg62 : arg62.IsWhole) (arg63 : Memref sig .tc .vmem S4x1024 .f32) (harg63 : arg63.IsWhole) (arg64 : Memref sig .tc .vmem S32x8 .f32) (harg64 : arg64.IsWhole) (arg65 : Memref sig .tc .vmem S1x1024 .f32) (harg65 : arg65.IsWhole) (arg66 : Memref sig .tc .vmem S4x3x32 .f32) (harg66 : arg66.IsWhole) (arg67 : Memref sig .tc .vmem S4x31x32 .f32) (harg67 : arg67.IsWhole) (arg68 : Memref sig .tc .vmem S4x3x704 .f32) (harg68 : arg68.IsWhole) (arg69 : Memref sig .tc .vmem S4x1024 .f32) (harg69 : arg69.IsWhole) (arg70 : Memref sig .tc .vmem S4x256 .f32) (harg70 : arg70.IsWhole) (arg71 : Memref sig .tc .vmem S4x256 .f32) (harg71 : arg71.IsWhole) (arg72 : Memref sig .tc .vmem S4x256 .f32) (harg72 : arg72.IsWhole) (arg73 : Memref sig .tc .vmem S4x1024 .f32) (harg73 : arg73.IsWhole) (arg74 : Memref sig .tc .vmem S4x1024 .f32) (harg74 : arg74.IsWhole) (arg75 : Memref sig .tc .vmem S32x8 .f32) (harg75 : arg75.IsWhole) (arg76 : Memref sig .tc .vmem S1x1024 .f32) (harg76 : arg76.IsWhole)
    (x0 : Vec F S4x3x32 .f32) (x1 : Vec F S4x31x32 .f32) (x2 : Vec F S4x3x704 .f32) (x3 : Vec F S4x1024 .f32) (x4 : Vec F S4x256 .f32) (x5 : Vec F S4x256 .f32) (x6 : Vec F S4x256 .f32) (x7 : Vec F S4x1024 .f32) (x8 : Vec F S4x1024 .f32) (x9 : Vec F S32x8 .f32) (x10 : Vec F S1x1024 .f32) (x11 : Vec F S4x3x32 .f32) (x12 : Vec F S4x31x32 .f32) (x13 : Vec F S4x3x704 .f32) (x14 : Vec F S4x1024 .f32) (x15 : Vec F S4x256 .f32) (x16 : Vec F S4x256 .f32) (x17 : Vec F S4x256 .f32) (x18 : Vec F S4x1024 .f32) (x19 : Vec F S4x1024 .f32) (x20 : Vec F S32x8 .f32) (x21 : Vec F S1x1024 .f32) (x22 : Vec F S4x3x32 .f32) (x23 : Vec F S4x31x32 .f32) (x24 : Vec F S4x3x704 .f32) (x25 : Vec F S4x1024 .f32) (x26 : Vec F S4x256 .f32) (x27 : Vec F S4x256 .f32) (x28 : Vec F S4x256 .f32) (x29 : Vec F S4x1024 .f32) (x30 : Vec F S4x1024 .f32) (x31 : Vec F S32x8 .f32) (x32 : Vec F S1x1024 .f32) (x33 : Vec F S4x3x32 .f32) (x34 : Vec F S4x31x32 .f32) (x35 : Vec F S4x3x704 .f32) (x36 : Vec F S4x1024 .f32) (x37 : Vec F S4x256 .f32) (x38 : Vec F S4x256 .f32) (x39 : Vec F S4x256 .f32) (x40 : Vec F S4x1024 .f32) (x41 : Vec F S4x1024 .f32) (x42 : Vec F S32x8 .f32) (x43 : Vec F S1x1024 .f32) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d) ∗ (∃ d, owns (c : Thread nD τ) arg69 fullShare d) ∗ (∃ d, owns (c : Thread nD τ) arg70 fullShare d) ∗ (∃ d, owns (c : Thread nD τ) arg71 fullShare d) ∗ (∃ d, owns (c : Thread nD τ) arg72 fullShare d) ∗ (∃ d, owns (c : Thread nD τ) arg73 fullShare d) ∗ (∃ d, owns (c : Thread nD τ) arg74 fullShare d) ∗ (∃ d, owns (c : Thread nD τ) arg75 fullShare d) ∗ (∃ d, owns (c : Thread nD τ) arg76 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare (out0_44 x0 x11 x22 x33) ∗ owns (c : Thread nD τ) arg45 fullShare (out0_45 x1 x12 x23 x34) ∗ owns (c : Thread nD τ) arg46 fullShare (out0_46 x2 x13 x24 x35) ∗ owns (c : Thread nD τ) arg47 fullShare (out0_47 x3 x14 x25 x36) ∗ owns (c : Thread nD τ) arg48 fullShare (out0_48 x4 x15 x26 x37) ∗ owns (c : Thread nD τ) arg49 fullShare (out0_49 x5 x16 x27 x38) ∗ owns (c : Thread nD τ) arg50 fullShare (out0_50 x6 x17 x28 x39) ∗ owns (c : Thread nD τ) arg51 fullShare (out0_51 x7 x18 x29 x40) ∗ owns (c : Thread nD τ) arg52 fullShare (out0_52 x8 x19 x30 x41) ∗ owns (c : Thread nD τ) arg53 fullShare (out0_53 x9 x20 x31 x42) ∗ owns (c : Thread nD τ) arg54 fullShare (out0_54 x10 x21 x32 x43) ∗ owns (c : Thread nD τ) arg55 fullShare (out0_55 x0 x22) ∗ owns (c : Thread nD τ) arg56 fullShare (out0_56 x1 x23) ∗ owns (c : Thread nD τ) arg57 fullShare (out0_57 x2 x24) ∗ owns (c : Thread nD τ) arg58 fullShare (out0_58 x3 x25) ∗ owns (c : Thread nD τ) arg59 fullShare (out0_59 x4 x26) ∗ owns (c : Thread nD τ) arg60 fullShare (out0_60 x5 x27) ∗ owns (c : Thread nD τ) arg61 fullShare (out0_61 x6 x28) ∗ owns (c : Thread nD τ) arg62 fullShare (out0_62 x7 x29) ∗ owns (c : Thread nD τ) arg63 fullShare (out0_63 x8 x30) ∗ owns (c : Thread nD τ) arg64 fullShare (out0_64 x9 x31) ∗ owns (c : Thread nD τ) arg65 fullShare (out0_65 x10 x32) ∗ owns (c : Thread nD τ) arg66 fullShare (out0_66 x0 x33) ∗ owns (c : Thread nD τ) arg67 fullShare (out0_67 x1 x34) ∗ owns (c : Thread nD τ) arg68 fullShare (out0_68 x2 x35) ∗ owns (c : Thread nD τ) arg69 fullShare (out0_69 x3 x36) ∗ owns (c : Thread nD τ) arg70 fullShare (out0_70 x4 x37) ∗ owns (c : Thread nD τ) arg71 fullShare (out0_71 x5 x38) ∗ owns (c : Thread nD τ) arg72 fullShare (out0_72 x6 x39) ∗ owns (c : Thread nD τ) arg73 fullShare (out0_73 x7 x40) ∗ owns (c : Thread nD τ) arg74 fullShare (out0_74 x8 x41) ∗ owns (c : Thread nD τ) arg75 fullShare (out0_75 x9 x42) ∗ owns (c : Thread nD τ) arg76 fullShare (out0_76 x10 x43)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39 hf40 hf41 hf42 hf43
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists f42; isplitr; · ipureintro; rfl
    iexact H42
  isplitl [H43]
  · iexists f43; isplitr; · ipureintro; rfl
    iexact H43
  isplitl [H44]
  · iexists _; isplitr
    swap; · iexact H44
    ipureintro
    exact View.read_writes_eq_canon _ _ _ (cover0_44 _)
  isplitl [H45]
  · iexists _; isplitr
    swap; · iexact H45
    ipureintro
    exact View.read_writes_eq_canon _ _ _ (cover0_45 _)
  isplitl [H46]
  · iexists _; isplitr
    swap; · iexact H46
    ipureintro
    exact View.read_writes_eq_canon _ _ _ (cover0_46 _)
  isplitl [H47]
  · iexists _; isplitr
    swap; · iexact H47
    ipureintro
    exact View.read_writes_eq_canon _ _ _ (cover0_47 _)
  isplitl [H48]
  · iexists _; isplitr
    swap; · iexact H48
    ipureintro
    exact View.read_writes_eq_canon _ _ _ (cover0_48 _)
  isplitl [H49]
  · iexists _; isplitr
    swap; · iexact H49
    ipureintro
    exact View.read_writes_eq_canon _ _ _ (cover0_49 _)
  isplitl [H50]
  · iexists _; isplitr
    swap; · iexact H50
    ipureintro
    exact View.read_writes_eq_canon _ _ _ (cover0_50 _)
  isplitl [H51]
  · iexists _; isplitr
    swap; · iexact H51
    ipureintro
    exact View.read_writes_eq_canon _ _ _ (cover0_51 _)
  isplitl [H52]
  · iexists _; isplitr
    swap; · iexact H52
    ipureintro
    exact View.read_writes_eq_canon _ _ _ (cover0_52 _)
  isplitl [H53]
  · iexists _; isplitr
    swap; · iexact H53
    ipureintro
    exact View.read_writes_eq_canon _ _ _ (cover0_53 _)
  isplitl [H54]
  · iexists _; isplitr
    swap; · iexact H54
    ipureintro
    exact View.read_writes_eq_canon _ _ _ (cover0_54 _)
  isplitl [H55]
  · iexists _; isplitr
    swap; · iexact H55
    ipureintro
    exact View.read_writes_eq_canon _ _ _ (cover0_55 _)
  isplitl [H56]
  · iexists _; isplitr
    swap; · iexact H56
    ipureintro
    exact View.read_writes_eq_canon _ _ _ (cover0_56 _)
  isplitl [H57]
  · iexists _; isplitr
    swap; · iexact H57
    ipureintro
    exact View.read_writes_eq_canon _ _ _ (cover0_57 _)
  isplitl [H58]
  · iexists _; isplitr
    swap; · iexact H58
    ipureintro
    exact View.read_writes_eq_canon _ _ _ (cover0_58 _)
  isplitl [H59]
  · iexists _; isplitr
    swap; · iexact H59
    ipureintro
    exact View.read_writes_eq_canon _ _ _ (cover0_59 _)
  isplitl [H60]
  · iexists _; isplitr
    swap; · iexact H60
    ipureintro
    exact View.read_writes_eq_canon _ _ _ (cover0_60 _)
  isplitl [H61]
  · iexists _; isplitr
    swap; · iexact H61
    ipureintro
    exact View.read_writes_eq_canon _ _ _ (cover0_61 _)
  isplitl [H62]
  · iexists _; isplitr
    swap; · iexact H62
    ipureintro
    exact View.read_writes_eq_canon _ _ _ (cover0_62 _)
  isplitl [H63]
  · iexists _; isplitr
    swap; · iexact H63
    ipureintro
    exact View.read_writes_eq_canon _ _ _ (cover0_63 _)
  isplitl [H64]
  · iexists _; isplitr
    swap; · iexact H64
    ipureintro
    exact View.read_writes_eq_canon _ _ _ (cover0_64 _)
  isplitl [H65]
  · iexists _; isplitr
    swap; · iexact H65
    ipureintro
    exact View.read_writes_eq_canon _ _ _ (cover0_65 _)
  isplitl [H66]
  · iexists _; isplitr
    swap; · iexact H66
    ipureintro
    exact View.read_writes_eq_canon _ _ _ (cover0_66 _)
  isplitl [H67]
  · iexists _; isplitr
    swap; · iexact H67
    ipureintro
    exact View.read_writes_eq_canon _ _ _ (cover0_67 _)
  isplitl [H68]
  · iexists _; isplitr
    swap; · iexact H68
    ipureintro
    exact View.read_writes_eq_canon _ _ _ (cover0_68 _)
  isplitl [H69]
  · iexists _; isplitr
    swap; · iexact H69
    ipureintro
    exact View.read_writes_eq_canon _ _ _ (cover0_69 _)
  isplitl [H70]
  · iexists _; isplitr
    swap; · iexact H70
    ipureintro
    exact View.read_writes_eq_canon _ _ _ (cover0_70 _)
  isplitl [H71]
  · iexists _; isplitr
    swap; · iexact H71
    ipureintro
    exact View.read_writes_eq_canon _ _ _ (cover0_71 _)
  isplitl [H72]
  · iexists _; isplitr
    swap; · iexact H72
    ipureintro
    exact View.read_writes_eq_canon _ _ _ (cover0_72 _)
  isplitl [H73]
  · iexists _; isplitr
    swap; · iexact H73
    ipureintro
    exact View.read_writes_eq_canon _ _ _ (cover0_73 _)
  isplitl [H74]
  · iexists _; isplitr
    swap; · iexact H74
    ipureintro
    exact View.read_writes_eq_canon _ _ _ (cover0_74 _)
  isplitl [H75]
  · iexists _; isplitr
    swap; · iexact H75
    ipureintro
    exact View.read_writes_eq_canon _ _ _ (cover0_75 _)
  iexists _; isplitr
  swap; · iexact H76
  ipureintro
  exact View.read_writes_eq_canon _ _ _ (cover0_76 _)

end Cert.Proof.Adam

end
-- ==== Proof.AdamRun.lean ====
module

public import proofs.«01_k».proof.Proof.AdamBody

@[expose] public section

set_option maxRecDepth 16384

noncomputable section

/-! # The optimiser's run on the small weights -/

namespace Cert.Proof.Adam

open Cert.KernelAdamIdeal Cert.KernelAdamIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The arrays as launched. -/
abbrev V (c : Dev nD) (b : Ref sig .tc) : Buf (Elt F) ((c : Thread nD τ).loc b) := m ((c : Thread nD τ).loc b)

set_option maxHeartbeats 800000 in
/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of an array at a grid point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- What each buffer holds after the body: an argument its block, a result its stored value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => out0_44 (iblk m c 0 t) (iblk m c 11 t) (iblk m c 22 t) (iblk m c 33 t)
    | ⟨45, _⟩ => out0_45 (iblk m c 1 t) (iblk m c 12 t) (iblk m c 23 t) (iblk m c 34 t)
    | ⟨46, _⟩ => out0_46 (iblk m c 2 t) (iblk m c 13 t) (iblk m c 24 t) (iblk m c 35 t)
    | ⟨47, _⟩ => out0_47 (iblk m c 3 t) (iblk m c 14 t) (iblk m c 25 t) (iblk m c 36 t)
    | ⟨48, _⟩ => out0_48 (iblk m c 4 t) (iblk m c 15 t) (iblk m c 26 t) (iblk m c 37 t)
    | ⟨49, _⟩ => out0_49 (iblk m c 5 t) (iblk m c 16 t) (iblk m c 27 t) (iblk m c 38 t)
    | ⟨50, _⟩ => out0_50 (iblk m c 6 t) (iblk m c 17 t) (iblk m c 28 t) (iblk m c 39 t)
    | ⟨51, _⟩ => out0_51 (iblk m c 7 t) (iblk m c 18 t) (iblk m c 29 t) (iblk m c 40 t)
    | ⟨52, _⟩ => out0_52 (iblk m c 8 t) (iblk m c 19 t) (iblk m c 30 t) (iblk m c 41 t)
    | ⟨53, _⟩ => out0_53 (iblk m c 9 t) (iblk m c 20 t) (iblk m c 31 t) (iblk m c 42 t)
    | ⟨54, _⟩ => out0_54 (iblk m c 10 t) (iblk m c 21 t) (iblk m c 32 t) (iblk m c 43 t)
    | ⟨55, _⟩ => out0_55 (iblk m c 0 t) (iblk m c 22 t)
    | ⟨56, _⟩ => out0_56 (iblk m c 1 t) (iblk m c 23 t)
    | ⟨57, _⟩ => out0_57 (iblk m c 2 t) (iblk m c 24 t)
    | ⟨58, _⟩ => out0_58 (iblk m c 3 t) (iblk m c 25 t)
    | ⟨59, _⟩ => out0_59 (iblk m c 4 t) (iblk m c 26 t)
    | ⟨60, _⟩ => out0_60 (iblk m c 5 t) (iblk m c 27 t)
    | ⟨61, _⟩ => out0_61 (iblk m c 6 t) (iblk m c 28 t)
    | ⟨62, _⟩ => out0_62 (iblk m c 7 t) (iblk m c 29 t)
    | ⟨63, _⟩ => out0_63 (iblk m c 8 t) (iblk m c 30 t)
    | ⟨64, _⟩ => out0_64 (iblk m c 9 t) (iblk m c 31 t)
    | ⟨65, _⟩ => out0_65 (iblk m c 10 t) (iblk m c 32 t)
    | ⟨66, _⟩ => out0_66 (iblk m c 0 t) (iblk m c 33 t)
    | ⟨67, _⟩ => out0_67 (iblk m c 1 t) (iblk m c 34 t)
    | ⟨68, _⟩ => out0_68 (iblk m c 2 t) (iblk m c 35 t)
    | ⟨69, _⟩ => out0_69 (iblk m c 3 t) (iblk m c 36 t)
    | ⟨70, _⟩ => out0_70 (iblk m c 4 t) (iblk m c 37 t)
    | ⟨71, _⟩ => out0_71 (iblk m c 5 t) (iblk m c 38 t)
    | ⟨72, _⟩ => out0_72 (iblk m c 6 t) (iblk m c 39 t)
    | ⟨73, _⟩ => out0_73 (iblk m c 7 t) (iblk m c 40 t)
    | ⟨74, _⟩ => out0_74 (iblk m c 8 t) (iblk m c 41 t)
    | ⟨75, _⟩ => out0_75 (iblk m c 9 t) (iblk m c 42 t)
    | ⟨76, _⟩ => out0_76 (iblk m c 10 t) (iblk m c 43 t)
    | ⟨_ + 77, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_39 (c : Dev nD) (t : Fin cfg0.N) : (dats m 0 c).after 39 t = iblk m c 39 t := by dsimp only [dats]
theorem after0_40 (c : Dev nD) (t : Fin cfg0.N) : (dats m 0 c).after 40 t = iblk m c 40 t := by dsimp only [dats]
theorem after0_41 (c : Dev nD) (t : Fin cfg0.N) : (dats m 0 c).after 41 t = iblk m c 41 t := by dsimp only [dats]
theorem after0_42 (c : Dev nD) (t : Fin cfg0.N) : (dats m 0 c).after 42 t = iblk m c 42 t := by dsimp only [dats]
theorem after0_43 (c : Dev nD) (t : Fin cfg0.N) : (dats m 0 c).after 43 t = iblk m c 43 t := by dsimp only [dats]
theorem after0_44 (c : Dev nD) (t : Fin cfg0.N) : (dats m 0 c).after 44 t = out0_44 (iblk m c 0 t) (iblk m c 11 t) (iblk m c 22 t) (iblk m c 33 t) := by dsimp only [dats]
theorem after0_45 (c : Dev nD) (t : Fin cfg0.N) : (dats m 0 c).after 45 t = out0_45 (iblk m c 1 t) (iblk m c 12 t) (iblk m c 23 t) (iblk m c 34 t) := by dsimp only [dats]
theorem after0_46 (c : Dev nD) (t : Fin cfg0.N) : (dats m 0 c).after 46 t = out0_46 (iblk m c 2 t) (iblk m c 13 t) (iblk m c 24 t) (iblk m c 35 t) := by dsimp only [dats]
theorem after0_47 (c : Dev nD) (t : Fin cfg0.N) : (dats m 0 c).after 47 t = out0_47 (iblk m c 3 t) (iblk m c 14 t) (iblk m c 25 t) (iblk m c 36 t) := by dsimp only [dats]
theorem after0_48 (c : Dev nD) (t : Fin cfg0.N) : (dats m 0 c).after 48 t = out0_48 (iblk m c 4 t) (iblk m c 15 t) (iblk m c 26 t) (iblk m c 37 t) := by dsimp only [dats]
theorem after0_49 (c : Dev nD) (t : Fin cfg0.N) : (dats m 0 c).after 49 t = out0_49 (iblk m c 5 t) (iblk m c 16 t) (iblk m c 27 t) (iblk m c 38 t) := by dsimp only [dats]
theorem after0_50 (c : Dev nD) (t : Fin cfg0.N) : (dats m 0 c).after 50 t = out0_50 (iblk m c 6 t) (iblk m c 17 t) (iblk m c 28 t) (iblk m c 39 t) := by dsimp only [dats]
theorem after0_51 (c : Dev nD) (t : Fin cfg0.N) : (dats m 0 c).after 51 t = out0_51 (iblk m c 7 t) (iblk m c 18 t) (iblk m c 29 t) (iblk m c 40 t) := by dsimp only [dats]
theorem after0_52 (c : Dev nD) (t : Fin cfg0.N) : (dats m 0 c).after 52 t = out0_52 (iblk m c 8 t) (iblk m c 19 t) (iblk m c 30 t) (iblk m c 41 t) := by dsimp only [dats]
theorem after0_53 (c : Dev nD) (t : Fin cfg0.N) : (dats m 0 c).after 53 t = out0_53 (iblk m c 9 t) (iblk m c 20 t) (iblk m c 31 t) (iblk m c 42 t) := by dsimp only [dats]
theorem after0_54 (c : Dev nD) (t : Fin cfg0.N) : (dats m 0 c).after 54 t = out0_54 (iblk m c 10 t) (iblk m c 21 t) (iblk m c 32 t) (iblk m c 43 t) := by dsimp only [dats]
theorem after0_55 (c : Dev nD) (t : Fin cfg0.N) : (dats m 0 c).after 55 t = out0_55 (iblk m c 0 t) (iblk m c 22 t) := by dsimp only [dats]
theorem after0_56 (c : Dev nD) (t : Fin cfg0.N) : (dats m 0 c).after 56 t = out0_56 (iblk m c 1 t) (iblk m c 23 t) := by dsimp only [dats]
theorem after0_57 (c : Dev nD) (t : Fin cfg0.N) : (dats m 0 c).after 57 t = out0_57 (iblk m c 2 t) (iblk m c 24 t) := by dsimp only [dats]
theorem after0_58 (c : Dev nD) (t : Fin cfg0.N) : (dats m 0 c).after 58 t = out0_58 (iblk m c 3 t) (iblk m c 25 t) := by dsimp only [dats]
theorem after0_59 (c : Dev nD) (t : Fin cfg0.N) : (dats m 0 c).after 59 t = out0_59 (iblk m c 4 t) (iblk m c 26 t) := by dsimp only [dats]
theorem after0_60 (c : Dev nD) (t : Fin cfg0.N) : (dats m 0 c).after 60 t = out0_60 (iblk m c 5 t) (iblk m c 27 t) := by dsimp only [dats]
theorem after0_61 (c : Dev nD) (t : Fin cfg0.N) : (dats m 0 c).after 61 t = out0_61 (iblk m c 6 t) (iblk m c 28 t) := by dsimp only [dats]
theorem after0_62 (c : Dev nD) (t : Fin cfg0.N) : (dats m 0 c).after 62 t = out0_62 (iblk m c 7 t) (iblk m c 29 t) := by dsimp only [dats]
theorem after0_63 (c : Dev nD) (t : Fin cfg0.N) : (dats m 0 c).after 63 t = out0_63 (iblk m c 8 t) (iblk m c 30 t) := by dsimp only [dats]
theorem after0_64 (c : Dev nD) (t : Fin cfg0.N) : (dats m 0 c).after 64 t = out0_64 (iblk m c 9 t) (iblk m c 31 t) := by dsimp only [dats]
theorem after0_65 (c : Dev nD) (t : Fin cfg0.N) : (dats m 0 c).after 65 t = out0_65 (iblk m c 10 t) (iblk m c 32 t) := by dsimp only [dats]
theorem after0_66 (c : Dev nD) (t : Fin cfg0.N) : (dats m 0 c).after 66 t = out0_66 (iblk m c 0 t) (iblk m c 33 t) := by dsimp only [dats]
theorem after0_67 (c : Dev nD) (t : Fin cfg0.N) : (dats m 0 c).after 67 t = out0_67 (iblk m c 1 t) (iblk m c 34 t) := by dsimp only [dats]
theorem after0_68 (c : Dev nD) (t : Fin cfg0.N) : (dats m 0 c).after 68 t = out0_68 (iblk m c 2 t) (iblk m c 35 t) := by dsimp only [dats]
theorem after0_69 (c : Dev nD) (t : Fin cfg0.N) : (dats m 0 c).after 69 t = out0_69 (iblk m c 3 t) (iblk m c 36 t) := by dsimp only [dats]
theorem after0_70 (c : Dev nD) (t : Fin cfg0.N) : (dats m 0 c).after 70 t = out0_70 (iblk m c 4 t) (iblk m c 37 t) := by dsimp only [dats]
theorem after0_71 (c : Dev nD) (t : Fin cfg0.N) : (dats m 0 c).after 71 t = out0_71 (iblk m c 5 t) (iblk m c 38 t) := by dsimp only [dats]
theorem after0_72 (c : Dev nD) (t : Fin cfg0.N) : (dats m 0 c).after 72 t = out0_72 (iblk m c 6 t) (iblk m c 39 t) := by dsimp only [dats]
theorem after0_73 (c : Dev nD) (t : Fin cfg0.N) : (dats m 0 c).after 73 t = out0_73 (iblk m c 7 t) (iblk m c 40 t) := by dsimp only [dats]
theorem after0_74 (c : Dev nD) (t : Fin cfg0.N) : (dats m 0 c).after 74 t = out0_74 (iblk m c 8 t) (iblk m c 41 t) := by dsimp only [dats]
theorem after0_75 (c : Dev nD) (t : Fin cfg0.N) : (dats m 0 c).after 75 t = out0_75 (iblk m c 9 t) (iblk m c 42 t) := by dsimp only [dats]
theorem after0_76 (c : Dev nD) (t : Fin cfg0.N) : (dats m 0 c).after 76 t = out0_76 (iblk m c 10 t) (iblk m c 43 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl) (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl) (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl) (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl) (fun t => by rw [after0_24]; unfold Dat.blockOf iblk; rw [A_eq]; try rfl) t d).trans
    (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl) (fun t => by rw [after0_25]; unfold Dat.blockOf iblk; rw [A_eq]; try rfl) t d).trans
    (by unfold Dat.fetched Dat.blockOf iblk; rw [A_eq]; try rfl)
theorem before0_26 (c : Dev nD) (t : Fin cfg0.N) (d) : (dats m 0 c).before 26 t d = iblk m c 26 t :=
  ((dats m 0 c).before_in_eq_fetched 26 rfl (fun _ => rfl) (fun _ _ _ => rfl) (fun t => by rw [after0_26]; unfold Dat.blockOf iblk; rw [A_eq]; try rfl) t d).trans
    (by unfold Dat.fetched Dat.blockOf iblk; rw [A_eq]; try rfl)
theorem before0_27 (c : Dev nD) (t : Fin cfg0.N) (d) : (dats m 0 c).before 27 t d = iblk m c 27 t :=
  ((dats m 0 c).before_in_eq_fetched 27 rfl (fun _ => rfl) (fun _ _ _ => rfl) (fun t => by rw [after0_27]; unfold Dat.blockOf iblk; rw [A_eq]; try rfl) t d).trans
    (by unfold Dat.fetched Dat.blockOf iblk; rw [A_eq]; try rfl)
theorem before0_28 (c : Dev nD) (t : Fin cfg0.N) (d) : (dats m 0 c).before 28 t d = iblk m c 28 t :=
  ((dats m 0 c).before_in_eq_fetched 28 rfl (fun _ => rfl) (fun _ _ _ => rfl) (fun t => by rw [after0_28]; unfold Dat.blockOf iblk; rw [A_eq]; try rfl) t d).trans
    (by unfold Dat.fetched Dat.blockOf iblk; rw [A_eq]; try rfl)
theorem before0_29 (c : Dev nD) (t : Fin cfg0.N) (d) : (dats m 0 c).before 29 t d = iblk m c 29 t :=
  ((dats m 0 c).before_in_eq_fetched 29 rfl (fun _ => rfl) (fun _ _ _ => rfl) (fun t => by rw [after0_29]; unfold Dat.blockOf iblk; rw [A_eq]; try rfl) t d).trans
    (by unfold Dat.fetched Dat.blockOf iblk; rw [A_eq]; try rfl)
theorem before0_30 (c : Dev nD) (t : Fin cfg0.N) (d) : (dats m 0 c).before 30 t d = iblk m c 30 t :=
  ((dats m 0 c).before_in_eq_fetched 30 rfl (fun _ => rfl) (fun _ _ _ => rfl) (fun t => by rw [after0_30]; unfold Dat.blockOf iblk; rw [A_eq]; try rfl) t d).trans
    (by unfold Dat.fetched Dat.blockOf iblk; rw [A_eq]; try rfl)
theorem before0_31 (c : Dev nD) (t : Fin cfg0.N) (d) : (dats m 0 c).before 31 t d = iblk m c 31 t :=
  ((dats m 0 c).before_in_eq_fetched 31 rfl (fun _ => rfl) (fun _ _ _ => rfl) (fun t => by rw [after0_31]; unfold Dat.blockOf iblk; rw [A_eq]; try rfl) t d).trans
    (by unfold Dat.fetched Dat.blockOf iblk; rw [A_eq]; try rfl)
theorem before0_32 (c : Dev nD) (t : Fin cfg0.N) (d) : (dats m 0 c).before 32 t d = iblk m c 32 t :=
  ((dats m 0 c).before_in_eq_fetched 32 rfl (fun _ => rfl) (fun _ _ _ => rfl) (fun t => by rw [after0_32]; unfold Dat.blockOf iblk; rw [A_eq]; try rfl) t d).trans
    (by unfold Dat.fetched Dat.blockOf iblk; rw [A_eq]; try rfl)
theorem before0_33 (c : Dev nD) (t : Fin cfg0.N) (d) : (dats m 0 c).before 33 t d = iblk m c 33 t :=
  ((dats m 0 c).before_in_eq_fetched 33 rfl (fun _ => rfl) (fun _ _ _ => rfl) (fun t => by rw [after0_33]; unfold Dat.blockOf iblk; rw [A_eq]; try rfl) t d).trans
    (by unfold Dat.fetched Dat.blockOf iblk; rw [A_eq]; try rfl)
theorem before0_34 (c : Dev nD) (t : Fin cfg0.N) (d) : (dats m 0 c).before 34 t d = iblk m c 34 t :=
  ((dats m 0 c).before_in_eq_fetched 34 rfl (fun _ => rfl) (fun _ _ _ => rfl) (fun t => by rw [after0_34]; unfold Dat.blockOf iblk; rw [A_eq]; try rfl) t d).trans
    (by unfold Dat.fetched Dat.blockOf iblk; rw [A_eq]; try rfl)
theorem before0_35 (c : Dev nD) (t : Fin cfg0.N) (d) : (dats m 0 c).before 35 t d = iblk m c 35 t :=
  ((dats m 0 c).before_in_eq_fetched 35 rfl (fun _ => rfl) (fun _ _ _ => rfl) (fun t => by rw [after0_35]; unfold Dat.blockOf iblk; rw [A_eq]; try rfl) t d).trans
    (by unfold Dat.fetched Dat.blockOf iblk; rw [A_eq]; try rfl)
theorem before0_36 (c : Dev nD) (t : Fin cfg0.N) (d) : (dats m 0 c).before 36 t d = iblk m c 36 t :=
  ((dats m 0 c).before_in_eq_fetched 36 rfl (fun _ => rfl) (fun _ _ _ => rfl) (fun t => by rw [after0_36]; unfold Dat.blockOf iblk; rw [A_eq]; try rfl) t d).trans
    (by unfold Dat.fetched Dat.blockOf iblk; rw [A_eq]; try rfl)
theorem before0_37 (c : Dev nD) (t : Fin cfg0.N) (d) : (dats m 0 c).before 37 t d = iblk m c 37 t :=
  ((dats m 0 c).before_in_eq_fetched 37 rfl (fun _ => rfl) (fun _ _ _ => rfl) (fun t => by rw [after0_37]; unfold Dat.blockOf iblk; rw [A_eq]; try rfl) t d).trans
    (by unfold Dat.fetched Dat.blockOf iblk; rw [A_eq]; try rfl)
theorem before0_38 (c : Dev nD) (t : Fin cfg0.N) (d) : (dats m 0 c).before 38 t d = iblk m c 38 t :=
  ((dats m 0 c).before_in_eq_fetched 38 rfl (fun _ => rfl) (fun _ _ _ => rfl) (fun t => by rw [after0_38]; unfold Dat.blockOf iblk; rw [A_eq]; try rfl) t d).trans
    (by unfold Dat.fetched Dat.blockOf iblk; rw [A_eq]; try rfl)
theorem before0_39 (c : Dev nD) (t : Fin cfg0.N) (d) : (dats m 0 c).before 39 t d = iblk m c 39 t :=
  ((dats m 0 c).before_in_eq_fetched 39 rfl (fun _ => rfl) (fun _ _ _ => rfl) (fun t => by rw [after0_39]; unfold Dat.blockOf iblk; rw [A_eq]; try rfl) t d).trans
    (by unfold Dat.fetched Dat.blockOf iblk; rw [A_eq]; try rfl)
theorem before0_40 (c : Dev nD) (t : Fin cfg0.N) (d) : (dats m 0 c).before 40 t d = iblk m c 40 t :=
  ((dats m 0 c).before_in_eq_fetched 40 rfl (fun _ => rfl) (fun _ _ _ => rfl) (fun t => by rw [after0_40]; unfold Dat.blockOf iblk; rw [A_eq]; try rfl) t d).trans
    (by unfold Dat.fetched Dat.blockOf iblk; rw [A_eq]; try rfl)
theorem before0_41 (c : Dev nD) (t : Fin cfg0.N) (d) : (dats m 0 c).before 41 t d = iblk m c 41 t :=
  ((dats m 0 c).before_in_eq_fetched 41 rfl (fun _ => rfl) (fun _ _ _ => rfl) (fun t => by rw [after0_41]; unfold Dat.blockOf iblk; rw [A_eq]; try rfl) t d).trans
    (by unfold Dat.fetched Dat.blockOf iblk; rw [A_eq]; try rfl)
theorem before0_42 (c : Dev nD) (t : Fin cfg0.N) (d) : (dats m 0 c).before 42 t d = iblk m c 42 t :=
  ((dats m 0 c).before_in_eq_fetched 42 rfl (fun _ => rfl) (fun _ _ _ => rfl) (fun t => by rw [after0_42]; unfold Dat.blockOf iblk; rw [A_eq]; try rfl) t d).trans
    (by unfold Dat.fetched Dat.blockOf iblk; rw [A_eq]; try rfl)
theorem before0_43 (c : Dev nD) (t : Fin cfg0.N) (d) : (dats m 0 c).before 43 t d = iblk m c 43 t :=
  ((dats m 0 c).before_in_eq_fetched 43 rfl (fun _ => rfl) (fun _ _ _ => rfl) (fun t => by rw [after0_43]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d))
    ∗ (∃ d, owns (c : Thread nD τ) (st0_74 t) fullShare ((dats m 0 c).before 74 t d))
    ∗ (∃ d, owns (c : Thread nD τ) (st0_75 t) fullShare ((dats m 0 c).before 75 t d))
    ∗ (∃ d, owns (c : Thread nD τ) (st0_76 t) fullShare ((dats m 0 c).before 76 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t)
    ∗ owns (c : Thread nD τ) (st0_74 t) fullShare ((dats m 0 c).after 74 t)
    ∗ owns (c : Thread nD τ) (st0_75 t) fullShare ((dats m 0 c).after 75 t)
    ∗ owns (c : Thread nD τ) (st0_76 t) fullShare ((dats m 0 c).after 76 t))

set_option maxHeartbeats 16000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67, after0_68, after0_69, after0_70, after0_71, after0_72, after0_73, after0_74, after0_75, after0_76]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  iexact H76

theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- The body does what its data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch ends with every array at its computed contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument's array ends as launched. -/
theorem keep {r : PUnit × MemSt nD τ sig (Elt F)} (h : Pipeline.FramePost cfgs (dats m) 0 (V m) r) (c : Dev nD) (w : Fin cfg0.W) (hw : (cfg0.win w).isOut = false) :
    r.2.mem ((c : Thread nD τ).loc (Pipeline.arrRef spec0 w)) = V m c (Pipeline.arrRef spec0 w) :=
  ((h c).1 w).trans (((dats m 0 c).arrAt_in w hw _).trans (A_eq m c w))

end Cert.Proof.Adam

end
-- ==== Proof.AdamVal.lean ====
module

public import proofs.«01_k».proof.Proof.Gen.KernelAdamIdeal.Skeleton
public import Idealize.ShloMosaic.Lib.Pointwise
public import Idealize.ShloMosaic.Lib.Pipeline.ValueKit

@[expose] public section

set_option maxRecDepth 16384

noncomputable section

/-! # The optimiser's three results, entry by entry -/

namespace Cert.Proof.Adam

open Cert.KernelAdamIdeal Cert.KernelAdamIdeal.Gen
open Idealize.ShloMosaic Idealize.SL.Sem

variable {s : Shape}

/-- The first moment: nine tenths of the old one and a tenth of the gradient. -/
def moment (g m : FVec Ideal s .f32) : FVec Ideal s .f32 :=
  addf (mulf (broadcast s (Scalar.ofBits .f32 0x3F666666#32)) m) (mulf (broadcast s (Scalar.ofBits .f32 0x3DCCCCCD#32)) g)

/-- The second moment: 0.999 of the old one and a thousandth of the gradient's square. -/
def square (g v : FVec Ideal s .f32) : FVec Ideal s .f32 :=
  addf (mulf (broadcast s (Scalar.ofBits .f32 0x3F7FBE77#32)) v) (mulf (broadcast s (Scalar.ofBits .f32 0x3A83126F#32)) (mulf g g))

/-- The weight's change: the corrected first moment over the root of the corrected second one, with the decay of the weight. -/
def change (w g m v : FVec Ideal s .f32) : FVec Ideal s .f32 :=
  mulf (broadcast s (Scalar.ofBits .f32 0xBA83126F#32))
    (addf (divf (divf (moment g m) (broadcast s (Scalar.ofBits .f32 0x3F26BD02#32)))
        (addf (sqrt (divf (square g v) (broadcast s (Scalar.ofBits .f32 0x3C231ACC#32)))) (broadcast s (Scalar.ofBits .f32 0x322BCC77#32))))
      (mulf (broadcast s (Scalar.ofBits .f32 0x3C23D70A#32)) w))

theorem pay6_eq (w g m v : Vec Ideal S4x3x32 .f32) : k0_pay6 w g m v = change w g m v := rfl
theorem pay4_eq (g m : Vec Ideal S4x3x32 .f32) : k0_pay4 g m = moment g m := rfl
theorem pay5_eq (g v : Vec Ideal S4x3x32 .f32) : k0_pay5 g v = square g v := rfl

/-- A store of a whole array leaves its payload. -/
theorem one_piece {e : EltTy} {o : Fin s.rank → ℕ} (ho : o = fun _ => 0) (h : ∀ a, o a + s.size a ≤ s.size a)
    (p : (Rect.unit (s := s) o s.size h).shape.Idx → Elt Ideal e) (y : s.Idx) :
    View.canon [⟨Rect.unit (s := s) o s.size h, p⟩] y = p y := by
  subst ho
  have e : (Rect.unit (s := s) (fun _ => 0) s.size h).emb y = y := by
    funext a; exact Fin.ext (by simp [Rect.emb, Rect.unit])
  exact (congrArg _ e.symm).trans (View.canon_cons_emb _ p [] y)

/-- A read of a whole array is the array. -/
theorem ld_whole {e : EltTy} {o : Fin s.rank → ℕ} (ho : o = fun _ => 0) (h : ∀ a, o a + s.size a ≤ s.size a) (x : Vec Ideal s e) :
    View.ld x (Rect.unit (s := s) o s.size h) = x := by
  subst ho
  funext y
  refine View.ld_unit_apply_of _ _ _ _ _ _ fun a => ?_
  simp

end Cert.Proof.Adam

end
-- ==== Proof.AdamFinal.lean ====
module

public import proofs.«01_k».proof.Proof.AdamRun
public import proofs.«01_k».proof.Proof.AdamVal
public import Idealize.ShloMosaic.Lib.Pipeline.Value

@[expose] public section

set_option maxRecDepth 16384

noncomputable section

/-! # The optimiser's results on the small weights after the run -/

namespace Cert.Proof.Adam

open Cert.KernelAdamIdeal Cert.KernelAdamIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem zero3 : (![0, 0, 0] : Fin 3 → ℕ) = fun _ => 0 := by decide
theorem zero2 : (![0, 0] : Fin 2 → ℕ) = fun _ => 0 := by decide

/-! ## Each array's one block is the array -/

theorem idx0 : ∀ (t : Fin cfg0.N) (a : Fin 3), win0_0.index t a = 0 := (by decide +kernel : ∀ (t : Fin grid0.N) (a : Fin 3), win0_0.index t a = 0)
theorem emb0 (t : Fin cfg0.N) (y : S4x3x32.Idx) : ((cfg0.win 0).blk t).view.emb y = y := by
  funext a; apply Fin.ext
  show win0_0.index t a * S4x3x32.size a + 1 * (y a).val = (y a).val
  rw [idx0 t a]; omega
theorem read0 (t : Fin cfg0.N) : (show Vec Ideal S4x3x32 .f32 from iblk m c 0 t) = m ((c.tc : Thread nD τ).loc main_arg0) := by
  funext y; show m ((c.tc : Thread nD τ).loc main_arg0) (((cfg0.win 0).blk t).view.emb y) = _; rw [emb0]
theorem idx1 : ∀ (t : Fin cfg0.N) (a : Fin 3), win0_1.index t a = 0 := (by decide +kernel : ∀ (t : Fin grid0.N) (a : Fin 3), win0_1.index t a = 0)
theorem emb1 (t : Fin cfg0.N) (y : S4x31x32.Idx) : ((cfg0.win 1).blk t).view.emb y = y := by
  funext a; apply Fin.ext
  show win0_1.index t a * S4x31x32.size a + 1 * (y a).val = (y a).val
  rw [idx1 t a]; omega
theorem read1 (t : Fin cfg0.N) : (show Vec Ideal S4x31x32 .f32 from iblk m c 1 t) = m ((c.tc : Thread nD τ).loc main_arg1) := by
  funext y; show m ((c.tc : Thread nD τ).loc main_arg1) (((cfg0.win 1).blk t).view.emb y) = _; rw [emb1]
theorem idx2 : ∀ (t : Fin cfg0.N) (a : Fin 3), win0_2.index t a = 0 := (by decide +kernel : ∀ (t : Fin grid0.N) (a : Fin 3), win0_2.index t a = 0)
theorem emb2 (t : Fin cfg0.N) (y : S4x3x704.Idx) : ((cfg0.win 2).blk t).view.emb y = y := by
  funext a; apply Fin.ext
  show win0_2.index t a * S4x3x704.size a + 1 * (y a).val = (y a).val
  rw [idx2 t a]; omega
theorem read2 (t : Fin cfg0.N) : (show Vec Ideal S4x3x704 .f32 from iblk m c 2 t) = m ((c.tc : Thread nD τ).loc main_arg2) := by
  funext y; show m ((c.tc : Thread nD τ).loc main_arg2) (((cfg0.win 2).blk t).view.emb y) = _; rw [emb2]
theorem idx3 : ∀ (t : Fin cfg0.N) (a : Fin 2), win0_3.index t a = 0 := (by decide +kernel : ∀ (t : Fin grid0.N) (a : Fin 2), win0_3.index t a = 0)
theorem emb3 (t : Fin cfg0.N) (y : S4x1024.Idx) : ((cfg0.win 3).blk t).view.emb y = y := by
  funext a; apply Fin.ext
  show win0_3.index t a * S4x1024.size a + 1 * (y a).val = (y a).val
  rw [idx3 t a]; omega
theorem read3 (t : Fin cfg0.N) : (show Vec Ideal S4x1024 .f32 from iblk m c 3 t) = m ((c.tc : Thread nD τ).loc main_arg3) := by
  funext y; show m ((c.tc : Thread nD τ).loc main_arg3) (((cfg0.win 3).blk t).view.emb y) = _; rw [emb3]
theorem idx4 : ∀ (t : Fin cfg0.N) (a : Fin 2), win0_4.index t a = 0 := (by decide +kernel : ∀ (t : Fin grid0.N) (a : Fin 2), win0_4.index t a = 0)
theorem emb4 (t : Fin cfg0.N) (y : S4x256.Idx) : ((cfg0.win 4).blk t).view.emb y = y := by
  funext a; apply Fin.ext
  show win0_4.index t a * S4x256.size a + 1 * (y a).val = (y a).val
  rw [idx4 t a]; omega
theorem read4 (t : Fin cfg0.N) : (show Vec Ideal S4x256 .f32 from iblk m c 4 t) = m ((c.tc : Thread nD τ).loc main_arg4) := by
  funext y; show m ((c.tc : Thread nD τ).loc main_arg4) (((cfg0.win 4).blk t).view.emb y) = _; rw [emb4]
theorem idx5 : ∀ (t : Fin cfg0.N) (a : Fin 2), win0_5.index t a = 0 := (by decide +kernel : ∀ (t : Fin grid0.N) (a : Fin 2), win0_5.index t a = 0)
theorem emb5 (t : Fin cfg0.N) (y : S4x256.Idx) : ((cfg0.win 5).blk t).view.emb y = y := by
  funext a; apply Fin.ext
  show win0_5.index t a * S4x256.size a + 1 * (y a).val = (y a).val
  rw [idx5 t a]; omega
theorem read5 (t : Fin cfg0.N) : (show Vec Ideal S4x256 .f32 from iblk m c 5 t) = m ((c.tc : Thread nD τ).loc main_arg5) := by
  funext y; show m ((c.tc : Thread nD τ).loc main_arg5) (((cfg0.win 5).blk t).view.emb y) = _; rw [emb5]
theorem idx6 : ∀ (t : Fin cfg0.N) (a : Fin 2), win0_6.index t a = 0 := (by decide +kernel : ∀ (t : Fin grid0.N) (a : Fin 2), win0_6.index t a = 0)
theorem emb6 (t : Fin cfg0.N) (y : S4x256.Idx) : ((cfg0.win 6).blk t).view.emb y = y := by
  funext a; apply Fin.ext
  show win0_6.index t a * S4x256.size a + 1 * (y a).val = (y a).val
  rw [idx6 t a]; omega
theorem read6 (t : Fin cfg0.N) : (show Vec Ideal S4x256 .f32 from iblk m c 6 t) = m ((c.tc : Thread nD τ).loc main_arg6) := by
  funext y; show m ((c.tc : Thread nD τ).loc main_arg6) (((cfg0.win 6).blk t).view.emb y) = _; rw [emb6]
theorem idx7 : ∀ (t : Fin cfg0.N) (a : Fin 2), win0_7.index t a = 0 := (by decide +kernel : ∀ (t : Fin grid0.N) (a : Fin 2), win0_7.index t a = 0)
theorem emb7 (t : Fin cfg0.N) (y : S4x1024.Idx) : ((cfg0.win 7).blk t).view.emb y = y := by
  funext a; apply Fin.ext
  show win0_7.index t a * S4x1024.size a + 1 * (y a).val = (y a).val
  rw [idx7 t a]; omega
theorem read7 (t : Fin cfg0.N) : (show Vec Ideal S4x1024 .f32 from iblk m c 7 t) = m ((c.tc : Thread nD τ).loc main_arg7) := by
  funext y; show m ((c.tc : Thread nD τ).loc main_arg7) (((cfg0.win 7).blk t).view.emb y) = _; rw [emb7]
theorem idx8 : ∀ (t : Fin cfg0.N) (a : Fin 2), win0_8.index t a = 0 := (by decide +kernel : ∀ (t : Fin grid0.N) (a : Fin 2), win0_8.index t a = 0)
theorem emb8 (t : Fin cfg0.N) (y : S4x1024.Idx) : ((cfg0.win 8).blk t).view.emb y = y := by
  funext a; apply Fin.ext
  show win0_8.index t a * S4x1024.size a + 1 * (y a).val = (y a).val
  rw [idx8 t a]; omega
theorem read8 (t : Fin cfg0.N) : (show Vec Ideal S4x1024 .f32 from iblk m c 8 t) = m ((c.tc : Thread nD τ).loc main_arg8) := by
  funext y; show m ((c.tc : Thread nD τ).loc main_arg8) (((cfg0.win 8).blk t).view.emb y) = _; rw [emb8]
theorem idx9 : ∀ (t : Fin cfg0.N) (a : Fin 2), win0_9.index t a = 0 := (by decide +kernel : ∀ (t : Fin grid0.N) (a : Fin 2), win0_9.index t a = 0)
theorem emb9 (t : Fin cfg0.N) (y : S32x8.Idx) : ((cfg0.win 9).blk t).view.emb y = y := by
  funext a; apply Fin.ext
  show win0_9.index t a * S32x8.size a + 1 * (y a).val = (y a).val
  rw [idx9 t a]; omega
theorem read9 (t : Fin cfg0.N) : (show Vec Ideal S32x8 .f32 from iblk m c 9 t) = m ((c.tc : Thread nD τ).loc main_arg9) := by
  funext y; show m ((c.tc : Thread nD τ).loc main_arg9) (((cfg0.win 9).blk t).view.emb y) = _; rw [emb9]
theorem idx10 : ∀ (t : Fin cfg0.N) (a : Fin 2), win0_10.index t a = 0 := (by decide +kernel : ∀ (t : Fin grid0.N) (a : Fin 2), win0_10.index t a = 0)
theorem emb10 (t : Fin cfg0.N) (y : S1x1024.Idx) : ((cfg0.win 10).blk t).view.emb y = y := by
  funext a; apply Fin.ext
  show win0_10.index t a * S1x1024.size a + 1 * (y a).val = (y a).val
  rw [idx10 t a]; omega
theorem read10 (t : Fin cfg0.N) : (show Vec Ideal S1x1024 .f32 from iblk m c 10 t) = m ((c.tc : Thread nD τ).loc main_arg10) := by
  funext y; show m ((c.tc : Thread nD τ).loc main_arg10) (((cfg0.win 10).blk t).view.emb y) = _; rw [emb10]
theorem idx11 : ∀ (t : Fin cfg0.N) (a : Fin 3), win0_11.index t a = 0 := (by decide +kernel : ∀ (t : Fin grid0.N) (a : Fin 3), win0_11.index t a = 0)
theorem emb11 (t : Fin cfg0.N) (y : S4x3x32.Idx) : ((cfg0.win 11).blk t).view.emb y = y := by
  funext a; apply Fin.ext
  show win0_11.index t a * S4x3x32.size a + 1 * (y a).val = (y a).val
  rw [idx11 t a]; omega
theorem read11 (t : Fin cfg0.N) : (show Vec Ideal S4x3x32 .f32 from iblk m c 11 t) = m ((c.tc : Thread nD τ).loc main_arg11) := by
  funext y; show m ((c.tc : Thread nD τ).loc main_arg11) (((cfg0.win 11).blk t).view.emb y) = _; rw [emb11]
theorem idx12 : ∀ (t : Fin cfg0.N) (a : Fin 3), win0_12.index t a = 0 := (by decide +kernel : ∀ (t : Fin grid0.N) (a : Fin 3), win0_12.index t a = 0)
theorem emb12 (t : Fin cfg0.N) (y : S4x31x32.Idx) : ((cfg0.win 12).blk t).view.emb y = y := by
  funext a; apply Fin.ext
  show win0_12.index t a * S4x31x32.size a + 1 * (y a).val = (y a).val
  rw [idx12 t a]; omega
theorem read12 (t : Fin cfg0.N) : (show Vec Ideal S4x31x32 .f32 from iblk m c 12 t) = m ((c.tc : Thread nD τ).loc main_arg12) := by
  funext y; show m ((c.tc : Thread nD τ).loc main_arg12) (((cfg0.win 12).blk t).view.emb y) = _; rw [emb12]
theorem idx13 : ∀ (t : Fin cfg0.N) (a : Fin 3), win0_13.index t a = 0 := (by decide +kernel : ∀ (t : Fin grid0.N) (a : Fin 3), win0_13.index t a = 0)
theorem emb13 (t : Fin cfg0.N) (y : S4x3x704.Idx) : ((cfg0.win 13).blk t).view.emb y = y := by
  funext a; apply Fin.ext
  show win0_13.index t a * S4x3x704.size a + 1 * (y a).val = (y a).val
  rw [idx13 t a]; omega
theorem read13 (t : Fin cfg0.N) : (show Vec Ideal S4x3x704 .f32 from iblk m c 13 t) = m ((c.tc : Thread nD τ).loc main_arg13) := by
  funext y; show m ((c.tc : Thread nD τ).loc main_arg13) (((cfg0.win 13).blk t).view.emb y) = _; rw [emb13]
theorem idx14 : ∀ (t : Fin cfg0.N) (a : Fin 2), win0_14.index t a = 0 := (by decide +kernel : ∀ (t : Fin grid0.N) (a : Fin 2), win0_14.index t a = 0)
theorem emb14 (t : Fin cfg0.N) (y : S4x1024.Idx) : ((cfg0.win 14).blk t).view.emb y = y := by
  funext a; apply Fin.ext
  show win0_14.index t a * S4x1024.size a + 1 * (y a).val = (y a).val
  rw [idx14 t a]; omega
theorem read14 (t : Fin cfg0.N) : (show Vec Ideal S4x1024 .f32 from iblk m c 14 t) = m ((c.tc : Thread nD τ).loc main_arg14) := by
  funext y; show m ((c.tc : Thread nD τ).loc main_arg14) (((cfg0.win 14).blk t).view.emb y) = _; rw [emb14]
theorem idx15 : ∀ (t : Fin cfg0.N) (a : Fin 2), win0_15.index t a = 0 := (by decide +kernel : ∀ (t : Fin grid0.N) (a : Fin 2), win0_15.index t a = 0)
theorem emb15 (t : Fin cfg0.N) (y : S4x256.Idx) : ((cfg0.win 15).blk t).view.emb y = y := by
  funext a; apply Fin.ext
  show win0_15.index t a * S4x256.size a + 1 * (y a).val = (y a).val
  rw [idx15 t a]; omega
theorem read15 (t : Fin cfg0.N) : (show Vec Ideal S4x256 .f32 from iblk m c 15 t) = m ((c.tc : Thread nD τ).loc main_arg15) := by
  funext y; show m ((c.tc : Thread nD τ).loc main_arg15) (((cfg0.win 15).blk t).view.emb y) = _; rw [emb15]
theorem idx16 : ∀ (t : Fin cfg0.N) (a : Fin 2), win0_16.index t a = 0 := (by decide +kernel : ∀ (t : Fin grid0.N) (a : Fin 2), win0_16.index t a = 0)
theorem emb16 (t : Fin cfg0.N) (y : S4x256.Idx) : ((cfg0.win 16).blk t).view.emb y = y := by
  funext a; apply Fin.ext
  show win0_16.index t a * S4x256.size a + 1 * (y a).val = (y a).val
  rw [idx16 t a]; omega
theorem read16 (t : Fin cfg0.N) : (show Vec Ideal S4x256 .f32 from iblk m c 16 t) = m ((c.tc : Thread nD τ).loc main_arg16) := by
  funext y; show m ((c.tc : Thread nD τ).loc main_arg16) (((cfg0.win 16).blk t).view.emb y) = _; rw [emb16]
theorem idx17 : ∀ (t : Fin cfg0.N) (a : Fin 2), win0_17.index t a = 0 := (by decide +kernel : ∀ (t : Fin grid0.N) (a : Fin 2), win0_17.index t a = 0)
theorem emb17 (t : Fin cfg0.N) (y : S4x256.Idx) : ((cfg0.win 17).blk t).view.emb y = y := by
  funext a; apply Fin.ext
  show win0_17.index t a * S4x256.size a + 1 * (y a).val = (y a).val
  rw [idx17 t a]; omega
theorem read17 (t : Fin cfg0.N) : (show Vec Ideal S4x256 .f32 from iblk m c 17 t) = m ((c.tc : Thread nD τ).loc main_arg17) := by
  funext y; show m ((c.tc : Thread nD τ).loc main_arg17) (((cfg0.win 17).blk t).view.emb y) = _; rw [emb17]
theorem idx18 : ∀ (t : Fin cfg0.N) (a : Fin 2), win0_18.index t a = 0 := (by decide +kernel : ∀ (t : Fin grid0.N) (a : Fin 2), win0_18.index t a = 0)
theorem emb18 (t : Fin cfg0.N) (y : S4x1024.Idx) : ((cfg0.win 18).blk t).view.emb y = y := by
  funext a; apply Fin.ext
  show win0_18.index t a * S4x1024.size a + 1 * (y a).val = (y a).val
  rw [idx18 t a]; omega
theorem read18 (t : Fin cfg0.N) : (show Vec Ideal S4x1024 .f32 from iblk m c 18 t) = m ((c.tc : Thread nD τ).loc main_arg18) := by
  funext y; show m ((c.tc : Thread nD τ).loc main_arg18) (((cfg0.win 18).blk t).view.emb y) = _; rw [emb18]
theorem idx19 : ∀ (t : Fin cfg0.N) (a : Fin 2), win0_19.index t a = 0 := (by decide +kernel : ∀ (t : Fin grid0.N) (a : Fin 2), win0_19.index t a = 0)
theorem emb19 (t : Fin cfg0.N) (y : S4x1024.Idx) : ((cfg0.win 19).blk t).view.emb y = y := by
  funext a; apply Fin.ext
  show win0_19.index t a * S4x1024.size a + 1 * (y a).val = (y a).val
  rw [idx19 t a]; omega
theorem read19 (t : Fin cfg0.N) : (show Vec Ideal S4x1024 .f32 from iblk m c 19 t) = m ((c.tc : Thread nD τ).loc main_arg19) := by
  funext y; show m ((c.tc : Thread nD τ).loc main_arg19) (((cfg0.win 19).blk t).view.emb y) = _; rw [emb19]
theorem idx20 : ∀ (t : Fin cfg0.N) (a : Fin 2), win0_20.index t a = 0 := (by decide +kernel : ∀ (t : Fin grid0.N) (a : Fin 2), win0_20.index t a = 0)
theorem emb20 (t : Fin cfg0.N) (y : S32x8.Idx) : ((cfg0.win 20).blk t).view.emb y = y := by
  funext a; apply Fin.ext
  show win0_20.index t a * S32x8.size a + 1 * (y a).val = (y a).val
  rw [idx20 t a]; omega
theorem read20 (t : Fin cfg0.N) : (show Vec Ideal S32x8 .f32 from iblk m c 20 t) = m ((c.tc : Thread nD τ).loc main_arg20) := by
  funext y; show m ((c.tc : Thread nD τ).loc main_arg20) (((cfg0.win 20).blk t).view.emb y) = _; rw [emb20]
theorem idx21 : ∀ (t : Fin cfg0.N) (a : Fin 2), win0_21.index t a = 0 := (by decide +kernel : ∀ (t : Fin grid0.N) (a : Fin 2), win0_21.index t a = 0)
theorem emb21 (t : Fin cfg0.N) (y : S1x1024.Idx) : ((cfg0.win 21).blk t).view.emb y = y := by
  funext a; apply Fin.ext
  show win0_21.index t a * S1x1024.size a + 1 * (y a).val = (y a).val
  rw [idx21 t a]; omega
theorem read21 (t : Fin cfg0.N) : (show Vec Ideal S1x1024 .f32 from iblk m c 21 t) = m ((c.tc : Thread nD τ).loc main_arg21) := by
  funext y; show m ((c.tc : Thread nD τ).loc main_arg21) (((cfg0.win 21).blk t).view.emb y) = _; rw [emb21]
theorem idx22 : ∀ (t : Fin cfg0.N) (a : Fin 3), win0_22.index t a = 0 := (by decide +kernel : ∀ (t : Fin grid0.N) (a : Fin 3), win0_22.index t a = 0)
theorem emb22 (t : Fin cfg0.N) (y : S4x3x32.Idx) : ((cfg0.win 22).blk t).view.emb y = y := by
  funext a; apply Fin.ext
  show win0_22.index t a * S4x3x32.size a + 1 * (y a).val = (y a).val
  rw [idx22 t a]; omega
theorem read22 (t : Fin cfg0.N) : (show Vec Ideal S4x3x32 .f32 from iblk m c 22 t) = m ((c.tc : Thread nD τ).loc main_arg22) := by
  funext y; show m ((c.tc : Thread nD τ).loc main_arg22) (((cfg0.win 22).blk t).view.emb y) = _; rw [emb22]
theorem idx23 : ∀ (t : Fin cfg0.N) (a : Fin 3), win0_23.index t a = 0 := (by decide +kernel : ∀ (t : Fin grid0.N) (a : Fin 3), win0_23.index t a = 0)
theorem emb23 (t : Fin cfg0.N) (y : S4x31x32.Idx) : ((cfg0.win 23).blk t).view.emb y = y := by
  funext a; apply Fin.ext
  show win0_23.index t a * S4x31x32.size a + 1 * (y a).val = (y a).val
  rw [idx23 t a]; omega
theorem read23 (t : Fin cfg0.N) : (show Vec Ideal S4x31x32 .f32 from iblk m c 23 t) = m ((c.tc : Thread nD τ).loc main_arg23) := by
  funext y; show m ((c.tc : Thread nD τ).loc main_arg23) (((cfg0.win 23).blk t).view.emb y) = _; rw [emb23]
theorem idx24 : ∀ (t : Fin cfg0.N) (a : Fin 3), win0_24.index t a = 0 := (by decide +kernel : ∀ (t : Fin grid0.N) (a : Fin 3), win0_24.index t a = 0)
theorem emb24 (t : Fin cfg0.N) (y : S4x3x704.Idx) : ((cfg0.win 24).blk t).view.emb y = y := by
  funext a; apply Fin.ext
  show win0_24.index t a * S4x3x704.size a + 1 * (y a).val = (y a).val
  rw [idx24 t a]; omega
theorem read24 (t : Fin cfg0.N) : (show Vec Ideal S4x3x704 .f32 from iblk m c 24 t) = m ((c.tc : Thread nD τ).loc main_arg24) := by
  funext y; show m ((c.tc : Thread nD τ).loc main_arg24) (((cfg0.win 24).blk t).view.emb y) = _; rw [emb24]
theorem idx25 : ∀ (t : Fin cfg0.N) (a : Fin 2), win0_25.index t a = 0 := (by decide +kernel : ∀ (t : Fin grid0.N) (a : Fin 2), win0_25.index t a = 0)
theorem emb25 (t : Fin cfg0.N) (y : S4x1024.Idx) : ((cfg0.win 25).blk t).view.emb y = y := by
  funext a; apply Fin.ext
  show win0_25.index t a * S4x1024.size a + 1 * (y a).val = (y a).val
  rw [idx25 t a]; omega
theorem read25 (t : Fin cfg0.N) : (show Vec Ideal S4x1024 .f32 from iblk m c 25 t) = m ((c.tc : Thread nD τ).loc main_arg25) := by
  funext y; show m ((c.tc : Thread nD τ).loc main_arg25) (((cfg0.win 25).blk t).view.emb y) = _; rw [emb25]
theorem idx26 : ∀ (t : Fin cfg0.N) (a : Fin 2), win0_26.index t a = 0 := (by decide +kernel : ∀ (t : Fin grid0.N) (a : Fin 2), win0_26.index t a = 0)
theorem emb26 (t : Fin cfg0.N) (y : S4x256.Idx) : ((cfg0.win 26).blk t).view.emb y = y := by
  funext a; apply Fin.ext
  show win0_26.index t a * S4x256.size a + 1 * (y a).val = (y a).val
  rw [idx26 t a]; omega
theorem read26 (t : Fin cfg0.N) : (show Vec Ideal S4x256 .f32 from iblk m c 26 t) = m ((c.tc : Thread nD τ).loc main_arg26) := by
  funext y; show m ((c.tc : Thread nD τ).loc main_arg26) (((cfg0.win 26).blk t).view.emb y) = _; rw [emb26]
theorem idx27 : ∀ (t : Fin cfg0.N) (a : Fin 2), win0_27.index t a = 0 := (by decide +kernel : ∀ (t : Fin grid0.N) (a : Fin 2), win0_27.index t a = 0)
theorem emb27 (t : Fin cfg0.N) (y : S4x256.Idx) : ((cfg0.win 27).blk t).view.emb y = y := by
  funext a; apply Fin.ext
  show win0_27.index t a * S4x256.size a + 1 * (y a).val = (y a).val
  rw [idx27 t a]; omega
theorem read27 (t : Fin cfg0.N) : (show Vec Ideal S4x256 .f32 from iblk m c 27 t) = m ((c.tc : Thread nD τ).loc main_arg27) := by
  funext y; show m ((c.tc : Thread nD τ).loc main_arg27) (((cfg0.win 27).blk t).view.emb y) = _; rw [emb27]
theorem idx28 : ∀ (t : Fin cfg0.N) (a : Fin 2), win0_28.index t a = 0 := (by decide +kernel : ∀ (t : Fin grid0.N) (a : Fin 2), win0_28.index t a = 0)
theorem emb28 (t : Fin cfg0.N) (y : S4x256.Idx) : ((cfg0.win 28).blk t).view.emb y = y := by
  funext a; apply Fin.ext
  show win0_28.index t a * S4x256.size a + 1 * (y a).val = (y a).val
  rw [idx28 t a]; omega
theorem read28 (t : Fin cfg0.N) : (show Vec Ideal S4x256 .f32 from iblk m c 28 t) = m ((c.tc : Thread nD τ).loc main_arg28) := by
  funext y; show m ((c.tc : Thread nD τ).loc main_arg28) (((cfg0.win 28).blk t).view.emb y) = _; rw [emb28]
theorem idx29 : ∀ (t : Fin cfg0.N) (a : Fin 2), win0_29.index t a = 0 := (by decide +kernel : ∀ (t : Fin grid0.N) (a : Fin 2), win0_29.index t a = 0)
theorem emb29 (t : Fin cfg0.N) (y : S4x1024.Idx) : ((cfg0.win 29).blk t).view.emb y = y := by
  funext a; apply Fin.ext
  show win0_29.index t a * S4x1024.size a + 1 * (y a).val = (y a).val
  rw [idx29 t a]; omega
theorem read29 (t : Fin cfg0.N) : (show Vec Ideal S4x1024 .f32 from iblk m c 29 t) = m ((c.tc : Thread nD τ).loc main_arg29) := by
  funext y; show m ((c.tc : Thread nD τ).loc main_arg29) (((cfg0.win 29).blk t).view.emb y) = _; rw [emb29]
theorem idx30 : ∀ (t : Fin cfg0.N) (a : Fin 2), win0_30.index t a = 0 := (by decide +kernel : ∀ (t : Fin grid0.N) (a : Fin 2), win0_30.index t a = 0)
theorem emb30 (t : Fin cfg0.N) (y : S4x1024.Idx) : ((cfg0.win 30).blk t).view.emb y = y := by
  funext a; apply Fin.ext
  show win0_30.index t a * S4x1024.size a + 1 * (y a).val = (y a).val
  rw [idx30 t a]; omega
theorem read30 (t : Fin cfg0.N) : (show Vec Ideal S4x1024 .f32 from iblk m c 30 t) = m ((c.tc : Thread nD τ).loc main_arg30) := by
  funext y; show m ((c.tc : Thread nD τ).loc main_arg30) (((cfg0.win 30).blk t).view.emb y) = _; rw [emb30]
theorem idx31 : ∀ (t : Fin cfg0.N) (a : Fin 2), win0_31.index t a = 0 := (by decide +kernel : ∀ (t : Fin grid0.N) (a : Fin 2), win0_31.index t a = 0)
theorem emb31 (t : Fin cfg0.N) (y : S32x8.Idx) : ((cfg0.win 31).blk t).view.emb y = y := by
  funext a; apply Fin.ext
  show win0_31.index t a * S32x8.size a + 1 * (y a).val = (y a).val
  rw [idx31 t a]; omega
theorem read31 (t : Fin cfg0.N) : (show Vec Ideal S32x8 .f32 from iblk m c 31 t) = m ((c.tc : Thread nD τ).loc main_arg31) := by
  funext y; show m ((c.tc : Thread nD τ).loc main_arg31) (((cfg0.win 31).blk t).view.emb y) = _; rw [emb31]
theorem idx32 : ∀ (t : Fin cfg0.N) (a : Fin 2), win0_32.index t a = 0 := (by decide +kernel : ∀ (t : Fin grid0.N) (a : Fin 2), win0_32.index t a = 0)
theorem emb32 (t : Fin cfg0.N) (y : S1x1024.Idx) : ((cfg0.win 32).blk t).view.emb y = y := by
  funext a; apply Fin.ext
  show win0_32.index t a * S1x1024.size a + 1 * (y a).val = (y a).val
  rw [idx32 t a]; omega
theorem read32 (t : Fin cfg0.N) : (show Vec Ideal S1x1024 .f32 from iblk m c 32 t) = m ((c.tc : Thread nD τ).loc main_arg32) := by
  funext y; show m ((c.tc : Thread nD τ).loc main_arg32) (((cfg0.win 32).blk t).view.emb y) = _; rw [emb32]
theorem idx33 : ∀ (t : Fin cfg0.N) (a : Fin 3), win0_33.index t a = 0 := (by decide +kernel : ∀ (t : Fin grid0.N) (a : Fin 3), win0_33.index t a = 0)
theorem emb33 (t : Fin cfg0.N) (y : S4x3x32.Idx) : ((cfg0.win 33).blk t).view.emb y = y := by
  funext a; apply Fin.ext
  show win0_33.index t a * S4x3x32.size a + 1 * (y a).val = (y a).val
  rw [idx33 t a]; omega
theorem read33 (t : Fin cfg0.N) : (show Vec Ideal S4x3x32 .f32 from iblk m c 33 t) = m ((c.tc : Thread nD τ).loc main_arg33) := by
  funext y; show m ((c.tc : Thread nD τ).loc main_arg33) (((cfg0.win 33).blk t).view.emb y) = _; rw [emb33]
theorem idx34 : ∀ (t : Fin cfg0.N) (a : Fin 3), win0_34.index t a = 0 := (by decide +kernel : ∀ (t : Fin grid0.N) (a : Fin 3), win0_34.index t a = 0)
theorem emb34 (t : Fin cfg0.N) (y : S4x31x32.Idx) : ((cfg0.win 34).blk t).view.emb y = y := by
  funext a; apply Fin.ext
  show win0_34.index t a * S4x31x32.size a + 1 * (y a).val = (y a).val
  rw [idx34 t a]; omega
theorem read34 (t : Fin cfg0.N) : (show Vec Ideal S4x31x32 .f32 from iblk m c 34 t) = m ((c.tc : Thread nD τ).loc main_arg34) := by
  funext y; show m ((c.tc : Thread nD τ).loc main_arg34) (((cfg0.win 34).blk t).view.emb y) = _; rw [emb34]
theorem idx35 : ∀ (t : Fin cfg0.N) (a : Fin 3), win0_35.index t a = 0 := (by decide +kernel : ∀ (t : Fin grid0.N) (a : Fin 3), win0_35.index t a = 0)
theorem emb35 (t : Fin cfg0.N) (y : S4x3x704.Idx) : ((cfg0.win 35).blk t).view.emb y = y := by
  funext a; apply Fin.ext
  show win0_35.index t a * S4x3x704.size a + 1 * (y a).val = (y a).val
  rw [idx35 t a]; omega
theorem read35 (t : Fin cfg0.N) : (show Vec Ideal S4x3x704 .f32 from iblk m c 35 t) = m ((c.tc : Thread nD τ).loc main_arg35) := by
  funext y; show m ((c.tc : Thread nD τ).loc main_arg35) (((cfg0.win 35).blk t).view.emb y) = _; rw [emb35]
theorem idx36 : ∀ (t : Fin cfg0.N) (a : Fin 2), win0_36.index t a = 0 := (by decide +kernel : ∀ (t : Fin grid0.N) (a : Fin 2), win0_36.index t a = 0)
theorem emb36 (t : Fin cfg0.N) (y : S4x1024.Idx) : ((cfg0.win 36).blk t).view.emb y = y := by
  funext a; apply Fin.ext
  show win0_36.index t a * S4x1024.size a + 1 * (y a).val = (y a).val
  rw [idx36 t a]; omega
theorem read36 (t : Fin cfg0.N) : (show Vec Ideal S4x1024 .f32 from iblk m c 36 t) = m ((c.tc : Thread nD τ).loc main_arg36) := by
  funext y; show m ((c.tc : Thread nD τ).loc main_arg36) (((cfg0.win 36).blk t).view.emb y) = _; rw [emb36]
theorem idx37 : ∀ (t : Fin cfg0.N) (a : Fin 2), win0_37.index t a = 0 := (by decide +kernel : ∀ (t : Fin grid0.N) (a : Fin 2), win0_37.index t a = 0)
theorem emb37 (t : Fin cfg0.N) (y : S4x256.Idx) : ((cfg0.win 37).blk t).view.emb y = y := by
  funext a; apply Fin.ext
  show win0_37.index t a * S4x256.size a + 1 * (y a).val = (y a).val
  rw [idx37 t a]; omega
theorem read37 (t : Fin cfg0.N) : (show Vec Ideal S4x256 .f32 from iblk m c 37 t) = m ((c.tc : Thread nD τ).loc main_arg37) := by
  funext y; show m ((c.tc : Thread nD τ).loc main_arg37) (((cfg0.win 37).blk t).view.emb y) = _; rw [emb37]
theorem idx38 : ∀ (t : Fin cfg0.N) (a : Fin 2), win0_38.index t a = 0 := (by decide +kernel : ∀ (t : Fin grid0.N) (a : Fin 2), win0_38.index t a = 0)
theorem emb38 (t : Fin cfg0.N) (y : S4x256.Idx) : ((cfg0.win 38).blk t).view.emb y = y := by
  funext a; apply Fin.ext
  show win0_38.index t a * S4x256.size a + 1 * (y a).val = (y a).val
  rw [idx38 t a]; omega
theorem read38 (t : Fin cfg0.N) : (show Vec Ideal S4x256 .f32 from iblk m c 38 t) = m ((c.tc : Thread nD τ).loc main_arg38) := by
  funext y; show m ((c.tc : Thread nD τ).loc main_arg38) (((cfg0.win 38).blk t).view.emb y) = _; rw [emb38]
theorem idx39 : ∀ (t : Fin cfg0.N) (a : Fin 2), win0_39.index t a = 0 := (by decide +kernel : ∀ (t : Fin grid0.N) (a : Fin 2), win0_39.index t a = 0)
theorem emb39 (t : Fin cfg0.N) (y : S4x256.Idx) : ((cfg0.win 39).blk t).view.emb y = y := by
  funext a; apply Fin.ext
  show win0_39.index t a * S4x256.size a + 1 * (y a).val = (y a).val
  rw [idx39 t a]; omega
theorem read39 (t : Fin cfg0.N) : (show Vec Ideal S4x256 .f32 from iblk m c 39 t) = m ((c.tc : Thread nD τ).loc main_arg39) := by
  funext y; show m ((c.tc : Thread nD τ).loc main_arg39) (((cfg0.win 39).blk t).view.emb y) = _; rw [emb39]
theorem idx40 : ∀ (t : Fin cfg0.N) (a : Fin 2), win0_40.index t a = 0 := (by decide +kernel : ∀ (t : Fin grid0.N) (a : Fin 2), win0_40.index t a = 0)
theorem emb40 (t : Fin cfg0.N) (y : S4x1024.Idx) : ((cfg0.win 40).blk t).view.emb y = y := by
  funext a; apply Fin.ext
  show win0_40.index t a * S4x1024.size a + 1 * (y a).val = (y a).val
  rw [idx40 t a]; omega
theorem read40 (t : Fin cfg0.N) : (show Vec Ideal S4x1024 .f32 from iblk m c 40 t) = m ((c.tc : Thread nD τ).loc main_arg40) := by
  funext y; show m ((c.tc : Thread nD τ).loc main_arg40) (((cfg0.win 40).blk t).view.emb y) = _; rw [emb40]
theorem idx41 : ∀ (t : Fin cfg0.N) (a : Fin 2), win0_41.index t a = 0 := (by decide +kernel : ∀ (t : Fin grid0.N) (a : Fin 2), win0_41.index t a = 0)
theorem emb41 (t : Fin cfg0.N) (y : S4x1024.Idx) : ((cfg0.win 41).blk t).view.emb y = y := by
  funext a; apply Fin.ext
  show win0_41.index t a * S4x1024.size a + 1 * (y a).val = (y a).val
  rw [idx41 t a]; omega
theorem read41 (t : Fin cfg0.N) : (show Vec Ideal S4x1024 .f32 from iblk m c 41 t) = m ((c.tc : Thread nD τ).loc main_arg41) := by
  funext y; show m ((c.tc : Thread nD τ).loc main_arg41) (((cfg0.win 41).blk t).view.emb y) = _; rw [emb41]
theorem idx42 : ∀ (t : Fin cfg0.N) (a : Fin 2), win0_42.index t a = 0 := (by decide +kernel : ∀ (t : Fin grid0.N) (a : Fin 2), win0_42.index t a = 0)
theorem emb42 (t : Fin cfg0.N) (y : S32x8.Idx) : ((cfg0.win 42).blk t).view.emb y = y := by
  funext a; apply Fin.ext
  show win0_42.index t a * S32x8.size a + 1 * (y a).val = (y a).val
  rw [idx42 t a]; omega
theorem read42 (t : Fin cfg0.N) : (show Vec Ideal S32x8 .f32 from iblk m c 42 t) = m ((c.tc : Thread nD τ).loc main_arg42) := by
  funext y; show m ((c.tc : Thread nD τ).loc main_arg42) (((cfg0.win 42).blk t).view.emb y) = _; rw [emb42]
theorem idx43 : ∀ (t : Fin cfg0.N) (a : Fin 2), win0_43.index t a = 0 := (by decide +kernel : ∀ (t : Fin grid0.N) (a : Fin 2), win0_43.index t a = 0)
theorem emb43 (t : Fin cfg0.N) (y : S1x1024.Idx) : ((cfg0.win 43).blk t).view.emb y = y := by
  funext a; apply Fin.ext
  show win0_43.index t a * S1x1024.size a + 1 * (y a).val = (y a).val
  rw [idx43 t a]; omega
theorem read43 (t : Fin cfg0.N) : (show Vec Ideal S1x1024 .f32 from iblk m c 43 t) = m ((c.tc : Thread nD τ).loc main_arg43) := by
  funext y; show m ((c.tc : Thread nD τ).loc main_arg43) (((cfg0.win 43).blk t).view.emb y) = _; rw [emb43]
theorem idx44 : ∀ (t : Fin cfg0.N) (a : Fin 3), win0_44.index t a = 0 := (by decide +kernel : ∀ (t : Fin grid0.N) (a : Fin 3), win0_44.index t a = 0)
theorem emb44 (t : Fin cfg0.N) (y : S4x3x32.Idx) : ((cfg0.win 44).blk t).view.emb y = y := by
  funext a; apply Fin.ext
  show win0_44.index t a * S4x3x32.size a + 1 * (y a).val = (y a).val
  rw [idx44 t a]; omega
theorem idx45 : ∀ (t : Fin cfg0.N) (a : Fin 3), win0_45.index t a = 0 := (by decide +kernel : ∀ (t : Fin grid0.N) (a : Fin 3), win0_45.index t a = 0)
theorem emb45 (t : Fin cfg0.N) (y : S4x31x32.Idx) : ((cfg0.win 45).blk t).view.emb y = y := by
  funext a; apply Fin.ext
  show win0_45.index t a * S4x31x32.size a + 1 * (y a).val = (y a).val
  rw [idx45 t a]; omega
theorem idx46 : ∀ (t : Fin cfg0.N) (a : Fin 3), win0_46.index t a = 0 := (by decide +kernel : ∀ (t : Fin grid0.N) (a : Fin 3), win0_46.index t a = 0)
theorem emb46 (t : Fin cfg0.N) (y : S4x3x704.Idx) : ((cfg0.win 46).blk t).view.emb y = y := by
  funext a; apply Fin.ext
  show win0_46.index t a * S4x3x704.size a + 1 * (y a).val = (y a).val
  rw [idx46 t a]; omega
theorem idx47 : ∀ (t : Fin cfg0.N) (a : Fin 2), win0_47.index t a = 0 := (by decide +kernel : ∀ (t : Fin grid0.N) (a : Fin 2), win0_47.index t a = 0)
theorem emb47 (t : Fin cfg0.N) (y : S4x1024.Idx) : ((cfg0.win 47).blk t).view.emb y = y := by
  funext a; apply Fin.ext
  show win0_47.index t a * S4x1024.size a + 1 * (y a).val = (y a).val
  rw [idx47 t a]; omega
theorem idx48 : ∀ (t : Fin cfg0.N) (a : Fin 2), win0_48.index t a = 0 := (by decide +kernel : ∀ (t : Fin grid0.N) (a : Fin 2), win0_48.index t a = 0)
theorem emb48 (t : Fin cfg0.N) (y : S4x256.Idx) : ((cfg0.win 48).blk t).view.emb y = y := by
  funext a; apply Fin.ext
  show win0_48.index t a * S4x256.size a + 1 * (y a).val = (y a).val
  rw [idx48 t a]; omega
theorem idx49 : ∀ (t : Fin cfg0.N) (a : Fin 2), win0_49.index t a = 0 := (by decide +kernel : ∀ (t : Fin grid0.N) (a : Fin 2), win0_49.index t a = 0)
theorem emb49 (t : Fin cfg0.N) (y : S4x256.Idx) : ((cfg0.win 49).blk t).view.emb y = y := by
  funext a; apply Fin.ext
  show win0_49.index t a * S4x256.size a + 1 * (y a).val = (y a).val
  rw [idx49 t a]; omega
theorem idx50 : ∀ (t : Fin cfg0.N) (a : Fin 2), win0_50.index t a = 0 := (by decide +kernel : ∀ (t : Fin grid0.N) (a : Fin 2), win0_50.index t a = 0)
theorem emb50 (t : Fin cfg0.N) (y : S4x256.Idx) : ((cfg0.win 50).blk t).view.emb y = y := by
  funext a; apply Fin.ext
  show win0_50.index t a * S4x256.size a + 1 * (y a).val = (y a).val
  rw [idx50 t a]; omega
theorem idx51 : ∀ (t : Fin cfg0.N) (a : Fin 2), win0_51.index t a = 0 := (by decide +kernel : ∀ (t : Fin grid0.N) (a : Fin 2), win0_51.index t a = 0)
theorem emb51 (t : Fin cfg0.N) (y : S4x1024.Idx) : ((cfg0.win 51).blk t).view.emb y = y := by
  funext a; apply Fin.ext
  show win0_51.index t a * S4x1024.size a + 1 * (y a).val = (y a).val
  rw [idx51 t a]; omega
theorem idx52 : ∀ (t : Fin cfg0.N) (a : Fin 2), win0_52.index t a = 0 := (by decide +kernel : ∀ (t : Fin grid0.N) (a : Fin 2), win0_52.index t a = 0)
theorem emb52 (t : Fin cfg0.N) (y : S4x1024.Idx) : ((cfg0.win 52).blk t).view.emb y = y := by
  funext a; apply Fin.ext
  show win0_52.index t a * S4x1024.size a + 1 * (y a).val = (y a).val
  rw [idx52 t a]; omega
theorem idx53 : ∀ (t : Fin cfg0.N) (a : Fin 2), win0_53.index t a = 0 := (by decide +kernel : ∀ (t : Fin grid0.N) (a : Fin 2), win0_53.index t a = 0)
theorem emb53 (t : Fin cfg0.N) (y : S32x8.Idx) : ((cfg0.win 53).blk t).view.emb y = y := by
  funext a; apply Fin.ext
  show win0_53.index t a * S32x8.size a + 1 * (y a).val = (y a).val
  rw [idx53 t a]; omega
theorem idx54 : ∀ (t : Fin cfg0.N) (a : Fin 2), win0_54.index t a = 0 := (by decide +kernel : ∀ (t : Fin grid0.N) (a : Fin 2), win0_54.index t a = 0)
theorem emb54 (t : Fin cfg0.N) (y : S1x1024.Idx) : ((cfg0.win 54).blk t).view.emb y = y := by
  funext a; apply Fin.ext
  show win0_54.index t a * S1x1024.size a + 1 * (y a).val = (y a).val
  rw [idx54 t a]; omega
theorem idx55 : ∀ (t : Fin cfg0.N) (a : Fin 3), win0_55.index t a = 0 := (by decide +kernel : ∀ (t : Fin grid0.N) (a : Fin 3), win0_55.index t a = 0)
theorem emb55 (t : Fin cfg0.N) (y : S4x3x32.Idx) : ((cfg0.win 55).blk t).view.emb y = y := by
  funext a; apply Fin.ext
  show win0_55.index t a * S4x3x32.size a + 1 * (y a).val = (y a).val
  rw [idx55 t a]; omega
theorem idx56 : ∀ (t : Fin cfg0.N) (a : Fin 3), win0_56.index t a = 0 := (by decide +kernel : ∀ (t : Fin grid0.N) (a : Fin 3), win0_56.index t a = 0)
theorem emb56 (t : Fin cfg0.N) (y : S4x31x32.Idx) : ((cfg0.win 56).blk t).view.emb y = y := by
  funext a; apply Fin.ext
  show win0_56.index t a * S4x31x32.size a + 1 * (y a).val = (y a).val
  rw [idx56 t a]; omega
theorem idx57 : ∀ (t : Fin cfg0.N) (a : Fin 3), win0_57.index t a = 0 := (by decide +kernel : ∀ (t : Fin grid0.N) (a : Fin 3), win0_57.index t a = 0)
theorem emb57 (t : Fin cfg0.N) (y : S4x3x704.Idx) : ((cfg0.win 57).blk t).view.emb y = y := by
  funext a; apply Fin.ext
  show win0_57.index t a * S4x3x704.size a + 1 * (y a).val = (y a).val
  rw [idx57 t a]; omega
theorem idx58 : ∀ (t : Fin cfg0.N) (a : Fin 2), win0_58.index t a = 0 := (by decide +kernel : ∀ (t : Fin grid0.N) (a : Fin 2), win0_58.index t a = 0)
theorem emb58 (t : Fin cfg0.N) (y : S4x1024.Idx) : ((cfg0.win 58).blk t).view.emb y = y := by
  funext a; apply Fin.ext
  show win0_58.index t a * S4x1024.size a + 1 * (y a).val = (y a).val
  rw [idx58 t a]; omega
theorem idx59 : ∀ (t : Fin cfg0.N) (a : Fin 2), win0_59.index t a = 0 := (by decide +kernel : ∀ (t : Fin grid0.N) (a : Fin 2), win0_59.index t a = 0)
theorem emb59 (t : Fin cfg0.N) (y : S4x256.Idx) : ((cfg0.win 59).blk t).view.emb y = y := by
  funext a; apply Fin.ext
  show win0_59.index t a * S4x256.size a + 1 * (y a).val = (y a).val
  rw [idx59 t a]; omega
theorem idx60 : ∀ (t : Fin cfg0.N) (a : Fin 2), win0_60.index t a = 0 := (by decide +kernel : ∀ (t : Fin grid0.N) (a : Fin 2), win0_60.index t a = 0)
theorem emb60 (t : Fin cfg0.N) (y : S4x256.Idx) : ((cfg0.win 60).blk t).view.emb y = y := by
  funext a; apply Fin.ext
  show win0_60.index t a * S4x256.size a + 1 * (y a).val = (y a).val
  rw [idx60 t a]; omega
theorem idx61 : ∀ (t : Fin cfg0.N) (a : Fin 2), win0_61.index t a = 0 := (by decide +kernel : ∀ (t : Fin grid0.N) (a : Fin 2), win0_61.index t a = 0)
theorem emb61 (t : Fin cfg0.N) (y : S4x256.Idx) : ((cfg0.win 61).blk t).view.emb y = y := by
  funext a; apply Fin.ext
  show win0_61.index t a * S4x256.size a + 1 * (y a).val = (y a).val
  rw [idx61 t a]; omega
theorem idx62 : ∀ (t : Fin cfg0.N) (a : Fin 2), win0_62.index t a = 0 := (by decide +kernel : ∀ (t : Fin grid0.N) (a : Fin 2), win0_62.index t a = 0)
theorem emb62 (t : Fin cfg0.N) (y : S4x1024.Idx) : ((cfg0.win 62).blk t).view.emb y = y := by
  funext a; apply Fin.ext
  show win0_62.index t a * S4x1024.size a + 1 * (y a).val = (y a).val
  rw [idx62 t a]; omega
theorem idx63 : ∀ (t : Fin cfg0.N) (a : Fin 2), win0_63.index t a = 0 := (by decide +kernel : ∀ (t : Fin grid0.N) (a : Fin 2), win0_63.index t a = 0)
theorem emb63 (t : Fin cfg0.N) (y : S4x1024.Idx) : ((cfg0.win 63).blk t).view.emb y = y := by
  funext a; apply Fin.ext
  show win0_63.index t a * S4x1024.size a + 1 * (y a).val = (y a).val
  rw [idx63 t a]; omega
theorem idx64 : ∀ (t : Fin cfg0.N) (a : Fin 2), win0_64.index t a = 0 := (by decide +kernel : ∀ (t : Fin grid0.N) (a : Fin 2), win0_64.index t a = 0)
theorem emb64 (t : Fin cfg0.N) (y : S32x8.Idx) : ((cfg0.win 64).blk t).view.emb y = y := by
  funext a; apply Fin.ext
  show win0_64.index t a * S32x8.size a + 1 * (y a).val = (y a).val
  rw [idx64 t a]; omega
theorem idx65 : ∀ (t : Fin cfg0.N) (a : Fin 2), win0_65.index t a = 0 := (by decide +kernel : ∀ (t : Fin grid0.N) (a : Fin 2), win0_65.index t a = 0)
theorem emb65 (t : Fin cfg0.N) (y : S1x1024.Idx) : ((cfg0.win 65).blk t).view.emb y = y := by
  funext a; apply Fin.ext
  show win0_65.index t a * S1x1024.size a + 1 * (y a).val = (y a).val
  rw [idx65 t a]; omega
theorem idx66 : ∀ (t : Fin cfg0.N) (a : Fin 3), win0_66.index t a = 0 := (by decide +kernel : ∀ (t : Fin grid0.N) (a : Fin 3), win0_66.index t a = 0)
theorem emb66 (t : Fin cfg0.N) (y : S4x3x32.Idx) : ((cfg0.win 66).blk t).view.emb y = y := by
  funext a; apply Fin.ext
  show win0_66.index t a * S4x3x32.size a + 1 * (y a).val = (y a).val
  rw [idx66 t a]; omega
theorem idx67 : ∀ (t : Fin cfg0.N) (a : Fin 3), win0_67.index t a = 0 := (by decide +kernel : ∀ (t : Fin grid0.N) (a : Fin 3), win0_67.index t a = 0)
theorem emb67 (t : Fin cfg0.N) (y : S4x31x32.Idx) : ((cfg0.win 67).blk t).view.emb y = y := by
  funext a; apply Fin.ext
  show win0_67.index t a * S4x31x32.size a + 1 * (y a).val = (y a).val
  rw [idx67 t a]; omega
theorem idx68 : ∀ (t : Fin cfg0.N) (a : Fin 3), win0_68.index t a = 0 := (by decide +kernel : ∀ (t : Fin grid0.N) (a : Fin 3), win0_68.index t a = 0)
theorem emb68 (t : Fin cfg0.N) (y : S4x3x704.Idx) : ((cfg0.win 68).blk t).view.emb y = y := by
  funext a; apply Fin.ext
  show win0_68.index t a * S4x3x704.size a + 1 * (y a).val = (y a).val
  rw [idx68 t a]; omega
theorem idx69 : ∀ (t : Fin cfg0.N) (a : Fin 2), win0_69.index t a = 0 := (by decide +kernel : ∀ (t : Fin grid0.N) (a : Fin 2), win0_69.index t a = 0)
theorem emb69 (t : Fin cfg0.N) (y : S4x1024.Idx) : ((cfg0.win 69).blk t).view.emb y = y := by
  funext a; apply Fin.ext
  show win0_69.index t a * S4x1024.size a + 1 * (y a).val = (y a).val
  rw [idx69 t a]; omega
theorem idx70 : ∀ (t : Fin cfg0.N) (a : Fin 2), win0_70.index t a = 0 := (by decide +kernel : ∀ (t : Fin grid0.N) (a : Fin 2), win0_70.index t a = 0)
theorem emb70 (t : Fin cfg0.N) (y : S4x256.Idx) : ((cfg0.win 70).blk t).view.emb y = y := by
  funext a; apply Fin.ext
  show win0_70.index t a * S4x256.size a + 1 * (y a).val = (y a).val
  rw [idx70 t a]; omega
theorem idx71 : ∀ (t : Fin cfg0.N) (a : Fin 2), win0_71.index t a = 0 := (by decide +kernel : ∀ (t : Fin grid0.N) (a : Fin 2), win0_71.index t a = 0)
theorem emb71 (t : Fin cfg0.N) (y : S4x256.Idx) : ((cfg0.win 71).blk t).view.emb y = y := by
  funext a; apply Fin.ext
  show win0_71.index t a * S4x256.size a + 1 * (y a).val = (y a).val
  rw [idx71 t a]; omega
theorem idx72 : ∀ (t : Fin cfg0.N) (a : Fin 2), win0_72.index t a = 0 := (by decide +kernel : ∀ (t : Fin grid0.N) (a : Fin 2), win0_72.index t a = 0)
theorem emb72 (t : Fin cfg0.N) (y : S4x256.Idx) : ((cfg0.win 72).blk t).view.emb y = y := by
  funext a; apply Fin.ext
  show win0_72.index t a * S4x256.size a + 1 * (y a).val = (y a).val
  rw [idx72 t a]; omega
theorem idx73 : ∀ (t : Fin cfg0.N) (a : Fin 2), win0_73.index t a = 0 := (by decide +kernel : ∀ (t : Fin grid0.N) (a : Fin 2), win0_73.index t a = 0)
theorem emb73 (t : Fin cfg0.N) (y : S4x1024.Idx) : ((cfg0.win 73).blk t).view.emb y = y := by
  funext a; apply Fin.ext
  show win0_73.index t a * S4x1024.size a + 1 * (y a).val = (y a).val
  rw [idx73 t a]; omega
theorem idx74 : ∀ (t : Fin cfg0.N) (a : Fin 2), win0_74.index t a = 0 := (by decide +kernel : ∀ (t : Fin grid0.N) (a : Fin 2), win0_74.index t a = 0)
theorem emb74 (t : Fin cfg0.N) (y : S4x1024.Idx) : ((cfg0.win 74).blk t).view.emb y = y := by
  funext a; apply Fin.ext
  show win0_74.index t a * S4x1024.size a + 1 * (y a).val = (y a).val
  rw [idx74 t a]; omega
theorem idx75 : ∀ (t : Fin cfg0.N) (a : Fin 2), win0_75.index t a = 0 := (by decide +kernel : ∀ (t : Fin grid0.N) (a : Fin 2), win0_75.index t a = 0)
theorem emb75 (t : Fin cfg0.N) (y : S32x8.Idx) : ((cfg0.win 75).blk t).view.emb y = y := by
  funext a; apply Fin.ext
  show win0_75.index t a * S32x8.size a + 1 * (y a).val = (y a).val
  rw [idx75 t a]; omega
theorem idx76 : ∀ (t : Fin cfg0.N) (a : Fin 2), win0_76.index t a = 0 := (by decide +kernel : ∀ (t : Fin grid0.N) (a : Fin 2), win0_76.index t a = 0)
theorem emb76 (t : Fin cfg0.N) (y : S1x1024.Idx) : ((cfg0.win 76).blk t).view.emb y = y := by
  funext a; apply Fin.ext
  show win0_76.index t a * S1x1024.size a + 1 * (y a).val = (y a).val
  rw [idx76 t a]; omega

/-! ## Each result -/

theorem final44 : (dats m 0 c).arrAt 44 cfg0.N = change (s := S4x3x32) (m ((c.tc : Thread nD τ).loc main_arg11)) (m ((c.tc : Thread nD τ).loc main_arg0)) (m ((c.tc : Thread nD τ).loc main_arg22)) (m ((c.tc : Thread nD τ).loc main_arg33)) := by
  refine (dats m 0 c).arrAt_eq_of_covers 44 _ (by decide +kernel) fun t hf y => ?_
  rw [show ((cfg0.win 44).blk t).view.emb y = y from emb44 t y]
  show (dats m 0 c).after 44 t y = _
  rw [after0_44]; unfold out0_44
  rw [View.canon_unit_zero zero3]
  simp only [View.ld_unit_zero (S := S4x3x32) zero3]
  exact congrFun (congr (congr (congr (congrArg (k0_pay6 (F := Ideal)) (read11 m c t)) (read0 m c t)) (read22 m c t)) (read33 m c t)) y
theorem final45 : (dats m 0 c).arrAt 45 cfg0.N = change (s := S4x31x32) (m ((c.tc : Thread nD τ).loc main_arg12)) (m ((c.tc : Thread nD τ).loc main_arg1)) (m ((c.tc : Thread nD τ).loc main_arg23)) (m ((c.tc : Thread nD τ).loc main_arg34)) := by
  refine (dats m 0 c).arrAt_eq_of_covers 45 _ (by decide +kernel) fun t hf y => ?_
  rw [show ((cfg0.win 45).blk t).view.emb y = y from emb45 t y]
  show (dats m 0 c).after 45 t y = _
  rw [after0_45]; unfold out0_45
  rw [View.canon_unit_zero zero3]
  simp only [View.ld_unit_zero (S := S4x31x32) zero3]
  exact congrFun (congr (congr (congr (congrArg (k0_pay9 (F := Ideal)) (read12 m c t)) (read1 m c t)) (read23 m c t)) (read34 m c t)) y
theorem final46 : (dats m 0 c).arrAt 46 cfg0.N = change (s := S4x3x704) (m ((c.tc : Thread nD τ).loc main_arg13)) (m ((c.tc : Thread nD τ).loc main_arg2)) (m ((c.tc : Thread nD τ).loc main_arg24)) (m ((c.tc : Thread nD τ).loc main_arg35)) := by
  refine (dats m 0 c).arrAt_eq_of_covers 46 _ (by decide +kernel) fun t hf y => ?_
  rw [show ((cfg0.win 46).blk t).view.emb y = y from emb46 t y]
  show (dats m 0 c).after 46 t y = _
  rw [after0_46]; unfold out0_46
  rw [View.canon_unit_zero zero3]
  simp only [View.ld_unit_zero (S := S4x3x704) zero3]
  exact congrFun (congr (congr (congr (congrArg (k0_pay12 (F := Ideal)) (read13 m c t)) (read2 m c t)) (read24 m c t)) (read35 m c t)) y
theorem final47 : (dats m 0 c).arrAt 47 cfg0.N = change (s := S4x1024) (m ((c.tc : Thread nD τ).loc main_arg14)) (m ((c.tc : Thread nD τ).loc main_arg3)) (m ((c.tc : Thread nD τ).loc main_arg25)) (m ((c.tc : Thread nD τ).loc main_arg36)) := by
  refine (dats m 0 c).arrAt_eq_of_covers 47 _ (by decide +kernel) fun t hf y => ?_
  rw [show ((cfg0.win 47).blk t).view.emb y = y from emb47 t y]
  show (dats m 0 c).after 47 t y = _
  rw [after0_47]; unfold out0_47
  rw [View.canon_unit_zero zero2]
  simp only [View.ld_unit_zero (S := S4x1024) zero2]
  exact congrFun (congr (congr (congr (congrArg (k0_pay15 (F := Ideal)) (read14 m c t)) (read3 m c t)) (read25 m c t)) (read36 m c t)) y
theorem final48 : (dats m 0 c).arrAt 48 cfg0.N = change (s := S4x256) (m ((c.tc : Thread nD τ).loc main_arg15)) (m ((c.tc : Thread nD τ).loc main_arg4)) (m ((c.tc : Thread nD τ).loc main_arg26)) (m ((c.tc : Thread nD τ).loc main_arg37)) := by
  refine (dats m 0 c).arrAt_eq_of_covers 48 _ (by decide +kernel) fun t hf y => ?_
  rw [show ((cfg0.win 48).blk t).view.emb y = y from emb48 t y]
  show (dats m 0 c).after 48 t y = _
  rw [after0_48]; unfold out0_48
  rw [View.canon_unit_zero zero2]
  simp only [View.ld_unit_zero (S := S4x256) zero2]
  exact congrFun (congr (congr (congr (congrArg (k0_pay18 (F := Ideal)) (read15 m c t)) (read4 m c t)) (read26 m c t)) (read37 m c t)) y
theorem final49 : (dats m 0 c).arrAt 49 cfg0.N = change (s := S4x256) (m ((c.tc : Thread nD τ).loc main_arg16)) (m ((c.tc : Thread nD τ).loc main_arg5)) (m ((c.tc : Thread nD τ).loc main_arg27)) (m ((c.tc : Thread nD τ).loc main_arg38)) := by
  refine (dats m 0 c).arrAt_eq_of_covers 49 _ (by decide +kernel) fun t hf y => ?_
  rw [show ((cfg0.win 49).blk t).view.emb y = y from emb49 t y]
  show (dats m 0 c).after 49 t y = _
  rw [after0_49]; unfold out0_49
  rw [View.canon_unit_zero zero2]
  simp only [View.ld_unit_zero (S := S4x256) zero2]
  exact congrFun (congr (congr (congr (congrArg (k0_pay21 (F := Ideal)) (read16 m c t)) (read5 m c t)) (read27 m c t)) (read38 m c t)) y
theorem final50 : (dats m 0 c).arrAt 50 cfg0.N = change (s := S4x256) (m ((c.tc : Thread nD τ).loc main_arg17)) (m ((c.tc : Thread nD τ).loc main_arg6)) (m ((c.tc : Thread nD τ).loc main_arg28)) (m ((c.tc : Thread nD τ).loc main_arg39)) := by
  refine (dats m 0 c).arrAt_eq_of_covers 50 _ (by decide +kernel) fun t hf y => ?_
  rw [show ((cfg0.win 50).blk t).view.emb y = y from emb50 t y]
  show (dats m 0 c).after 50 t y = _
  rw [after0_50]; unfold out0_50
  rw [View.canon_unit_zero zero2]
  simp only [View.ld_unit_zero (S := S4x256) zero2]
  exact congrFun (congr (congr (congr (congrArg (k0_pay24 (F := Ideal)) (read17 m c t)) (read6 m c t)) (read28 m c t)) (read39 m c t)) y
theorem final51 : (dats m 0 c).arrAt 51 cfg0.N = change (s := S4x1024) (m ((c.tc : Thread nD τ).loc main_arg18)) (m ((c.tc : Thread nD τ).loc main_arg7)) (m ((c.tc : Thread nD τ).loc main_arg29)) (m ((c.tc : Thread nD τ).loc main_arg40)) := by
  refine (dats m 0 c).arrAt_eq_of_covers 51 _ (by decide +kernel) fun t hf y => ?_
  rw [show ((cfg0.win 51).blk t).view.emb y = y from emb51 t y]
  show (dats m 0 c).after 51 t y = _
  rw [after0_51]; unfold out0_51
  rw [View.canon_unit_zero zero2]
  simp only [View.ld_unit_zero (S := S4x1024) zero2]
  exact congrFun (congr (congr (congr (congrArg (k0_pay27 (F := Ideal)) (read18 m c t)) (read7 m c t)) (read29 m c t)) (read40 m c t)) y
theorem final52 : (dats m 0 c).arrAt 52 cfg0.N = change (s := S4x1024) (m ((c.tc : Thread nD τ).loc main_arg19)) (m ((c.tc : Thread nD τ).loc main_arg8)) (m ((c.tc : Thread nD τ).loc main_arg30)) (m ((c.tc : Thread nD τ).loc main_arg41)) := by
  refine (dats m 0 c).arrAt_eq_of_covers 52 _ (by decide +kernel) fun t hf y => ?_
  rw [show ((cfg0.win 52).blk t).view.emb y = y from emb52 t y]
  show (dats m 0 c).after 52 t y = _
  rw [after0_52]; unfold out0_52
  rw [View.canon_unit_zero zero2]
  simp only [View.ld_unit_zero (S := S4x1024) zero2]
  exact congrFun (congr (congr (congr (congrArg (k0_pay30 (F := Ideal)) (read19 m c t)) (read8 m c t)) (read30 m c t)) (read41 m c t)) y
theorem final53 : (dats m 0 c).arrAt 53 cfg0.N = change (s := S32x8) (m ((c.tc : Thread nD τ).loc main_arg20)) (m ((c.tc : Thread nD τ).loc main_arg9)) (m ((c.tc : Thread nD τ).loc main_arg31)) (m ((c.tc : Thread nD τ).loc main_arg42)) := by
  refine (dats m 0 c).arrAt_eq_of_covers 53 _ (by decide +kernel) fun t hf y => ?_
  rw [show ((cfg0.win 53).blk t).view.emb y = y from emb53 t y]
  show (dats m 0 c).after 53 t y = _
  rw [after0_53]; unfold out0_53
  rw [View.canon_unit_zero zero2]
  simp only [View.ld_unit_zero (S := S32x8) zero2]
  exact congrFun (congr (congr (congr (congrArg (k0_pay33 (F := Ideal)) (read20 m c t)) (read9 m c t)) (read31 m c t)) (read42 m c t)) y
theorem final54 : (dats m 0 c).arrAt 54 cfg0.N = change (s := S1x1024) (m ((c.tc : Thread nD τ).loc main_arg21)) (m ((c.tc : Thread nD τ).loc main_arg10)) (m ((c.tc : Thread nD τ).loc main_arg32)) (m ((c.tc : Thread nD τ).loc main_arg43)) := by
  refine (dats m 0 c).arrAt_eq_of_covers 54 _ (by decide +kernel) fun t hf y => ?_
  rw [show ((cfg0.win 54).blk t).view.emb y = y from emb54 t y]
  show (dats m 0 c).after 54 t y = _
  rw [after0_54]; unfold out0_54
  rw [View.canon_unit_zero zero2]
  simp only [View.ld_unit_zero (S := S1x1024) zero2]
  exact congrFun (congr (congr (congr (congrArg (k0_pay3 (F := Ideal)) (read21 m c t)) (read10 m c t)) (read32 m c t)) (read43 m c t)) y
theorem final55 : (dats m 0 c).arrAt 55 cfg0.N = moment (s := S4x3x32) (m ((c.tc : Thread nD τ).loc main_arg0)) (m ((c.tc : Thread nD τ).loc main_arg22)) := by
  refine (dats m 0 c).arrAt_eq_of_covers 55 _ (by decide +kernel) fun t hf y => ?_
  rw [show ((cfg0.win 55).blk t).view.emb y = y from emb55 t y]
  show (dats m 0 c).after 55 t y = _
  rw [after0_55]; unfold out0_55
  rw [View.canon_unit_zero zero3]
  simp only [View.ld_unit_zero (S := S4x3x32) zero3]
  exact congrFun (congr (congrArg (k0_pay4 (F := Ideal)) (read0 m c t)) (read22 m c t)) y
theorem final56 : (dats m 0 c).arrAt 56 cfg0.N = moment (s := S4x31x32) (m ((c.tc : Thread nD τ).loc main_arg1)) (m ((c.tc : Thread nD τ).loc main_arg23)) := by
  refine (dats m 0 c).arrAt_eq_of_covers 56 _ (by decide +kernel) fun t hf y => ?_
  rw [show ((cfg0.win 56).blk t).view.emb y = y from emb56 t y]
  show (dats m 0 c).after 56 t y = _
  rw [after0_56]; unfold out0_56
  rw [View.canon_unit_zero zero3]
  simp only [View.ld_unit_zero (S := S4x31x32) zero3]
  exact congrFun (congr (congrArg (k0_pay7 (F := Ideal)) (read1 m c t)) (read23 m c t)) y
theorem final57 : (dats m 0 c).arrAt 57 cfg0.N = moment (s := S4x3x704) (m ((c.tc : Thread nD τ).loc main_arg2)) (m ((c.tc : Thread nD τ).loc main_arg24)) := by
  refine (dats m 0 c).arrAt_eq_of_covers 57 _ (by decide +kernel) fun t hf y => ?_
  rw [show ((cfg0.win 57).blk t).view.emb y = y from emb57 t y]
  show (dats m 0 c).after 57 t y = _
  rw [after0_57]; unfold out0_57
  rw [View.canon_unit_zero zero3]
  simp only [View.ld_unit_zero (S := S4x3x704) zero3]
  exact congrFun (congr (congrArg (k0_pay10 (F := Ideal)) (read2 m c t)) (read24 m c t)) y
theorem final58 : (dats m 0 c).arrAt 58 cfg0.N = moment (s := S4x1024) (m ((c.tc : Thread nD τ).loc main_arg3)) (m ((c.tc : Thread nD τ).loc main_arg25)) := by
  refine (dats m 0 c).arrAt_eq_of_covers 58 _ (by decide +kernel) fun t hf y => ?_
  rw [show ((cfg0.win 58).blk t).view.emb y = y from emb58 t y]
  show (dats m 0 c).after 58 t y = _
  rw [after0_58]; unfold out0_58
  rw [View.canon_unit_zero zero2]
  simp only [View.ld_unit_zero (S := S4x1024) zero2]
  exact congrFun (congr (congrArg (k0_pay13 (F := Ideal)) (read3 m c t)) (read25 m c t)) y
theorem final59 : (dats m 0 c).arrAt 59 cfg0.N = moment (s := S4x256) (m ((c.tc : Thread nD τ).loc main_arg4)) (m ((c.tc : Thread nD τ).loc main_arg26)) := by
  refine (dats m 0 c).arrAt_eq_of_covers 59 _ (by decide +kernel) fun t hf y => ?_
  rw [show ((cfg0.win 59).blk t).view.emb y = y from emb59 t y]
  show (dats m 0 c).after 59 t y = _
  rw [after0_59]; unfold out0_59
  rw [View.canon_unit_zero zero2]
  simp only [View.ld_unit_zero (S := S4x256) zero2]
  exact congrFun (congr (congrArg (k0_pay16 (F := Ideal)) (read4 m c t)) (read26 m c t)) y
theorem final60 : (dats m 0 c).arrAt 60 cfg0.N = moment (s := S4x256) (m ((c.tc : Thread nD τ).loc main_arg5)) (m ((c.tc : Thread nD τ).loc main_arg27)) := by
  refine (dats m 0 c).arrAt_eq_of_covers 60 _ (by decide +kernel) fun t hf y => ?_
  rw [show ((cfg0.win 60).blk t).view.emb y = y from emb60 t y]
  show (dats m 0 c).after 60 t y = _
  rw [after0_60]; unfold out0_60
  rw [View.canon_unit_zero zero2]
  simp only [View.ld_unit_zero (S := S4x256) zero2]
  exact congrFun (congr (congrArg (k0_pay19 (F := Ideal)) (read5 m c t)) (read27 m c t)) y
theorem final61 : (dats m 0 c).arrAt 61 cfg0.N = moment (s := S4x256) (m ((c.tc : Thread nD τ).loc main_arg6)) (m ((c.tc : Thread nD τ).loc main_arg28)) := by
  refine (dats m 0 c).arrAt_eq_of_covers 61 _ (by decide +kernel) fun t hf y => ?_
  rw [show ((cfg0.win 61).blk t).view.emb y = y from emb61 t y]
  show (dats m 0 c).after 61 t y = _
  rw [after0_61]; unfold out0_61
  rw [View.canon_unit_zero zero2]
  simp only [View.ld_unit_zero (S := S4x256) zero2]
  exact congrFun (congr (congrArg (k0_pay22 (F := Ideal)) (read6 m c t)) (read28 m c t)) y
theorem final62 : (dats m 0 c).arrAt 62 cfg0.N = moment (s := S4x1024) (m ((c.tc : Thread nD τ).loc main_arg7)) (m ((c.tc : Thread nD τ).loc main_arg29)) := by
  refine (dats m 0 c).arrAt_eq_of_covers 62 _ (by decide +kernel) fun t hf y => ?_
  rw [show ((cfg0.win 62).blk t).view.emb y = y from emb62 t y]
  show (dats m 0 c).after 62 t y = _
  rw [after0_62]; unfold out0_62
  rw [View.canon_unit_zero zero2]
  simp only [View.ld_unit_zero (S := S4x1024) zero2]
  exact congrFun (congr (congrArg (k0_pay25 (F := Ideal)) (read7 m c t)) (read29 m c t)) y
theorem final63 : (dats m 0 c).arrAt 63 cfg0.N = moment (s := S4x1024) (m ((c.tc : Thread nD τ).loc main_arg8)) (m ((c.tc : Thread nD τ).loc main_arg30)) := by
  refine (dats m 0 c).arrAt_eq_of_covers 63 _ (by decide +kernel) fun t hf y => ?_
  rw [show ((cfg0.win 63).blk t).view.emb y = y from emb63 t y]
  show (dats m 0 c).after 63 t y = _
  rw [after0_63]; unfold out0_63
  rw [View.canon_unit_zero zero2]
  simp only [View.ld_unit_zero (S := S4x1024) zero2]
  exact congrFun (congr (congrArg (k0_pay28 (F := Ideal)) (read8 m c t)) (read30 m c t)) y
theorem final64 : (dats m 0 c).arrAt 64 cfg0.N = moment (s := S32x8) (m ((c.tc : Thread nD τ).loc main_arg9)) (m ((c.tc : Thread nD τ).loc main_arg31)) := by
  refine (dats m 0 c).arrAt_eq_of_covers 64 _ (by decide +kernel) fun t hf y => ?_
  rw [show ((cfg0.win 64).blk t).view.emb y = y from emb64 t y]
  show (dats m 0 c).after 64 t y = _
  rw [after0_64]; unfold out0_64
  rw [View.canon_unit_zero zero2]
  simp only [View.ld_unit_zero (S := S32x8) zero2]
  exact congrFun (congr (congrArg (k0_pay31 (F := Ideal)) (read9 m c t)) (read31 m c t)) y
theorem final65 : (dats m 0 c).arrAt 65 cfg0.N = moment (s := S1x1024) (m ((c.tc : Thread nD τ).loc main_arg10)) (m ((c.tc : Thread nD τ).loc main_arg32)) := by
  refine (dats m 0 c).arrAt_eq_of_covers 65 _ (by decide +kernel) fun t hf y => ?_
  rw [show ((cfg0.win 65).blk t).view.emb y = y from emb65 t y]
  show (dats m 0 c).after 65 t y = _
  rw [after0_65]; unfold out0_65
  rw [View.canon_unit_zero zero2]
  simp only [View.ld_unit_zero (S := S1x1024) zero2]
  exact congrFun (congr (congrArg (k0_pay1 (F := Ideal)) (read10 m c t)) (read32 m c t)) y
theorem final66 : (dats m 0 c).arrAt 66 cfg0.N = square (s := S4x3x32) (m ((c.tc : Thread nD τ).loc main_arg0)) (m ((c.tc : Thread nD τ).loc main_arg33)) := by
  refine (dats m 0 c).arrAt_eq_of_covers 66 _ (by decide +kernel) fun t hf y => ?_
  rw [show ((cfg0.win 66).blk t).view.emb y = y from emb66 t y]
  show (dats m 0 c).after 66 t y = _
  rw [after0_66]; unfold out0_66
  rw [View.canon_unit_zero zero3]
  simp only [View.ld_unit_zero (S := S4x3x32) zero3]
  exact congrFun (congr (congrArg (k0_pay5 (F := Ideal)) (read0 m c t)) (read33 m c t)) y
theorem final67 : (dats m 0 c).arrAt 67 cfg0.N = square (s := S4x31x32) (m ((c.tc : Thread nD τ).loc main_arg1)) (m ((c.tc : Thread nD τ).loc main_arg34)) := by
  refine (dats m 0 c).arrAt_eq_of_covers 67 _ (by decide +kernel) fun t hf y => ?_
  rw [show ((cfg0.win 67).blk t).view.emb y = y from emb67 t y]
  show (dats m 0 c).after 67 t y = _
  rw [after0_67]; unfold out0_67
  rw [View.canon_unit_zero zero3]
  simp only [View.ld_unit_zero (S := S4x31x32) zero3]
  exact congrFun (congr (congrArg (k0_pay8 (F := Ideal)) (read1 m c t)) (read34 m c t)) y
theorem final68 : (dats m 0 c).arrAt 68 cfg0.N = square (s := S4x3x704) (m ((c.tc : Thread nD τ).loc main_arg2)) (m ((c.tc : Thread nD τ).loc main_arg35)) := by
  refine (dats m 0 c).arrAt_eq_of_covers 68 _ (by decide +kernel) fun t hf y => ?_
  rw [show ((cfg0.win 68).blk t).view.emb y = y from emb68 t y]
  show (dats m 0 c).after 68 t y = _
  rw [after0_68]; unfold out0_68
  rw [View.canon_unit_zero zero3]
  simp only [View.ld_unit_zero (S := S4x3x704) zero3]
  exact congrFun (congr (congrArg (k0_pay11 (F := Ideal)) (read2 m c t)) (read35 m c t)) y
theorem final69 : (dats m 0 c).arrAt 69 cfg0.N = square (s := S4x1024) (m ((c.tc : Thread nD τ).loc main_arg3)) (m ((c.tc : Thread nD τ).loc main_arg36)) := by
  refine (dats m 0 c).arrAt_eq_of_covers 69 _ (by decide +kernel) fun t hf y => ?_
  rw [show ((cfg0.win 69).blk t).view.emb y = y from emb69 t y]
  show (dats m 0 c).after 69 t y = _
  rw [after0_69]; unfold out0_69
  rw [View.canon_unit_zero zero2]
  simp only [View.ld_unit_zero (S := S4x1024) zero2]
  exact congrFun (congr (congrArg (k0_pay14 (F := Ideal)) (read3 m c t)) (read36 m c t)) y
theorem final70 : (dats m 0 c).arrAt 70 cfg0.N = square (s := S4x256) (m ((c.tc : Thread nD τ).loc main_arg4)) (m ((c.tc : Thread nD τ).loc main_arg37)) := by
  refine (dats m 0 c).arrAt_eq_of_covers 70 _ (by decide +kernel) fun t hf y => ?_
  rw [show ((cfg0.win 70).blk t).view.emb y = y from emb70 t y]
  show (dats m 0 c).after 70 t y = _
  rw [after0_70]; unfold out0_70
  rw [View.canon_unit_zero zero2]
  simp only [View.ld_unit_zero (S := S4x256) zero2]
  exact congrFun (congr (congrArg (k0_pay17 (F := Ideal)) (read4 m c t)) (read37 m c t)) y
theorem final71 : (dats m 0 c).arrAt 71 cfg0.N = square (s := S4x256) (m ((c.tc : Thread nD τ).loc main_arg5)) (m ((c.tc : Thread nD τ).loc main_arg38)) := by
  refine (dats m 0 c).arrAt_eq_of_covers 71 _ (by decide +kernel) fun t hf y => ?_
  rw [show ((cfg0.win 71).blk t).view.emb y = y from emb71 t y]
  show (dats m 0 c).after 71 t y = _
  rw [after0_71]; unfold out0_71
  rw [View.canon_unit_zero zero2]
  simp only [View.ld_unit_zero (S := S4x256) zero2]
  exact congrFun (congr (congrArg (k0_pay20 (F := Ideal)) (read5 m c t)) (read38 m c t)) y
theorem final72 : (dats m 0 c).arrAt 72 cfg0.N = square (s := S4x256) (m ((c.tc : Thread nD τ).loc main_arg6)) (m ((c.tc : Thread nD τ).loc main_arg39)) := by
  refine (dats m 0 c).arrAt_eq_of_covers 72 _ (by decide +kernel) fun t hf y => ?_
  rw [show ((cfg0.win 72).blk t).view.emb y = y from emb72 t y]
  show (dats m 0 c).after 72 t y = _
  rw [after0_72]; unfold out0_72
  rw [View.canon_unit_zero zero2]
  simp only [View.ld_unit_zero (S := S4x256) zero2]
  exact congrFun (congr (congrArg (k0_pay23 (F := Ideal)) (read6 m c t)) (read39 m c t)) y
theorem final73 : (dats m 0 c).arrAt 73 cfg0.N = square (s := S4x1024) (m ((c.tc : Thread nD τ).loc main_arg7)) (m ((c.tc : Thread nD τ).loc main_arg40)) := by
  refine (dats m 0 c).arrAt_eq_of_covers 73 _ (by decide +kernel) fun t hf y => ?_
  rw [show ((cfg0.win 73).blk t).view.emb y = y from emb73 t y]
  show (dats m 0 c).after 73 t y = _
  rw [after0_73]; unfold out0_73
  rw [View.canon_unit_zero zero2]
  simp only [View.ld_unit_zero (S := S4x1024) zero2]
  exact congrFun (congr (congrArg (k0_pay26 (F := Ideal)) (read7 m c t)) (read40 m c t)) y
theorem final74 : (dats m 0 c).arrAt 74 cfg0.N = square (s := S4x1024) (m ((c.tc : Thread nD τ).loc main_arg8)) (m ((c.tc : Thread nD τ).loc main_arg41)) := by
  refine (dats m 0 c).arrAt_eq_of_covers 74 _ (by decide +kernel) fun t hf y => ?_
  rw [show ((cfg0.win 74).blk t).view.emb y = y from emb74 t y]
  show (dats m 0 c).after 74 t y = _
  rw [after0_74]; unfold out0_74
  rw [View.canon_unit_zero zero2]
  simp only [View.ld_unit_zero (S := S4x1024) zero2]
  exact congrFun (congr (congrArg (k0_pay29 (F := Ideal)) (read8 m c t)) (read41 m c t)) y
theorem final75 : (dats m 0 c).arrAt 75 cfg0.N = square (s := S32x8) (m ((c.tc : Thread nD τ).loc main_arg9)) (m ((c.tc : Thread nD τ).loc main_arg42)) := by
  refine (dats m 0 c).arrAt_eq_of_covers 75 _ (by decide +kernel) fun t hf y => ?_
  rw [show ((cfg0.win 75).blk t).view.emb y = y from emb75 t y]
  show (dats m 0 c).after 75 t y = _
  rw [after0_75]; unfold out0_75
  rw [View.canon_unit_zero zero2]
  simp only [View.ld_unit_zero (S := S32x8) zero2]
  exact congrFun (congr (congrArg (k0_pay32 (F := Ideal)) (read9 m c t)) (read42 m c t)) y
theorem final76 : (dats m 0 c).arrAt 76 cfg0.N = square (s := S1x1024) (m ((c.tc : Thread nD τ).loc main_arg10)) (m ((c.tc : Thread nD τ).loc main_arg43)) := by
  refine (dats m 0 c).arrAt_eq_of_covers 76 _ (by decide +kernel) fun t hf y => ?_
  rw [show ((cfg0.win 76).blk t).view.emb y = y from emb76 t y]
  show (dats m 0 c).after 76 t y = _
  rw [after0_76]; unfold out0_76
  rw [View.canon_unit_zero zero2]
  simp only [View.ld_unit_zero (S := S1x1024) zero2]
  exact congrFun (congr (congrArg (k0_pay2 (F := Ideal)) (read10 m c t)) (read43 m c t)) y

end Cert.Proof.Adam

end
-- ==== Proof.AdamEnd.lean ====
module

public import proofs.«01_k».proof.Proof.AdamFinal
public import proofs.«01_k».proof.Proof.AdamBitsRun
public import proofs.«01_k».proof.Proof.Gen.KernelAdam
public import proofs.«01_k».proof.Proof.Gen.ReferenceAdamIdeal
public import proofs.«01_k».proof.Proof.Gen.ReferenceAdamIdeal.Run
public import proofs.«01_k».proof.Defs

@[expose] public section

set_option maxRecDepth 16384

noncomputable section

/-! # The optimiser on the small weights: the frames and the value -/

namespace Cert.Proof.Adam

open Idealize.ShloMosaic Idealize.ShloMosaic.TcCoe Idealize.SL.Sem

section Run

open Cert.KernelAdamIdeal Cert.KernelAdamIdeal.Gen

set_option maxHeartbeats 4000000 in
/-- The ideal kernel's frame. -/
theorem frame_ideal : Cert.quiescent_KernelAdamIdeal := fun m ρ _ => (θ_run Cert.KernelAdamIdeal.defs _ _).mono
  (fun r h => ⟨fun c => ⟨keep m h.1 c 0 rfl, keep m h.1 c 1 rfl, keep m h.1 c 2 rfl, keep m h.1 c 3 rfl, keep m h.1 c 4 rfl, keep m h.1 c 5 rfl, keep m h.1 c 6 rfl, keep m h.1 c 7 rfl, keep m h.1 c 8 rfl, keep m h.1 c 9 rfl, keep m h.1 c 10 rfl, keep m h.1 c 11 rfl, keep m h.1 c 12 rfl, keep m h.1 c 13 rfl, keep m h.1 c 14 rfl, keep m h.1 c 15 rfl, keep m h.1 c 16 rfl, keep m h.1 c 17 rfl, keep m h.1 c 18 rfl, keep m h.1 c 19 rfl, keep m h.1 c 20 rfl, keep m h.1 c 21 rfl, keep m h.1 c 22 rfl, keep m h.1 c 23 rfl, keep m h.1 c 24 rfl, keep m h.1 c 25 rfl, keep m h.1 c 26 rfl, keep m h.1 c 27 rfl, keep m h.1 c 28 rfl, keep m h.1 c 29 rfl, keep m h.1 c 30 rfl, keep m h.1 c 31 rfl, keep m h.1 c 32 rfl, keep m h.1 c 33 rfl, keep m h.1 c 34 rfl, keep m h.1 c 35 rfl, keep m h.1 c 36 rfl, keep m h.1 c 37 rfl, keep m h.1 c 38 rfl, keep m h.1 c 39 rfl, keep m h.1 c 40 rfl, keep m h.1 c 41 rfl, keep m h.1 c 42 rfl, keep m h.1 c 43 rfl⟩, h.2⟩) (run_main_quiescent (F := Ideal) m ρ)

set_option maxHeartbeats 4000000 in
/-- The kernel's frame, over the bits. -/
theorem frame_bits : Cert.quiescent_KernelAdam := fun m ρ _ => (θ_run Cert.KernelAdam.defs _ _).mono
  (fun r h => ⟨fun c => ⟨AdamBits.keep m h.1 c 0 rfl, AdamBits.keep m h.1 c 1 rfl, AdamBits.keep m h.1 c 2 rfl, AdamBits.keep m h.1 c 3 rfl, AdamBits.keep m h.1 c 4 rfl, AdamBits.keep m h.1 c 5 rfl, AdamBits.keep m h.1 c 6 rfl, AdamBits.keep m h.1 c 7 rfl, AdamBits.keep m h.1 c 8 rfl, AdamBits.keep m h.1 c 9 rfl, AdamBits.keep m h.1 c 10 rfl, AdamBits.keep m h.1 c 11 rfl, AdamBits.keep m h.1 c 12 rfl, AdamBits.keep m h.1 c 13 rfl, AdamBits.keep m h.1 c 14 rfl, AdamBits.keep m h.1 c 15 rfl, AdamBits.keep m h.1 c 16 rfl, AdamBits.keep m h.1 c 17 rfl, AdamBits.keep m h.1 c 18 rfl, AdamBits.keep m h.1 c 19 rfl, AdamBits.keep m h.1 c 20 rfl, AdamBits.keep m h.1 c 21 rfl, AdamBits.keep m h.1 c 22 rfl, AdamBits.keep m h.1 c 23 rfl, AdamBits.keep m h.1 c 24 rfl, AdamBits.keep m h.1 c 25 rfl, AdamBits.keep m h.1 c 26 rfl, AdamBits.keep m h.1 c 27 rfl, AdamBits.keep m h.1 c 28 rfl, AdamBits.keep m h.1 c 29 rfl, AdamBits.keep m h.1 c 30 rfl, AdamBits.keep m h.1 c 31 rfl, AdamBits.keep m h.1 c 32 rfl, AdamBits.keep m h.1 c 33 rfl, AdamBits.keep m h.1 c 34 rfl, AdamBits.keep m h.1 c 35 rfl, AdamBits.keep m h.1 c 36 rfl, AdamBits.keep m h.1 c 37 rfl, AdamBits.keep m h.1 c 38 rfl, AdamBits.keep m h.1 c 39 rfl, AdamBits.keep m h.1 c 40 rfl, AdamBits.keep m h.1 c 41 rfl, AdamBits.keep m h.1 c 42 rfl, AdamBits.keep m h.1 c 43 rfl⟩, h.2⟩) (AdamBits.run_main_quiescent (F := Bits) m ρ)

end Run

theorem frame_reference : Cert.quiescent_ReferenceAdamIdeal := fun m ρ _ =>
  (θ_run Cert.ReferenceAdamIdeal.defs _ _).mono
    (fun r h => ⟨fun c => (h c).2.2.2.2.2.2.2.2.2.2.2.2.2.2.2.2.2.2.2.2.2.2.2.2.2.2.2.2.2.2.2.2.2, sem_eq_zero_of_no_sems (by decide) r.2⟩) (Cert.ReferenceAdamIdeal.Value.run m ρ)

section Reference

open Cert.ReferenceAdamIdeal

/-- A number at every entry. -/
abbrev every {s : Shape} (h : S_.BroadcastsInDim s (![] : Fin 0 → Fin s.rank)) (b : BitVec 32) : FVec Ideal s .f32 :=
  broadcastInDim s ![] h (constant S_ .f32 b)

theorem every_eq {s : Shape} (h : S_.BroadcastsInDim s (![] : Fin 0 → Fin s.rank)) (b : BitVec 32) :
    every h b = broadcast s (Scalar.ofBits (F := Ideal) .f32 b) := rfl

theorem ref_moment {s : Shape} (h : S_.BroadcastsInDim s (![] : Fin 0 → Fin s.rank)) {g g' m m' : FVec Ideal s .f32} (hg : g = g') (hm : m = m') :
    addf (mulf (every h 0x3F666666#32) m) (mulf (every h 0x3DCCCCCD#32) g) = moment g' m' := by
  subst hg hm; rfl

theorem ref_square {s : Shape} (h : S_.BroadcastsInDim s (![] : Fin 0 → Fin s.rank)) {g g' v v' : FVec Ideal s .f32} (hg : g = g') (hv : v = v') :
    addf (mulf (every h 0x3F7FBE77#32) v) (mulf (every h 0x3A83126F#32) (mulf g g)) = square g' v' := by
  subst hg hv; rfl

theorem ref_change {s : Shape} (h : S_.BroadcastsInDim s (![] : Fin 0 → Fin s.rank)) {w w' g g' m m' v v' : FVec Ideal s .f32}
    (hw : w = w') (hg : g = g') (hm : m = m') (hv : v = v') :
    mulf (every h 0xBA83126F#32)
      (addf (Host.divf (Host.divf (addf (mulf (every h 0x3F666666#32) m) (mulf (every h 0x3DCCCCCD#32) g)) (every h 0x3F26BD02#32))
          (addf (Host.sqrt (Host.divf (addf (mulf (every h 0x3F7FBE77#32) v) (mulf (every h 0x3A83126F#32) (mulf g g))) (every h 0x3C231ACC#32)))
            (every h 0x322BCC77#32)))
        (mulf (every h 0x3C23D70A#32) w)) = change w' g' m' v' := by
  subst hw hg hm hv; rfl

end Reference

set_option maxHeartbeats 16000000 in
/-- Kernel and reference compute the same arrays: the weights' changes and both moments. -/
theorem value : Cert.algebraic_KernelAdamIdeal_ReferenceAdamIdeal := fun m g m' g' _ hargs => by
  refine ⟨fun c => (dats m 0 c).arrAt 44 Cert.KernelAdamIdeal.cfg0.N,
    fun c => (dats m 0 c).arrAt 45 Cert.KernelAdamIdeal.cfg0.N,
    fun c => (dats m 0 c).arrAt 46 Cert.KernelAdamIdeal.cfg0.N,
    fun c => (dats m 0 c).arrAt 47 Cert.KernelAdamIdeal.cfg0.N,
    fun c => (dats m 0 c).arrAt 48 Cert.KernelAdamIdeal.cfg0.N,
    fun c => (dats m 0 c).arrAt 49 Cert.KernelAdamIdeal.cfg0.N,
    fun c => (dats m 0 c).arrAt 50 Cert.KernelAdamIdeal.cfg0.N,
    fun c => (dats m 0 c).arrAt 51 Cert.KernelAdamIdeal.cfg0.N,
    fun c => (dats m 0 c).arrAt 52 Cert.KernelAdamIdeal.cfg0.N,
    fun c => (dats m 0 c).arrAt 53 Cert.KernelAdamIdeal.cfg0.N,
    fun c => (dats m 0 c).arrAt 54 Cert.KernelAdamIdeal.cfg0.N,
    fun c => (dats m 0 c).arrAt 55 Cert.KernelAdamIdeal.cfg0.N,
    fun c => (dats m 0 c).arrAt 56 Cert.KernelAdamIdeal.cfg0.N,
    fun c => (dats m 0 c).arrAt 57 Cert.KernelAdamIdeal.cfg0.N,
    fun c => (dats m 0 c).arrAt 58 Cert.KernelAdamIdeal.cfg0.N,
    fun c => (dats m 0 c).arrAt 59 Cert.KernelAdamIdeal.cfg0.N,
    fun c => (dats m 0 c).arrAt 60 Cert.KernelAdamIdeal.cfg0.N,
    fun c => (dats m 0 c).arrAt 61 Cert.KernelAdamIdeal.cfg0.N,
    fun c => (dats m 0 c).arrAt 62 Cert.KernelAdamIdeal.cfg0.N,
    fun c => (dats m 0 c).arrAt 63 Cert.KernelAdamIdeal.cfg0.N,
    fun c => (dats m 0 c).arrAt 64 Cert.KernelAdamIdeal.cfg0.N,
    fun c => (dats m 0 c).arrAt 65 Cert.KernelAdamIdeal.cfg0.N,
    fun c => (dats m 0 c).arrAt 66 Cert.KernelAdamIdeal.cfg0.N,
    fun c => (dats m 0 c).arrAt 67 Cert.KernelAdamIdeal.cfg0.N,
    fun c => (dats m 0 c).arrAt 68 Cert.KernelAdamIdeal.cfg0.N,
    fun c => (dats m 0 c).arrAt 69 Cert.KernelAdamIdeal.cfg0.N,
    fun c => (dats m 0 c).arrAt 70 Cert.KernelAdamIdeal.cfg0.N,
    fun c => (dats m 0 c).arrAt 71 Cert.KernelAdamIdeal.cfg0.N,
    fun c => (dats m 0 c).arrAt 72 Cert.KernelAdamIdeal.cfg0.N,
    fun c => (dats m 0 c).arrAt 73 Cert.KernelAdamIdeal.cfg0.N,
    fun c => (dats m 0 c).arrAt 74 Cert.KernelAdamIdeal.cfg0.N,
    fun c => (dats m 0 c).arrAt 75 Cert.KernelAdamIdeal.cfg0.N,
    fun c => (dats m 0 c).arrAt 76 Cert.KernelAdamIdeal.cfg0.N,
    (θ_run Cert.KernelAdamIdeal.defs _ _).mono (fun r h c => ⟨(h.1 c).1 44, (h.1 c).1 45, (h.1 c).1 46, (h.1 c).1 47, (h.1 c).1 48, (h.1 c).1 49, (h.1 c).1 50, (h.1 c).1 51, (h.1 c).1 52, (h.1 c).1 53, (h.1 c).1 54, (h.1 c).1 55, (h.1 c).1 56, (h.1 c).1 57, (h.1 c).1 58, (h.1 c).1 59, (h.1 c).1 60, (h.1 c).1 61, (h.1 c).1 62, (h.1 c).1 63, (h.1 c).1 64, (h.1 c).1 65, (h.1 c).1 66, (h.1 c).1 67, (h.1 c).1 68, (h.1 c).1 69, (h.1 c).1 70, (h.1 c).1 71, (h.1 c).1 72, (h.1 c).1 73, (h.1 c).1 74, (h.1 c).1 75, (h.1 c).1 76, keep m h.1 c 0 rfl, keep m h.1 c 1 rfl, keep m h.1 c 2 rfl, keep m h.1 c 3 rfl, keep m h.1 c 4 rfl, keep m h.1 c 5 rfl, keep m h.1 c 6 rfl, keep m h.1 c 7 rfl, keep m h.1 c 8 rfl, keep m h.1 c 9 rfl, keep m h.1 c 10 rfl, keep m h.1 c 11 rfl, keep m h.1 c 12 rfl, keep m h.1 c 13 rfl, keep m h.1 c 14 rfl, keep m h.1 c 15 rfl, keep m h.1 c 16 rfl, keep m h.1 c 17 rfl, keep m h.1 c 18 rfl, keep m h.1 c 19 rfl, keep m h.1 c 20 rfl, keep m h.1 c 21 rfl, keep m h.1 c 22 rfl, keep m h.1 c 23 rfl, keep m h.1 c 24 rfl, keep m h.1 c 25 rfl, keep m h.1 c 26 rfl, keep m h.1 c 27 rfl, keep m h.1 c 28 rfl, keep m h.1 c 29 rfl, keep m h.1 c 30 rfl, keep m h.1 c 31 rfl, keep m h.1 c 32 rfl, keep m h.1 c 33 rfl, keep m h.1 c 34 rfl, keep m h.1 c 35 rfl, keep m h.1 c 36 rfl, keep m h.1 c 37 rfl, keep m h.1 c 38 rfl, keep m h.1 c 39 rfl, keep m h.1 c 40 rfl, keep m h.1 c 41 rfl, keep m h.1 c 42 rfl, keep m h.1 c 43 rfl⟩) (run_main_quiescent (F := Ideal) m g),
    (θ_run Cert.ReferenceAdamIdeal.defs _ _).mono (fun _ h c => ?_) (Cert.ReferenceAdamIdeal.Value.run m' g')⟩
  obtain ⟨h0, h1, h2, h3, h4, h5, h6, h7, h8, h9, h10, h11, h12, h13, h14, h15, h16, h17, h18, h19, h20, h21, h22, h23, h24, h25, h26, h27, h28, h29, h30, h31, h32, hkept⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43⟩ := hargs c
  exact ⟨h0.trans ((ref_change _ (a11) (a0) (a22) (a33)).trans (final44 m c).symm),
    h1.trans ((ref_change _ (a12) (a1) (a23) (a34)).trans (final45 m c).symm),
    h2.trans ((ref_change _ (a13) (a2) (a24) (a35)).trans (final46 m c).symm),
    h3.trans ((ref_change _ (a14) (a3) (a25) (a36)).trans (final47 m c).symm),
    h4.trans ((ref_change _ (a15) (a4) (a26) (a37)).trans (final48 m c).symm),
    h5.trans ((ref_change _ (a16) (a5) (a27) (a38)).trans (final49 m c).symm),
    h6.trans ((ref_change _ (a17) (a6) (a28) (a39)).trans (final50 m c).symm),
    h7.trans ((ref_change _ (a18) (a7) (a29) (a40)).trans (final51 m c).symm),
    h8.trans ((ref_change _ (a19) (a8) (a30) (a41)).trans (final52 m c).symm),
    h9.trans ((ref_change _ (a20) (a9) (a31) (a42)).trans (final53 m c).symm),
    h10.trans ((ref_change _ (a21) (a10) (a32) (a43)).trans (final54 m c).symm),
    h11.trans ((ref_moment _ (a0) (a22)).trans (final55 m c).symm),
    h12.trans ((ref_moment _ (a1) (a23)).trans (final56 m c).symm),
    h13.trans ((ref_moment _ (a2) (a24)).trans (final57 m c).symm),
    h14.trans ((ref_moment _ (a3) (a25)).trans (final58 m c).symm),
    h15.trans ((ref_moment _ (a4) (a26)).trans (final59 m c).symm),
    h16.trans ((ref_moment _ (a5) (a27)).trans (final60 m c).symm),
    h17.trans ((ref_moment _ (a6) (a28)).trans (final61 m c).symm),
    h18.trans ((ref_moment _ (a7) (a29)).trans (final62 m c).symm),
    h19.trans ((ref_moment _ (a8) (a30)).trans (final63 m c).symm),
    h20.trans ((ref_moment _ (a9) (a31)).trans (final64 m c).symm),
    h21.trans ((ref_moment _ (a10) (a32)).trans (final65 m c).symm),
    h22.trans ((ref_square _ (a0) (a33)).trans (final66 m c).symm),
    h23.trans ((ref_square _ (a1) (a34)).trans (final67 m c).symm),
    h24.trans ((ref_square _ (a2) (a35)).trans (final68 m c).symm),
    h25.trans ((ref_square _ (a3) (a36)).trans (final69 m c).symm),
    h26.trans ((ref_square _ (a4) (a37)).trans (final70 m c).symm),
    h27.trans ((ref_square _ (a5) (a38)).trans (final71 m c).symm),
    h28.trans ((ref_square _ (a6) (a39)).trans (final72 m c).symm),
    h29.trans ((ref_square _ (a7) (a40)).trans (final73 m c).symm),
    h30.trans ((ref_square _ (a8) (a41)).trans (final74 m c).symm),
    h31.trans ((ref_square _ (a9) (a42)).trans (final75 m c).symm),
    h32.trans ((ref_square _ (a10) (a43)).trans (final76 m c).symm),
    hkept⟩

end Cert.Proof.Adam

end
-- ==== Proof.Sum.lean ====
module

public import proofs.«01_k».proof.Proof.Gen.KernelSumIdeal.Frame
public import proofs.«01_k».proof.Proof.Gen.ReferenceSumIdeal.Run
public import Idealize.ShloMosaic.Lib.Pointwise
public import Idealize.ShloMosaic.Lib.Pipeline.ValueKit

@[expose] public section

set_option maxRecDepth 16384
set_option synthInstance.maxSize 4096

noncomputable section

/-! # The sum over the devices of the packed gradients of the small weights -/

namespace Cert.Proof.Sum

open Idealize.ShloMosaic Idealize.ShloMosaic.TcCoe Idealize.SL.Sem Idealize.ShloMosaic.StableHlo

section Kernel

open Cert.KernelSumIdeal Cert.KernelSumIdeal.Gen

/-- What both programs compute: at every place the sum of the eight devices' entries. -/
def total (p : FVec Ideal S8x936x128 .f32) : FVec Ideal S936x128 .f32 :=
  fun i => ∑ j : Fin 8, p (ix3 j (i 0) (i 1))

/-- Result 0 cut out of the summed rows. -/
def cut0 (P : FVec Ideal S936x128 .f32) := ((shapeCast _ (extractStridedSlice S3072 ![0] (shapeCast _ P shapeCasts_S936x128_S119808) slices_S119808_S3072_0) shapeCasts_S3072_S4x3x256) : FVec Ideal S4x3x256 .f32)
/-- Result 1 cut out of the summed rows. -/
def cut1 (P : FVec Ideal S936x128 .f32) := ((shapeCast _ (extractStridedSlice S31744 ![3072] (shapeCast _ P shapeCasts_S936x128_S119808) slices_S119808_S31744_3072) shapeCasts_S31744_S4x31x256) : FVec Ideal S4x31x256 .f32)
/-- Result 2 cut out of the summed rows. -/
def cut2 (P : FVec Ideal S936x128 .f32) := ((shapeCast _ (extractStridedSlice S67584 ![34816] (shapeCast _ P shapeCasts_S936x128_S119808) slices_S119808_S67584_34816) shapeCasts_S67584_S4x3x5632) : FVec Ideal S4x3x5632 .f32)
/-- Result 3 cut out of the summed rows. -/
def cut3 (P : FVec Ideal S936x128 .f32) := ((shapeCast _ (extractStridedSlice S4096 ![102400] (shapeCast _ P shapeCasts_S936x128_S119808) slices_S119808_S4096_102400) shapeCasts_S4096_S4x1024) : FVec Ideal S4x1024 .f32)
/-- Result 4 cut out of the summed rows. -/
def cut4 (P : FVec Ideal S936x128 .f32) := ((shapeCast _ (extractStridedSlice S1024 ![106496] (shapeCast _ P shapeCasts_S936x128_S119808) slices_S119808_S1024_106496) shapeCasts_S1024_S4x256) : FVec Ideal S4x256 .f32)
/-- Result 5 cut out of the summed rows. -/
def cut5 (P : FVec Ideal S936x128 .f32) := ((shapeCast _ (extractStridedSlice S1024 ![107520] (shapeCast _ P shapeCasts_S936x128_S119808) slices_S119808_S1024_107520) shapeCasts_S1024_S4x256) : FVec Ideal S4x256 .f32)
/-- Result 6 cut out of the summed rows. -/
def cut6 (P : FVec Ideal S936x128 .f32) := ((shapeCast _ (extractStridedSlice S1024 ![108544] (shapeCast _ P shapeCasts_S936x128_S119808) slices_S119808_S1024_108544) shapeCasts_S1024_S4x256) : FVec Ideal S4x256 .f32)
/-- Result 7 cut out of the summed rows. -/
def cut7 (P : FVec Ideal S936x128 .f32) := ((shapeCast _ (extractStridedSlice S4096 ![109568] (shapeCast _ P shapeCasts_S936x128_S119808) slices_S119808_S4096_109568) shapeCasts_S4096_S4x1024) : FVec Ideal S4x1024 .f32)
/-- Result 8 cut out of the summed rows. -/
def cut8 (P : FVec Ideal S936x128 .f32) := ((shapeCast _ (extractStridedSlice S4096 ![113664] (shapeCast _ P shapeCasts_S936x128_S119808) slices_S119808_S4096_113664) shapeCasts_S4096_S4x1024) : FVec Ideal S4x1024 .f32)
/-- Result 9 cut out of the summed rows. -/
def cut9 (P : FVec Ideal S936x128 .f32) := ((shapeCast _ (extractStridedSlice S256 ![117760] (shapeCast _ P shapeCasts_S936x128_S119808) slices_S119808_S256_117760) shapeCasts_S256_S32x8) : FVec Ideal S32x8 .f32)
/-- Result 10 cut out of the summed rows. -/
def cut10 (P : FVec Ideal S936x128 .f32) := ((extractStridedSlice S1024 ![118016] (shapeCast _ P shapeCasts_S936x128_S119808) slices_S119808_S1024_118016) : FVec Ideal S1024 .f32)
/-- Result 11 cut out of the summed rows. -/
def cut11 (P : FVec Ideal S936x128 .f32) := ((extractStridedSlice S1 ![119040] (shapeCast _ P shapeCasts_S936x128_S119808) slices_S119808_S1_119040) : FVec Ideal S1 .f32)

theorem pay (v0 v1 v2 v3 v4 v5 v6 v7 : FVec Ideal S1x936x128 .f32) (i : S936x128.Idx) :
    k0_pay1 (F := Ideal) v0 v1 v2 v3 v4 v5 v6 v7 i
      = v0 (ix3 0 (i 0) (i 1)) + v1 (ix3 0 (i 0) (i 1)) + v2 (ix3 0 (i 0) (i 1)) + v3 (ix3 0 (i 0) (i 1))
        + v4 (ix3 0 (i 0) (i 1)) + v5 (ix3 0 (i 0) (i 1)) + v6 (ix3 0 (i 0) (i 1)) + v7 (ix3 0 (i 0) (i 1)) := by
  pointwise [k0_pay1]

theorem idx : ∀ t : Fin cfg0.N, win0_0.index t = ![0, 0, 0] ∧ win0_1.index t = ![0, 0] :=
  (by decide +kernel : ∀ t : Fin grid0.N, _)

variable (m : (ℓ : Loc nD τ sig) → Buf (Elt Ideal) ℓ) (c : Dev nD)

theorem final : (dats m 0 c).arrAt 1 cfg0.N = total (m ((c.tc : Thread nD τ).loc main_arg0)) := by
  refine (dats m 0 c).arrAt_eq_of_covers 1 _ (by decide +kernel) fun t hf y => ?_
  blk_simp
  rw [after0_1]
  unfold outsAt0
  frame_out
  rw [pay]
  unfold total
  rw [Fin.sum_univ_eight]
  have e0 : ((win0_1.blk t).view.emb y 0 : ℕ) = (y 0 : ℕ) := by blk_simp [idx t]
  have e1 : ((win0_1.blk t).view.emb y 1 : ℕ) = (y 1 : ℕ) := by blk_simp [idx t]
  have part : ∀ (j : ℕ) (hj : j < 8) (h : ∀ a, (![j, 0, 0] : Fin 3 → ℕ) a + (![1, 936, 128] : Fin 3 → ℕ) a ≤ S8x936x128.size a),
      View.ld (View.read (Elt Ideal) (ms0_0 t).view ((hs0_0 t).unread (iblk m c 0 t))) (Rect.unit ![j, 0, 0] ![1, 936, 128] h) (ix3 0 (y 0) (y 1))
        = m ((c.tc : Thread nD τ).loc main_arg0) (ix3 ⟨j, hj⟩ ((win0_1.blk t).view.emb y 0) ((win0_1.blk t).view.emb y 1)) := by
    intro j hj h
    rw [(hs0_0 t).read_unread]
    refine (View.ld_unit_apply_of _ _ _ _ _ (ix3 ⟨j, hj⟩ (y 0) (y 1)) fun a => ?_).trans ?_
    · fin_cases a <;> simp [ix3]
    · blk_point [iblk, V, idx t]
  exact congrArg₂ (· + ·) (congrArg₂ (· + ·) (congrArg₂ (· + ·) (congrArg₂ (· + ·) (congrArg₂ (· + ·) (congrArg₂ (· + ·)
    (congrArg₂ (· + ·) (part 0 (by decide) _) (part 1 (by decide) _)) (part 2 (by decide) _)) (part 3 (by decide) _)) (part 4 (by decide) _))
    (part 5 (by decide) _)) (part 6 (by decide) _)) (part 7 (by decide) _)

/-- The region leaves the summed rows in the array that the lines after it read. -/
theorem rows : Pipeline.withArrays spec0 c (V0 m c) (fun w => (dats m 0 c).arrAt w cfg0.N) (Proc.devRef .tc main_v0)
    = total (m ((c.tc : Thread nD τ).loc main_arg0)) :=
  (Pipeline.withArrays_arr spec0 (by decide) c (V0 m c) (fun w => (dats m 0 c).arrAt w cfg0.N) 1).trans (final m c)

theorem at0 (W : Valuation τ sig (Elt Ideal)) : StableHlo.after hostOps1 W (Proc.devRef .tc main_v3)
    = cut0 (W (Proc.devRef .tc main_v0)) := by
  after_results <;> rfl

theorem at1 (W : Valuation τ sig (Elt Ideal)) : StableHlo.after hostOps1 W (Proc.devRef .tc main_v5)
    = cut1 (W (Proc.devRef .tc main_v0)) := by
  after_results <;> rfl

theorem at2 (W : Valuation τ sig (Elt Ideal)) : StableHlo.after hostOps1 W (Proc.devRef .tc main_v7)
    = cut2 (W (Proc.devRef .tc main_v0)) := by
  after_results <;> rfl

theorem at3 (W : Valuation τ sig (Elt Ideal)) : StableHlo.after hostOps1 W (Proc.devRef .tc main_v9)
    = cut3 (W (Proc.devRef .tc main_v0)) := by
  after_results <;> rfl

theorem at4 (W : Valuation τ sig (Elt Ideal)) : StableHlo.after hostOps1 W (Proc.devRef .tc main_v11)
    = cut4 (W (Proc.devRef .tc main_v0)) := by
  after_results <;> rfl

theorem at5 (W : Valuation τ sig (Elt Ideal)) : StableHlo.after hostOps1 W (Proc.devRef .tc main_v13)
    = cut5 (W (Proc.devRef .tc main_v0)) := by
  after_results <;> rfl

theorem at6 (W : Valuation τ sig (Elt Ideal)) : StableHlo.after hostOps1 W (Proc.devRef .tc main_v15)
    = cut6 (W (Proc.devRef .tc main_v0)) := by
  after_results <;> rfl

theorem at7 (W : Valuation τ sig (Elt Ideal)) : StableHlo.after hostOps1 W (Proc.devRef .tc main_v17)
    = cut7 (W (Proc.devRef .tc main_v0)) := by
  after_results <;> rfl

theorem at8 (W : Valuation τ sig (Elt Ideal)) : StableHlo.after hostOps1 W (Proc.devRef .tc main_v19)
    = cut8 (W (Proc.devRef .tc main_v0)) := by
  after_results <;> rfl

theorem at9 (W : Valuation τ sig (Elt Ideal)) : StableHlo.after hostOps1 W (Proc.devRef .tc main_v21)
    = cut9 (W (Proc.devRef .tc main_v0)) := by
  after_results <;> rfl

theorem at10 (W : Valuation τ sig (Elt Ideal)) : StableHlo.after hostOps1 W (Proc.devRef .tc main_v22)
    = cut10 (W (Proc.devRef .tc main_v0)) := by
  after_results <;> rfl

theorem at11 (W : Valuation τ sig (Elt Ideal)) : StableHlo.after hostOps1 W (Proc.devRef .tc main_v23)
    = cut11 (W (Proc.devRef .tc main_v0)) := by
  after_results <;> rfl

variable (ρ : Dev nD → PrngReg)

/-- The run leaves each weight's summed gradient, and the summed loss, as its piece of the summed rows. -/
theorem run : θ_run defs (onTc (τ := τ) (main (F := Ideal))) ⟨m, fun _ => 0, ρ⟩ fun r => ∀ c : Dev nD,
      r.2.mem ((c.tc : Thread nD τ).loc main_v3) = cut0 (total (m ((c.tc : Thread nD τ).loc main_arg0)))
      ∧ r.2.mem ((c.tc : Thread nD τ).loc main_v5) = cut1 (total (m ((c.tc : Thread nD τ).loc main_arg0)))
      ∧ r.2.mem ((c.tc : Thread nD τ).loc main_v7) = cut2 (total (m ((c.tc : Thread nD τ).loc main_arg0)))
      ∧ r.2.mem ((c.tc : Thread nD τ).loc main_v9) = cut3 (total (m ((c.tc : Thread nD τ).loc main_arg0)))
      ∧ r.2.mem ((c.tc : Thread nD τ).loc main_v11) = cut4 (total (m ((c.tc : Thread nD τ).loc main_arg0)))
      ∧ r.2.mem ((c.tc : Thread nD τ).loc main_v13) = cut5 (total (m ((c.tc : Thread nD τ).loc main_arg0)))
      ∧ r.2.mem ((c.tc : Thread nD τ).loc main_v15) = cut6 (total (m ((c.tc : Thread nD τ).loc main_arg0)))
      ∧ r.2.mem ((c.tc : Thread nD τ).loc main_v17) = cut7 (total (m ((c.tc : Thread nD τ).loc main_arg0)))
      ∧ r.2.mem ((c.tc : Thread nD τ).loc main_v19) = cut8 (total (m ((c.tc : Thread nD τ).loc main_arg0)))
      ∧ r.2.mem ((c.tc : Thread nD τ).loc main_v21) = cut9 (total (m ((c.tc : Thread nD τ).loc main_arg0)))
      ∧ r.2.mem ((c.tc : Thread nD τ).loc main_v22) = cut10 (total (m ((c.tc : Thread nD τ).loc main_arg0)))
      ∧ r.2.mem ((c.tc : Thread nD τ).loc main_v23) = cut11 (total (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 (Pipeline.mem_restRefs_of main_v3 (by decide) (by decide))).trans ((at0 _).trans (congrArg cut0 (rows m c))),
    ((h c).2 main_v5 (Pipeline.mem_restRefs_of main_v5 (by decide) (by decide))).trans ((at1 _).trans (congrArg cut1 (rows m c))),
    ((h c).2 main_v7 (Pipeline.mem_restRefs_of main_v7 (by decide) (by decide))).trans ((at2 _).trans (congrArg cut2 (rows m c))),
    ((h c).2 main_v9 (Pipeline.mem_restRefs_of main_v9 (by decide) (by decide))).trans ((at3 _).trans (congrArg cut3 (rows m c))),
    ((h c).2 main_v11 (Pipeline.mem_restRefs_of main_v11 (by decide) (by decide))).trans ((at4 _).trans (congrArg cut4 (rows m c))),
    ((h c).2 main_v13 (Pipeline.mem_restRefs_of main_v13 (by decide) (by decide))).trans ((at5 _).trans (congrArg cut5 (rows m c))),
    ((h c).2 main_v15 (Pipeline.mem_restRefs_of main_v15 (by decide) (by decide))).trans ((at6 _).trans (congrArg cut6 (rows m c))),
    ((h c).2 main_v17 (Pipeline.mem_restRefs_of main_v17 (by decide) (by decide))).trans ((at7 _).trans (congrArg cut7 (rows m c))),
    ((h c).2 main_v19 (Pipeline.mem_restRefs_of main_v19 (by decide) (by decide))).trans ((at8 _).trans (congrArg cut8 (rows m c))),
    ((h c).2 main_v21 (Pipeline.mem_restRefs_of main_v21 (by decide) (by decide))).trans ((at9 _).trans (congrArg cut9 (rows m c))),
    ((h c).2 main_v22 (Pipeline.mem_restRefs_of main_v22 (by decide) (by decide))).trans ((at10 _).trans (congrArg cut10 (rows m c))),
    ((h c).2 main_v23 (Pipeline.mem_restRefs_of main_v23 (by decide) (by decide))).trans ((at11 _).trans (congrArg cut11 (rows m c))),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m ρ)

end Kernel

section Reference

open Cert.ReferenceSumIdeal Cert.ReferenceSumIdeal.Gen

theorem ref (p : FVec Ideal S8x936x128 .f32) :
    Host.reduceAdd p (constant S_ .f32 0x00000000#32) reducesTo_S8x936x128_S936x128_d0 h_S_ = total p := by
  funext i
  pointwise []
  rfl

end Reference

end Cert.Proof.Sum
-- ==== Proof.lean ====
module

public import proofs.«01_k».proof.Proof.Gen.KernelIdeal.Value
public import proofs.«01_k».proof.Proof.Gen.ReferenceIdeal.Run
public import proofs.«01_k».proof.Defs
public import proofs.«01_k».proof.Proof.Pre
public import proofs.«01_k».proof.Proof.Same
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Gen.KernelDh2
public import proofs.«01_k».proof.Proof.Gen.KernelDh2.Skeleton
public import proofs.«01_k».proof.Proof.Gen.KernelDh2.Launch
public import proofs.«01_k».proof.Proof.Gen.KernelDh2.Points
public import proofs.«01_k».proof.Proof.Gen.KernelDh2.Frame
public import proofs.«01_k».proof.Proof.Gen.KernelDh2Ideal
public import proofs.«01_k».proof.Proof.Gen.KernelDh2Ideal.Skeleton
public import proofs.«01_k».proof.Proof.Gen.KernelDh2Ideal.Launch
public import proofs.«01_k».proof.Proof.Gen.KernelDh2Ideal.Points
public import proofs.«01_k».proof.Proof.Gen.KernelDh2Ideal.Frame
public import proofs.«01_k».proof.Proof.Gen.ReferenceDh2Ideal
public import proofs.«01_k».proof.Proof.Gen.ReferenceDh2Ideal.Run
public import proofs.«01_k».proof.Proof.Dh2
public import proofs.«01_k».proof.Proof.Gen.KernelDwup
public import proofs.«01_k».proof.Proof.Gen.KernelDwup.Skeleton
public import proofs.«01_k».proof.Proof.Gen.KernelDwup.Launch
public import proofs.«01_k».proof.Proof.Gen.KernelDwup.Points
public import proofs.«01_k».proof.Proof.Gen.KernelDwup.Frame
public import proofs.«01_k».proof.Proof.Gen.KernelDwupIdeal
public import proofs.«01_k».proof.Proof.Gen.KernelDwupIdeal.Skeleton
public import proofs.«01_k».proof.Proof.Gen.KernelDwupIdeal.Launch
public import proofs.«01_k».proof.Proof.Gen.KernelDwupIdeal.Points
public import proofs.«01_k».proof.Proof.Gen.KernelDwupIdeal.Frame
public import proofs.«01_k».proof.Proof.Gen.ReferenceDwupIdeal
public import proofs.«01_k».proof.Proof.Gen.ReferenceDwupIdeal.Run
public import proofs.«01_k».proof.Proof.Dwup
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.ReferenceUpIdeal.Run
public import proofs.«01_k».proof.Proof.Up
public import proofs.«01_k».proof.Proof.Gen.KernelDact
public import proofs.«01_k».proof.Proof.Gen.KernelDact.Skeleton
public import proofs.«01_k».proof.Proof.Gen.KernelDact.Launch
public import proofs.«01_k».proof.Proof.Gen.KernelDact.Points
public import proofs.«01_k».proof.Proof.Gen.KernelDact.Frame
public import proofs.«01_k».proof.Proof.Gen.KernelDactIdeal
public import proofs.«01_k».proof.Proof.Gen.KernelDactIdeal.Skeleton
public import proofs.«01_k».proof.Proof.Gen.KernelDactIdeal.Launch
public import proofs.«01_k».proof.Proof.Gen.KernelDactIdeal.Points
public import proofs.«01_k».proof.Proof.Gen.KernelDactIdeal.Frame
public import proofs.«01_k».proof.Proof.Gen.ReferenceDactIdeal
public import proofs.«01_k».proof.Proof.Gen.ReferenceDactIdeal.Run
public import proofs.«01_k».proof.Proof.Dact
public import proofs.«01_k».proof.Proof.Gen.KernelDwdown
public import proofs.«01_k».proof.Proof.Gen.KernelDwdown.Skeleton
public import proofs.«01_k».proof.Proof.Gen.KernelDwdown.Launch
public import proofs.«01_k».proof.Proof.Gen.KernelDwdown.Points
public import proofs.«01_k».proof.Proof.Gen.KernelDwdown.Frame
public import proofs.«01_k».proof.Proof.Gen.KernelDwdownIdeal
public import proofs.«01_k».proof.Proof.Gen.KernelDwdownIdeal.Skeleton
public import proofs.«01_k».proof.Proof.Gen.KernelDwdownIdeal.Launch
public import proofs.«01_k».proof.Proof.Gen.KernelDwdownIdeal.Points
public import proofs.«01_k».proof.Proof.Gen.KernelDwdownIdeal.Frame
public import proofs.«01_k».proof.Proof.Gen.ReferenceDwdownIdeal
public import proofs.«01_k».proof.Proof.Gen.ReferenceDwdownIdeal.Run
public import proofs.«01_k».proof.Proof.Dwdown
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Down
public import proofs.«01_k».proof.Proof.Gen.KernelDh
public import proofs.«01_k».proof.Proof.Gen.KernelDh.Skeleton
public import proofs.«01_k».proof.Proof.Gen.KernelDh.Launch
public import proofs.«01_k».proof.Proof.Gen.KernelDh.Points
public import proofs.«01_k».proof.Proof.Gen.KernelDh.Frame
public import proofs.«01_k».proof.Proof.Gen.KernelDhIdeal
public import proofs.«01_k».proof.Proof.Gen.KernelDhIdeal.Skeleton
public import proofs.«01_k».proof.Proof.Gen.KernelDhIdeal.Launch
public import proofs.«01_k».proof.Proof.Gen.KernelDhIdeal.Points
public import proofs.«01_k».proof.Proof.Gen.KernelDhIdeal.Frame
public import proofs.«01_k».proof.Proof.Gen.ReferenceDhIdeal
public import proofs.«01_k».proof.Proof.Gen.ReferenceDhIdeal.Run
public import proofs.«01_k».proof.Proof.Dh
public import proofs.«01_k».proof.Proof.Gen.KernelDwin
public import proofs.«01_k».proof.Proof.Gen.KernelDwin.Skeleton
public import proofs.«01_k».proof.Proof.Gen.KernelDwin.Launch
public import proofs.«01_k».proof.Proof.Gen.KernelDwin.Points
public import proofs.«01_k».proof.Proof.Gen.KernelDwin.Frame
public import proofs.«01_k».proof.Proof.Gen.KernelDwinIdeal
public import proofs.«01_k».proof.Proof.Gen.KernelDwinIdeal.Skeleton
public import proofs.«01_k».proof.Proof.Gen.KernelDwinIdeal.Launch
public import proofs.«01_k».proof.Proof.Gen.KernelDwinIdeal.Points
public import proofs.«01_k».proof.Proof.Gen.KernelDwinIdeal.Frame
public import proofs.«01_k».proof.Proof.Gen.ReferenceDwinIdeal
public import proofs.«01_k».proof.Proof.Gen.ReferenceDwinIdeal.Run
public import proofs.«01_k».proof.Proof.Dwin
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.In
public import proofs.«01_k».proof.Proof.Gen.KernelDy
public import proofs.«01_k».proof.Proof.Gen.KernelDy.Skeleton
public import proofs.«01_k».proof.Proof.Gen.KernelDy.Launch
public import proofs.«01_k».proof.Proof.Gen.KernelDy.Points
public import proofs.«01_k».proof.Proof.Gen.KernelDy.Frame
public import proofs.«01_k».proof.Proof.Gen.KernelDyIdeal
public import proofs.«01_k».proof.Proof.Gen.KernelDyIdeal.Skeleton
public import proofs.«01_k».proof.Proof.Gen.KernelDyIdeal.Launch
public import proofs.«01_k».proof.Proof.Gen.KernelDyIdeal.Points
public import proofs.«01_k».proof.Proof.Gen.KernelDyIdeal.Frame
public import proofs.«01_k».proof.Proof.Gen.ReferenceDyIdeal
public import proofs.«01_k».proof.Proof.Gen.ReferenceDyIdeal.Run
public import proofs.«01_k».proof.Proof.Dy
public import proofs.«01_k».proof.Proof.Gen.KernelDwout
public import proofs.«01_k».proof.Proof.Gen.KernelDwout.Skeleton
public import proofs.«01_k».proof.Proof.Gen.KernelDwout.Launch
public import proofs.«01_k».proof.Proof.Gen.KernelDwout.Points
public import proofs.«01_k».proof.Proof.Gen.KernelDwout.Frame
public import proofs.«01_k».proof.Proof.Gen.KernelDwoutIdeal
public import proofs.«01_k».proof.Proof.Gen.KernelDwoutIdeal.Skeleton
public import proofs.«01_k».proof.Proof.Gen.KernelDwoutIdeal.Launch
public import proofs.«01_k».proof.Proof.Gen.KernelDwoutIdeal.Points
public import proofs.«01_k».proof.Proof.Gen.KernelDwoutIdeal.Frame
public import proofs.«01_k».proof.Proof.Gen.ReferenceDwoutIdeal
public import proofs.«01_k».proof.Proof.Gen.ReferenceDwoutIdeal.Run
public import proofs.«01_k».proof.Proof.Dwout
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Out
public import proofs.«01_k».proof.Proof.Gen.KernelAct
public import proofs.«01_k».proof.Proof.Gen.KernelAct.Skeleton
public import proofs.«01_k».proof.Proof.Gen.KernelAct.Launch
public import proofs.«01_k».proof.Proof.Gen.KernelAct.Points
public import proofs.«01_k».proof.Proof.Gen.KernelAct.Frame
public import proofs.«01_k».proof.Proof.Gen.KernelActIdeal
public import proofs.«01_k».proof.Proof.Gen.KernelActIdeal.Skeleton
public import proofs.«01_k».proof.Proof.Gen.KernelActIdeal.Launch
public import proofs.«01_k».proof.Proof.Gen.KernelActIdeal.Points
public import proofs.«01_k».proof.Proof.Gen.KernelActIdeal.Frame
public import proofs.«01_k».proof.Proof.Gen.ReferenceActIdeal
public import proofs.«01_k».proof.Proof.Gen.ReferenceActIdeal.Run
public import proofs.«01_k».proof.Proof.Act
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.ReferenceLossIdeal
public import proofs.«01_k».proof.Proof.Gen.ReferenceLossIdeal.Run
public import proofs.«01_k».proof.Proof.Loss
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.ReferenceMixIdeal.Run
public import proofs.«01_k».proof.Proof.MixRef
public import proofs.«01_k».proof.Proof.Gen.KernelAdam
public import proofs.«01_k».proof.Proof.Gen.KernelAdam.Skeleton
public import proofs.«01_k».proof.Proof.Gen.KernelAdam.Launch
public import proofs.«01_k».proof.Proof.Gen.KernelAdam.Points
public import proofs.«01_k».proof.Proof.Gen.KernelAdamIdeal
public import proofs.«01_k».proof.Proof.Gen.KernelAdamIdeal.Skeleton
public import proofs.«01_k».proof.Proof.Gen.KernelAdamIdeal.Launch
public import proofs.«01_k».proof.Proof.Gen.KernelAdamIdeal.Points
public import proofs.«01_k».proof.Proof.Gen.ReferenceAdamIdeal
public import proofs.«01_k».proof.Proof.Gen.ReferenceAdamIdeal.Run
public import proofs.«01_k».proof.Proof.AdamEnd
public import proofs.«01_k».proof.Proof.Gen.KernelSum
public import proofs.«01_k».proof.Proof.Gen.KernelSum.Skeleton
public import proofs.«01_k».proof.Proof.Gen.KernelSum.Launch
public import proofs.«01_k».proof.Proof.Gen.KernelSum.Points
public import proofs.«01_k».proof.Proof.Gen.KernelSum.Frame
public import proofs.«01_k».proof.Proof.Gen.KernelSumIdeal
public import proofs.«01_k».proof.Proof.Gen.KernelSumIdeal.Skeleton
public import proofs.«01_k».proof.Proof.Gen.KernelSumIdeal.Launch
public import proofs.«01_k».proof.Proof.Gen.KernelSumIdeal.Points
public import proofs.«01_k».proof.Proof.Gen.KernelSumIdeal.Frame
public import proofs.«01_k».proof.Proof.Gen.ReferenceSumIdeal
public import proofs.«01_k».proof.Proof.Gen.ReferenceSumIdeal.Run
public import proofs.«01_k».proof.Proof.Sum

@[expose] public section

noncomputable section

namespace Cert.Proof

open Idealize.ShloMosaic Idealize.SL.Sem Cert.Kernel

/-- The reference terminates, leaves its arguments and every semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

/-- Kernel and reference compute the same four arrays. -/
theorem ffn_act_bwd : Cert.algebraic_KernelIdeal_ReferenceIdeal_pre_finite := fun m g m' g' hpre hargs => by
  have hfin := fun c => Plain.finite_of_pre _ _ _ _ _ (hpre c)
  refine ⟨fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    Cert.KernelIdeal.Value.run_blocks m g,
    (θ_run Cert.ReferenceIdeal.defs _ _).mono (fun _ h c => ?_) (Cert.ReferenceIdeal.Value.run m' g')⟩
  obtain ⟨h0, h1, h2, h3, hkept⟩ := h c
  obtain ⟨a0, a1, a2, a3, a4⟩ := hargs c
  obtain ⟨hx, hd, hw⟩ := hfin c
  have e0 : Plain.aX m' c = Chunk.argX m c := a0
  have e1 : Plain.aD m' c = Chunk.argD m c := a1
  have e2 : Plain.aW m' c = Chunk.argW m c := a2
  refine ⟨h0.trans ?_, h1.trans ?_, h2.trans ?_, h3.trans ?_, hkept⟩
  · refine (Plain.out0_eq m' c).trans ?_
    rw [e0, e1, e2]
    exact (Plain.out0_at hx hd hw).trans (Chunk.final10 m c).symm
  · refine (Plain.out1_eq m' c).trans ?_
    rw [e0, e1, e2]
    exact (Plain.out1_at hx hw).trans (Chunk.final11 m c).symm
  · refine (Plain.out2_eq m' c).trans ?_
    rw [e0, e1, e2, show Plain.aG m' c = _ from a3]
    exact (Plain.out2_at hx hd hw _).trans (Chunk.final12 m c).symm
  · refine (Plain.out3_eq m' c).trans ?_
    rw [e0, e1, e2, show Plain.aV m' c = _ from a4]
    exact (Plain.out3_at hx hw _).trans (Chunk.final13 m c).symm

theorem frame_referenceDh2 : Cert.quiescent_ReferenceDh2Ideal := fun m ρ _ =>
  (θ_run Cert.ReferenceDh2Ideal.defs _ _).mono
    (fun r h => ⟨fun c => (h c).2.2, sem_eq_zero_of_no_sems (by decide) r.2⟩) (Cert.ReferenceDh2Ideal.Value.run m ρ)

/-- Kernel and reference compute the same arrays: the gradients through the norm before the up-projection. -/
theorem valueDh2 : Cert.algebraic_KernelDh2Ideal_ReferenceDh2Ideal := fun m g m' g' _ hargs => by
  refine ⟨fun c => (Cert.KernelDh2Ideal.Gen.dats m 0 c).arrAt 6 Cert.KernelDh2Ideal.cfg0.N,
    fun c => (Cert.KernelDh2Ideal.Gen.dats m 0 c).arrAt 7 Cert.KernelDh2Ideal.cfg0.N, Cert.KernelDh2Ideal.Value.run_blocks m g,
    (θ_run Cert.ReferenceDh2Ideal.defs _ _).mono (fun _ h c => ?_) (Cert.ReferenceDh2Ideal.Value.run m' g')⟩
  obtain ⟨h0, h1, hkept⟩ := h c
  obtain ⟨a0, a1, a2, a3, a4, a5, a6⟩ := hargs c
  refine ⟨h0.trans ?_, h1.trans ?_, hkept⟩
  · refine (Dh2.res_dx m' c).trans ((Dh2.ref_dx _ _ _ _ _ _).trans ?_)
    rw [a0, a1, a2, a3, a4, a5]
    exact (Dh2.final_dx m c).symm
  · refine (Dh2.ref_dg _ _ _ _ _).trans ?_
    rw [a0, a1, a2, a3, a6]
    exact (Dh2.final_dg m c).symm

theorem frame_referenceDwup : Cert.quiescent_ReferenceDwupIdeal := fun m ρ _ =>
  (θ_run Cert.ReferenceDwupIdeal.defs _ _).mono
    (fun r h => ⟨fun c => (h c).2, sem_eq_zero_of_no_sems (by decide) r.2⟩) (Cert.ReferenceDwupIdeal.Value.run m ρ)

/-- Kernel and reference compute the same array: the gradient of the up-projection. -/
theorem valueDwup : Cert.algebraic_KernelDwupIdeal_ReferenceDwupIdeal := fun m g m' g' _ hargs => by
  refine ⟨fun c => (Cert.KernelDwupIdeal.Gen.dats m 0 c).arrAt 4 Cert.KernelDwupIdeal.cfg0.N, Dwup.run m g,
    (θ_run Cert.ReferenceDwupIdeal.defs _ _).mono (fun _ h c => ?_) (Cert.ReferenceDwupIdeal.Value.run m' g')⟩
  obtain ⟨h0, hkept⟩ := h c
  obtain ⟨a0, a1, a2, a3⟩ := hargs c
  refine ⟨h0.trans ?_, hkept⟩
  refine (Dwup.ref _ _ _ _).trans ?_
  rw [a0, a1, a2, a3]
  exact (Dwup.final m c).symm

theorem frame_referenceUp : Cert.quiescent_ReferenceUpIdeal := fun m ρ _ =>
  (θ_run Cert.ReferenceUpIdeal.defs _ _).mono
    (fun r h => ⟨fun c => (h c).2, sem_eq_zero_of_no_sems (by decide) r.2⟩) (Cert.ReferenceUpIdeal.Value.run m ρ)

/-- Kernel and reference compute the same array: the up-projection with its norm. -/
theorem valueUp : Cert.algebraic_KernelUpIdeal_ReferenceUpIdeal := fun m g m' g' _ hargs => by
  refine ⟨fun c => (Cert.KernelUpIdeal.Gen.dats m 0 c).arrAt 3 Cert.KernelUpIdeal.cfg0.N, Cert.KernelUpIdeal.Value.run_blocks m g,
    (θ_run Cert.ReferenceUpIdeal.defs _ _).mono (fun _ h c => ?_) (Cert.ReferenceUpIdeal.Value.run m' g')⟩
  obtain ⟨h0, hkept⟩ := h c
  obtain ⟨a0, a1, a2⟩ := hargs c
  refine ⟨h0.trans ?_, hkept⟩
  refine (Up.ref _ _ _).trans ?_
  rw [a0, a1, a2]
  exact (Up.final m c).symm

theorem frame_referenceDact : Cert.quiescent_ReferenceDactIdeal := fun m ρ _ =>
  (θ_run Cert.ReferenceDactIdeal.defs _ _).mono
    (fun r h => ⟨fun c => (h c).2, sem_eq_zero_of_no_sems (by decide) r.2⟩) (Cert.ReferenceDactIdeal.Value.run m ρ)

/-- Kernel and reference compute the same array: the cotangent through the down-projection. -/
theorem valueDact : Cert.algebraic_KernelDactIdeal_ReferenceDactIdeal := fun m g m' g' _ hargs => by
  refine ⟨fun c => (Cert.KernelDactIdeal.Gen.dats m 0 c).arrAt 2 Cert.KernelDactIdeal.cfg0.N, Cert.KernelDactIdeal.Value.run_blocks m g,
    (θ_run Cert.ReferenceDactIdeal.defs _ _).mono (fun _ h c => ?_) (Cert.ReferenceDactIdeal.Value.run m' g')⟩
  obtain ⟨h0, hkept⟩ := h c
  obtain ⟨a0, a1⟩ := hargs c
  refine ⟨h0.trans ?_, hkept⟩
  refine (Dact.ref _ _).trans ?_
  rw [a0, a1]
  exact (Dact.final m c).symm

theorem frame_referenceDwdown : Cert.quiescent_ReferenceDwdownIdeal := fun m ρ _ =>
  (θ_run Cert.ReferenceDwdownIdeal.defs _ _).mono
    (fun r h => ⟨fun c => (h c).2, sem_eq_zero_of_no_sems (by decide) r.2⟩) (Cert.ReferenceDwdownIdeal.Value.run m ρ)

/-- Kernel and reference compute the same array: the gradient of the down-projection. -/
theorem valueDwdown : Cert.algebraic_KernelDwdownIdeal_ReferenceDwdownIdeal := fun m g m' g' _ hargs => by
  refine ⟨fun c => (Cert.KernelDwdownIdeal.Gen.dats m 0 c).arrAt 2 Cert.KernelDwdownIdeal.cfg0.N, Cert.KernelDwdownIdeal.Value.run_blocks m g,
    (θ_run Cert.ReferenceDwdownIdeal.defs _ _).mono (fun _ h c => ?_) (Cert.ReferenceDwdownIdeal.Value.run m' g')⟩
  obtain ⟨h0, hkept⟩ := h c
  obtain ⟨a0, a1⟩ := hargs c
  refine ⟨h0.trans ?_, hkept⟩
  refine (Dwdown.ref _ _).trans ?_
  rw [a0, a1]
  exact (Dwdown.final m c).symm

theorem frame_referenceDown : Cert.quiescent_ReferenceDownIdeal := fun m ρ _ =>
  (θ_run Cert.ReferenceDownIdeal.defs _ _).mono
    (fun r h => ⟨fun c => (h c).2, sem_eq_zero_of_no_sems (by decide) r.2⟩) (Cert.ReferenceDownIdeal.Value.run m ρ)

/-- Kernel and reference compute the same array: the down-projection with its residual. -/
theorem valueDown : Cert.algebraic_KernelDownIdeal_ReferenceDownIdeal := fun m g m' g' _ hargs => by
  refine ⟨fun c => (Cert.KernelDownIdeal.Gen.dats m 0 c).arrAt 3 Cert.KernelDownIdeal.cfg0.N, Cert.KernelDownIdeal.Value.run_blocks m g,
    (θ_run Cert.ReferenceDownIdeal.defs _ _).mono (fun _ h c => ?_) (Cert.ReferenceDownIdeal.Value.run m' g')⟩
  obtain ⟨h0, hkept⟩ := h c
  obtain ⟨a0, a1, a2⟩ := hargs c
  refine ⟨h0.trans ?_, hkept⟩
  refine (Down.ref _ _ _).trans ?_
  rw [a0, a1, a2]
  exact (Down.final m c).symm

theorem frame_referenceDh : Cert.quiescent_ReferenceDhIdeal := fun m ρ _ =>
  (θ_run Cert.ReferenceDhIdeal.defs _ _).mono
    (fun r h => ⟨fun c => (h c).2.2, sem_eq_zero_of_no_sems (by decide) r.2⟩) (Cert.ReferenceDhIdeal.Value.run m ρ)

/-- Kernel and reference compute the same arrays: the gradients through the norm before the input projection. -/
theorem valueDh : Cert.algebraic_KernelDhIdeal_ReferenceDhIdeal := fun m g m' g' _ hargs => by
  refine ⟨fun c => (Cert.KernelDhIdeal.Gen.dats m 0 c).arrAt 5 Cert.KernelDhIdeal.cfg0.N,
    fun c => (Cert.KernelDhIdeal.Gen.dats m 0 c).arrAt 6 Cert.KernelDhIdeal.cfg0.N, Cert.KernelDhIdeal.Value.run_blocks m g,
    (θ_run Cert.ReferenceDhIdeal.defs _ _).mono (fun _ h c => ?_) (Cert.ReferenceDhIdeal.Value.run m' g')⟩
  obtain ⟨h0, h1, hkept⟩ := h c
  obtain ⟨a0, a1, a2, a3, a4, a5⟩ := hargs c
  refine ⟨h0.trans ?_, h1.trans ?_, hkept⟩
  · refine (Dh.res_dx m' c).trans ((Dh.ref_dx _ _ _ _ _).trans ?_)
    rw [a0, a1, a2, a3, a4]
    exact (Dh.final_dx m c).symm
  · refine (Dh.ref_dg _ _ _ _).trans ?_
    rw [a0, a1, a2, a5]
    exact (Dh.final_dg m c).symm

theorem frame_referenceDwin : Cert.quiescent_ReferenceDwinIdeal := fun m ρ _ =>
  (θ_run Cert.ReferenceDwinIdeal.defs _ _).mono
    (fun r h => ⟨fun c => (h c).2, sem_eq_zero_of_no_sems (by decide) r.2⟩) (Cert.ReferenceDwinIdeal.Value.run m ρ)

/-- Kernel and reference compute the same array: the gradient of the input projection. -/
theorem valueDwin : Cert.algebraic_KernelDwinIdeal_ReferenceDwinIdeal := fun m g m' g' _ hargs => by
  refine ⟨fun c => (Cert.KernelDwinIdeal.Gen.dats m 0 c).arrAt 3 Cert.KernelDwinIdeal.cfg0.N, Cert.KernelDwinIdeal.Value.run_blocks m g,
    (θ_run Cert.ReferenceDwinIdeal.defs _ _).mono (fun _ h c => ?_) (Cert.ReferenceDwinIdeal.Value.run m' g')⟩
  obtain ⟨h0, hkept⟩ := h c
  obtain ⟨a0, a1, a2⟩ := hargs c
  refine ⟨h0.trans ?_, hkept⟩
  refine (Dwin.ref _ _ _).trans ?_
  rw [a0, a1, a2]
  exact (Dwin.final m c).symm

theorem frame_referenceIn : Cert.quiescent_ReferenceInIdeal := fun m ρ _ =>
  (θ_run Cert.ReferenceInIdeal.defs _ _).mono
    (fun r h => ⟨fun c => (h c).2, sem_eq_zero_of_no_sems (by decide) r.2⟩) (Cert.ReferenceInIdeal.Value.run m ρ)

/-- Kernel and reference compute the same array: the input projection with its norm. -/
theorem valueIn : Cert.algebraic_KernelInIdeal_ReferenceInIdeal := fun m g m' g' _ hargs => by
  refine ⟨fun c => (Cert.KernelInIdeal.Gen.dats m 0 c).arrAt 3 Cert.KernelInIdeal.cfg0.N, Cert.KernelInIdeal.Value.run_blocks m g,
    (θ_run Cert.ReferenceInIdeal.defs _ _).mono (fun _ h c => ?_) (Cert.ReferenceInIdeal.Value.run m' g')⟩
  obtain ⟨h0, hkept⟩ := h c
  obtain ⟨a0, a1, a2⟩ := hargs c
  refine ⟨h0.trans ?_, hkept⟩
  refine (In.ref _ _ _).trans ?_
  rw [a0, a1, a2]
  exact (In.final m c).symm

theorem frame_referenceDy : Cert.quiescent_ReferenceDyIdeal := fun m ρ _ =>
  (θ_run Cert.ReferenceDyIdeal.defs _ _).mono
    (fun r h => ⟨fun c => (h c).2, sem_eq_zero_of_no_sems (by decide) r.2⟩) (Cert.ReferenceDyIdeal.Value.run m ρ)

/-- Kernel and reference compute the same array: the cotangent through the output projection. -/
theorem valueDy : Cert.algebraic_KernelDyIdeal_ReferenceDyIdeal := fun m g m' g' _ hargs => by
  refine ⟨fun c => (Cert.KernelDyIdeal.Gen.dats m 0 c).arrAt 2 Cert.KernelDyIdeal.cfg0.N, Cert.KernelDyIdeal.Value.run_blocks m g,
    (θ_run Cert.ReferenceDyIdeal.defs _ _).mono (fun _ h c => ?_) (Cert.ReferenceDyIdeal.Value.run m' g')⟩
  obtain ⟨h0, hkept⟩ := h c
  obtain ⟨a0, a1⟩ := hargs c
  refine ⟨h0.trans ?_, hkept⟩
  refine (Dy.ref _ _).trans ?_
  rw [a0, a1]
  exact (Dy.final m c).symm

theorem frame_referenceDwout : Cert.quiescent_ReferenceDwoutIdeal := fun m ρ _ =>
  (θ_run Cert.ReferenceDwoutIdeal.defs _ _).mono
    (fun r h => ⟨fun c => (h c).2, sem_eq_zero_of_no_sems (by decide) r.2⟩) (Cert.ReferenceDwoutIdeal.Value.run m ρ)

/-- Kernel and reference compute the same array: the gradient of the output projection. -/
theorem valueDwout : Cert.algebraic_KernelDwoutIdeal_ReferenceDwoutIdeal := fun m g m' g' _ hargs => by
  refine ⟨fun c => (Cert.KernelDwoutIdeal.Gen.dats m 0 c).arrAt 2 Cert.KernelDwoutIdeal.cfg0.N, Cert.KernelDwoutIdeal.Value.run_blocks m g,
    (θ_run Cert.ReferenceDwoutIdeal.defs _ _).mono (fun _ h c => ?_) (Cert.ReferenceDwoutIdeal.Value.run m' g')⟩
  obtain ⟨h0, hkept⟩ := h c
  obtain ⟨a0, a1⟩ := hargs c
  refine ⟨h0.trans ?_, hkept⟩
  refine (Dwout.ref _ _).trans ?_
  rw [a0, a1]
  exact (Dwout.final m c).symm

theorem frame_referenceOut : Cert.quiescent_ReferenceOutIdeal := fun m ρ _ =>
  (θ_run Cert.ReferenceOutIdeal.defs _ _).mono
    (fun r h => ⟨fun c => (h c).2, sem_eq_zero_of_no_sems (by decide) r.2⟩) (Cert.ReferenceOutIdeal.Value.run m ρ)

/-- Kernel and reference compute the same array: the output projection with its residual. -/
theorem valueOut : Cert.algebraic_KernelOutIdeal_ReferenceOutIdeal := fun m g m' g' _ hargs => by
  refine ⟨fun c => (Cert.KernelOutIdeal.Gen.dats m 0 c).arrAt 3 Cert.KernelOutIdeal.cfg0.N, Cert.KernelOutIdeal.Value.run_blocks m g,
    (θ_run Cert.ReferenceOutIdeal.defs _ _).mono (fun _ h c => ?_) (Cert.ReferenceOutIdeal.Value.run m' g')⟩
  obtain ⟨h0, hkept⟩ := h c
  obtain ⟨a0, a1, a2⟩ := hargs c
  refine ⟨h0.trans ?_, hkept⟩
  refine (Out.ref _ _ _).trans ?_
  rw [a0, a1, a2]
  exact (Out.final m c).symm

theorem frame_referenceAct : Cert.quiescent_ReferenceActIdeal := fun m ρ _ =>
  (θ_run Cert.ReferenceActIdeal.defs _ _).mono
    (fun r h => ⟨fun c => (h c).2, sem_eq_zero_of_no_sems (by decide) r.2⟩) (Cert.ReferenceActIdeal.Value.run m ρ)

/-- Kernel and reference compute the same array: the gated convolution of the channel mixer. -/
theorem valueAct : Cert.algebraic_KernelActIdeal_ReferenceActIdeal := fun m g m' g' _ hargs => by
  refine ⟨fun c => (Cert.KernelActIdeal.Gen.dats m 0 c).arrAt 6 Cert.KernelActIdeal.cfg0.N, Cert.KernelActIdeal.Value.run_blocks m g,
    (θ_run Cert.ReferenceActIdeal.defs _ _).mono (fun _ h c => ?_) (Cert.ReferenceActIdeal.Value.run m' g')⟩
  obtain ⟨h0, hkept⟩ := h c
  obtain ⟨a0, a1⟩ := hargs c
  refine ⟨h0.trans ?_, hkept⟩
  refine (Act.res m' c).trans ((Act.ref _ _).trans ?_)
  rw [a0, a1]
  exact (Act.final m c).symm

theorem frame_referenceLoss : Cert.quiescent_ReferenceLossIdeal := fun m ρ _ =>
  (θ_run Cert.ReferenceLossIdeal.defs _ _).mono
    (fun r h => ⟨fun c => (h c).2.2.2, sem_eq_zero_of_no_sems (by decide) r.2⟩) (Cert.ReferenceLossIdeal.Value.run m ρ)

/-- Kernel and reference compute the same arrays: the loss and its gradients through the last norm. -/
theorem valueLoss : Cert.algebraic_KernelLossIdeal_ReferenceLossIdeal := fun m g m' g' _ hargs => by
  refine ⟨fun c => (Cert.KernelLossIdeal.Gen.dats m 0 c).arrAt 3 Cert.KernelLossIdeal.cfg0.N,
    fun c => (Cert.KernelLossIdeal.Gen.dats m 0 c).arrAt 4 Cert.KernelLossIdeal.cfg0.N,
    fun c => (Cert.KernelLossIdeal.Gen.dats m 0 c).arrAt 5 Cert.KernelLossIdeal.cfg0.N, Cert.KernelLossIdeal.Value.run_blocks m g,
    (θ_run Cert.ReferenceLossIdeal.defs _ _).mono (fun _ h c => ?_) (Cert.ReferenceLossIdeal.Value.run m' g')⟩
  obtain ⟨h0, h1, h2, hkept⟩ := h c
  obtain ⟨a0, a1, a2⟩ := hargs c
  refine ⟨h0.trans ?_, h1.trans ?_, h2.trans ?_, hkept⟩
  · refine (Loss.ref_loss _ _ _).trans ?_
    rw [a0, a1, a2]
    exact (Loss.final_loss m c).symm
  · refine (Loss.res_dx m' c).trans ((Loss.ref_dx _ _ _).trans ?_)
    rw [a0, a1, a2]
    exact (Loss.final_dx m c).symm
  · refine (Loss.ref_dg _ _ _).trans ?_
    rw [a0, a1, a2]
    exact (Loss.final_dg m c).symm

theorem frame_referenceMix : Cert.quiescent_ReferenceMixIdeal := fun m ρ _ =>
  (θ_run Cert.ReferenceMixIdeal.defs _ _).mono
    (fun r h => ⟨fun c => (h c).2.2, sem_eq_zero_of_no_sems (by decide) r.2⟩) (Cert.ReferenceMixIdeal.Value.run m ρ)

/-- Kernel and reference compute the same arrays: the two gated convolutions with the norms after them. -/
theorem valueMix : Cert.algebraic_KernelMixIdeal_ReferenceMixIdeal := fun m g m' g' _ hargs => by
  refine ⟨fun c => (Cert.KernelMixIdeal.Gen.dats m 0 c).arrAt 16 Cert.KernelMixIdeal.cfg0.N,
    fun c => (Cert.KernelMixIdeal.Gen.dats m 0 c).arrAt 17 Cert.KernelMixIdeal.cfg0.N, Cert.KernelMixIdeal.Value.run_blocks m g,
    (θ_run Cert.ReferenceMixIdeal.defs _ _).mono (fun _ h c => ?_) (Cert.ReferenceMixIdeal.Value.run m' g')⟩
  obtain ⟨h0, h1, hkept⟩ := h c
  obtain ⟨a0, a1, a2, a3, a4, a5, a6, a7⟩ := hargs c
  refine ⟨h0.trans ?_, h1.trans ?_, hkept⟩
  · refine (Mix.ref_parts (Mix.refZ m' c) (Mix.refB m' c) (Mix.refA m' c) (Mix.refC m' c) (Mix.refCb m' c) (Mix.refLg m' c) (Mix.refLb m' c) (Mix.refOg m' c)).trans ?_
    unfold Mix.refZ Mix.refB Mix.refA Mix.refC Mix.refCb Mix.refLg Mix.refLb Mix.refOg
    rw [a0, a1, a2, a3, a4, a5, a6, a7]
    exact (Mix.final16 m c).symm
  · refine (Mix.ref_longs (Mix.refZ m' c) (Mix.refC m' c) (Mix.refCb m' c)).trans ?_
    unfold Mix.refZ Mix.refC Mix.refCb
    rw [a0, a3, a4]
    exact (Mix.final17 m c).symm

theorem frame_referenceSum : Cert.quiescent_ReferenceSumIdeal := fun m ρ _ =>
  (θ_run Cert.ReferenceSumIdeal.defs _ _).mono
    (fun r h => ⟨fun c => (h c).2.2.2.2.2.2.2.2.2.2.2.2, sem_eq_zero_of_no_sems (by decide) r.2⟩) (Cert.ReferenceSumIdeal.Value.run m ρ)

/-- Kernel and reference compute the same arrays: the sums over the devices of the losses and of the small gradients. -/
theorem valueSum : Cert.algebraic_KernelSumIdeal_ReferenceSumIdeal := fun m g m' g' _ hargs => by
  refine ⟨fun c => Sum.cut0 (Sum.total (m ((c.tc : Thread Cert.KernelSumIdeal.nD Cert.KernelSumIdeal.τ).loc Cert.KernelSumIdeal.main_arg0))), fun c => Sum.cut1 (Sum.total (m ((c.tc : Thread Cert.KernelSumIdeal.nD Cert.KernelSumIdeal.τ).loc Cert.KernelSumIdeal.main_arg0))), fun c => Sum.cut2 (Sum.total (m ((c.tc : Thread Cert.KernelSumIdeal.nD Cert.KernelSumIdeal.τ).loc Cert.KernelSumIdeal.main_arg0))), fun c => Sum.cut3 (Sum.total (m ((c.tc : Thread Cert.KernelSumIdeal.nD Cert.KernelSumIdeal.τ).loc Cert.KernelSumIdeal.main_arg0))), fun c => Sum.cut4 (Sum.total (m ((c.tc : Thread Cert.KernelSumIdeal.nD Cert.KernelSumIdeal.τ).loc Cert.KernelSumIdeal.main_arg0))), fun c => Sum.cut5 (Sum.total (m ((c.tc : Thread Cert.KernelSumIdeal.nD Cert.KernelSumIdeal.τ).loc Cert.KernelSumIdeal.main_arg0))), fun c => Sum.cut6 (Sum.total (m ((c.tc : Thread Cert.KernelSumIdeal.nD Cert.KernelSumIdeal.τ).loc Cert.KernelSumIdeal.main_arg0))), fun c => Sum.cut7 (Sum.total (m ((c.tc : Thread Cert.KernelSumIdeal.nD Cert.KernelSumIdeal.τ).loc Cert.KernelSumIdeal.main_arg0))), fun c => Sum.cut8 (Sum.total (m ((c.tc : Thread Cert.KernelSumIdeal.nD Cert.KernelSumIdeal.τ).loc Cert.KernelSumIdeal.main_arg0))), fun c => Sum.cut9 (Sum.total (m ((c.tc : Thread Cert.KernelSumIdeal.nD Cert.KernelSumIdeal.τ).loc Cert.KernelSumIdeal.main_arg0))), fun c => Sum.cut10 (Sum.total (m ((c.tc : Thread Cert.KernelSumIdeal.nD Cert.KernelSumIdeal.τ).loc Cert.KernelSumIdeal.main_arg0))), fun c => Sum.cut11 (Sum.total (m ((c.tc : Thread Cert.KernelSumIdeal.nD Cert.KernelSumIdeal.τ).loc Cert.KernelSumIdeal.main_arg0))),
    Sum.run m g, (θ_run Cert.ReferenceSumIdeal.defs _ _).mono (fun _ h c => ?_) (Cert.ReferenceSumIdeal.Value.run m' g')⟩
  obtain ⟨h0, h1, h2, h3, h4, h5, h6, h7, h8, h9, h10, h11, hkept⟩ := h c
  have e := (Sum.ref (m' ((c.tc : Thread Cert.ReferenceSumIdeal.nD Cert.ReferenceSumIdeal.τ).loc Cert.ReferenceSumIdeal.main_arg0))).trans
    (congrArg Sum.total (hargs c).1)
  exact ⟨h0.trans (congrArg Sum.cut0 e), h1.trans (congrArg Sum.cut1 e), h2.trans (congrArg Sum.cut2 e), h3.trans (congrArg Sum.cut3 e), h4.trans (congrArg Sum.cut4 e), h5.trans (congrArg Sum.cut5 e), h6.trans (congrArg Sum.cut6 e), h7.trans (congrArg Sum.cut7 e), h8.trans (congrArg Sum.cut8 e), h9.trans (congrArg Sum.cut9 e), h10.trans (congrArg Sum.cut10 e), h11.trans (congrArg Sum.cut11 e), hkept⟩

theorem claim : Cert.Claim := ⟨Cert.Kernel.Gen.facts, Cert.KernelIdeal.Gen.facts, Cert.ReferenceIdeal.Gen.facts,
  Cert.KernelDh2.Gen.facts, Cert.KernelDh2Ideal.Gen.facts, Cert.ReferenceDh2Ideal.Gen.facts,
  Cert.KernelDwup.Gen.facts, Cert.KernelDwupIdeal.Gen.facts, Cert.ReferenceDwupIdeal.Gen.facts,
  Cert.KernelUp.Gen.facts, Cert.KernelUpIdeal.Gen.facts, Cert.ReferenceUpIdeal.Gen.facts,
  Cert.KernelDact.Gen.facts, Cert.KernelDactIdeal.Gen.facts, Cert.ReferenceDactIdeal.Gen.facts,
  Cert.KernelDwdown.Gen.facts, Cert.KernelDwdownIdeal.Gen.facts, Cert.ReferenceDwdownIdeal.Gen.facts,
  Cert.KernelDown.Gen.facts, Cert.KernelDownIdeal.Gen.facts, Cert.ReferenceDownIdeal.Gen.facts,
  Cert.KernelDh.Gen.facts, Cert.KernelDhIdeal.Gen.facts, Cert.ReferenceDhIdeal.Gen.facts,
  Cert.KernelDwin.Gen.facts, Cert.KernelDwinIdeal.Gen.facts, Cert.ReferenceDwinIdeal.Gen.facts,
  Cert.KernelIn.Gen.facts, Cert.KernelInIdeal.Gen.facts, Cert.ReferenceInIdeal.Gen.facts,
  Cert.KernelDy.Gen.facts, Cert.KernelDyIdeal.Gen.facts, Cert.ReferenceDyIdeal.Gen.facts,
  Cert.KernelDwout.Gen.facts, Cert.KernelDwoutIdeal.Gen.facts, Cert.ReferenceDwoutIdeal.Gen.facts,
  Cert.KernelOut.Gen.facts, Cert.KernelOutIdeal.Gen.facts, Cert.ReferenceOutIdeal.Gen.facts,
  Cert.KernelAct.Gen.facts, Cert.KernelActIdeal.Gen.facts, Cert.ReferenceActIdeal.Gen.facts,
  Cert.KernelLoss.Gen.facts, Cert.KernelLossIdeal.Gen.facts, Cert.ReferenceLossIdeal.Gen.facts,
  Cert.KernelMix.Gen.facts, Cert.KernelMixIdeal.Gen.facts, Cert.ReferenceMixIdeal.Gen.facts,
  Cert.KernelAdam.Gen.facts, Cert.KernelAdamIdeal.Gen.facts, Cert.ReferenceAdamIdeal.Gen.facts,
  Cert.KernelSum.Gen.facts, Cert.KernelSumIdeal.Gen.facts, Cert.ReferenceSumIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.KernelDh2.Gen.frame m ρ, fun m ρ _ => Cert.KernelDh2Ideal.Gen.frame m ρ, frame_referenceDh2,
  fun m ρ _ => Cert.KernelDwup.Gen.frame m ρ, fun m ρ _ => Cert.KernelDwupIdeal.Gen.frame m ρ, frame_referenceDwup,
  fun m ρ _ => Cert.KernelUp.Gen.frame m ρ, fun m ρ _ => Cert.KernelUpIdeal.Gen.frame m ρ, frame_referenceUp,
  fun m ρ _ => Cert.KernelDact.Gen.frame m ρ, fun m ρ _ => Cert.KernelDactIdeal.Gen.frame m ρ, frame_referenceDact,
  fun m ρ _ => Cert.KernelDwdown.Gen.frame m ρ, fun m ρ _ => Cert.KernelDwdownIdeal.Gen.frame m ρ, frame_referenceDwdown,
  fun m ρ _ => Cert.KernelDown.Gen.frame m ρ, fun m ρ _ => Cert.KernelDownIdeal.Gen.frame m ρ, frame_referenceDown,
  fun m ρ _ => Cert.KernelDh.Gen.frame m ρ, fun m ρ _ => Cert.KernelDhIdeal.Gen.frame m ρ, frame_referenceDh,
  fun m ρ _ => Cert.KernelDwin.Gen.frame m ρ, fun m ρ _ => Cert.KernelDwinIdeal.Gen.frame m ρ, frame_referenceDwin,
  fun m ρ _ => Cert.KernelIn.Gen.frame m ρ, fun m ρ _ => Cert.KernelInIdeal.Gen.frame m ρ, frame_referenceIn,
  fun m ρ _ => Cert.KernelDy.Gen.frame m ρ, fun m ρ _ => Cert.KernelDyIdeal.Gen.frame m ρ, frame_referenceDy,
  fun m ρ _ => Cert.KernelDwout.Gen.frame m ρ, fun m ρ _ => Cert.KernelDwoutIdeal.Gen.frame m ρ, frame_referenceDwout,
  fun m ρ _ => Cert.KernelOut.Gen.frame m ρ, fun m ρ _ => Cert.KernelOutIdeal.Gen.frame m ρ, frame_referenceOut,
  fun m ρ _ => Cert.KernelAct.Gen.frame m ρ, fun m ρ _ => Cert.KernelActIdeal.Gen.frame m ρ, frame_referenceAct,
  fun m ρ _ => Cert.KernelLoss.Gen.frame m ρ, fun m ρ _ => Cert.KernelLossIdeal.Gen.frame m ρ, frame_referenceLoss,
  fun m ρ _ => Cert.KernelMix.Gen.frame m ρ, fun m ρ _ => Cert.KernelMixIdeal.Gen.frame m ρ, frame_referenceMix,
  Adam.frame_bits, Adam.frame_ideal, Adam.frame_reference,
  fun m ρ _ => Cert.KernelSum.Gen.frame m ρ, fun m ρ _ => Cert.KernelSumIdeal.Gen.frame m ρ, frame_referenceSum,
  trivial, ffn_act_bwd, trivial, valueDh2, trivial, valueDwup, trivial, valueUp, trivial, valueDact, trivial, valueDwdown, trivial, valueDown, trivial, valueDh, trivial, valueDwin, trivial, valueIn, trivial, valueDy, trivial, valueDwout, trivial, valueOut, trivial, valueAct, trivial, valueLoss, trivial, valueMix, trivial, Adam.value, trivial, valueSum⟩

end Cert.Proof

end
